-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Hidden (m : (ℓ : Loc Cert.Hidden.nD Cert.Hidden.τ Cert.Hidden.sig) → Buf (Elt Bits) ℓ) : Prop :=
  True

def Pre_HiddenIdeal (m : (ℓ : Loc Cert.HiddenIdeal.nD Cert.HiddenIdeal.τ Cert.HiddenIdeal.sig) → Buf (Elt Ideal) ℓ) : Prop :=
  True

def Pre_HiddenReferenceIdeal (m : (ℓ : Loc Cert.HiddenReferenceIdeal.nD Cert.HiddenReferenceIdeal.τ Cert.HiddenReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_Values (m : (ℓ : Loc Cert.Values.nD Cert.Values.τ Cert.Values.sig) → Buf (Elt Bits) ℓ) : Prop :=
  True

def Pre_ValuesIdeal (m : (ℓ : Loc Cert.ValuesIdeal.nD Cert.ValuesIdeal.τ Cert.ValuesIdeal.sig) → Buf (Elt Ideal) ℓ) : Prop :=
  True

def Pre_ValuesReferenceIdeal (m : (ℓ : Loc Cert.ValuesReferenceIdeal.nD Cert.ValuesReferenceIdeal.τ Cert.ValuesReferenceIdeal.sig) → Buf (Elt Ideal) ℓ) : Prop :=
  True

def Pre_Queries (m : (ℓ : Loc Cert.Queries.nD Cert.Queries.τ Cert.Queries.sig) → Buf (Elt Bits) ℓ) : Prop :=
  True

def Pre_QueriesIdeal (m : (ℓ : Loc Cert.QueriesIdeal.nD Cert.QueriesIdeal.τ Cert.QueriesIdeal.sig) → Buf (Elt Ideal) ℓ) : Prop :=
  True

def Pre_QueriesReferenceIdeal (m : (ℓ : Loc Cert.QueriesReferenceIdeal.nD Cert.QueriesReferenceIdeal.τ Cert.QueriesReferenceIdeal.sig) → Buf (Elt Ideal) ℓ) : Prop :=
  True

def Pre_Gmlp (m : (ℓ : Loc Cert.Gmlp.nD Cert.Gmlp.τ Cert.Gmlp.sig) → Buf (Elt Bits) ℓ) : Prop :=
  True

def Pre_GmlpIdeal (m : (ℓ : Loc Cert.GmlpIdeal.nD Cert.GmlpIdeal.τ Cert.GmlpIdeal.sig) → Buf (Elt Ideal) ℓ) : Prop :=
  True

def Pre_GmlpReferenceIdeal (m : (ℓ : Loc Cert.GmlpReferenceIdeal.nD Cert.GmlpReferenceIdeal.τ Cert.GmlpReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Hidden [hHidden : Cert.Hidden.Facts] : Prop :=
  ∀ (m : (ℓ : Loc Cert.Hidden.nD Cert.Hidden.τ Cert.Hidden.sig) → Buf (Elt Bits) ℓ) (g : Dev Cert.Hidden.nD → PrngReg), Pre_Hidden m →
    θ_run (Cert.Hidden.defs (F := Bits)) (onTc (τ := Cert.Hidden.τ) (Cert.Hidden.main (F := Bits))) ⟨m, fun _ => 0, g⟩ (fun r => (∀ c : Dev Cert.Hidden.nD,
      r.2.mem ((c.tc : Thread Cert.Hidden.nD Cert.Hidden.τ).loc Cert.Hidden.main_arg0) = m ((c.tc : Thread Cert.Hidden.nD Cert.Hidden.τ).loc Cert.Hidden.main_arg0)
      ∧ r.2.mem ((c.tc : Thread Cert.Hidden.nD Cert.Hidden.τ).loc Cert.Hidden.main_arg1) = m ((c.tc : Thread Cert.Hidden.nD Cert.Hidden.τ).loc Cert.Hidden.main_arg1)
      ∧ r.2.mem ((c.tc : Thread Cert.Hidden.nD Cert.Hidden.τ).loc Cert.Hidden.main_arg2) = m ((c.tc : Thread Cert.Hidden.nD Cert.Hidden.τ).loc Cert.Hidden.main_arg2))
      ∧ r.2.sem = fun _ => 0)

def quiescent_HiddenIdeal [hHiddenIdeal : Cert.HiddenIdeal.Facts] : Prop :=
  ∀ (m : (ℓ : Loc Cert.HiddenIdeal.nD Cert.HiddenIdeal.τ Cert.HiddenIdeal.sig) → Buf (Elt Ideal) ℓ) (g : Dev Cert.HiddenIdeal.nD → PrngReg), Pre_HiddenIdeal m →
    θ_run (Cert.HiddenIdeal.defs (F := Ideal)) (onTc (τ := Cert.HiddenIdeal.τ) (Cert.HiddenIdeal.main (F := Ideal))) ⟨m, fun _ => 0, g⟩ (fun r => (∀ c : Dev Cert.HiddenIdeal.nD,
      r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
      ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
      ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2))
      ∧ r.2.sem = fun _ => 0)

def quiescent_HiddenReferenceIdeal [hHiddenReferenceIdeal : Cert.HiddenReferenceIdeal.Facts] : Prop :=
  ∀ (m : (ℓ : Loc Cert.HiddenReferenceIdeal.nD Cert.HiddenReferenceIdeal.τ Cert.HiddenReferenceIdeal.sig) → Buf (Elt Ideal) ℓ) (g : Dev Cert.HiddenReferenceIdeal.nD → PrngReg), Pre_HiddenReferenceIdeal m →
    θ_run (Cert.HiddenReferenceIdeal.defs (F := Ideal)) (onTc (τ := Cert.HiddenReferenceIdeal.τ) (Cert.HiddenReferenceIdeal.main (F := Ideal))) ⟨m, fun _ => 0, g⟩ (fun r => (∀ c : Dev Cert.HiddenReferenceIdeal.nD,
      r.2.mem ((c.tc : Thread Cert.HiddenReferenceIdeal.nD Cert.HiddenReferenceIdeal.τ).loc Cert.HiddenReferenceIdeal.main_arg0) = m ((c.tc : Thread Cert.HiddenReferenceIdeal.nD Cert.HiddenReferenceIdeal.τ).loc Cert.HiddenReferenceIdeal.main_arg0)
      ∧ r.2.mem ((c.tc : Thread Cert.HiddenReferenceIdeal.nD Cert.HiddenReferenceIdeal.τ).loc Cert.HiddenReferenceIdeal.main_arg1) = m ((c.tc : Thread Cert.HiddenReferenceIdeal.nD Cert.HiddenReferenceIdeal.τ).loc Cert.HiddenReferenceIdeal.main_arg1)
      ∧ r.2.mem ((c.tc : Thread Cert.HiddenReferenceIdeal.nD Cert.HiddenReferenceIdeal.τ).loc Cert.HiddenReferenceIdeal.main_arg2) = m ((c.tc : Thread Cert.HiddenReferenceIdeal.nD Cert.HiddenReferenceIdeal.τ).loc Cert.HiddenReferenceIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3)
      ∧ r.2.mem ((c.tc : Thread Cert.OutProjReferenceIdeal.nD Cert.OutProjReferenceIdeal.τ).loc Cert.OutProjReferenceIdeal.main_arg4) = m ((c.tc : Thread Cert.OutProjReferenceIdeal.nD Cert.OutProjReferenceIdeal.τ).loc Cert.OutProjReferenceIdeal.main_arg4))
      ∧ r.2.sem = fun _ => 0)

def quiescent_Values [hValues : Cert.Values.Facts] : Prop :=
  ∀ (m : (ℓ : Loc Cert.Values.nD Cert.Values.τ Cert.Values.sig) → Buf (Elt Bits) ℓ) (g : Dev Cert.Values.nD → PrngReg), Pre_Values m →
    θ_run (Cert.Values.defs (F := Bits)) (onTc (τ := Cert.Values.τ) (Cert.Values.main (F := Bits))) ⟨m, fun _ => 0, g⟩ (fun r => (∀ c : Dev Cert.Values.nD,
      r.2.mem ((c.tc : Thread Cert.Values.nD Cert.Values.τ).loc Cert.Values.main_arg0) = m ((c.tc : Thread Cert.Values.nD Cert.Values.τ).loc Cert.Values.main_arg0)
      ∧ r.2.mem ((c.tc : Thread Cert.Values.nD Cert.Values.τ).loc Cert.Values.main_arg1) = m ((c.tc : Thread Cert.Values.nD Cert.Values.τ).loc Cert.Values.main_arg1))
      ∧ r.2.sem = fun _ => 0)

def quiescent_ValuesIdeal [hValuesIdeal : Cert.ValuesIdeal.Facts] : Prop :=
  ∀ (m : (ℓ : Loc Cert.ValuesIdeal.nD Cert.ValuesIdeal.τ Cert.ValuesIdeal.sig) → Buf (Elt Ideal) ℓ) (g : Dev Cert.ValuesIdeal.nD → PrngReg), Pre_ValuesIdeal m →
    θ_run (Cert.ValuesIdeal.defs (F := Ideal)) (onTc (τ := Cert.ValuesIdeal.τ) (Cert.ValuesIdeal.main (F := Ideal))) ⟨m, fun _ => 0, g⟩ (fun r => (∀ c : Dev Cert.ValuesIdeal.nD,
      r.2.mem ((c.tc : Thread Cert.ValuesIdeal.nD Cert.ValuesIdeal.τ).loc Cert.ValuesIdeal.main_arg0) = m ((c.tc : Thread Cert.ValuesIdeal.nD Cert.ValuesIdeal.τ).loc Cert.ValuesIdeal.main_arg0)
      ∧ r.2.mem ((c.tc : Thread Cert.ValuesIdeal.nD Cert.ValuesIdeal.τ).loc Cert.ValuesIdeal.main_arg1) = m ((c.tc : Thread Cert.ValuesIdeal.nD Cert.ValuesIdeal.τ).loc Cert.ValuesIdeal.main_arg1))
      ∧ r.2.sem = fun _ => 0)

def quiescent_ValuesReferenceIdeal [hValuesReferenceIdeal : Cert.ValuesReferenceIdeal.Facts] : Prop :=
  ∀ (m : (ℓ : Loc Cert.ValuesReferenceIdeal.nD Cert.ValuesReferenceIdeal.τ Cert.ValuesReferenceIdeal.sig) → Buf (Elt Ideal) ℓ) (g : Dev Cert.ValuesReferenceIdeal.nD → PrngReg), Pre_ValuesReferenceIdeal m →
    θ_run (Cert.ValuesReferenceIdeal.defs (F := Ideal)) (onTc (τ := Cert.ValuesReferenceIdeal.τ) (Cert.ValuesReferenceIdeal.main (F := Ideal))) ⟨m, fun _ => 0, g⟩ (fun r => (∀ c : Dev Cert.ValuesReferenceIdeal.nD,
      r.2.mem ((c.tc : Thread Cert.ValuesReferenceIdeal.nD Cert.ValuesReferenceIdeal.τ).loc Cert.ValuesReferenceIdeal.main_arg0) = m ((c.tc : Thread Cert.ValuesReferenceIdeal.nD Cert.ValuesReferenceIdeal.τ).loc Cert.ValuesReferenceIdeal.main_arg0)
      ∧ r.2.mem ((c.tc : Thread Cert.ValuesReferenceIdeal.nD Cert.ValuesReferenceIdeal.τ).loc Cert.ValuesReferenceIdeal.main_arg1) = m ((c.tc : Thread Cert.ValuesReferenceIdeal.nD Cert.ValuesReferenceIdeal.τ).loc Cert.ValuesReferenceIdeal.main_arg1))
      ∧ r.2.sem = fun _ => 0)

def quiescent_Queries [hQueries : Cert.Queries.Facts] : Prop :=
  ∀ (m : (ℓ : Loc Cert.Queries.nD Cert.Queries.τ Cert.Queries.sig) → Buf (Elt Bits) ℓ) (g : Dev Cert.Queries.nD → PrngReg), Pre_Queries m →
    θ_run (Cert.Queries.defs (F := Bits)) (onTc (τ := Cert.Queries.τ) (Cert.Queries.main (F := Bits))) ⟨m, fun _ => 0, g⟩ (fun r => (∀ c : Dev Cert.Queries.nD,
      r.2.mem ((c.tc : Thread Cert.Queries.nD Cert.Queries.τ).loc Cert.Queries.main_arg0) = m ((c.tc : Thread Cert.Queries.nD Cert.Queries.τ).loc Cert.Queries.main_arg0)
      ∧ r.2.mem ((c.tc : Thread Cert.Queries.nD Cert.Queries.τ).loc Cert.Queries.main_arg1) = m ((c.tc : Thread Cert.Queries.nD Cert.Queries.τ).loc Cert.Queries.main_arg1))
      ∧ r.2.sem = fun _ => 0)

def quiescent_QueriesIdeal [hQueriesIdeal : Cert.QueriesIdeal.Facts] : Prop :=
  ∀ (m : (ℓ : Loc Cert.QueriesIdeal.nD Cert.QueriesIdeal.τ Cert.QueriesIdeal.sig) → Buf (Elt Ideal) ℓ) (g : Dev Cert.QueriesIdeal.nD → PrngReg), Pre_QueriesIdeal m →
    θ_run (Cert.QueriesIdeal.defs (F := Ideal)) (onTc (τ := Cert.QueriesIdeal.τ) (Cert.QueriesIdeal.main (F := Ideal))) ⟨m, fun _ => 0, g⟩ (fun r => (∀ c : Dev Cert.QueriesIdeal.nD,
      r.2.mem ((c.tc : Thread Cert.QueriesIdeal.nD Cert.QueriesIdeal.τ).loc Cert.QueriesIdeal.main_arg0) = m ((c.tc : Thread Cert.QueriesIdeal.nD Cert.QueriesIdeal.τ).loc Cert.QueriesIdeal.main_arg0)
      ∧ r.2.mem ((c.tc : Thread Cert.QueriesIdeal.nD Cert.QueriesIdeal.τ).loc Cert.QueriesIdeal.main_arg1) = m ((c.tc : Thread Cert.QueriesIdeal.nD Cert.QueriesIdeal.τ).loc Cert.QueriesIdeal.main_arg1))
      ∧ r.2.sem = fun _ => 0)

def quiescent_QueriesReferenceIdeal [hQueriesReferenceIdeal : Cert.QueriesReferenceIdeal.Facts] : Prop :=
  ∀ (m : (ℓ : Loc Cert.QueriesReferenceIdeal.nD Cert.QueriesReferenceIdeal.τ Cert.QueriesReferenceIdeal.sig) → Buf (Elt Ideal) ℓ) (g : Dev Cert.QueriesReferenceIdeal.nD → PrngReg), Pre_QueriesReferenceIdeal m →
    θ_run (Cert.QueriesReferenceIdeal.defs (F := Ideal)) (onTc (τ := Cert.QueriesReferenceIdeal.τ) (Cert.QueriesReferenceIdeal.main (F := Ideal))) ⟨m, fun _ => 0, g⟩ (fun r => (∀ c : Dev Cert.QueriesReferenceIdeal.nD,
      r.2.mem ((c.tc : Thread Cert.QueriesReferenceIdeal.nD Cert.QueriesReferenceIdeal.τ).loc Cert.QueriesReferenceIdeal.main_arg0) = m ((c.tc : Thread Cert.QueriesReferenceIdeal.nD Cert.QueriesReferenceIdeal.τ).loc Cert.QueriesReferenceIdeal.main_arg0)
      ∧ r.2.mem ((c.tc : Thread Cert.QueriesReferenceIdeal.nD Cert.QueriesReferenceIdeal.τ).loc Cert.QueriesReferenceIdeal.main_arg1) = m ((c.tc : Thread Cert.QueriesReferenceIdeal.nD Cert.QueriesReferenceIdeal.τ).loc Cert.QueriesReferenceIdeal.main_arg1))
      ∧ r.2.sem = fun _ => 0)

def quiescent_Gmlp [hGmlp : Cert.Gmlp.Facts] : Prop :=
  ∀ (m : (ℓ : Loc Cert.Gmlp.nD Cert.Gmlp.τ Cert.Gmlp.sig) → Buf (Elt Bits) ℓ) (g : Dev Cert.Gmlp.nD → PrngReg), Pre_Gmlp m →
    θ_run (Cert.Gmlp.defs (F := Bits)) (onTc (τ := Cert.Gmlp.τ) (Cert.Gmlp.main (F := Bits))) ⟨m, fun _ => 0, g⟩ (fun r => (∀ c : Dev Cert.Gmlp.nD,
      r.2.mem ((c.tc : Thread Cert.Gmlp.nD Cert.Gmlp.τ).loc Cert.Gmlp.main_arg0) = m ((c.tc : Thread Cert.Gmlp.nD Cert.Gmlp.τ).loc Cert.Gmlp.main_arg0)
      ∧ r.2.mem ((c.tc : Thread Cert.Gmlp.nD Cert.Gmlp.τ).loc Cert.Gmlp.main_arg1) = m ((c.tc : Thread Cert.Gmlp.nD Cert.Gmlp.τ).loc Cert.Gmlp.main_arg1)
      ∧ r.2.mem ((c.tc : Thread Cert.Gmlp.nD Cert.Gmlp.τ).loc Cert.Gmlp.main_arg2) = m ((c.tc : Thread Cert.Gmlp.nD Cert.Gmlp.τ).loc Cert.Gmlp.main_arg2)
      ∧ r.2.mem ((c.tc : Thread Cert.Gmlp.nD Cert.Gmlp.τ).loc Cert.Gmlp.main_arg3) = m ((c.tc : Thread Cert.Gmlp.nD Cert.Gmlp.τ).loc Cert.Gmlp.main_arg3)
      ∧ r.2.mem ((c.tc : Thread Cert.Gmlp.nD Cert.Gmlp.τ).loc Cert.Gmlp.main_arg4) = m ((c.tc : Thread Cert.Gmlp.nD Cert.Gmlp.τ).loc Cert.Gmlp.main_arg4)
      ∧ r.2.mem ((c.tc : Thread Cert.Gmlp.nD Cert.Gmlp.τ).loc Cert.Gmlp.main_arg5) = m ((c.tc : Thread Cert.Gmlp.nD Cert.Gmlp.τ).loc Cert.Gmlp.main_arg5))
      ∧ r.2.sem = fun _ => 0)

def quiescent_GmlpIdeal [hGmlpIdeal : Cert.GmlpIdeal.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
      ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5))
      ∧ r.2.sem = fun _ => 0)

def quiescent_GmlpReferenceIdeal [hGmlpReferenceIdeal : Cert.GmlpReferenceIdeal.Facts] : Prop :=
  ∀ (m : (ℓ : Loc Cert.GmlpReferenceIdeal.nD Cert.GmlpReferenceIdeal.τ Cert.GmlpReferenceIdeal.sig) → Buf (Elt Ideal) ℓ) (g : Dev Cert.GmlpReferenceIdeal.nD → PrngReg), Pre_GmlpReferenceIdeal m →
    θ_run (Cert.GmlpReferenceIdeal.defs (F := Ideal)) (onTc (τ := Cert.GmlpReferenceIdeal.τ) (Cert.GmlpReferenceIdeal.main (F := Ideal))) ⟨m, fun _ => 0, g⟩ (fun r => (∀ c : Dev Cert.GmlpReferenceIdeal.nD,
      r.2.mem ((c.tc : Thread Cert.GmlpReferenceIdeal.nD Cert.GmlpReferenceIdeal.τ).loc Cert.GmlpReferenceIdeal.main_arg0) = m ((c.tc : Thread Cert.GmlpReferenceIdeal.nD Cert.GmlpReferenceIdeal.τ).loc Cert.GmlpReferenceIdeal.main_arg0)
      ∧ r.2.mem ((c.tc : Thread Cert.GmlpReferenceIdeal.nD Cert.GmlpReferenceIdeal.τ).loc Cert.GmlpReferenceIdeal.main_arg1) = m ((c.tc : Thread Cert.GmlpReferenceIdeal.nD Cert.GmlpReferenceIdeal.τ).loc Cert.GmlpReferenceIdeal.main_arg1)
      ∧ r.2.mem ((c.tc : Thread Cert.GmlpReferenceIdeal.nD Cert.GmlpReferenceIdeal.τ).loc Cert.GmlpReferenceIdeal.main_arg2) = m ((c.tc : Thread Cert.GmlpReferenceIdeal.nD Cert.GmlpReferenceIdeal.τ).loc Cert.GmlpReferenceIdeal.main_arg2)
      ∧ r.2.mem ((c.tc : Thread Cert.GmlpReferenceIdeal.nD Cert.GmlpReferenceIdeal.τ).loc Cert.GmlpReferenceIdeal.main_arg3) = m ((c.tc : Thread Cert.GmlpReferenceIdeal.nD Cert.GmlpReferenceIdeal.τ).loc Cert.GmlpReferenceIdeal.main_arg3)
      ∧ r.2.mem ((c.tc : Thread Cert.GmlpReferenceIdeal.nD Cert.GmlpReferenceIdeal.τ).loc Cert.GmlpReferenceIdeal.main_arg4) = m ((c.tc : Thread Cert.GmlpReferenceIdeal.nD Cert.GmlpReferenceIdeal.τ).loc Cert.GmlpReferenceIdeal.main_arg4)
      ∧ r.2.mem ((c.tc : Thread Cert.GmlpReferenceIdeal.nD Cert.GmlpReferenceIdeal.τ).loc Cert.GmlpReferenceIdeal.main_arg5) = m ((c.tc : Thread Cert.GmlpReferenceIdeal.nD Cert.GmlpReferenceIdeal.τ).loc Cert.GmlpReferenceIdeal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Hidden_HiddenIdeal : Prop :=
  True

def algebraic_HiddenIdeal_HiddenReferenceIdeal [hHiddenIdeal : Cert.HiddenIdeal.Facts] [hHiddenReferenceIdeal : Cert.HiddenReferenceIdeal.Facts] : Prop :=
  ∀ (m : (ℓ : Loc Cert.HiddenIdeal.nD Cert.HiddenIdeal.τ Cert.HiddenIdeal.sig) → Buf (Elt Ideal) ℓ) (g : Dev Cert.HiddenIdeal.nD → PrngReg)
    (m' : (ℓ : Loc Cert.HiddenReferenceIdeal.nD Cert.HiddenReferenceIdeal.τ Cert.HiddenReferenceIdeal.sig) → Buf (Elt Ideal) ℓ) (g' : Dev Cert.HiddenReferenceIdeal.nD → PrngReg), Pre_HiddenIdeal m →
    (∀ c : Dev Cert.HiddenIdeal.nD,
      m' ((c.tc : Thread Cert.HiddenReferenceIdeal.nD Cert.HiddenReferenceIdeal.τ).loc Cert.HiddenReferenceIdeal.main_arg0) = m ((c.tc : Thread Cert.HiddenIdeal.nD Cert.HiddenIdeal.τ).loc Cert.HiddenIdeal.main_arg0)
      ∧ m' ((c.tc : Thread Cert.HiddenReferenceIdeal.nD Cert.HiddenReferenceIdeal.τ).loc Cert.HiddenReferenceIdeal.main_arg1) = m ((c.tc : Thread Cert.HiddenIdeal.nD Cert.HiddenIdeal.τ).loc Cert.HiddenIdeal.main_arg1)
      ∧ m' ((c.tc : Thread Cert.HiddenReferenceIdeal.nD Cert.HiddenReferenceIdeal.τ).loc Cert.HiddenReferenceIdeal.main_arg2) = m ((c.tc : Thread Cert.HiddenIdeal.nD Cert.HiddenIdeal.τ).loc Cert.HiddenIdeal.main_arg2)) →
    ∃ (v0 : (c : Dev Cert.HiddenIdeal.nD) → Buf (Elt Ideal) ((c.tc : Thread Cert.HiddenIdeal.nD Cert.HiddenIdeal.τ).loc Cert.HiddenIdeal.main_v4)),
      θ_run (Cert.HiddenIdeal.defs (F := Ideal)) (onTc (τ := Cert.HiddenIdeal.τ) (Cert.HiddenIdeal.main (F := Ideal))) ⟨m, fun _ => 0, g⟩ (fun r => ∀ c : Dev Cert.HiddenIdeal.nD,
          r.2.mem ((c.tc : Thread Cert.HiddenIdeal.nD Cert.HiddenIdeal.τ).loc Cert.HiddenIdeal.main_v4) = v0 c
          ∧ r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
          ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
          ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2))
      ∧ θ_run (Cert.HiddenReferenceIdeal.defs (F := Ideal)) (onTc (τ := Cert.HiddenReferenceIdeal.τ) (Cert.HiddenReferenceIdeal.main (F := Ideal))) ⟨m', fun _ => 0, g'⟩ (fun r => ∀ c : Dev Cert.HiddenReferenceIdeal.nD,
          r.2.mem ((c.tc : Thread Cert.HiddenReferenceIdeal.nD Cert.HiddenReferenceIdeal.τ).loc Cert.HiddenReferenceIdeal.main_v5) = v0 c
          ∧ r.2.mem ((c.tc : Thread Cert.HiddenReferenceIdeal.nD Cert.HiddenReferenceIdeal.τ).loc Cert.HiddenReferenceIdeal.main_arg0) = m' ((c.tc : Thread Cert.HiddenReferenceIdeal.nD Cert.HiddenReferenceIdeal.τ).loc Cert.HiddenReferenceIdeal.main_arg0)
          ∧ r.2.mem ((c.tc : Thread Cert.HiddenReferenceIdeal.nD Cert.HiddenReferenceIdeal.τ).loc Cert.HiddenReferenceIdeal.main_arg1) = m' ((c.tc : Thread Cert.HiddenReferenceIdeal.nD Cert.HiddenReferenceIdeal.τ).loc Cert.HiddenReferenceIdeal.main_arg1)
          ∧ r.2.mem ((c.tc : Thread Cert.HiddenReferenceIdeal.nD Cert.HiddenReferenceIdeal.τ).loc Cert.HiddenReferenceIdeal.main_arg2) = m' ((c.tc : Thread Cert.HiddenReferenceIdeal.nD Cert.HiddenReferenceIdeal.τ).loc Cert.HiddenReferenceIdeal.main_arg2))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v5)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v5) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v15) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v9)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v9) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v21) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)
      ∧ m' ((c.tc : Thread Cert.OutProjReferenceIdeal.nD Cert.OutProjReferenceIdeal.τ).loc Cert.OutProjReferenceIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v6_0)) (v1 : (c : Dev Cert.OutProjIdeal.nD) → Buf (Elt Ideal) ((c.tc : Thread Cert.OutProjIdeal.nD Cert.OutProjIdeal.τ).loc Cert.OutProjIdeal.main_v6_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v6_0) = v0 c
          ∧ r.2.mem ((c.tc : Thread Cert.OutProjIdeal.nD Cert.OutProjIdeal.τ).loc Cert.OutProjIdeal.main_v6_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v28) = v0 c
          ∧ r.2.mem ((c.tc : Thread Cert.OutProjReferenceIdeal.nD Cert.OutProjReferenceIdeal.τ).loc Cert.OutProjReferenceIdeal.main_v30) = v1 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3)
          ∧ r.2.mem ((c.tc : Thread Cert.OutProjReferenceIdeal.nD Cert.OutProjReferenceIdeal.τ).loc Cert.OutProjReferenceIdeal.main_arg4) = m' ((c.tc : Thread Cert.OutProjReferenceIdeal.nD Cert.OutProjReferenceIdeal.τ).loc Cert.OutProjReferenceIdeal.main_arg4))

def preserves_Values_ValuesIdeal : Prop :=
  True

def algebraic_ValuesIdeal_ValuesReferenceIdeal [hValuesIdeal : Cert.ValuesIdeal.Facts] [hValuesReferenceIdeal : Cert.ValuesReferenceIdeal.Facts] : Prop :=
  ∀ (m : (ℓ : Loc Cert.ValuesIdeal.nD Cert.ValuesIdeal.τ Cert.ValuesIdeal.sig) → Buf (Elt Ideal) ℓ) (g : Dev Cert.ValuesIdeal.nD → PrngReg)
    (m' : (ℓ : Loc Cert.ValuesReferenceIdeal.nD Cert.ValuesReferenceIdeal.τ Cert.ValuesReferenceIdeal.sig) → Buf (Elt Ideal) ℓ) (g' : Dev Cert.ValuesReferenceIdeal.nD → PrngReg), Pre_ValuesIdeal m →
    (∀ c : Dev Cert.ValuesIdeal.nD,
      m' ((c.tc : Thread Cert.ValuesReferenceIdeal.nD Cert.ValuesReferenceIdeal.τ).loc Cert.ValuesReferenceIdeal.main_arg0) = m ((c.tc : Thread Cert.ValuesIdeal.nD Cert.ValuesIdeal.τ).loc Cert.ValuesIdeal.main_arg0)
      ∧ m' ((c.tc : Thread Cert.ValuesReferenceIdeal.nD Cert.ValuesReferenceIdeal.τ).loc Cert.ValuesReferenceIdeal.main_arg1) = m ((c.tc : Thread Cert.ValuesIdeal.nD Cert.ValuesIdeal.τ).loc Cert.ValuesIdeal.main_arg1)) →
    ∃ (v0 : (c : Dev Cert.ValuesIdeal.nD) → Buf (Elt Ideal) ((c.tc : Thread Cert.ValuesIdeal.nD Cert.ValuesIdeal.τ).loc Cert.ValuesIdeal.main_v3_0)) (v1 : (c : Dev Cert.ValuesIdeal.nD) → Buf (Elt Ideal) ((c.tc : Thread Cert.ValuesIdeal.nD Cert.ValuesIdeal.τ).loc Cert.ValuesIdeal.main_v3_1)),
      θ_run (Cert.ValuesIdeal.defs (F := Ideal)) (onTc (τ := Cert.ValuesIdeal.τ) (Cert.ValuesIdeal.main (F := Ideal))) ⟨m, fun _ => 0, g⟩ (fun r => ∀ c : Dev Cert.ValuesIdeal.nD,
          r.2.mem ((c.tc : Thread Cert.ValuesIdeal.nD Cert.ValuesIdeal.τ).loc Cert.ValuesIdeal.main_v3_0) = v0 c
          ∧ r.2.mem ((c.tc : Thread Cert.ValuesIdeal.nD Cert.ValuesIdeal.τ).loc Cert.ValuesIdeal.main_v3_1) = v1 c
          ∧ r.2.mem ((c.tc : Thread Cert.ValuesIdeal.nD Cert.ValuesIdeal.τ).loc Cert.ValuesIdeal.main_arg0) = m ((c.tc : Thread Cert.ValuesIdeal.nD Cert.ValuesIdeal.τ).loc Cert.ValuesIdeal.main_arg0)
          ∧ r.2.mem ((c.tc : Thread Cert.ValuesIdeal.nD Cert.ValuesIdeal.τ).loc Cert.ValuesIdeal.main_arg1) = m ((c.tc : Thread Cert.ValuesIdeal.nD Cert.ValuesIdeal.τ).loc Cert.ValuesIdeal.main_arg1))
      ∧ θ_run (Cert.ValuesReferenceIdeal.defs (F := Ideal)) (onTc (τ := Cert.ValuesReferenceIdeal.τ) (Cert.ValuesReferenceIdeal.main (F := Ideal))) ⟨m', fun _ => 0, g'⟩ (fun r => ∀ c : Dev Cert.ValuesReferenceIdeal.nD,
          r.2.mem ((c.tc : Thread Cert.ValuesReferenceIdeal.nD Cert.ValuesReferenceIdeal.τ).loc Cert.ValuesReferenceIdeal.main_v6) = v0 c
          ∧ r.2.mem ((c.tc : Thread Cert.ValuesReferenceIdeal.nD Cert.ValuesReferenceIdeal.τ).loc Cert.ValuesReferenceIdeal.main_v7) = v1 c
          ∧ r.2.mem ((c.tc : Thread Cert.ValuesReferenceIdeal.nD Cert.ValuesReferenceIdeal.τ).loc Cert.ValuesReferenceIdeal.main_arg0) = m' ((c.tc : Thread Cert.ValuesReferenceIdeal.nD Cert.ValuesReferenceIdeal.τ).loc Cert.ValuesReferenceIdeal.main_arg0)
          ∧ r.2.mem ((c.tc : Thread Cert.ValuesReferenceIdeal.nD Cert.ValuesReferenceIdeal.τ).loc Cert.ValuesReferenceIdeal.main_arg1) = m' ((c.tc : Thread Cert.ValuesReferenceIdeal.nD Cert.ValuesReferenceIdeal.τ).loc Cert.ValuesReferenceIdeal.main_arg1))

def preserves_Queries_QueriesIdeal : Prop :=
  IdealRules.named_const.Statement Cert.QueriesIdeal.κ "scale" .f32 0x3E0293EE#32 (((11863283 / 134217728) * (Real.log 2)⁻¹ : ℝ) : EReal)

def algebraic_QueriesIdeal_QueriesReferenceIdeal [hQueriesIdeal : Cert.QueriesIdeal.Facts] [hQueriesReferenceIdeal : Cert.QueriesReferenceIdeal.Facts] : Prop :=
  ∀ (m : (ℓ : Loc Cert.QueriesIdeal.nD Cert.QueriesIdeal.τ Cert.QueriesIdeal.sig) → Buf (Elt Ideal) ℓ) (g : Dev Cert.QueriesIdeal.nD → PrngReg)
    (m' : (ℓ : Loc Cert.QueriesReferenceIdeal.nD Cert.QueriesReferenceIdeal.τ Cert.QueriesReferenceIdeal.sig) → Buf (Elt Ideal) ℓ) (g' : Dev Cert.QueriesReferenceIdeal.nD → PrngReg), Pre_QueriesIdeal m →
    (∀ c : Dev Cert.QueriesIdeal.nD,
      m' ((c.tc : Thread Cert.QueriesReferenceIdeal.nD Cert.QueriesReferenceIdeal.τ).loc Cert.QueriesReferenceIdeal.main_arg0) = m ((c.tc : Thread Cert.QueriesIdeal.nD Cert.QueriesIdeal.τ).loc Cert.QueriesIdeal.main_arg0)
      ∧ m' ((c.tc : Thread Cert.QueriesReferenceIdeal.nD Cert.QueriesReferenceIdeal.τ).loc Cert.QueriesReferenceIdeal.main_arg1) = m ((c.tc : Thread Cert.QueriesIdeal.nD Cert.QueriesIdeal.τ).loc Cert.QueriesIdeal.main_arg1)) →
    ∃ (v0 : (c : Dev Cert.QueriesIdeal.nD) → Buf (Elt Ideal) ((c.tc : Thread Cert.QueriesIdeal.nD Cert.QueriesIdeal.τ).loc Cert.QueriesIdeal.main_v3)),
      θ_run (Cert.QueriesIdeal.defs (F := Ideal)) (onTc (τ := Cert.QueriesIdeal.τ) (Cert.QueriesIdeal.main (F := Ideal))) ⟨m, fun _ => 0, g⟩ (fun r => ∀ c : Dev Cert.QueriesIdeal.nD,
          r.2.mem ((c.tc : Thread Cert.QueriesIdeal.nD Cert.QueriesIdeal.τ).loc Cert.QueriesIdeal.main_v3) = v0 c
          ∧ r.2.mem ((c.tc : Thread Cert.QueriesIdeal.nD Cert.QueriesIdeal.τ).loc Cert.QueriesIdeal.main_arg0) = m ((c.tc : Thread Cert.QueriesIdeal.nD Cert.QueriesIdeal.τ).loc Cert.QueriesIdeal.main_arg0)
          ∧ r.2.mem ((c.tc : Thread Cert.QueriesIdeal.nD Cert.QueriesIdeal.τ).loc Cert.QueriesIdeal.main_arg1) = m ((c.tc : Thread Cert.QueriesIdeal.nD Cert.QueriesIdeal.τ).loc Cert.QueriesIdeal.main_arg1))
      ∧ θ_run (Cert.QueriesReferenceIdeal.defs (F := Ideal)) (onTc (τ := Cert.QueriesReferenceIdeal.τ) (Cert.QueriesReferenceIdeal.main (F := Ideal))) ⟨m', fun _ => 0, g'⟩ (fun r => ∀ c : Dev Cert.QueriesReferenceIdeal.nD,
          r.2.mem ((c.tc : Thread Cert.QueriesReferenceIdeal.nD Cert.QueriesReferenceIdeal.τ).loc Cert.QueriesReferenceIdeal.main_v9) = v0 c
          ∧ r.2.mem ((c.tc : Thread Cert.QueriesReferenceIdeal.nD Cert.QueriesReferenceIdeal.τ).loc Cert.QueriesReferenceIdeal.main_arg0) = m' ((c.tc : Thread Cert.QueriesReferenceIdeal.nD Cert.QueriesReferenceIdeal.τ).loc Cert.QueriesReferenceIdeal.main_arg0)
          ∧ r.2.mem ((c.tc : Thread Cert.QueriesReferenceIdeal.nD Cert.QueriesReferenceIdeal.τ).loc Cert.QueriesReferenceIdeal.main_arg1) = m' ((c.tc : Thread Cert.QueriesReferenceIdeal.nD Cert.QueriesReferenceIdeal.τ).loc Cert.QueriesReferenceIdeal.main_arg1))

def preserves_Gmlp_GmlpIdeal : Prop :=
  True

def algebraic_GmlpIdeal_GmlpReferenceIdeal [hGmlpIdeal : Cert.GmlpIdeal.Facts] [hGmlpReferenceIdeal : Cert.GmlpReferenceIdeal.Facts] : Prop :=
  ∀ (m : (ℓ : Loc Cert.GmlpIdeal.nD Cert.GmlpIdeal.τ Cert.GmlpIdeal.sig) → Buf (Elt Ideal) ℓ) (g : Dev Cert.GmlpIdeal.nD → PrngReg)
    (m' : (ℓ : Loc Cert.GmlpReferenceIdeal.nD Cert.GmlpReferenceIdeal.τ Cert.GmlpReferenceIdeal.sig) → Buf (Elt Ideal) ℓ) (g' : Dev Cert.GmlpReferenceIdeal.nD → PrngReg), Pre_GmlpIdeal m →
    (∀ c : Dev Cert.GmlpIdeal.nD,
      m' ((c.tc : Thread Cert.GmlpReferenceIdeal.nD Cert.GmlpReferenceIdeal.τ).loc Cert.GmlpReferenceIdeal.main_arg0) = m ((c.tc : Thread Cert.GmlpIdeal.nD Cert.GmlpIdeal.τ).loc Cert.GmlpIdeal.main_arg0)
      ∧ m' ((c.tc : Thread Cert.GmlpReferenceIdeal.nD Cert.GmlpReferenceIdeal.τ).loc Cert.GmlpReferenceIdeal.main_arg1) = m ((c.tc : Thread Cert.GmlpIdeal.nD Cert.GmlpIdeal.τ).loc Cert.GmlpIdeal.main_arg1)
      ∧ m' ((c.tc : Thread Cert.GmlpReferenceIdeal.nD Cert.GmlpReferenceIdeal.τ).loc Cert.GmlpReferenceIdeal.main_arg2) = m ((c.tc : Thread Cert.GmlpIdeal.nD Cert.GmlpIdeal.τ).loc Cert.GmlpIdeal.main_arg2)
      ∧ m' ((c.tc : Thread Cert.GmlpReferenceIdeal.nD Cert.GmlpReferenceIdeal.τ).loc Cert.GmlpReferenceIdeal.main_arg3) = m ((c.tc : Thread Cert.GmlpIdeal.nD Cert.GmlpIdeal.τ).loc Cert.GmlpIdeal.main_arg3)
      ∧ m' ((c.tc : Thread Cert.GmlpReferenceIdeal.nD Cert.GmlpReferenceIdeal.τ).loc Cert.GmlpReferenceIdeal.main_arg4) = m ((c.tc : Thread Cert.GmlpIdeal.nD Cert.GmlpIdeal.τ).loc Cert.GmlpIdeal.main_arg4)
      ∧ m' ((c.tc : Thread Cert.GmlpReferenceIdeal.nD Cert.GmlpReferenceIdeal.τ).loc Cert.GmlpReferenceIdeal.main_arg5) = m ((c.tc : Thread Cert.GmlpIdeal.nD Cert.GmlpIdeal.τ).loc Cert.GmlpIdeal.main_arg5)) →
    ∃ (v0 : (c : Dev Cert.GmlpIdeal.nD) → Buf (Elt Ideal) ((c.tc : Thread Cert.GmlpIdeal.nD Cert.GmlpIdeal.τ).loc Cert.GmlpIdeal.main_v6)),
      θ_run (Cert.GmlpIdeal.defs (F := Ideal)) (onTc (τ := Cert.GmlpIdeal.τ) (Cert.GmlpIdeal.main (F := Ideal))) ⟨m, fun _ => 0, g⟩ (fun r => ∀ c : Dev Cert.GmlpIdeal.nD,
          r.2.mem ((c.tc : Thread Cert.GmlpIdeal.nD Cert.GmlpIdeal.τ).loc Cert.GmlpIdeal.main_v6) = v0 c
          ∧ r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
          ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
          ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
          ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
          ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
          ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5))
      ∧ θ_run (Cert.GmlpReferenceIdeal.defs (F := Ideal)) (onTc (τ := Cert.GmlpReferenceIdeal.τ) (Cert.GmlpReferenceIdeal.main (F := Ideal))) ⟨m', fun _ => 0, g'⟩ (fun r => ∀ c : Dev Cert.GmlpReferenceIdeal.nD,
          r.2.mem ((c.tc : Thread Cert.GmlpReferenceIdeal.nD Cert.GmlpReferenceIdeal.τ).loc Cert.GmlpReferenceIdeal.main_v51) = v0 c
          ∧ r.2.mem ((c.tc : Thread Cert.GmlpReferenceIdeal.nD Cert.GmlpReferenceIdeal.τ).loc Cert.GmlpReferenceIdeal.main_arg0) = m' ((c.tc : Thread Cert.GmlpReferenceIdeal.nD Cert.GmlpReferenceIdeal.τ).loc Cert.GmlpReferenceIdeal.main_arg0)
          ∧ r.2.mem ((c.tc : Thread Cert.GmlpReferenceIdeal.nD Cert.GmlpReferenceIdeal.τ).loc Cert.GmlpReferenceIdeal.main_arg1) = m' ((c.tc : Thread Cert.GmlpReferenceIdeal.nD Cert.GmlpReferenceIdeal.τ).loc Cert.GmlpReferenceIdeal.main_arg1)
          ∧ r.2.mem ((c.tc : Thread Cert.GmlpReferenceIdeal.nD Cert.GmlpReferenceIdeal.τ).loc Cert.GmlpReferenceIdeal.main_arg2) = m' ((c.tc : Thread Cert.GmlpReferenceIdeal.nD Cert.GmlpReferenceIdeal.τ).loc Cert.GmlpReferenceIdeal.main_arg2)
          ∧ r.2.mem ((c.tc : Thread Cert.GmlpReferenceIdeal.nD Cert.GmlpReferenceIdeal.τ).loc Cert.GmlpReferenceIdeal.main_arg3) = m' ((c.tc : Thread Cert.GmlpReferenceIdeal.nD Cert.GmlpReferenceIdeal.τ).loc Cert.GmlpReferenceIdeal.main_arg3)
          ∧ r.2.mem ((c.tc : Thread Cert.GmlpReferenceIdeal.nD Cert.GmlpReferenceIdeal.τ).loc Cert.GmlpReferenceIdeal.main_arg4) = m' ((c.tc : Thread Cert.GmlpReferenceIdeal.nD Cert.GmlpReferenceIdeal.τ).loc Cert.GmlpReferenceIdeal.main_arg4)
          ∧ r.2.mem ((c.tc : Thread Cert.GmlpReferenceIdeal.nD Cert.GmlpReferenceIdeal.τ).loc Cert.GmlpReferenceIdeal.main_arg5) = m' ((c.tc : Thread Cert.GmlpReferenceIdeal.nD Cert.GmlpReferenceIdeal.τ).loc Cert.GmlpReferenceIdeal.main_arg5))

def Claim : Prop :=
  ∃ (hKernel : Cert.Kernel.Facts) (hKernelIdeal : Cert.KernelIdeal.Facts) (hReferenceIdeal : Cert.ReferenceIdeal.Facts) (hHidden : Cert.Hidden.Facts) (hHiddenIdeal : Cert.HiddenIdeal.Facts) (hHiddenReferenceIdeal : Cert.HiddenReferenceIdeal.Facts) (hDown : Cert.Down.Facts) (hDownIdeal : Cert.DownIdeal.Facts) (hDownReferenceIdeal : Cert.DownReferenceIdeal.Facts) (hMerge : Cert.Merge.Facts) (hMergeIdeal : Cert.MergeIdeal.Facts) (hMergeReferenceIdeal : Cert.MergeReferenceIdeal.Facts) (hOutProj : Cert.OutProj.Facts) (hOutProjIdeal : Cert.OutProjIdeal.Facts) (hOutProjReferenceIdeal : Cert.OutProjReferenceIdeal.Facts) (hValues : Cert.Values.Facts) (hValuesIdeal : Cert.ValuesIdeal.Facts) (hValuesReferenceIdeal : Cert.ValuesReferenceIdeal.Facts) (hQueries : Cert.Queries.Facts) (hQueriesIdeal : Cert.QueriesIdeal.Facts) (hQueriesReferenceIdeal : Cert.QueriesReferenceIdeal.Facts) (hGmlp : Cert.Gmlp.Facts) (hGmlpIdeal : Cert.GmlpIdeal.Facts) (hGmlpReferenceIdeal : Cert.GmlpReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Hidden (hHidden := hHidden)
    ∧ quiescent_HiddenIdeal (hHiddenIdeal := hHiddenIdeal)
    ∧ quiescent_HiddenReferenceIdeal (hHiddenReferenceIdeal := hHiddenReferenceIdeal)
    ∧ quiescent_Down (hDown := hDown)
    ∧ quiescent_DownIdeal (hDownIdeal := hDownIdeal)
    ∧ quiescent_DownReferenceIdeal (hDownReferenceIdeal := hDownReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_Values (hValues := hValues)
    ∧ quiescent_ValuesIdeal (hValuesIdeal := hValuesIdeal)
    ∧ quiescent_ValuesReferenceIdeal (hValuesReferenceIdeal := hValuesReferenceIdeal)
    ∧ quiescent_Queries (hQueries := hQueries)
    ∧ quiescent_QueriesIdeal (hQueriesIdeal := hQueriesIdeal)
    ∧ quiescent_QueriesReferenceIdeal (hQueriesReferenceIdeal := hQueriesReferenceIdeal)
    ∧ quiescent_Gmlp (hGmlp := hGmlp)
    ∧ quiescent_GmlpIdeal (hGmlpIdeal := hGmlpIdeal)
    ∧ quiescent_GmlpReferenceIdeal (hGmlpReferenceIdeal := hGmlpReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Hidden_HiddenIdeal
    ∧ algebraic_HiddenIdeal_HiddenReferenceIdeal (hHiddenIdeal := hHiddenIdeal) (hHiddenReferenceIdeal := hHiddenReferenceIdeal)
    ∧ preserves_Down_DownIdeal
    ∧ algebraic_DownIdeal_DownReferenceIdeal (hDownIdeal := hDownIdeal) (hDownReferenceIdeal := hDownReferenceIdeal)
    ∧ preserves_Merge_MergeIdeal
    ∧ algebraic_MergeIdeal_MergeReferenceIdeal (hMergeIdeal := hMergeIdeal) (hMergeReferenceIdeal := hMergeReferenceIdeal)
    ∧ preserves_OutProj_OutProjIdeal
    ∧ algebraic_OutProjIdeal_OutProjReferenceIdeal (hOutProjIdeal := hOutProjIdeal) (hOutProjReferenceIdeal := hOutProjReferenceIdeal)
    ∧ preserves_Values_ValuesIdeal
    ∧ algebraic_ValuesIdeal_ValuesReferenceIdeal (hValuesIdeal := hValuesIdeal) (hValuesReferenceIdeal := hValuesReferenceIdeal)
    ∧ preserves_Queries_QueriesIdeal
    ∧ algebraic_QueriesIdeal_QueriesReferenceIdeal (hQueriesIdeal := hQueriesIdeal) (hQueriesReferenceIdeal := hQueriesReferenceIdeal)
    ∧ preserves_Gmlp_GmlpIdeal
    ∧ algebraic_GmlpIdeal_GmlpReferenceIdeal (hGmlpIdeal := hGmlpIdeal) (hGmlpReferenceIdeal := hGmlpReferenceIdeal)
-- ==== Pre_finite.lean ====
abbrev S4x8192x8x2x128 : Shape := ⟨5, ![4, 8192, 8, 2, 128]⟩
abbrev S4x8192x8x256 : Shape := ⟨4, ![4, 8192, 8, 256]⟩
abbrev S128 : Shape := ⟨1, ![128]⟩
abbrev S256 : Shape := ⟨1, ![256]⟩
abbrev S_ : Shape := ⟨0, ![]⟩

class Facts : Prop where
  bcast_S_S4x8192x8x2x128 : S_.BroadcastsInDim S4x8192x8x2x128 (![] : Fin 0 → Fin S4x8192x8x2x128.rank)
  reducesTo_S4x8192x8x2x128_S_d0_1_2_3_4 : S4x8192x8x2x128.ReducesTo [0, 1, 2, 3, 4] S_
  h_S_ : 0 < S_.numel
  bcast_S_S4x8192x8x256 : S_.BroadcastsInDim S4x8192x8x256 (![] : Fin 0 → Fin S4x8192x8x256.rank)
  reducesTo_S4x8192x8x256_S_d0_1_2_3 : S4x8192x8x256.ReducesTo [0, 1, 2, 3] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S4x8192x8x2x128 .f32) (main_arg1 : FVec F S4x8192x8x2x128 .f32) (main_arg2 : FVec F S4x8192x8x256 .f32) (main_arg3 : FVec F S128 .f32) (main_arg4 : FVec F S128 .f32) (main_arg5 : FVec F S128 .f32) (main_arg6 : FVec F S128 .f32) (main_arg7 : FVec F S256 .f32) : IVec S_ 1 :=
  let main_v0 : FVec F S4x8192x8x2x128 .f32 := Host.absf main_arg0
  let main_cst : FVec F S_ .f32 := constant S_ .f32 0x7F800000#32
  let main_v1 : FVec F S4x8192x8x2x128 .f32 := broadcastInDim S4x8192x8x2x128 ![] bcast_S_S4x8192x8x2x128 main_cst
  let main_v2 : IVec S4x8192x8x2x128 1 := cmpf .olt main_v0 main_v1
  let main_c : IVec S_ 1 := constantI S_ 1 1#1
  let main_v3 : IVec S_ 1 := (fun x v => Host.reduce IntOp.andi x v reducesTo_S4x8192x8x2x128_S_d0_1_2_3_4 h_S_) main_v2 main_c
  let main_v4 : FVec F S4x8192x8x2x128 .f32 := Host.absf main_arg1
  let main_cst_0 : FVec F S_ .f32 := constant S_ .f32 0x7F800000#32
  let main_v5 : FVec F S4x8192x8x2x128 .f32 := broadcastInDim S4x8192x8x2x128 ![] bcast_S_S4x8192x8x2x128 main_cst_0
  let main_v6 : IVec S4x8192x8x2x128 1 := cmpf .olt main_v4 main_v5
  let main_c_1 : IVec S_ 1 := constantI S_ 1 1#1
  let main_v7 : IVec S_ 1 := (fun x v => Host.reduce IntOp.andi x v reducesTo_S4x8192x8x2x128_S_d0_1_2_3_4 h_S_) main_v6 main_c_1
  let main_v8 : IVec S_ 1 := andi main_v3 main_v7
  let main_v9 : FVec F S4x8192x8x256 .f32 := Host.absf main_arg2
  let main_cst_2 : FVec F S_ .f32 := constant S_ .f32 0x7F800000#32
  let main_v10 : FVec F S4x8192x8x256 .f32 := broadcastInDim S4x8192x8x256 ![] bcast_S_S4x8192x8x256 main_cst_2
  let main_v11 : IVec S4x8192x8x256 1 := cmpf .olt main_v9 main_v10
  let main_c_3 : IVec S_ 1 := constantI S_ 1 1#1
  let main_v12 : IVec S_ 1 := (fun x v => Host.reduce IntOp.andi x v reducesTo_S4x8192x8x256_S_d0_1_2_3 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_v13 main_v16
-- ==== Kernel.lean ====
abbrev S4x8192x8x2x128 : Shape := ⟨5, ![4, 8192, 8, 2, 128]⟩
abbrev S4x8192x8x256 : Shape := ⟨4, ![4, 8192, 8, 256]⟩
abbrev S128 : Shape := ⟨1, ![128]⟩
abbrev S256 : Shape := ⟨1, ![256]⟩
abbrev S73 : Shape := ⟨1, ![73]⟩
abbrev S8 : Shape := ⟨1, ![8]⟩
abbrev S_ : Shape := ⟨0, ![]⟩
abbrev S1x128 : Shape := ⟨2, ![1, 128]⟩
abbrev S4x128 : Shape := ⟨2, ![4, 128]⟩
abbrev S4x8192x2048 : Shape := ⟨3, ![4, 8192, 2048]⟩
abbrev S4x8x256x8192 : Shape := ⟨4, ![4, 8, 256, 8192]⟩
abbrev S4x8x16x8192 : Shape := ⟨4, ![4, 8, 16, 8192]⟩
abbrev S4x8x272x8192 : Shape := ⟨4, ![4, 8, 272, 8192]⟩
abbrev S1x256 : Shape := ⟨2, ![1, 256]⟩
abbrev S1x8192x256 : Shape := ⟨3, ![1, 8192, 256]⟩
abbrev S1x1x272x8192 : Shape := ⟨4, ![1, 1, 272, 8192]⟩
abbrev S512x512 : Shape := ⟨2, ![512, 512]⟩
abbrev S1024x128 : Shape := ⟨2, ![1024, 128]⟩
abbrev S512x128 : Shape := ⟨2, ![512, 128]⟩
abbrev S2x1024x512 : Shape := ⟨3, ![2, 1024, 512]⟩
abbrev S2x1x512 : Shape := ⟨3, ![2, 1, 512]⟩
abbrev S2x272x512 : Shape := ⟨3, ![2, 272, 512]⟩
abbrev S1 : Shape := ⟨1, ![1]⟩
abbrev S1x512x128 : Shape := ⟨3, ![1, 512, 128]⟩
abbrev S512x256 : Shape := ⟨2, ![512, 256]⟩
abbrev S1x512x512 : Shape := ⟨3, ![1, 512, 512]⟩
abbrev S512 : Shape := ⟨1, ![512]⟩
abbrev S1x512 : Shape := ⟨2, ![1, 512]⟩
abbrev S1x1x512 : Shape := ⟨3, ![1, 1, 512]⟩
abbrev S1x1x272x512 : Shape := ⟨4, ![1, 1, 272, 512]⟩
abbrev S272x512 : Shape := ⟨2, ![272, 512]⟩
abbrev S1x272x512 : Shape := ⟨3, ![1, 272, 512]⟩
abbrev S1x1 : Shape := ⟨2, ![1, 1]⟩
abbrev S1x256x512 : Shape := ⟨3, ![1, 256, 512]⟩
abbrev S256x512 : Shape := ⟨2, ![256, 512]⟩
abbrev S1x512x256 : Shape := ⟨3, ![1, 512, 256]⟩
abbrev S1x1x272x1024 : Shape := ⟨4, ![1, 1, 272, 1024]⟩
abbrev S272x1024 : Shape := ⟨2, ![272, 1024]⟩
abbrev S1x1024x512 : Shape := ⟨3, ![1, 1024, 512]⟩
abbrev S1024x512 : Shape := ⟨2, ![1024, 512]⟩
abbrev S1x1024x128 : Shape := ⟨3, ![1, 1024, 128]⟩
abbrev S1024x256 : Shape := ⟨2, ![1024, 256]⟩

abbrev nBuf : Space → Nat
  | .hbm => 44
  | .vmem => 20
  | .smem => 4
  | _ => 0

abbrev bufTy : (tb : Table) → Fin (tcTables nBuf tb) → BufTy
  | .hbm, ⟨0, _⟩ => ⟨S4x8192x8x2x128, .f32⟩
  | .hbm, ⟨1, _⟩ => ⟨S4x8192x8x2x128, .f32⟩
  | .hbm, ⟨2, _⟩ => ⟨S4x8192x8x256, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S256, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S1x128, .f32⟩
  | .hbm, ⟨25, _⟩ => ⟨S4x128, .f32⟩
  | .hbm, ⟨26, _⟩ => ⟨S_, .f32⟩
  | .hbm, ⟨27, _⟩ => ⟨S4x8192x8x2x128, .f32⟩
  | .hbm, ⟨28, _⟩ => ⟨S4x8192x8x2x128, .f32⟩
  | .hbm, ⟨29, _⟩ => ⟨S_, .f32⟩
  | .hbm, ⟨30, _⟩ => ⟨S_, .f32⟩
  | .hbm, ⟨31, _⟩ => ⟨S4x8192x8x2x128, .f32⟩
  | .hbm, ⟨32, _⟩ => ⟨S4x8192x8x2x128, .f32⟩
  | .hbm, ⟨33, _⟩ => ⟨S4x8192x8x2x128, .bf16⟩
  | .hbm, ⟨34, _⟩ => ⟨S4x8192x2048, .bf16⟩
  | .hbm, ⟨35, _⟩ => ⟨S4x8192x8x2x128, .bf16⟩
  | .hbm, ⟨36, _⟩ => ⟨S4x8192x2048, .bf16⟩
  | .hbm, ⟨37, _⟩ => ⟨S4x8x256x8192, .f32⟩
  | .hbm, ⟨38, _⟩ => ⟨S4x8x256x8192, .bf16⟩
  | .hbm, ⟨39, _⟩ => ⟨S_, .bf16⟩
  | .hbm, ⟨40, _⟩ => ⟨S4x8x16x8192, .bf16⟩
  | .hbm, ⟨41, _⟩ => ⟨S4x8x272x8192, .bf16⟩
  | .hbm, ⟨42, _⟩ => ⟨S1x256, .f32⟩
  | .hbm, ⟨43, _⟩ => ⟨S4x8192x2048, .bf16⟩
  | .local _ .vmem, ⟨0, _⟩ => ⟨S1x8192x256, .bf16⟩
  | .local _ .vmem, ⟨1, _⟩ => ⟨S1x8192x256, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x1x272x8192, .bf16⟩
  | .local _ .vmem, ⟨5, _⟩ => ⟨S1x1x272x8192, .bf16⟩
  | .local _ .vmem, ⟨6, _⟩ => ⟨S4x128, .f32⟩
  | .local _ .vmem, ⟨7, _⟩ => ⟨S1x256, .f32⟩
  | .local _ .vmem, ⟨8, _⟩ => ⟨S1x8192x256, .bf16⟩
  | .local _ .vmem, ⟨9, _⟩ => ⟨S1x8192x256, .bf16⟩
  | .local _ .vmem, ⟨10, _⟩ => ⟨S512x512, .f32⟩
  | .local _ .vmem, ⟨11, _⟩ => ⟨S1024x128, .bf16⟩
  | .local _ .vmem, ⟨12, _⟩ => ⟨S512x128, .bf16⟩
  | .local _ .vmem, ⟨13, _⟩ => ⟨S2x1024x512, .f32⟩
  | .local _ .vmem, ⟨14, _⟩ => ⟨S2x1024x512, .f32⟩
  | .local _ .vmem, ⟨15, _⟩ => ⟨S2x1x512, .f32⟩
  | .local _ .vmem, ⟨16, _⟩ => ⟨S2x1x512, .f32⟩
  | .local _ .vmem, ⟨17, _⟩ => ⟨S2x1024x512, .bf16⟩
  | .local _ .vmem, ⟨18, _⟩ => ⟨S2x1x512, .f32⟩
  | .local _ .vmem, ⟨19, _⟩ => ⟨S2x272x512, .f32⟩
  | .local _ .smem, ⟨0, _⟩ => ⟨S73, .i32⟩
  | .local _ .smem, ⟨1, _⟩ => ⟨S73, .i32⟩
  | .local _ .smem, ⟨2, _⟩ => ⟨S73, .i32⟩
  | .local _ .smem, ⟨3, _⟩ => ⟨S8, .f32⟩
  | _, _ => ⟨S4x8192x8x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨3, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_2 : Ref sig .tc := ⟨.hbm, 12, rfl⟩
abbrev main_v3 : Ref sig .tc := ⟨.hbm, 13, rfl⟩
abbrev main_v4 : Ref sig .tc := ⟨.hbm, 14, rfl⟩
abbrev main_cst_3 : Ref sig .tc := ⟨.hbm, 15, rfl⟩
abbrev main_v5 : Ref sig .tc := ⟨.hbm, 16, rfl⟩
abbrev main_v6 : Ref sig .tc := ⟨.hbm, 17, rfl⟩
abbrev main_cst_4 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_5 : Ref sig .tc := ⟨.hbm, 26, rfl⟩
abbrev main_v14 : Ref sig .tc := ⟨.hbm, 27, rfl⟩
abbrev main_v15 : Ref sig .tc := ⟨.hbm, 28, rfl⟩
abbrev main_cst_6 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c : Ref sig .tc := ⟨.smem, 0, rfl⟩
abbrev main_c_0 : Ref sig .tc := ⟨.smem, 1, rfl⟩
abbrev main_c_1 : Ref sig .tc := ⟨.smem, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_scratch9 : Ref sig .tc := ⟨.vmem, 19, rfl⟩
abbrev cc0_stg0_0 : Ref sig .tc := ⟨.smem, 3, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 8], ![false, false]⟩

abbrev pre0 : Pipeline.Prefetch sig := ⟨3, ![main_c.idx, main_c_0.idx, main_c_1.idx], fun | 0 => main_c.names | 1 => main_c_0.names | 2 => main_c_1.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v153 : BitVec 32) : BitVec 32 :=
  let c1024_i32 : BitVec 32 := 1024#32
  let v154 : BitVec 32 := Scalar.muli v153 c1024_i32
  v154

def k0_off2 (v153 : BitVec 32) : Fin 3 → Nat :=
  let c0_43 : Index := 0#32
  let c1024_i32 : BitVec 32 := 1024#32
  let v154 : BitVec 32 := Scalar.muli v153 c1024_i32
  let v155 : BitVec 32 := v154
  let v156 : Index := Scalar.indexCast v155
  let c0_44 : Index := 0#32
  ![0, v156.toNat, 0]
def k0_mult2 (v152 : BitVec 32) : BitVec 32 :=
  let c512_i32 : BitVec 32 := 512#32
  let v161 : BitVec 32 := Scalar.muli v152 c512_i32
  v161

def k0_off3 (v152 : BitVec 32) : Fin 3 → Nat :=
  let c0_47 : Index := 0#32
  let c512_i32 : BitVec 32 := 512#32
  let v161 : BitVec 32 := Scalar.muli v152 c512_i32
  let v162 : BitVec 32 := v161
  let v163 : Index := Scalar.indexCast v162
  let c0_48 : Index := 0#32
  ![0, v163.toNat, 0]
def k0_mult3 (v153 : BitVec 32) : BitVec 32 :=
  let c1024_i32_61 : BitVec 32 := 1024#32
  let v179 : BitVec 32 := Scalar.muli v153 c1024_i32_61
  v179
def k0_off4 (v153 : BitVec 32) : Fin 3 → Nat :=
  let c0_62 : Index := 0#32
  let c1024_i32_61 : BitVec 32 := 1024#32
  let v179 : BitVec 32 := Scalar.muli v153 c1024_i32_61
  let v180 : BitVec 32 := v179
  let v181 : Index := Scalar.indexCast v180
  let c128 : Index := 128#32
  ![0, v181.toNat, 128]

def k0_chk1 (v153 : BitVec 32) : Prop :=
  (1024 ∣ (k0_mult1 v153).toNat) ∧
  (∀ a, (k0_off2 v153) a + S1x512x128.size a ≤ S1x8192x256.size a) ∧
  (1024 ∣ (k0_mult3 v153).toNat) ∧
  (∀ a, (k0_off4 v153) a + S1x512x128.size a ≤ S1x8192x256.size a)
theorem k0_mult1_dvd : ∀ (v153 : BitVec 32) (k0_hw1 : k0_chk1 v153), 1024 ∣ (k0_mult1 v153).toNat := fun v153 k0_hw1 => k0_hw1.1
theorem k0_off2_inb : ∀ (v153 : BitVec 32) (k0_hw1 : k0_chk1 v153), ∀ a, (k0_off2 v153) a + S1x512x128.size a ≤ S1x8192x256.size a := fun v153 k0_hw1 => k0_hw1.2.1
theorem k0_mult3_dvd : ∀ (v153 : BitVec 32) (k0_hw1 : k0_chk1 v153), 1024 ∣ (k0_mult3 v153).toNat := fun v153 k0_hw1 => k0_hw1.2.2.1
theorem k0_off4_inb : ∀ (v153 : BitVec 32) (k0_hw1 : k0_chk1 v153), ∀ a, (k0_off4 v153) a + S1x512x128.size a ≤ S1x8192x256.size a := fun v153 k0_hw1 => k0_hw1.2.2.2

def k0_mult4 (v152 : BitVec 32) : BitVec 32 :=
  let c512_i32_65 : BitVec 32 := 512#32
  let v186 : BitVec 32 := Scalar.muli v152 c512_i32_65
  v186
def k0_off5 (v152 : BitVec 32) : Fin 3 → Nat :=
  let c0_66 : Index := 0#32
  let c512_i32_65 : BitVec 32 := 512#32
  let v186 : BitVec 32 := Scalar.muli v152 c512_i32_65
  let v187 : BitVec 32 := v186
  let v188 : Index := Scalar.indexCast v187
  let c128_67 : Index := 128#32
  ![0, v188.toNat, 128]

def k0_chk2 (v152 : BitVec 32) : Prop :=
  (512 ∣ (k0_mult2 v152).toNat) ∧
  (∀ a, (k0_off3 v152) a + S1x512x128.size a ≤ S1x8192x256.size a) ∧
  (512 ∣ (k0_mult4 v152).toNat) ∧
  (∀ a, (k0_off5 v152) a + S1x512x128.size a ≤ S1x8192x256.size a)
theorem k0_mult2_dvd : ∀ (v152 : BitVec 32) (k0_hw2 : k0_chk2 v152), 512 ∣ (k0_mult2 v152).toNat := fun v152 k0_hw2 => k0_hw2.1
theorem k0_off3_inb : ∀ (v152 : BitVec 32) (k0_hw2 : k0_chk2 v152), ∀ a, (k0_off3 v152) a + S1x512x128.size a ≤ S1x8192x256.size a := fun v152 k0_hw2 => k0_hw2.2.1
theorem k0_mult4_dvd : ∀ (v152 : BitVec 32) (k0_hw2 : k0_chk2 v152), 512 ∣ (k0_mult4 v152).toNat := fun v152 k0_hw2 => k0_hw2.2.2.1
theorem k0_off5_inb : ∀ (v152 : BitVec 32) (k0_hw2 : k0_chk2 v152), ∀ a, (k0_off5 v152) a + S1x512x128.size a ≤ S1x8192x256.size a := fun v152 k0_hw2 => k0_hw2.2.2.2

@[reducible] def k0_t1_loop : Scf.Loop 32 :=
  let c0_i32_79 : BitVec 32 := 0#32
  let c36_i32 : BitVec 32 := 36#32
  let v204 : BitVec 32 := Scalar.addi c0_i32_79 c36_i32
  let c1_i32_80 : BitVec 32 := 1#32
  ⟨c0_i32_79, v204, c1_i32_80⟩
def k0_off6 (k0_t1 : Fin k0_t1_loop.trips) : Fin 1 → Nat :=
  let c2_i32 : BitVec 32 := 2#32
  let c0_i32_79 : BitVec 32 := 0#32
  let c1_i32_80 : BitVec 32 := 1#32
  let arg22 : BitVec 32 := Scf.iv c0_i32_79 c1_i32_80 k0_t1
  let v266 : BitVec 32 := Scalar.muli c2_i32 arg22
  let v267 : Index := Scalar.indexCast v266
  ![v267.toNat]
def k0_off7 (k0_t1 : Fin k0_t1_loop.trips) : Fin 1 → Nat :=
  let c2_i32 : BitVec 32 := 2#32
  let c0_i32_79 : BitVec 32 := 0#32
  let c1_i32_80 : BitVec 32 := 1#32
  let arg22 : BitVec 32 := Scf.iv c0_i32_79 c1_i32_80 k0_t1
  let v266 : BitVec 32 := Scalar.muli c2_i32 arg22
  let c1_i32_115 : BitVec 32 := 1#32
  let v277 : BitVec 32 := Scalar.addi v266 c1_i32_115
  let v278 : Index := Scalar.indexCast v277
  ![v278.toNat]
def k0_off8 (k0_t1 : Fin k0_t1_loop.trips) : Fin 1 → Nat :=
  let c2_i32 : BitVec 32 := 2#32
  let c0_i32_79 : BitVec 32 := 0#32
  let c1_i32_80 : BitVec 32 := 1#32
  let arg22 : BitVec 32 := Scf.iv c0_i32_79 c1_i32_80 k0_t1
  let v266 : BitVec 32 := Scalar.muli c2_i32 arg22
  let c1_i32_146 : BitVec 32 := 1#32
  let v319 : BitVec 32 := Scalar.addi v266 c1_i32_146
  let v320 : Index := Scalar.indexCast v319
  ![v320.toNat]
def k0_mult5 (v323 : BitVec 32) : BitVec 32 :=
  let c1024_i32_147 : BitVec 32 := 1024#32
  let v324 : BitVec 32 := Scalar.muli v323 c1024_i32_147
  v324
def k0_cond1 (k0_t1 : Fin k0_t1_loop.trips) (v268 : BitVec 32) (v271 : BitVec 32) (v279 : BitVec 32) : BitVec 1 :=
  let c3_i32_116 : BitVec 32 := 3#32
  let v280 : BitVec 32 := Scalar.muli v279 c3_i32_116
  let c2_i32_109 : BitVec 32 := 2#32
  let v269 : BitVec 1 := Scalar.cmpi .eq v268 c2_i32_109
  let c2_i32_114 : BitVec 32 := 2#32
  let c0_i32_110 : BitVec 32 := 0#32
  let v272 : BitVec 1 := Scalar.cmpi .eq v271 c0_i32_110
  let c2_i32 : BitVec 32 := 2#32
  let c0_i32_79 : BitVec 32 := 0#32
  let c1_i32_80 : BitVec 32 := 1#32
  let arg22 : BitVec 32 := Scf.iv c0_i32_79 c1_i32_80 k0_t1
  let v266 : BitVec 32 := Scalar.muli c2_i32 arg22
  let c0_i32_111 : BitVec 32 := 0#32
  let v273 : BitVec 1 := Scalar.cmpi .sgt v266 c0_i32_111
  let v274 : BitVec 1 := Scalar.andi v272 v273
  let c1_i32_112 : BitVec 32 := 1#32
  let c0_i32_113 : BitVec 32 := 0#32
  let v275 : BitVec 32 := Scalar.select v274 c1_i32_112 c0_i32_113
  let v276 : BitVec 32 := Scalar.select v269 c2_i32_114 v275
  let v281 : BitVec 32 := Scalar.addi v280 v276
  let c0_i32_117 : BitVec 32 := 0#32
  let v282 : BitVec 32 := Scalar.maxsi v281 c0_i32_117
  let c8_i32 : BitVec 32 := 8#32
  let v283 : BitVec 32 := Scalar.minsi v282 c8_i32
  let c0_i32_118 : BitVec 32 := 0#32
  let v284 : BitVec 1 := Scalar.cmpi .ne v283 c0_i32_118
  v284

def k0_cond2 (k0_t1 : Fin k0_t1_loop.trips) (v268 : BitVec 32) (v271 : BitVec 32) (v279 : BitVec 32) : BitVec 1 :=
  let c3_i32_116 : BitVec 32 := 3#32
  let v280 : BitVec 32 := Scalar.muli v279 c3_i32_116
  let c2_i32_109 : BitVec 32 := 2#32
  let v269 : BitVec 1 := Scalar.cmpi .eq v268 c2_i32_109
  let c2_i32_114 : BitVec 32 := 2#32
  let c0_i32_110 : BitVec 32 := 0#32
  let v272 : BitVec 1 := Scalar.cmpi .eq v271 c0_i32_110
  let c2_i32 : BitVec 32 := 2#32
  let c0_i32_79 : BitVec 32 := 0#32
  let c1_i32_80 : BitVec 32 := 1#32
  let arg22 : BitVec 32 := Scf.iv c0_i32_79 c1_i32_80 k0_t1
  let v266 : BitVec 32 := Scalar.muli c2_i32 arg22
  let c0_i32_111 : BitVec 32 := 0#32
  let v273 : BitVec 1 := Scalar.cmpi .sgt v266 c0_i32_111
  let v274 : BitVec 1 := Scalar.andi v272 v273
  let c1_i32_112 : BitVec 32 := 1#32
  let c0_i32_113 : BitVec 32 := 0#32
  let v275 : BitVec 32 := Scalar.select v274 c1_i32_112 c0_i32_113
  let v276 : BitVec 32 := Scalar.select v269 c2_i32_114 v275
  let v281 : BitVec 32 := Scalar.addi v280 v276
  let c0_i32_117 : BitVec 32 := 0#32
  let v282 : BitVec 32 := Scalar.maxsi v281 c0_i32_117
  let c8_i32 : BitVec 32 := 8#32
  let v283 : BitVec 32 := Scalar.minsi v282 c8_i32
  let c1_i32_132 : BitVec 32 := 1#32
  let v305 : BitVec 32 := Scalar.subi v283 c1_i32_132
  let c0_i32_133 : BitVec 32 := 0#32
  let v306 : BitVec 1 := Scalar.cmpi .ne v305 c0_i32_133
  v306

def k0_cond3 (k0_t1 : Fin k0_t1_loop.trips) (v268 : BitVec 32) (v271 : BitVec 32) (v279 : BitVec 32) : BitVec 1 :=
  let c3_i32_116 : BitVec 32 := 3#32
  let v280 : BitVec 32 := Scalar.muli v279 c3_i32_116
  let c2_i32_109 : BitVec 32 := 2#32
  let v269 : BitVec 1 := Scalar.cmpi .eq v268 c2_i32_109
  let c2_i32_114 : BitVec 32 := 2#32
  let c0_i32_110 : BitVec 32 := 0#32
  let v272 : BitVec 1 := Scalar.cmpi .eq v271 c0_i32_110
  let c2_i32 : BitVec 32 := 2#32
  let c0_i32_79 : BitVec 32 := 0#32
  let c1_i32_80 : BitVec 32 := 1#32
  let arg22 : BitVec 32 := Scf.iv c0_i32_79 c1_i32_80 k0_t1
  let v266 : BitVec 32 := Scalar.muli c2_i32 arg22
  let c0_i32_111 : BitVec 32 := 0#32
  let v273 : BitVec 1 := Scalar.cmpi .sgt v266 c0_i32_111
  let v274 : BitVec 1 := Scalar.andi v272 v273
  let c1_i32_112 : BitVec 32 := 1#32
  let c0_i32_113 : BitVec 32 := 0#32
  let v275 : BitVec 32 := Scalar.select v274 c1_i32_112 c0_i32_113
  let v276 : BitVec 32 := Scalar.select v269 c2_i32_114 v275
  let v281 : BitVec 32 := Scalar.addi v280 v276
  let c0_i32_117 : BitVec 32 := 0#32
  let v282 : BitVec 32 := Scalar.maxsi v281 c0_i32_117
  let c8_i32 : BitVec 32 := 8#32
  let v283 : BitVec 32 := Scalar.minsi v282 c8_i32
  let c1_i32_132 : BitVec 32 := 1#32
  let v305 : BitVec 32 := Scalar.subi v283 c1_i32_132
  let c1_i32_134 : BitVec 32 := 1#32
  let v307 : BitVec 32 := Scalar.subi v305 c1_i32_134
  let c0_i32_135 : BitVec 32 := 0#32
  let v308 : BitVec 1 := Scalar.cmpi .ne v307 c0_i32_135
  v308

def k0_cond4 (k0_t1 : Fin k0_t1_loop.trips) (v268 : BitVec 32) (v271 : BitVec 32) (v279 : BitVec 32) : BitVec 1 :=
  let c3_i32_116 : BitVec 32 := 3#32
  let v280 : BitVec 32 := Scalar.muli v279 c3_i32_116
  let c2_i32_109 : BitVec 32 := 2#32
  let v269 : BitVec 1 := Scalar.cmpi .eq v268 c2_i32_109
  let c2_i32_114 : BitVec 32 := 2#32
  let c0_i32_110 : BitVec 32 := 0#32
  let v272 : BitVec 1 := Scalar.cmpi .eq v271 c0_i32_110
  let c2_i32 : BitVec 32 := 2#32
  let c0_i32_79 : BitVec 32 := 0#32
  let c1_i32_80 : BitVec 32 := 1#32
  let arg22 : BitVec 32 := Scf.iv c0_i32_79 c1_i32_80 k0_t1
  let v266 : BitVec 32 := Scalar.muli c2_i32 arg22
  let c0_i32_111 : BitVec 32 := 0#32
  let v273 : BitVec 1 := Scalar.cmpi .sgt v266 c0_i32_111
  let v274 : BitVec 1 := Scalar.andi v272 v273
  let c1_i32_112 : BitVec 32 := 1#32
  let c0_i32_113 : BitVec 32 := 0#32
  let v275 : BitVec 32 := Scalar.select v274 c1_i32_112 c0_i32_113
  let v276 : BitVec 32 := Scalar.select v269 c2_i32_114 v275
  let v281 : BitVec 32 := Scalar.addi v280 v276
  let c0_i32_117 : BitVec 32 := 0#32
  let v282 : BitVec 32 := Scalar.maxsi v281 c0_i32_117
  let c8_i32 : BitVec 32 := 8#32
  let v283 : BitVec 32 := Scalar.minsi v282 c8_i32
  let c1_i32_132 : BitVec 32 := 1#32
  let v305 : BitVec 32 := Scalar.subi v283 c1_i32_132
  let c1_i32_134 : BitVec 32 := 1#32
  let v307 : BitVec 32 := Scalar.subi v305 c1_i32_134
  let c1_i32_136 : BitVec 32 := 1#32
  let v309 : BitVec 32 := Scalar.subi v307 c1_i32_136
  let c0_i32_137 : BitVec 32 := 0#32
  let v310 : BitVec 1 := Scalar.cmpi .ne v309 c0_i32_137
  v310

def k0_cond5 (k0_t1 : Fin k0_t1_loop.trips) (v268 : BitVec 32) (v271 : BitVec 32) (v279 : BitVec 32) : BitVec 1 :=
  let c3_i32_116 : BitVec 32 := 3#32
  let v280 : BitVec 32 := Scalar.muli v279 c3_i32_116
  let c2_i32_109 : BitVec 32 := 2#32
  let v269 : BitVec 1 := Scalar.cmpi .eq v268 c2_i32_109
  let c2_i32_114 : BitVec 32 := 2#32
  let c0_i32_110 : BitVec 32 := 0#32
  let v272 : BitVec 1 := Scalar.cmpi .eq v271 c0_i32_110
  let c2_i32 : BitVec 32 := 2#32
  let c0_i32_79 : BitVec 32 := 0#32
  let c1_i32_80 : BitVec 32 := 1#32
  let arg22 : BitVec 32 := Scf.iv c0_i32_79 c1_i32_80 k0_t1
  let v266 : BitVec 32 := Scalar.muli c2_i32 arg22
  let c0_i32_111 : BitVec 32 := 0#32
  let v273 : BitVec 1 := Scalar.cmpi .sgt v266 c0_i32_111
  let v274 : BitVec 1 := Scalar.andi v272 v273
  let c1_i32_112 : BitVec 32 := 1#32
  let c0_i32_113 : BitVec 32 := 0#32
  let v275 : BitVec 32 := Scalar.select v274 c1_i32_112 c0_i32_113
  let v276 : BitVec 32 := Scalar.select v269 c2_i32_114 v275
  let v281 : BitVec 32 := Scalar.addi v280 v276
  let c0_i32_117 : BitVec 32 := 0#32
  let v282 : BitVec 32 := Scalar.maxsi v281 c0_i32_117
  let c8_i32 : BitVec 32 := 8#32
  let v283 : BitVec 32 := Scalar.minsi v282 c8_i32
  let c1_i32_132 : BitVec 32 := 1#32
  let v305 : BitVec 32 := Scalar.subi v283 c1_i32_132
  let c1_i32_134 : BitVec 32 := 1#32
  let v307 : BitVec 32 := Scalar.subi v305 c1_i32_134
  let c1_i32_136 : BitVec 32 := 1#32
  let v309 : BitVec 32 := Scalar.subi v307 c1_i32_136
  let c1_i32_138 : BitVec 32 := 1#32
  let v311 : BitVec 32 := Scalar.subi v309 c1_i32_138
  let c0_i32_139 : BitVec 32 := 0#32
  let v312 : BitVec 1 := Scalar.cmpi .ne v311 c0_i32_139
  v312

def k0_cond6 (k0_t1 : Fin k0_t1_loop.trips) (v268 : BitVec 32) (v271 : BitVec 32) (v279 : BitVec 32) : BitVec 1 :=
  let c3_i32_116 : BitVec 32 := 3#32
  let v280 : BitVec 32 := Scalar.muli v279 c3_i32_116
  let c2_i32_109 : BitVec 32 := 2#32
  let v269 : BitVec 1 := Scalar.cmpi .eq v268 c2_i32_109
  let c2_i32_114 : BitVec 32 := 2#32
  let c0_i32_110 : BitVec 32 := 0#32
  let v272 : BitVec 1 := Scalar.cmpi .eq v271 c0_i32_110
  let c2_i32 : BitVec 32 := 2#32
  let c0_i32_79 : BitVec 32 := 0#32
  let c1_i32_80 : BitVec 32 := 1#32
  let arg22 : BitVec 32 := Scf.iv c0_i32_79 c1_i32_80 k0_t1
  let v266 : BitVec 32 := Scalar.muli c2_i32 arg22
  let c0_i32_111 : BitVec 32 := 0#32
  let v273 : BitVec 1 := Scalar.cmpi .sgt v266 c0_i32_111
  let v274 : BitVec 1 := Scalar.andi v272 v273
  let c1_i32_112 : BitVec 32 := 1#32
  let c0_i32_113 : BitVec 32 := 0#32
  let v275 : BitVec 32 := Scalar.select v274 c1_i32_112 c0_i32_113
  let v276 : BitVec 32 := Scalar.select v269 c2_i32_114 v275
  let v281 : BitVec 32 := Scalar.addi v280 v276
  let c0_i32_117 : BitVec 32 := 0#32
  let v282 : BitVec 32 := Scalar.maxsi v281 c0_i32_117
  let c8_i32 : BitVec 32 := 8#32
  let v283 : BitVec 32 := Scalar.minsi v282 c8_i32
  let c1_i32_132 : BitVec 32 := 1#32
  let v305 : BitVec 32 := Scalar.subi v283 c1_i32_132
  let c1_i32_134 : BitVec 32 := 1#32
  let v307 : BitVec 32 := Scalar.subi v305 c1_i32_134
  let c1_i32_136 : BitVec 32 := 1#32
  let v309 : BitVec 32 := Scalar.subi v307 c1_i32_136
  let c1_i32_138 : BitVec 32 := 1#32
  let v311 : BitVec 32 := Scalar.subi v309 c1_i32_138
  let c1_i32_140 : BitVec 32 := 1#32
  let v313 : BitVec 32 := Scalar.subi v311 c1_i32_140
  let c0_i32_141 : BitVec 32 := 0#32
  let v314 : BitVec 1 := Scalar.cmpi .ne v313 c0_i32_141
  v314

def k0_cond7 (k0_t1 : Fin k0_t1_loop.trips) (v268 : BitVec 32) (v271 : BitVec 32) (v279 : BitVec 32) : BitVec 1 :=
  let c3_i32_116 : BitVec 32 := 3#32
  let v280 : BitVec 32 := Scalar.muli v279 c3_i32_116
  let c2_i32_109 : BitVec 32 := 2#32
  let v269 : BitVec 1 := Scalar.cmpi .eq v268 c2_i32_109
  let c2_i32_114 : BitVec 32 := 2#32
  let c0_i32_110 : BitVec 32 := 0#32
  let v272 : BitVec 1 := Scalar.cmpi .eq v271 c0_i32_110
  let c2_i32 : BitVec 32 := 2#32
  let c0_i32_79 : BitVec 32 := 0#32
  let c1_i32_80 : BitVec 32 := 1#32
  let arg22 : BitVec 32 := Scf.iv c0_i32_79 c1_i32_80 k0_t1
  let v266 : BitVec 32 := Scalar.muli c2_i32 arg22
  let c0_i32_111 : BitVec 32 := 0#32
  let v273 : BitVec 1 := Scalar.cmpi .sgt v266 c0_i32_111
  let v274 : BitVec 1 := Scalar.andi v272 v273
  let c1_i32_112 : BitVec 32 := 1#32
  let c0_i32_113 : BitVec 32 := 0#32
  let v275 : BitVec 32 := Scalar.select v274 c1_i32_112 c0_i32_113
  let v276 : BitVec 32 := Scalar.select v269 c2_i32_114 v275
  let v281 : BitVec 32 := Scalar.addi v280 v276
  let c0_i32_117 : BitVec 32 := 0#32
  let v282 : BitVec 32 := Scalar.maxsi v281 c0_i32_117
  let c8_i32 : BitVec 32 := 8#32
  let v283 : BitVec 32 := Scalar.minsi v282 c8_i32
  let c1_i32_132 : BitVec 32 := 1#32
  let v305 : BitVec 32 := Scalar.subi v283 c1_i32_132
  let c1_i32_134 : BitVec 32 := 1#32
  let v307 : BitVec 32 := Scalar.subi v305 c1_i32_134
  let c1_i32_136 : BitVec 32 := 1#32
  let v309 : BitVec 32 := Scalar.subi v307 c1_i32_136
  let c1_i32_138 : BitVec 32 := 1#32
  let v311 : BitVec 32 := Scalar.subi v309 c1_i32_138
  let c1_i32_140 : BitVec 32 := 1#32
  let v313 : BitVec 32 := Scalar.subi v311 c1_i32_140
  let c1_i32_142 : BitVec 32 := 1#32
  let v315 : BitVec 32 := Scalar.subi v313 c1_i32_142
  let c0_i32_143 : BitVec 32 := 0#32
  let v316 : BitVec 1 := Scalar.cmpi .ne v315 c0_i32_143
  v316

def k0_cond8 (k0_t1 : Fin k0_t1_loop.trips) (v268 : BitVec 32) (v271 : BitVec 32) (v279 : BitVec 32) : BitVec 1 :=
  let c3_i32_116 : BitVec 32 := 3#32
  let v280 : BitVec 32 := Scalar.muli v279 c3_i32_116
  let c2_i32_109 : BitVec 32 := 2#32
  let v269 : BitVec 1 := Scalar.cmpi .eq v268 c2_i32_109
  let c2_i32_114 : BitVec 32 := 2#32
  let c0_i32_110 : BitVec 32 := 0#32
  let v272 : BitVec 1 := Scalar.cmpi .eq v271 c0_i32_110
  let c2_i32 : BitVec 32 := 2#32
  let c0_i32_79 : BitVec 32 := 0#32
  let c1_i32_80 : BitVec 32 := 1#32
  let arg22 : BitVec 32 := Scf.iv c0_i32_79 c1_i32_80 k0_t1
  let v266 : BitVec 32 := Scalar.muli c2_i32 arg22
  let c0_i32_111 : BitVec 32 := 0#32
  let v273 : BitVec 1 := Scalar.cmpi .sgt v266 c0_i32_111
  let v274 : BitVec 1 := Scalar.andi v272 v273
  let c1_i32_112 : BitVec 32 := 1#32
  let c0_i32_113 : BitVec 32 := 0#32
  let v275 : BitVec 32 := Scalar.select v274 c1_i32_112 c0_i32_113
  let v276 : BitVec 32 := Scalar.select v269 c2_i32_114 v275
  let v281 : BitVec 32 := Scalar.addi v280 v276
  let c0_i32_117 : BitVec 32 := 0#32
  let v282 : BitVec 32 := Scalar.maxsi v281 c0_i32_117
  let c8_i32 : BitVec 32 := 8#32
  let v283 : BitVec 32 := Scalar.minsi v282 c8_i32
  let c1_i32_132 : BitVec 32 := 1#32
  let v305 : BitVec 32 := Scalar.subi v283 c1_i32_132
  let c1_i32_134 : BitVec 32 := 1#32
  let v307 : BitVec 32 := Scalar.subi v305 c1_i32_134
  let c1_i32_136 : BitVec 32 := 1#32
  let v309 : BitVec 32 := Scalar.subi v307 c1_i32_136
  let c1_i32_138 : BitVec 32 := 1#32
  let v311 : BitVec 32 := Scalar.subi v309 c1_i32_138
  let c1_i32_140 : BitVec 32 := 1#32
  let v313 : BitVec 32 := Scalar.subi v311 c1_i32_140
  let c1_i32_142 : BitVec 32 := 1#32
  let v315 : BitVec 32 := Scalar.subi v313 c1_i32_142
  let c1_i32_144 : BitVec 32 := 1#32
  let v317 : BitVec 32 := Scalar.subi v315 c1_i32_144
  let c0_i32_145 : BitVec 32 := 0#32
  let v318 : BitVec 1 := Scalar.cmpi .ne v317 c0_i32_145
  v318

def k0_off9 (v323 : BitVec 32) : Fin 3 → Nat :=
  let c0_148 : Index := 0#32
  let c1024_i32_147 : BitVec 32 := 1024#32
  let v324 : BitVec 32 := Scalar.muli v323 c1024_i32_147
  let v325 : BitVec 32 := v324
  let v326 : Index := Scalar.indexCast v325
  let c0_149 : Index := 0#32
  ![0, v326.toNat, 0]
def k0_mult6 (v321 : BitVec 32) : BitVec 32 :=
  let c512_i32_152 : BitVec 32 := 512#32
  let v331 : BitVec 32 := Scalar.muli v321 c512_i32_152
  v331

def k0_off10 (v321 : BitVec 32) : Fin 3 → Nat :=
  let c0_153 : Index := 0#32
  let c512_i32_152 : BitVec 32 := 512#32
  let v331 : BitVec 32 := Scalar.muli v321 c512_i32_152
  let v332 : BitVec 32 := v331
  let v333 : Index := Scalar.indexCast v332
  let c0_154 : Index := 0#32
  ![0, v333.toNat, 0]
def k0_mult7 (v323 : BitVec 32) : BitVec 32 :=
  let c1024_i32_167 : BitVec 32 := 1024#32
  let v349 : BitVec 32 := Scalar.muli v323 c1024_i32_167
  v349
def k0_off11 (v323 : BitVec 32) : Fin 3 → Nat :=
  let c0_168 : Index := 0#32
  let c1024_i32_167 : BitVec 32 := 1024#32
  let v349 : BitVec 32 := Scalar.muli v323 c1024_i32_167
  let v350 : BitVec 32 := v349
  let v351 : Index := Scalar.indexCast v350
  let c128_169 : Index := 128#32
  ![0, v351.toNat, 128]

def k0_chk3 (k0_t1 : Fin k0_t1_loop.trips) (v268 : BitVec 32) (v271 : BitVec 32) (v279 : BitVec 32) (v323 : BitVec 32) : Prop :=
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : k0_cond7 k0_t1 v268 v271 v279 = 1#1), ∀ (k0_h8 : k0_cond8 k0_t1 v268 v271 v279 = 1#1), 1024 ∣ (k0_mult5 v323).toNat) ∧
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : k0_cond7 k0_t1 v268 v271 v279 = 1#1), ∀ (k0_h8 : k0_cond8 k0_t1 v268 v271 v279 = 1#1), ∀ a, (k0_off9 v323) a + S1x512x128.size a ≤ S1x8192x256.size a) ∧
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : k0_cond7 k0_t1 v268 v271 v279 = 1#1), ∀ (k0_h8 : k0_cond8 k0_t1 v268 v271 v279 = 1#1), 1024 ∣ (k0_mult7 v323).toNat) ∧
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : k0_cond7 k0_t1 v268 v271 v279 = 1#1), ∀ (k0_h8 : k0_cond8 k0_t1 v268 v271 v279 = 1#1), ∀ a, (k0_off11 v323) a + S1x512x128.size a ≤ S1x8192x256.size a)
theorem k0_mult5_dvd : ∀ (k0_t1 : Fin k0_t1_loop.trips) (v268 : BitVec 32) (v271 : BitVec 32) (v279 : BitVec 32) (v323 : BitVec 32) (k0_hw3 : k0_chk3 k0_t1 v268 v271 v279 v323), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : k0_cond7 k0_t1 v268 v271 v279 = 1#1), ∀ (k0_h8 : k0_cond8 k0_t1 v268 v271 v279 = 1#1), 1024 ∣ (k0_mult5 v323).toNat := fun k0_t1 v268 v271 v279 v323 k0_hw3 k0_h1 k0_h2 k0_h3 k0_h4 k0_h5 k0_h6 k0_h7 k0_h8 => k0_hw3.1 k0_h1 k0_h2 k0_h3 k0_h4 k0_h5 k0_h6 k0_h7 k0_h8
theorem k0_off9_inb : ∀ (k0_t1 : Fin k0_t1_loop.trips) (v268 : BitVec 32) (v271 : BitVec 32) (v279 : BitVec 32) (v323 : BitVec 32) (k0_hw3 : k0_chk3 k0_t1 v268 v271 v279 v323), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : k0_cond7 k0_t1 v268 v271 v279 = 1#1), ∀ (k0_h8 : k0_cond8 k0_t1 v268 v271 v279 = 1#1), ∀ a, (k0_off9 v323) a + S1x512x128.size a ≤ S1x8192x256.size a := fun k0_t1 v268 v271 v279 v323 k0_hw3 k0_h1 k0_h2 k0_h3 k0_h4 k0_h5 k0_h6 k0_h7 k0_h8 => k0_hw3.2.1 k0_h1 k0_h2 k0_h3 k0_h4 k0_h5 k0_h6 k0_h7 k0_h8
theorem k0_mult7_dvd : ∀ (k0_t1 : Fin k0_t1_loop.trips) (v268 : BitVec 32) (v271 : BitVec 32) (v279 : BitVec 32) (v323 : BitVec 32) (k0_hw3 : k0_chk3 k0_t1 v268 v271 v279 v323), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : k0_cond7 k0_t1 v268 v271 v279 = 1#1), ∀ (k0_h8 : k0_cond8 k0_t1 v268 v271 v279 = 1#1), 1024 ∣ (k0_mult7 v323).toNat := fun k0_t1 v268 v271 v279 v323 k0_hw3 k0_h1 k0_h2 k0_h3 k0_h4 k0_h5 k0_h6 k0_h7 k0_h8 => k0_hw3.2.2.1 k0_h1 k0_h2 k0_h3 k0_h4 k0_h5 k0_h6 k0_h7 k0_h8
theorem k0_off11_inb : ∀ (k0_t1 : Fin k0_t1_loop.trips) (v268 : BitVec 32) (v271 : BitVec 32) (v279 : BitVec 32) (v323 : BitVec 32) (k0_hw3 : k0_chk3 k0_t1 v268 v271 v279 v323), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : k0_cond7 k0_t1 v268 v271 v279 = 1#1), ∀ (k0_h8 : k0_cond8 k0_t1 v268 v271 v279 = 1#1), ∀ a, (k0_off11 v323) a + S1x512x128.size a ≤ S1x8192x256.size a := fun k0_t1 v268 v271 v279 v323 k0_hw3 k0_h1 k0_h2 k0_h3 k0_h4 k0_h5 k0_h6 k0_h7 k0_h8 => k0_hw3.2.2.2 k0_h1 k0_h2 k0_h3 k0_h4 k0_h5 k0_h6 k0_h7 k0_h8

def k0_mult8 (v321 : BitVec 32) : BitVec 32 :=
  let c512_i32_172 : BitVec 32 := 512#32
  let v356 : BitVec 32 := Scalar.muli v321 c512_i32_172
  v356
def k0_off12 (v321 : BitVec 32) : Fin 3 → Nat :=
  let c0_173 : Index := 0#32
  let c512_i32_172 : BitVec 32 := 512#32
  let v356 : BitVec 32 := Scalar.muli v321 c512_i32_172
  let v357 : BitVec 32 := v356
  let v358 : Index := Scalar.indexCast v357
  let c128_174 : Index := 128#32
  ![0, v358.toNat, 128]

def k0_chk4 (k0_t1 : Fin k0_t1_loop.trips) (v268 : BitVec 32) (v271 : BitVec 32) (v279 : BitVec 32) (v321 : BitVec 32) : Prop :=
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : k0_cond7 k0_t1 v268 v271 v279 = 1#1), ∀ (k0_h8 : k0_cond8 k0_t1 v268 v271 v279 = 1#1), 512 ∣ (k0_mult6 v321).toNat) ∧
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : k0_cond7 k0_t1 v268 v271 v279 = 1#1), ∀ (k0_h8 : k0_cond8 k0_t1 v268 v271 v279 = 1#1), ∀ a, (k0_off10 v321) a + S1x512x128.size a ≤ S1x8192x256.size a) ∧
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : k0_cond7 k0_t1 v268 v271 v279 = 1#1), ∀ (k0_h8 : k0_cond8 k0_t1 v268 v271 v279 = 1#1), 512 ∣ (k0_mult8 v321).toNat) ∧
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : k0_cond7 k0_t1 v268 v271 v279 = 1#1), ∀ (k0_h8 : k0_cond8 k0_t1 v268 v271 v279 = 1#1), ∀ a, (k0_off12 v321) a + S1x512x128.size a ≤ S1x8192x256.size a)
theorem k0_mult6_dvd : ∀ (k0_t1 : Fin k0_t1_loop.trips) (v268 : BitVec 32) (v271 : BitVec 32) (v279 : BitVec 32) (v321 : BitVec 32) (k0_hw4 : k0_chk4 k0_t1 v268 v271 v279 v321), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : k0_cond7 k0_t1 v268 v271 v279 = 1#1), ∀ (k0_h8 : k0_cond8 k0_t1 v268 v271 v279 = 1#1), 512 ∣ (k0_mult6 v321).toNat := fun k0_t1 v268 v271 v279 v321 k0_hw4 k0_h1 k0_h2 k0_h3 k0_h4 k0_h5 k0_h6 k0_h7 k0_h8 => k0_hw4.1 k0_h1 k0_h2 k0_h3 k0_h4 k0_h5 k0_h6 k0_h7 k0_h8
theorem k0_off10_inb : ∀ (k0_t1 : Fin k0_t1_loop.trips) (v268 : BitVec 32) (v271 : BitVec 32) (v279 : BitVec 32) (v321 : BitVec 32) (k0_hw4 : k0_chk4 k0_t1 v268 v271 v279 v321), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : k0_cond7 k0_t1 v268 v271 v279 = 1#1), ∀ (k0_h8 : k0_cond8 k0_t1 v268 v271 v279 = 1#1), ∀ a, (k0_off10 v321) a + S1x512x128.size a ≤ S1x8192x256.size a := fun k0_t1 v268 v271 v279 v321 k0_hw4 k0_h1 k0_h2 k0_h3 k0_h4 k0_h5 k0_h6 k0_h7 k0_h8 => k0_hw4.2.1 k0_h1 k0_h2 k0_h3 k0_h4 k0_h5 k0_h6 k0_h7 k0_h8
theorem k0_mult8_dvd : ∀ (k0_t1 : Fin k0_t1_loop.trips) (v268 : BitVec 32) (v271 : BitVec 32) (v279 : BitVec 32) (v321 : BitVec 32) (k0_hw4 : k0_chk4 k0_t1 v268 v271 v279 v321), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : k0_cond7 k0_t1 v268 v271 v279 = 1#1), ∀ (k0_h8 : k0_cond8 k0_t1 v268 v271 v279 = 1#1), 512 ∣ (k0_mult8 v321).toNat := fun k0_t1 v268 v271 v279 v321 k0_hw4 k0_h1 k0_h2 k0_h3 k0_h4 k0_h5 k0_h6 k0_h7 k0_h8 => k0_hw4.2.2.1 k0_h1 k0_h2 k0_h3 k0_h4 k0_h5 k0_h6 k0_h7 k0_h8
theorem k0_off12_inb : ∀ (k0_t1 : Fin k0_t1_loop.trips) (v268 : BitVec 32) (v271 : BitVec 32) (v279 : BitVec 32) (v321 : BitVec 32) (k0_hw4 : k0_chk4 k0_t1 v268 v271 v279 v321), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : k0_cond7 k0_t1 v268 v271 v279 = 1#1), ∀ (k0_h8 : k0_cond8 k0_t1 v268 v271 v279 = 1#1), ∀ a, (k0_off12 v321) a + S1x512x128.size a ≤ S1x8192x256.size a := fun k0_t1 v268 v271 v279 v321 k0_hw4 k0_h1 k0_h2 k0_h3 k0_h4 k0_h5 k0_h6 k0_h7 k0_h8 => k0_hw4.2.2.2 k0_h1 k0_h2 k0_h3 k0_h4 k0_h5 k0_h6 k0_h7 k0_h8

def k0_off13 (k0_t1 : Fin k0_t1_loop.trips) : Fin 1 → Nat :=
  let c2_i32 : BitVec 32 := 2#32
  let c0_i32_79 : BitVec 32 := 0#32
  let c1_i32_80 : BitVec 32 := 1#32
  let arg22 : BitVec 32 := Scf.iv c0_i32_79 c1_i32_80 k0_t1
  let v266 : BitVec 32 := Scalar.muli c2_i32 arg22
  let v374 : Index := Scalar.indexCast v266
  ![v374.toNat]
def k0_mult9 (v377 : BitVec 32) : BitVec 32 :=
  let c1024_i32_189 : BitVec 32 := 1024#32
  let v383 : BitVec 32 := Scalar.muli v377 c1024_i32_189
  v383

def k0_off14 (v377 : BitVec 32) : Fin 4 → Nat :=
  let c0_190 : Index := 0#32
  let c0_191 : Index := 0#32
  let c0_192 : Index := 0#32
  let c1024_i32_189 : BitVec 32 := 1024#32
  let v383 : BitVec 32 := Scalar.muli v377 c1024_i32_189
  let v384 : BitVec 32 := v383
  let v385 : Index := Scalar.indexCast v384
  ![0, 0, 0, v385.toNat]

def k0_chk5 (k0_t1 : Fin k0_t1_loop.trips) (v268 : BitVec 32) (v271 : BitVec 32) (v279 : BitVec 32) (v377 : BitVec 32) : Prop :=
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : k0_cond7 k0_t1 v268 v271 v279 = 1#1), ∀ (k0_h8 : k0_cond8 k0_t1 v268 v271 v279 = 1#1), 1024 ∣ (k0_mult9 v377).toNat) ∧
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : k0_cond7 k0_t1 v268 v271 v279 = 1#1), ∀ (k0_h8 : k0_cond8 k0_t1 v268 v271 v279 = 1#1), ∀ a, (k0_off14 v377) a + S1x1x272x512.size a ≤ S1x1x272x8192.size a)
theorem k0_mult9_dvd : ∀ (k0_t1 : Fin k0_t1_loop.trips) (v268 : BitVec 32) (v271 : BitVec 32) (v279 : BitVec 32) (v377 : BitVec 32) (k0_hw5 : k0_chk5 k0_t1 v268 v271 v279 v377), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : k0_cond7 k0_t1 v268 v271 v279 = 1#1), ∀ (k0_h8 : k0_cond8 k0_t1 v268 v271 v279 = 1#1), 1024 ∣ (k0_mult9 v377).toNat := fun k0_t1 v268 v271 v279 v377 k0_hw5 k0_h1 k0_h2 k0_h3 k0_h4 k0_h5 k0_h6 k0_h7 k0_h8 => k0_hw5.1 k0_h1 k0_h2 k0_h3 k0_h4 k0_h5 k0_h6 k0_h7 k0_h8
theorem k0_off14_inb : ∀ (k0_t1 : Fin k0_t1_loop.trips) (v268 : BitVec 32) (v271 : BitVec 32) (v279 : BitVec 32) (v377 : BitVec 32) (k0_hw5 : k0_chk5 k0_t1 v268 v271 v279 v377), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : k0_cond7 k0_t1 v268 v271 v279 = 1#1), ∀ (k0_h8 : k0_cond8 k0_t1 v268 v271 v279 = 1#1), ∀ a, (k0_off14 v377) a + S1x1x272x512.size a ≤ S1x1x272x8192.size a := fun k0_t1 v268 v271 v279 v377 k0_hw5 k0_h1 k0_h2 k0_h3 k0_h4 k0_h5 k0_h6 k0_h7 k0_h8 => k0_hw5.2 k0_h1 k0_h2 k0_h3 k0_h4 k0_h5 k0_h6 k0_h7 k0_h8

def k0_off15 (k0_t1 : Fin k0_t1_loop.trips) : Fin 1 → Nat :=
  let c2_i32 : BitVec 32 := 2#32
  let c0_i32_79 : BitVec 32 := 0#32
  let c1_i32_80 : BitVec 32 := 1#32
  let arg22 : BitVec 32 := Scf.iv c0_i32_79 c1_i32_80 k0_t1
  let v266 : BitVec 32 := Scalar.muli c2_i32 arg22
  let c1_i32_146 : BitVec 32 := 1#32
  let v319 : BitVec 32 := Scalar.addi v266 c1_i32_146
  let v320 : Index := Scalar.indexCast v319
  ![v320.toNat]
def k0_mult10 (v323 : BitVec 32) : BitVec 32 :=
  let c1024_i32_147 : BitVec 32 := 1024#32
  let v324 : BitVec 32 := Scalar.muli v323 c1024_i32_147
  v324

def k0_off16 (v323 : BitVec 32) : Fin 3 → Nat :=
  let c0_148 : Index := 0#32
  let c1024_i32_147 : BitVec 32 := 1024#32
  let v324 : BitVec 32 := Scalar.muli v323 c1024_i32_147
  let v325 : BitVec 32 := v324
  let v326 : Index := Scalar.indexCast v325
  let c0_149 : Index := 0#32
  ![0, v326.toNat, 0]
def k0_mult11 (v321 : BitVec 32) : BitVec 32 :=
  let c512_i32_152 : BitVec 32 := 512#32
  let v331 : BitVec 32 := Scalar.muli v321 c512_i32_152
  v331

def k0_off17 (v321 : BitVec 32) : Fin 3 → Nat :=
  let c0_153 : Index := 0#32
  let c512_i32_152 : BitVec 32 := 512#32
  let v331 : BitVec 32 := Scalar.muli v321 c512_i32_152
  let v332 : BitVec 32 := v331
  let v333 : Index := Scalar.indexCast v332
  let c0_154 : Index := 0#32
  ![0, v333.toNat, 0]
def k0_mult12 (v323 : BitVec 32) : BitVec 32 :=
  let c1024_i32_167 : BitVec 32 := 1024#32
  let v349 : BitVec 32 := Scalar.muli v323 c1024_i32_167
  v349
def k0_off18 (v323 : BitVec 32) : Fin 3 → Nat :=
  let c0_168 : Index := 0#32
  let c1024_i32_167 : BitVec 32 := 1024#32
  let v349 : BitVec 32 := Scalar.muli v323 c1024_i32_167
  let v350 : BitVec 32 := v349
  let v351 : Index := Scalar.indexCast v350
  let c128_169 : Index := 128#32
  ![0, v351.toNat, 128]

def k0_chk6 (k0_t1 : Fin k0_t1_loop.trips) (v268 : BitVec 32) (v271 : BitVec 32) (v279 : BitVec 32) (v323 : BitVec 32) : Prop :=
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : k0_cond7 k0_t1 v268 v271 v279 = 1#1), ∀ (k0_h8 : ¬(k0_cond8 k0_t1 v268 v271 v279 = 1#1)), 1024 ∣ (k0_mult10 v323).toNat) ∧
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : k0_cond7 k0_t1 v268 v271 v279 = 1#1), ∀ (k0_h8 : ¬(k0_cond8 k0_t1 v268 v271 v279 = 1#1)), ∀ a, (k0_off16 v323) a + S1x512x128.size a ≤ S1x8192x256.size a) ∧
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : k0_cond7 k0_t1 v268 v271 v279 = 1#1), ∀ (k0_h8 : ¬(k0_cond8 k0_t1 v268 v271 v279 = 1#1)), 1024 ∣ (k0_mult12 v323).toNat) ∧
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : k0_cond7 k0_t1 v268 v271 v279 = 1#1), ∀ (k0_h8 : ¬(k0_cond8 k0_t1 v268 v271 v279 = 1#1)), ∀ a, (k0_off18 v323) a + S1x512x128.size a ≤ S1x8192x256.size a)
theorem k0_mult10_dvd : ∀ (k0_t1 : Fin k0_t1_loop.trips) (v268 : BitVec 32) (v271 : BitVec 32) (v279 : BitVec 32) (v323 : BitVec 32) (k0_hw6 : k0_chk6 k0_t1 v268 v271 v279 v323), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : k0_cond7 k0_t1 v268 v271 v279 = 1#1), ∀ (k0_h8 : ¬(k0_cond8 k0_t1 v268 v271 v279 = 1#1)), 1024 ∣ (k0_mult10 v323).toNat := fun k0_t1 v268 v271 v279 v323 k0_hw6 k0_h1 k0_h2 k0_h3 k0_h4 k0_h5 k0_h6 k0_h7 k0_h8 => k0_hw6.1 k0_h1 k0_h2 k0_h3 k0_h4 k0_h5 k0_h6 k0_h7 k0_h8
theorem k0_off16_inb : ∀ (k0_t1 : Fin k0_t1_loop.trips) (v268 : BitVec 32) (v271 : BitVec 32) (v279 : BitVec 32) (v323 : BitVec 32) (k0_hw6 : k0_chk6 k0_t1 v268 v271 v279 v323), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : k0_cond7 k0_t1 v268 v271 v279 = 1#1), ∀ (k0_h8 : ¬(k0_cond8 k0_t1 v268 v271 v279 = 1#1)), ∀ a, (k0_off16 v323) a + S1x512x128.size a ≤ S1x8192x256.size a := fun k0_t1 v268 v271 v279 v323 k0_hw6 k0_h1 k0_h2 k0_h3 k0_h4 k0_h5 k0_h6 k0_h7 k0_h8 => k0_hw6.2.1 k0_h1 k0_h2 k0_h3 k0_h4 k0_h5 k0_h6 k0_h7 k0_h8
theorem k0_mult12_dvd : ∀ (k0_t1 : Fin k0_t1_loop.trips) (v268 : BitVec 32) (v271 : BitVec 32) (v279 : BitVec 32) (v323 : BitVec 32) (k0_hw6 : k0_chk6 k0_t1 v268 v271 v279 v323), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : k0_cond7 k0_t1 v268 v271 v279 = 1#1), ∀ (k0_h8 : ¬(k0_cond8 k0_t1 v268 v271 v279 = 1#1)), 1024 ∣ (k0_mult12 v323).toNat := fun k0_t1 v268 v271 v279 v323 k0_hw6 k0_h1 k0_h2 k0_h3 k0_h4 k0_h5 k0_h6 k0_h7 k0_h8 => k0_hw6.2.2.1 k0_h1 k0_h2 k0_h3 k0_h4 k0_h5 k0_h6 k0_h7 k0_h8
theorem k0_off18_inb : ∀ (k0_t1 : Fin k0_t1_loop.trips) (v268 : BitVec 32) (v271 : BitVec 32) (v279 : BitVec 32) (v323 : BitVec 32) (k0_hw6 : k0_chk6 k0_t1 v268 v271 v279 v323), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : k0_cond7 k0_t1 v268 v271 v279 = 1#1), ∀ (k0_h8 : ¬(k0_cond8 k0_t1 v268 v271 v279 = 1#1)), ∀ a, (k0_off18 v323) a + S1x512x128.size a ≤ S1x8192x256.size a := fun k0_t1 v268 v271 v279 v323 k0_hw6 k0_h1 k0_h2 k0_h3 k0_h4 k0_h5 k0_h6 k0_h7 k0_h8 => k0_hw6.2.2.2 k0_h1 k0_h2 k0_h3 k0_h4 k0_h5 k0_h6 k0_h7 k0_h8

def k0_mult13 (v321 : BitVec 32) : BitVec 32 :=
  let c512_i32_172 : BitVec 32 := 512#32
  let v356 : BitVec 32 := Scalar.muli v321 c512_i32_172
  v356
def k0_off19 (v321 : BitVec 32) : Fin 3 → Nat :=
  let c0_173 : Index := 0#32
  let c512_i32_172 : BitVec 32 := 512#32
  let v356 : BitVec 32 := Scalar.muli v321 c512_i32_172
  let v357 : BitVec 32 := v356
  let v358 : Index := Scalar.indexCast v357
  let c128_174 : Index := 128#32
  ![0, v358.toNat, 128]

def k0_chk7 (k0_t1 : Fin k0_t1_loop.trips) (v268 : BitVec 32) (v271 : BitVec 32) (v279 : BitVec 32) (v321 : BitVec 32) : Prop :=
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : k0_cond7 k0_t1 v268 v271 v279 = 1#1), ∀ (k0_h8 : ¬(k0_cond8 k0_t1 v268 v271 v279 = 1#1)), 512 ∣ (k0_mult11 v321).toNat) ∧
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : k0_cond7 k0_t1 v268 v271 v279 = 1#1), ∀ (k0_h8 : ¬(k0_cond8 k0_t1 v268 v271 v279 = 1#1)), ∀ a, (k0_off17 v321) a + S1x512x128.size a ≤ S1x8192x256.size a) ∧
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : k0_cond7 k0_t1 v268 v271 v279 = 1#1), ∀ (k0_h8 : ¬(k0_cond8 k0_t1 v268 v271 v279 = 1#1)), 512 ∣ (k0_mult13 v321).toNat) ∧
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : k0_cond7 k0_t1 v268 v271 v279 = 1#1), ∀ (k0_h8 : ¬(k0_cond8 k0_t1 v268 v271 v279 = 1#1)), ∀ a, (k0_off19 v321) a + S1x512x128.size a ≤ S1x8192x256.size a)
theorem k0_mult11_dvd : ∀ (k0_t1 : Fin k0_t1_loop.trips) (v268 : BitVec 32) (v271 : BitVec 32) (v279 : BitVec 32) (v321 : BitVec 32) (k0_hw7 : k0_chk7 k0_t1 v268 v271 v279 v321), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : k0_cond7 k0_t1 v268 v271 v279 = 1#1), ∀ (k0_h8 : ¬(k0_cond8 k0_t1 v268 v271 v279 = 1#1)), 512 ∣ (k0_mult11 v321).toNat := fun k0_t1 v268 v271 v279 v321 k0_hw7 k0_h1 k0_h2 k0_h3 k0_h4 k0_h5 k0_h6 k0_h7 k0_h8 => k0_hw7.1 k0_h1 k0_h2 k0_h3 k0_h4 k0_h5 k0_h6 k0_h7 k0_h8
theorem k0_off17_inb : ∀ (k0_t1 : Fin k0_t1_loop.trips) (v268 : BitVec 32) (v271 : BitVec 32) (v279 : BitVec 32) (v321 : BitVec 32) (k0_hw7 : k0_chk7 k0_t1 v268 v271 v279 v321), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : k0_cond7 k0_t1 v268 v271 v279 = 1#1), ∀ (k0_h8 : ¬(k0_cond8 k0_t1 v268 v271 v279 = 1#1)), ∀ a, (k0_off17 v321) a + S1x512x128.size a ≤ S1x8192x256.size a := fun k0_t1 v268 v271 v279 v321 k0_hw7 k0_h1 k0_h2 k0_h3 k0_h4 k0_h5 k0_h6 k0_h7 k0_h8 => k0_hw7.2.1 k0_h1 k0_h2 k0_h3 k0_h4 k0_h5 k0_h6 k0_h7 k0_h8
theorem k0_mult13_dvd : ∀ (k0_t1 : Fin k0_t1_loop.trips) (v268 : BitVec 32) (v271 : BitVec 32) (v279 : BitVec 32) (v321 : BitVec 32) (k0_hw7 : k0_chk7 k0_t1 v268 v271 v279 v321), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : k0_cond7 k0_t1 v268 v271 v279 = 1#1), ∀ (k0_h8 : ¬(k0_cond8 k0_t1 v268 v271 v279 = 1#1)), 512 ∣ (k0_mult13 v321).toNat := fun k0_t1 v268 v271 v279 v321 k0_hw7 k0_h1 k0_h2 k0_h3 k0_h4 k0_h5 k0_h6 k0_h7 k0_h8 => k0_hw7.2.2.1 k0_h1 k0_h2 k0_h3 k0_h4 k0_h5 k0_h6 k0_h7 k0_h8
theorem k0_off19_inb : ∀ (k0_t1 : Fin k0_t1_loop.trips) (v268 : BitVec 32) (v271 : BitVec 32) (v279 : BitVec 32) (v321 : BitVec 32) (k0_hw7 : k0_chk7 k0_t1 v268 v271 v279 v321), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : k0_cond7 k0_t1 v268 v271 v279 = 1#1), ∀ (k0_h8 : ¬(k0_cond8 k0_t1 v268 v271 v279 = 1#1)), ∀ a, (k0_off19 v321) a + S1x512x128.size a ≤ S1x8192x256.size a := fun k0_t1 v268 v271 v279 v321 k0_hw7 k0_h1 k0_h2 k0_h3 k0_h4 k0_h5 k0_h6 k0_h7 k0_h8 => k0_hw7.2.2.2 k0_h1 k0_h2 k0_h3 k0_h4 k0_h5 k0_h6 k0_h7 k0_h8

def k0_off20 (k0_t1 : Fin k0_t1_loop.trips) : Fin 1 → Nat :=
  let c2_i32 : BitVec 32 := 2#32
  let c0_i32_79 : BitVec 32 := 0#32
  let c1_i32_80 : BitVec 32 := 1#32
  let arg22 : BitVec 32 := Scf.iv c0_i32_79 c1_i32_80 k0_t1
  let v266 : BitVec 32 := Scalar.muli c2_i32 arg22
  let v374 : Index := Scalar.indexCast v266
  ![v374.toNat]
def k0_mult14 (v375 : BitVec 32) : BitVec 32 :=
  let c1_i32_187 : BitVec 32 := 1#32
  let v376 : BitVec 32 := Scalar.subi v375 c1_i32_187
  let c512_i32_213 : BitVec 32 := 512#32
  let v431 : BitVec 32 := Scalar.muli v376 c512_i32_213
  v431

def k0_off21 (v375 : BitVec 32) : Fin 3 → Nat :=
  let c0_214 : Index := 0#32
  let c1_i32_187 : BitVec 32 := 1#32
  let v376 : BitVec 32 := Scalar.subi v375 c1_i32_187
  let c512_i32_213 : BitVec 32 := 512#32
  let v431 : BitVec 32 := Scalar.muli v376 c512_i32_213
  let v432 : BitVec 32 := v431
  let v433 : Index := Scalar.indexCast v432
  let c0_215 : Index := 0#32
  ![0, v433.toNat, 0]

def k0_chk8 (k0_t1 : Fin k0_t1_loop.trips) (v268 : BitVec 32) (v271 : BitVec 32) (v279 : BitVec 32) (v375 : BitVec 32) : Prop :=
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : k0_cond7 k0_t1 v268 v271 v279 = 1#1), ∀ (k0_h8 : ¬(k0_cond8 k0_t1 v268 v271 v279 = 1#1)), 512 ∣ (k0_mult14 v375).toNat) ∧
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : k0_cond7 k0_t1 v268 v271 v279 = 1#1), ∀ (k0_h8 : ¬(k0_cond8 k0_t1 v268 v271 v279 = 1#1)), ∀ a, (k0_off21 v375) a + S1x512x256.size a ≤ S1x8192x256.size a) ∧
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : k0_cond7 k0_t1 v268 v271 v279 = 1#1), ∀ (k0_h8 : ¬(k0_cond8 k0_t1 v268 v271 v279 = 1#1)), ∀ (hinb : ∀ a, (k0_off21 v375) a + S1x512x256.size a ≤ S1x8192x256.size a), (Rect.unit (s := S1x8192x256) (k0_off21 v375) S1x512x256.size hinb).PackedRows (EltTy.packing .bf16))
theorem k0_mult14_dvd : ∀ (k0_t1 : Fin k0_t1_loop.trips) (v268 : BitVec 32) (v271 : BitVec 32) (v279 : BitVec 32) (v375 : BitVec 32) (k0_hw8 : k0_chk8 k0_t1 v268 v271 v279 v375), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : k0_cond7 k0_t1 v268 v271 v279 = 1#1), ∀ (k0_h8 : ¬(k0_cond8 k0_t1 v268 v271 v279 = 1#1)), 512 ∣ (k0_mult14 v375).toNat := fun k0_t1 v268 v271 v279 v375 k0_hw8 k0_h1 k0_h2 k0_h3 k0_h4 k0_h5 k0_h6 k0_h7 k0_h8 => k0_hw8.1 k0_h1 k0_h2 k0_h3 k0_h4 k0_h5 k0_h6 k0_h7 k0_h8
theorem k0_off21_inb : ∀ (k0_t1 : Fin k0_t1_loop.trips) (v268 : BitVec 32) (v271 : BitVec 32) (v279 : BitVec 32) (v375 : BitVec 32) (k0_hw8 : k0_chk8 k0_t1 v268 v271 v279 v375), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : k0_cond7 k0_t1 v268 v271 v279 = 1#1), ∀ (k0_h8 : ¬(k0_cond8 k0_t1 v268 v271 v279 = 1#1)), ∀ a, (k0_off21 v375) a + S1x512x256.size a ≤ S1x8192x256.size a := fun k0_t1 v268 v271 v279 v375 k0_hw8 k0_h1 k0_h2 k0_h3 k0_h4 k0_h5 k0_h6 k0_h7 k0_h8 => k0_hw8.2.1 k0_h1 k0_h2 k0_h3 k0_h4 k0_h5 k0_h6 k0_h7 k0_h8
theorem k0_off21_packedbf16 : ∀ (k0_t1 : Fin k0_t1_loop.trips) (v268 : BitVec 32) (v271 : BitVec 32) (v279 : BitVec 32) (v375 : BitVec 32) (k0_hw8 : k0_chk8 k0_t1 v268 v271 v279 v375), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : k0_cond7 k0_t1 v268 v271 v279 = 1#1), ∀ (k0_h8 : ¬(k0_cond8 k0_t1 v268 v271 v279 = 1#1)), (Rect.unit (s := S1x8192x256) (k0_off21 v375) S1x512x256.size (k0_off21_inb k0_t1 v268 v271 v279 v375 k0_hw8 k0_h1 k0_h2 k0_h3 k0_h4 k0_h5 k0_h6 k0_h7 k0_h8)).PackedRows (EltTy.packing .bf16) := fun k0_t1 v268 v271 v279 v375 k0_hw8 k0_h1 k0_h2 k0_h3 k0_h4 k0_h5 k0_h6 k0_h7 k0_h8 => k0_hw8.2.2 k0_h1 k0_h2 k0_h3 k0_h4 k0_h5 k0_h6 k0_h7 k0_h8 (k0_off21_inb k0_t1 v268 v271 v279 v375 k0_hw8 k0_h1 k0_h2 k0_h3 k0_h4 k0_h5 k0_h6 k0_h7 k0_h8)

def k0_off22 (k0_t1 : Fin k0_t1_loop.trips) : Fin 1 → Nat :=
  let c2_i32 : BitVec 32 := 2#32
  let c0_i32_79 : BitVec 32 := 0#32
  let c1_i32_80 : BitVec 32 := 1#32
  let arg22 : BitVec 32 := Scf.iv c0_i32_79 c1_i32_80 k0_t1
  let v266 : BitVec 32 := Scalar.muli c2_i32 arg22
  let v437 : Index := Scalar.indexCast v266
  ![v437.toNat]
def k0_mult15 (v440 : BitVec 32) : BitVec 32 :=
  let c1024_i32_218 : BitVec 32 := 1024#32
  let v446 : BitVec 32 := Scalar.muli v440 c1024_i32_218
  v446

def k0_off23 (v440 : BitVec 32) : Fin 4 → Nat :=
  let c0_219 : Index := 0#32
  let c0_220 : Index := 0#32
  let c0_221 : Index := 0#32
  let c1024_i32_218 : BitVec 32 := 1024#32
  let v446 : BitVec 32 := Scalar.muli v440 c1024_i32_218
  let v447 : BitVec 32 := v446
  let v448 : Index := Scalar.indexCast v447
  ![0, 0, 0, v448.toNat]

def k0_chk9 (k0_t1 : Fin k0_t1_loop.trips) (v268 : BitVec 32) (v271 : BitVec 32) (v279 : BitVec 32) (v440 : BitVec 32) : Prop :=
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : k0_cond7 k0_t1 v268 v271 v279 = 1#1), ∀ (k0_h8 : ¬(k0_cond8 k0_t1 v268 v271 v279 = 1#1)), 1024 ∣ (k0_mult15 v440).toNat) ∧
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : k0_cond7 k0_t1 v268 v271 v279 = 1#1), ∀ (k0_h8 : ¬(k0_cond8 k0_t1 v268 v271 v279 = 1#1)), ∀ a, (k0_off23 v440) a + S1x1x272x1024.size a ≤ S1x1x272x8192.size a)
theorem k0_mult15_dvd : ∀ (k0_t1 : Fin k0_t1_loop.trips) (v268 : BitVec 32) (v271 : BitVec 32) (v279 : BitVec 32) (v440 : BitVec 32) (k0_hw9 : k0_chk9 k0_t1 v268 v271 v279 v440), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : k0_cond7 k0_t1 v268 v271 v279 = 1#1), ∀ (k0_h8 : ¬(k0_cond8 k0_t1 v268 v271 v279 = 1#1)), 1024 ∣ (k0_mult15 v440).toNat := fun k0_t1 v268 v271 v279 v440 k0_hw9 k0_h1 k0_h2 k0_h3 k0_h4 k0_h5 k0_h6 k0_h7 k0_h8 => k0_hw9.1 k0_h1 k0_h2 k0_h3 k0_h4 k0_h5 k0_h6 k0_h7 k0_h8
theorem k0_off23_inb : ∀ (k0_t1 : Fin k0_t1_loop.trips) (v268 : BitVec 32) (v271 : BitVec 32) (v279 : BitVec 32) (v440 : BitVec 32) (k0_hw9 : k0_chk9 k0_t1 v268 v271 v279 v440), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : k0_cond7 k0_t1 v268 v271 v279 = 1#1), ∀ (k0_h8 : ¬(k0_cond8 k0_t1 v268 v271 v279 = 1#1)), ∀ a, (k0_off23 v440) a + S1x1x272x1024.size a ≤ S1x1x272x8192.size a := fun k0_t1 v268 v271 v279 v440 k0_hw9 k0_h1 k0_h2 k0_h3 k0_h4 k0_h5 k0_h6 k0_h7 k0_h8 => k0_hw9.2 k0_h1 k0_h2 k0_h3 k0_h4 k0_h5 k0_h6 k0_h7 k0_h8

def k0_off24 (k0_t1 : Fin k0_t1_loop.trips) : Fin 1 → Nat :=
  let c2_i32 : BitVec 32 := 2#32
  let c0_i32_79 : BitVec 32 := 0#32
  let c1_i32_80 : BitVec 32 := 1#32
  let arg22 : BitVec 32 := Scf.iv c0_i32_79 c1_i32_80 k0_t1
  let v266 : BitVec 32 := Scalar.muli c2_i32 arg22
  let c1_i32_144 : BitVec 32 := 1#32
  let v317 : BitVec 32 := Scalar.addi v266 c1_i32_144
  let v318 : Index := Scalar.indexCast v317
  ![v318.toNat]
def k0_mult16 (v321 : BitVec 32) : BitVec 32 :=
  let c1024_i32_145 : BitVec 32 := 1024#32
  let v322 : BitVec 32 := Scalar.muli v321 c1024_i32_145
  v322

def k0_off25 (v321 : BitVec 32) : Fin 3 → Nat :=
  let c0_146 : Index := 0#32
  let c1024_i32_145 : BitVec 32 := 1024#32
  let v322 : BitVec 32 := Scalar.muli v321 c1024_i32_145
  let v323 : BitVec 32 := v322
  let v324 : Index := Scalar.indexCast v323
  let c0_147 : Index := 0#32
  ![0, v324.toNat, 0]
def k0_mult17 (v319 : BitVec 32) : BitVec 32 :=
  let c512_i32_150 : BitVec 32 := 512#32
  let v329 : BitVec 32 := Scalar.muli v319 c512_i32_150
  v329

def k0_off26 (v319 : BitVec 32) : Fin 3 → Nat :=
  let c0_151 : Index := 0#32
  let c512_i32_150 : BitVec 32 := 512#32
  let v329 : BitVec 32 := Scalar.muli v319 c512_i32_150
  let v330 : BitVec 32 := v329
  let v331 : Index := Scalar.indexCast v330
  let c0_152 : Index := 0#32
  ![0, v331.toNat, 0]
def k0_mult18 (v321 : BitVec 32) : BitVec 32 :=
  let c1024_i32_165 : BitVec 32 := 1024#32
  let v347 : BitVec 32 := Scalar.muli v321 c1024_i32_165
  v347
def k0_off27 (v321 : BitVec 32) : Fin 3 → Nat :=
  let c0_166 : Index := 0#32
  let c1024_i32_165 : BitVec 32 := 1024#32
  let v347 : BitVec 32 := Scalar.muli v321 c1024_i32_165
  let v348 : BitVec 32 := v347
  let v349 : Index := Scalar.indexCast v348
  let c128_167 : Index := 128#32
  ![0, v349.toNat, 128]

def k0_chk10 (k0_t1 : Fin k0_t1_loop.trips) (v268 : BitVec 32) (v271 : BitVec 32) (v279 : BitVec 32) (v321 : BitVec 32) : Prop :=
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : ¬(k0_cond7 k0_t1 v268 v271 v279 = 1#1)), 1024 ∣ (k0_mult16 v321).toNat) ∧
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : ¬(k0_cond7 k0_t1 v268 v271 v279 = 1#1)), ∀ a, (k0_off25 v321) a + S1x512x128.size a ≤ S1x8192x256.size a) ∧
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : ¬(k0_cond7 k0_t1 v268 v271 v279 = 1#1)), 1024 ∣ (k0_mult18 v321).toNat) ∧
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : ¬(k0_cond7 k0_t1 v268 v271 v279 = 1#1)), ∀ a, (k0_off27 v321) a + S1x512x128.size a ≤ S1x8192x256.size a)
theorem k0_mult16_dvd : ∀ (k0_t1 : Fin k0_t1_loop.trips) (v268 : BitVec 32) (v271 : BitVec 32) (v279 : BitVec 32) (v321 : BitVec 32) (k0_hw10 : k0_chk10 k0_t1 v268 v271 v279 v321), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : ¬(k0_cond7 k0_t1 v268 v271 v279 = 1#1)), 1024 ∣ (k0_mult16 v321).toNat := fun k0_t1 v268 v271 v279 v321 k0_hw10 k0_h1 k0_h2 k0_h3 k0_h4 k0_h5 k0_h6 k0_h7 => k0_hw10.1 k0_h1 k0_h2 k0_h3 k0_h4 k0_h5 k0_h6 k0_h7
theorem k0_off25_inb : ∀ (k0_t1 : Fin k0_t1_loop.trips) (v268 : BitVec 32) (v271 : BitVec 32) (v279 : BitVec 32) (v321 : BitVec 32) (k0_hw10 : k0_chk10 k0_t1 v268 v271 v279 v321), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : ¬(k0_cond7 k0_t1 v268 v271 v279 = 1#1)), ∀ a, (k0_off25 v321) a + S1x512x128.size a ≤ S1x8192x256.size a := fun k0_t1 v268 v271 v279 v321 k0_hw10 k0_h1 k0_h2 k0_h3 k0_h4 k0_h5 k0_h6 k0_h7 => k0_hw10.2.1 k0_h1 k0_h2 k0_h3 k0_h4 k0_h5 k0_h6 k0_h7
theorem k0_mult18_dvd : ∀ (k0_t1 : Fin k0_t1_loop.trips) (v268 : BitVec 32) (v271 : BitVec 32) (v279 : BitVec 32) (v321 : BitVec 32) (k0_hw10 : k0_chk10 k0_t1 v268 v271 v279 v321), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : ¬(k0_cond7 k0_t1 v268 v271 v279 = 1#1)), 1024 ∣ (k0_mult18 v321).toNat := fun k0_t1 v268 v271 v279 v321 k0_hw10 k0_h1 k0_h2 k0_h3 k0_h4 k0_h5 k0_h6 k0_h7 => k0_hw10.2.2.1 k0_h1 k0_h2 k0_h3 k0_h4 k0_h5 k0_h6 k0_h7
theorem k0_off27_inb : ∀ (k0_t1 : Fin k0_t1_loop.trips) (v268 : BitVec 32) (v271 : BitVec 32) (v279 : BitVec 32) (v321 : BitVec 32) (k0_hw10 : k0_chk10 k0_t1 v268 v271 v279 v321), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : ¬(k0_cond7 k0_t1 v268 v271 v279 = 1#1)), ∀ a, (k0_off27 v321) a + S1x512x128.size a ≤ S1x8192x256.size a := fun k0_t1 v268 v271 v279 v321 k0_hw10 k0_h1 k0_h2 k0_h3 k0_h4 k0_h5 k0_h6 k0_h7 => k0_hw10.2.2.2 k0_h1 k0_h2 k0_h3 k0_h4 k0_h5 k0_h6 k0_h7

def k0_mult19 (v319 : BitVec 32) : BitVec 32 :=
  let c512_i32_170 : BitVec 32 := 512#32
  let v354 : BitVec 32 := Scalar.muli v319 c512_i32_170
  v354
def k0_off28 (v319 : BitVec 32) : Fin 3 → Nat :=
  let c0_171 : Index := 0#32
  let c512_i32_170 : BitVec 32 := 512#32
  let v354 : BitVec 32 := Scalar.muli v319 c512_i32_170
  let v355 : BitVec 32 := v354
  let v356 : Index := Scalar.indexCast v355
  let c128_172 : Index := 128#32
  ![0, v356.toNat, 128]

def k0_chk11 (k0_t1 : Fin k0_t1_loop.trips) (v268 : BitVec 32) (v271 : BitVec 32) (v279 : BitVec 32) (v319 : BitVec 32) : Prop :=
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : ¬(k0_cond7 k0_t1 v268 v271 v279 = 1#1)), 512 ∣ (k0_mult17 v319).toNat) ∧
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : ¬(k0_cond7 k0_t1 v268 v271 v279 = 1#1)), ∀ a, (k0_off26 v319) a + S1x512x128.size a ≤ S1x8192x256.size a) ∧
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : ¬(k0_cond7 k0_t1 v268 v271 v279 = 1#1)), 512 ∣ (k0_mult19 v319).toNat) ∧
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : ¬(k0_cond7 k0_t1 v268 v271 v279 = 1#1)), ∀ a, (k0_off28 v319) a + S1x512x128.size a ≤ S1x8192x256.size a)
theorem k0_mult17_dvd : ∀ (k0_t1 : Fin k0_t1_loop.trips) (v268 : BitVec 32) (v271 : BitVec 32) (v279 : BitVec 32) (v319 : BitVec 32) (k0_hw11 : k0_chk11 k0_t1 v268 v271 v279 v319), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : ¬(k0_cond7 k0_t1 v268 v271 v279 = 1#1)), 512 ∣ (k0_mult17 v319).toNat := fun k0_t1 v268 v271 v279 v319 k0_hw11 k0_h1 k0_h2 k0_h3 k0_h4 k0_h5 k0_h6 k0_h7 => k0_hw11.1 k0_h1 k0_h2 k0_h3 k0_h4 k0_h5 k0_h6 k0_h7
theorem k0_off26_inb : ∀ (k0_t1 : Fin k0_t1_loop.trips) (v268 : BitVec 32) (v271 : BitVec 32) (v279 : BitVec 32) (v319 : BitVec 32) (k0_hw11 : k0_chk11 k0_t1 v268 v271 v279 v319), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : ¬(k0_cond7 k0_t1 v268 v271 v279 = 1#1)), ∀ a, (k0_off26 v319) a + S1x512x128.size a ≤ S1x8192x256.size a := fun k0_t1 v268 v271 v279 v319 k0_hw11 k0_h1 k0_h2 k0_h3 k0_h4 k0_h5 k0_h6 k0_h7 => k0_hw11.2.1 k0_h1 k0_h2 k0_h3 k0_h4 k0_h5 k0_h6 k0_h7
theorem k0_mult19_dvd : ∀ (k0_t1 : Fin k0_t1_loop.trips) (v268 : BitVec 32) (v271 : BitVec 32) (v279 : BitVec 32) (v319 : BitVec 32) (k0_hw11 : k0_chk11 k0_t1 v268 v271 v279 v319), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : ¬(k0_cond7 k0_t1 v268 v271 v279 = 1#1)), 512 ∣ (k0_mult19 v319).toNat := fun k0_t1 v268 v271 v279 v319 k0_hw11 k0_h1 k0_h2 k0_h3 k0_h4 k0_h5 k0_h6 k0_h7 => k0_hw11.2.2.1 k0_h1 k0_h2 k0_h3 k0_h4 k0_h5 k0_h6 k0_h7
theorem k0_off28_inb : ∀ (k0_t1 : Fin k0_t1_loop.trips) (v268 : BitVec 32) (v271 : BitVec 32) (v279 : BitVec 32) (v319 : BitVec 32) (k0_hw11 : k0_chk11 k0_t1 v268 v271 v279 v319), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : ¬(k0_cond7 k0_t1 v268 v271 v279 = 1#1)), ∀ a, (k0_off28 v319) a + S1x512x128.size a ≤ S1x8192x256.size a := fun k0_t1 v268 v271 v279 v319 k0_hw11 k0_h1 k0_h2 k0_h3 k0_h4 k0_h5 k0_h6 k0_h7 => k0_hw11.2.2.2 k0_h1 k0_h2 k0_h3 k0_h4 k0_h5 k0_h6 k0_h7

def k0_off29 (k0_t1 : Fin k0_t1_loop.trips) : Fin 1 → Nat :=
  let c2_i32 : BitVec 32 := 2#32
  let c0_i32_79 : BitVec 32 := 0#32
  let c1_i32_80 : BitVec 32 := 1#32
  let arg22 : BitVec 32 := Scf.iv c0_i32_79 c1_i32_80 k0_t1
  let v266 : BitVec 32 := Scalar.muli c2_i32 arg22
  let v372 : Index := Scalar.indexCast v266
  ![v372.toNat]
def k0_mult20 (v375 : BitVec 32) : BitVec 32 :=
  let c1024_i32_187 : BitVec 32 := 1024#32
  let v381 : BitVec 32 := Scalar.muli v375 c1024_i32_187
  v381

def k0_off30 (v375 : BitVec 32) : Fin 4 → Nat :=
  let c0_188 : Index := 0#32
  let c0_189 : Index := 0#32
  let c0_190 : Index := 0#32
  let c1024_i32_187 : BitVec 32 := 1024#32
  let v381 : BitVec 32 := Scalar.muli v375 c1024_i32_187
  let v382 : BitVec 32 := v381
  let v383 : Index := Scalar.indexCast v382
  ![0, 0, 0, v383.toNat]

def k0_chk12 (k0_t1 : Fin k0_t1_loop.trips) (v268 : BitVec 32) (v271 : BitVec 32) (v279 : BitVec 32) (v375 : BitVec 32) : Prop :=
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : ¬(k0_cond7 k0_t1 v268 v271 v279 = 1#1)), 1024 ∣ (k0_mult20 v375).toNat) ∧
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : ¬(k0_cond7 k0_t1 v268 v271 v279 = 1#1)), ∀ a, (k0_off30 v375) a + S1x1x272x1024.size a ≤ S1x1x272x8192.size a)
theorem k0_mult20_dvd : ∀ (k0_t1 : Fin k0_t1_loop.trips) (v268 : BitVec 32) (v271 : BitVec 32) (v279 : BitVec 32) (v375 : BitVec 32) (k0_hw12 : k0_chk12 k0_t1 v268 v271 v279 v375), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : ¬(k0_cond7 k0_t1 v268 v271 v279 = 1#1)), 1024 ∣ (k0_mult20 v375).toNat := fun k0_t1 v268 v271 v279 v375 k0_hw12 k0_h1 k0_h2 k0_h3 k0_h4 k0_h5 k0_h6 k0_h7 => k0_hw12.1 k0_h1 k0_h2 k0_h3 k0_h4 k0_h5 k0_h6 k0_h7
theorem k0_off30_inb : ∀ (k0_t1 : Fin k0_t1_loop.trips) (v268 : BitVec 32) (v271 : BitVec 32) (v279 : BitVec 32) (v375 : BitVec 32) (k0_hw12 : k0_chk12 k0_t1 v268 v271 v279 v375), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : k0_cond6 k0_t1 v268 v271 v279 = 1#1), ∀ (k0_h7 : ¬(k0_cond7 k0_t1 v268 v271 v279 = 1#1)), ∀ a, (k0_off30 v375) a + S1x1x272x1024.size a ≤ S1x1x272x8192.size a := fun k0_t1 v268 v271 v279 v375 k0_hw12 k0_h1 k0_h2 k0_h3 k0_h4 k0_h5 k0_h6 k0_h7 => k0_hw12.2 k0_h1 k0_h2 k0_h3 k0_h4 k0_h5 k0_h6 k0_h7

def k0_off31 (k0_t1 : Fin k0_t1_loop.trips) : Fin 1 → Nat :=
  let c2_i32 : BitVec 32 := 2#32
  let c0_i32_79 : BitVec 32 := 0#32
  let c1_i32_80 : BitVec 32 := 1#32
  let arg22 : BitVec 32 := Scf.iv c0_i32_79 c1_i32_80 k0_t1
  let v266 : BitVec 32 := Scalar.muli c2_i32 arg22
  let c1_i32_142 : BitVec 32 := 1#32
  let v315 : BitVec 32 := Scalar.addi v266 c1_i32_142
  let v316 : Index := Scalar.indexCast v315
  ![v316.toNat]
def k0_mult21 (v319 : BitVec 32) : BitVec 32 :=
  let c1024_i32_143 : BitVec 32 := 1024#32
  let v320 : BitVec 32 := Scalar.muli v319 c1024_i32_143
  v320

def k0_off32 (v319 : BitVec 32) : Fin 3 → Nat :=
  let c0_144 : Index := 0#32
  let c1024_i32_143 : BitVec 32 := 1024#32
  let v320 : BitVec 32 := Scalar.muli v319 c1024_i32_143
  let v321 : BitVec 32 := v320
  let v322 : Index := Scalar.indexCast v321
  let c0_145 : Index := 0#32
  ![0, v322.toNat, 0]
def k0_mult22 (v317 : BitVec 32) : BitVec 32 :=
  let c512_i32_148 : BitVec 32 := 512#32
  let v327 : BitVec 32 := Scalar.muli v317 c512_i32_148
  v327

def k0_off33 (v317 : BitVec 32) : Fin 3 → Nat :=
  let c0_149 : Index := 0#32
  let c512_i32_148 : BitVec 32 := 512#32
  let v327 : BitVec 32 := Scalar.muli v317 c512_i32_148
  let v328 : BitVec 32 := v327
  let v329 : Index := Scalar.indexCast v328
  let c0_150 : Index := 0#32
  ![0, v329.toNat, 0]
def k0_mult23 (v319 : BitVec 32) : BitVec 32 :=
  let c1024_i32_166 : BitVec 32 := 1024#32
  let v354 : BitVec 32 := Scalar.muli v319 c1024_i32_166
  v354
def k0_off34 (v319 : BitVec 32) : Fin 3 → Nat :=
  let c0_167 : Index := 0#32
  let c1024_i32_166 : BitVec 32 := 1024#32
  let v354 : BitVec 32 := Scalar.muli v319 c1024_i32_166
  let v355 : BitVec 32 := v354
  let v356 : Index := Scalar.indexCast v355
  let c128_168 : Index := 128#32
  ![0, v356.toNat, 128]

def k0_chk13 (k0_t1 : Fin k0_t1_loop.trips) (v268 : BitVec 32) (v271 : BitVec 32) (v279 : BitVec 32) (v319 : BitVec 32) : Prop :=
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : ¬(k0_cond6 k0_t1 v268 v271 v279 = 1#1)), 1024 ∣ (k0_mult21 v319).toNat) ∧
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : ¬(k0_cond6 k0_t1 v268 v271 v279 = 1#1)), ∀ a, (k0_off32 v319) a + S1x1024x128.size a ≤ S1x8192x256.size a) ∧
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : ¬(k0_cond6 k0_t1 v268 v271 v279 = 1#1)), 1024 ∣ (k0_mult23 v319).toNat) ∧
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : ¬(k0_cond6 k0_t1 v268 v271 v279 = 1#1)), ∀ a, (k0_off34 v319) a + S1x1024x128.size a ≤ S1x8192x256.size a)
theorem k0_mult21_dvd : ∀ (k0_t1 : Fin k0_t1_loop.trips) (v268 : BitVec 32) (v271 : BitVec 32) (v279 : BitVec 32) (v319 : BitVec 32) (k0_hw13 : k0_chk13 k0_t1 v268 v271 v279 v319), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : ¬(k0_cond6 k0_t1 v268 v271 v279 = 1#1)), 1024 ∣ (k0_mult21 v319).toNat := fun k0_t1 v268 v271 v279 v319 k0_hw13 k0_h1 k0_h2 k0_h3 k0_h4 k0_h5 k0_h6 => k0_hw13.1 k0_h1 k0_h2 k0_h3 k0_h4 k0_h5 k0_h6
theorem k0_off32_inb : ∀ (k0_t1 : Fin k0_t1_loop.trips) (v268 : BitVec 32) (v271 : BitVec 32) (v279 : BitVec 32) (v319 : BitVec 32) (k0_hw13 : k0_chk13 k0_t1 v268 v271 v279 v319), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : ¬(k0_cond6 k0_t1 v268 v271 v279 = 1#1)), ∀ a, (k0_off32 v319) a + S1x1024x128.size a ≤ S1x8192x256.size a := fun k0_t1 v268 v271 v279 v319 k0_hw13 k0_h1 k0_h2 k0_h3 k0_h4 k0_h5 k0_h6 => k0_hw13.2.1 k0_h1 k0_h2 k0_h3 k0_h4 k0_h5 k0_h6
theorem k0_mult23_dvd : ∀ (k0_t1 : Fin k0_t1_loop.trips) (v268 : BitVec 32) (v271 : BitVec 32) (v279 : BitVec 32) (v319 : BitVec 32) (k0_hw13 : k0_chk13 k0_t1 v268 v271 v279 v319), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : ¬(k0_cond6 k0_t1 v268 v271 v279 = 1#1)), 1024 ∣ (k0_mult23 v319).toNat := fun k0_t1 v268 v271 v279 v319 k0_hw13 k0_h1 k0_h2 k0_h3 k0_h4 k0_h5 k0_h6 => k0_hw13.2.2.1 k0_h1 k0_h2 k0_h3 k0_h4 k0_h5 k0_h6
theorem k0_off34_inb : ∀ (k0_t1 : Fin k0_t1_loop.trips) (v268 : BitVec 32) (v271 : BitVec 32) (v279 : BitVec 32) (v319 : BitVec 32) (k0_hw13 : k0_chk13 k0_t1 v268 v271 v279 v319), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : ¬(k0_cond6 k0_t1 v268 v271 v279 = 1#1)), ∀ a, (k0_off34 v319) a + S1x1024x128.size a ≤ S1x8192x256.size a := fun k0_t1 v268 v271 v279 v319 k0_hw13 k0_h1 k0_h2 k0_h3 k0_h4 k0_h5 k0_h6 => k0_hw13.2.2.2 k0_h1 k0_h2 k0_h3 k0_h4 k0_h5 k0_h6

def k0_mult24 (v317 : BitVec 32) : BitVec 32 :=
  let c512_i32_171 : BitVec 32 := 512#32
  let v361 : BitVec 32 := Scalar.muli v317 c512_i32_171
  v361
def k0_off35 (v317 : BitVec 32) : Fin 3 → Nat :=
  let c0_172 : Index := 0#32
  let c512_i32_171 : BitVec 32 := 512#32
  let v361 : BitVec 32 := Scalar.muli v317 c512_i32_171
  let v362 : BitVec 32 := v361
  let v363 : Index := Scalar.indexCast v362
  let c128_173 : Index := 128#32
  ![0, v363.toNat, 128]

def k0_chk14 (k0_t1 : Fin k0_t1_loop.trips) (v268 : BitVec 32) (v271 : BitVec 32) (v279 : BitVec 32) (v317 : BitVec 32) : Prop :=
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : ¬(k0_cond6 k0_t1 v268 v271 v279 = 1#1)), 512 ∣ (k0_mult22 v317).toNat) ∧
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : ¬(k0_cond6 k0_t1 v268 v271 v279 = 1#1)), ∀ a, (k0_off33 v317) a + S1x512x128.size a ≤ S1x8192x256.size a) ∧
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : ¬(k0_cond6 k0_t1 v268 v271 v279 = 1#1)), 512 ∣ (k0_mult24 v317).toNat) ∧
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : ¬(k0_cond6 k0_t1 v268 v271 v279 = 1#1)), ∀ a, (k0_off35 v317) a + S1x512x128.size a ≤ S1x8192x256.size a)
theorem k0_mult22_dvd : ∀ (k0_t1 : Fin k0_t1_loop.trips) (v268 : BitVec 32) (v271 : BitVec 32) (v279 : BitVec 32) (v317 : BitVec 32) (k0_hw14 : k0_chk14 k0_t1 v268 v271 v279 v317), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : ¬(k0_cond6 k0_t1 v268 v271 v279 = 1#1)), 512 ∣ (k0_mult22 v317).toNat := fun k0_t1 v268 v271 v279 v317 k0_hw14 k0_h1 k0_h2 k0_h3 k0_h4 k0_h5 k0_h6 => k0_hw14.1 k0_h1 k0_h2 k0_h3 k0_h4 k0_h5 k0_h6
theorem k0_off33_inb : ∀ (k0_t1 : Fin k0_t1_loop.trips) (v268 : BitVec 32) (v271 : BitVec 32) (v279 : BitVec 32) (v317 : BitVec 32) (k0_hw14 : k0_chk14 k0_t1 v268 v271 v279 v317), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : ¬(k0_cond6 k0_t1 v268 v271 v279 = 1#1)), ∀ a, (k0_off33 v317) a + S1x512x128.size a ≤ S1x8192x256.size a := fun k0_t1 v268 v271 v279 v317 k0_hw14 k0_h1 k0_h2 k0_h3 k0_h4 k0_h5 k0_h6 => k0_hw14.2.1 k0_h1 k0_h2 k0_h3 k0_h4 k0_h5 k0_h6
theorem k0_mult24_dvd : ∀ (k0_t1 : Fin k0_t1_loop.trips) (v268 : BitVec 32) (v271 : BitVec 32) (v279 : BitVec 32) (v317 : BitVec 32) (k0_hw14 : k0_chk14 k0_t1 v268 v271 v279 v317), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : ¬(k0_cond6 k0_t1 v268 v271 v279 = 1#1)), 512 ∣ (k0_mult24 v317).toNat := fun k0_t1 v268 v271 v279 v317 k0_hw14 k0_h1 k0_h2 k0_h3 k0_h4 k0_h5 k0_h6 => k0_hw14.2.2.1 k0_h1 k0_h2 k0_h3 k0_h4 k0_h5 k0_h6
theorem k0_off35_inb : ∀ (k0_t1 : Fin k0_t1_loop.trips) (v268 : BitVec 32) (v271 : BitVec 32) (v279 : BitVec 32) (v317 : BitVec 32) (k0_hw14 : k0_chk14 k0_t1 v268 v271 v279 v317), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : ¬(k0_cond6 k0_t1 v268 v271 v279 = 1#1)), ∀ a, (k0_off35 v317) a + S1x512x128.size a ≤ S1x8192x256.size a := fun k0_t1 v268 v271 v279 v317 k0_hw14 k0_h1 k0_h2 k0_h3 k0_h4 k0_h5 k0_h6 => k0_hw14.2.2.2 k0_h1 k0_h2 k0_h3 k0_h4 k0_h5 k0_h6

def k0_off36 (k0_t1 : Fin k0_t1_loop.trips) : Fin 1 → Nat :=
  let c2_i32 : BitVec 32 := 2#32
  let c0_i32_79 : BitVec 32 := 0#32
  let c1_i32_80 : BitVec 32 := 1#32
  let arg22 : BitVec 32 := Scf.iv c0_i32_79 c1_i32_80 k0_t1
  let v266 : BitVec 32 := Scalar.muli c2_i32 arg22
  let v388 : Index := Scalar.indexCast v266
  ![v388.toNat]
def k0_mult25 (v391 : BitVec 32) : BitVec 32 :=
  let c1024_i32_192 : BitVec 32 := 1024#32
  let v397 : BitVec 32 := Scalar.muli v391 c1024_i32_192
  v397

def k0_off37 (v391 : BitVec 32) : Fin 4 → Nat :=
  let c0_193 : Index := 0#32
  let c0_194 : Index := 0#32
  let c0_195 : Index := 0#32
  let c1024_i32_192 : BitVec 32 := 1024#32
  let v397 : BitVec 32 := Scalar.muli v391 c1024_i32_192
  let v398 : BitVec 32 := v397
  let v399 : Index := Scalar.indexCast v398
  ![0, 0, 0, v399.toNat]

def k0_chk15 (k0_t1 : Fin k0_t1_loop.trips) (v268 : BitVec 32) (v271 : BitVec 32) (v279 : BitVec 32) (v391 : BitVec 32) : Prop :=
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : ¬(k0_cond6 k0_t1 v268 v271 v279 = 1#1)), 1024 ∣ (k0_mult25 v391).toNat) ∧
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : ¬(k0_cond6 k0_t1 v268 v271 v279 = 1#1)), ∀ a, (k0_off37 v391) a + S1x1x272x512.size a ≤ S1x1x272x8192.size a)
theorem k0_mult25_dvd : ∀ (k0_t1 : Fin k0_t1_loop.trips) (v268 : BitVec 32) (v271 : BitVec 32) (v279 : BitVec 32) (v391 : BitVec 32) (k0_hw15 : k0_chk15 k0_t1 v268 v271 v279 v391), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : ¬(k0_cond6 k0_t1 v268 v271 v279 = 1#1)), 1024 ∣ (k0_mult25 v391).toNat := fun k0_t1 v268 v271 v279 v391 k0_hw15 k0_h1 k0_h2 k0_h3 k0_h4 k0_h5 k0_h6 => k0_hw15.1 k0_h1 k0_h2 k0_h3 k0_h4 k0_h5 k0_h6
theorem k0_off37_inb : ∀ (k0_t1 : Fin k0_t1_loop.trips) (v268 : BitVec 32) (v271 : BitVec 32) (v279 : BitVec 32) (v391 : BitVec 32) (k0_hw15 : k0_chk15 k0_t1 v268 v271 v279 v391), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : k0_cond5 k0_t1 v268 v271 v279 = 1#1), ∀ (k0_h6 : ¬(k0_cond6 k0_t1 v268 v271 v279 = 1#1)), ∀ a, (k0_off37 v391) a + S1x1x272x512.size a ≤ S1x1x272x8192.size a := fun k0_t1 v268 v271 v279 v391 k0_hw15 k0_h1 k0_h2 k0_h3 k0_h4 k0_h5 k0_h6 => k0_hw15.2 k0_h1 k0_h2 k0_h3 k0_h4 k0_h5 k0_h6

def k0_off38 (k0_t1 : Fin k0_t1_loop.trips) : Fin 1 → Nat :=
  let c2_i32 : BitVec 32 := 2#32
  let c0_i32_79 : BitVec 32 := 0#32
  let c1_i32_80 : BitVec 32 := 1#32
  let arg22 : BitVec 32 := Scf.iv c0_i32_79 c1_i32_80 k0_t1
  let v266 : BitVec 32 := Scalar.muli c2_i32 arg22
  let c1_i32_140 : BitVec 32 := 1#32
  let v313 : BitVec 32 := Scalar.addi v266 c1_i32_140
  let v314 : Index := Scalar.indexCast v313
  ![v314.toNat]
def k0_mult26 (v317 : BitVec 32) : BitVec 32 :=
  let c1024_i32_141 : BitVec 32 := 1024#32
  let v318 : BitVec 32 := Scalar.muli v317 c1024_i32_141
  v318

def k0_off39 (v317 : BitVec 32) : Fin 3 → Nat :=
  let c0_142 : Index := 0#32
  let c1024_i32_141 : BitVec 32 := 1024#32
  let v318 : BitVec 32 := Scalar.muli v317 c1024_i32_141
  let v319 : BitVec 32 := v318
  let v320 : Index := Scalar.indexCast v319
  let c0_143 : Index := 0#32
  ![0, v320.toNat, 0]
def k0_mult27 (v315 : BitVec 32) : BitVec 32 :=
  let c512_i32_146 : BitVec 32 := 512#32
  let v325 : BitVec 32 := Scalar.muli v315 c512_i32_146
  v325

def k0_off40 (v315 : BitVec 32) : Fin 3 → Nat :=
  let c0_147 : Index := 0#32
  let c512_i32_146 : BitVec 32 := 512#32
  let v325 : BitVec 32 := Scalar.muli v315 c512_i32_146
  let v326 : BitVec 32 := v325
  let v327 : Index := Scalar.indexCast v326
  let c0_148 : Index := 0#32
  ![0, v327.toNat, 0]
def k0_mult28 (v317 : BitVec 32) : BitVec 32 :=
  let c1024_i32_164 : BitVec 32 := 1024#32
  let v352 : BitVec 32 := Scalar.muli v317 c1024_i32_164
  v352
def k0_off41 (v317 : BitVec 32) : Fin 3 → Nat :=
  let c0_165 : Index := 0#32
  let c1024_i32_164 : BitVec 32 := 1024#32
  let v352 : BitVec 32 := Scalar.muli v317 c1024_i32_164
  let v353 : BitVec 32 := v352
  let v354 : Index := Scalar.indexCast v353
  let c128_166 : Index := 128#32
  ![0, v354.toNat, 128]

def k0_chk16 (k0_t1 : Fin k0_t1_loop.trips) (v268 : BitVec 32) (v271 : BitVec 32) (v279 : BitVec 32) (v317 : BitVec 32) : Prop :=
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : ¬(k0_cond5 k0_t1 v268 v271 v279 = 1#1)), 1024 ∣ (k0_mult26 v317).toNat) ∧
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : ¬(k0_cond5 k0_t1 v268 v271 v279 = 1#1)), ∀ a, (k0_off39 v317) a + S1x1024x128.size a ≤ S1x8192x256.size a) ∧
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : ¬(k0_cond5 k0_t1 v268 v271 v279 = 1#1)), 1024 ∣ (k0_mult28 v317).toNat) ∧
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : ¬(k0_cond5 k0_t1 v268 v271 v279 = 1#1)), ∀ a, (k0_off41 v317) a + S1x1024x128.size a ≤ S1x8192x256.size a)
theorem k0_mult26_dvd : ∀ (k0_t1 : Fin k0_t1_loop.trips) (v268 : BitVec 32) (v271 : BitVec 32) (v279 : BitVec 32) (v317 : BitVec 32) (k0_hw16 : k0_chk16 k0_t1 v268 v271 v279 v317), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : ¬(k0_cond5 k0_t1 v268 v271 v279 = 1#1)), 1024 ∣ (k0_mult26 v317).toNat := fun k0_t1 v268 v271 v279 v317 k0_hw16 k0_h1 k0_h2 k0_h3 k0_h4 k0_h5 => k0_hw16.1 k0_h1 k0_h2 k0_h3 k0_h4 k0_h5
theorem k0_off39_inb : ∀ (k0_t1 : Fin k0_t1_loop.trips) (v268 : BitVec 32) (v271 : BitVec 32) (v279 : BitVec 32) (v317 : BitVec 32) (k0_hw16 : k0_chk16 k0_t1 v268 v271 v279 v317), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : ¬(k0_cond5 k0_t1 v268 v271 v279 = 1#1)), ∀ a, (k0_off39 v317) a + S1x1024x128.size a ≤ S1x8192x256.size a := fun k0_t1 v268 v271 v279 v317 k0_hw16 k0_h1 k0_h2 k0_h3 k0_h4 k0_h5 => k0_hw16.2.1 k0_h1 k0_h2 k0_h3 k0_h4 k0_h5
theorem k0_mult28_dvd : ∀ (k0_t1 : Fin k0_t1_loop.trips) (v268 : BitVec 32) (v271 : BitVec 32) (v279 : BitVec 32) (v317 : BitVec 32) (k0_hw16 : k0_chk16 k0_t1 v268 v271 v279 v317), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : ¬(k0_cond5 k0_t1 v268 v271 v279 = 1#1)), 1024 ∣ (k0_mult28 v317).toNat := fun k0_t1 v268 v271 v279 v317 k0_hw16 k0_h1 k0_h2 k0_h3 k0_h4 k0_h5 => k0_hw16.2.2.1 k0_h1 k0_h2 k0_h3 k0_h4 k0_h5
theorem k0_off41_inb : ∀ (k0_t1 : Fin k0_t1_loop.trips) (v268 : BitVec 32) (v271 : BitVec 32) (v279 : BitVec 32) (v317 : BitVec 32) (k0_hw16 : k0_chk16 k0_t1 v268 v271 v279 v317), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : ¬(k0_cond5 k0_t1 v268 v271 v279 = 1#1)), ∀ a, (k0_off41 v317) a + S1x1024x128.size a ≤ S1x8192x256.size a := fun k0_t1 v268 v271 v279 v317 k0_hw16 k0_h1 k0_h2 k0_h3 k0_h4 k0_h5 => k0_hw16.2.2.2 k0_h1 k0_h2 k0_h3 k0_h4 k0_h5

def k0_mult29 (v315 : BitVec 32) : BitVec 32 :=
  let c512_i32_169 : BitVec 32 := 512#32
  let v359 : BitVec 32 := Scalar.muli v315 c512_i32_169
  v359
def k0_off42 (v315 : BitVec 32) : Fin 3 → Nat :=
  let c0_170 : Index := 0#32
  let c512_i32_169 : BitVec 32 := 512#32
  let v359 : BitVec 32 := Scalar.muli v315 c512_i32_169
  let v360 : BitVec 32 := v359
  let v361 : Index := Scalar.indexCast v360
  let c128_171 : Index := 128#32
  ![0, v361.toNat, 128]

def k0_chk17 (k0_t1 : Fin k0_t1_loop.trips) (v268 : BitVec 32) (v271 : BitVec 32) (v279 : BitVec 32) (v315 : BitVec 32) : Prop :=
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : ¬(k0_cond5 k0_t1 v268 v271 v279 = 1#1)), 512 ∣ (k0_mult27 v315).toNat) ∧
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : ¬(k0_cond5 k0_t1 v268 v271 v279 = 1#1)), ∀ a, (k0_off40 v315) a + S1x512x128.size a ≤ S1x8192x256.size a) ∧
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : ¬(k0_cond5 k0_t1 v268 v271 v279 = 1#1)), 512 ∣ (k0_mult29 v315).toNat) ∧
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : ¬(k0_cond5 k0_t1 v268 v271 v279 = 1#1)), ∀ a, (k0_off42 v315) a + S1x512x128.size a ≤ S1x8192x256.size a)
theorem k0_mult27_dvd : ∀ (k0_t1 : Fin k0_t1_loop.trips) (v268 : BitVec 32) (v271 : BitVec 32) (v279 : BitVec 32) (v315 : BitVec 32) (k0_hw17 : k0_chk17 k0_t1 v268 v271 v279 v315), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : ¬(k0_cond5 k0_t1 v268 v271 v279 = 1#1)), 512 ∣ (k0_mult27 v315).toNat := fun k0_t1 v268 v271 v279 v315 k0_hw17 k0_h1 k0_h2 k0_h3 k0_h4 k0_h5 => k0_hw17.1 k0_h1 k0_h2 k0_h3 k0_h4 k0_h5
theorem k0_off40_inb : ∀ (k0_t1 : Fin k0_t1_loop.trips) (v268 : BitVec 32) (v271 : BitVec 32) (v279 : BitVec 32) (v315 : BitVec 32) (k0_hw17 : k0_chk17 k0_t1 v268 v271 v279 v315), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : ¬(k0_cond5 k0_t1 v268 v271 v279 = 1#1)), ∀ a, (k0_off40 v315) a + S1x512x128.size a ≤ S1x8192x256.size a := fun k0_t1 v268 v271 v279 v315 k0_hw17 k0_h1 k0_h2 k0_h3 k0_h4 k0_h5 => k0_hw17.2.1 k0_h1 k0_h2 k0_h3 k0_h4 k0_h5
theorem k0_mult29_dvd : ∀ (k0_t1 : Fin k0_t1_loop.trips) (v268 : BitVec 32) (v271 : BitVec 32) (v279 : BitVec 32) (v315 : BitVec 32) (k0_hw17 : k0_chk17 k0_t1 v268 v271 v279 v315), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : ¬(k0_cond5 k0_t1 v268 v271 v279 = 1#1)), 512 ∣ (k0_mult29 v315).toNat := fun k0_t1 v268 v271 v279 v315 k0_hw17 k0_h1 k0_h2 k0_h3 k0_h4 k0_h5 => k0_hw17.2.2.1 k0_h1 k0_h2 k0_h3 k0_h4 k0_h5
theorem k0_off42_inb : ∀ (k0_t1 : Fin k0_t1_loop.trips) (v268 : BitVec 32) (v271 : BitVec 32) (v279 : BitVec 32) (v315 : BitVec 32) (k0_hw17 : k0_chk17 k0_t1 v268 v271 v279 v315), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : ¬(k0_cond5 k0_t1 v268 v271 v279 = 1#1)), ∀ a, (k0_off42 v315) a + S1x512x128.size a ≤ S1x8192x256.size a := fun k0_t1 v268 v271 v279 v315 k0_hw17 k0_h1 k0_h2 k0_h3 k0_h4 k0_h5 => k0_hw17.2.2.2 k0_h1 k0_h2 k0_h3 k0_h4 k0_h5

def k0_off43 (k0_t1 : Fin k0_t1_loop.trips) : Fin 1 → Nat :=
  let c2_i32 : BitVec 32 := 2#32
  let c0_i32_79 : BitVec 32 := 0#32
  let c1_i32_80 : BitVec 32 := 1#32
  let arg22 : BitVec 32 := Scf.iv c0_i32_79 c1_i32_80 k0_t1
  let v266 : BitVec 32 := Scalar.muli c2_i32 arg22
  let v386 : Index := Scalar.indexCast v266
  ![v386.toNat]
def k0_mult30 (v387 : BitVec 32) : BitVec 32 :=
  let c1_i32_188 : BitVec 32 := 1#32
  let v388 : BitVec 32 := Scalar.subi v387 c1_i32_188
  let c512_i32_214 : BitVec 32 := 512#32
  let v443 : BitVec 32 := Scalar.muli v388 c512_i32_214
  v443

def k0_off44 (v387 : BitVec 32) : Fin 3 → Nat :=
  let c0_215 : Index := 0#32
  let c1_i32_188 : BitVec 32 := 1#32
  let v388 : BitVec 32 := Scalar.subi v387 c1_i32_188
  let c512_i32_214 : BitVec 32 := 512#32
  let v443 : BitVec 32 := Scalar.muli v388 c512_i32_214
  let v444 : BitVec 32 := v443
  let v445 : Index := Scalar.indexCast v444
  let c0_216 : Index := 0#32
  ![0, v445.toNat, 0]

def k0_chk18 (k0_t1 : Fin k0_t1_loop.trips) (v268 : BitVec 32) (v271 : BitVec 32) (v279 : BitVec 32) (v387 : BitVec 32) : Prop :=
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : ¬(k0_cond5 k0_t1 v268 v271 v279 = 1#1)), 512 ∣ (k0_mult30 v387).toNat) ∧
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : ¬(k0_cond5 k0_t1 v268 v271 v279 = 1#1)), ∀ a, (k0_off44 v387) a + S1x512x256.size a ≤ S1x8192x256.size a) ∧
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : ¬(k0_cond5 k0_t1 v268 v271 v279 = 1#1)), ∀ (hinb : ∀ a, (k0_off44 v387) a + S1x512x256.size a ≤ S1x8192x256.size a), (Rect.unit (s := S1x8192x256) (k0_off44 v387) S1x512x256.size hinb).PackedRows (EltTy.packing .bf16))
theorem k0_mult30_dvd : ∀ (k0_t1 : Fin k0_t1_loop.trips) (v268 : BitVec 32) (v271 : BitVec 32) (v279 : BitVec 32) (v387 : BitVec 32) (k0_hw18 : k0_chk18 k0_t1 v268 v271 v279 v387), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : ¬(k0_cond5 k0_t1 v268 v271 v279 = 1#1)), 512 ∣ (k0_mult30 v387).toNat := fun k0_t1 v268 v271 v279 v387 k0_hw18 k0_h1 k0_h2 k0_h3 k0_h4 k0_h5 => k0_hw18.1 k0_h1 k0_h2 k0_h3 k0_h4 k0_h5
theorem k0_off44_inb : ∀ (k0_t1 : Fin k0_t1_loop.trips) (v268 : BitVec 32) (v271 : BitVec 32) (v279 : BitVec 32) (v387 : BitVec 32) (k0_hw18 : k0_chk18 k0_t1 v268 v271 v279 v387), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : ¬(k0_cond5 k0_t1 v268 v271 v279 = 1#1)), ∀ a, (k0_off44 v387) a + S1x512x256.size a ≤ S1x8192x256.size a := fun k0_t1 v268 v271 v279 v387 k0_hw18 k0_h1 k0_h2 k0_h3 k0_h4 k0_h5 => k0_hw18.2.1 k0_h1 k0_h2 k0_h3 k0_h4 k0_h5
theorem k0_off44_packedbf16 : ∀ (k0_t1 : Fin k0_t1_loop.trips) (v268 : BitVec 32) (v271 : BitVec 32) (v279 : BitVec 32) (v387 : BitVec 32) (k0_hw18 : k0_chk18 k0_t1 v268 v271 v279 v387), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : ¬(k0_cond5 k0_t1 v268 v271 v279 = 1#1)), (Rect.unit (s := S1x8192x256) (k0_off44 v387) S1x512x256.size (k0_off44_inb k0_t1 v268 v271 v279 v387 k0_hw18 k0_h1 k0_h2 k0_h3 k0_h4 k0_h5)).PackedRows (EltTy.packing .bf16) := fun k0_t1 v268 v271 v279 v387 k0_hw18 k0_h1 k0_h2 k0_h3 k0_h4 k0_h5 => k0_hw18.2.2 k0_h1 k0_h2 k0_h3 k0_h4 k0_h5 (k0_off44_inb k0_t1 v268 v271 v279 v387 k0_hw18 k0_h1 k0_h2 k0_h3 k0_h4 k0_h5)

def k0_off45 (k0_t1 : Fin k0_t1_loop.trips) : Fin 1 → Nat :=
  let c2_i32 : BitVec 32 := 2#32
  let c0_i32_79 : BitVec 32 := 0#32
  let c1_i32_80 : BitVec 32 := 1#32
  let arg22 : BitVec 32 := Scf.iv c0_i32_79 c1_i32_80 k0_t1
  let v266 : BitVec 32 := Scalar.muli c2_i32 arg22
  let v449 : Index := Scalar.indexCast v266
  ![v449.toNat]
def k0_mult31 (v452 : BitVec 32) : BitVec 32 :=
  let c1024_i32_219 : BitVec 32 := 1024#32
  let v458 : BitVec 32 := Scalar.muli v452 c1024_i32_219
  v458

def k0_off46 (v452 : BitVec 32) : Fin 4 → Nat :=
  let c0_220 : Index := 0#32
  let c0_221 : Index := 0#32
  let c0_222 : Index := 0#32
  let c1024_i32_219 : BitVec 32 := 1024#32
  let v458 : BitVec 32 := Scalar.muli v452 c1024_i32_219
  let v459 : BitVec 32 := v458
  let v460 : Index := Scalar.indexCast v459
  ![0, 0, 0, v460.toNat]

def k0_chk19 (k0_t1 : Fin k0_t1_loop.trips) (v268 : BitVec 32) (v271 : BitVec 32) (v279 : BitVec 32) (v452 : BitVec 32) : Prop :=
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : ¬(k0_cond5 k0_t1 v268 v271 v279 = 1#1)), 1024 ∣ (k0_mult31 v452).toNat) ∧
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : ¬(k0_cond5 k0_t1 v268 v271 v279 = 1#1)), ∀ a, (k0_off46 v452) a + S1x1x272x1024.size a ≤ S1x1x272x8192.size a)
theorem k0_mult31_dvd : ∀ (k0_t1 : Fin k0_t1_loop.trips) (v268 : BitVec 32) (v271 : BitVec 32) (v279 : BitVec 32) (v452 : BitVec 32) (k0_hw19 : k0_chk19 k0_t1 v268 v271 v279 v452), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : ¬(k0_cond5 k0_t1 v268 v271 v279 = 1#1)), 1024 ∣ (k0_mult31 v452).toNat := fun k0_t1 v268 v271 v279 v452 k0_hw19 k0_h1 k0_h2 k0_h3 k0_h4 k0_h5 => k0_hw19.1 k0_h1 k0_h2 k0_h3 k0_h4 k0_h5
theorem k0_off46_inb : ∀ (k0_t1 : Fin k0_t1_loop.trips) (v268 : BitVec 32) (v271 : BitVec 32) (v279 : BitVec 32) (v452 : BitVec 32) (k0_hw19 : k0_chk19 k0_t1 v268 v271 v279 v452), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : k0_cond4 k0_t1 v268 v271 v279 = 1#1), ∀ (k0_h5 : ¬(k0_cond5 k0_t1 v268 v271 v279 = 1#1)), ∀ a, (k0_off46 v452) a + S1x1x272x1024.size a ≤ S1x1x272x8192.size a := fun k0_t1 v268 v271 v279 v452 k0_hw19 k0_h1 k0_h2 k0_h3 k0_h4 k0_h5 => k0_hw19.2 k0_h1 k0_h2 k0_h3 k0_h4 k0_h5

def k0_off47 (k0_t1 : Fin k0_t1_loop.trips) : Fin 1 → Nat :=
  let c2_i32 : BitVec 32 := 2#32
  let c0_i32_79 : BitVec 32 := 0#32
  let c1_i32_80 : BitVec 32 := 1#32
  let arg22 : BitVec 32 := Scf.iv c0_i32_79 c1_i32_80 k0_t1
  let v266 : BitVec 32 := Scalar.muli c2_i32 arg22
  let c1_i32_138 : BitVec 32 := 1#32
  let v311 : BitVec 32 := Scalar.addi v266 c1_i32_138
  let v312 : Index := Scalar.indexCast v311
  ![v312.toNat]
def k0_mult32 (v315 : BitVec 32) : BitVec 32 :=
  let c1024_i32_139 : BitVec 32 := 1024#32
  let v316 : BitVec 32 := Scalar.muli v315 c1024_i32_139
  v316

def k0_off48 (v315 : BitVec 32) : Fin 3 → Nat :=
  let c0_140 : Index := 0#32
  let c1024_i32_139 : BitVec 32 := 1024#32
  let v316 : BitVec 32 := Scalar.muli v315 c1024_i32_139
  let v317 : BitVec 32 := v316
  let v318 : Index := Scalar.indexCast v317
  let c0_141 : Index := 0#32
  ![0, v318.toNat, 0]
def k0_mult33 (v313 : BitVec 32) : BitVec 32 :=
  let c512_i32_144 : BitVec 32 := 512#32
  let v323 : BitVec 32 := Scalar.muli v313 c512_i32_144
  v323

def k0_off49 (v313 : BitVec 32) : Fin 3 → Nat :=
  let c0_145 : Index := 0#32
  let c512_i32_144 : BitVec 32 := 512#32
  let v323 : BitVec 32 := Scalar.muli v313 c512_i32_144
  let v324 : BitVec 32 := v323
  let v325 : Index := Scalar.indexCast v324
  let c0_146 : Index := 0#32
  ![0, v325.toNat, 0]
def k0_mult34 (v315 : BitVec 32) : BitVec 32 :=
  let c1024_i32_162 : BitVec 32 := 1024#32
  let v350 : BitVec 32 := Scalar.muli v315 c1024_i32_162
  v350
def k0_off50 (v315 : BitVec 32) : Fin 3 → Nat :=
  let c0_163 : Index := 0#32
  let c1024_i32_162 : BitVec 32 := 1024#32
  let v350 : BitVec 32 := Scalar.muli v315 c1024_i32_162
  let v351 : BitVec 32 := v350
  let v352 : Index := Scalar.indexCast v351
  let c128_164 : Index := 128#32
  ![0, v352.toNat, 128]

def k0_chk20 (k0_t1 : Fin k0_t1_loop.trips) (v268 : BitVec 32) (v271 : BitVec 32) (v279 : BitVec 32) (v315 : BitVec 32) : Prop :=
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : ¬(k0_cond4 k0_t1 v268 v271 v279 = 1#1)), 1024 ∣ (k0_mult32 v315).toNat) ∧
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : ¬(k0_cond4 k0_t1 v268 v271 v279 = 1#1)), ∀ a, (k0_off48 v315) a + S1x1024x128.size a ≤ S1x8192x256.size a) ∧
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : ¬(k0_cond4 k0_t1 v268 v271 v279 = 1#1)), 1024 ∣ (k0_mult34 v315).toNat) ∧
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : ¬(k0_cond4 k0_t1 v268 v271 v279 = 1#1)), ∀ a, (k0_off50 v315) a + S1x1024x128.size a ≤ S1x8192x256.size a)
theorem k0_mult32_dvd : ∀ (k0_t1 : Fin k0_t1_loop.trips) (v268 : BitVec 32) (v271 : BitVec 32) (v279 : BitVec 32) (v315 : BitVec 32) (k0_hw20 : k0_chk20 k0_t1 v268 v271 v279 v315), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : ¬(k0_cond4 k0_t1 v268 v271 v279 = 1#1)), 1024 ∣ (k0_mult32 v315).toNat := fun k0_t1 v268 v271 v279 v315 k0_hw20 k0_h1 k0_h2 k0_h3 k0_h4 => k0_hw20.1 k0_h1 k0_h2 k0_h3 k0_h4
theorem k0_off48_inb : ∀ (k0_t1 : Fin k0_t1_loop.trips) (v268 : BitVec 32) (v271 : BitVec 32) (v279 : BitVec 32) (v315 : BitVec 32) (k0_hw20 : k0_chk20 k0_t1 v268 v271 v279 v315), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : ¬(k0_cond4 k0_t1 v268 v271 v279 = 1#1)), ∀ a, (k0_off48 v315) a + S1x1024x128.size a ≤ S1x8192x256.size a := fun k0_t1 v268 v271 v279 v315 k0_hw20 k0_h1 k0_h2 k0_h3 k0_h4 => k0_hw20.2.1 k0_h1 k0_h2 k0_h3 k0_h4
theorem k0_mult34_dvd : ∀ (k0_t1 : Fin k0_t1_loop.trips) (v268 : BitVec 32) (v271 : BitVec 32) (v279 : BitVec 32) (v315 : BitVec 32) (k0_hw20 : k0_chk20 k0_t1 v268 v271 v279 v315), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : ¬(k0_cond4 k0_t1 v268 v271 v279 = 1#1)), 1024 ∣ (k0_mult34 v315).toNat := fun k0_t1 v268 v271 v279 v315 k0_hw20 k0_h1 k0_h2 k0_h3 k0_h4 => k0_hw20.2.2.1 k0_h1 k0_h2 k0_h3 k0_h4
theorem k0_off50_inb : ∀ (k0_t1 : Fin k0_t1_loop.trips) (v268 : BitVec 32) (v271 : BitVec 32) (v279 : BitVec 32) (v315 : BitVec 32) (k0_hw20 : k0_chk20 k0_t1 v268 v271 v279 v315), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : ¬(k0_cond4 k0_t1 v268 v271 v279 = 1#1)), ∀ a, (k0_off50 v315) a + S1x1024x128.size a ≤ S1x8192x256.size a := fun k0_t1 v268 v271 v279 v315 k0_hw20 k0_h1 k0_h2 k0_h3 k0_h4 => k0_hw20.2.2.2 k0_h1 k0_h2 k0_h3 k0_h4

def k0_mult35 (v313 : BitVec 32) : BitVec 32 :=
  let c512_i32_167 : BitVec 32 := 512#32
  let v357 : BitVec 32 := Scalar.muli v313 c512_i32_167
  v357
def k0_off51 (v313 : BitVec 32) : Fin 3 → Nat :=
  let c0_168 : Index := 0#32
  let c512_i32_167 : BitVec 32 := 512#32
  let v357 : BitVec 32 := Scalar.muli v313 c512_i32_167
  let v358 : BitVec 32 := v357
  let v359 : Index := Scalar.indexCast v358
  let c128_169 : Index := 128#32
  ![0, v359.toNat, 128]

def k0_chk21 (k0_t1 : Fin k0_t1_loop.trips) (v268 : BitVec 32) (v271 : BitVec 32) (v279 : BitVec 32) (v313 : BitVec 32) : Prop :=
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : ¬(k0_cond4 k0_t1 v268 v271 v279 = 1#1)), 512 ∣ (k0_mult33 v313).toNat) ∧
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : ¬(k0_cond4 k0_t1 v268 v271 v279 = 1#1)), ∀ a, (k0_off49 v313) a + S1x512x128.size a ≤ S1x8192x256.size a) ∧
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : ¬(k0_cond4 k0_t1 v268 v271 v279 = 1#1)), 512 ∣ (k0_mult35 v313).toNat) ∧
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : ¬(k0_cond4 k0_t1 v268 v271 v279 = 1#1)), ∀ a, (k0_off51 v313) a + S1x512x128.size a ≤ S1x8192x256.size a)
theorem k0_mult33_dvd : ∀ (k0_t1 : Fin k0_t1_loop.trips) (v268 : BitVec 32) (v271 : BitVec 32) (v279 : BitVec 32) (v313 : BitVec 32) (k0_hw21 : k0_chk21 k0_t1 v268 v271 v279 v313), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : ¬(k0_cond4 k0_t1 v268 v271 v279 = 1#1)), 512 ∣ (k0_mult33 v313).toNat := fun k0_t1 v268 v271 v279 v313 k0_hw21 k0_h1 k0_h2 k0_h3 k0_h4 => k0_hw21.1 k0_h1 k0_h2 k0_h3 k0_h4
theorem k0_off49_inb : ∀ (k0_t1 : Fin k0_t1_loop.trips) (v268 : BitVec 32) (v271 : BitVec 32) (v279 : BitVec 32) (v313 : BitVec 32) (k0_hw21 : k0_chk21 k0_t1 v268 v271 v279 v313), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : ¬(k0_cond4 k0_t1 v268 v271 v279 = 1#1)), ∀ a, (k0_off49 v313) a + S1x512x128.size a ≤ S1x8192x256.size a := fun k0_t1 v268 v271 v279 v313 k0_hw21 k0_h1 k0_h2 k0_h3 k0_h4 => k0_hw21.2.1 k0_h1 k0_h2 k0_h3 k0_h4
theorem k0_mult35_dvd : ∀ (k0_t1 : Fin k0_t1_loop.trips) (v268 : BitVec 32) (v271 : BitVec 32) (v279 : BitVec 32) (v313 : BitVec 32) (k0_hw21 : k0_chk21 k0_t1 v268 v271 v279 v313), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : ¬(k0_cond4 k0_t1 v268 v271 v279 = 1#1)), 512 ∣ (k0_mult35 v313).toNat := fun k0_t1 v268 v271 v279 v313 k0_hw21 k0_h1 k0_h2 k0_h3 k0_h4 => k0_hw21.2.2.1 k0_h1 k0_h2 k0_h3 k0_h4
theorem k0_off51_inb : ∀ (k0_t1 : Fin k0_t1_loop.trips) (v268 : BitVec 32) (v271 : BitVec 32) (v279 : BitVec 32) (v313 : BitVec 32) (k0_hw21 : k0_chk21 k0_t1 v268 v271 v279 v313), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : ¬(k0_cond4 k0_t1 v268 v271 v279 = 1#1)), ∀ a, (k0_off51 v313) a + S1x512x128.size a ≤ S1x8192x256.size a := fun k0_t1 v268 v271 v279 v313 k0_hw21 k0_h1 k0_h2 k0_h3 k0_h4 => k0_hw21.2.2.2 k0_h1 k0_h2 k0_h3 k0_h4

def k0_off52 (k0_t1 : Fin k0_t1_loop.trips) : Fin 1 → Nat :=
  let c2_i32 : BitVec 32 := 2#32
  let c0_i32_79 : BitVec 32 := 0#32
  let c1_i32_80 : BitVec 32 := 1#32
  let arg22 : BitVec 32 := Scf.iv c0_i32_79 c1_i32_80 k0_t1
  let v266 : BitVec 32 := Scalar.muli c2_i32 arg22
  let v384 : Index := Scalar.indexCast v266
  ![v384.toNat]
def k0_mult36 (v387 : BitVec 32) : BitVec 32 :=
  let c1024_i32_188 : BitVec 32 := 1024#32
  let v393 : BitVec 32 := Scalar.muli v387 c1024_i32_188
  v393

def k0_off53 (v387 : BitVec 32) : Fin 4 → Nat :=
  let c0_189 : Index := 0#32
  let c0_190 : Index := 0#32
  let c0_191 : Index := 0#32
  let c1024_i32_188 : BitVec 32 := 1024#32
  let v393 : BitVec 32 := Scalar.muli v387 c1024_i32_188
  let v394 : BitVec 32 := v393
  let v395 : Index := Scalar.indexCast v394
  ![0, 0, 0, v395.toNat]

def k0_chk22 (k0_t1 : Fin k0_t1_loop.trips) (v268 : BitVec 32) (v271 : BitVec 32) (v279 : BitVec 32) (v387 : BitVec 32) : Prop :=
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : ¬(k0_cond4 k0_t1 v268 v271 v279 = 1#1)), 1024 ∣ (k0_mult36 v387).toNat) ∧
  (∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : ¬(k0_cond4 k0_t1 v268 v271 v279 = 1#1)), ∀ a, (k0_off53 v387) a + S1x1x272x1024.size a ≤ S1x1x272x8192.size a)
theorem k0_mult36_dvd : ∀ (k0_t1 : Fin k0_t1_loop.trips) (v268 : BitVec 32) (v271 : BitVec 32) (v279 : BitVec 32) (v387 : BitVec 32) (k0_hw22 : k0_chk22 k0_t1 v268 v271 v279 v387), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : ¬(k0_cond4 k0_t1 v268 v271 v279 = 1#1)), 1024 ∣ (k0_mult36 v387).toNat := fun k0_t1 v268 v271 v279 v387 k0_hw22 k0_h1 k0_h2 k0_h3 k0_h4 => k0_hw22.1 k0_h1 k0_h2 k0_h3 k0_h4
theorem k0_off53_inb : ∀ (k0_t1 : Fin k0_t1_loop.trips) (v268 : BitVec 32) (v271 : BitVec 32) (v279 : BitVec 32) (v387 : BitVec 32) (k0_hw22 : k0_chk22 k0_t1 v268 v271 v279 v387), ∀ (k0_h1 : k0_cond1 k0_t1 v268 v271 v279 = 1#1), ∀ (k0_h2 : k0_cond2 k0_t1 v268 v271 v279 = 1#1), ∀ (k0_h3 : k0_cond3 k0_t1 v268 v271 v279 = 1#1), ∀ (k0_h4 : ¬(k0_cond4 k0_t1 v268 v271 v279 = 1#1)), ∀ a, (k0_off53 v387) a + S1x1x272x1024.size a ≤ S1x1x272x8192.size a := fun k0_t1 v268 v271 v279 v387 k0_hw22 k0_h1 k0_h2 k0_h3 k0_h4 => k0_hw22.2 k0_h1 k0_h2 k0_h3 k0_h4

def k0_off54 (k0_t1 : Fin k0_t1_loop.trips) : Fin 1 → Nat :=
  let c2_i32 : BitVec 32 := 2#32
  let c0_i32_79 : BitVec 32 := 0#32
  let c1_i32_80 : BitVec 32 := 1#32
  let arg22 : BitVec 32 := Scf.iv c0_i32_79 c1_i32_80 k0_t1
  let v266 : BitVec 32 := Scalar.muli c2_i32 arg22
  let c1_i32_136 : BitVec 32 := 1#32
  let v309 : BitVec 32 := Scalar.addi v266 c1_i32_136
  let v310 : Index := Scalar.indexCast v309
  ![v310.toNat]
def k0_mult37 (v313 : BitVec 32) : BitVec 32 :=
  let c1024_i32_137 : BitVec 32 := 1024#32
  let v314 : BitVec 32 := Scalar.muli v313 c1024_i32_137
  v314

def k0_off55 (v313 : BitVec 32) : Fin 3 → Nat :=
  let c0_138 : Index := 0#32
  let c1024_i32_137 : BitVec 32 := 1024#32
  let v314 : BitVec 32 := Scalar.muli v313 c1024_i32_137
  let v315 : BitVec 32 := v314
  let v316 : Index := Scalar.indexCast v315
  let c0_139 : Index := 0#32
  ![0, v316.toNat, 0]
def k0_mult38 (v311 : BitVec 32) : BitVec 32 :=
  let c512_i32_142 : BitVec 32 := 512#32
  let v321 : BitVec 32 := Scalar.muli v311 c512_i32_142
  v321

def k0_off56 (v311 : BitVec 32) : Fin 3 → Nat :=
  let c0_143 : Index := 0#32
  let c512_i32_142 : BitVec 32 := 512#32
  let v321 : BitVec 32 := Scalar.muli v311 c512_i32_142
  let v322 : BitVec 32 := v321
  let v323 : Index := Scalar.indexCast v322
  let c0_144 : Index := 0#32
  ![0, v323.toNat, 0]
def k0_mult39 (v313 : BitVec 32) : BitVec 32 :=
  let c1024_i32_155 : BitVec 32 := 1024#32
  let v337 : BitVec 32 := Scalar.muli v313 c1024_i32_155
  v337
def k0_off57 (v313 : BitVec 32) : Fin 3 → Nat :=
  let c0_156 : Index := 0#32
  let c1024_i32_155 : BitVec 32 := 1024#32
  let v337 : BitVec 32 := Scalar.muli v313 c1024_i32_155
  let v338 : BitVec 32 := v337
  let v339 : Index := Scalar.indexCast v338
  let c128_157 : Index := 128#32
  ![0, v339.toNat, 128]

def k0_chk23 (k0_t1 : Fin k0_t1_loop.trips) (v268 : BitVec 32) (v271 : BitVec 32) (v279 : BitVec 32) (v313 : BitVec 32) : Prop :=
  (∀ (k0_h1 : k0_cond1 k0_t1 v268 v271 v279 = 1#1), ∀ (k0_h2 : k0_cond2 k0_t1 v268 v271 v279 = 1#1), ∀ (k0_h3 : ¬(k0_cond3 k0_t1 v268 v271 v279 = 1#1)), 1024 ∣ (k0_mult37 v313).toNat) ∧
  (∀ (k0_h1 : k0_cond1 k0_t1 v268 v271 v279 = 1#1), ∀ (k0_h2 : k0_cond2 k0_t1 v268 v271 v279 = 1#1), ∀ (k0_h3 : ¬(k0_cond3 k0_t1 v268 v271 v279 = 1#1)), ∀ a, (k0_off55 v313) a + S1x1024x128.size a ≤ S1x8192x256.size a) ∧
  (∀ (k0_h1 : k0_cond1 k0_t1 v268 v271 v279 = 1#1), ∀ (k0_h2 : k0_cond2 k0_t1 v268 v271 v279 = 1#1), ∀ (k0_h3 : ¬(k0_cond3 k0_t1 v268 v271 v279 = 1#1)), 1024 ∣ (k0_mult39 v313).toNat) ∧
  (∀ (k0_h1 : k0_cond1 k0_t1 v268 v271 v279 = 1#1), ∀ (k0_h2 : k0_cond2 k0_t1 v268 v271 v279 = 1#1), ∀ (k0_h3 : ¬(k0_cond3 k0_t1 v268 v271 v279 = 1#1)), ∀ a, (k0_off57 v313) a + S1x1024x128.size a ≤ S1x8192x256.size a)
theorem k0_mult37_dvd : ∀ (k0_t1 : Fin k0_t1_loop.trips) (v268 : BitVec 32) (v271 : BitVec 32) (v279 : BitVec 32) (v313 : BitVec 32) (k0_hw23 : k0_chk23 k0_t1 v268 v271 v279 v313), ∀ (k0_h1 : k0_cond1 k0_t1 v268 v271 v279 = 1#1), ∀ (k0_h2 : k0_cond2 k0_t1 v268 v271 v279 = 1#1), ∀ (k0_h3 : ¬(k0_cond3 k0_t1 v268 v271 v279 = 1#1)), 1024 ∣ (k0_mult37 v313).toNat := fun k0_t1 v268 v271 v279 v313 k0_hw23 k0_h1 k0_h2 k0_h3 => k0_hw23.1 k0_h1 k0_h2 k0_h3
theorem k0_off55_inb : ∀ (k0_t1 : Fin k0_t1_loop.trips) (v268 : BitVec 32) (v271 : BitVec 32) (v279 : BitVec 32) (v313 : BitVec 32) (k0_hw23 : k0_chk23 k0_t1 v268 v271 v279 v313), ∀ (k0_h1 : k0_cond1 k0_t1 v268 v271 v279 = 1#1), ∀ (k0_h2 : k0_cond2 k0_t1 v268 v271 v279 = 1#1), ∀ (k0_h3 : ¬(k0_cond3 k0_t1 v268 v271 v279 = 1#1)), ∀ a, (k0_off55 v313) a + S1x1024x128.size a ≤ S1x8192x256.size a := fun k0_t1 v268 v271 v279 v313 k0_hw23 k0_h1 k0_h2 k0_h3 => k0_hw23.2.1 k0_h1 k0_h2 k0_h3
theorem k0_mult39_dvd : ∀ (k0_t1 : Fin k0_t1_loop.trips) (v268 : BitVec 32) (v271 : BitVec 32) (v279 : BitVec 32) (v313 : BitVec 32) (k0_hw23 : k0_chk23 k0_t1 v268 v271 v279 v313), ∀ (k0_h1 : k0_cond1 k0_t1 v268 v271 v279 = 1#1), ∀ (k0_h2 : k0_cond2 k0_t1 v268 v271 v279 = 1#1), ∀ (k0_h3 : ¬(k0_cond3 k0_t1 v268 v271 v279 = 1#1)), 1024 ∣ (k0_mult39 v313).toNat := fun k0_t1 v268 v271 v279 v313 k0_hw23 k0_h1 k0_h2 k0_h3 => k0_hw23.2.2.1 k0_h1 k0_h2 k0_h3
theorem k0_off57_inb : ∀ (k0_t1 : Fin k0_t1_loop.trips) (v268 : BitVec 32) (v271 : BitVec 32) (v279 : BitVec 32) (v313 : BitVec 32) (k0_hw23 : k0_chk23 k0_t1 v268 v271 v279 v313), ∀ (k0_h1 : k0_cond1 k0_t1 v268 v271 v279 = 1#1), ∀ (k0_h2 : k0_cond2 k0_t1 v268 v271 v279 = 1#1), ∀ (k0_h3 : ¬(k0_cond3 k0_t1 v268 v271 v279 = 1#1)), ∀ a, (k0_off57 v313) a + S1x1024x128.size a ≤ S1x8192x256.size a := fun k0_t1 v268 v271 v279 v313 k0_hw23 k0_h1 k0_h2 k0_h3 => k0_hw23.2.2.2 k0_h1 k0_h2 k0_h3

def k0_mult40 (v311 : BitVec 32) : BitVec 32 :=
  let c512_i32_160 : BitVec 32 := 512#32
  let v344 : BitVec 32 := Scalar.muli v311 c512_i32_160
  v344
def k0_off58 (v311 : BitVec 32) : Fin 3 → Nat :=
  let c0_161 : Index := 0#32
  let c512_i32_160 : BitVec 32 := 512#32
  let v344 : BitVec 32 := Scalar.muli v311 c512_i32_160
  let v345 : BitVec 32 := v344
  let v346 : Index := Scalar.indexCast v345
  let c128_162 : Index := 128#32
  ![0, v346.toNat, 128]

def k0_chk24 (k0_t1 : Fin k0_t1_loop.trips) (v268 : BitVec 32) (v271 : BitVec 32) (v279 : BitVec 32) (v311 : BitVec 32) : Prop :=
  (∀ (k0_h1 : k0_cond1 k0_t1 v268 v271 v279 = 1#1), ∀ (k0_h2 : k0_cond2 k0_t1 v268 v271 v279 = 1#1), ∀ (k0_h3 : ¬(k0_cond3 k0_t1 v268 v271 v279 = 1#1)), 512 ∣ (k0_mult38 v311).toNat) ∧
  (∀ (k0_h1 : k0_cond1 k0_t1 v268 v271 v279 = 1#1), ∀ (k0_h2 : k0_cond2 k0_t1 v268 v271 v279 = 1#1), ∀ (k0_h3 : ¬(k0_cond3 k0_t1 v268 v271 v279 = 1#1)), ∀ a, (k0_off56 v311) a + S1x512x128.size a ≤ S1x8192x256.size a) ∧
  (∀ (k0_h1 : k0_cond1 k0_t1 v268 v271 v279 = 1#1), ∀ (k0_h2 : k0_cond2 k0_t1 v268 v271 v279 = 1#1), ∀ (k0_h3 : ¬(k0_cond3 k0_t1 v268 v271 v279 = 1#1)), 512 ∣ (k0_mult40 v311).toNat) ∧
  (∀ (k0_h1 : k0_cond1 k0_t1 v268 v271 v279 = 1#1), ∀ (k0_h2 : k0_cond2 k0_t1 v268 v271 v279 = 1#1), ∀ (k0_h3 : ¬(k0_cond3 k0_t1 v268 v271 v279 = 1#1)), ∀ a, (k0_off58 v311) a + S1x512x128.size a ≤ S1x8192x256.size a)
theorem k0_mult38_dvd : ∀ (k0_t1 : Fin k0_t1_loop.trips) (v268 : BitVec 32) (v271 : BitVec 32) (v279 : BitVec 32) (v311 : BitVec 32) (k0_hw24 : k0_chk24 k0_t1 v268 v271 v279 v311), ∀ (k0_h1 : k0_cond1 k0_t1 v268 v271 v279 = 1#1), ∀ (k0_h2 : k0_cond2 k0_t1 v268 v271 v279 = 1#1), ∀ (k0_h3 : ¬(k0_cond3 k0_t1 v268 v271 v279 = 1#1)), 512 ∣ (k0_mult38 v311).toNat := fun k0_t1 v268 v271 v279 v311 k0_hw24 k0_h1 k0_h2 k0_h3 => k0_hw24.1 k0_h1 k0_h2 k0_h3
theorem k0_off56_inb : ∀ (k0_t1 : Fin k0_t1_loop.trips) (v268 : BitVec 32) (v271 : BitVec 32) (v279 : BitVec 32) (v311 : BitVec 32) (k0_hw24 : k0_chk24 k0_t1 v268 v271 v279 v311), ∀ (k0_h1 : k0_cond1 k0_t1 v268 v271 v279 = 1#1), ∀ (k0_h2 : k0_cond2 k0_t1 v268 v271 v279 = 1#1), ∀ (k0_h3 : ¬(k0_cond3 k0_t1 v268 v271 v279 = 1#1)), ∀ a, (k0_off56 v311) a + S1x512x128.size a ≤ S1x8192x256.size a := fun k0_t1 v268 v271 v279 v311 k0_hw24 k0_h1 k0_h2 k0_h3 => k0_hw24.2.1 k0_h1 k0_h2 k0_h3
theorem k0_mult40_dvd : ∀ (k0_t1 : Fin k0_t1_loop.trips) (v268 : BitVec 32) (v271 : BitVec 32) (v279 : BitVec 32) (v311 : BitVec 32) (k0_hw24 : k0_chk24 k0_t1 v268 v271 v279 v311), ∀ (k0_h1 : k0_cond1 k0_t1 v268 v271 v279 = 1#1), ∀ (k0_h2 : k0_cond2 k0_t1 v268 v271 v279 = 1#1), ∀ (k0_h3 : ¬(k0_cond3 k0_t1 v268 v271 v279 = 1#1)), 512 ∣ (k0_mult40 v311).toNat := fun k0_t1 v268 v271 v279 v311 k0_hw24 k0_h1 k0_h2 k0_h3 => k0_hw24.2.2.1 k0_h1 k0_h2 k0_h3
theorem k0_off58_inb : ∀ (k0_t1 : Fin k0_t1_loop.trips) (v268 : BitVec 32) (v271 : BitVec 32) (v279 : BitVec 32) (v311 : BitVec 32) (k0_hw24 : k0_chk24 k0_t1 v268 v271 v279 v311), ∀ (k0_h1 : k0_cond1 k0_t1 v268 v271 v279 = 1#1), ∀ (k0_h2 : k0_cond2 k0_t1 v268 v271 v279 = 1#1), ∀ (k0_h3 : ¬(k0_cond3 k0_t1 v268 v271 v279 = 1#1)), ∀ a, (k0_off58 v311) a + S1x512x128.size a ≤ S1x8192x256.size a := fun k0_t1 v268 v271 v279 v311 k0_hw24 k0_h1 k0_h2 k0_h3 => k0_hw24.2.2.2 k0_h1 k0_h2 k0_h3

def k0_off59 (k0_t1 : Fin k0_t1_loop.trips) : Fin 1 → Nat :=
  let c2_i32 : BitVec 32 := 2#32
  let c0_i32_79 : BitVec 32 := 0#32
  let c1_i32_80 : BitVec 32 := 1#32
  let arg22 : BitVec 32 := Scf.iv c0_i32_79 c1_i32_80 k0_t1
  let v266 : BitVec 32 := Scalar.muli c2_i32 arg22
  let v360 : Index := Scalar.indexCast v266
  ![v360.toNat]
def k0_mult41 (v363 : BitVec 32) : BitVec 32 :=
  let c1024_i32_175 : BitVec 32 := 1024#32
  let v369 : BitVec 32 := Scalar.muli v363 c1024_i32_175
  v369

def k0_off60 (v363 : BitVec 32) : Fin 4 → Nat :=
  let c0_176 : Index := 0#32
  let c0_177 : Index := 0#32
  let c0_178 : Index := 0#32
  let c1024_i32_175 : BitVec 32 := 1024#32
  let v369 : BitVec 32 := Scalar.muli v363 c1024_i32_175
  let v370 : BitVec 32 := v369
  let v371 : Index := Scalar.indexCast v370
  ![0, 0, 0, v371.toNat]

def k0_chk25 (k0_t1 : Fin k0_t1_loop.trips) (v268 : BitVec 32) (v271 : BitVec 32) (v279 : BitVec 32) (v363 : BitVec 32) : Prop :=
  (∀ (k0_h1 : k0_cond1 k0_t1 v268 v271 v279 = 1#1), ∀ (k0_h2 : k0_cond2 k0_t1 v268 v271 v279 = 1#1), ∀ (k0_h3 : ¬(k0_cond3 k0_t1 v268 v271 v279 = 1#1)), 1024 ∣ (k0_mult41 v363).toNat) ∧
  (∀ (k0_h1 : k0_cond1 k0_t1 v268 v271 v279 = 1#1), ∀ (k0_h2 : k0_cond2 k0_t1 v268 v271 v279 = 1#1), ∀ (k0_h3 : ¬(k0_cond3 k0_t1 v268 v271 v279 = 1#1)), ∀ a, (k0_off60 v363) a + S1x1x272x512.size a ≤ S1x1x272x8192.size a)
theorem k0_mult41_dvd : ∀ (k0_t1 : Fin k0_t1_loop.trips) (v268 : BitVec 32) (v271 : BitVec 32) (v279 : BitVec 32) (v363 : BitVec 32) (k0_hw25 : k0_chk25 k0_t1 v268 v271 v279 v363), ∀ (k0_h1 : k0_cond1 k0_t1 v268 v271 v279 = 1#1), ∀ (k0_h2 : k0_cond2 k0_t1 v268 v271 v279 = 1#1), ∀ (k0_h3 : ¬(k0_cond3 k0_t1 v268 v271 v279 = 1#1)), 1024 ∣ (k0_mult41 v363).toNat := fun k0_t1 v268 v271 v279 v363 k0_hw25 k0_h1 k0_h2 k0_h3 => k0_hw25.1 k0_h1 k0_h2 k0_h3
theorem k0_off60_inb : ∀ (k0_t1 : Fin k0_t1_loop.trips) (v268 : BitVec 32) (v271 : BitVec 32) (v279 : BitVec 32) (v363 : BitVec 32) (k0_hw25 : k0_chk25 k0_t1 v268 v271 v279 v363), ∀ (k0_h1 : k0_cond1 k0_t1 v268 v271 v279 = 1#1), ∀ (k0_h2 : k0_cond2 k0_t1 v268 v271 v279 = 1#1), ∀ (k0_h3 : ¬(k0_cond3 k0_t1 v268 v271 v279 = 1#1)), ∀ a, (k0_off60 v363) a + S1x1x272x512.size a ≤ S1x1x272x8192.size a := fun k0_t1 v268 v271 v279 v363 k0_hw25 k0_h1 k0_h2 k0_h3 => k0_hw25.2 k0_h1 k0_h2 k0_h3

def k0_off61 (k0_t1 : Fin k0_t1_loop.trips) : Fin 1 → Nat :=
  let c2_i32 : BitVec 32 := 2#32
  let c0_i32_79 : BitVec 32 := 0#32
  let c1_i32_80 : BitVec 32 := 1#32
  let arg22 : BitVec 32 := Scf.iv c0_i32_79 c1_i32_80 k0_t1
  let v266 : BitVec 32 := Scalar.muli c2_i32 arg22
  let c1_i32_134 : BitVec 32 := 1#32
  let v307 : BitVec 32 := Scalar.addi v266 c1_i32_134
  let v308 : Index := Scalar.indexCast v307
  ![v308.toNat]
def k0_mult42 (v311 : BitVec 32) : BitVec 32 :=
  let c1024_i32_135 : BitVec 32 := 1024#32
  let v312 : BitVec 32 := Scalar.muli v311 c1024_i32_135
  v312

def k0_off62 (v311 : BitVec 32) : Fin 3 → Nat :=
  let c0_136 : Index := 0#32
  let c1024_i32_135 : BitVec 32 := 1024#32
  let v312 : BitVec 32 := Scalar.muli v311 c1024_i32_135
  let v313 : BitVec 32 := v312
  let v314 : Index := Scalar.indexCast v313
  let c0_137 : Index := 0#32
  ![0, v314.toNat, 0]
def k0_mult43 (v309 : BitVec 32) : BitVec 32 :=
  let c512_i32_140 : BitVec 32 := 512#32
  let v319 : BitVec 32 := Scalar.muli v309 c512_i32_140
  v319

def k0_off63 (v309 : BitVec 32) : Fin 3 → Nat :=
  let c0_141 : Index := 0#32
  let c512_i32_140 : BitVec 32 := 512#32
  let v319 : BitVec 32 := Scalar.muli v309 c512_i32_140
  let v320 : BitVec 32 := v319
  let v321 : Index := Scalar.indexCast v320
  let c0_142 : Index := 0#32
  ![0, v321.toNat, 0]
def k0_mult44 (v311 : BitVec 32) : BitVec 32 :=
  let c1024_i32_153 : BitVec 32 := 1024#32
  let v335 : BitVec 32 := Scalar.muli v311 c1024_i32_153
  v335
def k0_off64 (v311 : BitVec 32) : Fin 3 → Nat :=
  let c0_154 : Index := 0#32
  let c1024_i32_153 : BitVec 32 := 1024#32
  let v335 : BitVec 32 := Scalar.muli v311 c1024_i32_153
  let v336 : BitVec 32 := v335
  let v337 : Index := Scalar.indexCast v336
  let c128_155 : Index := 128#32
  ![0, v337.toNat, 128]

def k0_chk26 (k0_t1 : Fin k0_t1_loop.trips) (v268 : BitVec 32) (v271 : BitVec 32) (v279 : BitVec 32) (v311 : BitVec 32) : Prop :=
  (∀ (k0_h1 : k0_cond1 k0_t1 v268 v271 v279 = 1#1), ∀ (k0_h2 : ¬(k0_cond2 k0_t1 v268 v271 v279 = 1#1)), 1024 ∣ (k0_mult42 v311).toNat) ∧
  (∀ (k0_h1 : k0_cond1 k0_t1 v268 v271 v279 = 1#1), ∀ (k0_h2 : ¬(k0_cond2 k0_t1 v268 v271 v279 = 1#1)), ∀ a, (k0_off62 v311) a + S1x1024x128.size a ≤ S1x8192x256.size a) ∧
  (∀ (k0_h1 : k0_cond1 k0_t1 v268 v271 v279 = 1#1), ∀ (k0_h2 : ¬(k0_cond2 k0_t1 v268 v271 v279 = 1#1)), 1024 ∣ (k0_mult44 v311).toNat) ∧
  (∀ (k0_h1 : k0_cond1 k0_t1 v268 v271 v279 = 1#1), ∀ (k0_h2 : ¬(k0_cond2 k0_t1 v268 v271 v279 = 1#1)), ∀ a, (k0_off64 v311) a + S1x1024x128.size a ≤ S1x8192x256.size a)
theorem k0_mult42_dvd : ∀ (k0_t1 : Fin k0_t1_loop.trips) (v268 : BitVec 32) (v271 : BitVec 32) (v279 : BitVec 32) (v311 : BitVec 32) (k0_hw26 : k0_chk26 k0_t1 v268 v271 v279 v311), ∀ (k0_h1 : k0_cond1 k0_t1 v268 v271 v279 = 1#1), ∀ (k0_h2 : ¬(k0_cond2 k0_t1 v268 v271 v279 = 1#1)), 1024 ∣ (k0_mult42 v311).toNat := fun k0_t1 v268 v271 v279 v311 k0_hw26 k0_h1 k0_h2 => k0_hw26.1 k0_h1 k0_h2
theorem k0_off62_inb : ∀ (k0_t1 : Fin k0_t1_loop.trips) (v268 : BitVec 32) (v271 : BitVec 32) (v279 : BitVec 32) (v311 : BitVec 32) (k0_hw26 : k0_chk26 k0_t1 v268 v271 v279 v311), ∀ (k0_h1 : k0_cond1 k0_t1 v268 v271 v279 = 1#1), ∀ (k0_h2 : ¬(k0_cond2 k0_t1 v268 v271 v279 = 1#1)), ∀ a, (k0_off62 v311) a + S1x1024x128.size a ≤ S1x8192x256.size a := fun k0_t1 v268 v271 v279 v311 k0_hw26 k0_h1 k0_h2 => k0_hw26.2.1 k0_h1 k0_h2
theorem k0_mult44_dvd : ∀ (k0_t1 : Fin k0_t1_loop.trips) (v268 : BitVec 32) (v271 : BitVec 32) (v279 : BitVec 32) (v311 : BitVec 32) (k0_hw26 : k0_chk26 k0_t1 v268 v271 v279 v311), ∀ (k0_h1 : k0_cond1 k0_t1 v268 v271 v279 = 1#1), ∀ (k0_h2 : ¬(k0_cond2 k0_t1 v268 v271 v279 = 1#1)), 1024 ∣ (k0_mult44 v311).toNat := fun k0_t1 v268 v271 v279 v311 k0_hw26 k0_h1 k0_h2 => k0_hw26.2.2.1 k0_h1 k0_h2
theorem k0_off64_inb : ∀ (k0_t1 : Fin k0_t1_loop.trips) (v268 : BitVec 32) (v271 : BitVec 32) (v279 : BitVec 32) (v311 : BitVec 32) (k0_hw26 : k0_chk26 k0_t1 v268 v271 v279 v311), ∀ (k0_h1 : k0_cond1 k0_t1 v268 v271 v279 = 1#1), ∀ (k0_h2 : ¬(k0_cond2 k0_t1 v268 v271 v279 = 1#1)), ∀ a, (k0_off64 v311) a + S1x1024x128.size a ≤ S1x8192x256.size a := fun k0_t1 v268 v271 v279 v311 k0_hw26 k0_h1 k0_h2 => k0_hw26.2.2.2 k0_h1 k0_h2

def k0_mult45 (v309 : BitVec 32) : BitVec 32 :=
  let c512_i32_158 : BitVec 32 := 512#32
  let v342 : BitVec 32 := Scalar.muli v309 c512_i32_158
  v342
def k0_off65 (v309 : BitVec 32) : Fin 3 → Nat :=
  let c0_159 : Index := 0#32
  let c512_i32_158 : BitVec 32 := 512#32
  let v342 : BitVec 32 := Scalar.muli v309 c512_i32_158
  let v343 : BitVec 32 := v342
  let v344 : Index := Scalar.indexCast v343
  let c128_160 : Index := 128#32
  ![0, v344.toNat, 128]

def k0_chk27 (k0_t1 : Fin k0_t1_loop.trips) (v268 : BitVec 32) (v271 : BitVec 32) (v279 : BitVec 32) (v309 : BitVec 32) : Prop :=
  (∀ (k0_h1 : k0_cond1 k0_t1 v268 v271 v279 = 1#1), ∀ (k0_h2 : ¬(k0_cond2 k0_t1 v268 v271 v279 = 1#1)), 512 ∣ (k0_mult43 v309).toNat) ∧
  (∀ (k0_h1 : k0_cond1 k0_t1 v268 v271 v279 = 1#1), ∀ (k0_h2 : ¬(k0_cond2 k0_t1 v268 v271 v279 = 1#1)), ∀ a, (k0_off63 v309) a + S1x512x128.size a ≤ S1x8192x256.size a) ∧
  (∀ (k0_h1 : k0_cond1 k0_t1 v268 v271 v279 = 1#1), ∀ (k0_h2 : ¬(k0_cond2 k0_t1 v268 v271 v279 = 1#1)), 512 ∣ (k0_mult45 v309).toNat) ∧
  (∀ (k0_h1 : k0_cond1 k0_t1 v268 v271 v279 = 1#1), ∀ (k0_h2 : ¬(k0_cond2 k0_t1 v268 v271 v279 = 1#1)), ∀ a, (k0_off65 v309) a + S1x512x128.size a ≤ S1x8192x256.size a)
theorem k0_mult43_dvd : ∀ (k0_t1 : Fin k0_t1_loop.trips) (v268 : BitVec 32) (v271 : BitVec 32) (v279 : BitVec 32) (v309 : BitVec 32) (k0_hw27 : k0_chk27 k0_t1 v268 v271 v279 v309), ∀ (k0_h1 : k0_cond1 k0_t1 v268 v271 v279 = 1#1), ∀ (k0_h2 : ¬(k0_cond2 k0_t1 v268 v271 v279 = 1#1)), 512 ∣ (k0_mult43 v309).toNat := fun k0_t1 v268 v271 v279 v309 k0_hw27 k0_h1 k0_h2 => k0_hw27.1 k0_h1 k0_h2
theorem k0_off63_inb : ∀ (k0_t1 : Fin k0_t1_loop.trips) (v268 : BitVec 32) (v271 : BitVec 32) (v279 : BitVec 32) (v309 : BitVec 32) (k0_hw27 : k0_chk27 k0_t1 v268 v271 v279 v309), ∀ (k0_h1 : k0_cond1 k0_t1 v268 v271 v279 = 1#1), ∀ (k0_h2 : ¬(k0_cond2 k0_t1 v268 v271 v279 = 1#1)), ∀ a, (k0_off63 v309) a + S1x512x128.size a ≤ S1x8192x256.size a := fun k0_t1 v268 v271 v279 v309 k0_hw27 k0_h1 k0_h2 => k0_hw27.2.1 k0_h1 k0_h2
theorem k0_mult45_dvd : ∀ (k0_t1 : Fin k0_t1_loop.trips) (v268 : BitVec 32) (v271 : BitVec 32) (v279 : BitVec 32) (v309 : BitVec 32) (k0_hw27 : k0_chk27 k0_t1 v268 v271 v279 v309), ∀ (k0_h1 : k0_cond1 k0_t1 v268 v271 v279 = 1#1), ∀ (k0_h2 : ¬(k0_cond2 k0_t1 v268 v271 v279 = 1#1)), 512 ∣ (k0_mult45 v309).toNat := fun k0_t1 v268 v271 v279 v309 k0_hw27 k0_h1 k0_h2 => k0_hw27.2.2.1 k0_h1 k0_h2
theorem k0_off65_inb : ∀ (k0_t1 : Fin k0_t1_loop.trips) (v268 : BitVec 32) (v271 : BitVec 32) (v279 : BitVec 32) (v309 : BitVec 32) (k0_hw27 : k0_chk27 k0_t1 v268 v271 v279 v309), ∀ (k0_h1 : k0_cond1 k0_t1 v268 v271 v279 = 1#1), ∀ (k0_h2 : ¬(k0_cond2 k0_t1 v268 v271 v279 = 1#1)), ∀ a, (k0_off65 v309) a + S1x512x128.size a ≤ S1x8192x256.size a := fun k0_t1 v268 v271 v279 v309 k0_hw27 k0_h1 k0_h2 => k0_hw27.2.2.2 k0_h1 k0_h2

def k0_off66 (k0_t1 : Fin k0_t1_loop.trips) : Fin 1 → Nat :=
  let c2_i32 : BitVec 32 := 2#32
  let c0_i32_79 : BitVec 32 := 0#32
  let c1_i32_80 : BitVec 32 := 1#32
  let arg22 : BitVec 32 := Scf.iv c0_i32_79 c1_i32_80 k0_t1
  let v266 : BitVec 32 := Scalar.muli c2_i32 arg22
  let v358 : Index := Scalar.indexCast v266
  ![v358.toNat]
def k0_mult46 (v359 : BitVec 32) : BitVec 32 :=
  let c1_i32_171 : BitVec 32 := 1#32
  let v360 : BitVec 32 := Scalar.subi v359 c1_i32_171
  let c512_i32_197 : BitVec 32 := 512#32
  let v415 : BitVec 32 := Scalar.muli v360 c512_i32_197
  v415

def k0_off67 (v359 : BitVec 32) : Fin 3 → Nat :=
  let c0_198 : Index := 0#32
  let c1_i32_171 : BitVec 32 := 1#32
  let v360 : BitVec 32 := Scalar.subi v359 c1_i32_171
  let c512_i32_197 : BitVec 32 := 512#32
  let v415 : BitVec 32 := Scalar.muli v360 c512_i32_197
  let v416 : BitVec 32 := v415
  let v417 : Index := Scalar.indexCast v416
  let c0_199 : Index := 0#32
  ![0, v417.toNat, 0]

def k0_chk28 (k0_t1 : Fin k0_t1_loop.trips) (v268 : BitVec 32) (v271 : BitVec 32) (v279 : BitVec 32) (v359 : BitVec 32) : Prop :=
  (∀ (k0_h1 : k0_cond1 k0_t1 v268 v271 v279 = 1#1), ∀ (k0_h2 : ¬(k0_cond2 k0_t1 v268 v271 v279 = 1#1)), 512 ∣ (k0_mult46 v359).toNat) ∧
  (∀ (k0_h1 : k0_cond1 k0_t1 v268 v271 v279 = 1#1), ∀ (k0_h2 : ¬(k0_cond2 k0_t1 v268 v271 v279 = 1#1)), ∀ a, (k0_off67 v359) a + S1x512x256.size a ≤ S1x8192x256.size a) ∧
  (∀ (k0_h1 : k0_cond1 k0_t1 v268 v271 v279 = 1#1), ∀ (k0_h2 : ¬(k0_cond2 k0_t1 v268 v271 v279 = 1#1)), ∀ (hinb : ∀ a, (k0_off67 v359) a + S1x512x256.size a ≤ S1x8192x256.size a), (Rect.unit (s := S1x8192x256) (k0_off67 v359) S1x512x256.size hinb).PackedRows (EltTy.packing .bf16))
theorem k0_mult46_dvd : ∀ (k0_t1 : Fin k0_t1_loop.trips) (v268 : BitVec 32) (v271 : BitVec 32) (v279 : BitVec 32) (v359 : BitVec 32) (k0_hw28 : k0_chk28 k0_t1 v268 v271 v279 v359), ∀ (k0_h1 : k0_cond1 k0_t1 v268 v271 v279 = 1#1), ∀ (k0_h2 : ¬(k0_cond2 k0_t1 v268 v271 v279 = 1#1)), 512 ∣ (k0_mult46 v359).toNat := fun k0_t1 v268 v271 v279 v359 k0_hw28 k0_h1 k0_h2 => k0_hw28.1 k0_h1 k0_h2
theorem k0_off67_inb : ∀ (k0_t1 : Fin k0_t1_loop.trips) (v268 : BitVec 32) (v271 : BitVec 32) (v279 : BitVec 32) (v359 : BitVec 32) (k0_hw28 : k0_chk28 k0_t1 v268 v271 v279 v359), ∀ (k0_h1 : k0_cond1 k0_t1 v268 v271 v279 = 1#1), ∀ (k0_h2 : ¬(k0_cond2 k0_t1 v268 v271 v279 = 1#1)), ∀ a, (k0_off67 v359) a + S1x512x256.size a ≤ S1x8192x256.size a := fun k0_t1 v268 v271 v279 v359 k0_hw28 k0_h1 k0_h2 => k0_hw28.2.1 k0_h1 k0_h2
theorem k0_off67_packedbf16 : ∀ (k0_t1 : Fin k0_t1_loop.trips) (v268 : BitVec 32) (v271 : BitVec 32) (v279 : BitVec 32) (v359 : BitVec 32) (k0_hw28 : k0_chk28 k0_t1 v268 v271 v279 v359), ∀ (k0_h1 : k0_cond1 k0_t1 v268 v271 v279 = 1#1), ∀ (k0_h2 : ¬(k0_cond2 k0_t1 v268 v271 v279 = 1#1)), (Rect.unit (s := S1x8192x256) (k0_off67 v359) S1x512x256.size (k0_off67_inb k0_t1 v268 v271 v279 v359 k0_hw28 k0_h1 k0_h2)).PackedRows (EltTy.packing .bf16) := fun k0_t1 v268 v271 v279 v359 k0_hw28 k0_h1 k0_h2 => k0_hw28.2.2 k0_h1 k0_h2 (k0_off67_inb k0_t1 v268 v271 v279 v359 k0_hw28 k0_h1 k0_h2)

def k0_off68 (k0_t1 : Fin k0_t1_loop.trips) : Fin 1 → Nat :=
  let c2_i32 : BitVec 32 := 2#32
  let c0_i32_79 : BitVec 32 := 0#32
  let c1_i32_80 : BitVec 32 := 1#32
  let arg22 : BitVec 32 := Scf.iv c0_i32_79 c1_i32_80 k0_t1
  let v266 : BitVec 32 := Scalar.muli c2_i32 arg22
  let v421 : Index := Scalar.indexCast v266
  ![v421.toNat]
def k0_mult47 (v424 : BitVec 32) : BitVec 32 :=
  let c1024_i32_202 : BitVec 32 := 1024#32
  let v430 : BitVec 32 := Scalar.muli v424 c1024_i32_202
  v430

def k0_off69 (v424 : BitVec 32) : Fin 4 → Nat :=
  let c0_203 : Index := 0#32
  let c0_204 : Index := 0#32
  let c0_205 : Index := 0#32
  let c1024_i32_202 : BitVec 32 := 1024#32
  let v430 : BitVec 32 := Scalar.muli v424 c1024_i32_202
  let v431 : BitVec 32 := v430
  let v432 : Index := Scalar.indexCast v431
  ![0, 0, 0, v432.toNat]

def k0_chk29 (k0_t1 : Fin k0_t1_loop.trips) (v268 : BitVec 32) (v271 : BitVec 32) (v279 : BitVec 32) (v424 : BitVec 32) : Prop :=
  (∀ (k0_h1 : k0_cond1 k0_t1 v268 v271 v279 = 1#1), ∀ (k0_h2 : ¬(k0_cond2 k0_t1 v268 v271 v279 = 1#1)), 1024 ∣ (k0_mult47 v424).toNat) ∧
  (∀ (k0_h1 : k0_cond1 k0_t1 v268 v271 v279 = 1#1), ∀ (k0_h2 : ¬(k0_cond2 k0_t1 v268 v271 v279 = 1#1)), ∀ a, (k0_off69 v424) a + S1x1x272x1024.size a ≤ S1x1x272x8192.size a)
theorem k0_mult47_dvd : ∀ (k0_t1 : Fin k0_t1_loop.trips) (v268 : BitVec 32) (v271 : BitVec 32) (v279 : BitVec 32) (v424 : BitVec 32) (k0_hw29 : k0_chk29 k0_t1 v268 v271 v279 v424), ∀ (k0_h1 : k0_cond1 k0_t1 v268 v271 v279 = 1#1), ∀ (k0_h2 : ¬(k0_cond2 k0_t1 v268 v271 v279 = 1#1)), 1024 ∣ (k0_mult47 v424).toNat := fun k0_t1 v268 v271 v279 v424 k0_hw29 k0_h1 k0_h2 => k0_hw29.1 k0_h1 k0_h2
theorem k0_off69_inb : ∀ (k0_t1 : Fin k0_t1_loop.trips) (v268 : BitVec 32) (v271 : BitVec 32) (v279 : BitVec 32) (v424 : BitVec 32) (k0_hw29 : k0_chk29 k0_t1 v268 v271 v279 v424), ∀ (k0_h1 : k0_cond1 k0_t1 v268 v271 v279 = 1#1), ∀ (k0_h2 : ¬(k0_cond2 k0_t1 v268 v271 v279 = 1#1)), ∀ a, (k0_off69 v424) a + S1x1x272x1024.size a ≤ S1x1x272x8192.size a := fun k0_t1 v268 v271 v279 v424 k0_hw29 k0_h1 k0_h2 => k0_hw29.2 k0_h1 k0_h2

def k0_off70 (k0_t1 : Fin k0_t1_loop.trips) : Fin 1 → Nat :=
  let c2_i32 : BitVec 32 := 2#32
  let c0_i32_79 : BitVec 32 := 0#32
  let c1_i32_80 : BitVec 32 := 1#32
  let arg22 : BitVec 32 := Scf.iv c0_i32_79 c1_i32_80 k0_t1
  let v266 : BitVec 32 := Scalar.muli c2_i32 arg22
  let c1_i32_132 : BitVec 32 := 1#32
  let v305 : BitVec 32 := Scalar.addi v266 c1_i32_132
  let v306 : Index := Scalar.indexCast v305
  ![v306.toNat]
def k0_mult48 (v309 : BitVec 32) : BitVec 32 :=
  let c1024_i32_133 : BitVec 32 := 1024#32
  let v310 : BitVec 32 := Scalar.muli v309 c1024_i32_133
  v310

def k0_off71 (v309 : BitVec 32) : Fin 3 → Nat :=
  let c0_134 : Index := 0#32
  let c1024_i32_133 : BitVec 32 := 1024#32
  let v310 : BitVec 32 := Scalar.muli v309 c1024_i32_133
  let v311 : BitVec 32 := v310
  let v312 : Index := Scalar.indexCast v311
  let c0_135 : Index := 0#32
  ![0, v312.toNat, 0]
def k0_mult49 (v307 : BitVec 32) : BitVec 32 :=
  let c512_i32_138 : BitVec 32 := 512#32
  let v317 : BitVec 32 := Scalar.muli v307 c512_i32_138
  v317

def k0_off72 (v307 : BitVec 32) : Fin 3 → Nat :=
  let c0_139 : Index := 0#32
  let c512_i32_138 : BitVec 32 := 512#32
  let v317 : BitVec 32 := Scalar.muli v307 c512_i32_138
  let v318 : BitVec 32 := v317
  let v319 : Index := Scalar.indexCast v318
  let c0_140 : Index := 0#32
  ![0, v319.toNat, 0]
def k0_mult50 (v309 : BitVec 32) : BitVec 32 :=
  let c1024_i32_151 : BitVec 32 := 1024#32
  let v333 : BitVec 32 := Scalar.muli v309 c1024_i32_151
  v333
def k0_off73 (v309 : BitVec 32) : Fin 3 → Nat :=
  let c0_152 : Index := 0#32
  let c1024_i32_151 : BitVec 32 := 1024#32
  let v333 : BitVec 32 := Scalar.muli v309 c1024_i32_151
  let v334 : BitVec 32 := v333
  let v335 : Index := Scalar.indexCast v334
  let c128_153 : Index := 128#32
  ![0, v335.toNat, 128]

def k0_chk30 (k0_t1 : Fin k0_t1_loop.trips) (v268 : BitVec 32) (v271 : BitVec 32) (v279 : BitVec 32) (v309 : BitVec 32) : Prop :=
  (∀ (k0_h1 : ¬(k0_cond1 k0_t1 v268 v271 v279 = 1#1)), 1024 ∣ (k0_mult48 v309).toNat) ∧
  (∀ (k0_h1 : ¬(k0_cond1 k0_t1 v268 v271 v279 = 1#1)), ∀ a, (k0_off71 v309) a + S1x1024x128.size a ≤ S1x8192x256.size a) ∧
  (∀ (k0_h1 : ¬(k0_cond1 k0_t1 v268 v271 v279 = 1#1)), 1024 ∣ (k0_mult50 v309).toNat) ∧
  (∀ (k0_h1 : ¬(k0_cond1 k0_t1 v268 v271 v279 = 1#1)), ∀ a, (k0_off73 v309) a + S1x1024x128.size a ≤ S1x8192x256.size a)
theorem k0_mult48_dvd : ∀ (k0_t1 : Fin k0_t1_loop.trips) (v268 : BitVec 32) (v271 : BitVec 32) (v279 : BitVec 32) (v309 : BitVec 32) (k0_hw30 : k0_chk30 k0_t1 v268 v271 v279 v309), ∀ (k0_h1 : ¬(k0_cond1 k0_t1 v268 v271 v279 = 1#1)), 1024 ∣ (k0_mult48 v309).toNat := fun k0_t1 v268 v271 v279 v309 k0_hw30 k0_h1 => k0_hw30.1 k0_h1
theorem k0_off71_inb : ∀ (k0_t1 : Fin k0_t1_loop.trips) (v268 : BitVec 32) (v271 : BitVec 32) (v279 : BitVec 32) (v309 : BitVec 32) (k0_hw30 : k0_chk30 k0_t1 v268 v271 v279 v309), ∀ (k0_h1 : ¬(k0_cond1 k0_t1 v268 v271 v279 = 1#1)), ∀ a, (k0_off71 v309) a + S1x1024x128.size a ≤ S1x8192x256.size a := fun k0_t1 v268 v271 v279 v309 k0_hw30 k0_h1 => k0_hw30.2.1 k0_h1
theorem k0_mult50_dvd : ∀ (k0_t1 : Fin k0_t1_loop.trips) (v268 : BitVec 32) (v271 : BitVec 32) (v279 : BitVec 32) (v309 : BitVec 32) (k0_hw30 : k0_chk30 k0_t1 v268 v271 v279 v309), ∀ (k0_h1 : ¬(k0_cond1 k0_t1 v268 v271 v279 = 1#1)), 1024 ∣ (k0_mult50 v309).toNat := fun k0_t1 v268 v271 v279 v309 k0_hw30 k0_h1 => k0_hw30.2.2.1 k0_h1
theorem k0_off73_inb : ∀ (k0_t1 : Fin k0_t1_loop.trips) (v268 : BitVec 32) (v271 : BitVec 32) (v279 : BitVec 32) (v309 : BitVec 32) (k0_hw30 : k0_chk30 k0_t1 v268 v271 v279 v309), ∀ (k0_h1 : ¬(k0_cond1 k0_t1 v268 v271 v279 = 1#1)), ∀ a, (k0_off73 v309) a + S1x1024x128.size a ≤ S1x8192x256.size a := fun k0_t1 v268 v271 v279 v309 k0_hw30 k0_h1 => k0_hw30.2.2.2 k0_h1

def k0_mult51 (v307 : BitVec 32) : BitVec 32 :=
  let c512_i32_156 : BitVec 32 := 512#32
  let v340 : BitVec 32 := Scalar.muli v307 c512_i32_156
  v340
def k0_off74 (v307 : BitVec 32) : Fin 3 → Nat :=
  let c0_157 : Index := 0#32
  let c512_i32_156 : BitVec 32 := 512#32
  let v340 : BitVec 32 := Scalar.muli v307 c512_i32_156
  let v341 : BitVec 32 := v340
  let v342 : Index := Scalar.indexCast v341
  let c128_158 : Index := 128#32
  ![0, v342.toNat, 128]

def k0_chk31 (k0_t1 : Fin k0_t1_loop.trips) (v268 : BitVec 32) (v271 : BitVec 32) (v279 : BitVec 32) (v307 : BitVec 32) : Prop :=
  (∀ (k0_h1 : ¬(k0_cond1 k0_t1 v268 v271 v279 = 1#1)), 512 ∣ (k0_mult49 v307).toNat) ∧
  (∀ (k0_h1 : ¬(k0_cond1 k0_t1 v268 v271 v279 = 1#1)), ∀ a, (k0_off72 v307) a + S1x512x128.size a ≤ S1x8192x256.size a) ∧
  (∀ (k0_h1 : ¬(k0_cond1 k0_t1 v268 v271 v279 = 1#1)), 512 ∣ (k0_mult51 v307).toNat) ∧
  (∀ (k0_h1 : ¬(k0_cond1 k0_t1 v268 v271 v279 = 1#1)), ∀ a, (k0_off74 v307) a + S1x512x128.size a ≤ S1x8192x256.size a)
theorem k0_mult49_dvd : ∀ (k0_t1 : Fin k0_t1_loop.trips) (v268 : BitVec 32) (v271 : BitVec 32) (v279 : BitVec 32) (v307 : BitVec 32) (k0_hw31 : k0_chk31 k0_t1 v268 v271 v279 v307), ∀ (k0_h1 : ¬(k0_cond1 k0_t1 v268 v271 v279 = 1#1)), 512 ∣ (k0_mult49 v307).toNat := fun k0_t1 v268 v271 v279 v307 k0_hw31 k0_h1 => k0_hw31.1 k0_h1
theorem k0_off72_inb : ∀ (k0_t1 : Fin k0_t1_loop.trips) (v268 : BitVec 32) (v271 : BitVec 32) (v279 : BitVec 32) (v307 : BitVec 32) (k0_hw31 : k0_chk31 k0_t1 v268 v271 v279 v307), ∀ (k0_h1 : ¬(k0_cond1 k0_t1 v268 v271 v279 = 1#1)), ∀ a, (k0_off72 v307) a + S1x512x128.size a ≤ S1x8192x256.size a := fun k0_t1 v268 v271 v279 v307 k0_hw31 k0_h1 => k0_hw31.2.1 k0_h1
theorem k0_mult51_dvd : ∀ (k0_t1 : Fin k0_t1_loop.trips) (v268 : BitVec 32) (v271 : BitVec 32) (v279 : BitVec 32) (v307 : BitVec 32) (k0_hw31 : k0_chk31 k0_t1 v268 v271 v279 v307), ∀ (k0_h1 : ¬(k0_cond1 k0_t1 v268 v271 v279 = 1#1)), 512 ∣ (k0_mult51 v307).toNat := fun k0_t1 v268 v271 v279 v307 k0_hw31 k0_h1 => k0_hw31.2.2.1 k0_h1
theorem k0_off74_inb : ∀ (k0_t1 : Fin k0_t1_loop.trips) (v268 : BitVec 32) (v271 : BitVec 32) (v279 : BitVec 32) (v307 : BitVec 32) (k0_hw31 : k0_chk31 k0_t1 v268 v271 v279 v307), ∀ (k0_h1 : ¬(k0_cond1 k0_t1 v268 v271 v279 = 1#1)), ∀ a, (k0_off74 v307) a + S1x512x128.size a ≤ S1x8192x256.size a := fun k0_t1 v268 v271 v279 v307 k0_hw31 k0_h1 => k0_hw31.2.2.2 k0_h1

def k0_off75 (k0_t1 : Fin k0_t1_loop.trips) : Fin 1 → Nat :=
  let c2_i32 : BitVec 32 := 2#32
  let c0_i32_79 : BitVec 32 := 0#32
  let c1_i32_80 : BitVec 32 := 1#32
  let arg22 : BitVec 32 := Scf.iv c0_i32_79 c1_i32_80 k0_t1
  let v266 : BitVec 32 := Scalar.muli c2_i32 arg22
  let v356 : Index := Scalar.indexCast v266
  ![v356.toNat]
def k0_mult52 (v359 : BitVec 32) : BitVec 32 :=
  let c1024_i32_171 : BitVec 32 := 1024#32
  let v365 : BitVec 32 := Scalar.muli v359 c1024_i32_171
  v365

def k0_off76 (v359 : BitVec 32) : Fin 4 → Nat :=
  let c0_172 : Index := 0#32
  let c0_173 : Index := 0#32
  let c0_174 : Index := 0#32
  let c1024_i32_171 : BitVec 32 := 1024#32
  let v365 : BitVec 32 := Scalar.muli v359 c1024_i32_171
  let v366 : BitVec 32 := v365
  let v367 : Index := Scalar.indexCast v366
  ![0, 0, 0, v367.toNat]

def k0_chk32 (k0_t1 : Fin k0_t1_loop.trips) (v268 : BitVec 32) (v271 : BitVec 32) (v279 : BitVec 32) (v359 : BitVec 32) : Prop :=
  (∀ (k0_h1 : ¬(k0_cond1 k0_t1 v268 v271 v279 = 1#1)), 1024 ∣ (k0_mult52 v359).toNat) ∧
  (∀ (k0_h1 : ¬(k0_cond1 k0_t1 v268 v271 v279 = 1#1)), ∀ a, (k0_off76 v359) a + S1x1x272x1024.size a ≤ S1x1x272x8192.size a)
theorem k0_mult52_dvd : ∀ (k0_t1 : Fin k0_t1_loop.trips) (v268 : BitVec 32) (v271 : BitVec 32) (v279 : BitVec 32) (v359 : BitVec 32) (k0_hw32 : k0_chk32 k0_t1 v268 v271 v279 v359), ∀ (k0_h1 : ¬(k0_cond1 k0_t1 v268 v271 v279 = 1#1)), 1024 ∣ (k0_mult52 v359).toNat := fun k0_t1 v268 v271 v279 v359 k0_hw32 k0_h1 => k0_hw32.1 k0_h1
theorem k0_off76_inb : ∀ (k0_t1 : Fin k0_t1_loop.trips) (v268 : BitVec 32) (v271 : BitVec 32) (v279 : BitVec 32) (v359 : BitVec 32) (k0_hw32 : k0_chk32 k0_t1 v268 v271 v279 v359), ∀ (k0_h1 : ¬(k0_cond1 k0_t1 v268 v271 v279 = 1#1)), ∀ a, (k0_off76 v359) a + S1x1x272x1024.size a ≤ S1x1x272x8192.size a := fun k0_t1 v268 v271 v279 v359 k0_hw32 k0_h1 => k0_hw32.2 k0_h1

def k0_off77 (k0_t1 : Fin k0_t1_loop.trips) : Fin 1 → Nat :=
  let c2_i32_119 : BitVec 32 := 2#32
  let c0_i32_79 : BitVec 32 := 0#32
  let c1_i32_80 : BitVec 32 := 1#32
  let arg22 : BitVec 32 := Scf.iv c0_i32_79 c1_i32_80 k0_t1
  let v285 : BitVec 32 := Scalar.muli c2_i32_119 arg22
  let c1_i32_120 : BitVec 32 := 1#32
  let v286 : BitVec 32 := Scalar.addi v285 c1_i32_120
  let v287 : Index := Scalar.indexCast v286
  ![v287.toNat]
def k0_off78 (k0_t1 : Fin k0_t1_loop.trips) : Fin 1 → Nat :=
  let c2_i32_119 : BitVec 32 := 2#32
  let c0_i32_79 : BitVec 32 := 0#32
  let c1_i32_80 : BitVec 32 := 1#32
  let arg22 : BitVec 32 := Scf.iv c0_i32_79 c1_i32_80 k0_t1
  let v285 : BitVec 32 := Scalar.muli c2_i32_119 arg22
  let c1_i32_120 : BitVec 32 := 1#32
  let v286 : BitVec 32 := Scalar.addi v285 c1_i32_120
  let c1_i32_127 : BitVec 32 := 1#32
  let v297 : BitVec 32 := Scalar.addi v286 c1_i32_127
  let v298 : Index := Scalar.indexCast v297
  ![v298.toNat]
def k0_off79 (k0_t1 : Fin k0_t1_loop.trips) : Fin 1 → Nat :=
  let c2_i32_119 : BitVec 32 := 2#32
  let c0_i32_79 : BitVec 32 := 0#32
  let c1_i32_80 : BitVec 32 := 1#32
  let arg22 : BitVec 32 := Scf.iv c0_i32_79 c1_i32_80 k0_t1
  let v285 : BitVec 32 := Scalar.muli c2_i32_119 arg22
  let c1_i32_120 : BitVec 32 := 1#32
  let v286 : BitVec 32 := Scalar.addi v285 c1_i32_120
  let c1_i32_146 : BitVec 32 := 1#32
  let v319 : BitVec 32 := Scalar.addi v286 c1_i32_146
  let v320 : Index := Scalar.indexCast v319
  ![v320.toNat]
def k0_mult53 (v323 : BitVec 32) : BitVec 32 :=
  let c1024_i32_147 : BitVec 32 := 1024#32
  let v324 : BitVec 32 := Scalar.muli v323 c1024_i32_147
  v324
def k0_cond9 (k0_t1 : Fin k0_t1_loop.trips) (v288 : BitVec 32) (v291 : BitVec 32) (v299 : BitVec 32) : BitVec 1 :=
  let c3_i32_128 : BitVec 32 := 3#32
  let v300 : BitVec 32 := Scalar.muli v299 c3_i32_128
  let c2_i32_121 : BitVec 32 := 2#32
  let v289 : BitVec 1 := Scalar.cmpi .eq v288 c2_i32_121
  let c2_i32_126 : BitVec 32 := 2#32
  let c0_i32_122 : BitVec 32 := 0#32
  let v292 : BitVec 1 := Scalar.cmpi .eq v291 c0_i32_122
  let c2_i32_119 : BitVec 32 := 2#32
  let c0_i32_79 : BitVec 32 := 0#32
  let c1_i32_80 : BitVec 32 := 1#32
  let arg22 : BitVec 32 := Scf.iv c0_i32_79 c1_i32_80 k0_t1
  let v285 : BitVec 32 := Scalar.muli c2_i32_119 arg22
  let c1_i32_120 : BitVec 32 := 1#32
  let v286 : BitVec 32 := Scalar.addi v285 c1_i32_120
  let c0_i32_123 : BitVec 32 := 0#32
  let v293 : BitVec 1 := Scalar.cmpi .sgt v286 c0_i32_123
  let v294 : BitVec 1 := Scalar.andi v292 v293
  let c1_i32_124 : BitVec 32 := 1#32
  let c0_i32_125 : BitVec 32 := 0#32
  let v295 : BitVec 32 := Scalar.select v294 c1_i32_124 c0_i32_125
  let v296 : BitVec 32 := Scalar.select v289 c2_i32_126 v295
  let v301 : BitVec 32 := Scalar.addi v300 v296
  let c0_i32_129 : BitVec 32 := 0#32
  let v302 : BitVec 32 := Scalar.maxsi v301 c0_i32_129
  let c8_i32_130 : BitVec 32 := 8#32
  let v303 : BitVec 32 := Scalar.minsi v302 c8_i32_130
  let c0_i32_131 : BitVec 32 := 0#32
  let v304 : BitVec 1 := Scalar.cmpi .ne v303 c0_i32_131
  v304

def k0_cond10 (k0_t1 : Fin k0_t1_loop.trips) (v288 : BitVec 32) (v291 : BitVec 32) (v299 : BitVec 32) : BitVec 1 :=
  let c3_i32_128 : BitVec 32 := 3#32
  let v300 : BitVec 32 := Scalar.muli v299 c3_i32_128
  let c2_i32_121 : BitVec 32 := 2#32
  let v289 : BitVec 1 := Scalar.cmpi .eq v288 c2_i32_121
  let c2_i32_126 : BitVec 32 := 2#32
  let c0_i32_122 : BitVec 32 := 0#32
  let v292 : BitVec 1 := Scalar.cmpi .eq v291 c0_i32_122
  let c2_i32_119 : BitVec 32 := 2#32
  let c0_i32_79 : BitVec 32 := 0#32
  let c1_i32_80 : BitVec 32 := 1#32
  let arg22 : BitVec 32 := Scf.iv c0_i32_79 c1_i32_80 k0_t1
  let v285 : BitVec 32 := Scalar.muli c2_i32_119 arg22
  let c1_i32_120 : BitVec 32 := 1#32
  let v286 : BitVec 32 := Scalar.addi v285 c1_i32_120
  let c0_i32_123 : BitVec 32 := 0#32
  let v293 : BitVec 1 := Scalar.cmpi .sgt v286 c0_i32_123
  let v294 : BitVec 1 := Scalar.andi v292 v293
  let c1_i32_124 : BitVec 32 := 1#32
  let c0_i32_125 : BitVec 32 := 0#32
  let v295 : BitVec 32 := Scalar.select v294 c1_i32_124 c0_i32_125
  let v296 : BitVec 32 := Scalar.select v289 c2_i32_126 v295
  let v301 : BitVec 32 := Scalar.addi v300 v296
  let c0_i32_129 : BitVec 32 := 0#32
  let v302 : BitVec 32 := Scalar.maxsi v301 c0_i32_129
  let c8_i32_130 : BitVec 32 := 8#32
  let v303 : BitVec 32 := Scalar.minsi v302 c8_i32_130
  let c1_i32_132 : BitVec 32 := 1#32
  let v305 : BitVec 32 := Scalar.subi v303 c1_i32_132
  let c0_i32_133 : BitVec 32 := 0#32
  let v306 : BitVec 1 := Scalar.cmpi .ne v305 c0_i32_133
  v306

def k0_cond11 (k0_t1 : Fin k0_t1_loop.trips) (v288 : BitVec 32) (v291 : BitVec 32) (v299 : BitVec 32) : BitVec 1 :=
  let c3_i32_128 : BitVec 32 := 3#32
  let v300 : BitVec 32 := Scalar.muli v299 c3_i32_128
  let c2_i32_121 : BitVec 32 := 2#32
  let v289 : BitVec 1 := Scalar.cmpi .eq v288 c2_i32_121
  let c2_i32_126 : BitVec 32 := 2#32
  let c0_i32_122 : BitVec 32 := 0#32
  let v292 : BitVec 1 := Scalar.cmpi .eq v291 c0_i32_122
  let c2_i32_119 : BitVec 32 := 2#32
  let c0_i32_79 : BitVec 32 := 0#32
  let c1_i32_80 : BitVec 32 := 1#32
  let arg22 : BitVec 32 := Scf.iv c0_i32_79 c1_i32_80 k0_t1
  let v285 : BitVec 32 := Scalar.muli c2_i32_119 arg22
  let c1_i32_120 : BitVec 32 := 1#32
  let v286 : BitVec 32 := Scalar.addi v285 c1_i32_120
  let c0_i32_123 : BitVec 32 := 0#32
  let v293 : BitVec 1 := Scalar.cmpi .sgt v286 c0_i32_123
  let v294 : BitVec 1 := Scalar.andi v292 v293
  let c1_i32_124 : BitVec 32 := 1#32
  let c0_i32_125 : BitVec 32 := 0#32
  let v295 : BitVec 32 := Scalar.select v294 c1_i32_124 c0_i32_125
  let v296 : BitVec 32 := Scalar.select v289 c2_i32_126 v295
  let v301 : BitVec 32 := Scalar.addi v300 v296
  let c0_i32_129 : BitVec 32 := 0#32
  let v302 : BitVec 32 := Scalar.maxsi v301 c0_i32_129
  let c8_i32_130 : BitVec 32 := 8#32
  let v303 : BitVec 32 := Scalar.minsi v302 c8_i32_130
  let c1_i32_132 : BitVec 32 := 1#32
  let v305 : BitVec 32 := Scalar.subi v303 c1_i32_132
  let c1_i32_134 : BitVec 32 := 1#32
  let v307 : BitVec 32 := Scalar.subi v305 c1_i32_134
  let c0_i32_135 : BitVec 32 := 0#32
  let v308 : BitVec 1 := Scalar.cmpi .ne v307 c0_i32_135
  v308

def k0_cond12 (k0_t1 : Fin k0_t1_loop.trips) (v288 : BitVec 32) (v291 : BitVec 32) (v299 : BitVec 32) : BitVec 1 :=
  let c3_i32_128 : BitVec 32 := 3#32
  let v300 : BitVec 32 := Scalar.muli v299 c3_i32_128
  let c2_i32_121 : BitVec 32 := 2#32
  let v289 : BitVec 1 := Scalar.cmpi .eq v288 c2_i32_121
  let c2_i32_126 : BitVec 32 := 2#32
  let c0_i32_122 : BitVec 32 := 0#32
  let v292 : BitVec 1 := Scalar.cmpi .eq v291 c0_i32_122
  let c2_i32_119 : BitVec 32 := 2#32
  let c0_i32_79 : BitVec 32 := 0#32
  let c1_i32_80 : BitVec 32 := 1#32
  let arg22 : BitVec 32 := Scf.iv c0_i32_79 c1_i32_80 k0_t1
  let v285 : BitVec 32 := Scalar.muli c2_i32_119 arg22
  let c1_i32_120 : BitVec 32 := 1#32
  let v286 : BitVec 32 := Scalar.addi v285 c1_i32_120
  let c0_i32_123 : BitVec 32 := 0#32
  let v293 : BitVec 1 := Scalar.cmpi .sgt v286 c0_i32_123
  let v294 : BitVec 1 := Scalar.andi v292 v293
  let c1_i32_124 : BitVec 32 := 1#32
  let c0_i32_125 : BitVec 32 := 0#32
  let v295 : BitVec 32 := Scalar.select v294 c1_i32_124 c0_i32_125
  let v296 : BitVec 32 := Scalar.select v289 c2_i32_126 v295
  let v301 : BitVec 32 := Scalar.addi v300 v296
  let c0_i32_129 : BitVec 32 := 0#32
  let v302 : BitVec 32 := Scalar.maxsi v301 c0_i32_129
  let c8_i32_130 : BitVec 32 := 8#32
  let v303 : BitVec 32 := Scalar.minsi v302 c8_i32_130
  let c1_i32_132 : BitVec 32 := 1#32
  let v305 : BitVec 32 := Scalar.subi v303 c1_i32_132
  let c1_i32_134 : BitVec 32 := 1#32
  let v307 : BitVec 32 := Scalar.subi v305 c1_i32_134
  let c1_i32_136 : BitVec 32 := 1#32
  let v309 : BitVec 32 := Scalar.subi v307 c1_i32_136
  let c0_i32_137 : BitVec 32 := 0#32
  let v310 : BitVec 1 := Scalar.cmpi .ne v309 c0_i32_137
  v310

def k0_cond13 (k0_t1 : Fin k0_t1_loop.trips) (v288 : BitVec 32) (v291 : BitVec 32) (v299 : BitVec 32) : BitVec 1 :=
  let c3_i32_128 : BitVec 32 := 3#32
  let v300 : BitVec 32 := Scalar.muli v299 c3_i32_128
  let c2_i32_121 : BitVec 32 := 2#32
  let v289 : BitVec 1 := Scalar.cmpi .eq v288 c2_i32_121
  let c2_i32_126 : BitVec 32 := 2#32
  let c0_i32_122 : BitVec 32 := 0#32
  let v292 : BitVec 1 := Scalar.cmpi .eq v291 c0_i32_122
  let c2_i32_119 : BitVec 32 := 2#32
  let c0_i32_79 : BitVec 32 := 0#32
  let c1_i32_80 : BitVec 32 := 1#32
  let arg22 : BitVec 32 := Scf.iv c0_i32_79 c1_i32_80 k0_t1
  let v285 : BitVec 32 := Scalar.muli c2_i32_119 arg22
  let c1_i32_120 : BitVec 32 := 1#32
  let v286 : BitVec 32 := Scalar.addi v285 c1_i32_120
  let c0_i32_123 : BitVec 32 := 0#32
  let v293 : BitVec 1 := Scalar.cmpi .sgt v286 c0_i32_123
  let v294 : BitVec 1 := Scalar.andi v292 v293
  let c1_i32_124 : BitVec 32 := 1#32
  let c0_i32_125 : BitVec 32 := 0#32
  let v295 : BitVec 32 := Scalar.select v294 c1_i32_124 c0_i32_125
  let v296 : BitVec 32 := Scalar.select v289 c2_i32_126 v295
  let v301 : BitVec 32 := Scalar.addi v300 v296
  let c0_i32_129 : BitVec 32 := 0#32
  let v302 : BitVec 32 := Scalar.maxsi v301 c0_i32_129
  let c8_i32_130 : BitVec 32 := 8#32
  let v303 : BitVec 32 := Scalar.minsi v302 c8_i32_130
  let c1_i32_132 : BitVec 32 := 1#32
  let v305 : BitVec 32 := Scalar.subi v303 c1_i32_132
  let c1_i32_134 : BitVec 32 := 1#32
  let v307 : BitVec 32 := Scalar.subi v305 c1_i32_134
  let c1_i32_136 : BitVec 32 := 1#32
  let v309 : BitVec 32 := Scalar.subi v307 c1_i32_136
  let c1_i32_138 : BitVec 32 := 1#32
  let v311 : BitVec 32 := Scalar.subi v309 c1_i32_138
  let c0_i32_139 : BitVec 32 := 0#32
  let v312 : BitVec 1 := Scalar.cmpi .ne v311 c0_i32_139
  v312

def k0_cond14 (k0_t1 : Fin k0_t1_loop.trips) (v288 : BitVec 32) (v291 : BitVec 32) (v299 : BitVec 32) : BitVec 1 :=
  let c3_i32_128 : BitVec 32 := 3#32
  let v300 : BitVec 32 := Scalar.muli v299 c3_i32_128
  let c2_i32_121 : BitVec 32 := 2#32
  let v289 : BitVec 1 := Scalar.cmpi .eq v288 c2_i32_121
  let c2_i32_126 : BitVec 32 := 2#32
  let c0_i32_122 : BitVec 32 := 0#32
  let v292 : BitVec 1 := Scalar.cmpi .eq v291 c0_i32_122
  let c2_i32_119 : BitVec 32 := 2#32
  let c0_i32_79 : BitVec 32 := 0#32
  let c1_i32_80 : BitVec 32 := 1#32
  let arg22 : BitVec 32 := Scf.iv c0_i32_79 c1_i32_80 k0_t1
  let v285 : BitVec 32 := Scalar.muli c2_i32_119 arg22
  let c1_i32_120 : BitVec 32 := 1#32
  let v286 : BitVec 32 := Scalar.addi v285 c1_i32_120
  let c0_i32_123 : BitVec 32 := 0#32
  let v293 : BitVec 1 := Scalar.cmpi .sgt v286 c0_i32_123
  let v294 : BitVec 1 := Scalar.andi v292 v293
  let c1_i32_124 : BitVec 32 := 1#32
  let c0_i32_125 : BitVec 32 := 0#32
  let v295 : BitVec 32 := Scalar.select v294 c1_i32_124 c0_i32_125
  let v296 : BitVec 32 := Scalar.select v289 c2_i32_126 v295
  let v301 : BitVec 32 := Scalar.addi v300 v296
  let c0_i32_129 : BitVec 32 := 0#32
  let v302 : BitVec 32 := Scalar.maxsi v301 c0_i32_129
  let c8_i32_130 : BitVec 32 := 8#32
  let v303 : BitVec 32 := Scalar.minsi v302 c8_i32_130
  let c1_i32_132 : BitVec 32 := 1#32
  let v305 : BitVec 32 := Scalar.subi v303 c1_i32_132
  let c1_i32_134 : BitVec 32 := 1#32
  let v307 : BitVec 32 := Scalar.subi v305 c1_i32_134
  let c1_i32_136 : BitVec 32 := 1#32
  let v309 : BitVec 32 := Scalar.subi v307 c1_i32_136
  let c1_i32_138 : BitVec 32 := 1#32
  let v311 : BitVec 32 := Scalar.subi v309 c1_i32_138
  let c1_i32_140 : BitVec 32 := 1#32
  let v313 : BitVec 32 := Scalar.subi v311 c1_i32_140
  let c0_i32_141 : BitVec 32 := 0#32
  let v314 : BitVec 1 := Scalar.cmpi .ne v313 c0_i32_141
  v314

def k0_cond15 (k0_t1 : Fin k0_t1_loop.trips) (v288 : BitVec 32) (v291 : BitVec 32) (v299 : BitVec 32) : BitVec 1 :=
  let c3_i32_128 : BitVec 32 := 3#32
  let v300 : BitVec 32 := Scalar.muli v299 c3_i32_128
  let c2_i32_121 : BitVec 32 := 2#32
  let v289 : BitVec 1 := Scalar.cmpi .eq v288 c2_i32_121
  let c2_i32_126 : BitVec 32 := 2#32
  let c0_i32_122 : BitVec 32 := 0#32
  let v292 : BitVec 1 := Scalar.cmpi .eq v291 c0_i32_122
  let c2_i32_119 : BitVec 32 := 2#32
  let c0_i32_79 : BitVec 32 := 0#32
  let c1_i32_80 : BitVec 32 := 1#32
  let arg22 : BitVec 32 := Scf.iv c0_i32_79 c1_i32_80 k0_t1
  let v285 : BitVec 32 := Scalar.muli c2_i32_119 arg22
  let c1_i32_120 : BitVec 32 := 1#32
  let v286 : BitVec 32 := Scalar.addi v285 c1_i32_120
  let c0_i32_123 : BitVec 32 := 0#32
  let v293 : BitVec 1 := Scalar.cmpi .sgt v286 c0_i32_123
  let v294 : BitVec 1 := Scalar.andi v292 v293
  let c1_i32_124 : BitVec 32 := 1#32
  let c0_i32_125 : BitVec 32 := 0#32
  let v295 : BitVec 32 := Scalar.select v294 c1_i32_124 c0_i32_125
  let v296 : BitVec 32 := Scalar.select v289 c2_i32_126 v295
  let v301 : BitVec 32 := Scalar.addi v300 v296
  let c0_i32_129 : BitVec 32 := 0#32
  let v302 : BitVec 32 := Scalar.maxsi v301 c0_i32_129
  let c8_i32_130 : BitVec 32 := 8#32
  let v303 : BitVec 32 := Scalar.minsi v302 c8_i32_130
  let c1_i32_132 : BitVec 32 := 1#32
  let v305 : BitVec 32 := Scalar.subi v303 c1_i32_132
  let c1_i32_134 : BitVec 32 := 1#32
  let v307 : BitVec 32 := Scalar.subi v305 c1_i32_134
  let c1_i32_136 : BitVec 32 := 1#32
  let v309 : BitVec 32 := Scalar.subi v307 c1_i32_136
  let c1_i32_138 : BitVec 32 := 1#32
  let v311 : BitVec 32 := Scalar.subi v309 c1_i32_138
  let c1_i32_140 : BitVec 32 := 1#32
  let v313 : BitVec 32 := Scalar.subi v311 c1_i32_140
  let c1_i32_142 : BitVec 32 := 1#32
  let v315 : BitVec 32 := Scalar.subi v313 c1_i32_142
  let c0_i32_143 : BitVec 32 := 0#32
  let v316 : BitVec 1 := Scalar.cmpi .ne v315 c0_i32_143
  v316

def k0_cond16 (k0_t1 : Fin k0_t1_loop.trips) (v288 : BitVec 32) (v291 : BitVec 32) (v299 : BitVec 32) : BitVec 1 :=
  let c3_i32_128 : BitVec 32 := 3#32
  let v300 : BitVec 32 := Scalar.muli v299 c3_i32_128
  let c2_i32_121 : BitVec 32 := 2#32
  let v289 : BitVec 1 := Scalar.cmpi .eq v288 c2_i32_121
  let c2_i32_126 : BitVec 32 := 2#32
  let c0_i32_122 : BitVec 32 := 0#32
  let v292 : BitVec 1 := Scalar.cmpi .eq v291 c0_i32_122
  let c2_i32_119 : BitVec 32 := 2#32
  let c0_i32_79 : BitVec 32 := 0#32
  let c1_i32_80 : BitVec 32 := 1#32
  let arg22 : BitVec 32 := Scf.iv c0_i32_79 c1_i32_80 k0_t1
  let v285 : BitVec 32 := Scalar.muli c2_i32_119 arg22
  let c1_i32_120 : BitVec 32 := 1#32
  let v286 : BitVec 32 := Scalar.addi v285 c1_i32_120
  let c0_i32_123 : BitVec 32 := 0#32
  let v293 : BitVec 1 := Scalar.cmpi .sgt v286 c0_i32_123
  let v294 : BitVec 1 := Scalar.andi v292 v293
  let c1_i32_124 : BitVec 32 := 1#32
  let c0_i32_125 : BitVec 32 := 0#32
  let v295 : BitVec 32 := Scalar.select v294 c1_i32_124 c0_i32_125
  let v296 : BitVec 32 := Scalar.select v289 c2_i32_126 v295
  let v301 : BitVec 32 := Scalar.addi v300 v296
  let c0_i32_129 : BitVec 32 := 0#32
  let v302 : BitVec 32 := Scalar.maxsi v301 c0_i32_129
  let c8_i32_130 : BitVec 32 := 8#32
  let v303 : BitVec 32 := Scalar.minsi v302 c8_i32_130
  let c1_i32_132 : BitVec 32 := 1#32
  let v305 : BitVec 32 := Scalar.subi v303 c1_i32_132
  let c1_i32_134 : BitVec 32 := 1#32
  let v307 : BitVec 32 := Scalar.subi v305 c1_i32_134
  let c1_i32_136 : BitVec 32 := 1#32
  let v309 : BitVec 32 := Scalar.subi v307 c1_i32_136
  let c1_i32_138 : BitVec 32 := 1#32
  let v311 : BitVec 32 := Scalar.subi v309 c1_i32_138
  let c1_i32_140 : BitVec 32 := 1#32
  let v313 : BitVec 32 := Scalar.subi v311 c1_i32_140
  let c1_i32_142 : BitVec 32 := 1#32
  let v315 : BitVec 32 := Scalar.subi v313 c1_i32_142
  let c1_i32_144 : BitVec 32 := 1#32
  let v317 : BitVec 32 := Scalar.subi v315 c1_i32_144
  let c0_i32_145 : BitVec 32 := 0#32
  let v318 : BitVec 1 := Scalar.cmpi .ne v317 c0_i32_145
  v318

def k0_off80 (v323 : BitVec 32) : Fin 3 → Nat :=
  let c0_148 : Index := 0#32
  let c1024_i32_147 : BitVec 32 := 1024#32
  let v324 : BitVec 32 := Scalar.muli v323 c1024_i32_147
  let v325 : BitVec 32 := v324
  let v326 : Index := Scalar.indexCast v325
  let c0_149 : Index := 0#32
  ![0, v326.toNat, 0]
def k0_mult54 (v321 : BitVec 32) : BitVec 32 :=
  let c512_i32_152 : BitVec 32 := 512#32
  let v331 : BitVec 32 := Scalar.muli v321 c512_i32_152
  v331

def k0_off81 (v321 : BitVec 32) : Fin 3 → Nat :=
  let c0_153 : Index := 0#32
  let c512_i32_152 : BitVec 32 := 512#32
  let v331 : BitVec 32 := Scalar.muli v321 c512_i32_152
  let v332 : BitVec 32 := v331
  let v333 : Index := Scalar.indexCast v332
  let c0_154 : Index := 0#32
  ![0, v333.toNat, 0]
def k0_mult55 (v323 : BitVec 32) : BitVec 32 :=
  let c1024_i32_167 : BitVec 32 := 1024#32
  let v349 : BitVec 32 := Scalar.muli v323 c1024_i32_167
  v349
def k0_off82 (v323 : BitVec 32) : Fin 3 → Nat :=
  let c0_168 : Index := 0#32
  let c1024_i32_167 : BitVec 32 := 1024#32
  let v349 : BitVec 32 := Scalar.muli v323 c1024_i32_167
  let v350 : BitVec 32 := v349
  let v351 : Index := Scalar.indexCast v350
  let c128_169 : Index := 128#32
  ![0, v351.toNat, 128]

def k0_chk33 (k0_t1 : Fin k0_t1_loop.trips) (v288 : BitVec 32) (v291 : BitVec 32) (v299 : BitVec 32) (v323 : BitVec 32) : Prop :=
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : k0_cond15 k0_t1 v288 v291 v299 = 1#1), ∀ (k0_h16 : k0_cond16 k0_t1 v288 v291 v299 = 1#1), 1024 ∣ (k0_mult53 v323).toNat) ∧
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : k0_cond15 k0_t1 v288 v291 v299 = 1#1), ∀ (k0_h16 : k0_cond16 k0_t1 v288 v291 v299 = 1#1), ∀ a, (k0_off80 v323) a + S1x512x128.size a ≤ S1x8192x256.size a) ∧
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : k0_cond15 k0_t1 v288 v291 v299 = 1#1), ∀ (k0_h16 : k0_cond16 k0_t1 v288 v291 v299 = 1#1), 1024 ∣ (k0_mult55 v323).toNat) ∧
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : k0_cond15 k0_t1 v288 v291 v299 = 1#1), ∀ (k0_h16 : k0_cond16 k0_t1 v288 v291 v299 = 1#1), ∀ a, (k0_off82 v323) a + S1x512x128.size a ≤ S1x8192x256.size a)
theorem k0_mult53_dvd : ∀ (k0_t1 : Fin k0_t1_loop.trips) (v288 : BitVec 32) (v291 : BitVec 32) (v299 : BitVec 32) (v323 : BitVec 32) (k0_hw33 : k0_chk33 k0_t1 v288 v291 v299 v323), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : k0_cond15 k0_t1 v288 v291 v299 = 1#1), ∀ (k0_h16 : k0_cond16 k0_t1 v288 v291 v299 = 1#1), 1024 ∣ (k0_mult53 v323).toNat := fun k0_t1 v288 v291 v299 v323 k0_hw33 k0_h9 k0_h10 k0_h11 k0_h12 k0_h13 k0_h14 k0_h15 k0_h16 => k0_hw33.1 k0_h9 k0_h10 k0_h11 k0_h12 k0_h13 k0_h14 k0_h15 k0_h16
theorem k0_off80_inb : ∀ (k0_t1 : Fin k0_t1_loop.trips) (v288 : BitVec 32) (v291 : BitVec 32) (v299 : BitVec 32) (v323 : BitVec 32) (k0_hw33 : k0_chk33 k0_t1 v288 v291 v299 v323), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : k0_cond15 k0_t1 v288 v291 v299 = 1#1), ∀ (k0_h16 : k0_cond16 k0_t1 v288 v291 v299 = 1#1), ∀ a, (k0_off80 v323) a + S1x512x128.size a ≤ S1x8192x256.size a := fun k0_t1 v288 v291 v299 v323 k0_hw33 k0_h9 k0_h10 k0_h11 k0_h12 k0_h13 k0_h14 k0_h15 k0_h16 => k0_hw33.2.1 k0_h9 k0_h10 k0_h11 k0_h12 k0_h13 k0_h14 k0_h15 k0_h16
theorem k0_mult55_dvd : ∀ (k0_t1 : Fin k0_t1_loop.trips) (v288 : BitVec 32) (v291 : BitVec 32) (v299 : BitVec 32) (v323 : BitVec 32) (k0_hw33 : k0_chk33 k0_t1 v288 v291 v299 v323), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : k0_cond15 k0_t1 v288 v291 v299 = 1#1), ∀ (k0_h16 : k0_cond16 k0_t1 v288 v291 v299 = 1#1), 1024 ∣ (k0_mult55 v323).toNat := fun k0_t1 v288 v291 v299 v323 k0_hw33 k0_h9 k0_h10 k0_h11 k0_h12 k0_h13 k0_h14 k0_h15 k0_h16 => k0_hw33.2.2.1 k0_h9 k0_h10 k0_h11 k0_h12 k0_h13 k0_h14 k0_h15 k0_h16
theorem k0_off82_inb : ∀ (k0_t1 : Fin k0_t1_loop.trips) (v288 : BitVec 32) (v291 : BitVec 32) (v299 : BitVec 32) (v323 : BitVec 32) (k0_hw33 : k0_chk33 k0_t1 v288 v291 v299 v323), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : k0_cond15 k0_t1 v288 v291 v299 = 1#1), ∀ (k0_h16 : k0_cond16 k0_t1 v288 v291 v299 = 1#1), ∀ a, (k0_off82 v323) a + S1x512x128.size a ≤ S1x8192x256.size a := fun k0_t1 v288 v291 v299 v323 k0_hw33 k0_h9 k0_h10 k0_h11 k0_h12 k0_h13 k0_h14 k0_h15 k0_h16 => k0_hw33.2.2.2 k0_h9 k0_h10 k0_h11 k0_h12 k0_h13 k0_h14 k0_h15 k0_h16

def k0_mult56 (v321 : BitVec 32) : BitVec 32 :=
  let c512_i32_172 : BitVec 32 := 512#32
  let v356 : BitVec 32 := Scalar.muli v321 c512_i32_172
  v356
def k0_off83 (v321 : BitVec 32) : Fin 3 → Nat :=
  let c0_173 : Index := 0#32
  let c512_i32_172 : BitVec 32 := 512#32
  let v356 : BitVec 32 := Scalar.muli v321 c512_i32_172
  let v357 : BitVec 32 := v356
  let v358 : Index := Scalar.indexCast v357
  let c128_174 : Index := 128#32
  ![0, v358.toNat, 128]

def k0_chk34 (k0_t1 : Fin k0_t1_loop.trips) (v288 : BitVec 32) (v291 : BitVec 32) (v299 : BitVec 32) (v321 : BitVec 32) : Prop :=
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : k0_cond15 k0_t1 v288 v291 v299 = 1#1), ∀ (k0_h16 : k0_cond16 k0_t1 v288 v291 v299 = 1#1), 512 ∣ (k0_mult54 v321).toNat) ∧
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : k0_cond15 k0_t1 v288 v291 v299 = 1#1), ∀ (k0_h16 : k0_cond16 k0_t1 v288 v291 v299 = 1#1), ∀ a, (k0_off81 v321) a + S1x512x128.size a ≤ S1x8192x256.size a) ∧
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : k0_cond15 k0_t1 v288 v291 v299 = 1#1), ∀ (k0_h16 : k0_cond16 k0_t1 v288 v291 v299 = 1#1), 512 ∣ (k0_mult56 v321).toNat) ∧
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : k0_cond15 k0_t1 v288 v291 v299 = 1#1), ∀ (k0_h16 : k0_cond16 k0_t1 v288 v291 v299 = 1#1), ∀ a, (k0_off83 v321) a + S1x512x128.size a ≤ S1x8192x256.size a)
theorem k0_mult54_dvd : ∀ (k0_t1 : Fin k0_t1_loop.trips) (v288 : BitVec 32) (v291 : BitVec 32) (v299 : BitVec 32) (v321 : BitVec 32) (k0_hw34 : k0_chk34 k0_t1 v288 v291 v299 v321), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : k0_cond15 k0_t1 v288 v291 v299 = 1#1), ∀ (k0_h16 : k0_cond16 k0_t1 v288 v291 v299 = 1#1), 512 ∣ (k0_mult54 v321).toNat := fun k0_t1 v288 v291 v299 v321 k0_hw34 k0_h9 k0_h10 k0_h11 k0_h12 k0_h13 k0_h14 k0_h15 k0_h16 => k0_hw34.1 k0_h9 k0_h10 k0_h11 k0_h12 k0_h13 k0_h14 k0_h15 k0_h16
theorem k0_off81_inb : ∀ (k0_t1 : Fin k0_t1_loop.trips) (v288 : BitVec 32) (v291 : BitVec 32) (v299 : BitVec 32) (v321 : BitVec 32) (k0_hw34 : k0_chk34 k0_t1 v288 v291 v299 v321), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : k0_cond15 k0_t1 v288 v291 v299 = 1#1), ∀ (k0_h16 : k0_cond16 k0_t1 v288 v291 v299 = 1#1), ∀ a, (k0_off81 v321) a + S1x512x128.size a ≤ S1x8192x256.size a := fun k0_t1 v288 v291 v299 v321 k0_hw34 k0_h9 k0_h10 k0_h11 k0_h12 k0_h13 k0_h14 k0_h15 k0_h16 => k0_hw34.2.1 k0_h9 k0_h10 k0_h11 k0_h12 k0_h13 k0_h14 k0_h15 k0_h16
theorem k0_mult56_dvd : ∀ (k0_t1 : Fin k0_t1_loop.trips) (v288 : BitVec 32) (v291 : BitVec 32) (v299 : BitVec 32) (v321 : BitVec 32) (k0_hw34 : k0_chk34 k0_t1 v288 v291 v299 v321), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : k0_cond15 k0_t1 v288 v291 v299 = 1#1), ∀ (k0_h16 : k0_cond16 k0_t1 v288 v291 v299 = 1#1), 512 ∣ (k0_mult56 v321).toNat := fun k0_t1 v288 v291 v299 v321 k0_hw34 k0_h9 k0_h10 k0_h11 k0_h12 k0_h13 k0_h14 k0_h15 k0_h16 => k0_hw34.2.2.1 k0_h9 k0_h10 k0_h11 k0_h12 k0_h13 k0_h14 k0_h15 k0_h16
theorem k0_off83_inb : ∀ (k0_t1 : Fin k0_t1_loop.trips) (v288 : BitVec 32) (v291 : BitVec 32) (v299 : BitVec 32) (v321 : BitVec 32) (k0_hw34 : k0_chk34 k0_t1 v288 v291 v299 v321), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : k0_cond15 k0_t1 v288 v291 v299 = 1#1), ∀ (k0_h16 : k0_cond16 k0_t1 v288 v291 v299 = 1#1), ∀ a, (k0_off83 v321) a + S1x512x128.size a ≤ S1x8192x256.size a := fun k0_t1 v288 v291 v299 v321 k0_hw34 k0_h9 k0_h10 k0_h11 k0_h12 k0_h13 k0_h14 k0_h15 k0_h16 => k0_hw34.2.2.2 k0_h9 k0_h10 k0_h11 k0_h12 k0_h13 k0_h14 k0_h15 k0_h16

def k0_off84 (k0_t1 : Fin k0_t1_loop.trips) : Fin 1 → Nat :=
  let c2_i32_119 : BitVec 32 := 2#32
  let c0_i32_79 : BitVec 32 := 0#32
  let c1_i32_80 : BitVec 32 := 1#32
  let arg22 : BitVec 32 := Scf.iv c0_i32_79 c1_i32_80 k0_t1
  let v285 : BitVec 32 := Scalar.muli c2_i32_119 arg22
  let c1_i32_120 : BitVec 32 := 1#32
  let v286 : BitVec 32 := Scalar.addi v285 c1_i32_120
  let v374 : Index := Scalar.indexCast v286
  ![v374.toNat]
def k0_mult57 (v377 : BitVec 32) : BitVec 32 :=
  let c1024_i32_189 : BitVec 32 := 1024#32
  let v383 : BitVec 32 := Scalar.muli v377 c1024_i32_189
  v383

def k0_off85 (v377 : BitVec 32) : Fin 4 → Nat :=
  let c0_190 : Index := 0#32
  let c0_191 : Index := 0#32
  let c0_192 : Index := 0#32
  let c1024_i32_189 : BitVec 32 := 1024#32
  let v383 : BitVec 32 := Scalar.muli v377 c1024_i32_189
  let v384 : BitVec 32 := v383
  let v385 : Index := Scalar.indexCast v384
  ![0, 0, 0, v385.toNat]

def k0_chk35 (k0_t1 : Fin k0_t1_loop.trips) (v288 : BitVec 32) (v291 : BitVec 32) (v299 : BitVec 32) (v377 : BitVec 32) : Prop :=
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : k0_cond15 k0_t1 v288 v291 v299 = 1#1), ∀ (k0_h16 : k0_cond16 k0_t1 v288 v291 v299 = 1#1), 1024 ∣ (k0_mult57 v377).toNat) ∧
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : k0_cond15 k0_t1 v288 v291 v299 = 1#1), ∀ (k0_h16 : k0_cond16 k0_t1 v288 v291 v299 = 1#1), ∀ a, (k0_off85 v377) a + S1x1x272x512.size a ≤ S1x1x272x8192.size a)
theorem k0_mult57_dvd : ∀ (k0_t1 : Fin k0_t1_loop.trips) (v288 : BitVec 32) (v291 : BitVec 32) (v299 : BitVec 32) (v377 : BitVec 32) (k0_hw35 : k0_chk35 k0_t1 v288 v291 v299 v377), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : k0_cond15 k0_t1 v288 v291 v299 = 1#1), ∀ (k0_h16 : k0_cond16 k0_t1 v288 v291 v299 = 1#1), 1024 ∣ (k0_mult57 v377).toNat := fun k0_t1 v288 v291 v299 v377 k0_hw35 k0_h9 k0_h10 k0_h11 k0_h12 k0_h13 k0_h14 k0_h15 k0_h16 => k0_hw35.1 k0_h9 k0_h10 k0_h11 k0_h12 k0_h13 k0_h14 k0_h15 k0_h16
theorem k0_off85_inb : ∀ (k0_t1 : Fin k0_t1_loop.trips) (v288 : BitVec 32) (v291 : BitVec 32) (v299 : BitVec 32) (v377 : BitVec 32) (k0_hw35 : k0_chk35 k0_t1 v288 v291 v299 v377), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : k0_cond15 k0_t1 v288 v291 v299 = 1#1), ∀ (k0_h16 : k0_cond16 k0_t1 v288 v291 v299 = 1#1), ∀ a, (k0_off85 v377) a + S1x1x272x512.size a ≤ S1x1x272x8192.size a := fun k0_t1 v288 v291 v299 v377 k0_hw35 k0_h9 k0_h10 k0_h11 k0_h12 k0_h13 k0_h14 k0_h15 k0_h16 => k0_hw35.2 k0_h9 k0_h10 k0_h11 k0_h12 k0_h13 k0_h14 k0_h15 k0_h16

def k0_off86 (k0_t1 : Fin k0_t1_loop.trips) : Fin 1 → Nat :=
  let c2_i32_119 : BitVec 32 := 2#32
  let c0_i32_79 : BitVec 32 := 0#32
  let c1_i32_80 : BitVec 32 := 1#32
  let arg22 : BitVec 32 := Scf.iv c0_i32_79 c1_i32_80 k0_t1
  let v285 : BitVec 32 := Scalar.muli c2_i32_119 arg22
  let c1_i32_120 : BitVec 32 := 1#32
  let v286 : BitVec 32 := Scalar.addi v285 c1_i32_120
  let c1_i32_146 : BitVec 32 := 1#32
  let v319 : BitVec 32 := Scalar.addi v286 c1_i32_146
  let v320 : Index := Scalar.indexCast v319
  ![v320.toNat]
def k0_mult58 (v323 : BitVec 32) : BitVec 32 :=
  let c1024_i32_147 : BitVec 32 := 1024#32
  let v324 : BitVec 32 := Scalar.muli v323 c1024_i32_147
  v324

def k0_off87 (v323 : BitVec 32) : Fin 3 → Nat :=
  let c0_148 : Index := 0#32
  let c1024_i32_147 : BitVec 32 := 1024#32
  let v324 : BitVec 32 := Scalar.muli v323 c1024_i32_147
  let v325 : BitVec 32 := v324
  let v326 : Index := Scalar.indexCast v325
  let c0_149 : Index := 0#32
  ![0, v326.toNat, 0]
def k0_mult59 (v321 : BitVec 32) : BitVec 32 :=
  let c512_i32_152 : BitVec 32 := 512#32
  let v331 : BitVec 32 := Scalar.muli v321 c512_i32_152
  v331

def k0_off88 (v321 : BitVec 32) : Fin 3 → Nat :=
  let c0_153 : Index := 0#32
  let c512_i32_152 : BitVec 32 := 512#32
  let v331 : BitVec 32 := Scalar.muli v321 c512_i32_152
  let v332 : BitVec 32 := v331
  let v333 : Index := Scalar.indexCast v332
  let c0_154 : Index := 0#32
  ![0, v333.toNat, 0]
def k0_mult60 (v323 : BitVec 32) : BitVec 32 :=
  let c1024_i32_167 : BitVec 32 := 1024#32
  let v349 : BitVec 32 := Scalar.muli v323 c1024_i32_167
  v349
def k0_off89 (v323 : BitVec 32) : Fin 3 → Nat :=
  let c0_168 : Index := 0#32
  let c1024_i32_167 : BitVec 32 := 1024#32
  let v349 : BitVec 32 := Scalar.muli v323 c1024_i32_167
  let v350 : BitVec 32 := v349
  let v351 : Index := Scalar.indexCast v350
  let c128_169 : Index := 128#32
  ![0, v351.toNat, 128]

def k0_chk36 (k0_t1 : Fin k0_t1_loop.trips) (v288 : BitVec 32) (v291 : BitVec 32) (v299 : BitVec 32) (v323 : BitVec 32) : Prop :=
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : k0_cond15 k0_t1 v288 v291 v299 = 1#1), ∀ (k0_h16 : ¬(k0_cond16 k0_t1 v288 v291 v299 = 1#1)), 1024 ∣ (k0_mult58 v323).toNat) ∧
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : k0_cond15 k0_t1 v288 v291 v299 = 1#1), ∀ (k0_h16 : ¬(k0_cond16 k0_t1 v288 v291 v299 = 1#1)), ∀ a, (k0_off87 v323) a + S1x512x128.size a ≤ S1x8192x256.size a) ∧
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : k0_cond15 k0_t1 v288 v291 v299 = 1#1), ∀ (k0_h16 : ¬(k0_cond16 k0_t1 v288 v291 v299 = 1#1)), 1024 ∣ (k0_mult60 v323).toNat) ∧
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : k0_cond15 k0_t1 v288 v291 v299 = 1#1), ∀ (k0_h16 : ¬(k0_cond16 k0_t1 v288 v291 v299 = 1#1)), ∀ a, (k0_off89 v323) a + S1x512x128.size a ≤ S1x8192x256.size a)
theorem k0_mult58_dvd : ∀ (k0_t1 : Fin k0_t1_loop.trips) (v288 : BitVec 32) (v291 : BitVec 32) (v299 : BitVec 32) (v323 : BitVec 32) (k0_hw36 : k0_chk36 k0_t1 v288 v291 v299 v323), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : k0_cond15 k0_t1 v288 v291 v299 = 1#1), ∀ (k0_h16 : ¬(k0_cond16 k0_t1 v288 v291 v299 = 1#1)), 1024 ∣ (k0_mult58 v323).toNat := fun k0_t1 v288 v291 v299 v323 k0_hw36 k0_h9 k0_h10 k0_h11 k0_h12 k0_h13 k0_h14 k0_h15 k0_h16 => k0_hw36.1 k0_h9 k0_h10 k0_h11 k0_h12 k0_h13 k0_h14 k0_h15 k0_h16
theorem k0_off87_inb : ∀ (k0_t1 : Fin k0_t1_loop.trips) (v288 : BitVec 32) (v291 : BitVec 32) (v299 : BitVec 32) (v323 : BitVec 32) (k0_hw36 : k0_chk36 k0_t1 v288 v291 v299 v323), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : k0_cond15 k0_t1 v288 v291 v299 = 1#1), ∀ (k0_h16 : ¬(k0_cond16 k0_t1 v288 v291 v299 = 1#1)), ∀ a, (k0_off87 v323) a + S1x512x128.size a ≤ S1x8192x256.size a := fun k0_t1 v288 v291 v299 v323 k0_hw36 k0_h9 k0_h10 k0_h11 k0_h12 k0_h13 k0_h14 k0_h15 k0_h16 => k0_hw36.2.1 k0_h9 k0_h10 k0_h11 k0_h12 k0_h13 k0_h14 k0_h15 k0_h16
theorem k0_mult60_dvd : ∀ (k0_t1 : Fin k0_t1_loop.trips) (v288 : BitVec 32) (v291 : BitVec 32) (v299 : BitVec 32) (v323 : BitVec 32) (k0_hw36 : k0_chk36 k0_t1 v288 v291 v299 v323), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : k0_cond15 k0_t1 v288 v291 v299 = 1#1), ∀ (k0_h16 : ¬(k0_cond16 k0_t1 v288 v291 v299 = 1#1)), 1024 ∣ (k0_mult60 v323).toNat := fun k0_t1 v288 v291 v299 v323 k0_hw36 k0_h9 k0_h10 k0_h11 k0_h12 k0_h13 k0_h14 k0_h15 k0_h16 => k0_hw36.2.2.1 k0_h9 k0_h10 k0_h11 k0_h12 k0_h13 k0_h14 k0_h15 k0_h16
theorem k0_off89_inb : ∀ (k0_t1 : Fin k0_t1_loop.trips) (v288 : BitVec 32) (v291 : BitVec 32) (v299 : BitVec 32) (v323 : BitVec 32) (k0_hw36 : k0_chk36 k0_t1 v288 v291 v299 v323), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : k0_cond15 k0_t1 v288 v291 v299 = 1#1), ∀ (k0_h16 : ¬(k0_cond16 k0_t1 v288 v291 v299 = 1#1)), ∀ a, (k0_off89 v323) a + S1x512x128.size a ≤ S1x8192x256.size a := fun k0_t1 v288 v291 v299 v323 k0_hw36 k0_h9 k0_h10 k0_h11 k0_h12 k0_h13 k0_h14 k0_h15 k0_h16 => k0_hw36.2.2.2 k0_h9 k0_h10 k0_h11 k0_h12 k0_h13 k0_h14 k0_h15 k0_h16

def k0_mult61 (v321 : BitVec 32) : BitVec 32 :=
  let c512_i32_172 : BitVec 32 := 512#32
  let v356 : BitVec 32 := Scalar.muli v321 c512_i32_172
  v356
def k0_off90 (v321 : BitVec 32) : Fin 3 → Nat :=
  let c0_173 : Index := 0#32
  let c512_i32_172 : BitVec 32 := 512#32
  let v356 : BitVec 32 := Scalar.muli v321 c512_i32_172
  let v357 : BitVec 32 := v356
  let v358 : Index := Scalar.indexCast v357
  let c128_174 : Index := 128#32
  ![0, v358.toNat, 128]

def k0_chk37 (k0_t1 : Fin k0_t1_loop.trips) (v288 : BitVec 32) (v291 : BitVec 32) (v299 : BitVec 32) (v321 : BitVec 32) : Prop :=
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : k0_cond15 k0_t1 v288 v291 v299 = 1#1), ∀ (k0_h16 : ¬(k0_cond16 k0_t1 v288 v291 v299 = 1#1)), 512 ∣ (k0_mult59 v321).toNat) ∧
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : k0_cond15 k0_t1 v288 v291 v299 = 1#1), ∀ (k0_h16 : ¬(k0_cond16 k0_t1 v288 v291 v299 = 1#1)), ∀ a, (k0_off88 v321) a + S1x512x128.size a ≤ S1x8192x256.size a) ∧
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : k0_cond15 k0_t1 v288 v291 v299 = 1#1), ∀ (k0_h16 : ¬(k0_cond16 k0_t1 v288 v291 v299 = 1#1)), 512 ∣ (k0_mult61 v321).toNat) ∧
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : k0_cond15 k0_t1 v288 v291 v299 = 1#1), ∀ (k0_h16 : ¬(k0_cond16 k0_t1 v288 v291 v299 = 1#1)), ∀ a, (k0_off90 v321) a + S1x512x128.size a ≤ S1x8192x256.size a)
theorem k0_mult59_dvd : ∀ (k0_t1 : Fin k0_t1_loop.trips) (v288 : BitVec 32) (v291 : BitVec 32) (v299 : BitVec 32) (v321 : BitVec 32) (k0_hw37 : k0_chk37 k0_t1 v288 v291 v299 v321), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : k0_cond15 k0_t1 v288 v291 v299 = 1#1), ∀ (k0_h16 : ¬(k0_cond16 k0_t1 v288 v291 v299 = 1#1)), 512 ∣ (k0_mult59 v321).toNat := fun k0_t1 v288 v291 v299 v321 k0_hw37 k0_h9 k0_h10 k0_h11 k0_h12 k0_h13 k0_h14 k0_h15 k0_h16 => k0_hw37.1 k0_h9 k0_h10 k0_h11 k0_h12 k0_h13 k0_h14 k0_h15 k0_h16
theorem k0_off88_inb : ∀ (k0_t1 : Fin k0_t1_loop.trips) (v288 : BitVec 32) (v291 : BitVec 32) (v299 : BitVec 32) (v321 : BitVec 32) (k0_hw37 : k0_chk37 k0_t1 v288 v291 v299 v321), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : k0_cond15 k0_t1 v288 v291 v299 = 1#1), ∀ (k0_h16 : ¬(k0_cond16 k0_t1 v288 v291 v299 = 1#1)), ∀ a, (k0_off88 v321) a + S1x512x128.size a ≤ S1x8192x256.size a := fun k0_t1 v288 v291 v299 v321 k0_hw37 k0_h9 k0_h10 k0_h11 k0_h12 k0_h13 k0_h14 k0_h15 k0_h16 => k0_hw37.2.1 k0_h9 k0_h10 k0_h11 k0_h12 k0_h13 k0_h14 k0_h15 k0_h16
theorem k0_mult61_dvd : ∀ (k0_t1 : Fin k0_t1_loop.trips) (v288 : BitVec 32) (v291 : BitVec 32) (v299 : BitVec 32) (v321 : BitVec 32) (k0_hw37 : k0_chk37 k0_t1 v288 v291 v299 v321), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : k0_cond15 k0_t1 v288 v291 v299 = 1#1), ∀ (k0_h16 : ¬(k0_cond16 k0_t1 v288 v291 v299 = 1#1)), 512 ∣ (k0_mult61 v321).toNat := fun k0_t1 v288 v291 v299 v321 k0_hw37 k0_h9 k0_h10 k0_h11 k0_h12 k0_h13 k0_h14 k0_h15 k0_h16 => k0_hw37.2.2.1 k0_h9 k0_h10 k0_h11 k0_h12 k0_h13 k0_h14 k0_h15 k0_h16
theorem k0_off90_inb : ∀ (k0_t1 : Fin k0_t1_loop.trips) (v288 : BitVec 32) (v291 : BitVec 32) (v299 : BitVec 32) (v321 : BitVec 32) (k0_hw37 : k0_chk37 k0_t1 v288 v291 v299 v321), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : k0_cond15 k0_t1 v288 v291 v299 = 1#1), ∀ (k0_h16 : ¬(k0_cond16 k0_t1 v288 v291 v299 = 1#1)), ∀ a, (k0_off90 v321) a + S1x512x128.size a ≤ S1x8192x256.size a := fun k0_t1 v288 v291 v299 v321 k0_hw37 k0_h9 k0_h10 k0_h11 k0_h12 k0_h13 k0_h14 k0_h15 k0_h16 => k0_hw37.2.2.2 k0_h9 k0_h10 k0_h11 k0_h12 k0_h13 k0_h14 k0_h15 k0_h16

def k0_off91 (k0_t1 : Fin k0_t1_loop.trips) : Fin 1 → Nat :=
  let c2_i32_119 : BitVec 32 := 2#32
  let c0_i32_79 : BitVec 32 := 0#32
  let c1_i32_80 : BitVec 32 := 1#32
  let arg22 : BitVec 32 := Scf.iv c0_i32_79 c1_i32_80 k0_t1
  let v285 : BitVec 32 := Scalar.muli c2_i32_119 arg22
  let c1_i32_120 : BitVec 32 := 1#32
  let v286 : BitVec 32 := Scalar.addi v285 c1_i32_120
  let v374 : Index := Scalar.indexCast v286
  ![v374.toNat]
def k0_mult62 (v375 : BitVec 32) : BitVec 32 :=
  let c1_i32_187 : BitVec 32 := 1#32
  let v376 : BitVec 32 := Scalar.subi v375 c1_i32_187
  let c512_i32_213 : BitVec 32 := 512#32
  let v431 : BitVec 32 := Scalar.muli v376 c512_i32_213
  v431

def k0_off92 (v375 : BitVec 32) : Fin 3 → Nat :=
  let c0_214 : Index := 0#32
  let c1_i32_187 : BitVec 32 := 1#32
  let v376 : BitVec 32 := Scalar.subi v375 c1_i32_187
  let c512_i32_213 : BitVec 32 := 512#32
  let v431 : BitVec 32 := Scalar.muli v376 c512_i32_213
  let v432 : BitVec 32 := v431
  let v433 : Index := Scalar.indexCast v432
  let c0_215 : Index := 0#32
  ![0, v433.toNat, 0]

def k0_chk38 (k0_t1 : Fin k0_t1_loop.trips) (v288 : BitVec 32) (v291 : BitVec 32) (v299 : BitVec 32) (v375 : BitVec 32) : Prop :=
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : k0_cond15 k0_t1 v288 v291 v299 = 1#1), ∀ (k0_h16 : ¬(k0_cond16 k0_t1 v288 v291 v299 = 1#1)), 512 ∣ (k0_mult62 v375).toNat) ∧
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : k0_cond15 k0_t1 v288 v291 v299 = 1#1), ∀ (k0_h16 : ¬(k0_cond16 k0_t1 v288 v291 v299 = 1#1)), ∀ a, (k0_off92 v375) a + S1x512x256.size a ≤ S1x8192x256.size a) ∧
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : k0_cond15 k0_t1 v288 v291 v299 = 1#1), ∀ (k0_h16 : ¬(k0_cond16 k0_t1 v288 v291 v299 = 1#1)), ∀ (hinb : ∀ a, (k0_off92 v375) a + S1x512x256.size a ≤ S1x8192x256.size a), (Rect.unit (s := S1x8192x256) (k0_off92 v375) S1x512x256.size hinb).PackedRows (EltTy.packing .bf16))
theorem k0_mult62_dvd : ∀ (k0_t1 : Fin k0_t1_loop.trips) (v288 : BitVec 32) (v291 : BitVec 32) (v299 : BitVec 32) (v375 : BitVec 32) (k0_hw38 : k0_chk38 k0_t1 v288 v291 v299 v375), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : k0_cond15 k0_t1 v288 v291 v299 = 1#1), ∀ (k0_h16 : ¬(k0_cond16 k0_t1 v288 v291 v299 = 1#1)), 512 ∣ (k0_mult62 v375).toNat := fun k0_t1 v288 v291 v299 v375 k0_hw38 k0_h9 k0_h10 k0_h11 k0_h12 k0_h13 k0_h14 k0_h15 k0_h16 => k0_hw38.1 k0_h9 k0_h10 k0_h11 k0_h12 k0_h13 k0_h14 k0_h15 k0_h16
theorem k0_off92_inb : ∀ (k0_t1 : Fin k0_t1_loop.trips) (v288 : BitVec 32) (v291 : BitVec 32) (v299 : BitVec 32) (v375 : BitVec 32) (k0_hw38 : k0_chk38 k0_t1 v288 v291 v299 v375), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : k0_cond15 k0_t1 v288 v291 v299 = 1#1), ∀ (k0_h16 : ¬(k0_cond16 k0_t1 v288 v291 v299 = 1#1)), ∀ a, (k0_off92 v375) a + S1x512x256.size a ≤ S1x8192x256.size a := fun k0_t1 v288 v291 v299 v375 k0_hw38 k0_h9 k0_h10 k0_h11 k0_h12 k0_h13 k0_h14 k0_h15 k0_h16 => k0_hw38.2.1 k0_h9 k0_h10 k0_h11 k0_h12 k0_h13 k0_h14 k0_h15 k0_h16
theorem k0_off92_packedbf16 : ∀ (k0_t1 : Fin k0_t1_loop.trips) (v288 : BitVec 32) (v291 : BitVec 32) (v299 : BitVec 32) (v375 : BitVec 32) (k0_hw38 : k0_chk38 k0_t1 v288 v291 v299 v375), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : k0_cond15 k0_t1 v288 v291 v299 = 1#1), ∀ (k0_h16 : ¬(k0_cond16 k0_t1 v288 v291 v299 = 1#1)), (Rect.unit (s := S1x8192x256) (k0_off92 v375) S1x512x256.size (k0_off92_inb k0_t1 v288 v291 v299 v375 k0_hw38 k0_h9 k0_h10 k0_h11 k0_h12 k0_h13 k0_h14 k0_h15 k0_h16)).PackedRows (EltTy.packing .bf16) := fun k0_t1 v288 v291 v299 v375 k0_hw38 k0_h9 k0_h10 k0_h11 k0_h12 k0_h13 k0_h14 k0_h15 k0_h16 => k0_hw38.2.2 k0_h9 k0_h10 k0_h11 k0_h12 k0_h13 k0_h14 k0_h15 k0_h16 (k0_off92_inb k0_t1 v288 v291 v299 v375 k0_hw38 k0_h9 k0_h10 k0_h11 k0_h12 k0_h13 k0_h14 k0_h15 k0_h16)

def k0_off93 (k0_t1 : Fin k0_t1_loop.trips) : Fin 1 → Nat :=
  let c2_i32_119 : BitVec 32 := 2#32
  let c0_i32_79 : BitVec 32 := 0#32
  let c1_i32_80 : BitVec 32 := 1#32
  let arg22 : BitVec 32 := Scf.iv c0_i32_79 c1_i32_80 k0_t1
  let v285 : BitVec 32 := Scalar.muli c2_i32_119 arg22
  let c1_i32_120 : BitVec 32 := 1#32
  let v286 : BitVec 32 := Scalar.addi v285 c1_i32_120
  let v437 : Index := Scalar.indexCast v286
  ![v437.toNat]
def k0_mult63 (v440 : BitVec 32) : BitVec 32 :=
  let c1024_i32_218 : BitVec 32 := 1024#32
  let v446 : BitVec 32 := Scalar.muli v440 c1024_i32_218
  v446

def k0_off94 (v440 : BitVec 32) : Fin 4 → Nat :=
  let c0_219 : Index := 0#32
  let c0_220 : Index := 0#32
  let c0_221 : Index := 0#32
  let c1024_i32_218 : BitVec 32 := 1024#32
  let v446 : BitVec 32 := Scalar.muli v440 c1024_i32_218
  let v447 : BitVec 32 := v446
  let v448 : Index := Scalar.indexCast v447
  ![0, 0, 0, v448.toNat]

def k0_chk39 (k0_t1 : Fin k0_t1_loop.trips) (v288 : BitVec 32) (v291 : BitVec 32) (v299 : BitVec 32) (v440 : BitVec 32) : Prop :=
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : k0_cond15 k0_t1 v288 v291 v299 = 1#1), ∀ (k0_h16 : ¬(k0_cond16 k0_t1 v288 v291 v299 = 1#1)), 1024 ∣ (k0_mult63 v440).toNat) ∧
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : k0_cond15 k0_t1 v288 v291 v299 = 1#1), ∀ (k0_h16 : ¬(k0_cond16 k0_t1 v288 v291 v299 = 1#1)), ∀ a, (k0_off94 v440) a + S1x1x272x1024.size a ≤ S1x1x272x8192.size a)
theorem k0_mult63_dvd : ∀ (k0_t1 : Fin k0_t1_loop.trips) (v288 : BitVec 32) (v291 : BitVec 32) (v299 : BitVec 32) (v440 : BitVec 32) (k0_hw39 : k0_chk39 k0_t1 v288 v291 v299 v440), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : k0_cond15 k0_t1 v288 v291 v299 = 1#1), ∀ (k0_h16 : ¬(k0_cond16 k0_t1 v288 v291 v299 = 1#1)), 1024 ∣ (k0_mult63 v440).toNat := fun k0_t1 v288 v291 v299 v440 k0_hw39 k0_h9 k0_h10 k0_h11 k0_h12 k0_h13 k0_h14 k0_h15 k0_h16 => k0_hw39.1 k0_h9 k0_h10 k0_h11 k0_h12 k0_h13 k0_h14 k0_h15 k0_h16
theorem k0_off94_inb : ∀ (k0_t1 : Fin k0_t1_loop.trips) (v288 : BitVec 32) (v291 : BitVec 32) (v299 : BitVec 32) (v440 : BitVec 32) (k0_hw39 : k0_chk39 k0_t1 v288 v291 v299 v440), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : k0_cond15 k0_t1 v288 v291 v299 = 1#1), ∀ (k0_h16 : ¬(k0_cond16 k0_t1 v288 v291 v299 = 1#1)), ∀ a, (k0_off94 v440) a + S1x1x272x1024.size a ≤ S1x1x272x8192.size a := fun k0_t1 v288 v291 v299 v440 k0_hw39 k0_h9 k0_h10 k0_h11 k0_h12 k0_h13 k0_h14 k0_h15 k0_h16 => k0_hw39.2 k0_h9 k0_h10 k0_h11 k0_h12 k0_h13 k0_h14 k0_h15 k0_h16

def k0_off95 (k0_t1 : Fin k0_t1_loop.trips) : Fin 1 → Nat :=
  let c2_i32_119 : BitVec 32 := 2#32
  let c0_i32_79 : BitVec 32 := 0#32
  let c1_i32_80 : BitVec 32 := 1#32
  let arg22 : BitVec 32 := Scf.iv c0_i32_79 c1_i32_80 k0_t1
  let v285 : BitVec 32 := Scalar.muli c2_i32_119 arg22
  let c1_i32_120 : BitVec 32 := 1#32
  let v286 : BitVec 32 := Scalar.addi v285 c1_i32_120
  let c1_i32_144 : BitVec 32 := 1#32
  let v317 : BitVec 32 := Scalar.addi v286 c1_i32_144
  let v318 : Index := Scalar.indexCast v317
  ![v318.toNat]
def k0_mult64 (v321 : BitVec 32) : BitVec 32 :=
  let c1024_i32_145 : BitVec 32 := 1024#32
  let v322 : BitVec 32 := Scalar.muli v321 c1024_i32_145
  v322

def k0_off96 (v321 : BitVec 32) : Fin 3 → Nat :=
  let c0_146 : Index := 0#32
  let c1024_i32_145 : BitVec 32 := 1024#32
  let v322 : BitVec 32 := Scalar.muli v321 c1024_i32_145
  let v323 : BitVec 32 := v322
  let v324 : Index := Scalar.indexCast v323
  let c0_147 : Index := 0#32
  ![0, v324.toNat, 0]
def k0_mult65 (v319 : BitVec 32) : BitVec 32 :=
  let c512_i32_150 : BitVec 32 := 512#32
  let v329 : BitVec 32 := Scalar.muli v319 c512_i32_150
  v329

def k0_off97 (v319 : BitVec 32) : Fin 3 → Nat :=
  let c0_151 : Index := 0#32
  let c512_i32_150 : BitVec 32 := 512#32
  let v329 : BitVec 32 := Scalar.muli v319 c512_i32_150
  let v330 : BitVec 32 := v329
  let v331 : Index := Scalar.indexCast v330
  let c0_152 : Index := 0#32
  ![0, v331.toNat, 0]
def k0_mult66 (v321 : BitVec 32) : BitVec 32 :=
  let c1024_i32_165 : BitVec 32 := 1024#32
  let v347 : BitVec 32 := Scalar.muli v321 c1024_i32_165
  v347
def k0_off98 (v321 : BitVec 32) : Fin 3 → Nat :=
  let c0_166 : Index := 0#32
  let c1024_i32_165 : BitVec 32 := 1024#32
  let v347 : BitVec 32 := Scalar.muli v321 c1024_i32_165
  let v348 : BitVec 32 := v347
  let v349 : Index := Scalar.indexCast v348
  let c128_167 : Index := 128#32
  ![0, v349.toNat, 128]

def k0_chk40 (k0_t1 : Fin k0_t1_loop.trips) (v288 : BitVec 32) (v291 : BitVec 32) (v299 : BitVec 32) (v321 : BitVec 32) : Prop :=
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : ¬(k0_cond15 k0_t1 v288 v291 v299 = 1#1)), 1024 ∣ (k0_mult64 v321).toNat) ∧
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : ¬(k0_cond15 k0_t1 v288 v291 v299 = 1#1)), ∀ a, (k0_off96 v321) a + S1x512x128.size a ≤ S1x8192x256.size a) ∧
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : ¬(k0_cond15 k0_t1 v288 v291 v299 = 1#1)), 1024 ∣ (k0_mult66 v321).toNat) ∧
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : ¬(k0_cond15 k0_t1 v288 v291 v299 = 1#1)), ∀ a, (k0_off98 v321) a + S1x512x128.size a ≤ S1x8192x256.size a)
theorem k0_mult64_dvd : ∀ (k0_t1 : Fin k0_t1_loop.trips) (v288 : BitVec 32) (v291 : BitVec 32) (v299 : BitVec 32) (v321 : BitVec 32) (k0_hw40 : k0_chk40 k0_t1 v288 v291 v299 v321), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : ¬(k0_cond15 k0_t1 v288 v291 v299 = 1#1)), 1024 ∣ (k0_mult64 v321).toNat := fun k0_t1 v288 v291 v299 v321 k0_hw40 k0_h9 k0_h10 k0_h11 k0_h12 k0_h13 k0_h14 k0_h15 => k0_hw40.1 k0_h9 k0_h10 k0_h11 k0_h12 k0_h13 k0_h14 k0_h15
theorem k0_off96_inb : ∀ (k0_t1 : Fin k0_t1_loop.trips) (v288 : BitVec 32) (v291 : BitVec 32) (v299 : BitVec 32) (v321 : BitVec 32) (k0_hw40 : k0_chk40 k0_t1 v288 v291 v299 v321), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : ¬(k0_cond15 k0_t1 v288 v291 v299 = 1#1)), ∀ a, (k0_off96 v321) a + S1x512x128.size a ≤ S1x8192x256.size a := fun k0_t1 v288 v291 v299 v321 k0_hw40 k0_h9 k0_h10 k0_h11 k0_h12 k0_h13 k0_h14 k0_h15 => k0_hw40.2.1 k0_h9 k0_h10 k0_h11 k0_h12 k0_h13 k0_h14 k0_h15
theorem k0_mult66_dvd : ∀ (k0_t1 : Fin k0_t1_loop.trips) (v288 : BitVec 32) (v291 : BitVec 32) (v299 : BitVec 32) (v321 : BitVec 32) (k0_hw40 : k0_chk40 k0_t1 v288 v291 v299 v321), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : ¬(k0_cond15 k0_t1 v288 v291 v299 = 1#1)), 1024 ∣ (k0_mult66 v321).toNat := fun k0_t1 v288 v291 v299 v321 k0_hw40 k0_h9 k0_h10 k0_h11 k0_h12 k0_h13 k0_h14 k0_h15 => k0_hw40.2.2.1 k0_h9 k0_h10 k0_h11 k0_h12 k0_h13 k0_h14 k0_h15
theorem k0_off98_inb : ∀ (k0_t1 : Fin k0_t1_loop.trips) (v288 : BitVec 32) (v291 : BitVec 32) (v299 : BitVec 32) (v321 : BitVec 32) (k0_hw40 : k0_chk40 k0_t1 v288 v291 v299 v321), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : ¬(k0_cond15 k0_t1 v288 v291 v299 = 1#1)), ∀ a, (k0_off98 v321) a + S1x512x128.size a ≤ S1x8192x256.size a := fun k0_t1 v288 v291 v299 v321 k0_hw40 k0_h9 k0_h10 k0_h11 k0_h12 k0_h13 k0_h14 k0_h15 => k0_hw40.2.2.2 k0_h9 k0_h10 k0_h11 k0_h12 k0_h13 k0_h14 k0_h15

def k0_mult67 (v319 : BitVec 32) : BitVec 32 :=
  let c512_i32_170 : BitVec 32 := 512#32
  let v354 : BitVec 32 := Scalar.muli v319 c512_i32_170
  v354
def k0_off99 (v319 : BitVec 32) : Fin 3 → Nat :=
  let c0_171 : Index := 0#32
  let c512_i32_170 : BitVec 32 := 512#32
  let v354 : BitVec 32 := Scalar.muli v319 c512_i32_170
  let v355 : BitVec 32 := v354
  let v356 : Index := Scalar.indexCast v355
  let c128_172 : Index := 128#32
  ![0, v356.toNat, 128]

def k0_chk41 (k0_t1 : Fin k0_t1_loop.trips) (v288 : BitVec 32) (v291 : BitVec 32) (v299 : BitVec 32) (v319 : BitVec 32) : Prop :=
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : ¬(k0_cond15 k0_t1 v288 v291 v299 = 1#1)), 512 ∣ (k0_mult65 v319).toNat) ∧
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : ¬(k0_cond15 k0_t1 v288 v291 v299 = 1#1)), ∀ a, (k0_off97 v319) a + S1x512x128.size a ≤ S1x8192x256.size a) ∧
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : ¬(k0_cond15 k0_t1 v288 v291 v299 = 1#1)), 512 ∣ (k0_mult67 v319).toNat) ∧
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : ¬(k0_cond15 k0_t1 v288 v291 v299 = 1#1)), ∀ a, (k0_off99 v319) a + S1x512x128.size a ≤ S1x8192x256.size a)
theorem k0_mult65_dvd : ∀ (k0_t1 : Fin k0_t1_loop.trips) (v288 : BitVec 32) (v291 : BitVec 32) (v299 : BitVec 32) (v319 : BitVec 32) (k0_hw41 : k0_chk41 k0_t1 v288 v291 v299 v319), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : ¬(k0_cond15 k0_t1 v288 v291 v299 = 1#1)), 512 ∣ (k0_mult65 v319).toNat := fun k0_t1 v288 v291 v299 v319 k0_hw41 k0_h9 k0_h10 k0_h11 k0_h12 k0_h13 k0_h14 k0_h15 => k0_hw41.1 k0_h9 k0_h10 k0_h11 k0_h12 k0_h13 k0_h14 k0_h15
theorem k0_off97_inb : ∀ (k0_t1 : Fin k0_t1_loop.trips) (v288 : BitVec 32) (v291 : BitVec 32) (v299 : BitVec 32) (v319 : BitVec 32) (k0_hw41 : k0_chk41 k0_t1 v288 v291 v299 v319), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : ¬(k0_cond15 k0_t1 v288 v291 v299 = 1#1)), ∀ a, (k0_off97 v319) a + S1x512x128.size a ≤ S1x8192x256.size a := fun k0_t1 v288 v291 v299 v319 k0_hw41 k0_h9 k0_h10 k0_h11 k0_h12 k0_h13 k0_h14 k0_h15 => k0_hw41.2.1 k0_h9 k0_h10 k0_h11 k0_h12 k0_h13 k0_h14 k0_h15
theorem k0_mult67_dvd : ∀ (k0_t1 : Fin k0_t1_loop.trips) (v288 : BitVec 32) (v291 : BitVec 32) (v299 : BitVec 32) (v319 : BitVec 32) (k0_hw41 : k0_chk41 k0_t1 v288 v291 v299 v319), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : ¬(k0_cond15 k0_t1 v288 v291 v299 = 1#1)), 512 ∣ (k0_mult67 v319).toNat := fun k0_t1 v288 v291 v299 v319 k0_hw41 k0_h9 k0_h10 k0_h11 k0_h12 k0_h13 k0_h14 k0_h15 => k0_hw41.2.2.1 k0_h9 k0_h10 k0_h11 k0_h12 k0_h13 k0_h14 k0_h15
theorem k0_off99_inb : ∀ (k0_t1 : Fin k0_t1_loop.trips) (v288 : BitVec 32) (v291 : BitVec 32) (v299 : BitVec 32) (v319 : BitVec 32) (k0_hw41 : k0_chk41 k0_t1 v288 v291 v299 v319), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : ¬(k0_cond15 k0_t1 v288 v291 v299 = 1#1)), ∀ a, (k0_off99 v319) a + S1x512x128.size a ≤ S1x8192x256.size a := fun k0_t1 v288 v291 v299 v319 k0_hw41 k0_h9 k0_h10 k0_h11 k0_h12 k0_h13 k0_h14 k0_h15 => k0_hw41.2.2.2 k0_h9 k0_h10 k0_h11 k0_h12 k0_h13 k0_h14 k0_h15

def k0_off100 (k0_t1 : Fin k0_t1_loop.trips) : Fin 1 → Nat :=
  let c2_i32_119 : BitVec 32 := 2#32
  let c0_i32_79 : BitVec 32 := 0#32
  let c1_i32_80 : BitVec 32 := 1#32
  let arg22 : BitVec 32 := Scf.iv c0_i32_79 c1_i32_80 k0_t1
  let v285 : BitVec 32 := Scalar.muli c2_i32_119 arg22
  let c1_i32_120 : BitVec 32 := 1#32
  let v286 : BitVec 32 := Scalar.addi v285 c1_i32_120
  let v372 : Index := Scalar.indexCast v286
  ![v372.toNat]
def k0_mult68 (v375 : BitVec 32) : BitVec 32 :=
  let c1024_i32_187 : BitVec 32 := 1024#32
  let v381 : BitVec 32 := Scalar.muli v375 c1024_i32_187
  v381

def k0_off101 (v375 : BitVec 32) : Fin 4 → Nat :=
  let c0_188 : Index := 0#32
  let c0_189 : Index := 0#32
  let c0_190 : Index := 0#32
  let c1024_i32_187 : BitVec 32 := 1024#32
  let v381 : BitVec 32 := Scalar.muli v375 c1024_i32_187
  let v382 : BitVec 32 := v381
  let v383 : Index := Scalar.indexCast v382
  ![0, 0, 0, v383.toNat]

def k0_chk42 (k0_t1 : Fin k0_t1_loop.trips) (v288 : BitVec 32) (v291 : BitVec 32) (v299 : BitVec 32) (v375 : BitVec 32) : Prop :=
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : ¬(k0_cond15 k0_t1 v288 v291 v299 = 1#1)), 1024 ∣ (k0_mult68 v375).toNat) ∧
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : ¬(k0_cond15 k0_t1 v288 v291 v299 = 1#1)), ∀ a, (k0_off101 v375) a + S1x1x272x1024.size a ≤ S1x1x272x8192.size a)
theorem k0_mult68_dvd : ∀ (k0_t1 : Fin k0_t1_loop.trips) (v288 : BitVec 32) (v291 : BitVec 32) (v299 : BitVec 32) (v375 : BitVec 32) (k0_hw42 : k0_chk42 k0_t1 v288 v291 v299 v375), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : ¬(k0_cond15 k0_t1 v288 v291 v299 = 1#1)), 1024 ∣ (k0_mult68 v375).toNat := fun k0_t1 v288 v291 v299 v375 k0_hw42 k0_h9 k0_h10 k0_h11 k0_h12 k0_h13 k0_h14 k0_h15 => k0_hw42.1 k0_h9 k0_h10 k0_h11 k0_h12 k0_h13 k0_h14 k0_h15
theorem k0_off101_inb : ∀ (k0_t1 : Fin k0_t1_loop.trips) (v288 : BitVec 32) (v291 : BitVec 32) (v299 : BitVec 32) (v375 : BitVec 32) (k0_hw42 : k0_chk42 k0_t1 v288 v291 v299 v375), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : k0_cond14 k0_t1 v288 v291 v299 = 1#1), ∀ (k0_h15 : ¬(k0_cond15 k0_t1 v288 v291 v299 = 1#1)), ∀ a, (k0_off101 v375) a + S1x1x272x1024.size a ≤ S1x1x272x8192.size a := fun k0_t1 v288 v291 v299 v375 k0_hw42 k0_h9 k0_h10 k0_h11 k0_h12 k0_h13 k0_h14 k0_h15 => k0_hw42.2 k0_h9 k0_h10 k0_h11 k0_h12 k0_h13 k0_h14 k0_h15

def k0_off102 (k0_t1 : Fin k0_t1_loop.trips) : Fin 1 → Nat :=
  let c2_i32_119 : BitVec 32 := 2#32
  let c0_i32_79 : BitVec 32 := 0#32
  let c1_i32_80 : BitVec 32 := 1#32
  let arg22 : BitVec 32 := Scf.iv c0_i32_79 c1_i32_80 k0_t1
  let v285 : BitVec 32 := Scalar.muli c2_i32_119 arg22
  let c1_i32_120 : BitVec 32 := 1#32
  let v286 : BitVec 32 := Scalar.addi v285 c1_i32_120
  let c1_i32_142 : BitVec 32 := 1#32
  let v315 : BitVec 32 := Scalar.addi v286 c1_i32_142
  let v316 : Index := Scalar.indexCast v315
  ![v316.toNat]
def k0_mult69 (v319 : BitVec 32) : BitVec 32 :=
  let c1024_i32_143 : BitVec 32 := 1024#32
  let v320 : BitVec 32 := Scalar.muli v319 c1024_i32_143
  v320

def k0_off103 (v319 : BitVec 32) : Fin 3 → Nat :=
  let c0_144 : Index := 0#32
  let c1024_i32_143 : BitVec 32 := 1024#32
  let v320 : BitVec 32 := Scalar.muli v319 c1024_i32_143
  let v321 : BitVec 32 := v320
  let v322 : Index := Scalar.indexCast v321
  let c0_145 : Index := 0#32
  ![0, v322.toNat, 0]
def k0_mult70 (v317 : BitVec 32) : BitVec 32 :=
  let c512_i32_148 : BitVec 32 := 512#32
  let v327 : BitVec 32 := Scalar.muli v317 c512_i32_148
  v327

def k0_off104 (v317 : BitVec 32) : Fin 3 → Nat :=
  let c0_149 : Index := 0#32
  let c512_i32_148 : BitVec 32 := 512#32
  let v327 : BitVec 32 := Scalar.muli v317 c512_i32_148
  let v328 : BitVec 32 := v327
  let v329 : Index := Scalar.indexCast v328
  let c0_150 : Index := 0#32
  ![0, v329.toNat, 0]
def k0_mult71 (v319 : BitVec 32) : BitVec 32 :=
  let c1024_i32_166 : BitVec 32 := 1024#32
  let v354 : BitVec 32 := Scalar.muli v319 c1024_i32_166
  v354
def k0_off105 (v319 : BitVec 32) : Fin 3 → Nat :=
  let c0_167 : Index := 0#32
  let c1024_i32_166 : BitVec 32 := 1024#32
  let v354 : BitVec 32 := Scalar.muli v319 c1024_i32_166
  let v355 : BitVec 32 := v354
  let v356 : Index := Scalar.indexCast v355
  let c128_168 : Index := 128#32
  ![0, v356.toNat, 128]

def k0_chk43 (k0_t1 : Fin k0_t1_loop.trips) (v288 : BitVec 32) (v291 : BitVec 32) (v299 : BitVec 32) (v319 : BitVec 32) : Prop :=
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : ¬(k0_cond14 k0_t1 v288 v291 v299 = 1#1)), 1024 ∣ (k0_mult69 v319).toNat) ∧
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : ¬(k0_cond14 k0_t1 v288 v291 v299 = 1#1)), ∀ a, (k0_off103 v319) a + S1x1024x128.size a ≤ S1x8192x256.size a) ∧
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : ¬(k0_cond14 k0_t1 v288 v291 v299 = 1#1)), 1024 ∣ (k0_mult71 v319).toNat) ∧
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : ¬(k0_cond14 k0_t1 v288 v291 v299 = 1#1)), ∀ a, (k0_off105 v319) a + S1x1024x128.size a ≤ S1x8192x256.size a)
theorem k0_mult69_dvd : ∀ (k0_t1 : Fin k0_t1_loop.trips) (v288 : BitVec 32) (v291 : BitVec 32) (v299 : BitVec 32) (v319 : BitVec 32) (k0_hw43 : k0_chk43 k0_t1 v288 v291 v299 v319), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : ¬(k0_cond14 k0_t1 v288 v291 v299 = 1#1)), 1024 ∣ (k0_mult69 v319).toNat := fun k0_t1 v288 v291 v299 v319 k0_hw43 k0_h9 k0_h10 k0_h11 k0_h12 k0_h13 k0_h14 => k0_hw43.1 k0_h9 k0_h10 k0_h11 k0_h12 k0_h13 k0_h14
theorem k0_off103_inb : ∀ (k0_t1 : Fin k0_t1_loop.trips) (v288 : BitVec 32) (v291 : BitVec 32) (v299 : BitVec 32) (v319 : BitVec 32) (k0_hw43 : k0_chk43 k0_t1 v288 v291 v299 v319), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : ¬(k0_cond14 k0_t1 v288 v291 v299 = 1#1)), ∀ a, (k0_off103 v319) a + S1x1024x128.size a ≤ S1x8192x256.size a := fun k0_t1 v288 v291 v299 v319 k0_hw43 k0_h9 k0_h10 k0_h11 k0_h12 k0_h13 k0_h14 => k0_hw43.2.1 k0_h9 k0_h10 k0_h11 k0_h12 k0_h13 k0_h14
theorem k0_mult71_dvd : ∀ (k0_t1 : Fin k0_t1_loop.trips) (v288 : BitVec 32) (v291 : BitVec 32) (v299 : BitVec 32) (v319 : BitVec 32) (k0_hw43 : k0_chk43 k0_t1 v288 v291 v299 v319), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : ¬(k0_cond14 k0_t1 v288 v291 v299 = 1#1)), 1024 ∣ (k0_mult71 v319).toNat := fun k0_t1 v288 v291 v299 v319 k0_hw43 k0_h9 k0_h10 k0_h11 k0_h12 k0_h13 k0_h14 => k0_hw43.2.2.1 k0_h9 k0_h10 k0_h11 k0_h12 k0_h13 k0_h14
theorem k0_off105_inb : ∀ (k0_t1 : Fin k0_t1_loop.trips) (v288 : BitVec 32) (v291 : BitVec 32) (v299 : BitVec 32) (v319 : BitVec 32) (k0_hw43 : k0_chk43 k0_t1 v288 v291 v299 v319), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : ¬(k0_cond14 k0_t1 v288 v291 v299 = 1#1)), ∀ a, (k0_off105 v319) a + S1x1024x128.size a ≤ S1x8192x256.size a := fun k0_t1 v288 v291 v299 v319 k0_hw43 k0_h9 k0_h10 k0_h11 k0_h12 k0_h13 k0_h14 => k0_hw43.2.2.2 k0_h9 k0_h10 k0_h11 k0_h12 k0_h13 k0_h14

def k0_mult72 (v317 : BitVec 32) : BitVec 32 :=
  let c512_i32_171 : BitVec 32 := 512#32
  let v361 : BitVec 32 := Scalar.muli v317 c512_i32_171
  v361
def k0_off106 (v317 : BitVec 32) : Fin 3 → Nat :=
  let c0_172 : Index := 0#32
  let c512_i32_171 : BitVec 32 := 512#32
  let v361 : BitVec 32 := Scalar.muli v317 c512_i32_171
  let v362 : BitVec 32 := v361
  let v363 : Index := Scalar.indexCast v362
  let c128_173 : Index := 128#32
  ![0, v363.toNat, 128]

def k0_chk44 (k0_t1 : Fin k0_t1_loop.trips) (v288 : BitVec 32) (v291 : BitVec 32) (v299 : BitVec 32) (v317 : BitVec 32) : Prop :=
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : ¬(k0_cond14 k0_t1 v288 v291 v299 = 1#1)), 512 ∣ (k0_mult70 v317).toNat) ∧
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : ¬(k0_cond14 k0_t1 v288 v291 v299 = 1#1)), ∀ a, (k0_off104 v317) a + S1x512x128.size a ≤ S1x8192x256.size a) ∧
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : ¬(k0_cond14 k0_t1 v288 v291 v299 = 1#1)), 512 ∣ (k0_mult72 v317).toNat) ∧
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : ¬(k0_cond14 k0_t1 v288 v291 v299 = 1#1)), ∀ a, (k0_off106 v317) a + S1x512x128.size a ≤ S1x8192x256.size a)
theorem k0_mult70_dvd : ∀ (k0_t1 : Fin k0_t1_loop.trips) (v288 : BitVec 32) (v291 : BitVec 32) (v299 : BitVec 32) (v317 : BitVec 32) (k0_hw44 : k0_chk44 k0_t1 v288 v291 v299 v317), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : ¬(k0_cond14 k0_t1 v288 v291 v299 = 1#1)), 512 ∣ (k0_mult70 v317).toNat := fun k0_t1 v288 v291 v299 v317 k0_hw44 k0_h9 k0_h10 k0_h11 k0_h12 k0_h13 k0_h14 => k0_hw44.1 k0_h9 k0_h10 k0_h11 k0_h12 k0_h13 k0_h14
theorem k0_off104_inb : ∀ (k0_t1 : Fin k0_t1_loop.trips) (v288 : BitVec 32) (v291 : BitVec 32) (v299 : BitVec 32) (v317 : BitVec 32) (k0_hw44 : k0_chk44 k0_t1 v288 v291 v299 v317), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : ¬(k0_cond14 k0_t1 v288 v291 v299 = 1#1)), ∀ a, (k0_off104 v317) a + S1x512x128.size a ≤ S1x8192x256.size a := fun k0_t1 v288 v291 v299 v317 k0_hw44 k0_h9 k0_h10 k0_h11 k0_h12 k0_h13 k0_h14 => k0_hw44.2.1 k0_h9 k0_h10 k0_h11 k0_h12 k0_h13 k0_h14
theorem k0_mult72_dvd : ∀ (k0_t1 : Fin k0_t1_loop.trips) (v288 : BitVec 32) (v291 : BitVec 32) (v299 : BitVec 32) (v317 : BitVec 32) (k0_hw44 : k0_chk44 k0_t1 v288 v291 v299 v317), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : ¬(k0_cond14 k0_t1 v288 v291 v299 = 1#1)), 512 ∣ (k0_mult72 v317).toNat := fun k0_t1 v288 v291 v299 v317 k0_hw44 k0_h9 k0_h10 k0_h11 k0_h12 k0_h13 k0_h14 => k0_hw44.2.2.1 k0_h9 k0_h10 k0_h11 k0_h12 k0_h13 k0_h14
theorem k0_off106_inb : ∀ (k0_t1 : Fin k0_t1_loop.trips) (v288 : BitVec 32) (v291 : BitVec 32) (v299 : BitVec 32) (v317 : BitVec 32) (k0_hw44 : k0_chk44 k0_t1 v288 v291 v299 v317), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : ¬(k0_cond14 k0_t1 v288 v291 v299 = 1#1)), ∀ a, (k0_off106 v317) a + S1x512x128.size a ≤ S1x8192x256.size a := fun k0_t1 v288 v291 v299 v317 k0_hw44 k0_h9 k0_h10 k0_h11 k0_h12 k0_h13 k0_h14 => k0_hw44.2.2.2 k0_h9 k0_h10 k0_h11 k0_h12 k0_h13 k0_h14

def k0_off107 (k0_t1 : Fin k0_t1_loop.trips) : Fin 1 → Nat :=
  let c2_i32_119 : BitVec 32 := 2#32
  let c0_i32_79 : BitVec 32 := 0#32
  let c1_i32_80 : BitVec 32 := 1#32
  let arg22 : BitVec 32 := Scf.iv c0_i32_79 c1_i32_80 k0_t1
  let v285 : BitVec 32 := Scalar.muli c2_i32_119 arg22
  let c1_i32_120 : BitVec 32 := 1#32
  let v286 : BitVec 32 := Scalar.addi v285 c1_i32_120
  let v388 : Index := Scalar.indexCast v286
  ![v388.toNat]
def k0_mult73 (v391 : BitVec 32) : BitVec 32 :=
  let c1024_i32_192 : BitVec 32 := 1024#32
  let v397 : BitVec 32 := Scalar.muli v391 c1024_i32_192
  v397

def k0_off108 (v391 : BitVec 32) : Fin 4 → Nat :=
  let c0_193 : Index := 0#32
  let c0_194 : Index := 0#32
  let c0_195 : Index := 0#32
  let c1024_i32_192 : BitVec 32 := 1024#32
  let v397 : BitVec 32 := Scalar.muli v391 c1024_i32_192
  let v398 : BitVec 32 := v397
  let v399 : Index := Scalar.indexCast v398
  ![0, 0, 0, v399.toNat]

def k0_chk45 (k0_t1 : Fin k0_t1_loop.trips) (v288 : BitVec 32) (v291 : BitVec 32) (v299 : BitVec 32) (v391 : BitVec 32) : Prop :=
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : ¬(k0_cond14 k0_t1 v288 v291 v299 = 1#1)), 1024 ∣ (k0_mult73 v391).toNat) ∧
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : ¬(k0_cond14 k0_t1 v288 v291 v299 = 1#1)), ∀ a, (k0_off108 v391) a + S1x1x272x512.size a ≤ S1x1x272x8192.size a)
theorem k0_mult73_dvd : ∀ (k0_t1 : Fin k0_t1_loop.trips) (v288 : BitVec 32) (v291 : BitVec 32) (v299 : BitVec 32) (v391 : BitVec 32) (k0_hw45 : k0_chk45 k0_t1 v288 v291 v299 v391), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : ¬(k0_cond14 k0_t1 v288 v291 v299 = 1#1)), 1024 ∣ (k0_mult73 v391).toNat := fun k0_t1 v288 v291 v299 v391 k0_hw45 k0_h9 k0_h10 k0_h11 k0_h12 k0_h13 k0_h14 => k0_hw45.1 k0_h9 k0_h10 k0_h11 k0_h12 k0_h13 k0_h14
theorem k0_off108_inb : ∀ (k0_t1 : Fin k0_t1_loop.trips) (v288 : BitVec 32) (v291 : BitVec 32) (v299 : BitVec 32) (v391 : BitVec 32) (k0_hw45 : k0_chk45 k0_t1 v288 v291 v299 v391), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : k0_cond13 k0_t1 v288 v291 v299 = 1#1), ∀ (k0_h14 : ¬(k0_cond14 k0_t1 v288 v291 v299 = 1#1)), ∀ a, (k0_off108 v391) a + S1x1x272x512.size a ≤ S1x1x272x8192.size a := fun k0_t1 v288 v291 v299 v391 k0_hw45 k0_h9 k0_h10 k0_h11 k0_h12 k0_h13 k0_h14 => k0_hw45.2 k0_h9 k0_h10 k0_h11 k0_h12 k0_h13 k0_h14

def k0_off109 (k0_t1 : Fin k0_t1_loop.trips) : Fin 1 → Nat :=
  let c2_i32_119 : BitVec 32 := 2#32
  let c0_i32_79 : BitVec 32 := 0#32
  let c1_i32_80 : BitVec 32 := 1#32
  let arg22 : BitVec 32 := Scf.iv c0_i32_79 c1_i32_80 k0_t1
  let v285 : BitVec 32 := Scalar.muli c2_i32_119 arg22
  let c1_i32_120 : BitVec 32 := 1#32
  let v286 : BitVec 32 := Scalar.addi v285 c1_i32_120
  let c1_i32_140 : BitVec 32 := 1#32
  let v313 : BitVec 32 := Scalar.addi v286 c1_i32_140
  let v314 : Index := Scalar.indexCast v313
  ![v314.toNat]
def k0_mult74 (v317 : BitVec 32) : BitVec 32 :=
  let c1024_i32_141 : BitVec 32 := 1024#32
  let v318 : BitVec 32 := Scalar.muli v317 c1024_i32_141
  v318

def k0_off110 (v317 : BitVec 32) : Fin 3 → Nat :=
  let c0_142 : Index := 0#32
  let c1024_i32_141 : BitVec 32 := 1024#32
  let v318 : BitVec 32 := Scalar.muli v317 c1024_i32_141
  let v319 : BitVec 32 := v318
  let v320 : Index := Scalar.indexCast v319
  let c0_143 : Index := 0#32
  ![0, v320.toNat, 0]
def k0_mult75 (v315 : BitVec 32) : BitVec 32 :=
  let c512_i32_146 : BitVec 32 := 512#32
  let v325 : BitVec 32 := Scalar.muli v315 c512_i32_146
  v325

def k0_off111 (v315 : BitVec 32) : Fin 3 → Nat :=
  let c0_147 : Index := 0#32
  let c512_i32_146 : BitVec 32 := 512#32
  let v325 : BitVec 32 := Scalar.muli v315 c512_i32_146
  let v326 : BitVec 32 := v325
  let v327 : Index := Scalar.indexCast v326
  let c0_148 : Index := 0#32
  ![0, v327.toNat, 0]
def k0_mult76 (v317 : BitVec 32) : BitVec 32 :=
  let c1024_i32_164 : BitVec 32 := 1024#32
  let v352 : BitVec 32 := Scalar.muli v317 c1024_i32_164
  v352
def k0_off112 (v317 : BitVec 32) : Fin 3 → Nat :=
  let c0_165 : Index := 0#32
  let c1024_i32_164 : BitVec 32 := 1024#32
  let v352 : BitVec 32 := Scalar.muli v317 c1024_i32_164
  let v353 : BitVec 32 := v352
  let v354 : Index := Scalar.indexCast v353
  let c128_166 : Index := 128#32
  ![0, v354.toNat, 128]

def k0_chk46 (k0_t1 : Fin k0_t1_loop.trips) (v288 : BitVec 32) (v291 : BitVec 32) (v299 : BitVec 32) (v317 : BitVec 32) : Prop :=
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : ¬(k0_cond13 k0_t1 v288 v291 v299 = 1#1)), 1024 ∣ (k0_mult74 v317).toNat) ∧
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : ¬(k0_cond13 k0_t1 v288 v291 v299 = 1#1)), ∀ a, (k0_off110 v317) a + S1x1024x128.size a ≤ S1x8192x256.size a) ∧
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : ¬(k0_cond13 k0_t1 v288 v291 v299 = 1#1)), 1024 ∣ (k0_mult76 v317).toNat) ∧
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : ¬(k0_cond13 k0_t1 v288 v291 v299 = 1#1)), ∀ a, (k0_off112 v317) a + S1x1024x128.size a ≤ S1x8192x256.size a)
theorem k0_mult74_dvd : ∀ (k0_t1 : Fin k0_t1_loop.trips) (v288 : BitVec 32) (v291 : BitVec 32) (v299 : BitVec 32) (v317 : BitVec 32) (k0_hw46 : k0_chk46 k0_t1 v288 v291 v299 v317), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : ¬(k0_cond13 k0_t1 v288 v291 v299 = 1#1)), 1024 ∣ (k0_mult74 v317).toNat := fun k0_t1 v288 v291 v299 v317 k0_hw46 k0_h9 k0_h10 k0_h11 k0_h12 k0_h13 => k0_hw46.1 k0_h9 k0_h10 k0_h11 k0_h12 k0_h13
theorem k0_off110_inb : ∀ (k0_t1 : Fin k0_t1_loop.trips) (v288 : BitVec 32) (v291 : BitVec 32) (v299 : BitVec 32) (v317 : BitVec 32) (k0_hw46 : k0_chk46 k0_t1 v288 v291 v299 v317), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : ¬(k0_cond13 k0_t1 v288 v291 v299 = 1#1)), ∀ a, (k0_off110 v317) a + S1x1024x128.size a ≤ S1x8192x256.size a := fun k0_t1 v288 v291 v299 v317 k0_hw46 k0_h9 k0_h10 k0_h11 k0_h12 k0_h13 => k0_hw46.2.1 k0_h9 k0_h10 k0_h11 k0_h12 k0_h13
theorem k0_mult76_dvd : ∀ (k0_t1 : Fin k0_t1_loop.trips) (v288 : BitVec 32) (v291 : BitVec 32) (v299 : BitVec 32) (v317 : BitVec 32) (k0_hw46 : k0_chk46 k0_t1 v288 v291 v299 v317), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : ¬(k0_cond13 k0_t1 v288 v291 v299 = 1#1)), 1024 ∣ (k0_mult76 v317).toNat := fun k0_t1 v288 v291 v299 v317 k0_hw46 k0_h9 k0_h10 k0_h11 k0_h12 k0_h13 => k0_hw46.2.2.1 k0_h9 k0_h10 k0_h11 k0_h12 k0_h13
theorem k0_off112_inb : ∀ (k0_t1 : Fin k0_t1_loop.trips) (v288 : BitVec 32) (v291 : BitVec 32) (v299 : BitVec 32) (v317 : BitVec 32) (k0_hw46 : k0_chk46 k0_t1 v288 v291 v299 v317), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : ¬(k0_cond13 k0_t1 v288 v291 v299 = 1#1)), ∀ a, (k0_off112 v317) a + S1x1024x128.size a ≤ S1x8192x256.size a := fun k0_t1 v288 v291 v299 v317 k0_hw46 k0_h9 k0_h10 k0_h11 k0_h12 k0_h13 => k0_hw46.2.2.2 k0_h9 k0_h10 k0_h11 k0_h12 k0_h13

def k0_mult77 (v315 : BitVec 32) : BitVec 32 :=
  let c512_i32_169 : BitVec 32 := 512#32
  let v359 : BitVec 32 := Scalar.muli v315 c512_i32_169
  v359
def k0_off113 (v315 : BitVec 32) : Fin 3 → Nat :=
  let c0_170 : Index := 0#32
  let c512_i32_169 : BitVec 32 := 512#32
  let v359 : BitVec 32 := Scalar.muli v315 c512_i32_169
  let v360 : BitVec 32 := v359
  let v361 : Index := Scalar.indexCast v360
  let c128_171 : Index := 128#32
  ![0, v361.toNat, 128]

def k0_chk47 (k0_t1 : Fin k0_t1_loop.trips) (v288 : BitVec 32) (v291 : BitVec 32) (v299 : BitVec 32) (v315 : BitVec 32) : Prop :=
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : ¬(k0_cond13 k0_t1 v288 v291 v299 = 1#1)), 512 ∣ (k0_mult75 v315).toNat) ∧
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : ¬(k0_cond13 k0_t1 v288 v291 v299 = 1#1)), ∀ a, (k0_off111 v315) a + S1x512x128.size a ≤ S1x8192x256.size a) ∧
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : ¬(k0_cond13 k0_t1 v288 v291 v299 = 1#1)), 512 ∣ (k0_mult77 v315).toNat) ∧
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : ¬(k0_cond13 k0_t1 v288 v291 v299 = 1#1)), ∀ a, (k0_off113 v315) a + S1x512x128.size a ≤ S1x8192x256.size a)
theorem k0_mult75_dvd : ∀ (k0_t1 : Fin k0_t1_loop.trips) (v288 : BitVec 32) (v291 : BitVec 32) (v299 : BitVec 32) (v315 : BitVec 32) (k0_hw47 : k0_chk47 k0_t1 v288 v291 v299 v315), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : ¬(k0_cond13 k0_t1 v288 v291 v299 = 1#1)), 512 ∣ (k0_mult75 v315).toNat := fun k0_t1 v288 v291 v299 v315 k0_hw47 k0_h9 k0_h10 k0_h11 k0_h12 k0_h13 => k0_hw47.1 k0_h9 k0_h10 k0_h11 k0_h12 k0_h13
theorem k0_off111_inb : ∀ (k0_t1 : Fin k0_t1_loop.trips) (v288 : BitVec 32) (v291 : BitVec 32) (v299 : BitVec 32) (v315 : BitVec 32) (k0_hw47 : k0_chk47 k0_t1 v288 v291 v299 v315), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : ¬(k0_cond13 k0_t1 v288 v291 v299 = 1#1)), ∀ a, (k0_off111 v315) a + S1x512x128.size a ≤ S1x8192x256.size a := fun k0_t1 v288 v291 v299 v315 k0_hw47 k0_h9 k0_h10 k0_h11 k0_h12 k0_h13 => k0_hw47.2.1 k0_h9 k0_h10 k0_h11 k0_h12 k0_h13
theorem k0_mult77_dvd : ∀ (k0_t1 : Fin k0_t1_loop.trips) (v288 : BitVec 32) (v291 : BitVec 32) (v299 : BitVec 32) (v315 : BitVec 32) (k0_hw47 : k0_chk47 k0_t1 v288 v291 v299 v315), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : ¬(k0_cond13 k0_t1 v288 v291 v299 = 1#1)), 512 ∣ (k0_mult77 v315).toNat := fun k0_t1 v288 v291 v299 v315 k0_hw47 k0_h9 k0_h10 k0_h11 k0_h12 k0_h13 => k0_hw47.2.2.1 k0_h9 k0_h10 k0_h11 k0_h12 k0_h13
theorem k0_off113_inb : ∀ (k0_t1 : Fin k0_t1_loop.trips) (v288 : BitVec 32) (v291 : BitVec 32) (v299 : BitVec 32) (v315 : BitVec 32) (k0_hw47 : k0_chk47 k0_t1 v288 v291 v299 v315), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : ¬(k0_cond13 k0_t1 v288 v291 v299 = 1#1)), ∀ a, (k0_off113 v315) a + S1x512x128.size a ≤ S1x8192x256.size a := fun k0_t1 v288 v291 v299 v315 k0_hw47 k0_h9 k0_h10 k0_h11 k0_h12 k0_h13 => k0_hw47.2.2.2 k0_h9 k0_h10 k0_h11 k0_h12 k0_h13

def k0_off114 (k0_t1 : Fin k0_t1_loop.trips) : Fin 1 → Nat :=
  let c2_i32_119 : BitVec 32 := 2#32
  let c0_i32_79 : BitVec 32 := 0#32
  let c1_i32_80 : BitVec 32 := 1#32
  let arg22 : BitVec 32 := Scf.iv c0_i32_79 c1_i32_80 k0_t1
  let v285 : BitVec 32 := Scalar.muli c2_i32_119 arg22
  let c1_i32_120 : BitVec 32 := 1#32
  let v286 : BitVec 32 := Scalar.addi v285 c1_i32_120
  let v386 : Index := Scalar.indexCast v286
  ![v386.toNat]
def k0_mult78 (v387 : BitVec 32) : BitVec 32 :=
  let c1_i32_188 : BitVec 32 := 1#32
  let v388 : BitVec 32 := Scalar.subi v387 c1_i32_188
  let c512_i32_214 : BitVec 32 := 512#32
  let v443 : BitVec 32 := Scalar.muli v388 c512_i32_214
  v443

def k0_off115 (v387 : BitVec 32) : Fin 3 → Nat :=
  let c0_215 : Index := 0#32
  let c1_i32_188 : BitVec 32 := 1#32
  let v388 : BitVec 32 := Scalar.subi v387 c1_i32_188
  let c512_i32_214 : BitVec 32 := 512#32
  let v443 : BitVec 32 := Scalar.muli v388 c512_i32_214
  let v444 : BitVec 32 := v443
  let v445 : Index := Scalar.indexCast v444
  let c0_216 : Index := 0#32
  ![0, v445.toNat, 0]

def k0_chk48 (k0_t1 : Fin k0_t1_loop.trips) (v288 : BitVec 32) (v291 : BitVec 32) (v299 : BitVec 32) (v387 : BitVec 32) : Prop :=
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : ¬(k0_cond13 k0_t1 v288 v291 v299 = 1#1)), 512 ∣ (k0_mult78 v387).toNat) ∧
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : ¬(k0_cond13 k0_t1 v288 v291 v299 = 1#1)), ∀ a, (k0_off115 v387) a + S1x512x256.size a ≤ S1x8192x256.size a) ∧
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : ¬(k0_cond13 k0_t1 v288 v291 v299 = 1#1)), ∀ (hinb : ∀ a, (k0_off115 v387) a + S1x512x256.size a ≤ S1x8192x256.size a), (Rect.unit (s := S1x8192x256) (k0_off115 v387) S1x512x256.size hinb).PackedRows (EltTy.packing .bf16))
theorem k0_mult78_dvd : ∀ (k0_t1 : Fin k0_t1_loop.trips) (v288 : BitVec 32) (v291 : BitVec 32) (v299 : BitVec 32) (v387 : BitVec 32) (k0_hw48 : k0_chk48 k0_t1 v288 v291 v299 v387), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : ¬(k0_cond13 k0_t1 v288 v291 v299 = 1#1)), 512 ∣ (k0_mult78 v387).toNat := fun k0_t1 v288 v291 v299 v387 k0_hw48 k0_h9 k0_h10 k0_h11 k0_h12 k0_h13 => k0_hw48.1 k0_h9 k0_h10 k0_h11 k0_h12 k0_h13
theorem k0_off115_inb : ∀ (k0_t1 : Fin k0_t1_loop.trips) (v288 : BitVec 32) (v291 : BitVec 32) (v299 : BitVec 32) (v387 : BitVec 32) (k0_hw48 : k0_chk48 k0_t1 v288 v291 v299 v387), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : ¬(k0_cond13 k0_t1 v288 v291 v299 = 1#1)), ∀ a, (k0_off115 v387) a + S1x512x256.size a ≤ S1x8192x256.size a := fun k0_t1 v288 v291 v299 v387 k0_hw48 k0_h9 k0_h10 k0_h11 k0_h12 k0_h13 => k0_hw48.2.1 k0_h9 k0_h10 k0_h11 k0_h12 k0_h13
theorem k0_off115_packedbf16 : ∀ (k0_t1 : Fin k0_t1_loop.trips) (v288 : BitVec 32) (v291 : BitVec 32) (v299 : BitVec 32) (v387 : BitVec 32) (k0_hw48 : k0_chk48 k0_t1 v288 v291 v299 v387), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : ¬(k0_cond13 k0_t1 v288 v291 v299 = 1#1)), (Rect.unit (s := S1x8192x256) (k0_off115 v387) S1x512x256.size (k0_off115_inb k0_t1 v288 v291 v299 v387 k0_hw48 k0_h9 k0_h10 k0_h11 k0_h12 k0_h13)).PackedRows (EltTy.packing .bf16) := fun k0_t1 v288 v291 v299 v387 k0_hw48 k0_h9 k0_h10 k0_h11 k0_h12 k0_h13 => k0_hw48.2.2 k0_h9 k0_h10 k0_h11 k0_h12 k0_h13 (k0_off115_inb k0_t1 v288 v291 v299 v387 k0_hw48 k0_h9 k0_h10 k0_h11 k0_h12 k0_h13)

def k0_off116 (k0_t1 : Fin k0_t1_loop.trips) : Fin 1 → Nat :=
  let c2_i32_119 : BitVec 32 := 2#32
  let c0_i32_79 : BitVec 32 := 0#32
  let c1_i32_80 : BitVec 32 := 1#32
  let arg22 : BitVec 32 := Scf.iv c0_i32_79 c1_i32_80 k0_t1
  let v285 : BitVec 32 := Scalar.muli c2_i32_119 arg22
  let c1_i32_120 : BitVec 32 := 1#32
  let v286 : BitVec 32 := Scalar.addi v285 c1_i32_120
  let v449 : Index := Scalar.indexCast v286
  ![v449.toNat]
def k0_mult79 (v452 : BitVec 32) : BitVec 32 :=
  let c1024_i32_219 : BitVec 32 := 1024#32
  let v458 : BitVec 32 := Scalar.muli v452 c1024_i32_219
  v458

def k0_off117 (v452 : BitVec 32) : Fin 4 → Nat :=
  let c0_220 : Index := 0#32
  let c0_221 : Index := 0#32
  let c0_222 : Index := 0#32
  let c1024_i32_219 : BitVec 32 := 1024#32
  let v458 : BitVec 32 := Scalar.muli v452 c1024_i32_219
  let v459 : BitVec 32 := v458
  let v460 : Index := Scalar.indexCast v459
  ![0, 0, 0, v460.toNat]

def k0_chk49 (k0_t1 : Fin k0_t1_loop.trips) (v288 : BitVec 32) (v291 : BitVec 32) (v299 : BitVec 32) (v452 : BitVec 32) : Prop :=
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : ¬(k0_cond13 k0_t1 v288 v291 v299 = 1#1)), 1024 ∣ (k0_mult79 v452).toNat) ∧
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : ¬(k0_cond13 k0_t1 v288 v291 v299 = 1#1)), ∀ a, (k0_off117 v452) a + S1x1x272x1024.size a ≤ S1x1x272x8192.size a)
theorem k0_mult79_dvd : ∀ (k0_t1 : Fin k0_t1_loop.trips) (v288 : BitVec 32) (v291 : BitVec 32) (v299 : BitVec 32) (v452 : BitVec 32) (k0_hw49 : k0_chk49 k0_t1 v288 v291 v299 v452), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : ¬(k0_cond13 k0_t1 v288 v291 v299 = 1#1)), 1024 ∣ (k0_mult79 v452).toNat := fun k0_t1 v288 v291 v299 v452 k0_hw49 k0_h9 k0_h10 k0_h11 k0_h12 k0_h13 => k0_hw49.1 k0_h9 k0_h10 k0_h11 k0_h12 k0_h13
theorem k0_off117_inb : ∀ (k0_t1 : Fin k0_t1_loop.trips) (v288 : BitVec 32) (v291 : BitVec 32) (v299 : BitVec 32) (v452 : BitVec 32) (k0_hw49 : k0_chk49 k0_t1 v288 v291 v299 v452), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : k0_cond12 k0_t1 v288 v291 v299 = 1#1), ∀ (k0_h13 : ¬(k0_cond13 k0_t1 v288 v291 v299 = 1#1)), ∀ a, (k0_off117 v452) a + S1x1x272x1024.size a ≤ S1x1x272x8192.size a := fun k0_t1 v288 v291 v299 v452 k0_hw49 k0_h9 k0_h10 k0_h11 k0_h12 k0_h13 => k0_hw49.2 k0_h9 k0_h10 k0_h11 k0_h12 k0_h13

def k0_off118 (k0_t1 : Fin k0_t1_loop.trips) : Fin 1 → Nat :=
  let c2_i32_119 : BitVec 32 := 2#32
  let c0_i32_79 : BitVec 32 := 0#32
  let c1_i32_80 : BitVec 32 := 1#32
  let arg22 : BitVec 32 := Scf.iv c0_i32_79 c1_i32_80 k0_t1
  let v285 : BitVec 32 := Scalar.muli c2_i32_119 arg22
  let c1_i32_120 : BitVec 32 := 1#32
  let v286 : BitVec 32 := Scalar.addi v285 c1_i32_120
  let c1_i32_138 : BitVec 32 := 1#32
  let v311 : BitVec 32 := Scalar.addi v286 c1_i32_138
  let v312 : Index := Scalar.indexCast v311
  ![v312.toNat]
def k0_mult80 (v315 : BitVec 32) : BitVec 32 :=
  let c1024_i32_139 : BitVec 32 := 1024#32
  let v316 : BitVec 32 := Scalar.muli v315 c1024_i32_139
  v316

def k0_off119 (v315 : BitVec 32) : Fin 3 → Nat :=
  let c0_140 : Index := 0#32
  let c1024_i32_139 : BitVec 32 := 1024#32
  let v316 : BitVec 32 := Scalar.muli v315 c1024_i32_139
  let v317 : BitVec 32 := v316
  let v318 : Index := Scalar.indexCast v317
  let c0_141 : Index := 0#32
  ![0, v318.toNat, 0]
def k0_mult81 (v313 : BitVec 32) : BitVec 32 :=
  let c512_i32_144 : BitVec 32 := 512#32
  let v323 : BitVec 32 := Scalar.muli v313 c512_i32_144
  v323

def k0_off120 (v313 : BitVec 32) : Fin 3 → Nat :=
  let c0_145 : Index := 0#32
  let c512_i32_144 : BitVec 32 := 512#32
  let v323 : BitVec 32 := Scalar.muli v313 c512_i32_144
  let v324 : BitVec 32 := v323
  let v325 : Index := Scalar.indexCast v324
  let c0_146 : Index := 0#32
  ![0, v325.toNat, 0]
def k0_mult82 (v315 : BitVec 32) : BitVec 32 :=
  let c1024_i32_162 : BitVec 32 := 1024#32
  let v350 : BitVec 32 := Scalar.muli v315 c1024_i32_162
  v350
def k0_off121 (v315 : BitVec 32) : Fin 3 → Nat :=
  let c0_163 : Index := 0#32
  let c1024_i32_162 : BitVec 32 := 1024#32
  let v350 : BitVec 32 := Scalar.muli v315 c1024_i32_162
  let v351 : BitVec 32 := v350
  let v352 : Index := Scalar.indexCast v351
  let c128_164 : Index := 128#32
  ![0, v352.toNat, 128]

def k0_chk50 (k0_t1 : Fin k0_t1_loop.trips) (v288 : BitVec 32) (v291 : BitVec 32) (v299 : BitVec 32) (v315 : BitVec 32) : Prop :=
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : ¬(k0_cond12 k0_t1 v288 v291 v299 = 1#1)), 1024 ∣ (k0_mult80 v315).toNat) ∧
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : ¬(k0_cond12 k0_t1 v288 v291 v299 = 1#1)), ∀ a, (k0_off119 v315) a + S1x1024x128.size a ≤ S1x8192x256.size a) ∧
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : ¬(k0_cond12 k0_t1 v288 v291 v299 = 1#1)), 1024 ∣ (k0_mult82 v315).toNat) ∧
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : ¬(k0_cond12 k0_t1 v288 v291 v299 = 1#1)), ∀ a, (k0_off121 v315) a + S1x1024x128.size a ≤ S1x8192x256.size a)
theorem k0_mult80_dvd : ∀ (k0_t1 : Fin k0_t1_loop.trips) (v288 : BitVec 32) (v291 : BitVec 32) (v299 : BitVec 32) (v315 : BitVec 32) (k0_hw50 : k0_chk50 k0_t1 v288 v291 v299 v315), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : ¬(k0_cond12 k0_t1 v288 v291 v299 = 1#1)), 1024 ∣ (k0_mult80 v315).toNat := fun k0_t1 v288 v291 v299 v315 k0_hw50 k0_h9 k0_h10 k0_h11 k0_h12 => k0_hw50.1 k0_h9 k0_h10 k0_h11 k0_h12
theorem k0_off119_inb : ∀ (k0_t1 : Fin k0_t1_loop.trips) (v288 : BitVec 32) (v291 : BitVec 32) (v299 : BitVec 32) (v315 : BitVec 32) (k0_hw50 : k0_chk50 k0_t1 v288 v291 v299 v315), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : ¬(k0_cond12 k0_t1 v288 v291 v299 = 1#1)), ∀ a, (k0_off119 v315) a + S1x1024x128.size a ≤ S1x8192x256.size a := fun k0_t1 v288 v291 v299 v315 k0_hw50 k0_h9 k0_h10 k0_h11 k0_h12 => k0_hw50.2.1 k0_h9 k0_h10 k0_h11 k0_h12
theorem k0_mult82_dvd : ∀ (k0_t1 : Fin k0_t1_loop.trips) (v288 : BitVec 32) (v291 : BitVec 32) (v299 : BitVec 32) (v315 : BitVec 32) (k0_hw50 : k0_chk50 k0_t1 v288 v291 v299 v315), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : ¬(k0_cond12 k0_t1 v288 v291 v299 = 1#1)), 1024 ∣ (k0_mult82 v315).toNat := fun k0_t1 v288 v291 v299 v315 k0_hw50 k0_h9 k0_h10 k0_h11 k0_h12 => k0_hw50.2.2.1 k0_h9 k0_h10 k0_h11 k0_h12
theorem k0_off121_inb : ∀ (k0_t1 : Fin k0_t1_loop.trips) (v288 : BitVec 32) (v291 : BitVec 32) (v299 : BitVec 32) (v315 : BitVec 32) (k0_hw50 : k0_chk50 k0_t1 v288 v291 v299 v315), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : ¬(k0_cond12 k0_t1 v288 v291 v299 = 1#1)), ∀ a, (k0_off121 v315) a + S1x1024x128.size a ≤ S1x8192x256.size a := fun k0_t1 v288 v291 v299 v315 k0_hw50 k0_h9 k0_h10 k0_h11 k0_h12 => k0_hw50.2.2.2 k0_h9 k0_h10 k0_h11 k0_h12

def k0_mult83 (v313 : BitVec 32) : BitVec 32 :=
  let c512_i32_167 : BitVec 32 := 512#32
  let v357 : BitVec 32 := Scalar.muli v313 c512_i32_167
  v357
def k0_off122 (v313 : BitVec 32) : Fin 3 → Nat :=
  let c0_168 : Index := 0#32
  let c512_i32_167 : BitVec 32 := 512#32
  let v357 : BitVec 32 := Scalar.muli v313 c512_i32_167
  let v358 : BitVec 32 := v357
  let v359 : Index := Scalar.indexCast v358
  let c128_169 : Index := 128#32
  ![0, v359.toNat, 128]

def k0_chk51 (k0_t1 : Fin k0_t1_loop.trips) (v288 : BitVec 32) (v291 : BitVec 32) (v299 : BitVec 32) (v313 : BitVec 32) : Prop :=
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : ¬(k0_cond12 k0_t1 v288 v291 v299 = 1#1)), 512 ∣ (k0_mult81 v313).toNat) ∧
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : ¬(k0_cond12 k0_t1 v288 v291 v299 = 1#1)), ∀ a, (k0_off120 v313) a + S1x512x128.size a ≤ S1x8192x256.size a) ∧
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : ¬(k0_cond12 k0_t1 v288 v291 v299 = 1#1)), 512 ∣ (k0_mult83 v313).toNat) ∧
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : ¬(k0_cond12 k0_t1 v288 v291 v299 = 1#1)), ∀ a, (k0_off122 v313) a + S1x512x128.size a ≤ S1x8192x256.size a)
theorem k0_mult81_dvd : ∀ (k0_t1 : Fin k0_t1_loop.trips) (v288 : BitVec 32) (v291 : BitVec 32) (v299 : BitVec 32) (v313 : BitVec 32) (k0_hw51 : k0_chk51 k0_t1 v288 v291 v299 v313), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : ¬(k0_cond12 k0_t1 v288 v291 v299 = 1#1)), 512 ∣ (k0_mult81 v313).toNat := fun k0_t1 v288 v291 v299 v313 k0_hw51 k0_h9 k0_h10 k0_h11 k0_h12 => k0_hw51.1 k0_h9 k0_h10 k0_h11 k0_h12
theorem k0_off120_inb : ∀ (k0_t1 : Fin k0_t1_loop.trips) (v288 : BitVec 32) (v291 : BitVec 32) (v299 : BitVec 32) (v313 : BitVec 32) (k0_hw51 : k0_chk51 k0_t1 v288 v291 v299 v313), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : ¬(k0_cond12 k0_t1 v288 v291 v299 = 1#1)), ∀ a, (k0_off120 v313) a + S1x512x128.size a ≤ S1x8192x256.size a := fun k0_t1 v288 v291 v299 v313 k0_hw51 k0_h9 k0_h10 k0_h11 k0_h12 => k0_hw51.2.1 k0_h9 k0_h10 k0_h11 k0_h12
theorem k0_mult83_dvd : ∀ (k0_t1 : Fin k0_t1_loop.trips) (v288 : BitVec 32) (v291 : BitVec 32) (v299 : BitVec 32) (v313 : BitVec 32) (k0_hw51 : k0_chk51 k0_t1 v288 v291 v299 v313), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : ¬(k0_cond12 k0_t1 v288 v291 v299 = 1#1)), 512 ∣ (k0_mult83 v313).toNat := fun k0_t1 v288 v291 v299 v313 k0_hw51 k0_h9 k0_h10 k0_h11 k0_h12 => k0_hw51.2.2.1 k0_h9 k0_h10 k0_h11 k0_h12
theorem k0_off122_inb : ∀ (k0_t1 : Fin k0_t1_loop.trips) (v288 : BitVec 32) (v291 : BitVec 32) (v299 : BitVec 32) (v313 : BitVec 32) (k0_hw51 : k0_chk51 k0_t1 v288 v291 v299 v313), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : ¬(k0_cond12 k0_t1 v288 v291 v299 = 1#1)), ∀ a, (k0_off122 v313) a + S1x512x128.size a ≤ S1x8192x256.size a := fun k0_t1 v288 v291 v299 v313 k0_hw51 k0_h9 k0_h10 k0_h11 k0_h12 => k0_hw51.2.2.2 k0_h9 k0_h10 k0_h11 k0_h12

def k0_off123 (k0_t1 : Fin k0_t1_loop.trips) : Fin 1 → Nat :=
  let c2_i32_119 : BitVec 32 := 2#32
  let c0_i32_79 : BitVec 32 := 0#32
  let c1_i32_80 : BitVec 32 := 1#32
  let arg22 : BitVec 32 := Scf.iv c0_i32_79 c1_i32_80 k0_t1
  let v285 : BitVec 32 := Scalar.muli c2_i32_119 arg22
  let c1_i32_120 : BitVec 32 := 1#32
  let v286 : BitVec 32 := Scalar.addi v285 c1_i32_120
  let v384 : Index := Scalar.indexCast v286
  ![v384.toNat]
def k0_mult84 (v387 : BitVec 32) : BitVec 32 :=
  let c1024_i32_188 : BitVec 32 := 1024#32
  let v393 : BitVec 32 := Scalar.muli v387 c1024_i32_188
  v393

def k0_off124 (v387 : BitVec 32) : Fin 4 → Nat :=
  let c0_189 : Index := 0#32
  let c0_190 : Index := 0#32
  let c0_191 : Index := 0#32
  let c1024_i32_188 : BitVec 32 := 1024#32
  let v393 : BitVec 32 := Scalar.muli v387 c1024_i32_188
  let v394 : BitVec 32 := v393
  let v395 : Index := Scalar.indexCast v394
  ![0, 0, 0, v395.toNat]

def k0_chk52 (k0_t1 : Fin k0_t1_loop.trips) (v288 : BitVec 32) (v291 : BitVec 32) (v299 : BitVec 32) (v387 : BitVec 32) : Prop :=
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : ¬(k0_cond12 k0_t1 v288 v291 v299 = 1#1)), 1024 ∣ (k0_mult84 v387).toNat) ∧
  (∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : ¬(k0_cond12 k0_t1 v288 v291 v299 = 1#1)), ∀ a, (k0_off124 v387) a + S1x1x272x1024.size a ≤ S1x1x272x8192.size a)
theorem k0_mult84_dvd : ∀ (k0_t1 : Fin k0_t1_loop.trips) (v288 : BitVec 32) (v291 : BitVec 32) (v299 : BitVec 32) (v387 : BitVec 32) (k0_hw52 : k0_chk52 k0_t1 v288 v291 v299 v387), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : ¬(k0_cond12 k0_t1 v288 v291 v299 = 1#1)), 1024 ∣ (k0_mult84 v387).toNat := fun k0_t1 v288 v291 v299 v387 k0_hw52 k0_h9 k0_h10 k0_h11 k0_h12 => k0_hw52.1 k0_h9 k0_h10 k0_h11 k0_h12
theorem k0_off124_inb : ∀ (k0_t1 : Fin k0_t1_loop.trips) (v288 : BitVec 32) (v291 : BitVec 32) (v299 : BitVec 32) (v387 : BitVec 32) (k0_hw52 : k0_chk52 k0_t1 v288 v291 v299 v387), ∀ (k0_h9 : k0_cond9 k0_t1 v288 v291 v299 = 1#1), ∀ (k0_h10 : k0_cond10 k0_t1 v288 v291 v299 = 1#1), ∀ (k0_h11 : k0_cond11 k0_t1 v288 v291 v299 = 1#1), ∀ (k0_h12 : ¬(k0_cond12 k0_t1 v288 v291 v299 = 1#1)), ∀ a, (k0_off124 v387) a + S1x1x272x1024.size a ≤ S1x1x272x8192.size a := fun k0_t1 v288 v291 v299 v387 k0_hw52 k0_h9 k0_h10 k0_h11 k0_h12 => k0_hw52.2 k0_h9 k0_h10 k0_h11 k0_h12

def k0_off125 (k0_t1 : Fin k0_t1_loop.trips) : Fin 1 → Nat :=
  let c2_i32_119 : BitVec 32 := 2#32
  let c0_i32_79 : BitVec 32 := 0#32
  let c1_i32_80 : BitVec 32 := 1#32
  let arg22 : BitVec 32 := Scf.iv c0_i32_79 c1_i32_80 k0_t1
  let v285 : BitVec 32 := Scalar.muli c2_i32_119 arg22
  let c1_i32_120 : BitVec 32 := 1#32
  let v286 : BitVec 32 := Scalar.addi v285 c1_i32_120
  let c1_i32_136 : BitVec 32 := 1#32
  let v309 : BitVec 32 := Scalar.addi v286 c1_i32_136
  let v310 : Index := Scalar.indexCast v309
  ![v310.toNat]
def k0_mult85 (v313 : BitVec 32) : BitVec 32 :=
  let c1024_i32_137 : BitVec 32 := 1024#32
  let v314 : BitVec 32 := Scalar.muli v313 c1024_i32_137
  v314

def k0_off126 (v313 : BitVec 32) : Fin 3 → Nat :=
  let c0_138 : Index := 0#32
  let c1024_i32_137 : BitVec 32 := 1024#32
  let v314 : BitVec 32 := Scalar.muli v313 c1024_i32_137
  let v315 : BitVec 32 := v314
  let v316 : Index := Scalar.indexCast v315
  let c0_139 : Index := 0#32
  ![0, v316.toNat, 0]
def k0_mult86 (v311 : BitVec 32) : BitVec 32 :=
  let c512_i32_142 : BitVec 32 := 512#32
  let v321 : BitVec 32 := Scalar.muli v311 c512_i32_142
  v321

def k0_off127 (v311 : BitVec 32) : Fin 3 → Nat :=
  let c0_143 : Index := 0#32
  let c512_i32_142 : BitVec 32 := 512#32
  let v321 : BitVec 32 := Scalar.muli v311 c512_i32_142
  let v322 : BitVec 32 := v321
  let v323 : Index := Scalar.indexCast v322
  let c0_144 : Index := 0#32
  ![0, v323.toNat, 0]
def k0_mult87 (v313 : BitVec 32) : BitVec 32 :=
  let c1024_i32_155 : BitVec 32 := 1024#32
  let v337 : BitVec 32 := Scalar.muli v313 c1024_i32_155
  v337
def k0_off128 (v313 : BitVec 32) : Fin 3 → Nat :=
  let c0_156 : Index := 0#32
  let c1024_i32_155 : BitVec 32 := 1024#32
  let v337 : BitVec 32 := Scalar.muli v313 c1024_i32_155
  let v338 : BitVec 32 := v337
  let v339 : Index := Scalar.indexCast v338
  let c128_157 : Index := 128#32
  ![0, v339.toNat, 128]

def k0_chk53 (k0_t1 : Fin k0_t1_loop.trips) (v288 : BitVec 32) (v291 : BitVec 32) (v299 : BitVec 32) (v313 : BitVec 32) : Prop :=
  (∀ (k0_h9 : k0_cond9 k0_t1 v288 v291 v299 = 1#1), ∀ (k0_h10 : k0_cond10 k0_t1 v288 v291 v299 = 1#1), ∀ (k0_h11 : ¬(k0_cond11 k0_t1 v288 v291 v299 = 1#1)), 1024 ∣ (k0_mult85 v313).toNat) ∧
  (∀ (k0_h9 : k0_cond9 k0_t1 v288 v291 v299 = 1#1), ∀ (k0_h10 : k0_cond10 k0_t1 v288 v291 v299 = 1#1), ∀ (k0_h11 : ¬(k0_cond11 k0_t1 v288 v291 v299 = 1#1)), ∀ a, (k0_off126 v313) a + S1x1024x128.size a ≤ S1x8192x256.size a) ∧
  (∀ (k0_h9 : k0_cond9 k0_t1 v288 v291 v299 = 1#1), ∀ (k0_h10 : k0_cond10 k0_t1 v288 v291 v299 = 1#1), ∀ (k0_h11 : ¬(k0_cond11 k0_t1 v288 v291 v299 = 1#1)), 1024 ∣ (k0_mult87 v313).toNat) ∧
  (∀ (k0_h9 : k0_cond9 k0_t1 v288 v291 v299 = 1#1), ∀ (k0_h10 : k0_cond10 k0_t1 v288 v291 v299 = 1#1), ∀ (k0_h11 : ¬(k0_cond11 k0_t1 v288 v291 v299 = 1#1)), ∀ a, (k0_off128 v313) a + S1x1024x128.size a ≤ S1x8192x256.size a)
theorem k0_mult85_dvd : ∀ (k0_t1 : Fin k0_t1_loop.trips) (v288 : BitVec 32) (v291 : BitVec 32) (v299 : BitVec 32) (v313 : BitVec 32) (k0_hw53 : k0_chk53 k0_t1 v288 v291 v299 v313), ∀ (k0_h9 : k0_cond9 k0_t1 v288 v291 v299 = 1#1), ∀ (k0_h10 : k0_cond10 k0_t1 v288 v291 v299 = 1#1), ∀ (k0_h11 : ¬(k0_cond11 k0_t1 v288 v291 v299 = 1#1)), 1024 ∣ (k0_mult85 v313).toNat := fun k0_t1 v288 v291 v299 v313 k0_hw53 k0_h9 k0_h10 k0_h11 => k0_hw53.1 k0_h9 k0_h10 k0_h11
theorem k0_off126_inb : ∀ (k0_t1 : Fin k0_t1_loop.trips) (v288 : BitVec 32) (v291 : BitVec 32) (v299 : BitVec 32) (v313 : BitVec 32) (k0_hw53 : k0_chk53 k0_t1 v288 v291 v299 v313), ∀ (k0_h9 : k0_cond9 k0_t1 v288 v291 v299 = 1#1), ∀ (k0_h10 : k0_cond10 k0_t1 v288 v291 v299 = 1#1), ∀ (k0_h11 : ¬(k0_cond11 k0_t1 v288 v291 v299 = 1#1)), ∀ a, (k0_off126 v313) a + S1x1024x128.size a ≤ S1x8192x256.size a := fun k0_t1 v288 v291 v299 v313 k0_hw53 k0_h9 k0_h10 k0_h11 => k0_hw53.2.1 k0_h9 k0_h10 k0_h11
theorem k0_mult87_dvd : ∀ (k0_t1 : Fin k0_t1_loop.trips) (v288 : BitVec 32) (v291 : BitVec 32) (v299 : BitVec 32) (v313 : BitVec 32) (k0_hw53 : k0_chk53 k0_t1 v288 v291 v299 v313), ∀ (k0_h9 : k0_cond9 k0_t1 v288 v291 v299 = 1#1), ∀ (k0_h10 : k0_cond10 k0_t1 v288 v291 v299 = 1#1), ∀ (k0_h11 : ¬(k0_cond11 k0_t1 v288 v291 v299 = 1#1)), 1024 ∣ (k0_mult87 v313).toNat := fun k0_t1 v288 v291 v299 v313 k0_hw53 k0_h9 k0_h10 k0_h11 => k0_hw53.2.2.1 k0_h9 k0_h10 k0_h11
theorem k0_off128_inb : ∀ (k0_t1 : Fin k0_t1_loop.trips) (v288 : BitVec 32) (v291 : BitVec 32) (v299 : BitVec 32) (v313 : BitVec 32) (k0_hw53 : k0_chk53 k0_t1 v288 v291 v299 v313), ∀ (k0_h9 : k0_cond9 k0_t1 v288 v291 v299 = 1#1), ∀ (k0_h10 : k0_cond10 k0_t1 v288 v291 v299 = 1#1), ∀ (k0_h11 : ¬(k0_cond11 k0_t1 v288 v291 v299 = 1#1)), ∀ a, (k0_off128 v313) a + S1x1024x128.size a ≤ S1x8192x256.size a := fun k0_t1 v288 v291 v299 v313 k0_hw53 k0_h9 k0_h10 k0_h11 => k0_hw53.2.2.2 k0_h9 k0_h10 k0_h11

def k0_mult88 (v311 : BitVec 32) : BitVec 32 :=
  let c512_i32_160 : BitVec 32 := 512#32
  let v344 : BitVec 32 := Scalar.muli v311 c512_i32_160
  v344
def k0_off129 (v311 : BitVec 32) : Fin 3 → Nat :=
  let c0_161 : Index := 0#32
  let c512_i32_160 : BitVec 32 := 512#32
  let v344 : BitVec 32 := Scalar.muli v311 c512_i32_160
  let v345 : BitVec 32 := v344
  let v346 : Index := Scalar.indexCast v345
  let c128_162 : Index := 128#32
  ![0, v346.toNat, 128]

def k0_chk54 (k0_t1 : Fin k0_t1_loop.trips) (v288 : BitVec 32) (v291 : BitVec 32) (v299 : BitVec 32) (v311 : BitVec 32) : Prop :=
  (∀ (k0_h9 : k0_cond9 k0_t1 v288 v291 v299 = 1#1), ∀ (k0_h10 : k0_cond10 k0_t1 v288 v291 v299 = 1#1), ∀ (k0_h11 : ¬(k0_cond11 k0_t1 v288 v291 v299 = 1#1)), 512 ∣ (k0_mult86 v311).toNat) ∧
  (∀ (k0_h9 : k0_cond9 k0_t1 v288 v291 v299 = 1#1), ∀ (k0_h10 : k0_cond10 k0_t1 v288 v291 v299 = 1#1), ∀ (k0_h11 : ¬(k0_cond11 k0_t1 v288 v291 v299 = 1#1)), ∀ a, (k0_off127 v311) a + S1x512x128.size a ≤ S1x8192x256.size a) ∧
  (∀ (k0_h9 : k0_cond9 k0_t1 v288 v291 v299 = 1#1), ∀ (k0_h10 : k0_cond10 k0_t1 v288 v291 v299 = 1#1), ∀ (k0_h11 : ¬(k0_cond11 k0_t1 v288 v291 v299 = 1#1)), 512 ∣ (k0_mult88 v311).toNat) ∧
  (∀ (k0_h9 : k0_cond9 k0_t1 v288 v291 v299 = 1#1), ∀ (k0_h10 : k0_cond10 k0_t1 v288 v291 v299 = 1#1), ∀ (k0_h11 : ¬(k0_cond11 k0_t1 v288 v291 v299 = 1#1)), ∀ a, (k0_off129 v311) a + S1x512x128.size a ≤ S1x8192x256.size a)
theorem k0_mult86_dvd : ∀ (k0_t1 : Fin k0_t1_loop.trips) (v288 : BitVec 32) (v291 : BitVec 32) (v299 : BitVec 32) (v311 : BitVec 32) (k0_hw54 : k0_chk54 k0_t1 v288 v291 v299 v311), ∀ (k0_h9 : k0_cond9 k0_t1 v288 v291 v299 = 1#1), ∀ (k0_h10 : k0_cond10 k0_t1 v288 v291 v299 = 1#1), ∀ (k0_h11 : ¬(k0_cond11 k0_t1 v288 v291 v299 = 1#1)), 512 ∣ (k0_mult86 v311).toNat := fun k0_t1 v288 v291 v299 v311 k0_hw54 k0_h9 k0_h10 k0_h11 => k0_hw54.1 k0_h9 k0_h10 k0_h11
theorem k0_off127_inb : ∀ (k0_t1 : Fin k0_t1_loop.trips) (v288 : BitVec 32) (v291 : BitVec 32) (v299 : BitVec 32) (v311 : BitVec 32) (k0_hw54 : k0_chk54 k0_t1 v288 v291 v299 v311), ∀ (k0_h9 : k0_cond9 k0_t1 v288 v291 v299 = 1#1), ∀ (k0_h10 : k0_cond10 k0_t1 v288 v291 v299 = 1#1), ∀ (k0_h11 : ¬(k0_cond11 k0_t1 v288 v291 v299 = 1#1)), ∀ a, (k0_off127 v311) a + S1x512x128.size a ≤ S1x8192x256.size a := fun k0_t1 v288 v291 v299 v311 k0_hw54 k0_h9 k0_h10 k0_h11 => k0_hw54.2.1 k0_h9 k0_h10 k0_h11
theorem k0_mult88_dvd : ∀ (k0_t1 : Fin k0_t1_loop.trips) (v288 : BitVec 32) (v291 : BitVec 32) (v299 : BitVec 32) (v311 : BitVec 32) (k0_hw54 : k0_chk54 k0_t1 v288 v291 v299 v311), ∀ (k0_h9 : k0_cond9 k0_t1 v288 v291 v299 = 1#1), ∀ (k0_h10 : k0_cond10 k0_t1 v288 v291 v299 = 1#1), ∀ (k0_h11 : ¬(k0_cond11 k0_t1 v288 v291 v299 = 1#1)), 512 ∣ (k0_mult88 v311).toNat := fun k0_t1 v288 v291 v299 v311 k0_hw54 k0_h9 k0_h10 k0_h11 => k0_hw54.2.2.1 k0_h9 k0_h10 k0_h11
theorem k0_off129_inb : ∀ (k0_t1 : Fin k0_t1_loop.trips) (v288 : BitVec 32) (v291 : BitVec 32) (v299 : BitVec 32) (v311 : BitVec 32) (k0_hw54 : k0_chk54 k0_t1 v288 v291 v299 v311), ∀ (k0_h9 : k0_cond9 k0_t1 v288 v291 v299 = 1#1), ∀ (k0_h10 : k0_cond10 k0_t1 v288 v291 v299 = 1#1), ∀ (k0_h11 : ¬(k0_cond11 k0_t1 v288 v291 v299 = 1#1)), ∀ a, (k0_off129 v311) a + S1x512x128.size a ≤ S1x8192x256.size a := fun k0_t1 v288 v291 v299 v311 k0_hw54 k0_h9 k0_h10 k0_h11 => k0_hw54.2.2.2 k0_h9 k0_h10 k0_h11

def k0_off130 (k0_t1 : Fin k0_t1_loop.trips) : Fin 1 → Nat :=
  let c2_i32_119 : BitVec 32 := 2#32
  let c0_i32_79 : BitVec 32 := 0#32
  let c1_i32_80 : BitVec 32 := 1#32
  let arg22 : BitVec 32 := Scf.iv c0_i32_79 c1_i32_80 k0_t1
  let v285 : BitVec 32 := Scalar.muli c2_i32_119 arg22
  let c1_i32_120 : BitVec 32 := 1#32
  let v286 : BitVec 32 := Scalar.addi v285 c1_i32_120
  let v360 : Index := Scalar.indexCast v286
  ![v360.toNat]
def k0_mult89 (v363 : BitVec 32) : BitVec 32 :=
  let c1024_i32_175 : BitVec 32 := 1024#32
  let v369 : BitVec 32 := Scalar.muli v363 c1024_i32_175
  v369

def k0_off131 (v363 : BitVec 32) : Fin 4 → Nat :=
  let c0_176 : Index := 0#32
  let c0_177 : Index := 0#32
  let c0_178 : Index := 0#32
  let c1024_i32_175 : BitVec 32 := 1024#32
  let v369 : BitVec 32 := Scalar.muli v363 c1024_i32_175
  let v370 : BitVec 32 := v369
  let v371 : Index := Scalar.indexCast v370
  ![0, 0, 0, v371.toNat]

def k0_chk55 (k0_t1 : Fin k0_t1_loop.trips) (v288 : BitVec 32) (v291 : BitVec 32) (v299 : BitVec 32) (v363 : BitVec 32) : Prop :=
  (∀ (k0_h9 : k0_cond9 k0_t1 v288 v291 v299 = 1#1), ∀ (k0_h10 : k0_cond10 k0_t1 v288 v291 v299 = 1#1), ∀ (k0_h11 : ¬(k0_cond11 k0_t1 v288 v291 v299 = 1#1)), 1024 ∣ (k0_mult89 v363).toNat) ∧
  (∀ (k0_h9 : k0_cond9 k0_t1 v288 v291 v299 = 1#1), ∀ (k0_h10 : k0_cond10 k0_t1 v288 v291 v299 = 1#1), ∀ (k0_h11 : ¬(k0_cond11 k0_t1 v288 v291 v299 = 1#1)), ∀ a, (k0_off131 v363) a + S1x1x272x512.size a ≤ S1x1x272x8192.size a)
theorem k0_mult89_dvd : ∀ (k0_t1 : Fin k0_t1_loop.trips) (v288 : BitVec 32) (v291 : BitVec 32) (v299 : BitVec 32) (v363 : BitVec 32) (k0_hw55 : k0_chk55 k0_t1 v288 v291 v299 v363), ∀ (k0_h9 : k0_cond9 k0_t1 v288 v291 v299 = 1#1), ∀ (k0_h10 : k0_cond10 k0_t1 v288 v291 v299 = 1#1), ∀ (k0_h11 : ¬(k0_cond11 k0_t1 v288 v291 v299 = 1#1)), 1024 ∣ (k0_mult89 v363).toNat := fun k0_t1 v288 v291 v299 v363 k0_hw55 k0_h9 k0_h10 k0_h11 => k0_hw55.1 k0_h9 k0_h10 k0_h11
theorem k0_off131_inb : ∀ (k0_t1 : Fin k0_t1_loop.trips) (v288 : BitVec 32) (v291 : BitVec 32) (v299 : BitVec 32) (v363 : BitVec 32) (k0_hw55 : k0_chk55 k0_t1 v288 v291 v299 v363), ∀ (k0_h9 : k0_cond9 k0_t1 v288 v291 v299 = 1#1), ∀ (k0_h10 : k0_cond10 k0_t1 v288 v291 v299 = 1#1), ∀ (k0_h11 : ¬(k0_cond11 k0_t1 v288 v291 v299 = 1#1)), ∀ a, (k0_off131 v363) a + S1x1x272x512.size a ≤ S1x1x272x8192.size a := fun k0_t1 v288 v291 v299 v363 k0_hw55 k0_h9 k0_h10 k0_h11 => k0_hw55.2 k0_h9 k0_h10 k0_h11

def k0_off132 (k0_t1 : Fin k0_t1_loop.trips) : Fin 1 → Nat :=
  let c2_i32_119 : BitVec 32 := 2#32
  let c0_i32_79 : BitVec 32 := 0#32
  let c1_i32_80 : BitVec 32 := 1#32
  let arg22 : BitVec 32 := Scf.iv c0_i32_79 c1_i32_80 k0_t1
  let v285 : BitVec 32 := Scalar.muli c2_i32_119 arg22
  let c1_i32_120 : BitVec 32 := 1#32
  let v286 : BitVec 32 := Scalar.addi v285 c1_i32_120
  let c1_i32_134 : BitVec 32 := 1#32
  let v307 : BitVec 32 := Scalar.addi v286 c1_i32_134
  let v308 : Index := Scalar.indexCast v307
  ![v308.toNat]
def k0_mult90 (v311 : BitVec 32) : BitVec 32 :=
  let c1024_i32_135 : BitVec 32 := 1024#32
  let v312 : BitVec 32 := Scalar.muli v311 c1024_i32_135
  v312

def k0_off133 (v311 : BitVec 32) : Fin 3 → Nat :=
  let c0_136 : Index := 0#32
  let c1024_i32_135 : BitVec 32 := 1024#32
  let v312 : BitVec 32 := Scalar.muli v311 c1024_i32_135
  let v313 : BitVec 32 := v312
  let v314 : Index := Scalar.indexCast v313
  let c0_137 : Index := 0#32
  ![0, v314.toNat, 0]
def k0_mult91 (v309 : BitVec 32) : BitVec 32 :=
  let c512_i32_140 : BitVec 32 := 512#32
  let v319 : BitVec 32 := Scalar.muli v309 c512_i32_140
  v319

def k0_off134 (v309 : BitVec 32) : Fin 3 → Nat :=
  let c0_141 : Index := 0#32
  let c512_i32_140 : BitVec 32 := 512#32
  let v319 : BitVec 32 := Scalar.muli v309 c512_i32_140
  let v320 : BitVec 32 := v319
  let v321 : Index := Scalar.indexCast v320
  let c0_142 : Index := 0#32
  ![0, v321.toNat, 0]
def k0_mult92 (v311 : BitVec 32) : BitVec 32 :=
  let c1024_i32_153 : BitVec 32 := 1024#32
  let v335 : BitVec 32 := Scalar.muli v311 c1024_i32_153
  v335
def k0_off135 (v311 : BitVec 32) : Fin 3 → Nat :=
  let c0_154 : Index := 0#32
  let c1024_i32_153 : BitVec 32 := 1024#32
  let v335 : BitVec 32 := Scalar.muli v311 c1024_i32_153
  let v336 : BitVec 32 := v335
  let v337 : Index := Scalar.indexCast v336
  let c128_155 : Index := 128#32
  ![0, v337.toNat, 128]

def k0_chk56 (k0_t1 : Fin k0_t1_loop.trips) (v288 : BitVec 32) (v291 : BitVec 32) (v299 : BitVec 32) (v311 : BitVec 32) : Prop :=
  (∀ (k0_h9 : k0_cond9 k0_t1 v288 v291 v299 = 1#1), ∀ (k0_h10 : ¬(k0_cond10 k0_t1 v288 v291 v299 = 1#1)), 1024 ∣ (k0_mult90 v311).toNat) ∧
  (∀ (k0_h9 : k0_cond9 k0_t1 v288 v291 v299 = 1#1), ∀ (k0_h10 : ¬(k0_cond10 k0_t1 v288 v291 v299 = 1#1)), ∀ a, (k0_off133 v311) a + S1x1024x128.size a ≤ S1x8192x256.size a) ∧
  (∀ (k0_h9 : k0_cond9 k0_t1 v288 v291 v299 = 1#1), ∀ (k0_h10 : ¬(k0_cond10 k0_t1 v288 v291 v299 = 1#1)), 1024 ∣ (k0_mult92 v311).toNat) ∧
  (∀ (k0_h9 : k0_cond9 k0_t1 v288 v291 v299 = 1#1), ∀ (k0_h10 : ¬(k0_cond10 k0_t1 v288 v291 v299 = 1#1)), ∀ a, (k0_off135 v311) a + S1x1024x128.size a ≤ S1x8192x256.size a)
theorem k0_mult90_dvd : ∀ (k0_t1 : Fin k0_t1_loop.trips) (v288 : BitVec 32) (v291 : BitVec 32) (v299 : BitVec 32) (v311 : BitVec 32) (k0_hw56 : k0_chk56 k0_t1 v288 v291 v299 v311), ∀ (k0_h9 : k0_cond9 k0_t1 v288 v291 v299 = 1#1), ∀ (k0_h10 : ¬(k0_cond10 k0_t1 v288 v291 v299 = 1#1)), 1024 ∣ (k0_mult90 v311).toNat := fun k0_t1 v288 v291 v299 v311 k0_hw56 k0_h9 k0_h10 => k0_hw56.1 k0_h9 k0_h10
theorem k0_off133_inb : ∀ (k0_t1 : Fin k0_t1_loop.trips) (v288 : BitVec 32) (v291 : BitVec 32) (v299 : BitVec 32) (v311 : BitVec 32) (k0_hw56 : k0_chk56 k0_t1 v288 v291 v299 v311), ∀ (k0_h9 : k0_cond9 k0_t1 v288 v291 v299 = 1#1), ∀ (k0_h10 : ¬(k0_cond10 k0_t1 v288 v291 v299 = 1#1)), ∀ a, (k0_off133 v311) a + S1x1024x128.size a ≤ S1x8192x256.size a := fun k0_t1 v288 v291 v299 v311 k0_hw56 k0_h9 k0_h10 => k0_hw56.2.1 k0_h9 k0_h10
theorem k0_mult92_dvd : ∀ (k0_t1 : Fin k0_t1_loop.trips) (v288 : BitVec 32) (v291 : BitVec 32) (v299 : BitVec 32) (v311 : BitVec 32) (k0_hw56 : k0_chk56 k0_t1 v288 v291 v299 v311), ∀ (k0_h9 : k0_cond9 k0_t1 v288 v291 v299 = 1#1), ∀ (k0_h10 : ¬(k0_cond10 k0_t1 v288 v291 v299 = 1#1)), 1024 ∣ (k0_mult92 v311).toNat := fun k0_t1 v288 v291 v299 v311 k0_hw56 k0_h9 k0_h10 => k0_hw56.2.2.1 k0_h9 k0_h10
theorem k0_off135_inb : ∀ (k0_t1 : Fin k0_t1_loop.trips) (v288 : BitVec 32) (v291 : BitVec 32) (v299 : BitVec 32) (v311 : BitVec 32) (k0_hw56 : k0_chk56 k0_t1 v288 v291 v299 v311), ∀ (k0_h9 : k0_cond9 k0_t1 v288 v291 v299 = 1#1), ∀ (k0_h10 : ¬(k0_cond10 k0_t1 v288 v291 v299 = 1#1)), ∀ a, (k0_off135 v311) a + S1x1024x128.size a ≤ S1x8192x256.size a := fun k0_t1 v288 v291 v299 v311 k0_hw56 k0_h9 k0_h10 => k0_hw56.2.2.2 k0_h9 k0_h10

def k0_mult93 (v309 : BitVec 32) : BitVec 32 :=
  let c512_i32_158 : BitVec 32 := 512#32
  let v342 : BitVec 32 := Scalar.muli v309 c512_i32_158
  v342
def k0_off136 (v309 : BitVec 32) : Fin 3 → Nat :=
  let c0_159 : Index := 0#32
  let c512_i32_158 : BitVec 32 := 512#32
  let v342 : BitVec 32 := Scalar.muli v309 c512_i32_158
  let v343 : BitVec 32 := v342
  let v344 : Index := Scalar.indexCast v343
  let c128_160 : Index := 128#32
  ![0, v344.toNat, 128]

def k0_chk57 (k0_t1 : Fin k0_t1_loop.trips) (v288 : BitVec 32) (v291 : BitVec 32) (v299 : BitVec 32) (v309 : BitVec 32) : Prop :=
  (∀ (k0_h9 : k0_cond9 k0_t1 v288 v291 v299 = 1#1), ∀ (k0_h10 : ¬(k0_cond10 k0_t1 v288 v291 v299 = 1#1)), 512 ∣ (k0_mult91 v309).toNat) ∧
  (∀ (k0_h9 : k0_cond9 k0_t1 v288 v291 v299 = 1#1), ∀ (k0_h10 : ¬(k0_cond10 k0_t1 v288 v291 v299 = 1#1)), ∀ a, (k0_off134 v309) a + S1x512x128.size a ≤ S1x8192x256.size a) ∧
  (∀ (k0_h9 : k0_cond9 k0_t1 v288 v291 v299 = 1#1), ∀ (k0_h10 : ¬(k0_cond10 k0_t1 v288 v291 v299 = 1#1)), 512 ∣ (k0_mult93 v309).toNat) ∧
  (∀ (k0_h9 : k0_cond9 k0_t1 v288 v291 v299 = 1#1), ∀ (k0_h10 : ¬(k0_cond10 k0_t1 v288 v291 v299 = 1#1)), ∀ a, (k0_off136 v309) a + S1x512x128.size a ≤ S1x8192x256.size a)
theorem k0_mult91_dvd : ∀ (k0_t1 : Fin k0_t1_loop.trips) (v288 : BitVec 32) (v291 : BitVec 32) (v299 : BitVec 32) (v309 : BitVec 32) (k0_hw57 : k0_chk57 k0_t1 v288 v291 v299 v309), ∀ (k0_h9 : k0_cond9 k0_t1 v288 v291 v299 = 1#1), ∀ (k0_h10 : ¬(k0_cond10 k0_t1 v288 v291 v299 = 1#1)), 512 ∣ (k0_mult91 v309).toNat := fun k0_t1 v288 v291 v299 v309 k0_hw57 k0_h9 k0_h10 => k0_hw57.1 k0_h9 k0_h10
theorem k0_off134_inb : ∀ (k0_t1 : Fin k0_t1_loop.trips) (v288 : BitVec 32) (v291 : BitVec 32) (v299 : BitVec 32) (v309 : BitVec 32) (k0_hw57 : k0_chk57 k0_t1 v288 v291 v299 v309), ∀ (k0_h9 : k0_cond9 k0_t1 v288 v291 v299 = 1#1), ∀ (k0_h10 : ¬(k0_cond10 k0_t1 v288 v291 v299 = 1#1)), ∀ a, (k0_off134 v309) a + S1x512x128.size a ≤ S1x8192x256.size a := fun k0_t1 v288 v291 v299 v309 k0_hw57 k0_h9 k0_h10 => k0_hw57.2.1 k0_h9 k0_h10
theorem k0_mult93_dvd : ∀ (k0_t1 : Fin k0_t1_loop.trips) (v288 : BitVec 32) (v291 : BitVec 32) (v299 : BitVec 32) (v309 : BitVec 32) (k0_hw57 : k0_chk57 k0_t1 v288 v291 v299 v309), ∀ (k0_h9 : k0_cond9 k0_t1 v288 v291 v299 = 1#1), ∀ (k0_h10 : ¬(k0_cond10 k0_t1 v288 v291 v299 = 1#1)), 512 ∣ (k0_mult93 v309).toNat := fun k0_t1 v288 v291 v299 v309 k0_hw57 k0_h9 k0_h10 => k0_hw57.2.2.1 k0_h9 k0_h10
theorem k0_off136_inb : ∀ (k0_t1 : Fin k0_t1_loop.trips) (v288 : BitVec 32) (v291 : BitVec 32) (v299 : BitVec 32) (v309 : BitVec 32) (k0_hw57 : k0_chk57 k0_t1 v288 v291 v299 v309), ∀ (k0_h9 : k0_cond9 k0_t1 v288 v291 v299 = 1#1), ∀ (k0_h10 : ¬(k0_cond10 k0_t1 v288 v291 v299 = 1#1)), ∀ a, (k0_off136 v309) a + S1x512x128.size a ≤ S1x8192x256.size a := fun k0_t1 v288 v291 v299 v309 k0_hw57 k0_h9 k0_h10 => k0_hw57.2.2.2 k0_h9 k0_h10

def k0_off137 (k0_t1 : Fin k0_t1_loop.trips) : Fin 1 → Nat :=
  let c2_i32_119 : BitVec 32 := 2#32
  let c0_i32_79 : BitVec 32 := 0#32
  let c1_i32_80 : BitVec 32 := 1#32
  let arg22 : BitVec 32 := Scf.iv c0_i32_79 c1_i32_80 k0_t1
  let v285 : BitVec 32 := Scalar.muli c2_i32_119 arg22
  let c1_i32_120 : BitVec 32 := 1#32
  let v286 : BitVec 32 := Scalar.addi v285 c1_i32_120
  let v358 : Index := Scalar.indexCast v286
  ![v358.toNat]
def k0_mult94 (v359 : BitVec 32) : BitVec 32 :=
  let c1_i32_171 : BitVec 32 := 1#32
  let v360 : BitVec 32 := Scalar.subi v359 c1_i32_171
  let c512_i32_197 : BitVec 32 := 512#32
  let v415 : BitVec 32 := Scalar.muli v360 c512_i32_197
  v415

def k0_off138 (v359 : BitVec 32) : Fin 3 → Nat :=
  let c0_198 : Index := 0#32
  let c1_i32_171 : BitVec 32 := 1#32
  let v360 : BitVec 32 := Scalar.subi v359 c1_i32_171
  let c512_i32_197 : BitVec 32 := 512#32
  let v415 : BitVec 32 := Scalar.muli v360 c512_i32_197
  let v416 : BitVec 32 := v415
  let v417 : Index := Scalar.indexCast v416
  let c0_199 : Index := 0#32
  ![0, v417.toNat, 0]

def k0_chk58 (k0_t1 : Fin k0_t1_loop.trips) (v288 : BitVec 32) (v291 : BitVec 32) (v299 : BitVec 32) (v359 : BitVec 32) : Prop :=
  (∀ (k0_h9 : k0_cond9 k0_t1 v288 v291 v299 = 1#1), ∀ (k0_h10 : ¬(k0_cond10 k0_t1 v288 v291 v299 = 1#1)), 512 ∣ (k0_mult94 v359).toNat) ∧
  (∀ (k0_h9 : k0_cond9 k0_t1 v288 v291 v299 = 1#1), ∀ (k0_h10 : ¬(k0_cond10 k0_t1 v288 v291 v299 = 1#1)), ∀ a, (k0_off138 v359) a + S1x512x256.size a ≤ S1x8192x256.size a) ∧
  (∀ (k0_h9 : k0_cond9 k0_t1 v288 v291 v299 = 1#1), ∀ (k0_h10 : ¬(k0_cond10 k0_t1 v288 v291 v299 = 1#1)), ∀ (hinb : ∀ a, (k0_off138 v359) a + S1x512x256.size a ≤ S1x8192x256.size a), (Rect.unit (s := S1x8192x256) (k0_off138 v359) S1x512x256.size hinb).PackedRows (EltTy.packing .bf16))
theorem k0_mult94_dvd : ∀ (k0_t1 : Fin k0_t1_loop.trips) (v288 : BitVec 32) (v291 : BitVec 32) (v299 : BitVec 32) (v359 : BitVec 32) (k0_hw58 : k0_chk58 k0_t1 v288 v291 v299 v359), ∀ (k0_h9 : k0_cond9 k0_t1 v288 v291 v299 = 1#1), ∀ (k0_h10 : ¬(k0_cond10 k0_t1 v288 v291 v299 = 1#1)), 512 ∣ (k0_mult94 v359).toNat := fun k0_t1 v288 v291 v299 v359 k0_hw58 k0_h9 k0_h10 => k0_hw58.1 k0_h9 k0_h10
theorem k0_off138_inb : ∀ (k0_t1 : Fin k0_t1_loop.trips) (v288 : BitVec 32) (v291 : BitVec 32) (v299 : BitVec 32) (v359 : BitVec 32) (k0_hw58 : k0_chk58 k0_t1 v288 v291 v299 v359), ∀ (k0_h9 : k0_cond9 k0_t1 v288 v291 v299 = 1#1), ∀ (k0_h10 : ¬(k0_cond10 k0_t1 v288 v291 v299 = 1#1)), ∀ a, (k0_off138 v359) a + S1x512x256.size a ≤ S1x8192x256.size a := fun k0_t1 v288 v291 v299 v359 k0_hw58 k0_h9 k0_h10 => k0_hw58.2.1 k0_h9 k0_h10
theorem k0_off138_packedbf16 : ∀ (k0_t1 : Fin k0_t1_loop.trips) (v288 : BitVec 32) (v291 : BitVec 32) (v299 : BitVec 32) (v359 : BitVec 32) (k0_hw58 : k0_chk58 k0_t1 v288 v291 v299 v359), ∀ (k0_h9 : k0_cond9 k0_t1 v288 v291 v299 = 1#1), ∀ (k0_h10 : ¬(k0_cond10 k0_t1 v288 v291 v299 = 1#1)), (Rect.unit (s := S1x8192x256) (k0_off138 v359) S1x512x256.size (k0_off138_inb k0_t1 v288 v291 v299 v359 k0_hw58 k0_h9 k0_h10)).PackedRows (EltTy.packing .bf16) := fun k0_t1 v288 v291 v299 v359 k0_hw58 k0_h9 k0_h10 => k0_hw58.2.2 k0_h9 k0_h10 (k0_off138_inb k0_t1 v288 v291 v299 v359 k0_hw58 k0_h9 k0_h10)

def k0_off139 (k0_t1 : Fin k0_t1_loop.trips) : Fin 1 → Nat :=
  let c2_i32_119 : BitVec 32 := 2#32
  let c0_i32_79 : BitVec 32 := 0#32
  let c1_i32_80 : BitVec 32 := 1#32
  let arg22 : BitVec 32 := Scf.iv c0_i32_79 c1_i32_80 k0_t1
  let v285 : BitVec 32 := Scalar.muli c2_i32_119 arg22
  let c1_i32_120 : BitVec 32 := 1#32
  let v286 : BitVec 32 := Scalar.addi v285 c1_i32_120
  let v421 : Index := Scalar.indexCast v286
  ![v421.toNat]
def k0_mult95 (v424 : BitVec 32) : BitVec 32 :=
  let c1024_i32_202 : BitVec 32 := 1024#32
  let v430 : BitVec 32 := Scalar.muli v424 c1024_i32_202
  v430

def k0_off140 (v424 : BitVec 32) : Fin 4 → Nat :=
  let c0_203 : Index := 0#32
  let c0_204 : Index := 0#32
  let c0_205 : Index := 0#32
  let c1024_i32_202 : BitVec 32 := 1024#32
  let v430 : BitVec 32 := Scalar.muli v424 c1024_i32_202
  let v431 : BitVec 32 := v430
  let v432 : Index := Scalar.indexCast v431
  ![0, 0, 0, v432.toNat]

def k0_chk59 (k0_t1 : Fin k0_t1_loop.trips) (v288 : BitVec 32) (v291 : BitVec 32) (v299 : BitVec 32) (v424 : BitVec 32) : Prop :=
  (∀ (k0_h9 : k0_cond9 k0_t1 v288 v291 v299 = 1#1), ∀ (k0_h10 : ¬(k0_cond10 k0_t1 v288 v291 v299 = 1#1)), 1024 ∣ (k0_mult95 v424).toNat) ∧
  (∀ (k0_h9 : k0_cond9 k0_t1 v288 v291 v299 = 1#1), ∀ (k0_h10 : ¬(k0_cond10 k0_t1 v288 v291 v299 = 1#1)), ∀ a, (k0_off140 v424) a + S1x1x272x1024.size a ≤ S1x1x272x8192.size a)
theorem k0_mult95_dvd : ∀ (k0_t1 : Fin k0_t1_loop.trips) (v288 : BitVec 32) (v291 : BitVec 32) (v299 : BitVec 32) (v424 : BitVec 32) (k0_hw59 : k0_chk59 k0_t1 v288 v291 v299 v424), ∀ (k0_h9 : k0_cond9 k0_t1 v288 v291 v299 = 1#1), ∀ (k0_h10 : ¬(k0_cond10 k0_t1 v288 v291 v299 = 1#1)), 1024 ∣ (k0_mult95 v424).toNat := fun k0_t1 v288 v291 v299 v424 k0_hw59 k0_h9 k0_h10 => k0_hw59.1 k0_h9 k0_h10
theorem k0_off140_inb : ∀ (k0_t1 : Fin k0_t1_loop.trips) (v288 : BitVec 32) (v291 : BitVec 32) (v299 : BitVec 32) (v424 : BitVec 32) (k0_hw59 : k0_chk59 k0_t1 v288 v291 v299 v424), ∀ (k0_h9 : k0_cond9 k0_t1 v288 v291 v299 = 1#1), ∀ (k0_h10 : ¬(k0_cond10 k0_t1 v288 v291 v299 = 1#1)), ∀ a, (k0_off140 v424) a + S1x1x272x1024.size a ≤ S1x1x272x8192.size a := fun k0_t1 v288 v291 v299 v424 k0_hw59 k0_h9 k0_h10 => k0_hw59.2 k0_h9 k0_h10

def k0_off141 (k0_t1 : Fin k0_t1_loop.trips) : Fin 1 → Nat :=
  let c2_i32_119 : BitVec 32 := 2#32
  let c0_i32_79 : BitVec 32 := 0#32
  let c1_i32_80 : BitVec 32 := 1#32
  let arg22 : BitVec 32 := Scf.iv c0_i32_79 c1_i32_80 k0_t1
  let v285 : BitVec 32 := Scalar.muli c2_i32_119 arg22
  let c1_i32_120 : BitVec 32 := 1#32
  let v286 : BitVec 32 := Scalar.addi v285 c1_i32_120
  let c1_i32_132 : BitVec 32 := 1#32
  let v305 : BitVec 32 := Scalar.addi v286 c1_i32_132
  let v306 : Index := Scalar.indexCast v305
  ![v306.toNat]
def k0_mult96 (v309 : BitVec 32) : BitVec 32 :=
  let c1024_i32_133 : BitVec 32 := 1024#32
  let v310 : BitVec 32 := Scalar.muli v309 c1024_i32_133
  v310

def k0_off142 (v309 : BitVec 32) : Fin 3 → Nat :=
  let c0_134 : Index := 0#32
  let c1024_i32_133 : BitVec 32 := 1024#32
  let v310 : BitVec 32 := Scalar.muli v309 c1024_i32_133
  let v311 : BitVec 32 := v310
  let v312 : Index := Scalar.indexCast v311
  let c0_135 : Index := 0#32
  ![0, v312.toNat, 0]
def k0_mult97 (v307 : BitVec 32) : BitVec 32 :=
  let c512_i32_138 : BitVec 32 := 512#32
  let v317 : BitVec 32 := Scalar.muli v307 c512_i32_138
  v317

def k0_off143 (v307 : BitVec 32) : Fin 3 → Nat :=
  let c0_139 : Index := 0#32
  let c512_i32_138 : BitVec 32 := 512#32
  let v317 : BitVec 32 := Scalar.muli v307 c512_i32_138
  let v318 : BitVec 32 := v317
  let v319 : Index := Scalar.indexCast v318
  let c0_140 : Index := 0#32
  ![0, v319.toNat, 0]
def k0_mult98 (v309 : BitVec 32) : BitVec 32 :=
  let c1024_i32_151 : BitVec 32 := 1024#32
  let v333 : BitVec 32 := Scalar.muli v309 c1024_i32_151
  v333
def k0_off144 (v309 : BitVec 32) : Fin 3 → Nat :=
  let c0_152 : Index := 0#32
  let c1024_i32_151 : BitVec 32 := 1024#32
  let v333 : BitVec 32 := Scalar.muli v309 c1024_i32_151
  let v334 : BitVec 32 := v333
  let v335 : Index := Scalar.indexCast v334
  let c128_153 : Index := 128#32
  ![0, v335.toNat, 128]

def k0_chk60 (k0_t1 : Fin k0_t1_loop.trips) (v288 : BitVec 32) (v291 : BitVec 32) (v299 : BitVec 32) (v309 : BitVec 32) : Prop :=
  (∀ (k0_h9 : ¬(k0_cond9 k0_t1 v288 v291 v299 = 1#1)), 1024 ∣ (k0_mult96 v309).toNat) ∧
  (∀ (k0_h9 : ¬(k0_cond9 k0_t1 v288 v291 v299 = 1#1)), ∀ a, (k0_off142 v309) a + S1x1024x128.size a ≤ S1x8192x256.size a) ∧
  (∀ (k0_h9 : ¬(k0_cond9 k0_t1 v288 v291 v299 = 1#1)), 1024 ∣ (k0_mult98 v309).toNat) ∧
  (∀ (k0_h9 : ¬(k0_cond9 k0_t1 v288 v291 v299 = 1#1)), ∀ a, (k0_off144 v309) a + S1x1024x128.size a ≤ S1x8192x256.size a)
theorem k0_mult96_dvd : ∀ (k0_t1 : Fin k0_t1_loop.trips) (v288 : BitVec 32) (v291 : BitVec 32) (v299 : BitVec 32) (v309 : BitVec 32) (k0_hw60 : k0_chk60 k0_t1 v288 v291 v299 v309), ∀ (k0_h9 : ¬(k0_cond9 k0_t1 v288 v291 v299 = 1#1)), 1024 ∣ (k0_mult96 v309).toNat := fun k0_t1 v288 v291 v299 v309 k0_hw60 k0_h9 => k0_hw60.1 k0_h9
theorem k0_off142_inb : ∀ (k0_t1 : Fin k0_t1_loop.trips) (v288 : BitVec 32) (v291 : BitVec 32) (v299 : BitVec 32) (v309 : BitVec 32) (k0_hw60 : k0_chk60 k0_t1 v288 v291 v299 v309), ∀ (k0_h9 : ¬(k0_cond9 k0_t1 v288 v291 v299 = 1#1)), ∀ a, (k0_off142 v309) a + S1x1024x128.size a ≤ S1x8192x256.size a := fun k0_t1 v288 v291 v299 v309 k0_hw60 k0_h9 => k0_hw60.2.1 k0_h9
theorem k0_mult98_dvd : ∀ (k0_t1 : Fin k0_t1_loop.trips) (v288 : BitVec 32) (v291 : BitVec 32) (v299 : BitVec 32) (v309 : BitVec 32) (k0_hw60 : k0_chk60 k0_t1 v288 v291 v299 v309), ∀ (k0_h9 : ¬(k0_cond9 k0_t1 v288 v291 v299 = 1#1)), 1024 ∣ (k0_mult98 v309).toNat := fun k0_t1 v288 v291 v299 v309 k0_hw60 k0_h9 => k0_hw60.2.2.1 k0_h9
theorem k0_off144_inb : ∀ (k0_t1 : Fin k0_t1_loop.trips) (v288 : BitVec 32) (v291 : BitVec 32) (v299 : BitVec 32) (v309 : BitVec 32) (k0_hw60 : k0_chk60 k0_t1 v288 v291 v299 v309), ∀ (k0_h9 : ¬(k0_cond9 k0_t1 v288 v291 v299 = 1#1)), ∀ a, (k0_off144 v309) a + S1x1024x128.size a ≤ S1x8192x256.size a := fun k0_t1 v288 v291 v299 v309 k0_hw60 k0_h9 => k0_hw60.2.2.2 k0_h9

def k0_mult99 (v307 : BitVec 32) : BitVec 32 :=
  let c512_i32_156 : BitVec 32 := 512#32
  let v340 : BitVec 32 := Scalar.muli v307 c512_i32_156
  v340
def k0_off145 (v307 : BitVec 32) : Fin 3 → Nat :=
  let c0_157 : Index := 0#32
  let c512_i32_156 : BitVec 32 := 512#32
  let v340 : BitVec 32 := Scalar.muli v307 c512_i32_156
  let v341 : BitVec 32 := v340
  let v342 : Index := Scalar.indexCast v341
  let c128_158 : Index := 128#32
  ![0, v342.toNat, 128]

def k0_chk61 (k0_t1 : Fin k0_t1_loop.trips) (v288 : BitVec 32) (v291 : BitVec 32) (v299 : BitVec 32) (v307 : BitVec 32) : Prop :=
  (∀ (k0_h9 : ¬(k0_cond9 k0_t1 v288 v291 v299 = 1#1)), 512 ∣ (k0_mult97 v307).toNat) ∧
  (∀ (k0_h9 : ¬(k0_cond9 k0_t1 v288 v291 v299 = 1#1)), ∀ a, (k0_off143 v307) a + S1x512x128.size a ≤ S1x8192x256.size a) ∧
  (∀ (k0_h9 : ¬(k0_cond9 k0_t1 v288 v291 v299 = 1#1)), 512 ∣ (k0_mult99 v307).toNat) ∧
  (∀ (k0_h9 : ¬(k0_cond9 k0_t1 v288 v291 v299 = 1#1)), ∀ a, (k0_off145 v307) a + S1x512x128.size a ≤ S1x8192x256.size a)
theorem k0_mult97_dvd : ∀ (k0_t1 : Fin k0_t1_loop.trips) (v288 : BitVec 32) (v291 : BitVec 32) (v299 : BitVec 32) (v307 : BitVec 32) (k0_hw61 : k0_chk61 k0_t1 v288 v291 v299 v307), ∀ (k0_h9 : ¬(k0_cond9 k0_t1 v288 v291 v299 = 1#1)), 512 ∣ (k0_mult97 v307).toNat := fun k0_t1 v288 v291 v299 v307 k0_hw61 k0_h9 => k0_hw61.1 k0_h9
theorem k0_off143_inb : ∀ (k0_t1 : Fin k0_t1_loop.trips) (v288 : BitVec 32) (v291 : BitVec 32) (v299 : BitVec 32) (v307 : BitVec 32) (k0_hw61 : k0_chk61 k0_t1 v288 v291 v299 v307), ∀ (k0_h9 : ¬(k0_cond9 k0_t1 v288 v291 v299 = 1#1)), ∀ a, (k0_off143 v307) a + S1x512x128.size a ≤ S1x8192x256.size a := fun k0_t1 v288 v291 v299 v307 k0_hw61 k0_h9 => k0_hw61.2.1 k0_h9
theorem k0_mult99_dvd : ∀ (k0_t1 : Fin k0_t1_loop.trips) (v288 : BitVec 32) (v291 : BitVec 32) (v299 : BitVec 32) (v307 : BitVec 32) (k0_hw61 : k0_chk61 k0_t1 v288 v291 v299 v307), ∀ (k0_h9 : ¬(k0_cond9 k0_t1 v288 v291 v299 = 1#1)), 512 ∣ (k0_mult99 v307).toNat := fun k0_t1 v288 v291 v299 v307 k0_hw61 k0_h9 => k0_hw61.2.2.1 k0_h9
theorem k0_off145_inb : ∀ (k0_t1 : Fin k0_t1_loop.trips) (v288 : BitVec 32) (v291 : BitVec 32) (v299 : BitVec 32) (v307 : BitVec 32) (k0_hw61 : k0_chk61 k0_t1 v288 v291 v299 v307), ∀ (k0_h9 : ¬(k0_cond9 k0_t1 v288 v291 v299 = 1#1)), ∀ a, (k0_off145 v307) a + S1x512x128.size a ≤ S1x8192x256.size a := fun k0_t1 v288 v291 v299 v307 k0_hw61 k0_h9 => k0_hw61.2.2.2 k0_h9

def k0_off146 (k0_t1 : Fin k0_t1_loop.trips) : Fin 1 → Nat :=
  let c2_i32_119 : BitVec 32 := 2#32
  let c0_i32_79 : BitVec 32 := 0#32
  let c1_i32_80 : BitVec 32 := 1#32
  let arg22 : BitVec 32 := Scf.iv c0_i32_79 c1_i32_80 k0_t1
  let v285 : BitVec 32 := Scalar.muli c2_i32_119 arg22
  let c1_i32_120 : BitVec 32 := 1#32
  let v286 : BitVec 32 := Scalar.addi v285 c1_i32_120
  let v356 : Index := Scalar.indexCast v286
  ![v356.toNat]
def k0_mult100 (v359 : BitVec 32) : BitVec 32 :=
  let c1024_i32_171 : BitVec 32 := 1024#32
  let v365 : BitVec 32 := Scalar.muli v359 c1024_i32_171
  v365

def k0_off147 (v359 : BitVec 32) : Fin 4 → Nat :=
  let c0_172 : Index := 0#32
  let c0_173 : Index := 0#32
  let c0_174 : Index := 0#32
  let c1024_i32_171 : BitVec 32 := 1024#32
  let v365 : BitVec 32 := Scalar.muli v359 c1024_i32_171
  let v366 : BitVec 32 := v365
  let v367 : Index := Scalar.indexCast v366
  ![0, 0, 0, v367.toNat]

def k0_chk62 (k0_t1 : Fin k0_t1_loop.trips) (v288 : BitVec 32) (v291 : BitVec 32) (v299 : BitVec 32) (v359 : BitVec 32) : Prop :=
  (∀ (k0_h9 : ¬(k0_cond9 k0_t1 v288 v291 v299 = 1#1)), 1024 ∣ (k0_mult100 v359).toNat) ∧
  (∀ (k0_h9 : ¬(k0_cond9 k0_t1 v288 v291 v299 = 1#1)), ∀ a, (k0_off147 v359) a + S1x1x272x1024.size a ≤ S1x1x272x8192.size a)
theorem k0_mult100_dvd : ∀ (k0_t1 : Fin k0_t1_loop.trips) (v288 : BitVec 32) (v291 : BitVec 32) (v299 : BitVec 32) (v359 : BitVec 32) (k0_hw62 : k0_chk62 k0_t1 v288 v291 v299 v359), ∀ (k0_h9 : ¬(k0_cond9 k0_t1 v288 v291 v299 = 1#1)), 1024 ∣ (k0_mult100 v359).toNat := fun k0_t1 v288 v291 v299 v359 k0_hw62 k0_h9 => k0_hw62.1 k0_h9
theorem k0_off147_inb : ∀ (k0_t1 : Fin k0_t1_loop.trips) (v288 : BitVec 32) (v291 : BitVec 32) (v299 : BitVec 32) (v359 : BitVec 32) (k0_hw62 : k0_chk62 k0_t1 v288 v291 v299 v359), ∀ (k0_h9 : ¬(k0_cond9 k0_t1 v288 v291 v299 = 1#1)), ∀ a, (k0_off147 v359) a + S1x1x272x1024.size a ≤ S1x1x272x8192.size a := fun k0_t1 v288 v291 v299 v359 k0_hw62 k0_h9 => k0_hw62.2 k0_h9

def k0_mult101 (v205 : BitVec 32) : BitVec 32 :=
  let c512_i32_106 : BitVec 32 := 512#32
  let v260 : BitVec 32 := Scalar.muli v205 c512_i32_106
  v260

def k0_off148 (v205 : BitVec 32) : Fin 3 → Nat :=
  let c0_107 : Index := 0#32
  let c512_i32_106 : BitVec 32 := 512#32
  let v260 : BitVec 32 := Scalar.muli v205 c512_i32_106
  let v261 : BitVec 32 := v260
  let v262 : Index := Scalar.indexCast v261
  let c0_108 : Index := 0#32
  ![0, v262.toNat, 0]

def k0_chk63 (v205 : BitVec 32) : Prop :=
  (512 ∣ (k0_mult101 v205).toNat) ∧
  (∀ a, (k0_off148 v205) a + S1x512x256.size a ≤ S1x8192x256.size a) ∧
  (∀ (hinb : ∀ a, (k0_off148 v205) a + S1x512x256.size a ≤ S1x8192x256.size a), (Rect.unit (s := S1x8192x256) (k0_off148 v205) S1x512x256.size hinb).PackedRows (EltTy.packing .bf16))
theorem k0_mult101_dvd : ∀ (v205 : BitVec 32) (k0_hw63 : k0_chk63 v205), 512 ∣ (k0_mult101 v205).toNat := fun v205 k0_hw63 => k0_hw63.1
theorem k0_off148_inb : ∀ (v205 : BitVec 32) (k0_hw63 : k0_chk63 v205), ∀ a, (k0_off148 v205) a + S1x512x256.size a ≤ S1x8192x256.size a := fun v205 k0_hw63 => k0_hw63.2.1
theorem k0_off148_packedbf16 : ∀ (v205 : BitVec 32) (k0_hw63 : k0_chk63 v205), (Rect.unit (s := S1x8192x256) (k0_off148 v205) S1x512x256.size (k0_off148_inb v205 k0_hw63)).PackedRows (EltTy.packing .bf16) := fun v205 k0_hw63 => k0_hw63.2.2 (k0_off148_inb v205 k0_hw63)

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x272x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x8192x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S4x8192x8x2x128 : Shape := ⟨5, ![4, 8192, 8, 2, 128]⟩
abbrev S4x8192x8x256 : Shape := ⟨4, ![4, 8192, 8, 256]⟩
abbrev S128 : Shape := ⟨1, ![128]⟩
abbrev S256 : Shape := ⟨1, ![256]⟩
abbrev S_ : Shape := ⟨0, ![]⟩
abbrev S8192 : Shape := ⟨1, ![8192]⟩
abbrev S4x8x2x8192x8192 : Shape := ⟨5, ![4, 8, 2, 8192, 8192]⟩
abbrev S8192x1 : Shape := ⟨2, ![8192, 1]⟩
abbrev S1x8192 : Shape := ⟨2, ![1, 8192]⟩
abbrev S8192x8192 : Shape := ⟨2, ![8192, 8192]⟩
abbrev S8 : Shape := ⟨1, ![8]⟩
abbrev S8x1x1 : Shape := ⟨3, ![8, 1, 1]⟩
abbrev S1x8192x8192 : Shape := ⟨3, ![1, 8192, 8192]⟩
abbrev S8x8192x8192 : Shape := ⟨3, ![8, 8192, 8192]⟩
abbrev S1x8x1x8192x8192 : Shape := ⟨5, ![1, 8, 1, 8192, 8192]⟩
abbrev S4x8x2x8192 : Shape := ⟨4, ![4, 8, 2, 8192]⟩
abbrev S4x8x2x8192x1 : Shape := ⟨5, ![4, 8, 2, 8192, 1]⟩
abbrev S4x8x1x8192x8192 : Shape := ⟨5, ![4, 8, 1, 8192, 8192]⟩
abbrev S4x8x8192x8192 : Shape := ⟨4, ![4, 8, 8192, 8192]⟩
abbrev S4x8x256x8192 : Shape := ⟨4, ![4, 8, 256, 8192]⟩
abbrev S4x8192x8 : Shape := ⟨3, ![4, 8192, 8]⟩
abbrev S4x8192x8x1 : Shape := ⟨4, ![4, 8192, 8, 1]⟩
abbrev S1x1x1x256 : Shape := ⟨4, ![1, 1, 1, 256]⟩
abbrev S4x8192x2048 : Shape := ⟨3, ![4, 8192, 2048]⟩

abbrev nBuf : Space → Nat
  | .hbm => 144
  | .vmem => 0
  | .smem => 0
  | _ => 0

abbrev hbmTy0_0 (i : Nat) : BufTy := match i % 128 with
  | 0 => ⟨S4x8192x8x2x128, .f32⟩
  | 1 => ⟨S4x8192x8x2x128, .f32⟩
  | 2 => ⟨S4x8192x8x256, .f32⟩
  | 3 => ⟨S128, .f32⟩
  | 4 => ⟨S128, .f32⟩
  | 5 => ⟨S128, .f32⟩
  | 6 => ⟨S128, .f32⟩
  | 7 => ⟨S256, .f32⟩
  | 8 => ⟨S_, .f32⟩
  | 9 => ⟨S4x8192x8x2x128, .f32⟩
  | 10 => ⟨S4x8192x8x2x128, .f32⟩
  | 11 => ⟨S128, .f32⟩
  | 12 => ⟨S_, .f32⟩
  | 13 => ⟨S_, .f32⟩
  | 14 => ⟨S_, .f32⟩
  | 15 => ⟨S128, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S8192, .i32⟩
  | 23 => ⟨S8192, .i32⟩
  | 24 => ⟨S4x8x2x8192x8192, .f32⟩
  | 25 => ⟨S8192x1, .i32⟩
  | 26 => ⟨S1x8192, .i32⟩
  | 27 => ⟨S8192x8192, .i32⟩
  | 28 => ⟨S8192x8192, .i32⟩
  | 29 => ⟨S8192x8192, .i32⟩
  | 30 => ⟨S8192x8192, .i32⟩
  | 31 => ⟨S8192x8192, .f32⟩
  | 32 => ⟨S8, .f32⟩
  | 33 => ⟨S_, .f32⟩
  | 34 => ⟨S8, .f32⟩
  | 35 => ⟨S8, .f32⟩
  | 36 => ⟨S_, .f32⟩
  | 37 => ⟨S8, .f32⟩
  | 38 => ⟨S8, .f32⟩
  | 39 => ⟨S_, .f32⟩
  | 40 => ⟨S8, .f32⟩
  | 41 => ⟨S8, .f32⟩
  | 42 => ⟨S_, .f32⟩
  | 43 => ⟨S8, .f32⟩
  | 44 => ⟨S8, .f32⟩
  | 45 => ⟨S8x1x1, .f32⟩
  | 46 => ⟨S8x1x1, .f32⟩
  | 47 => ⟨S1x8192x8192, .f32⟩
  | 48 => ⟨S8x8192x8192, .f32⟩
  | 49 => ⟨S8x8192x8192, .f32⟩
  | 50 => ⟨S8x8192x8192, .f32⟩
  | 51 => ⟨S1x8192, .i32⟩
  | 52 => ⟨S_, .i32⟩
  | 53 => ⟨S_, .i32⟩
  | 54 => ⟨S1x8192, .i32⟩
  | 55 => ⟨S1x8192, .i32⟩
  | 56 => ⟨S1x8192, .i32⟩
  | 57 => ⟨S_, .i32⟩
  | 58 => ⟨S1x8192, .i32⟩
  | 59 => ⟨S1x8192, .i1⟩
  | 60 => ⟨S1x8192, .i32⟩
  | 61 => ⟨S1x8192, .i32⟩
  | 62 => ⟨S_, .i32⟩
  | 63 => ⟨S1x8192, .i32⟩
  | 64 => ⟨S1x8192, .i1⟩
  | 65 => ⟨S1x8192, .i1⟩
  | 66 => ⟨S_, .i32⟩
  | 67 => ⟨S1x8192, .i32⟩
  | 68 => ⟨S1x8192, .i32⟩
  | 69 => ⟨S1x8192, .i32⟩
  | 70 => ⟨S8192x1, .i32⟩
  | 71 => ⟨S_, .i32⟩
  | 72 => ⟨S_, .i32⟩
  | 73 => ⟨S8192x1, .i32⟩
  | 74 => ⟨S8192x1, .i32⟩
  | 75 => ⟨S8192x1, .i32⟩
  | 76 => ⟨S_, .i32⟩
  | 77 => ⟨S8192x1, .i32⟩
  | 78 => ⟨S8192x1, .i1⟩
  | 79 => ⟨S8192x1, .i32⟩
  | 80 => ⟨S8192x1, .i32⟩
  | 81 => ⟨S_, .i32⟩
  | 82 => ⟨S8192x1, .i32⟩
  | 83 => ⟨S8192x1, .i1⟩
  | 84 => ⟨S8192x1, .i1⟩
  | 85 => ⟨S_, .i32⟩
  | 86 => ⟨S8192x1, .i32⟩
  | 87 => ⟨S8192x1, .i32⟩
  | 88 => ⟨S8192x1, .i32⟩
  | 89 => ⟨S8192x8192, .i32⟩
  | 90 => ⟨S8192x8192, .i32⟩
  | 91 => ⟨S8192x8192, .i1⟩
  | 92 => ⟨S1x8x1x8192x8192, .f32⟩
  | 93 => ⟨S4x8x2x8192x8192, .f32⟩
  | 94 => ⟨S4x8x2x8192x8192, .f32⟩
  | 95 => ⟨S_, .f32⟩
  | 96 => ⟨S_, .f32⟩
  | 97 => ⟨S4x8x2x8192x8192, .i1⟩
  | 98 => ⟨S4x8x2x8192x8192, .f32⟩
  | 99 => ⟨S4x8x2x8192x8192, .f32⟩
  | 100 => ⟨S_, .f32⟩
  | 101 => ⟨S4x8x2x8192, .f32⟩
  | 102 => ⟨S_, .f32⟩
  | 103 => ⟨S4x8x2x8192, .f32⟩
  | 104 => ⟨S4x8x2x8192, .f32⟩
  | 105 => ⟨S4x8x2x8192x1, .f32⟩
  | 106 => ⟨S4x8x2x8192x8192, .f32⟩
  | 107 => ⟨S4x8x2x8192x8192, .f32⟩
  | 108 => ⟨S4x8x2x8192x8192, .f32⟩
  | 109 => ⟨S_, .f32⟩
  | 110 => ⟨S4x8x2x8192, .f32⟩
  | 111 => ⟨S4x8x2x8192x1, .f32⟩
  | 112 => ⟨S4x8x2x8192x8192, .f32⟩
  | 113 => ⟨S4x8x2x8192x8192, .f32⟩
  | 114 => ⟨S4x8x1x8192x8192, .f32⟩
  | 115 => ⟨S4x8x8192x8192, .f32⟩
  | 116 => ⟨S4x8x1x8192x8192, .f32⟩
  | 117 => ⟨S4x8x8192x8192, .f32⟩
  | 118 => ⟨S4x8x8192x8192, .f32⟩
  | 119 => ⟨S4x8x8192x8192, .f32⟩
  | 120 => ⟨S4x8x8192x8192, .f32⟩
  | 121 => ⟨S4x8x256x8192, .f32⟩
  | 122 => ⟨S4x8192x8x256, .f32⟩
  | 123 => ⟨S4x8192x8x256, .f32⟩
  | 124 => ⟨S_, .f32⟩
  | 125 => ⟨S4x8192x8, .f32⟩
  | 126 => ⟨S4x8192x8x1, .f32⟩
  | 127 => ⟨S_, .f32⟩
  | _ => ⟨S4x8192x8x2x128, .f32⟩

abbrev hbmTy0_1 (i : Nat) : BufTy := match i % 128 with
  | 0 => ⟨S4x8192x8x1, .f32⟩
  | 1 => ⟨S4x8192x8x1, .f32⟩
  | 2 => ⟨S_, .f32⟩
  | 3 => ⟨S4x8192x8x1, .f32⟩
  | 4 => ⟨S4x8192x8x1, .f32⟩
  | 5 => ⟨S4x8192x8x1, .f32⟩
  | 6 => ⟨S4x8192x8x256, .f32⟩
  | 7 => ⟨S4x8192x8x256, .f32⟩
  | 8 => ⟨S1x1x1x256, .f32⟩
  | 9 => ⟨S4x8192x8x256, .f32⟩
  | 10 => ⟨S4x8192x8x256, .f32⟩
  | 11 => ⟨S_, .f32⟩
  | 12 => ⟨S4x8192x8x256, .f32⟩
  | 13 => ⟨S4x8192x8x256, .f32⟩
  | 14 => ⟨S4x8192x2048, .f32⟩
  | 15 => ⟨S4x8192x2048, .bf16⟩
  | _ => ⟨S4x8192x8x2x128, .f32⟩

abbrev hbmTy (i : Nat) : BufTy := match i / 128 with
  | 0 => hbmTy0_0 i
  | 1 => hbmTy0_1 i
  | _ => ⟨S4x8192x8x2x128, .f32⟩

abbrev bufTy : (tb : Table) → Fin (tcTables nBuf tb) → BufTy
  | .hbm, ⟨i, _⟩ => hbmTy i
  | _, _ => ⟨S4x8192x8x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_v5 : Ref sig .tc := ⟨.hbm, 58, rfl⟩
abbrev main_call0_v6 : Ref sig .tc := ⟨.hbm, 59, rfl⟩
abbrev main_call0_v7 : Ref sig .tc := ⟨.hbm, 60, rfl⟩
abbrev main_call0_v8 : Ref sig .tc := ⟨.hbm, 61, rfl⟩
abbrev main_call0_c : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_call0_c_0 : Ref sig .tc := ⟨.hbm, 66, rfl⟩
abbrev main_call0_v12 : Ref sig .tc := ⟨.hbm, 67, rfl⟩
abbrev main_call0_v13 : Ref sig .tc := ⟨.hbm, 68, rfl⟩
abbrev main_v36 : Ref sig .tc := ⟨.hbm, 69, rfl⟩
abbrev main_v37 : Ref sig .tc := ⟨.hbm, 70, rfl⟩
abbrev main_c_7 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_call1_v5 : Ref sig .tc := ⟨.hbm, 77, rfl⟩
abbrev main_call1_v6 : Ref sig .tc := ⟨.hbm, 78, rfl⟩
abbrev main_call1_v7 : Ref sig .tc := ⟨.hbm, 79, rfl⟩
abbrev main_call1_v8 : Ref sig .tc := ⟨.hbm, 80, rfl⟩
abbrev main_call1_c : Ref sig .tc := ⟨.hbm, 81, rfl⟩
abbrev main_call1_v9 : Ref sig .tc := ⟨.hbm, 82, rfl⟩
abbrev main_call1_v10 : Ref sig .tc := ⟨.hbm, 83, rfl⟩
abbrev main_call1_v11 : Ref sig .tc := ⟨.hbm, 84, rfl⟩
abbrev main_call1_c_0 : Ref sig .tc := ⟨.hbm, 85, rfl⟩
abbrev main_call1_v12 : Ref sig .tc := ⟨.hbm, 86, rfl⟩
abbrev main_call1_v13 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_cst_8 : Ref sig .tc := ⟨.hbm, 95, rfl⟩
abbrev main_call2_v0 : Ref sig .tc := ⟨.hbm, 96, rfl⟩
abbrev main_call2_v1 : Ref sig .tc := ⟨.hbm, 97, rfl⟩
abbrev main_call2_v2 : Ref sig .tc := ⟨.hbm, 98, rfl⟩
abbrev main_v45 : Ref sig .tc := ⟨.hbm, 99, rfl⟩
abbrev main_cst_9 : Ref sig .tc := ⟨.hbm, 100, rfl⟩
abbrev main_v46 : Ref sig .tc := ⟨.hbm, 101, rfl⟩
abbrev main_cst_10 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_cst_11 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_cst_12 : Ref sig .tc := ⟨.hbm, 124, rfl⟩
abbrev main_v67 : Ref sig .tc := ⟨.hbm, 125, rfl⟩
abbrev main_v68 : Ref sig .tc := ⟨.hbm, 126, rfl⟩
abbrev main_cst_13 : Ref sig .tc := ⟨.hbm, 127, rfl⟩
abbrev main_v69 : Ref sig .tc := ⟨.hbm, 128, rfl⟩
abbrev main_v70 : Ref sig .tc := ⟨.hbm, 129, rfl⟩
abbrev main_cst_14 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_cst_15 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩

abbrev nD : Nat := 1
abbrev τ : Topo := Topo.v7x

variable {F : FTy → Type} [FloatOps F]
-- ==== Hidden.lean ====
abbrev S4x8192x2048 : Shape := ⟨3, ![4, 8192, 2048]⟩
abbrev S2048x5632 : Shape := ⟨2, ![2048, 5632]⟩
abbrev S32768x2048 : Shape := ⟨2, ![32768, 2048]⟩
abbrev S32768x5632 : Shape := ⟨2, ![32768, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 8
  | .vmem => 8
  | .smem => 0
  | _ => 0

abbrev bufTy : (tb : Table) → Fin (tcTables nBuf tb) → BufTy
  | .hbm, ⟨0, _⟩ => ⟨S4x8192x2048, .f32⟩
  | .hbm, ⟨1, _⟩ => ⟨S2048x5632, .f32⟩
  | .hbm, ⟨2, _⟩ => ⟨S2048x5632, .f32⟩
  | .hbm, ⟨3, _⟩ => ⟨S4x8192x2048, .bf16⟩
  | .hbm, ⟨4, _⟩ => ⟨S32768x2048, .bf16⟩
  | .hbm, ⟨5, _⟩ => ⟨S2048x5632, .bf16⟩
  | .hbm, ⟨6, _⟩ => ⟨S2048x5632, .bf16⟩
  | .hbm, ⟨7, _⟩ => ⟨S32768x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .bf16⟩
  | .local _ .vmem, ⟨7, _⟩ => ⟨S1024x512, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== HiddenReferenceIdeal.lean ====
abbrev S4x8192x2048 : Shape := ⟨3, ![4, 8192, 2048]⟩
abbrev S2048x5632 : Shape := ⟨2, ![2048, 5632]⟩
abbrev S4x8192x5632 : Shape := ⟨3, ![4, 8192, 5632]⟩
abbrev S_ : Shape := ⟨0, ![]⟩
abbrev S32768x5632 : Shape := ⟨2, ![32768, 5632]⟩

abbrev nBuf : Space → Nat
  | .hbm => 17
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2048x5632, .f32⟩
  | .hbm, ⟨2, _⟩ => ⟨S2048x5632, .f32⟩
  | .hbm, ⟨3, _⟩ => ⟨S4x8192x5632, .f32⟩
  | .hbm, ⟨4, _⟩ => ⟨S4x8192x5632, .f32⟩
  | .hbm, ⟨5, _⟩ => ⟨S4x8192x5632, .f32⟩
  | .hbm, ⟨6, _⟩ => ⟨S_, .f32⟩
  | .hbm, ⟨7, _⟩ => ⟨S4x8192x5632, .f32⟩
  | .hbm, ⟨8, _⟩ => ⟨S4x8192x5632, .f32⟩
  | .hbm, ⟨9, _⟩ => ⟨S_, .f32⟩
  | .hbm, ⟨10, _⟩ => ⟨S4x8192x5632, .f32⟩
  | .hbm, ⟨11, _⟩ => ⟨S4x8192x5632, .f32⟩
  | .hbm, ⟨12, _⟩ => ⟨S4x8192x5632, .f32⟩
  | .hbm, ⟨13, _⟩ => ⟨S4x8192x5632, .f32⟩
  | .hbm, ⟨14, _⟩ => ⟨S4x8192x5632, .f32⟩
  | .hbm, ⟨15, _⟩ => ⟨S32768x5632, .f32⟩
  | .hbm, ⟨16, _⟩ => ⟨S32768x5632, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Down.lean ====
abbrev S4x8192x5632 : Shape := ⟨3, ![4, 8192, 5632]⟩
abbrev S5632x2048 : Shape := ⟨2, ![5632, 2048]⟩
abbrev S4x8192x2048 : Shape := ⟨3, ![4, 8192, 2048]⟩
abbrev S2048 : Shape := ⟨1, ![2048]⟩
abbrev S32768x5632 : Shape := ⟨2, ![32768, 5632]⟩
abbrev S32768x2048 : Shape := ⟨2, ![32768, 2048]⟩
abbrev S1x2048 : Shape := ⟨2, ![1, 2048]⟩
abbrev S1024x512 : Shape := ⟨2, ![1024, 512]⟩
abbrev S512x2048 : Shape := ⟨2, ![512, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 10
  | .vmem => 9
  | .smem => 0
  | _ => 0

abbrev bufTy : (tb : Table) → Fin (tcTables nBuf tb) → BufTy
  | .hbm, ⟨0, _⟩ => ⟨S4x8192x5632, .f32⟩
  | .hbm, ⟨1, _⟩ => ⟨S5632x2048, .f32⟩
  | .hbm, ⟨2, _⟩ => ⟨S4x8192x2048, .f32⟩
  | .hbm, ⟨3, _⟩ => ⟨S2048, .f32⟩
  | .hbm, ⟨4, _⟩ => ⟨S4x8192x5632, .bf16⟩
  | .hbm, ⟨5, _⟩ => ⟨S32768x5632, .bf16⟩
  | .hbm, ⟨6, _⟩ => ⟨S5632x2048, .bf16⟩
  | .hbm, ⟨7, _⟩ => ⟨S32768x2048, .f32⟩
  | .hbm, ⟨8, _⟩ => ⟨S1x2048, .f32⟩
  | .hbm, ⟨9, _⟩ => ⟨S32768x2048, .f32⟩
  | .local _ .vmem, ⟨0, _⟩ => ⟨S1024x512, .bf16⟩
  | .local _ .vmem, ⟨1, _⟩ => ⟨S1024x512, .bf16⟩
  | .local _ .vmem, ⟨2, _⟩ => ⟨S512x2048, .bf16⟩
  | .local _ .vmem, ⟨3, _⟩ => ⟨S512x2048, .bf16⟩
  | .local _ .vmem, ⟨4, _⟩ => ⟨S1024x2048, .f32⟩
  | .local _ .vmem, ⟨5, _⟩ => ⟨S1024x2048, .f32⟩
  | .local _ .vmem, ⟨6, _⟩ => ⟨S1x2048, .f32⟩
  | .local _ .vmem, ⟨7, _⟩ => ⟨S1024x2048, .f32⟩
  | .local _ .vmem, ⟨8, _⟩ => ⟨S1024x2048, .f32⟩
  | _, _ => ⟨S4x8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c10_i32 : BitVec 32 := 10#32
  let v4 : BitVec 1 := Scalar.cmpi .slt arg1 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== DownReferenceIdeal.lean ====
abbrev S4x8192x5632 : Shape := ⟨3, ![4, 8192, 5632]⟩
abbrev S5632x2048 : Shape := ⟨2, ![5632, 2048]⟩
abbrev S4x8192x2048 : Shape := ⟨3, ![4, 8192, 2048]⟩
abbrev S2048 : Shape := ⟨1, ![2048]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩
abbrev S32768x2048 : Shape := ⟨2, ![32768, 2048]⟩

abbrev nBuf : Space → Nat
  | .hbm => 23
  | .vmem => 0
  | .smem => 0
  | _ => 0

abbrev bufTy : (tb : Table) → Fin (tcTables nBuf tb) → BufTy
  | .hbm, ⟨0, _⟩ => ⟨S4x8192x5632, .f32⟩
  | .hbm, ⟨1, _⟩ => ⟨S5632x2048, .f32⟩
  | .hbm, ⟨2, _⟩ => ⟨S4x8192x2048, .f32⟩
  | .hbm, ⟨3, _⟩ => ⟨S2048, .f32⟩
  | .hbm, ⟨4, _⟩ => ⟨S4x8192x2048, .f32⟩
  | .hbm, ⟨5, _⟩ => ⟨S4x8192x2048, .f32⟩
  | .hbm, ⟨6, _⟩ => ⟨S_, .f32⟩
  | .hbm, ⟨7, _⟩ => ⟨S4x8192, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S4x8192x1, .f32⟩
  | .hbm, ⟨16, _⟩ => ⟨S4x8192x2048, .f32⟩
  | .hbm, ⟨17, _⟩ => ⟨S4x8192x2048, .f32⟩
  | .hbm, ⟨18, _⟩ => ⟨S1x1x2048, .f32⟩
  | .hbm, ⟨19, _⟩ => ⟨S4x8192x2048, .f32⟩
  | .hbm, ⟨20, _⟩ => ⟨S4x8192x2048, .f32⟩
  | .hbm, ⟨21, _⟩ => ⟨S4x8192x2048, .f32⟩
  | .hbm, ⟨22, _⟩ => ⟨S32768x2048, .f32⟩
  | _, _ => ⟨S4x8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Merge.lean ====
abbrev S4x8192x2048 : Shape := ⟨3, ![4, 8192, 2048]⟩
abbrev S2048x14336 : Shape := ⟨2, ![2048, 14336]⟩
abbrev S2048x2048 : Shape := ⟨2, ![2048, 2048]⟩
abbrev S32768x2048 : Shape := ⟨2, ![32768, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 16
  | .vmem => 16
  | .smem => 0
  | _ => 0

abbrev bufTy : (tb : Table) → Fin (tcTables nBuf tb) → BufTy
  | .hbm, ⟨0, _⟩ => ⟨S4x8192x2048, .f32⟩
  | .hbm, ⟨1, _⟩ => ⟨S4x8192x2048, .f32⟩
  | .hbm, ⟨2, _⟩ => ⟨S4x8192x2048, .f32⟩
  | .hbm, ⟨3, _⟩ => ⟨S2048x14336, .f32⟩
  | .hbm, ⟨4, _⟩ => ⟨S2048x2048, .f32⟩
  | .hbm, ⟨5, _⟩ => ⟨S2048x2048, .f32⟩
  | .hbm, ⟨6, _⟩ => ⟨S4x8192x2048, .bf16⟩
  | .hbm, ⟨7, _⟩ => ⟨S32768x2048, .bf16⟩
  | .hbm, ⟨8, _⟩ => ⟨S4x8192x2048, .bf16⟩
  | .hbm, ⟨9, _⟩ => ⟨S32768x2048, .bf16⟩
  | .hbm, ⟨10, _⟩ => ⟨S4x8192x2048, .bf16⟩
  | .hbm, ⟨11, _⟩ => ⟨S32768x2048, .bf16⟩
  | .hbm, ⟨12, _⟩ => ⟨S2048x14336, .bf16⟩
  | .hbm, ⟨13, _⟩ => ⟨S2048x2048, .bf16⟩
  | .hbm, ⟨14, _⟩ => ⟨S2048x2048, .bf16⟩
  | .hbm, ⟨15, _⟩ => ⟨S32768x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S1024x512, .bf16⟩
  | .local _ .vmem, ⟨15, _⟩ => ⟨S1024x512, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi arg0 c20_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi arg0 c24_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MergeReferenceIdeal.lean ====
abbrev S4x8192x2048 : Shape := ⟨3, ![4, 8192, 2048]⟩
abbrev S2048x14336 : Shape := ⟨2, ![2048, 14336]⟩
abbrev S2048x2048 : Shape := ⟨2, ![2048, 2048]⟩
abbrev S4x8192x14336 : Shape := ⟨3, ![4, 8192, 14336]⟩
abbrev S_ : Shape := ⟨0, ![]⟩
abbrev S32768x2048 : Shape := ⟨2, ![32768, 2048]⟩

abbrev nBuf : Space → Nat
  | .hbm => 32
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S4x8192x2048, .f32⟩
  | .hbm, ⟨2, _⟩ => ⟨S4x8192x2048, .f32⟩
  | .hbm, ⟨3, _⟩ => ⟨S2048x14336, .f32⟩
  | .hbm, ⟨4, _⟩ => ⟨S2048x2048, .f32⟩
  | .hbm, ⟨5, _⟩ => ⟨S2048x2048, .f32⟩
  | .hbm, ⟨6, _⟩ => ⟨S4x8192x14336, .f32⟩
  | .hbm, ⟨7, _⟩ => ⟨S4x8192x2048, .f32⟩
  | .hbm, ⟨8, _⟩ => ⟨S4x8192x2048, .f32⟩
  | .hbm, ⟨9, _⟩ => ⟨S4x8192x2048, .f32⟩
  | .hbm, ⟨10, _⟩ => ⟨S4x8192x2048, .f32⟩
  | .hbm, ⟨11, _⟩ => ⟨S_, .f32⟩
  | .hbm, ⟨12, _⟩ => ⟨S4x8192x2048, .f32⟩
  | .hbm, ⟨13, _⟩ => ⟨S4x8192x2048, .f32⟩
  | .hbm, ⟨14, _⟩ => ⟨S_, .f32⟩
  | .hbm, ⟨15, _⟩ => ⟨S4x8192x2048, .f32⟩
  | .hbm, ⟨16, _⟩ => ⟨S4x8192x2048, .f32⟩
  | .hbm, ⟨17, _⟩ => ⟨S4x8192x2048, .f32⟩
  | .hbm, ⟨18, _⟩ => ⟨S4x8192x2048, .f32⟩
  | .hbm, ⟨19, _⟩ => ⟨S4x8192x2048, .f32⟩
  | .hbm, ⟨20, _⟩ => ⟨S4x8192x2048, .f32⟩
  | .hbm, ⟨21, _⟩ => ⟨S_, .f32⟩
  | .hbm, ⟨22, _⟩ => ⟨S4x8192x2048, .f32⟩
  | .hbm, ⟨23, _⟩ => ⟨S4x8192x2048, .f32⟩
  | .hbm, ⟨24, _⟩ => ⟨S_, .f32⟩
  | .hbm, ⟨25, _⟩ => ⟨S4x8192x2048, .f32⟩
  | .hbm, ⟨26, _⟩ => ⟨S4x8192x2048, .f32⟩
  | .hbm, ⟨27, _⟩ => ⟨S4x8192x2048, .f32⟩
  | .hbm, ⟨28, _⟩ => ⟨S4x8192x2048, .f32⟩
  | .hbm, ⟨29, _⟩ => ⟨S4x8192x2048, .f32⟩
  | .hbm, ⟨30, _⟩ => ⟨S32768x2048, .f32⟩
  | .hbm, ⟨31, _⟩ => ⟨S32768x2048, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== OutProj.lean ====
abbrev S4x8192x2048 : Shape := ⟨3, ![4, 8192, 2048]⟩
abbrev S2048x2048 : Shape := ⟨2, ![2048, 2048]⟩
abbrev S2048 : Shape := ⟨1, ![2048]⟩
abbrev S32768x2048 : Shape := ⟨2, ![32768, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 13
  | .vmem => 11
  | .smem => 0
  | _ => 0

abbrev bufTy : (tb : Table) → Fin (tcTables nBuf tb) → BufTy
  | .hbm, ⟨0, _⟩ => ⟨S4x8192x2048, .f32⟩
  | .hbm, ⟨1, _⟩ => ⟨S2048x2048, .f32⟩
  | .hbm, ⟨2, _⟩ => ⟨S4x8192x2048, .f32⟩
  | .hbm, ⟨3, _⟩ => ⟨S2048, .f32⟩
  | .hbm, ⟨4, _⟩ => ⟨S2048, .f32⟩
  | .hbm, ⟨5, _⟩ => ⟨S4x8192x2048, .bf16⟩
  | .hbm, ⟨6, _⟩ => ⟨S32768x2048, .bf16⟩
  | .hbm, ⟨7, _⟩ => ⟨S2048x2048, .bf16⟩
  | .hbm, ⟨8, _⟩ => ⟨S32768x2048, .f32⟩
  | .hbm, ⟨9, _⟩ => ⟨S1x2048, .f32⟩
  | .hbm, ⟨10, _⟩ => ⟨S1x2048, .f32⟩
  | .hbm, ⟨11, _⟩ => ⟨S32768x2048, .f32⟩
  | .hbm, ⟨12, _⟩ => ⟨S32768x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutProjReferenceIdeal.lean ====
abbrev S4x8192x2048 : Shape := ⟨3, ![4, 8192, 2048]⟩
abbrev S2048x2048 : Shape := ⟨2, ![2048, 2048]⟩
abbrev S2048 : Shape := ⟨1, ![2048]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩
abbrev S32768x2048 : Shape := ⟨2, ![32768, 2048]⟩

abbrev nBuf : Space → Nat
  | .hbm => 42
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2048x2048, .f32⟩
  | .hbm, ⟨2, _⟩ => ⟨S4x8192x2048, .f32⟩
  | .hbm, ⟨3, _⟩ => ⟨S2048, .f32⟩
  | .hbm, ⟨4, _⟩ => ⟨S2048, .f32⟩
  | .hbm, ⟨5, _⟩ => ⟨S4x8192x2048, .f32⟩
  | .hbm, ⟨6, _⟩ => ⟨S4x8192x2048, .f32⟩
  | .hbm, ⟨7, _⟩ => ⟨S_, .f32⟩
  | .hbm, ⟨8, _⟩ => ⟨S4x8192, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S4x8192x1, .f32⟩
  | .hbm, ⟨17, _⟩ => ⟨S4x8192x2048, .f32⟩
  | .hbm, ⟨18, _⟩ => ⟨S4x8192x2048, .f32⟩
  | .hbm, ⟨19, _⟩ => ⟨S1x1x2048, .f32⟩
  | .hbm, ⟨20, _⟩ => ⟨S4x8192x2048, .f32⟩
  | .hbm, ⟨21, _⟩ => ⟨S4x8192x2048, .f32⟩
  | .hbm, ⟨22, _⟩ => ⟨S4x8192x2048, .f32⟩
  | .hbm, ⟨23, _⟩ => ⟨S4x8192x2048, .f32⟩
  | .hbm, ⟨24, _⟩ => ⟨S_, .f32⟩
  | .hbm, ⟨25, _⟩ => ⟨S4x8192, .f32⟩
  | .hbm, ⟨26, _⟩ => ⟨S4x8192x1, .f32⟩
  | .hbm, ⟨27, _⟩ => ⟨S_, .f32⟩
  | .hbm, ⟨28, _⟩ => ⟨S4x8192x1, .f32⟩
  | .hbm, ⟨29, _⟩ => ⟨S4x8192x1, .f32⟩
  | .hbm, ⟨30, _⟩ => ⟨S_, .f32⟩
  | .hbm, ⟨31, _⟩ => ⟨S4x8192x1, .f32⟩
  | .hbm, ⟨32, _⟩ => ⟨S4x8192x1, .f32⟩
  | .hbm, ⟨33, _⟩ => ⟨S4x8192x1, .f32⟩
  | .hbm, ⟨34, _⟩ => ⟨S4x8192x2048, .f32⟩
  | .hbm, ⟨35, _⟩ => ⟨S4x8192x2048, .f32⟩
  | .hbm, ⟨36, _⟩ => ⟨S1x1x2048, .f32⟩
  | .hbm, ⟨37, _⟩ => ⟨S4x8192x2048, .f32⟩
  | .hbm, ⟨38, _⟩ => ⟨S4x8192x2048, .f32⟩
  | .hbm, ⟨39, _⟩ => ⟨S32768x2048, .f32⟩
  | .hbm, ⟨40, _⟩ => ⟨S32768x2048, .f32⟩
  | .hbm, ⟨41, _⟩ => ⟨S32768x2048, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Values.lean ====
abbrev S4x8192x2048 : Shape := ⟨3, ![4, 8192, 2048]⟩
abbrev S2048x14336 : Shape := ⟨2, ![2048, 14336]⟩
abbrev S32768x2048 : Shape := ⟨2, ![32768, 2048]⟩
abbrev S4x8x272x8192 : Shape := ⟨4, ![4, 8, 272, 8192]⟩
abbrev S512x2048 : Shape := ⟨2, ![512, 2048]⟩
abbrev S2048x2048 : Shape := ⟨2, ![2048, 2048]⟩
abbrev S1x8x272x512 : Shape := ⟨4, ![1, 8, 272, 512]⟩
abbrev S512x256 : Shape := ⟨2, ![512, 256]⟩
abbrev S256x512 : Shape := ⟨2, ![256, 512]⟩
abbrev S1x1x256x512 : Shape := ⟨4, ![1, 1, 256, 512]⟩
abbrev S16x512 : Shape := ⟨2, ![16, 512]⟩
abbrev S1x1x16x512 : Shape := ⟨4, ![1, 1, 16, 512]⟩

abbrev nBuf : Space → Nat
  | .hbm => 7
  | .vmem => 7
  | .smem => 0
  | _ => 0

abbrev bufTy : (tb : Table) → Fin (tcTables nBuf tb) → BufTy
  | .hbm, ⟨0, _⟩ => ⟨S4x8192x2048, .f32⟩
  | .hbm, ⟨1, _⟩ => ⟨S2048x14336, .f32⟩
  | .hbm, ⟨2, _⟩ => ⟨S4x8192x2048, .bf16⟩
  | .hbm, ⟨3, _⟩ => ⟨S32768x2048, .bf16⟩
  | .hbm, ⟨4, _⟩ => ⟨S2048x14336, .bf16⟩
  | .hbm, ⟨5, _⟩ => ⟨S32768x2048, .f32⟩
  | .hbm, ⟨6, _⟩ => ⟨S4x8x272x8192, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x8x272x512, .bf16⟩
  | .local _ .vmem, ⟨6, _⟩ => ⟨S1x8x272x512, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x272x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ValuesReferenceIdeal.lean ====
abbrev S4x8192x2048 : Shape := ⟨3, ![4, 8192, 2048]⟩
abbrev S2048x14336 : Shape := ⟨2, ![2048, 14336]⟩
abbrev S4x8192x14336 : Shape := ⟨3, ![4, 8192, 14336]⟩
abbrev S4x8192x8x256 : Shape := ⟨4, ![4, 8192, 8, 256]⟩
abbrev S4x8x256x8192 : Shape := ⟨4, ![4, 8, 256, 8192]⟩
abbrev S_ : Shape := ⟨0, ![]⟩
abbrev S4x8x16x8192 : Shape := ⟨4, ![4, 8, 16, 8192]⟩
abbrev S4x8x272x8192 : Shape := ⟨4, ![4, 8, 272, 8192]⟩
abbrev S32768x2048 : Shape := ⟨2, ![32768, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2048x14336, .f32⟩
  | .hbm, ⟨2, _⟩ => ⟨S4x8192x14336, .f32⟩
  | .hbm, ⟨3, _⟩ => ⟨S4x8192x2048, .f32⟩
  | .hbm, ⟨4, _⟩ => ⟨S4x8192x8x256, .f32⟩
  | .hbm, ⟨5, _⟩ => ⟨S4x8x256x8192, .f32⟩
  | .hbm, ⟨6, _⟩ => ⟨S_, .f32⟩
  | .hbm, ⟨7, _⟩ => ⟨S4x8x16x8192, .f32⟩
  | .hbm, ⟨8, _⟩ => ⟨S4x8x272x8192, .f32⟩
  | .hbm, ⟨9, _⟩ => ⟨S32768x2048, .f32⟩
  | .hbm, ⟨10, _⟩ => ⟨S4x8x272x8192, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Queries.lean ====
abbrev S4x8192x2048 : Shape := ⟨3, ![4, 8192, 2048]⟩
abbrev S2048x14336 : Shape := ⟨2, ![2048, 14336]⟩
abbrev S32768x2048 : Shape := ⟨2, ![32768, 2048]⟩
abbrev S512x2048 : Shape := ⟨2, ![512, 2048]⟩
abbrev S2048x2048 : Shape := ⟨2, ![2048, 2048]⟩

abbrev nBuf : Space → Nat
  | .hbm => 6
  | .vmem => 5
  | .smem => 0
  | _ => 0

abbrev bufTy : (tb : Table) → Fin (tcTables nBuf tb) → BufTy
  | .hbm, ⟨0, _⟩ => ⟨S4x8192x2048, .f32⟩
  | .hbm, ⟨1, _⟩ => ⟨S2048x14336, .f32⟩
  | .hbm, ⟨2, _⟩ => ⟨S4x8192x2048, .bf16⟩
  | .hbm, ⟨3, _⟩ => ⟨S32768x2048, .bf16⟩
  | .hbm, ⟨4, _⟩ => ⟨S2048x14336, .bf16⟩
  | .hbm, ⟨5, _⟩ => ⟨S32768x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QueriesIdeal.lean ====
variable {F : FTy → Type} [FloatOps F] [Named F]
def κ : String → Option EReal := fun
  | "scale" => some (((11863283 / 134217728) * (Real.log 2)⁻¹ : ℝ) : EReal)
  | _ => none
-- ==== QueriesReferenceIdeal.lean ====
abbrev S4x8192x2048 : Shape := ⟨3, ![4, 8192, 2048]⟩
abbrev S2048x14336 : Shape := ⟨2, ![2048, 14336]⟩
abbrev S4x8192x14336 : Shape := ⟨3, ![4, 8192, 14336]⟩
abbrev S_ : Shape := ⟨0, ![]⟩
abbrev S32768x2048 : Shape := ⟨2, ![32768, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2048x14336, .f32⟩
  | .hbm, ⟨2, _⟩ => ⟨S4x8192x14336, .f32⟩
  | .hbm, ⟨3, _⟩ => ⟨S4x8192x2048, .f32⟩
  | .hbm, ⟨4, _⟩ => ⟨S_, .f32⟩
  | .hbm, ⟨5, _⟩ => ⟨S4x8192x2048, .f32⟩
  | .hbm, ⟨6, _⟩ => ⟨S4x8192x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4x8192x2048, .f32⟩
  | .hbm, ⟨11, _⟩ => ⟨S4x8192x2048, .f32⟩
  | .hbm, ⟨12, _⟩ => ⟨S32768x2048, .f32⟩
  | .hbm, ⟨13, _⟩ => ⟨S32768x2048, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Gmlp.lean ====
abbrev S4x8192x2048 : Shape := ⟨3, ![4, 8192, 2048]⟩
abbrev S2048x14336 : Shape := ⟨2, ![2048, 14336]⟩
abbrev S2048 : Shape := ⟨1, ![2048]⟩
abbrev S8x128x128 : Shape := ⟨3, ![8, 128, 128]⟩
abbrev S8x128 : Shape := ⟨2, ![8, 128]⟩
abbrev S32768x2048 : Shape := ⟨2, ![32768, 2048]⟩
abbrev S8x128x1 : Shape := ⟨3, ![8, 128, 1]⟩
abbrev S1x2048 : Shape := ⟨2, ![1, 2048]⟩
abbrev S256x2048 : Shape := ⟨2, ![256, 2048]⟩
abbrev S2048x2048 : Shape := ⟨2, ![2048, 2048]⟩
abbrev S256x1 : Shape := ⟨2, ![256, 1]⟩
abbrev S2048x512 : Shape := ⟨2, ![2048, 512]⟩
abbrev S256x512 : Shape := ⟨2, ![256, 512]⟩
abbrev S256 : Shape := ⟨1, ![256]⟩
abbrev S128x128 : Shape := ⟨2, ![128, 128]⟩
abbrev S1x512 : Shape := ⟨2, ![1, 512]⟩
abbrev S1x128x128 : Shape := ⟨3, ![1, 128, 128]⟩
abbrev S1x128x1 : Shape := ⟨3, ![1, 128, 1]⟩
abbrev S128x1 : Shape := ⟨2, ![128, 1]⟩
abbrev S128x256 : Shape := ⟨2, ![128, 256]⟩

abbrev nBuf : Space → Nat
  | .hbm => 13
  | .vmem => 11
  | .smem => 0
  | _ => 0

abbrev bufTy : (tb : Table) → Fin (tcTables nBuf tb) → BufTy
  | .hbm, ⟨0, _⟩ => ⟨S4x8192x2048, .f32⟩
  | .hbm, ⟨1, _⟩ => ⟨S2048x14336, .f32⟩
  | .hbm, ⟨2, _⟩ => ⟨S2048, .f32⟩
  | .hbm, ⟨3, _⟩ => ⟨S2048, .f32⟩
  | .hbm, ⟨4, _⟩ => ⟨S8x128x128, .f32⟩
  | .hbm, ⟨5, _⟩ => ⟨S8x128, .f32⟩
  | .hbm, ⟨6, _⟩ => ⟨S4x8192x2048, .bf16⟩
  | .hbm, ⟨7, _⟩ => ⟨S32768x2048, .bf16⟩
  | .hbm, ⟨8, _⟩ => ⟨S2048x14336, .bf16⟩
  | .hbm, ⟨9, _⟩ => ⟨S8x128x1, .f32⟩
  | .hbm, ⟨10, _⟩ => ⟨S1x2048, .f32⟩
  | .hbm, ⟨11, _⟩ => ⟨S1x2048, .f32⟩
  | .hbm, ⟨12, _⟩ => ⟨S32768x2048, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1x2048, .f32⟩
  | .local _ .vmem, ⟨5, _⟩ => ⟨S1x2048, .f32⟩
  | .local _ .vmem, ⟨6, _⟩ => ⟨S8x128x128, .f32⟩
  | .local _ .vmem, ⟨7, _⟩ => ⟨S8x128x1, .f32⟩
  | .local _ .vmem, ⟨8, _⟩ => ⟨S256x2048, .bf16⟩
  | .local _ .vmem, ⟨9, _⟩ => ⟨S256x2048, .bf16⟩
  | .local _ .vmem, ⟨10, _⟩ => ⟨S256x2048, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_2 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GmlpReferenceIdeal.lean ====
abbrev S4x8192x2048 : Shape := ⟨3, ![4, 8192, 2048]⟩
abbrev S2048x14336 : Shape := ⟨2, ![2048, 14336]⟩
abbrev S2048 : Shape := ⟨1, ![2048]⟩
abbrev S8x128x128 : Shape := ⟨3, ![8, 128, 128]⟩
abbrev S8x128 : Shape := ⟨2, ![8, 128]⟩
abbrev S4x8192x14336 : Shape := ⟨3, ![4, 8192, 14336]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩
abbrev S4x64x128x8x256 : Shape := ⟨5, ![4, 64, 128, 8, 256]⟩
abbrev S128x128 : Shape := ⟨2, ![128, 128]⟩
abbrev S8x4x64x256x128 : Shape := ⟨5, ![8, 4, 64, 256, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S32768x2048 : Shape := ⟨2, ![32768, 2048]⟩

abbrev nBuf : Space → Nat
  | .hbm => 76
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2048x14336, .f32⟩
  | .hbm, ⟨2, _⟩ => ⟨S2048, .f32⟩
  | .hbm, ⟨3, _⟩ => ⟨S2048, .f32⟩
  | .hbm, ⟨4, _⟩ => ⟨S8x128x128, .f32⟩
  | .hbm, ⟨5, _⟩ => ⟨S8x128, .f32⟩
  | .hbm, ⟨6, _⟩ => ⟨S4x8192x14336, .f32⟩
  | .hbm, ⟨7, _⟩ => ⟨S4x8192x2048, .f32⟩
  | .hbm, ⟨8, _⟩ => ⟨S4x8192x2048, .f32⟩
  | .hbm, ⟨9, _⟩ => ⟨S_, .f32⟩
  | .hbm, ⟨10, _⟩ => ⟨S4x8192x2048, .f32⟩
  | .hbm, ⟨11, _⟩ => ⟨S4x8192x2048, .f32⟩
  | .hbm, ⟨12, _⟩ => ⟨S4x8192x2048, .f32⟩
  | .hbm, ⟨13, _⟩ => ⟨S_, .f32⟩
  | .hbm, ⟨14, _⟩ => ⟨S4x8192x2048, .f32⟩
  | .hbm, ⟨15, _⟩ => ⟨S4x8192x2048, .f32⟩
  | .hbm, ⟨16, _⟩ => ⟨S4x8192x2048, .f32⟩
  | .hbm, ⟨17, _⟩ => ⟨S4x8192x2048, .f32⟩
  | .hbm, ⟨18, _⟩ => ⟨S_, .f32⟩
  | .hbm, ⟨19, _⟩ => ⟨S4x8192x2048, .f32⟩
  | .hbm, ⟨20, _⟩ => ⟨S4x8192x2048, .f32⟩
  | .hbm, ⟨21, _⟩ => ⟨S4x8192x2048, .f32⟩
  | .hbm, ⟨22, _⟩ => ⟨S_, .f32⟩
  | .hbm, ⟨23, _⟩ => ⟨S4x8192x2048, .f32⟩
  | .hbm, ⟨24, _⟩ => ⟨S4x8192x2048, .f32⟩
  | .hbm, ⟨25, _⟩ => ⟨S4x8192x2048, .f32⟩
  | .hbm, ⟨26, _⟩ => ⟨S4x8192x2048, .f32⟩
  | .hbm, ⟨27, _⟩ => ⟨S_, .f32⟩
  | .hbm, ⟨28, _⟩ => ⟨S4x8192, .f32⟩
  | .hbm, ⟨29, _⟩ => ⟨S4x8192x1, .f32⟩
  | .hbm, ⟨30, _⟩ => ⟨S_, .f32⟩
  | .hbm, ⟨31, _⟩ => ⟨S4x8192x1, .f32⟩
  | .hbm, ⟨32, _⟩ => ⟨S4x8192x1, .f32⟩
  | .hbm, ⟨33, _⟩ => ⟨S4x8192x2048, .f32⟩
  | .hbm, ⟨34, _⟩ => ⟨S4x8192x2048, .f32⟩
  | .hbm, ⟨35, _⟩ => ⟨S4x8192x2048, .f32⟩
  | .hbm, ⟨36, _⟩ => ⟨S_, .f32⟩
  | .hbm, ⟨37, _⟩ => ⟨S4x8192, .f32⟩
  | .hbm, ⟨38, _⟩ => ⟨S4x8192x1, .f32⟩
  | .hbm, ⟨39, _⟩ => ⟨S_, .f32⟩
  | .hbm, ⟨40, _⟩ => ⟨S4x8192x1, .f32⟩
  | .hbm, ⟨41, _⟩ => ⟨S4x8192x1, .f32⟩
  | .hbm, ⟨42, _⟩ => ⟨S_, .f32⟩
  | .hbm, ⟨43, _⟩ => ⟨S4x8192x1, .f32⟩
  | .hbm, ⟨44, _⟩ => ⟨S4x8192x1, .f32⟩
  | .hbm, ⟨45, _⟩ => ⟨S4x8192x1, .f32⟩
  | .hbm, ⟨46, _⟩ => ⟨S4x8192x2048, .f32⟩
  | .hbm, ⟨47, _⟩ => ⟨S4x8192x2048, .f32⟩
  | .hbm, ⟨48, _⟩ => ⟨S1x1x2048, .f32⟩
  | .hbm, ⟨49, _⟩ => ⟨S4x8192x2048, .f32⟩
  | .hbm, ⟨50, _⟩ => ⟨S4x8192x2048, .f32⟩
  | .hbm, ⟨51, _⟩ => ⟨S1x1x2048, .f32⟩
  | .hbm, ⟨52, _⟩ => ⟨S4x8192x2048, .f32⟩
  | .hbm, ⟨53, _⟩ => ⟨S4x8192x2048, .f32⟩
  | .hbm, ⟨54, _⟩ => ⟨S4x64x128x8x256, .f32⟩
  | .hbm, ⟨55, _⟩ => ⟨S128x128, .i32⟩
  | .hbm, ⟨56, _⟩ => ⟨S_, .i32⟩
  | .hbm, ⟨57, _⟩ => ⟨S128x128, .i32⟩
  | .hbm, ⟨58, _⟩ => ⟨S128x128, .i32⟩
  | .hbm, ⟨59, _⟩ => ⟨S128x128, .i32⟩
  | .hbm, ⟨60, _⟩ => ⟨S128x128, .i1⟩
  | .hbm, ⟨61, _⟩ => ⟨S8x128x128, .i1⟩
  | .hbm, ⟨62, _⟩ => ⟨S_, .f32⟩
  | .hbm, ⟨63, _⟩ => ⟨S8x128x128, .f32⟩
  | .hbm, ⟨64, _⟩ => ⟨S8x128x128, .f32⟩
  | .hbm, ⟨65, _⟩ => ⟨S8x4x64x256x128, .f32⟩
  | .hbm, ⟨66, _⟩ => ⟨S4x64x128x8x256, .f32⟩
  | .hbm, ⟨67, _⟩ => ⟨S128x8, .f32⟩
  | .hbm, ⟨68, _⟩ => ⟨S128x8x1, .f32⟩
  | .hbm, ⟨69, _⟩ => ⟨S1x1x128x8x1, .f32⟩
  | .hbm, ⟨70, _⟩ => ⟨S4x64x128x8x256, .f32⟩
  | .hbm, ⟨71, _⟩ => ⟨S4x64x128x8x256, .f32⟩
  | .hbm, ⟨72, _⟩ => ⟨S4x8192x2048, .f32⟩
  | .hbm, ⟨73, _⟩ => ⟨S4x8192x2048, .f32⟩
  | .hbm, ⟨74, _⟩ => ⟨S32768x2048, .f32⟩
  | .hbm, ⟨75, _⟩ => ⟨S32768x2048, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_call0_v0 : Ref sig .tc := ⟨.hbm, 55, rfl⟩
abbrev main_call0_c : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_v5 : Ref sig .tc := ⟨.hbm, 61, rfl⟩
abbrev main_call0_cst : Ref sig .tc := ⟨.hbm, 62, rfl⟩
abbrev main_call0_v6 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩

abbrev nD : Nat := 1
abbrev τ : Topo := Topo.v7x

variable {F : FTy → Type} [FloatOps F]
-- ==== Proof.Run.Logic.lean ====
/- Deterministic triples for the kernel's body. `Runs c P p a P'`: from the resources `P` the program `p` answers `a` and
   leaves `P'`, whatever follows it. A load, a store, a scalar load and an assumption each have one rule, for a buffer
   that `P` lets one take out (`Has`) and put back at other values; a program is then gone through by sequencing. -/
module

public import proofs.«01_k».proof.Proof.Gen.KernelIdeal.Loops
public import Idealize.ShloMosaic.Lib.VecWindow
public import Idealize.ShloMosaic.Lib.Memref

@[expose] public section

noncomputable section

namespace Cert.Attn

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)

variable {F : FTy → Type} [FloatOps F] [Named F]

abbrev UU (nD : Nat) (τ : Topo) : Type := UR sig nD τ
abbrev 𝒱₀ : Variants := Variants.none

local notation "𝕄" => MT nD τ sig Unit (Elt F) ℕ (UU nD τ) ℕ

/-- The weakest precondition the body is run under. -/
abbrev W (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- From `P` the program answers `a` and leaves `P'`, whatever follows. -/
def Runs (c : Dev nD) {α : Type} (P : sProp 𝕄) (p : Prog (TpuEff nD τ sig (Elt F) Λ₀ .tc) α) (a : α) (P' : sProp 𝕄) : Prop :=
  ∀ (β : Type) (k : α → Prog (TpuEff nD τ sig (Elt F) Λ₀ .tc) β) (Q : β → sProp 𝕄), (P' ⊢ W c (k a) Q) → P ⊢ W c (p >>= k) Q

variable {c : Dev nD}

theorem Runs.pure {α : Type} (P : sProp 𝕄) (a : α) : Runs c P (Pure.pure a) a P := fun _ _ _ h => h

theorem Runs.bind {α β : Type} {P P' P'' : sProp 𝕄} {p : Prog (TpuEff nD τ sig (Elt F) Λ₀ .tc) α} {a : α}
    {k : α → Prog (TpuEff nD τ sig (Elt F) Λ₀ .tc) β} {b : β} (h₁ : Runs c P p a P') (h₂ : Runs c P' (k a) b P'') :
    Runs c P (p >>= k) b P'' := fun _ kk Q h => by
  rw [bind_assoc]
  exact h₁ _ _ _ (h₂ _ _ _ h)

/-- The run of a whole program. -/
theorem Runs.wp {α : Type} {P P' : sProp 𝕄} {p : Prog (TpuEff nD τ sig (Elt F) Λ₀ .tc) α} {a : α} (h : Runs c P p a P')
    (Q : α → sProp 𝕄) (hQ : P' ⊢ Q a) : P ⊢ W c p Q := by
  have := h _ Pure.pure Q (hQ.trans (le_wp_ret _ _ _ a Q))
  rwa [bind_pure] at this

theorem Runs.of_eq {α : Type} {P P' : sProp 𝕄} {p q : Prog (TpuEff nD τ sig (Elt F) Λ₀ .tc) α} {a : α} (e : q = p) (h : Runs c P p a P') : Runs c P q a P' :=
  e ▸ h

/-- `P` holds `X` apart, and holding `X'` in its place is `P'`. -/
def Has (P X X' P' : sProp 𝕄) : Prop := P ⊢ iprop(X ∗ (X' -∗ P'))

theorem Has.head (X X' R : sProp 𝕄) : Has iprop(X ∗ R) X X' iprop(X' ∗ R) := by
  unfold Has
  iintro ⟨HX, HR⟩
  isplitl [HX]; · iexact HX
  iintro HX'
  isplitl [HX']; · iexact HX'
  iexact HR

theorem Has.tail {R X X' R' : sProp 𝕄} (A : sProp 𝕄) (h : Has R X X' R') : Has iprop(A ∗ R) X X' iprop(A ∗ R') := by
  unfold Has
  iintro ⟨HA, HR⟩
  ihave H := (show R ⊢ iprop(X ∗ (X' -∗ R')) from h) $$ HR
  icases H with ⟨HX, HK⟩
  isplitl [HX]; · iexact HX
  iintro HX'
  isplitl [HA]; · iexact HA
  iapply HK
  iexact HX'

theorem Has.last (X X' : sProp 𝕄) : Has X X X' X' := by
  unfold Has
  iintro HX
  isplitl [HX]; · iexact HX
  iintro HX'
  iexact HX'

variable {cs : CoreSpace} {s : Shape} {e : EltTy}

/-- A load at a unit-stride rectangle answers that window of the values held. -/
theorem Runs.load {P : sProp 𝕄} {m : Memref sig .tc cs s e} {q : PosShare TreeShare} {x : s.Idx → Elt F e}
    (hP : Has P (owns (c : Thread nD τ) m q x) (owns (c : Thread nD τ) m q x) P)
    {off size : Fin s.rank → ℕ} {inb : ∀ a, off a + size a ≤ s.size a} {hl : m.view.LoadsAt (Rect.unit off size inb).toLoadRect} :
    Runs c P (Prog.lift (.load m (Rect.unit off size inb).toLoadRect hl)) (window x off size inb) P := fun _ k Q h => by
  refine hP.trans ?_
  unfold owns
  iintro ⟨⟨%f, %hf, Hp⟩, HK⟩
  have hv : m.view.readAt (Elt F) (Rect.unit off size inb).toLoadRect f = window x off size inb := by
    rw [View.readAt_unit m.view f inb rfl inb, hf]
  rw [← hv] at h
  iapply (wp_load (defs := defs₀ (F := F)) 𝒱₀ (c : Thread nD τ) none Set.univ (m := m) (r := (Rect.unit off size inb).toLoadRect) (hl := hl)
    (View.setOn_subset_set _ _)) $$ Hp
  iintro Hp
  iapply h
  iapply HK
  iexists f
  isplitr; · ipureintro; exact hf
  iexact Hp

/-- An unmasked store at a unit-stride rectangle puts the payload there. -/
theorem Runs.store {P P' : sProp 𝕄} {m : Memref sig .tc cs s e} {x : s.Idx → Elt F e}
    {off size : Fin s.rank → ℕ} {inb : ∀ a, off a + size a ≤ s.size a} {w : (Rect.unit off size inb).shape.Idx → Elt F e}
    (hP : Has P (owns (c : Thread nD τ) m fullShare x) (owns (c : Thread nD τ) m fullShare (put x off size w)) P')
    {hx : (m.access (Rect.unit off size inb)).Stores Finset.univ} {hm : Finset.univ = Finset.univ ∨ ∀ a, (Rect.unit off size inb).stride a = 1} :
    Runs c P (Prog.lift (.store m (Rect.unit off size inb) w Finset.univ hx hm)) ⟨⟩ P' := fun _ k Q h => by
  refine hP.trans ?_
  unfold owns
  iintro ⟨⟨%f, %hf, Hp⟩, HK⟩
  have hv : m.view.read (Elt F) (m.view.writes (Elt F) f [⟨Rect.unit off size inb, w⟩]) = put x off size w := by
    rw [View.read_writes_cons_put m.view f inb w [] rfl, View.writes_nil, hf]
  iapply (wp_store_writes₀ (defs := defs₀ (F := F)) 𝒱₀ (c : Thread nD τ) none Set.univ (m := m) (r := Rect.unit off size inb) (hx := hx) (hm := hm)
    (View.set_slice_subset _ _)) $$ Hp
  iintro Hp
  iapply h
  iapply HK
  iexists (m.view.writes (Elt F) f [⟨Rect.unit off size inb, w⟩])
  isplitr; · ipureintro; exact hv
  iexact Hp

/-- A scalar load answers the word held there. -/
theorem Runs.smem {P : sProp 𝕄} {m : Memref sig .tc .smem s e} {q : PosShare TreeShare} {x : s.Idx → Elt F e}
    (hP : Has P (owns (c : Thread nD τ) m q x) (owns (c : Thread nD τ) m q x) P)
    {off size : Fin s.rank → ℕ} {inb : ∀ a, off a + size a ≤ s.size a} {h1 : (Rect.unit off size inb).shape.numel = 1} {hp : e.packing = 1} :
    Runs c P (smemLoad m (Rect.unit off size inb) h1 hp) (window x off size inb (Shape.Idx.first (h1.symm ▸ Nat.one_pos))) P := fun _ k Q h => by
  have := Runs.load (c := c) (hP := hP) (inb := inb) (hl := View.loadsAt_rect (View.loads_smem_one hp h1))
    _ (fun f => k (f (Shape.Idx.first (h1.symm ▸ Nat.one_pos)))) Q h
  exact this

/-- An assumption that holds. -/
theorem Runs.assume {P : sProp 𝕄} {A : Prop} {d : Decidable A} (h : A) : Runs c P (Prog.lift (TpuEff.assume A d)) ⟨h⟩ P := fun _ k Q hk =>
  hk.trans (wp_assume (defs := defs₀ (F := F)) 𝒱₀ (c : Thread nD τ) none Set.univ (k := k) h)

end Cert.Attn

end
-- ==== Proof.Run.Steps.lean ====
/- The body of the attention call as a few small programs over its buffers: what one step of the walk computes (the scores of
   a block of keys against a block of queries, the running softmax and product with the values, the normalised output of a
   finished block of queries), each a pure function of what was loaded and a program that loads, computes and stores. -/
module

public import proofs.«01_k».proof.Proof.Run.Logic

@[expose] public section

set_option maxRecDepth 16384

noncomputable section

namespace Cert.Attn

open Cert.KernelIdeal Cert.KernelIdeal.Facts₀ Cert.KernelIdeal.Facts
open Idealize.ShloMosaic Idealize.ShloMosaic.TcCoe Idealize.ShloMosaic.Tactic
open Idealize.SL Idealize.SL.Sem
open VecWindow (window put)

variable {F : FTy → Type} [FloatOps F] [Named F]

/-- The buffers the body is called with. -/
structure Bufs where
  a2 : Memref sig .tc .smem S73 .i32
  w2 : a2.IsWhole
  a3 : Memref sig .tc .smem S73 .i32
  w3 : a3.IsWhole
  a4 : Memref sig .tc .smem S73 .i32
  w4 : a4.IsWhole
  a5 : Memref sig .tc .smem S8 .f32
  w5 : a5.IsWhole
  a6 : Memref sig .tc .vmem S1x8192x256 .bf16
  w6 : a6.IsWhole
  a7 : Memref sig .tc .vmem S1x8192x256 .bf16
  w7 : a7.IsWhole
  a8 : Memref sig .tc .vmem S1x1x272x8192 .bf16
  w8 : a8.IsWhole
  a9 : Memref sig .tc .vmem S4x128 .f32
  w9 : a9.IsWhole
  a10 : Memref sig .tc .vmem S1x256 .f32
  w10 : a10.IsWhole
  a11 : Memref sig .tc .vmem S1x8192x256 .bf16
  w11 : a11.IsWhole
  a12 : Memref sig .tc .vmem S512x512 .f32
  w12 : a12.IsWhole
  a13 : Memref sig .tc .vmem S1024x128 .bf16
  w13 : a13.IsWhole
  a14 : Memref sig .tc .vmem S512x128 .bf16
  w14 : a14.IsWhole
  a15 : Memref sig .tc .vmem S2x1024x512 .f32
  w15 : a15.IsWhole
  a16 : Memref sig .tc .vmem S2x1024x512 .f32
  w16 : a16.IsWhole
  a17 : Memref sig .tc .vmem S2x1x512 .f32
  w17 : a17.IsWhole
  a18 : Memref sig .tc .vmem S2x1x512 .f32
  w18 : a18.IsWhole
  a19 : Memref sig .tc .vmem S2x1024x512 .bf16
  w19 : a19.IsWhole
  a20 : Memref sig .tc .vmem S2x1x512 .f32
  w20 : a20.IsWhole
  a21 : Memref sig .tc .vmem S2x272x512 .f32
  w21 : a21.IsWhole

namespace Bufs

/-- The two buffers of scores, used in turn, and of their column maxima. -/
def s (M : Bufs) : Bool → Memref sig .tc .vmem S2x1024x512 .f32 | false => M.a15 | true => M.a16
def mx (M : Bufs) : Bool → Memref sig .tc .vmem S2x1x512 .f32 | false => M.a17 | true => M.a18

end Bufs

/-! ## Offsets -/

abbrev offK (w : BitVec 32) (mp : Fin 2) : Fin 3 → ℕ := ![0, (Scalar.indexCast (Scalar.muli w 1024#32)).toNat, 128 * mp.val]
abbrev offQ (w : BitVec 32) (mp : Fin 2) : Fin 3 → ℕ := ![0, (Scalar.indexCast (Scalar.muli w 512#32)).toNat, 128 * mp.val]
abbrev offV (w : BitVec 32) : Fin 4 → ℕ := ![0, 0, 0, (Scalar.indexCast (Scalar.muli w 1024#32)).toNat]
abbrev offO (w : BitVec 32) : Fin 3 → ℕ := ![0, (Scalar.indexCast (Scalar.muli w 512#32)).toNat, 0]

theorem inbS512 (mp : Fin 2) : ∀ a, (![mp.val, 0, 0] : Fin 3 → ℕ) a + S1x512x512.size a ≤ S2x1024x512.size a := by
  revert mp; exact Fin.forall_fin_two.2 ⟨inb_S2x1024x512_S1x512x512_0_0_0, inb_S2x1024x512_S1x512x512_1_0_0⟩
theorem inbS512' (mp : Fin 2) : ∀ a, (![mp.val, 512, 0] : Fin 3 → ℕ) a + S1x512x512.size a ≤ S2x1024x512.size a := by
  revert mp; exact Fin.forall_fin_two.2 ⟨inb_S2x1024x512_S1x512x512_0_512_0, inb_S2x1024x512_S1x512x512_1_512_0⟩
theorem inbS1024 (mp : Fin 2) : ∀ a, (![mp.val, 0, 0] : Fin 3 → ℕ) a + S1x1024x512.size a ≤ S2x1024x512.size a := by
  revert mp; exact Fin.forall_fin_two.2 ⟨inb_S2x1024x512_S1x1024x512_0_0_0, inb_S2x1024x512_S1x1024x512_1_0_0⟩
theorem inbM (mp : Fin 2) : ∀ a, (![mp.val, 0, 0] : Fin 3 → ℕ) a + S1x1x512.size a ≤ S2x1x512.size a := by
  revert mp; exact Fin.forall_fin_two.2 ⟨inb_S2x1x512_S1x1x512_0_0_0, inb_S2x1x512_S1x1x512_1_0_0⟩
theorem inbA (mp : Fin 2) : ∀ a, (![mp.val, 0, 0] : Fin 3 → ℕ) a + S1x272x512.size a ≤ S2x272x512.size a := by
  revert mp; exact Fin.forall_fin_two.2 ⟨inb_S2x272x512_S1x272x512_0_0_0, inb_S2x272x512_S1x272x512_1_0_0⟩
theorem inbAv (mp : Fin 2) : ∀ a, (![mp.val, 0, 0] : Fin 3 → ℕ) a + S1x256x512.size a ≤ S2x272x512.size a := by
  revert mp; exact Fin.forall_fin_two.2 ⟨inb_S2x272x512_S1x256x512_0_0_0, inb_S2x272x512_S1x256x512_1_0_0⟩
theorem inbAl (mp : Fin 2) : ∀ a, (![mp.val, 256, 0] : Fin 3 → ℕ) a + S1x1x512.size a ≤ S2x272x512.size a := by
  revert mp; exact Fin.forall_fin_two.2 ⟨inb_S2x272x512_S1x1x512_0_256_0, inb_S2x272x512_S1x1x512_1_256_0⟩
theorem packedP512 (mp : Fin 2) : (Rect.unit (s := S2x1024x512) ![mp.val, 0, 0] S1x512x512.size (inbS512 mp)).PackedRows (EltTy.packing .bf16) := by
  revert mp; exact Fin.forall_fin_two.2 ⟨packedbf16_S2x1024x512_S1x512x512_0_0_0, packedbf16_S2x1024x512_S1x512x512_1_0_0⟩
theorem packedP1024 (mp : Fin 2) : (Rect.unit (s := S2x1024x512) ![mp.val, 0, 0] S1x1024x512.size (inbS1024 mp)).PackedRows (EltTy.packing .bf16) := by
  revert mp; exact Fin.forall_fin_two.2 ⟨packedbf16_S2x1024x512_S1x1024x512_0_0_0, packedbf16_S2x1024x512_S1x1024x512_1_0_0⟩

/-! ## What is computed -/

/-- The diagonal correction the kernel keeps: twice the slope over positions ahead, masked outside the block of 64. -/
def corrOf (v2 : F .f32) : FVec F S512x512 .f32 :=
  let v3 : IVec S512x512 32 := iota .tc S512x512 32 [0] iota_S512x512_d0_w32
  let c6_i32 : BitVec 32 := 6#32
  let v5 : IVec S512x512 32 := broadcast S512x512 c6_i32
  let v6 : IVec S512x512 32 := shrsi v3 v5
  let v4 : IVec S512x512 32 := iota .tc S512x512 32 [1] iota_S512x512_d1_w32
  let c6_i32_0 : BitVec 32 := 6#32
  let v7 : IVec S512x512 32 := broadcast S512x512 c6_i32_0
  let v8 : IVec S512x512 32 := shrsi v4 v7
  let v9 : IVec S512x512 1 := cmpi .sle v6 v8
  let v10 : IVec S512x512 32 := subi v3 v4
  let c0_i32 : BitVec 32 := 0#32
  let v11 : IVec S512x512 32 := broadcast S512x512 c0_i32
  let v12 : IVec S512x512 32 := maxsi v10 v11
  let v13 : FVec F S512x512 .f32 := sitofp .f32 v12
  let cst_1 : F .f32 := Scalar.ofBits .f32 0xC0000000#32
  let v14 : F .f32 := Scalar.mulf cst_1 v2
  let v15 : FVec F S512x512 .f32 := broadcast S512x512 v14
  let v16 : FVec F S512x512 .f32 := mulf v13 v15
  let cst_2 : F .f32 := Named.named κ "mask" 0xF149F2CA#32
  let v17 : FVec F S512x512 .f32 := broadcast S512x512 cst_2
  select v9 v16 v17

/-- The columns joined to the keys: positions against pieces of the slope. -/
def auxkOf (v2 : F .f32) : FVec F S1024x128 .bf16 :=
  let v22 : IVec S1024x128 32 := iota .tc S1024x128 32 [1] iota_S1024x128_d1_w32
  let c6_i32_11 : BitVec 32 := 6#32
  let v69 : IVec S1024x128 32 := broadcast S1024x128 c6_i32_11
  let v70 : IVec S1024x128 1 := cmpi .slt v22 v69
  let c3_i32_7 : BitVec 32 := 3#32
  let v57 : IVec S1024x128 32 := broadcast S1024x128 c3_i32_7
  let v58 : IVec S1024x128 1 := cmpi .slt v22 v57
  let c6_i32_8 : BitVec 32 := 6#32
  let v59 : IVec S1024x128 32 := broadcast S1024x128 c6_i32_8
  let v60 : IVec S1024x128 1 := cmpi .sge v22 v59
  let c9_i32_9 : BitVec 32 := 9#32
  let v61 : IVec S1024x128 32 := broadcast S1024x128 c9_i32_9
  let v62 : IVec S1024x128 1 := cmpi .slt v22 v61
  let v63 : IVec S1024x128 1 := andi v60 v62
  let v64 : IVec S1024x128 1 := ori v58 v63
  let v23 : IVec S1024x128 32 := iota .tc S1024x128 32 [0] iota_S1024x128_d0_w32
  let c255_i32 : BitVec 32 := 255#32
  let v24 : IVec S1024x128 32 := broadcast S1024x128 c255_i32
  let v25 : IVec S1024x128 32 := andi v23 v24
  let v26 : IVec S1024x128 32 := subi v23 v25
  let v65 : IVec S1024x128 32 := select v64 v26 v25
  let v66 : FVec F S1024x128 .f32 := sitofp .f32 v65
  let cst_10 : F .f32 := Scalar.ofBits .f32 0x3F800000#32
  let v67 : FVec F S1024x128 .f32 := broadcast S1024x128 cst_10
  let v68 : FVec F S1024x128 .f32 := mulf v66 v67
  let c6_i32_12 : BitVec 32 := 6#32
  let v71 : IVec S1024x128 32 := broadcast S1024x128 c6_i32_12
  let v72 : IVec S1024x128 1 := cmpi .sge v22 v71
  let c12_i32 : BitVec 32 := 12#32
  let v73 : IVec S1024x128 32 := broadcast S1024x128 c12_i32
  let v74 : IVec S1024x128 1 := cmpi .slt v22 v73
  let v75 : IVec S1024x128 1 := andi v72 v74
  let c3_i32_5 : BitVec 32 := 3#32
  let v48 : IVec S1024x128 32 := broadcast S1024x128 c3_i32_5
  let c3_i32 : BitVec 32 := 3#32
  let v37 : IVec S1024x128 32 := broadcast S1024x128 c3_i32
  let v38 : IVec S1024x128 1 := cmpi .sge v22 v37
  let v39 : IVec S1024x128 32 := extui 32 v38 natLt_1_32
  let c6_i32_4 : BitVec 32 := 6#32
  let v40 : IVec S1024x128 32 := broadcast S1024x128 c6_i32_4
  let v41 : IVec S1024x128 1 := cmpi .sge v22 v40
  let v42 : IVec S1024x128 32 := extui 32 v41 natLt_1_32
  let v43 : IVec S1024x128 32 := addi v39 v42
  let c9_i32 : BitVec 32 := 9#32
  let v44 : IVec S1024x128 32 := broadcast S1024x128 c9_i32
  let v45 : IVec S1024x128 1 := cmpi .sge v22 v44
  let v46 : IVec S1024x128 32 := extui 32 v45 natLt_1_32
  let v47 : IVec S1024x128 32 := addi v43 v46
  let v49 : IVec S1024x128 32 := muli v48 v47
  let v50 : IVec S1024x128 32 := subi v22 v49
  let c0_i32_6 : BitVec 32 := 0#32
  let v51 : IVec S1024x128 32 := broadcast S1024x128 c0_i32_6
  let v52 : IVec S1024x128 1 := cmpi .eq v50 v51
  let v27 : FVec F S1024x128 .f32 := broadcast S1024x128 v2
  let v28 : FVec F S1024x128 .bf16 := truncf .bf16 v27 bitsLt_bf16_f32
  let v29 : FVec F S1024x128 .f32 := extf .f32 v28 bitsLt_bf16_f32
  let c1_i32 : BitVec 32 := 1#32
  let v53 : IVec S1024x128 32 := broadcast S1024x128 c1_i32
  let v54 : IVec S1024x128 1 := cmpi .eq v50 v53
  let v30 : FVec F S1024x128 .f32 := subf v27 v29
  let v31 : FVec F S1024x128 .bf16 := truncf .bf16 v30 bitsLt_bf16_f32
  let v32 : FVec F S1024x128 .f32 := extf .f32 v31 bitsLt_bf16_f32
  let v33 : FVec F S1024x128 .f32 := subf v27 v29
  let v34 : FVec F S1024x128 .f32 := subf v33 v32
  let v35 : FVec F S1024x128 .bf16 := truncf .bf16 v34 bitsLt_bf16_f32
  let v36 : FVec F S1024x128 .f32 := extf .f32 v35 bitsLt_bf16_f32
  let v55 : FVec F S1024x128 .f32 := select v54 v32 v36
  let v56 : FVec F S1024x128 .f32 := select v52 v29 v55
  let cst_13 : F .f32 := Scalar.ofBits .f32 0x00000000#32
  let v76 : FVec F S1024x128 .f32 := broadcast S1024x128 cst_13
  let v77 : FVec F S1024x128 .f32 := select v75 v56 v76
  let v78 : FVec F S1024x128 .f32 := select v70 v68 v77
  truncf .bf16 v78 bitsLt_bf16_f32

/-- The columns joined to the queries: pieces of the slope against negated positions. -/
def auxqOf (v2 : F .f32) : FVec F S512x128 .bf16 :=
  let v83 : IVec S512x128 32 := iota .tc S512x128 32 [1] iota_S512x128_d1_w32
  let c6_i32_27 : BitVec 32 := 6#32
  let v130 : IVec S512x128 32 := broadcast S512x128 c6_i32_27
  let v131 : IVec S512x128 1 := cmpi .sge v83 v130
  let c12_i32_28 : BitVec 32 := 12#32
  let v132 : IVec S512x128 32 := broadcast S512x128 c12_i32_28
  let v133 : IVec S512x128 1 := cmpi .slt v83 v132
  let v134 : IVec S512x128 1 := andi v131 v133
  let c3_i32_23 : BitVec 32 := 3#32
  let v118 : IVec S512x128 32 := broadcast S512x128 c3_i32_23
  let v119 : IVec S512x128 1 := cmpi .slt v83 v118
  let c6_i32_24 : BitVec 32 := 6#32
  let v120 : IVec S512x128 32 := broadcast S512x128 c6_i32_24
  let v121 : IVec S512x128 1 := cmpi .sge v83 v120
  let c9_i32_25 : BitVec 32 := 9#32
  let v122 : IVec S512x128 32 := broadcast S512x128 c9_i32_25
  let v123 : IVec S512x128 1 := cmpi .slt v83 v122
  let v124 : IVec S512x128 1 := andi v121 v123
  let v125 : IVec S512x128 1 := ori v119 v124
  let v84 : IVec S512x128 32 := iota .tc S512x128 32 [0] iota_S512x128_d0_w32
  let c255_i32_16 : BitVec 32 := 255#32
  let v85 : IVec S512x128 32 := broadcast S512x128 c255_i32_16
  let v86 : IVec S512x128 32 := andi v84 v85
  let v87 : IVec S512x128 32 := subi v84 v86
  let v126 : IVec S512x128 32 := select v125 v87 v86
  let v127 : FVec F S512x128 .f32 := sitofp .f32 v126
  let cst_26 : F .f32 := Scalar.ofBits .f32 0xBF800000#32
  let v128 : FVec F S512x128 .f32 := broadcast S512x128 cst_26
  let v129 : FVec F S512x128 .f32 := mulf v127 v128
  let c6_i32_29 : BitVec 32 := 6#32
  let v135 : IVec S512x128 32 := broadcast S512x128 c6_i32_29
  let v136 : IVec S512x128 1 := cmpi .slt v83 v135
  let c3_i32_20 : BitVec 32 := 3#32
  let v109 : IVec S512x128 32 := broadcast S512x128 c3_i32_20
  let c3_i32_17 : BitVec 32 := 3#32
  let v98 : IVec S512x128 32 := broadcast S512x128 c3_i32_17
  let v99 : IVec S512x128 1 := cmpi .sge v83 v98
  let v100 : IVec S512x128 32 := extui 32 v99 natLt_1_32
  let c6_i32_18 : BitVec 32 := 6#32
  let v101 : IVec S512x128 32 := broadcast S512x128 c6_i32_18
  let v102 : IVec S512x128 1 := cmpi .sge v83 v101
  let v103 : IVec S512x128 32 := extui 32 v102 natLt_1_32
  let v104 : IVec S512x128 32 := addi v100 v103
  let c9_i32_19 : BitVec 32 := 9#32
  let v105 : IVec S512x128 32 := broadcast S512x128 c9_i32_19
  let v106 : IVec S512x128 1 := cmpi .sge v83 v105
  let v107 : IVec S512x128 32 := extui 32 v106 natLt_1_32
  let v108 : IVec S512x128 32 := addi v104 v107
  let v110 : IVec S512x128 32 := muli v109 v108
  let v111 : IVec S512x128 32 := subi v83 v110
  let c0_i32_21 : BitVec 32 := 0#32
  let v112 : IVec S512x128 32 := broadcast S512x128 c0_i32_21
  let v113 : IVec S512x128 1 := cmpi .eq v111 v112
  let v88 : FVec F S512x128 .f32 := broadcast S512x128 v2
  let v89 : FVec F S512x128 .bf16 := truncf .bf16 v88 bitsLt_bf16_f32
  let v90 : FVec F S512x128 .f32 := extf .f32 v89 bitsLt_bf16_f32
  let c1_i32_22 : BitVec 32 := 1#32
  let v114 : IVec S512x128 32 := broadcast S512x128 c1_i32_22
  let v115 : IVec S512x128 1 := cmpi .eq v111 v114
  let v91 : FVec F S512x128 .f32 := subf v88 v90
  let v92 : FVec F S512x128 .bf16 := truncf .bf16 v91 bitsLt_bf16_f32
  let v93 : FVec F S512x128 .f32 := extf .f32 v92 bitsLt_bf16_f32
  let v94 : FVec F S512x128 .f32 := subf v88 v90
  let v95 : FVec F S512x128 .f32 := subf v94 v93
  let v96 : FVec F S512x128 .bf16 := truncf .bf16 v95 bitsLt_bf16_f32
  let v97 : FVec F S512x128 .f32 := extf .f32 v96 bitsLt_bf16_f32
  let v116 : FVec F S512x128 .f32 := select v115 v93 v97
  let v117 : FVec F S512x128 .f32 := select v113 v90 v116
  let cst_30 : F .f32 := Scalar.ofBits .f32 0x00000000#32
  let v137 : FVec F S512x128 .f32 := broadcast S512x128 cst_30
  let v138 : FVec F S512x128 .f32 := select v136 v117 v137
  let v139 : FVec F S512x128 .f32 := select v134 v129 v138
  truncf .bf16 v139 bitsLt_bf16_f32

/-- Queries with their columns joined. -/
def qCat (qv : Vec F S1x512x128 .bf16) (xq : Vec F S512x128 .bf16) : FVec F S512x256 .bf16 :=
  concatenate S512x256 1 [⟨S512x128, (shapeCast S512x128 qv shapeCasts_S1x512x128_S512x128 : FVec F S512x128 .bf16)⟩, ⟨S512x128, xq⟩] concatenates_S512x128_S512x128_S512x256_d1

/-- 512 keys against 512 queries. -/
def dotHalf (kv : Vec F S1x512x128 .bf16) (xk : Vec F S512x128 .bf16) (qv : Vec F S1x512x128 .bf16) (xq : Vec F S512x128 .bf16) : FVec F S512x512 .f32 :=
  matmul dot_S512x256_S512x256_S512x512_1_1_0_0_n_n none (qCat kv xk) (qCat qv xq) (constant S512x512 .f32 0x00000000#32)

/-- 1024 keys against 512 queries. -/
def dotFull (kv : Vec F S1x1024x128 .bf16) (xk : Vec F S1024x128 .bf16) (qv : Vec F S1x512x128 .bf16) (xq : Vec F S512x128 .bf16) : FVec F S1024x512 .f32 :=
  matmul dot_S1024x256_S512x256_S1024x512_1_1_0_0_n_n none
    (concatenate S1024x256 1 [⟨S1024x128, (shapeCast S1024x128 kv shapeCasts_S1x1024x128_S1024x128 : FVec F S1024x128 .bf16)⟩, ⟨S1024x128, xk⟩] concatenates_S1024x128_S1024x128_S1024x256_d1)
    (qCat qv xq) (constant S1024x512 .f32 0x00000000#32)

/-- The column maxima of a tile. -/
def colMax (x : FVec F S512x512 .f32) : FVec F S1x512 .f32 :=
  shapeCast S1x512 (multiReduction .maximumf [0] S512 x 0xFF800000#32 reduces_S512x512_S512 (.inl rfl) rfl : FVec F S512 .f32) shapeCasts_S512_S1x512
def colMaxFull (x : FVec F S1024x512 .f32) : FVec F S1x512 .f32 :=
  shapeCast S1x512 (multiReduction .maximumf [0] S512 x 0xFF800000#32 reduces_S1024x512_S512 (.inl rfl) rfl : FVec F S512 .f32) shapeCasts_S512_S1x512
def lowHalf (x : FVec F S1024x512 .f32) : FVec F S512x512 .f32 := extractStridedSlice S512x512 ![0, 0] x slices_S1024x512_o0_0_S512x512
def highHalf (x : FVec F S1024x512 .f32) (co : Vec F S512x512 .f32) : FVec F S512x512 .f32 :=
  addf (extractStridedSlice S512x512 ![512, 0] x slices_S1024x512_o512_0_S512x512) co

/-- The offset of a step's block, in slopes. -/
def cjOf (v2 : F .f32) (qw kw : BitVec 32) : F .f32 :=
  Scalar.mulf v2 (Scalar.sitofp .f32 (Scalar.subi (Scalar.muli qw 512#32) (Scalar.muli kw 1024#32)))
/-- The running maximum before the step: the mask at a row's first block. -/
def mOldOf (kw : BitVec 32) (m : Vec F S1x1x512 .f32) : FVec F S1x512 .f32 :=
  Scalar.select (Scalar.cmpi .eq kw 0#32) (broadcast S1x512 (Named.named κ "mask" 0xF149F2CA#32 : F .f32)) (shapeCast S1x512 m shapeCasts_S1x1x512_S1x512)
/-- and after it. -/
def mNewOf (mo : FVec F S1x512 .f32) (mx : Vec F S1x1x512 .f32) (cj : F .f32) : FVec F S1x512 .f32 :=
  maximumf mo (subf (shapeCast S1x512 mx shapeCasts_S1x1x512_S1x512) (broadcast S1x512 cj))
/-- The weights of the step's keys. -/
def pHalf (s : Vec F S1x512x512 .f32) (mn : FVec F S1x512 .f32) (cj : F .f32) : FVec F S512x512 .bf16 :=
  truncf .bf16 (exp2 (subf (shapeCast S512x512 s shapeCasts_S1x512x512_S512x512)
    (broadcastTo S512x512 (addf mn (broadcast S1x512 cj)) broadcasts_S1x512_S512x512))) bitsLt_bf16_f32
def pFull (s : Vec F S1x1024x512 .f32) (mn : FVec F S1x512 .f32) (cj : F .f32) : FVec F S1024x512 .bf16 :=
  truncf .bf16 (exp2 (subf (shapeCast S1024x512 s shapeCasts_S1x1024x512_S1024x512)
    (broadcastTo S1024x512 (addf mn (broadcast S1x512 cj)) broadcasts_S1x512_S1024x512))) bitsLt_bf16_f32
/-- What the accumulator is scaled to. -/
def accScaled (mo mn : FVec F S1x512 .f32) (acc : Vec F S1x272x512 .f32) : FVec F S272x512 .f32 :=
  mulf (broadcastTo S272x512 (exp2 (subf mo mn)) broadcasts_S1x512_S272x512) (shapeCast S272x512 acc shapeCasts_S1x272x512_S272x512)
/-- The accumulator after the step. -/
def accHalf (mo mn : FVec F S1x512 .f32) (acc : Vec F S1x272x512 .f32) (v : Vec F S1x1x272x512 .bf16) (p : Vec F S1x512x512 .bf16) : FVec F S272x512 .f32 :=
  addf (accScaled mo mn acc) (matmul dot_S272x512_S512x512_S272x512_1_0_0_1_n_n none (shapeCast S272x512 v shapeCasts_S1x1x272x512_S272x512 : FVec F S272x512 .bf16)
    (shapeCast S512x512 p shapeCasts_S1x512x512_S512x512 : FVec F S512x512 .bf16) (constant S272x512 .f32 0x00000000#32))
def accFull (mo mn : FVec F S1x512 .f32) (acc : Vec F S1x272x512 .f32) (v : Vec F S1x1x272x1024 .bf16) (p : Vec F S1x1024x512 .bf16) : FVec F S272x512 .f32 :=
  addf (accScaled mo mn acc) (matmul dot_S272x1024_S1024x512_S272x512_1_0_0_1_n_n none (shapeCast S272x1024 v shapeCasts_S1x1x272x1024_S272x1024 : FVec F S272x1024 .bf16)
    (shapeCast S1024x512 p shapeCasts_S1x1024x512_S1024x512 : FVec F S1024x512 .bf16) (constant S272x512 .f32 0x00000000#32))

/-- The weight of the second map. -/
def lamOf (l : Vec F S4x128 .f32) : FVec F S1x1 .f32 :=
  let x : FVec F S4x128 .f32 := shapeCast S4x128 l shapeCasts_S4x128_S4x128
  let a : FVec F S1 .f32 := multiReduction .add [1] S1 (mulf (extractStridedSlice S1x128 ![0, 0] x slices_S4x128_o0_0_S1x128) (extractStridedSlice S1x128 ![1, 0] x slices_S4x128_o1_0_S1x128)) 0x00000000#32 reduces_S1x128_S1 (.inl rfl) rfl
  let b : FVec F S1 .f32 := multiReduction .add [1] S1 (mulf (extractStridedSlice S1x128 ![2, 0] x slices_S4x128_o2_0_S1x128) (extractStridedSlice S1x128 ![3, 0] x slices_S4x128_o3_0_S1x128)) 0x00000000#32 reduces_S1x128_S1 (.inl rfl) rfl
  addf (subf (exp (shapeCast S1x1 a shapeCasts_S1_S1x1)) (exp (shapeCast S1x1 b shapeCasts_S1_S1x1))) (broadcast S1x1 (Scalar.ofBits .f32 0x3E4CCCCD#32))
/-- A map's accumulator over its denominator. -/
def ratioOf (a : Vec F S1x256x512 .f32) (l : Vec F S1x1x512 .f32) : FVec F S256x512 .f32 :=
  mulf (shapeCast S256x512 a shapeCasts_S1x256x512_S256x512)
    (broadcastTo S256x512 (divf (broadcast S1x512 (Scalar.ofBits .f32 0x3F800000#32)) (shapeCast S1x512 l shapeCasts_S1x1x512_S1x512)) broadcasts_S1x512_S256x512)
/-- The difference of the two maps. -/
def diffOf (lam : FVec F S1x1 .f32) (x y : FVec F S256x512 .f32) : FVec F S256x512 .f32 :=
  subf x (mulf (broadcastTo S256x512 lam broadcasts_S1x1_S256x512) y)
/-- Its normalised rows. -/
def outOf (o : FVec F S256x512 .f32) (sub : Vec F S1x256 .f32) : FVec F S512x256 .bf16 :=
  let ss : FVec F S512 .f32 := multiReduction .add [0] S512 (mulf o o) 0x00000000#32 reduces_S256x512_S512 (.inl rfl) rfl
  let ms : FVec F S1x512 .f32 := addf (divf (shapeCast S1x512 ss shapeCasts_S512_S1x512) (broadcast S1x512 (Scalar.ofBits .f32 0x43800000#32))) (broadcast S1x512 (Scalar.ofBits .f32 0x3727C5AC#32))
  let y : FVec F S512x256 .f32 := transpose S512x256 [1, 0] (mulf o (broadcastTo S256x512 (rsqrt ms) broadcasts_S1x512_S256x512)) transposes_S256x512_p1_0_S512x256
  truncf .bf16 (mulf (mulf y (broadcastTo S512x256 (shapeCast S1x256 sub shapeCasts_S1x256_S1x256) broadcasts_S1x256_S512x256))
    (broadcast S512x256 (Scalar.ofBits .f32 0x3F4CCCCD#32))) bitsLt_bf16_f32

/-! ## The programs -/

abbrev PR (F : FTy → Type) (α : Type) := Prog (TpuEff nD τ sig (Elt F) Λ₀ .tc) α

/-- The word of a table at an offset. -/
abbrev word (m : Memref sig .tc .smem S73 .i32) (off : Fin 1 → ℕ) (inb : ∀ a, off a + S1.size a ≤ S73.size a) : PR F (Elt F .i32) :=
  smemLoad m (Rect.unit (s := S73) off S1.size inb) numel1_S1 rfl

abbrev KInb (n : Fin 3 → ℕ) (w : BitVec 32) : Prop := ∀ (mp : Fin 2) (a : Fin 3), offK w mp a + n a ≤ S1x8192x256.size a
abbrev QInb (w : BitVec 32) : Prop := ∀ (mp : Fin 2) (a : Fin 3), offQ w mp a + S1x512x128.size a ≤ S1x8192x256.size a

section Scores

variable (M : Bufs) (b : Bool)

def scHalfMp (kw qw : BitVec 32) (hk : KInb S1x512x128.size kw) (hq : QInb qw) (mp : Fin 2) : PR F Unit := do
  let kv : Vec F S1x512x128 .bf16 ← Prog.lift (.load M.a7 (Rect.unit (s := S1x8192x256) (offK kw mp) S1x512x128.size (hk mp)).toLoadRect (View.loadsAt_vmem h_S1x512x128))
  let xk : Vec F S512x128 .bf16 ← Prog.lift (.load M.a13 (Rect.unit (s := S1024x128) ![0, 0] S512x128.size inb_S1024x128_S512x128_0_0).toLoadRect (View.loadsAt_vmem h_S512x128))
  let qv : Vec F S1x512x128 .bf16 ← Prog.lift (.load M.a6 (Rect.unit (s := S1x8192x256) (offQ qw mp) S1x512x128.size (hq mp)).toLoadRect (View.loadsAt_vmem h_S1x512x128))
  let xq : Vec F S512x128 .bf16 ← Prog.lift (.load M.a14 (Rect.unit (s := S512x128) ![0, 0] S512x128.size inb_S512x128_S512x128_0_0).toLoadRect (View.loadsAt_vmem h_S512x128))
  let co : Vec F S512x512 .f32 ← Prog.lift (.load M.a12 (Rect.unit (s := S512x512) ![0, 0] S512x512.size inb_S512x512_S512x512_0_0).toLoadRect (View.loadsAt_vmem h_S512x512))
  let _ ← Prog.lift (.load (M.s b) (Rect.unit (s := S2x1024x512) ![mp.val, 0, 0] S1x512x512.size (inbS512 mp)).toLoadRect (View.loadsAt_vmem h_S1x512x512))
  Prog.lift (.store (M.s b) (Rect.unit (s := S2x1024x512) ![mp.val, 0, 0] S1x512x512.size (inbS512 mp))
    (shapeCast S1x512x512 (addf (dotHalf kv xk qv xq) co) shapeCasts_S512x512_S1x512x512) Finset.univ (View.stores_vmem_bits_univ h_S1x512x512 rfl) (.inl rfl))
  let _ ← Prog.lift (.load (M.mx b) (Rect.unit (s := S2x1x512) ![mp.val, 0, 0] S1x1x512.size (inbM mp)).toLoadRect (View.loadsAt_vmem h_S1x1x512))
  Prog.lift (.store (M.mx b) (Rect.unit (s := S2x1x512) ![mp.val, 0, 0] S1x1x512.size (inbM mp))
    (shapeCast S1x1x512 (colMax (addf (dotHalf kv xk qv xq) co)) shapeCasts_S1x512_S1x1x512) Finset.univ (View.stores_vmem_bits_univ h_S1x1x512 rfl) (.inl rfl))

def scLastMp (kw qw : BitVec 32) (hk : KInb S1x1024x128.size kw) (hq : QInb qw) (mp : Fin 2) : PR F Unit := do
  let kv : Vec F S1x1024x128 .bf16 ← Prog.lift (.load M.a7 (Rect.unit (s := S1x8192x256) (offK kw mp) S1x1024x128.size (hk mp)).toLoadRect (View.loadsAt_vmem h_S1x1024x128))
  let xk : Vec F S1024x128 .bf16 ← Prog.lift (.load M.a13 (Rect.unit (s := S1024x128) ![0, 0] S1024x128.size inb_S1024x128_S1024x128_0_0).toLoadRect (View.loadsAt_vmem h_S1024x128))
  let qv : Vec F S1x512x128 .bf16 ← Prog.lift (.load M.a6 (Rect.unit (s := S1x8192x256) (offQ qw mp) S1x512x128.size (hq mp)).toLoadRect (View.loadsAt_vmem h_S1x512x128))
  let xq : Vec F S512x128 .bf16 ← Prog.lift (.load M.a14 (Rect.unit (s := S512x128) ![0, 0] S512x128.size inb_S512x128_S512x128_0_0).toLoadRect (View.loadsAt_vmem h_S512x128))
  let co : Vec F S512x512 .f32 ← Prog.lift (.load M.a12 (Rect.unit (s := S512x512) ![0, 0] S512x512.size inb_S512x512_S512x512_0_0).toLoadRect (View.loadsAt_vmem h_S512x512))
  let _ ← Prog.lift (.load (M.s b) (Rect.unit (s := S2x1024x512) ![mp.val, 512, 0] S1x512x512.size (inbS512' mp)).toLoadRect (View.loadsAt_vmem h_S1x512x512))
  Prog.lift (.store (M.s b) (Rect.unit (s := S2x1024x512) ![mp.val, 512, 0] S1x512x512.size (inbS512' mp))
    (shapeCast S1x512x512 (highHalf (dotFull kv xk qv xq) co) shapeCasts_S512x512_S1x512x512) Finset.univ (View.stores_vmem_bits_univ h_S1x512x512 rfl) (.inl rfl))
  let _ ← Prog.lift (.load (M.s b) (Rect.unit (s := S2x1024x512) ![mp.val, 0, 0] S1x512x512.size (inbS512 mp)).toLoadRect (View.loadsAt_vmem h_S1x512x512))
  Prog.lift (.store (M.s b) (Rect.unit (s := S2x1024x512) ![mp.val, 0, 0] S1x512x512.size (inbS512 mp))
    (shapeCast S1x512x512 (lowHalf (dotFull kv xk qv xq)) shapeCasts_S512x512_S1x512x512) Finset.univ (View.stores_vmem_bits_univ h_S1x512x512 rfl) (.inl rfl))
  let _ ← Prog.lift (.load (M.mx b) (Rect.unit (s := S2x1x512) ![mp.val, 0, 0] S1x1x512.size (inbM mp)).toLoadRect (View.loadsAt_vmem h_S1x1x512))
  Prog.lift (.store (M.mx b) (Rect.unit (s := S2x1x512) ![mp.val, 0, 0] S1x1x512.size (inbM mp))
    (shapeCast S1x1x512 (maximumf (colMax (highHalf (dotFull kv xk qv xq) co)) (colMax (lowHalf (dotFull kv xk qv xq)))) shapeCasts_S1x512_S1x1x512) Finset.univ (View.stores_vmem_bits_univ h_S1x1x512 rfl) (.inl rfl))

def scFullMp (kw qw : BitVec 32) (hk : KInb S1x1024x128.size kw) (hq : QInb qw) (mp : Fin 2) : PR F Unit := do
  let kv : Vec F S1x1024x128 .bf16 ← Prog.lift (.load M.a7 (Rect.unit (s := S1x8192x256) (offK kw mp) S1x1024x128.size (hk mp)).toLoadRect (View.loadsAt_vmem h_S1x1024x128))
  let xk : Vec F S1024x128 .bf16 ← Prog.lift (.load M.a13 (Rect.unit (s := S1024x128) ![0, 0] S1024x128.size inb_S1024x128_S1024x128_0_0).toLoadRect (View.loadsAt_vmem h_S1024x128))
  let qv : Vec F S1x512x128 .bf16 ← Prog.lift (.load M.a6 (Rect.unit (s := S1x8192x256) (offQ qw mp) S1x512x128.size (hq mp)).toLoadRect (View.loadsAt_vmem h_S1x512x128))
  let xq : Vec F S512x128 .bf16 ← Prog.lift (.load M.a14 (Rect.unit (s := S512x128) ![0, 0] S512x128.size inb_S512x128_S512x128_0_0).toLoadRect (View.loadsAt_vmem h_S512x128))
  let _ ← Prog.lift (.load (M.s b) (Rect.unit (s := S2x1024x512) ![mp.val, 0, 0] S1x1024x512.size (inbS1024 mp)).toLoadRect (View.loadsAt_vmem h_S1x1024x512))
  Prog.lift (.store (M.s b) (Rect.unit (s := S2x1024x512) ![mp.val, 0, 0] S1x1024x512.size (inbS1024 mp))
    (shapeCast S1x1024x512 (dotFull kv xk qv xq) shapeCasts_S1024x512_S1x1024x512) Finset.univ (View.stores_vmem_bits_univ h_S1x1024x512 rfl) (.inl rfl))
  let _ ← Prog.lift (.load (M.mx b) (Rect.unit (s := S2x1x512) ![mp.val, 0, 0] S1x1x512.size (inbM mp)).toLoadRect (View.loadsAt_vmem h_S1x1x512))
  Prog.lift (.store (M.mx b) (Rect.unit (s := S2x1x512) ![mp.val, 0, 0] S1x1x512.size (inbM mp))
    (shapeCast S1x1x512 (colMaxFull (dotFull kv xk qv xq)) shapeCasts_S1x512_S1x1x512) Finset.univ (View.stores_vmem_bits_univ h_S1x1x512 rfl) (.inl rfl))

variable (off : Fin 1 → ℕ) (inb : ∀ a, off a + S1.size a ≤ S73.size a)
  (PQ PK : BitVec 32 → Prop) (dQ : ∀ w, Decidable (PQ w)) (dK : ∀ w, Decidable (PK w))

/-- Scores of a step's last block when it is half a block of keys; -/
def scHalf (hQ : ∀ w, PQ w → QInb w) (hK : ∀ w, PK w → KInb S1x512x128.size w) : PR F Unit := do
  let qw ← word M.a2 off inb
  let hq ← Prog.lift (TpuEff.assume (PQ qw) (dQ qw))
  let kw ← word M.a3 off inb
  let hk ← Prog.lift (TpuEff.assume (PK kw) (dK kw))
  scHalfMp M b kw qw (hK kw hk.down) (hQ qw hq.down) 0
  scHalfMp M b kw qw (hK kw hk.down) (hQ qw hq.down) 1

/-- when it is a whole one; -/
def scLast (hQ : ∀ w, PQ w → QInb w) (hK : ∀ w, PK w → KInb S1x1024x128.size w) : PR F Unit := do
  let qw ← word M.a2 off inb
  let hq ← Prog.lift (TpuEff.assume (PQ qw) (dQ qw))
  let kw ← word M.a3 off inb
  let hk ← Prog.lift (TpuEff.assume (PK kw) (dK kw))
  scLastMp M b kw qw (hK kw hk.down) (hQ qw hq.down) 0
  scLastMp M b kw qw (hK kw hk.down) (hQ qw hq.down) 1

/-- and of a block all of whose keys are seen. -/
def scFull (hQ : ∀ w, PQ w → QInb w) (hK : ∀ w, PK w → KInb S1x1024x128.size w) : PR F Unit := do
  let qw ← word M.a2 off inb
  let hq ← Prog.lift (TpuEff.assume (PQ qw) (dQ qw))
  let kw ← word M.a3 off inb
  let hk ← Prog.lift (TpuEff.assume (PK kw) (dK kw))
  scFullMp M b kw qw (hK kw hk.down) (hQ qw hq.down) 0
  scFullMp M b kw qw (hK kw hk.down) (hQ qw hq.down) 1

end Scores

section Consume

variable (M : Bufs) (b : Bool)

def coHalfMp (kw : BitVec 32) (cj : F .f32) (vv : Vec F S1x1x272x512 .bf16) (mp : Fin 2) : PR F Unit := do
  let mo : Vec F S1x1x512 .f32 ← Prog.lift (.load M.a20 (Rect.unit (s := S2x1x512) ![mp.val, 0, 0] S1x1x512.size (inbM mp)).toLoadRect (View.loadsAt_vmem h_S1x1x512))
  let mx : Vec F S1x1x512 .f32 ← Prog.lift (.load (M.mx b) (Rect.unit (s := S2x1x512) ![mp.val, 0, 0] S1x1x512.size (inbM mp)).toLoadRect (View.loadsAt_vmem h_S1x1x512))
  let _ ← Prog.lift (.load M.a20 (Rect.unit (s := S2x1x512) ![mp.val, 0, 0] S1x1x512.size (inbM mp)).toLoadRect (View.loadsAt_vmem h_S1x1x512))
  Prog.lift (.store M.a20 (Rect.unit (s := S2x1x512) ![mp.val, 0, 0] S1x1x512.size (inbM mp))
    (shapeCast S1x1x512 (mNewOf (mOldOf kw mo) mx cj) shapeCasts_S1x512_S1x1x512) Finset.univ (View.stores_vmem_bits_univ h_S1x1x512 rfl) (.inl rfl))
  let s : Vec F S1x512x512 .f32 ← Prog.lift (.load (M.s b) (Rect.unit (s := S2x1024x512) ![mp.val, 0, 0] S1x512x512.size (inbS512 mp)).toLoadRect (View.loadsAt_vmem h_S1x512x512))
  let _ ← Prog.lift (.load M.a19 (Rect.unit (s := S2x1024x512) ![mp.val, 0, 0] S1x512x512.size (inbS512 mp)).toLoadRect (View.loadsAt_vmem h_S1x512x512))
  Prog.lift (.store M.a19 (Rect.unit (s := S2x1024x512) ![mp.val, 0, 0] S1x512x512.size (inbS512 mp))
    (shapeCast S1x512x512 (pHalf s (mNewOf (mOldOf kw mo) mx cj) cj) shapeCasts_S512x512_S1x512x512) Finset.univ
    (View.stores_vmem h_S1x512x512 (M.w19.storeExact_slice rfl _ (packedP512 mp)) (fun _ => rfl)) (.inl rfl))
  let acc : Vec F S1x272x512 .f32 ← Prog.lift (.load M.a21 (Rect.unit (s := S2x272x512) ![mp.val, 0, 0] S1x272x512.size (inbA mp)).toLoadRect (View.loadsAt_vmem h_S1x272x512))
  let p : Vec F S1x512x512 .bf16 ← Prog.lift (.load M.a19 (Rect.unit (s := S2x1024x512) ![mp.val, 0, 0] S1x512x512.size (inbS512 mp)).toLoadRect (View.loadsAt_vmem h_S1x512x512))
  let _ ← Prog.lift (.load M.a21 (Rect.unit (s := S2x272x512) ![mp.val, 0, 0] S1x272x512.size (inbA mp)).toLoadRect (View.loadsAt_vmem h_S1x272x512))
  Prog.lift (.store M.a21 (Rect.unit (s := S2x272x512) ![mp.val, 0, 0] S1x272x512.size (inbA mp))
    (shapeCast S1x272x512 (accHalf (mOldOf kw mo) (mNewOf (mOldOf kw mo) mx cj) acc vv p) shapeCasts_S272x512_S1x272x512) Finset.univ (View.stores_vmem_bits_univ h_S1x272x512 rfl) (.inl rfl))

def coFullMp (kw : BitVec 32) (cj : F .f32) (vv : Vec F S1x1x272x1024 .bf16) (mp : Fin 2) : PR F Unit := do
  let mo : Vec F S1x1x512 .f32 ← Prog.lift (.load M.a20 (Rect.unit (s := S2x1x512) ![mp.val, 0, 0] S1x1x512.size (inbM mp)).toLoadRect (View.loadsAt_vmem h_S1x1x512))
  let mx : Vec F S1x1x512 .f32 ← Prog.lift (.load (M.mx b) (Rect.unit (s := S2x1x512) ![mp.val, 0, 0] S1x1x512.size (inbM mp)).toLoadRect (View.loadsAt_vmem h_S1x1x512))
  let _ ← Prog.lift (.load M.a20 (Rect.unit (s := S2x1x512) ![mp.val, 0, 0] S1x1x512.size (inbM mp)).toLoadRect (View.loadsAt_vmem h_S1x1x512))
  Prog.lift (.store M.a20 (Rect.unit (s := S2x1x512) ![mp.val, 0, 0] S1x1x512.size (inbM mp))
    (shapeCast S1x1x512 (mNewOf (mOldOf kw mo) mx cj) shapeCasts_S1x512_S1x1x512) Finset.univ (View.stores_vmem_bits_univ h_S1x1x512 rfl) (.inl rfl))
  let s : Vec F S1x1024x512 .f32 ← Prog.lift (.load (M.s b) (Rect.unit (s := S2x1024x512) ![mp.val, 0, 0] S1x1024x512.size (inbS1024 mp)).toLoadRect (View.loadsAt_vmem h_S1x1024x512))
  let _ ← Prog.lift (.load M.a19 (Rect.unit (s := S2x1024x512) ![mp.val, 0, 0] S1x1024x512.size (inbS1024 mp)).toLoadRect (View.loadsAt_vmem h_S1x1024x512))
  Prog.lift (.store M.a19 (Rect.unit (s := S2x1024x512) ![mp.val, 0, 0] S1x1024x512.size (inbS1024 mp))
    (shapeCast S1x1024x512 (pFull s (mNewOf (mOldOf kw mo) mx cj) cj) shapeCasts_S1024x512_S1x1024x512) Finset.univ
    (View.stores_vmem h_S1x1024x512 (M.w19.storeExact_slice rfl _ (packedP1024 mp)) (fun _ => rfl)) (.inl rfl))
  let acc : Vec F S1x272x512 .f32 ← Prog.lift (.load M.a21 (Rect.unit (s := S2x272x512) ![mp.val, 0, 0] S1x272x512.size (inbA mp)).toLoadRect (View.loadsAt_vmem h_S1x272x512))
  let p : Vec F S1x1024x512 .bf16 ← Prog.lift (.load M.a19 (Rect.unit (s := S2x1024x512) ![mp.val, 0, 0] S1x1024x512.size (inbS1024 mp)).toLoadRect (View.loadsAt_vmem h_S1x1024x512))
  let _ ← Prog.lift (.load M.a21 (Rect.unit (s := S2x272x512) ![mp.val, 0, 0] S1x272x512.size (inbA mp)).toLoadRect (View.loadsAt_vmem h_S1x272x512))
  Prog.lift (.store M.a21 (Rect.unit (s := S2x272x512) ![mp.val, 0, 0] S1x272x512.size (inbA mp))
    (shapeCast S1x272x512 (accFull (mOldOf kw mo) (mNewOf (mOldOf kw mo) mx cj) acc vv p) shapeCasts_S272x512_S1x272x512) Finset.univ (View.stores_vmem_bits_univ h_S1x272x512 rfl) (.inl rfl))

variable (v2 : F .f32) (off : Fin 1 → ℕ) (inb : ∀ a, off a + S1.size a ≤ S73.size a)
  (PK : BitVec 32 → Prop) (dK : ∀ w, Decidable (PK w))

/-- A step's softmax and product with the values, over half a block of keys; -/
def coHalf (hK : ∀ w, PK w → ∀ a, offV w a + S1x1x272x512.size a ≤ S1x1x272x8192.size a) : PR F Unit := do
  let qw ← word M.a2 off inb
  let kw ← word M.a3 off inb
  let hk ← Prog.lift (TpuEff.assume (PK kw) (dK kw))
  let vv : Vec F S1x1x272x512 .bf16 ← Prog.lift (.load M.a8 (Rect.unit (s := S1x1x272x8192) (offV kw) S1x1x272x512.size (hK kw hk.down)).toLoadRect (View.loadsAt_vmem h_S1x1x272x512))
  coHalfMp M b kw (cjOf v2 qw kw) vv 0
  coHalfMp M b kw (cjOf v2 qw kw) vv 1

/-- and over a block. -/
def coFull (hK : ∀ w, PK w → ∀ a, offV w a + S1x1x272x1024.size a ≤ S1x1x272x8192.size a) : PR F Unit := do
  let qw ← word M.a2 off inb
  let kw ← word M.a3 off inb
  let hk ← Prog.lift (TpuEff.assume (PK kw) (dK kw))
  let vv : Vec F S1x1x272x1024 .bf16 ← Prog.lift (.load M.a8 (Rect.unit (s := S1x1x272x8192) (offV kw) S1x1x272x1024.size (hK kw hk.down)).toLoadRect (View.loadsAt_vmem h_S1x1x272x1024))
  coFullMp M b kw (cjOf v2 qw kw) vv 0
  coFullMp M b kw (cjOf v2 qw kw) vv 1

/-- The output rows of a finished block of queries. -/
def finish (g : BitVec 32 → BitVec 32) (hK : ∀ w, PK w → ∀ a, offO (g w) a + S1x512x256.size a ≤ S1x8192x256.size a)
    (hp : ∀ w (h : PK w), (Rect.unit (s := S1x8192x256) (offO (g w)) S1x512x256.size (hK w h)).PackedRows (EltTy.packing .bf16)) : PR F Unit := do
  let w ← word M.a2 off inb
  let h ← Prog.lift (TpuEff.assume (PK w) (dK w))
  let l : Vec F S4x128 .f32 ← Prog.lift (.load M.a9 (Rect.unit (s := S4x128) ![0, 0] S4x128.size inb_S4x128_S4x128_0_0).toLoadRect (View.loadsAt_vmem h_S4x128))
  let a0 : Vec F S1x256x512 .f32 ← Prog.lift (.load M.a21 (Rect.unit (s := S2x272x512) ![0, 0, 0] S1x256x512.size inb_S2x272x512_S1x256x512_0_0_0).toLoadRect (View.loadsAt_vmem h_S1x256x512))
  let l0 : Vec F S1x1x512 .f32 ← Prog.lift (.load M.a21 (Rect.unit (s := S2x272x512) ![0, 256, 0] S1x1x512.size inb_S2x272x512_S1x1x512_0_256_0).toLoadRect (View.loadsAt_vmem h_S1x1x512))
  let a1 : Vec F S1x256x512 .f32 ← Prog.lift (.load M.a21 (Rect.unit (s := S2x272x512) ![1, 0, 0] S1x256x512.size inb_S2x272x512_S1x256x512_1_0_0).toLoadRect (View.loadsAt_vmem h_S1x256x512))
  let l1 : Vec F S1x1x512 .f32 ← Prog.lift (.load M.a21 (Rect.unit (s := S2x272x512) ![1, 256, 0] S1x1x512.size inb_S2x272x512_S1x1x512_1_256_0).toLoadRect (View.loadsAt_vmem h_S1x1x512))
  let sub : Vec F S1x256 .f32 ← Prog.lift (.load M.a10 (Rect.unit (s := S1x256) ![0, 0] S1x256.size inb_S1x256_S1x256_0_0).toLoadRect (View.loadsAt_vmem h_S1x256))
  let _ ← Prog.lift (.load M.a11 (Rect.unit (s := S1x8192x256) (offO (g w)) S1x512x256.size (hK w h.down)).toLoadRect (View.loadsAt_vmem h_S1x512x256))
  Prog.lift (.store M.a11 (Rect.unit (s := S1x8192x256) (offO (g w)) S1x512x256.size (hK w h.down))
    (shapeCast S1x512x256 (outOf (diffOf (lamOf l) (ratioOf a0 l0) (ratioOf a1 l1)) sub) shapeCasts_S512x256_S1x512x256) Finset.univ
    (View.stores_vmem h_S1x512x256 (M.w11.storeExact_slice rfl _ (hp w h.down)) (fun _ => rfl)) (.inl rfl))

end Consume

/-- The slope over the natural logarithm of two. -/
def v2Of (x : F .f32) : F .f32 := Scalar.mulf x (Named.named κ "log2e" 0x3FB8AA3B#32)

/-- What the body stores before its walk. -/
def initP (M : Bufs) (v2 : F .f32) : PR F Unit := do
  let _ ← Prog.lift (.load M.a12 (Rect.unit (s := S512x512) ![0, 0] S512x512.size inb_S512x512_S512x512_0_0).toLoadRect (View.loadsAt_vmem h_S512x512))
  Prog.lift (.store M.a12 (Rect.unit (s := S512x512) ![0, 0] S512x512.size inb_S512x512_S512x512_0_0) (shapeCast S512x512 (corrOf v2) shapeCasts_S512x512_S512x512) Finset.univ (View.stores_vmem_bits_univ h_S512x512 rfl) (.inl rfl))
  let _ ← Prog.lift (.load M.a13 (Rect.unit (s := S1024x128) ![0, 0] S1024x128.size inb_S1024x128_S1024x128_0_0).toLoadRect (View.loadsAt_vmem h_S1024x128))
  Prog.lift (.store M.a13 (Rect.unit (s := S1024x128) ![0, 0] S1024x128.size inb_S1024x128_S1024x128_0_0) (shapeCast S1024x128 (auxkOf v2) shapeCasts_S1024x128_S1024x128) Finset.univ
    (View.stores_vmem h_S1024x128 (M.w13.storeExact_slice rfl _ packedbf16_S1024x128_S1024x128_0_0) (fun _ => rfl)) (.inl rfl))
  let _ ← Prog.lift (.load M.a14 (Rect.unit (s := S512x128) ![0, 0] S512x128.size inb_S512x128_S512x128_0_0).toLoadRect (View.loadsAt_vmem h_S512x128))
  Prog.lift (.store M.a14 (Rect.unit (s := S512x128) ![0, 0] S512x128.size inb_S512x128_S512x128_0_0) (shapeCast S512x128 (auxqOf v2) shapeCasts_S512x128_S512x128) Finset.univ
    (View.stores_vmem h_S512x128 (M.w14.storeExact_slice rfl _ packedbf16_S512x128_S512x128_0_0) (fun _ => rfl)) (.inl rfl))
  let _ ← Prog.lift (.load M.a21 (Rect.unit (s := S2x272x512) ![0, 0, 0] S2x272x512.size inb_S2x272x512_S2x272x512_0_0_0).toLoadRect (View.loadsAt_vmem h_S2x272x512))
  Prog.lift (.store M.a21 (Rect.unit (s := S2x272x512) ![0, 0, 0] S2x272x512.size inb_S2x272x512_S2x272x512_0_0_0)
    (shapeCast S2x272x512 (broadcast S2x272x512 (Scalar.ofBits .f32 0x00000000#32 : F .f32)) shapeCasts_S2x272x512_S2x272x512) Finset.univ (View.stores_vmem_bits_univ h_S2x272x512 rfl) (.inl rfl))
  let _ ← Prog.lift (.load M.a20 (Rect.unit (s := S2x1x512) ![0, 0, 0] S2x1x512.size inb_S2x1x512_S2x1x512_0_0_0).toLoadRect (View.loadsAt_vmem h_S2x1x512))
  Prog.lift (.store M.a20 (Rect.unit (s := S2x1x512) ![0, 0, 0] S2x1x512.size inb_S2x1x512_S2x1x512_0_0_0)
    (shapeCast S2x1x512 (broadcast S2x1x512 (Named.named κ "mask" 0xF149F2CA#32 : F .f32)) shapeCasts_S2x1x512_S2x1x512) Finset.univ (View.stores_vmem_bits_univ h_S2x1x512 rfl) (.inl rfl))

end Cert.Attn

end
-- ==== Proof.Run.State.lean ====
/- The state of the body's buffers and the triples of its small programs: each program runs deterministically from one
   state to the next, and the state it leaves is a plain function of the one it met. -/
module

public import proofs.«01_k».proof.Proof.Run.Steps

@[expose] public section

set_option maxRecDepth 16384

noncomputable section

namespace Cert.Attn

open Cert.KernelIdeal Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)

variable {F : FTy → Type} [FloatOps F] [Named F]

local notation "𝕄" => MT nD τ sig Unit (Elt F) ℕ (UU nD τ) ℕ

/-- What the body's buffers hold. -/
structure St (F : FTy → Type) where
  x2 : S73.Idx → Elt F .i32
  x3 : S73.Idx → Elt F .i32
  x4 : S73.Idx → Elt F .i32
  x5 : S8.Idx → Elt F .f32
  x6 : S1x8192x256.Idx → Elt F .bf16
  x7 : S1x8192x256.Idx → Elt F .bf16
  x8 : S1x1x272x8192.Idx → Elt F .bf16
  x9 : S4x128.Idx → Elt F .f32
  x10 : S1x256.Idx → Elt F .f32
  x11 : S1x8192x256.Idx → Elt F .bf16
  x12 : S512x512.Idx → Elt F .f32
  x13 : S1024x128.Idx → Elt F .bf16
  x14 : S512x128.Idx → Elt F .bf16
  x15 : S2x1024x512.Idx → Elt F .f32
  x16 : S2x1024x512.Idx → Elt F .f32
  x17 : S2x1x512.Idx → Elt F .f32
  x18 : S2x1x512.Idx → Elt F .f32
  x19 : S2x1024x512.Idx → Elt F .bf16
  x20 : S2x1x512.Idx → Elt F .f32
  x21 : S2x272x512.Idx → Elt F .f32

/-- The shares the input buffers are held at. -/
abbrev Shares := Fin 9 → PosShare TreeShare

/-- The body's buffers at a state. -/
def Own (c : Dev nD) (M : Bufs) (q : Shares) (st : St F) : sProp 𝕄 :=
  iprop(owns (c : Thread nD τ) M.a2 (q 0) st.x2 ∗ owns (c : Thread nD τ) M.a3 (q 1) st.x3 ∗ owns (c : Thread nD τ) M.a4 (q 2) st.x4 ∗ owns (c : Thread nD τ) M.a5 (q 3) st.x5 ∗ owns (c : Thread nD τ) M.a6 (q 4) st.x6 ∗ owns (c : Thread nD τ) M.a7 (q 5) st.x7 ∗ owns (c : Thread nD τ) M.a8 (q 6) st.x8 ∗ owns (c : Thread nD τ) M.a9 (q 7) st.x9 ∗ owns (c : Thread nD τ) M.a10 (q 8) st.x10 ∗ owns (c : Thread nD τ) M.a11 fullShare st.x11 ∗ owns (c : Thread nD τ) M.a12 fullShare st.x12 ∗ owns (c : Thread nD τ) M.a13 fullShare st.x13 ∗ owns (c : Thread nD τ) M.a14 fullShare st.x14 ∗ owns (c : Thread nD τ) M.a15 fullShare st.x15 ∗ owns (c : Thread nD τ) M.a16 fullShare st.x16 ∗ owns (c : Thread nD τ) M.a17 fullShare st.x17 ∗ owns (c : Thread nD τ) M.a18 fullShare st.x18 ∗ owns (c : Thread nD τ) M.a19 fullShare st.x19 ∗ owns (c : Thread nD τ) M.a20 fullShare st.x20 ∗ owns (c : Thread nD τ) M.a21 fullShare st.x21)

variable {c : Dev nD} {M : Bufs} {q : Shares} {st : St F}

theorem has2 : Has (Own c M q st) (owns (c : Thread nD τ) M.a2 (q 0) st.x2) (owns (c : Thread nD τ) M.a2 (q 0) st.x2) (Own c M q st) :=
  (Has.head _ _ _)
theorem has3 : Has (Own c M q st) (owns (c : Thread nD τ) M.a3 (q 1) st.x3) (owns (c : Thread nD τ) M.a3 (q 1) st.x3) (Own c M q st) :=
  (Has.tail _ (Has.head _ _ _))
theorem has4 : Has (Own c M q st) (owns (c : Thread nD τ) M.a4 (q 2) st.x4) (owns (c : Thread nD τ) M.a4 (q 2) st.x4) (Own c M q st) :=
  (Has.tail _ (Has.tail _ (Has.head _ _ _)))
theorem has5 : Has (Own c M q st) (owns (c : Thread nD τ) M.a5 (q 3) st.x5) (owns (c : Thread nD τ) M.a5 (q 3) st.x5) (Own c M q st) :=
  (Has.tail _ (Has.tail _ (Has.tail _ (Has.head _ _ _))))
theorem has6 : Has (Own c M q st) (owns (c : Thread nD τ) M.a6 (q 4) st.x6) (owns (c : Thread nD τ) M.a6 (q 4) st.x6) (Own c M q st) :=
  (Has.tail _ (Has.tail _ (Has.tail _ (Has.tail _ (Has.head _ _ _)))))
theorem has7 : Has (Own c M q st) (owns (c : Thread nD τ) M.a7 (q 5) st.x7) (owns (c : Thread nD τ) M.a7 (q 5) st.x7) (Own c M q st) :=
  (Has.tail _ (Has.tail _ (Has.tail _ (Has.tail _ (Has.tail _ (Has.head _ _ _))))))
theorem has8 : Has (Own c M q st) (owns (c : Thread nD τ) M.a8 (q 6) st.x8) (owns (c : Thread nD τ) M.a8 (q 6) st.x8) (Own c M q st) :=
  (Has.tail _ (Has.tail _ (Has.tail _ (Has.tail _ (Has.tail _ (Has.tail _ (Has.head _ _ _)))))))
theorem has9 : Has (Own c M q st) (owns (c : Thread nD τ) M.a9 (q 7) st.x9) (owns (c : Thread nD τ) M.a9 (q 7) st.x9) (Own c M q st) :=
  (Has.tail _ (Has.tail _ (Has.tail _ (Has.tail _ (Has.tail _ (Has.tail _ (Has.tail _ (Has.head _ _ _))))))))
theorem has10 : Has (Own c M q st) (owns (c : Thread nD τ) M.a10 (q 8) st.x10) (owns (c : Thread nD τ) M.a10 (q 8) st.x10) (Own c M q st) :=
  (Has.tail _ (Has.tail _ (Has.tail _ (Has.tail _ (Has.tail _ (Has.tail _ (Has.tail _ (Has.tail _ (Has.head _ _ _)))))))))
theorem has11 (y : S1x8192x256.Idx → Elt F .bf16) : Has (Own c M q st) (owns (c : Thread nD τ) M.a11 fullShare st.x11) (owns (c : Thread nD τ) M.a11 fullShare y) (Own c M q { st with x11 := y }) :=
  (Has.tail _ (Has.tail _ (Has.tail _ (Has.tail _ (Has.tail _ (Has.tail _ (Has.tail _ (Has.tail _ (Has.tail _ (Has.head _ _ _))))))))))
theorem has12 (y : S512x512.Idx → Elt F .f32) : Has (Own c M q st) (owns (c : Thread nD τ) M.a12 fullShare st.x12) (owns (c : Thread nD τ) M.a12 fullShare y) (Own c M q { st with x12 := y }) :=
  (Has.tail _ (Has.tail _ (Has.tail _ (Has.tail _ (Has.tail _ (Has.tail _ (Has.tail _ (Has.tail _ (Has.tail _ (Has.tail _ (Has.head _ _ _)))))))))))
theorem has13 (y : S1024x128.Idx → Elt F .bf16) : Has (Own c M q st) (owns (c : Thread nD τ) M.a13 fullShare st.x13) (owns (c : Thread nD τ) M.a13 fullShare y) (Own c M q { st with x13 := y }) :=
  (Has.tail _ (Has.tail _ (Has.tail _ (Has.tail _ (Has.tail _ (Has.tail _ (Has.tail _ (Has.tail _ (Has.tail _ (Has.tail _ (Has.tail _ (Has.head _ _ _))))))))))))
theorem has14 (y : S512x128.Idx → Elt F .bf16) : Has (Own c M q st) (owns (c : Thread nD τ) M.a14 fullShare st.x14) (owns (c : Thread nD τ) M.a14 fullShare y) (Own c M q { st with x14 := y }) :=
  (Has.tail _ (Has.tail _ (Has.tail _ (Has.tail _ (Has.tail _ (Has.tail _ (Has.tail _ (Has.tail _ (Has.tail _ (Has.tail _ (Has.tail _ (Has.tail _ (Has.head _ _ _)))))))))))))
theorem has15 (y : S2x1024x512.Idx → Elt F .f32) : Has (Own c M q st) (owns (c : Thread nD τ) M.a15 fullShare st.x15) (owns (c : Thread nD τ) M.a15 fullShare y) (Own c M q { st with x15 := y }) :=
  (Has.tail _ (Has.tail _ (Has.tail _ (Has.tail _ (Has.tail _ (Has.tail _ (Has.tail _ (Has.tail _ (Has.tail _ (Has.tail _ (Has.tail _ (Has.tail _ (Has.tail _ (Has.head _ _ _))))))))))))))
theorem has16 (y : S2x1024x512.Idx → Elt F .f32) : Has (Own c M q st) (owns (c : Thread nD τ) M.a16 fullShare st.x16) (owns (c : Thread nD τ) M.a16 fullShare y) (Own c M q { st with x16 := y }) :=
  (Has.tail _ (Has.tail _ (Has.tail _ (Has.tail _ (Has.tail _ (Has.tail _ (Has.tail _ (Has.tail _ (Has.tail _ (Has.tail _ (Has.tail _ (Has.tail _ (Has.tail _ (Has.tail _ (Has.head _ _ _)))))))))))))))
theorem has17 (y : S2x1x512.Idx → Elt F .f32) : Has (Own c M q st) (owns (c : Thread nD τ) M.a17 fullShare st.x17) (owns (c : Thread nD τ) M.a17 fullShare y) (Own c M q { st with x17 := y }) :=
  (Has.tail _ (Has.tail _ (Has.tail _ (Has.tail _ (Has.tail _ (Has.tail _ (Has.tail _ (Has.tail _ (Has.tail _ (Has.tail _ (Has.tail _ (Has.tail _ (Has.tail _ (Has.tail _ (Has.tail _ (Has.head _ _ _))))))))))))))))
theorem has18 (y : S2x1x512.Idx → Elt F .f32) : Has (Own c M q st) (owns (c : Thread nD τ) M.a18 fullShare st.x18) (owns (c : Thread nD τ) M.a18 fullShare y) (Own c M q { st with x18 := y }) :=
  (Has.tail _ (Has.tail _ (Has.tail _ (Has.tail _ (Has.tail _ (Has.tail _ (Has.tail _ (Has.tail _ (Has.tail _ (Has.tail _ (Has.tail _ (Has.tail _ (Has.tail _ (Has.tail _ (Has.tail _ (Has.tail _ (Has.head _ _ _)))))))))))))))))
theorem has19 (y : S2x1024x512.Idx → Elt F .bf16) : Has (Own c M q st) (owns (c : Thread nD τ) M.a19 fullShare st.x19) (owns (c : Thread nD τ) M.a19 fullShare y) (Own c M q { st with x19 := y }) :=
  (Has.tail _ (Has.tail _ (Has.tail _ (Has.tail _ (Has.tail _ (Has.tail _ (Has.tail _ (Has.tail _ (Has.tail _ (Has.tail _ (Has.tail _ (Has.tail _ (Has.tail _ (Has.tail _ (Has.tail _ (Has.tail _ (Has.tail _ (Has.head _ _ _))))))))))))))))))
theorem has20 (y : S2x1x512.Idx → Elt F .f32) : Has (Own c M q st) (owns (c : Thread nD τ) M.a20 fullShare st.x20) (owns (c : Thread nD τ) M.a20 fullShare y) (Own c M q { st with x20 := y }) :=
  (Has.tail _ (Has.tail _ (Has.tail _ (Has.tail _ (Has.tail _ (Has.tail _ (Has.tail _ (Has.tail _ (Has.tail _ (Has.tail _ (Has.tail _ (Has.tail _ (Has.tail _ (Has.tail _ (Has.tail _ (Has.tail _ (Has.tail _ (Has.tail _ (Has.head _ _ _)))))))))))))))))))
theorem has21 (y : S2x272x512.Idx → Elt F .f32) : Has (Own c M q st) (owns (c : Thread nD τ) M.a21 fullShare st.x21) (owns (c : Thread nD τ) M.a21 fullShare y) (Own c M q { st with x21 := y }) :=
  (Has.tail _ (Has.tail _ (Has.tail _ (Has.tail _ (Has.tail _ (Has.tail _ (Has.tail _ (Has.tail _ (Has.tail _ (Has.tail _ (Has.tail _ (Has.tail _ (Has.tail _ (Has.tail _ (Has.tail _ (Has.tail _ (Has.tail _ (Has.tail _ (Has.tail _ (Has.last _ _))))))))))))))))))))

namespace St

def s (st : St F) : Bool → S2x1024x512.Idx → Elt F .f32 | false => st.x15 | true => st.x16
def mx (st : St F) : Bool → S2x1x512.Idx → Elt F .f32 | false => st.x17 | true => st.x18
def setS (st : St F) (b : Bool) (y : S2x1024x512.Idx → Elt F .f32) : St F := match b with | false => { st with x15 := y } | true => { st with x16 := y }
def setMx (st : St F) (b : Bool) (y : S2x1x512.Idx → Elt F .f32) : St F := match b with | false => { st with x17 := y } | true => { st with x18 := y }

end St

theorem hasS (b : Bool) (y : S2x1024x512.Idx → Elt F .f32) : Has (Own c M q st) (owns (c : Thread nD τ) (M.s b) fullShare (st.s b)) (owns (c : Thread nD τ) (M.s b) fullShare y) (Own c M q (st.setS b y)) := by
  cases b
  · exact has15 y
  · exact has16 y
theorem hasMx (b : Bool) (y : S2x1x512.Idx → Elt F .f32) : Has (Own c M q st) (owns (c : Thread nD τ) (M.mx b) fullShare (st.mx b)) (owns (c : Thread nD τ) (M.mx b) fullShare y) (Own c M q (st.setMx b y)) := by
  cases b
  · exact has17 y
  · exact has18 y
theorem hasS' (b : Bool) : Has (Own c M q st) (owns (c : Thread nD τ) (M.s b) fullShare (st.s b)) (owns (c : Thread nD τ) (M.s b) fullShare (st.s b)) (Own c M q st) := by
  cases b
  · exact has15 _
  · exact has16 _
theorem hasMx' (b : Bool) : Has (Own c M q st) (owns (c : Thread nD τ) (M.mx b) fullShare (st.mx b)) (owns (c : Thread nD τ) (M.mx b) fullShare (st.mx b)) (Own c M q st) := by
  cases b
  · exact has17 _
  · exact has18 _

/-- The word of a table at an offset. -/
def wAt (x : S73.Idx → Elt F .i32) (off : Fin 1 → ℕ) (inb : ∀ a, off a + S1.size a ≤ S73.size a) : Elt F .i32 :=
  window x off S1.size inb (Shape.Idx.first (s := S1) (numel1_S1.symm ▸ Nat.one_pos))

variable {off : Fin 1 → ℕ} {inb : ∀ a, off a + S1.size a ≤ S73.size a}

theorem word2_runs : Runs c (Own c M q st) (word M.a2 off inb) (wAt st.x2 off inb) (Own c M q st) := Runs.smem has2
theorem word3_runs : Runs c (Own c M q st) (word M.a3 off inb) (wAt st.x3 off inb) (Own c M q st) := Runs.smem has3
theorem word4_runs : Runs c (Own c M q st) (word M.a4 off inb) (wAt st.x4 off inb) (Own c M q st) := Runs.smem has4

/-! ## The scores -/

variable (b : Bool) (kw qw : BitVec 32)

def dHalf (st : St F) (hk : KInb S1x512x128.size kw) (hq : QInb qw) (mp : Fin 2) : FVec F S512x512 .f32 :=
  addf (dotHalf (window st.x7 (offK kw mp) S1x512x128.size (hk mp)) (window st.x13 ![0, 0] S512x128.size inb_S1024x128_S512x128_0_0)
    (window st.x6 (offQ qw mp) S1x512x128.size (hq mp)) (window st.x14 ![0, 0] S512x128.size inb_S512x128_S512x128_0_0))
    (window st.x12 ![0, 0] S512x512.size inb_S512x512_S512x512_0_0)

def dFull (st : St F) (hk : KInb S1x1024x128.size kw) (hq : QInb qw) (mp : Fin 2) : FVec F S1024x512 .f32 :=
  dotFull (window st.x7 (offK kw mp) S1x1024x128.size (hk mp)) (window st.x13 ![0, 0] S1024x128.size inb_S1024x128_S1024x128_0_0)
    (window st.x6 (offQ qw mp) S1x512x128.size (hq mp)) (window st.x14 ![0, 0] S512x128.size inb_S512x128_S512x128_0_0)

/-- Scores over half a block. -/
def scHalfMpF (hk : KInb S1x512x128.size kw) (hq : QInb qw) (mp : Fin 2) (st : St F) : St F :=
  let st₁ := st.setS b (put (st.s b) ![mp.val, 0, 0] S1x512x512.size (shapeCast S1x512x512 (dHalf kw qw st hk hq mp) shapeCasts_S512x512_S1x512x512))
  st₁.setMx b (put (st₁.mx b) ![mp.val, 0, 0] S1x1x512.size (shapeCast S1x1x512 (colMax (dHalf kw qw st hk hq mp)) shapeCasts_S1x512_S1x1x512))

theorem scHalfMp_runs (hk : KInb S1x512x128.size kw) (hq : QInb qw) (mp : Fin 2) :
    Runs c (Own c M q st) (scHalfMp M b kw qw hk hq mp) ⟨⟩ (Own c M q (scHalfMpF b kw qw hk hq mp st)) := by
  unfold scHalfMp
  refine Runs.bind (Runs.load has7) (Runs.bind (Runs.load (has13 _)) (Runs.bind (Runs.load has6) (Runs.bind (Runs.load (has14 _)) (Runs.bind (Runs.load (has12 _)) ?_))))
  refine Runs.bind (Runs.load (hasS' b)) (Runs.bind (Runs.store (hasS b _)) (Runs.bind (Runs.load (hasMx' b)) (Runs.store (hasMx b _))))

/-- Scores over a row's last block. -/
def scLastMpF (hk : KInb S1x1024x128.size kw) (hq : QInb qw) (mp : Fin 2) (st : St F) : St F :=
  let co := window st.x12 ![0, 0] S512x512.size inb_S512x512_S512x512_0_0
  let st₁ := st.setS b (put (st.s b) ![mp.val, 512, 0] S1x512x512.size (shapeCast S1x512x512 (highHalf (dFull kw qw st hk hq mp) co) shapeCasts_S512x512_S1x512x512))
  let st₂ := st₁.setS b (put (st₁.s b) ![mp.val, 0, 0] S1x512x512.size (shapeCast S1x512x512 (lowHalf (dFull kw qw st hk hq mp)) shapeCasts_S512x512_S1x512x512))
  st₂.setMx b (put (st₂.mx b) ![mp.val, 0, 0] S1x1x512.size
    (shapeCast S1x1x512 (maximumf (colMax (highHalf (dFull kw qw st hk hq mp) co)) (colMax (lowHalf (dFull kw qw st hk hq mp)))) shapeCasts_S1x512_S1x1x512))

theorem scLastMp_runs (hk : KInb S1x1024x128.size kw) (hq : QInb qw) (mp : Fin 2) :
    Runs c (Own c M q st) (scLastMp M b kw qw hk hq mp) ⟨⟩ (Own c M q (scLastMpF b kw qw hk hq mp st)) := by
  unfold scLastMp
  refine Runs.bind (Runs.load has7) (Runs.bind (Runs.load (has13 _)) (Runs.bind (Runs.load has6) (Runs.bind (Runs.load (has14 _)) (Runs.bind (Runs.load (has12 _)) ?_))))
  refine Runs.bind (Runs.load (hasS' b)) (Runs.bind (Runs.store (hasS b _)) (Runs.bind (Runs.load (hasS' b)) (Runs.bind (Runs.store (hasS b _)) (Runs.bind (Runs.load (hasMx' b)) (Runs.store (hasMx b _))))))

/-- Scores over a block all of whose keys are seen. -/
def scFullMpF (hk : KInb S1x1024x128.size kw) (hq : QInb qw) (mp : Fin 2) (st : St F) : St F :=
  let st₁ := st.setS b (put (st.s b) ![mp.val, 0, 0] S1x1024x512.size (shapeCast S1x1024x512 (dFull kw qw st hk hq mp) shapeCasts_S1024x512_S1x1024x512))
  st₁.setMx b (put (st₁.mx b) ![mp.val, 0, 0] S1x1x512.size (shapeCast S1x1x512 (colMaxFull (dFull kw qw st hk hq mp)) shapeCasts_S1x512_S1x1x512))

theorem scFullMp_runs (hk : KInb S1x1024x128.size kw) (hq : QInb qw) (mp : Fin 2) :
    Runs c (Own c M q st) (scFullMp M b kw qw hk hq mp) ⟨⟩ (Own c M q (scFullMpF b kw qw hk hq mp st)) := by
  unfold scFullMp
  refine Runs.bind (Runs.load has7) (Runs.bind (Runs.load (has13 _)) (Runs.bind (Runs.load has6) (Runs.bind (Runs.load (has14 _)) ?_)))
  refine Runs.bind (Runs.load (hasS' b)) (Runs.bind (Runs.store (hasS b _)) (Runs.bind (Runs.load (hasMx' b)) (Runs.store (hasMx b _))))

section Scores

variable {kw qw}
variable {PQ PK : BitVec 32 → Prop} {dQ : ∀ w, Decidable (PQ w)} {dK : ∀ w, Decidable (PK w)} {hQ : ∀ w, PQ w → QInb w}

theorem scHalf_runs {hK : ∀ w, PK w → KInb S1x512x128.size w} (eq : wAt st.x2 off inb = qw) (ek : wAt st.x3 off inb = kw) (pq : PQ qw) (pk : PK kw)
    (hq : QInb qw) (hk : KInb S1x512x128.size kw) :
    Runs c (Own c M q st) (scHalf M b off inb PQ PK dQ dK hQ hK) ⟨⟩ (Own c M q (scHalfMpF b kw qw hk hq 1 (scHalfMpF b kw qw hk hq 0 st))) := by
  subst eq; subst ek
  exact Runs.bind word2_runs (Runs.bind (Runs.assume pq) (Runs.bind word3_runs (Runs.bind (Runs.assume pk)
    (Runs.bind (scHalfMp_runs b _ _ _ _ 0) (scHalfMp_runs b _ _ _ _ 1)))))

theorem scLast_runs {hK : ∀ w, PK w → KInb S1x1024x128.size w} (eq : wAt st.x2 off inb = qw) (ek : wAt st.x3 off inb = kw) (pq : PQ qw) (pk : PK kw)
    (hq : QInb qw) (hk : KInb S1x1024x128.size kw) :
    Runs c (Own c M q st) (scLast M b off inb PQ PK dQ dK hQ hK) ⟨⟩ (Own c M q (scLastMpF b kw qw hk hq 1 (scLastMpF b kw qw hk hq 0 st))) := by
  subst eq; subst ek
  exact Runs.bind word2_runs (Runs.bind (Runs.assume pq) (Runs.bind word3_runs (Runs.bind (Runs.assume pk)
    (Runs.bind (scLastMp_runs b _ _ _ _ 0) (scLastMp_runs b _ _ _ _ 1)))))

theorem scFull_runs {hK : ∀ w, PK w → KInb S1x1024x128.size w} (eq : wAt st.x2 off inb = qw) (ek : wAt st.x3 off inb = kw) (pq : PQ qw) (pk : PK kw)
    (hq : QInb qw) (hk : KInb S1x1024x128.size kw) :
    Runs c (Own c M q st) (scFull M b off inb PQ PK dQ dK hQ hK) ⟨⟩ (Own c M q (scFullMpF b kw qw hk hq 1 (scFullMpF b kw qw hk hq 0 st))) := by
  subst eq; subst ek
  exact Runs.bind word2_runs (Runs.bind (Runs.assume pq) (Runs.bind word3_runs (Runs.bind (Runs.assume pk)
    (Runs.bind (scFullMp_runs b _ _ _ _ 0) (scFullMp_runs b _ _ _ _ 1)))))

end Scores

/-! ## The softmax and the product with the values -/

section Consume

variable (cj : F .f32) (mp : Fin 2)

def mOldS (st : St F) : FVec F S1x512 .f32 := mOldOf kw (window st.x20 ![mp.val, 0, 0] S1x1x512.size (inbM mp))
def mNewS (st : St F) : FVec F S1x512 .f32 := mNewOf (mOldS kw mp st) (window (st.mx b) ![mp.val, 0, 0] S1x1x512.size (inbM mp)) cj

def coHalfMpF (vv : Vec F S1x1x272x512 .bf16) (st : St F) : St F :=
  let st₁ := { st with x20 := put st.x20 ![mp.val, 0, 0] S1x1x512.size (shapeCast S1x1x512 (mNewS b kw cj mp st) shapeCasts_S1x512_S1x1x512) }
  let st₂ := { st₁ with x19 := put st₁.x19 ![mp.val, 0, 0] S1x512x512.size (shapeCast S1x512x512 (pHalf (window (st₁.s b) ![mp.val, 0, 0] S1x512x512.size (inbS512 mp)) (mNewS b kw cj mp st) cj) shapeCasts_S512x512_S1x512x512) }
  { st₂ with x21 := put st₂.x21 ![mp.val, 0, 0] S1x272x512.size (shapeCast S1x272x512 (accHalf (mOldS kw mp st) (mNewS b kw cj mp st) (window st₂.x21 ![mp.val, 0, 0] S1x272x512.size (inbA mp)) vv (window st₂.x19 ![mp.val, 0, 0] S1x512x512.size (inbS512 mp))) shapeCasts_S272x512_S1x272x512) }

theorem coHalfMp_runs (vv : Vec F S1x1x272x512 .bf16) :
    Runs c (Own c M q st) (coHalfMp M b kw cj vv mp) ⟨⟩ (Own c M q (coHalfMpF b kw cj mp vv st)) := by
  unfold coHalfMp
  refine Runs.bind (Runs.load (has20 _)) (Runs.bind (Runs.load (hasMx' b)) (Runs.bind (Runs.load (has20 _)) (Runs.bind (Runs.store (has20 _)) ?_)))
  refine Runs.bind (Runs.load (hasS' b)) (Runs.bind (Runs.load (has19 _)) (Runs.bind (Runs.store (has19 _)) ?_))
  exact Runs.bind (Runs.load (has21 _)) (Runs.bind (Runs.load (has19 _)) (Runs.bind (Runs.load (has21 _)) (Runs.store (has21 _))))

def coFullMpF (vv : Vec F S1x1x272x1024 .bf16) (st : St F) : St F :=
  let st₁ := { st with x20 := put st.x20 ![mp.val, 0, 0] S1x1x512.size (shapeCast S1x1x512 (mNewS b kw cj mp st) shapeCasts_S1x512_S1x1x512) }
  let st₂ := { st₁ with x19 := put st₁.x19 ![mp.val, 0, 0] S1x1024x512.size (shapeCast S1x1024x512 (pFull (window (st₁.s b) ![mp.val, 0, 0] S1x1024x512.size (inbS1024 mp)) (mNewS b kw cj mp st) cj) shapeCasts_S1024x512_S1x1024x512) }
  { st₂ with x21 := put st₂.x21 ![mp.val, 0, 0] S1x272x512.size (shapeCast S1x272x512 (accFull (mOldS kw mp st) (mNewS b kw cj mp st) (window st₂.x21 ![mp.val, 0, 0] S1x272x512.size (inbA mp)) vv (window st₂.x19 ![mp.val, 0, 0] S1x1024x512.size (inbS1024 mp))) shapeCasts_S272x512_S1x272x512) }

theorem coFullMp_runs (vv : Vec F S1x1x272x1024 .bf16) :
    Runs c (Own c M q st) (coFullMp M b kw cj vv mp) ⟨⟩ (Own c M q (coFullMpF b kw cj mp vv st)) := by
  unfold coFullMp
  refine Runs.bind (Runs.load (has20 _)) (Runs.bind (Runs.load (hasMx' b)) (Runs.bind (Runs.load (has20 _)) (Runs.bind (Runs.store (has20 _)) ?_)))
  refine Runs.bind (Runs.load (hasS' b)) (Runs.bind (Runs.load (has19 _)) (Runs.bind (Runs.store (has19 _)) ?_))
  exact Runs.bind (Runs.load (has21 _)) (Runs.bind (Runs.load (has19 _)) (Runs.bind (Runs.load (has21 _)) (Runs.store (has21 _))))

variable {cj} {kw qw} {v2 : F .f32} {PK : BitVec 32 → Prop} {dK : ∀ w, Decidable (PK w)}

def coHalfF (v2 : F .f32) (qw kw : BitVec 32) (hv : ∀ a, offV kw a + S1x1x272x512.size a ≤ S1x1x272x8192.size a) (st : St F) : St F :=
  let vv := window st.x8 (offV kw) S1x1x272x512.size hv
  coHalfMpF b kw (cjOf v2 qw kw) 1 vv (coHalfMpF b kw (cjOf v2 qw kw) 0 vv st)
def coFullF (v2 : F .f32) (qw kw : BitVec 32) (hv : ∀ a, offV kw a + S1x1x272x1024.size a ≤ S1x1x272x8192.size a) (st : St F) : St F :=
  let vv := window st.x8 (offV kw) S1x1x272x1024.size hv
  coFullMpF b kw (cjOf v2 qw kw) 1 vv (coFullMpF b kw (cjOf v2 qw kw) 0 vv st)

theorem coHalf_runs {hK : ∀ w, PK w → ∀ a, offV w a + S1x1x272x512.size a ≤ S1x1x272x8192.size a} (eq : wAt st.x2 off inb = qw) (ek : wAt st.x3 off inb = kw) (pk : PK kw)
    (hv : ∀ a, offV kw a + S1x1x272x512.size a ≤ S1x1x272x8192.size a) :
    Runs c (Own c M q st) (coHalf M b v2 off inb PK dK hK) ⟨⟩ (Own c M q (coHalfF b v2 qw kw hv st)) := by
  subst eq; subst ek
  exact Runs.bind word2_runs (Runs.bind word3_runs (Runs.bind (Runs.assume pk) (Runs.bind (Runs.load has8)
    (Runs.bind (coHalfMp_runs b _ _ 0 _) (coHalfMp_runs b _ _ 1 _)))))

theorem coFull_runs {hK : ∀ w, PK w → ∀ a, offV w a + S1x1x272x1024.size a ≤ S1x1x272x8192.size a} (eq : wAt st.x2 off inb = qw) (ek : wAt st.x3 off inb = kw) (pk : PK kw)
    (hv : ∀ a, offV kw a + S1x1x272x1024.size a ≤ S1x1x272x8192.size a) :
    Runs c (Own c M q st) (coFull M b v2 off inb PK dK hK) ⟨⟩ (Own c M q (coFullF b v2 qw kw hv st)) := by
  subst eq; subst ek
  exact Runs.bind word2_runs (Runs.bind word3_runs (Runs.bind (Runs.assume pk) (Runs.bind (Runs.load has8)
    (Runs.bind (coFullMp_runs b _ _ 0 _) (coFullMp_runs b _ _ 1 _)))))

/-! ## The output rows -/

/-- The rows of a finished block of queries. -/
def outS (st : St F) : FVec F S512x256 .bf16 :=
  outOf (diffOf (lamOf (window st.x9 ![0, 0] S4x128.size inb_S4x128_S4x128_0_0))
    (ratioOf (window st.x21 ![0, 0, 0] S1x256x512.size inb_S2x272x512_S1x256x512_0_0_0) (window st.x21 ![0, 256, 0] S1x1x512.size inb_S2x272x512_S1x1x512_0_256_0))
    (ratioOf (window st.x21 ![1, 0, 0] S1x256x512.size inb_S2x272x512_S1x256x512_1_0_0) (window st.x21 ![1, 256, 0] S1x1x512.size inb_S2x272x512_S1x1x512_1_256_0)))
    (window st.x10 ![0, 0] S1x256.size inb_S1x256_S1x256_0_0)

def finF (w : BitVec 32) (st : St F) : St F :=
  { st with x11 := put st.x11 (offO w) S1x512x256.size (shapeCast S1x512x256 (outS st) shapeCasts_S512x256_S1x512x256) }

theorem finish_runs {w : BitVec 32} {g : BitVec 32 → BitVec 32} {hK : ∀ w, PK w → ∀ a, offO (g w) a + S1x512x256.size a ≤ S1x8192x256.size a}
    {hp : ∀ w (h : PK w), (Rect.unit (s := S1x8192x256) (offO (g w)) S1x512x256.size (hK w h)).PackedRows (EltTy.packing .bf16)}
    (eq : wAt st.x2 off inb = w) (pk : PK w) :
    Runs c (Own c M q st) (finish M off inb PK dK g hK hp) ⟨⟩ (Own c M q (finF (g w) st)) := by
  subst eq
  refine Runs.bind word2_runs (Runs.bind (Runs.assume pk) (Runs.bind (Runs.load has9) ?_))
  refine Runs.bind (Runs.load (has21 _)) (Runs.bind (Runs.load (has21 _)) (Runs.bind (Runs.load (has21 _)) (Runs.bind (Runs.load (has21 _)) ?_)))
  exact Runs.bind (Runs.load has10) (Runs.bind (Runs.load (has11 _)) (Runs.store (has11 _)))

end Consume

/-- The state after what the body stores first. -/
def initF (v2 : F .f32) (st : St F) : St F :=
  let st₁ := { st with x12 := put st.x12 ![0, 0] S512x512.size (shapeCast S512x512 (corrOf v2) shapeCasts_S512x512_S512x512) }
  let st₂ := { st₁ with x13 := put st₁.x13 ![0, 0] S1024x128.size (shapeCast S1024x128 (auxkOf v2) shapeCasts_S1024x128_S1024x128) }
  let st₃ := { st₂ with x14 := put st₂.x14 ![0, 0] S512x128.size (shapeCast S512x128 (auxqOf v2) shapeCasts_S512x128_S512x128) }
  let st₄ := { st₃ with x21 := put st₃.x21 ![0, 0, 0] S2x272x512.size (shapeCast S2x272x512 (broadcast S2x272x512 (Scalar.ofBits .f32 0x00000000#32 : F .f32)) shapeCasts_S2x272x512_S2x272x512) }
  { st₄ with x20 := put st₄.x20 ![0, 0, 0] S2x1x512.size (shapeCast S2x1x512 (broadcast S2x1x512 (Named.named κ "mask" 0xF149F2CA#32 : F .f32)) shapeCasts_S2x1x512_S2x1x512) }

theorem initP_runs (v2 : F .f32) : Runs c (Own c M q st) (initP M v2) ⟨⟩ (Own c M q (initF v2 st)) :=
  Runs.bind (Runs.load (has12 _)) (Runs.bind (Runs.store (has12 _)) (Runs.bind (Runs.load (has13 _)) (Runs.bind (Runs.store (has13 _))
    (Runs.bind (Runs.load (has14 _)) (Runs.bind (Runs.store (has14 _)) (Runs.bind (Runs.load (has21 _)) (Runs.bind (Runs.store (has21 _))
      (Runs.bind (Runs.load (has20 _)) (Runs.store (has20 _))))))))))

end Cert.Attn

end
-- ==== Proof.Run.Walk.lean ====
/- The body of the attention call, written over its small programs: two steps of the walk a round, each a choice of the
   kind of the next step's scores and of what the step at hand does, and the rows of the last block of queries at the end. -/
module

public import proofs.«01_k».proof.Proof.Run.State

@[expose] public section

set_option maxRecDepth 65536

noncomputable section

namespace Cert.Attn

open Cert.KernelIdeal Cert.KernelIdeal.Facts₀ Cert.KernelIdeal.Facts
open Idealize.ShloMosaic Idealize.ShloMosaic.TcCoe Idealize.ShloMosaic.Tactic
open Idealize.SL Idealize.SL.Sem
open VecWindow (window put)

variable {F : FTy → Type} [FloatOps F] [Named F]

/-- The first of a round's two steps. -/
def step1 (M : Bufs) (v2 : F .f32) (c0_i32_79 c1_i32_80 : BitVec 32) (k0_t1 : Fin k0_t1_loop.trips) :
    PR F (Σ' (v286 : BitVec 32) (v288 : Elt F .i32) (v291 : Elt F .i32) (v299 : Elt F .i32), BitVec 32) := do
  let arg22 : BitVec 32 := Scf.iv c0_i32_79 c1_i32_80 k0_t1
  let c2_i32 : BitVec 32 := 2#32
  let v266 : BitVec 32 := Scalar.muli c2_i32 arg22
  let v267 : Index := Scalar.indexCast v266
  let v268 : Elt F .i32 ← smemLoad M.a4 (Rect.unit (s := S73) (k0_off6 k0_t1) S1.size (k0_off6_inb k0_t1)) numel1_S1 rfl
  let c2_i32_109 : BitVec 32 := 2#32
  let v269 : BitVec 1 := Scalar.cmpi .eq v268 c2_i32_109
  let v270 : Index := Scalar.indexCast v266
  let v271 : Elt F .i32 ← smemLoad M.a3 (Rect.unit (s := S73) (k0_off6 k0_t1) S1.size (k0_off6_inb k0_t1)) numel1_S1 rfl
  let c0_i32_110 : BitVec 32 := 0#32
  let v272 : BitVec 1 := Scalar.cmpi .eq v271 c0_i32_110
  let c0_i32_111 : BitVec 32 := 0#32
  let v273 : BitVec 1 := Scalar.cmpi .sgt v266 c0_i32_111
  let v274 : BitVec 1 := Scalar.andi v272 v273
  let c1_i32_112 : BitVec 32 := 1#32
  let c0_i32_113 : BitVec 32 := 0#32
  let v275 : BitVec 32 := Scalar.select v274 c1_i32_112 c0_i32_113
  let c2_i32_114 : BitVec 32 := 2#32
  let v276 : BitVec 32 := Scalar.select v269 c2_i32_114 v275
  let c1_i32_115 : BitVec 32 := 1#32
  let v277 : BitVec 32 := Scalar.addi v266 c1_i32_115
  let v278 : Index := Scalar.indexCast v277
  let v279 : Elt F .i32 ← smemLoad M.a4 (Rect.unit (s := S73) (k0_off7 k0_t1) S1.size (k0_off7_inb k0_t1)) numel1_S1 rfl
  let c3_i32_116 : BitVec 32 := 3#32
  let v280 : BitVec 32 := Scalar.muli v279 c3_i32_116
  let v281 : BitVec 32 := Scalar.addi v280 v276
  let c0_i32_117 : BitVec 32 := 0#32
  let c8_i32 : BitVec 32 := 8#32
  let v282 : BitVec 32 := Scalar.maxsi v281 c0_i32_117
  let v283 : BitVec 32 := Scalar.minsi v282 c8_i32
  let c0_i32_118 : BitVec 32 := 0#32
  let v284 : BitVec 1 := Scalar.cmpi .ne v283 c0_i32_118
  if k0_h1 : k0_cond1 k0_t1 v268 v271 v279 = 1#1 then do
    let c1_i32_132 : BitVec 32 := 1#32
    let v305 : BitVec 32 := Scalar.subi v283 c1_i32_132
    let c0_i32_133 : BitVec 32 := 0#32
    let v306 : BitVec 1 := Scalar.cmpi .ne v305 c0_i32_133
    if k0_h2 : k0_cond2 k0_t1 v268 v271 v279 = 1#1 then do
      let c1_i32_134 : BitVec 32 := 1#32
      let v307 : BitVec 32 := Scalar.subi v305 c1_i32_134
      let c0_i32_135 : BitVec 32 := 0#32
      let v308 : BitVec 1 := Scalar.cmpi .ne v307 c0_i32_135
      if k0_h3 : k0_cond3 k0_t1 v268 v271 v279 = 1#1 then do
        let c1_i32_136 : BitVec 32 := 1#32
        let v309 : BitVec 32 := Scalar.subi v307 c1_i32_136
        let c0_i32_137 : BitVec 32 := 0#32
        let v310 : BitVec 1 := Scalar.cmpi .ne v309 c0_i32_137
        if k0_h4 : k0_cond4 k0_t1 v268 v271 v279 = 1#1 then do
          let c1_i32_138 : BitVec 32 := 1#32
          let v311 : BitVec 32 := Scalar.subi v309 c1_i32_138
          let c0_i32_139 : BitVec 32 := 0#32
          let v312 : BitVec 1 := Scalar.cmpi .ne v311 c0_i32_139
          if k0_h5 : k0_cond5 k0_t1 v268 v271 v279 = 1#1 then do
            let c1_i32_140 : BitVec 32 := 1#32
            let v313 : BitVec 32 := Scalar.subi v311 c1_i32_140
            let c0_i32_141 : BitVec 32 := 0#32
            let v314 : BitVec 1 := Scalar.cmpi .ne v313 c0_i32_141
            if k0_h6 : k0_cond6 k0_t1 v268 v271 v279 = 1#1 then do
              let c1_i32_142 : BitVec 32 := 1#32
              let v315 : BitVec 32 := Scalar.subi v313 c1_i32_142
              let c0_i32_143 : BitVec 32 := 0#32
              let v316 : BitVec 1 := Scalar.cmpi .ne v315 c0_i32_143
              if k0_h7 : k0_cond7 k0_t1 v268 v271 v279 = 1#1 then do
                let c1_i32_144 : BitVec 32 := 1#32
                let v317 : BitVec 32 := Scalar.subi v315 c1_i32_144
                let c0_i32_145 : BitVec 32 := 0#32
                let v318 : BitVec 1 := Scalar.cmpi .ne v317 c0_i32_145
                if k0_h8 : k0_cond8 k0_t1 v268 v271 v279 = 1#1 then do
                  scHalf M true (k0_off8 k0_t1) (k0_off8_inb k0_t1) (k0_chk4 k0_t1 v268 v271 v279) (k0_chk3 k0_t1 v268 v271 v279) (k0_chk4.dec k0_t1 v268 v271 v279) (k0_chk3.dec k0_t1 v268 v271 v279) (fun w h => Fin.forall_fin_two.2 ⟨h.2.1 k0_h1 k0_h2 k0_h3 k0_h4 k0_h5 k0_h6 k0_h7 k0_h8, h.2.2.2 k0_h1 k0_h2 k0_h3 k0_h4 k0_h5 k0_h6 k0_h7 k0_h8⟩) (fun w h => Fin.forall_fin_two.2 ⟨h.2.1 k0_h1 k0_h2 k0_h3 k0_h4 k0_h5 k0_h6 k0_h7 k0_h8, h.2.2.2 k0_h1 k0_h2 k0_h3 k0_h4 k0_h5 k0_h6 k0_h7 k0_h8⟩)
                  coHalf M false v2 (k0_off13 k0_t1) (k0_off13_inb k0_t1) (k0_chk5 k0_t1 v268 v271 v279) (k0_chk5.dec k0_t1 v268 v271 v279) (fun w h => h.2 k0_h1 k0_h2 k0_h3 k0_h4 k0_h5 k0_h6 k0_h7 k0_h8)
                  pure ⟨⟩
                else do
                  scHalf M true (k0_off15 k0_t1) (k0_off15_inb k0_t1) (k0_chk7 k0_t1 v268 v271 v279) (k0_chk6 k0_t1 v268 v271 v279) (k0_chk7.dec k0_t1 v268 v271 v279) (k0_chk6.dec k0_t1 v268 v271 v279) (fun w h => Fin.forall_fin_two.2 ⟨h.2.1 k0_h1 k0_h2 k0_h3 k0_h4 k0_h5 k0_h6 k0_h7 k0_h8, h.2.2.2 k0_h1 k0_h2 k0_h3 k0_h4 k0_h5 k0_h6 k0_h7 k0_h8⟩) (fun w h => Fin.forall_fin_two.2 ⟨h.2.1 k0_h1 k0_h2 k0_h3 k0_h4 k0_h5 k0_h6 k0_h7 k0_h8, h.2.2.2 k0_h1 k0_h2 k0_h3 k0_h4 k0_h5 k0_h6 k0_h7 k0_h8⟩)
                  finish M (k0_off20 k0_t1) (k0_off20_inb k0_t1) (k0_chk8 k0_t1 v268 v271 v279) (k0_chk8.dec k0_t1 v268 v271 v279) (fun w => Scalar.subi w 1#32) (fun w h => h.2.1 k0_h1 k0_h2 k0_h3 k0_h4 k0_h5 k0_h6 k0_h7 k0_h8) (fun w h => h.2.2 k0_h1 k0_h2 k0_h3 k0_h4 k0_h5 k0_h6 k0_h7 k0_h8 (h.2.1 k0_h1 k0_h2 k0_h3 k0_h4 k0_h5 k0_h6 k0_h7 k0_h8))
                  coFull M false v2 (k0_off22 k0_t1) (k0_off22_inb k0_t1) (k0_chk9 k0_t1 v268 v271 v279) (k0_chk9.dec k0_t1 v268 v271 v279) (fun w h => h.2 k0_h1 k0_h2 k0_h3 k0_h4 k0_h5 k0_h6 k0_h7 k0_h8)
                  pure ⟨⟩
                pure ⟨⟩
              else do
                scHalf M true (k0_off24 k0_t1) (k0_off24_inb k0_t1) (k0_chk11 k0_t1 v268 v271 v279) (k0_chk10 k0_t1 v268 v271 v279) (k0_chk11.dec k0_t1 v268 v271 v279) (k0_chk10.dec k0_t1 v268 v271 v279) (fun w h => Fin.forall_fin_two.2 ⟨h.2.1 k0_h1 k0_h2 k0_h3 k0_h4 k0_h5 k0_h6 k0_h7, h.2.2.2 k0_h1 k0_h2 k0_h3 k0_h4 k0_h5 k0_h6 k0_h7⟩) (fun w h => Fin.forall_fin_two.2 ⟨h.2.1 k0_h1 k0_h2 k0_h3 k0_h4 k0_h5 k0_h6 k0_h7, h.2.2.2 k0_h1 k0_h2 k0_h3 k0_h4 k0_h5 k0_h6 k0_h7⟩)
                coFull M false v2 (k0_off29 k0_t1) (k0_off29_inb k0_t1) (k0_chk12 k0_t1 v268 v271 v279) (k0_chk12.dec k0_t1 v268 v271 v279) (fun w h => h.2 k0_h1 k0_h2 k0_h3 k0_h4 k0_h5 k0_h6 k0_h7)
                pure ⟨⟩
              pure ⟨⟩
            else do
              scLast M true (k0_off31 k0_t1) (k0_off31_inb k0_t1) (k0_chk14 k0_t1 v268 v271 v279) (k0_chk13 k0_t1 v268 v271 v279) (k0_chk14.dec k0_t1 v268 v271 v279) (k0_chk13.dec k0_t1 v268 v271 v279) (fun w h => Fin.forall_fin_two.2 ⟨h.2.1 k0_h1 k0_h2 k0_h3 k0_h4 k0_h5 k0_h6, h.2.2.2 k0_h1 k0_h2 k0_h3 k0_h4 k0_h5 k0_h6⟩) (fun w h => Fin.forall_fin_two.2 ⟨h.2.1 k0_h1 k0_h2 k0_h3 k0_h4 k0_h5 k0_h6, h.2.2.2 k0_h1 k0_h2 k0_h3 k0_h4 k0_h5 k0_h6⟩)
              coHalf M false v2 (k0_off36 k0_t1) (k0_off36_inb k0_t1) (k0_chk15 k0_t1 v268 v271 v279) (k0_chk15.dec k0_t1 v268 v271 v279) (fun w h => h.2 k0_h1 k0_h2 k0_h3 k0_h4 k0_h5 k0_h6)
              pure ⟨⟩
            pure ⟨⟩
          else do
            scLast M true (k0_off38 k0_t1) (k0_off38_inb k0_t1) (k0_chk17 k0_t1 v268 v271 v279) (k0_chk16 k0_t1 v268 v271 v279) (k0_chk17.dec k0_t1 v268 v271 v279) (k0_chk16.dec k0_t1 v268 v271 v279) (fun w h => Fin.forall_fin_two.2 ⟨h.2.1 k0_h1 k0_h2 k0_h3 k0_h4 k0_h5, h.2.2.2 k0_h1 k0_h2 k0_h3 k0_h4 k0_h5⟩) (fun w h => Fin.forall_fin_two.2 ⟨h.2.1 k0_h1 k0_h2 k0_h3 k0_h4 k0_h5, h.2.2.2 k0_h1 k0_h2 k0_h3 k0_h4 k0_h5⟩)
            finish M (k0_off43 k0_t1) (k0_off43_inb k0_t1) (k0_chk18 k0_t1 v268 v271 v279) (k0_chk18.dec k0_t1 v268 v271 v279) (fun w => Scalar.subi w 1#32) (fun w h => h.2.1 k0_h1 k0_h2 k0_h3 k0_h4 k0_h5) (fun w h => h.2.2 k0_h1 k0_h2 k0_h3 k0_h4 k0_h5 (h.2.1 k0_h1 k0_h2 k0_h3 k0_h4 k0_h5))
            coFull M false v2 (k0_off45 k0_t1) (k0_off45_inb k0_t1) (k0_chk19 k0_t1 v268 v271 v279) (k0_chk19.dec k0_t1 v268 v271 v279) (fun w h => h.2 k0_h1 k0_h2 k0_h3 k0_h4 k0_h5)
            pure ⟨⟩
          pure ⟨⟩
        else do
          scLast M true (k0_off47 k0_t1) (k0_off47_inb k0_t1) (k0_chk21 k0_t1 v268 v271 v279) (k0_chk20 k0_t1 v268 v271 v279) (k0_chk21.dec k0_t1 v268 v271 v279) (k0_chk20.dec k0_t1 v268 v271 v279) (fun w h => Fin.forall_fin_two.2 ⟨h.2.1 k0_h1 k0_h2 k0_h3 k0_h4, h.2.2.2 k0_h1 k0_h2 k0_h3 k0_h4⟩) (fun w h => Fin.forall_fin_two.2 ⟨h.2.1 k0_h1 k0_h2 k0_h3 k0_h4, h.2.2.2 k0_h1 k0_h2 k0_h3 k0_h4⟩)
          coFull M false v2 (k0_off52 k0_t1) (k0_off52_inb k0_t1) (k0_chk22 k0_t1 v268 v271 v279) (k0_chk22.dec k0_t1 v268 v271 v279) (fun w h => h.2 k0_h1 k0_h2 k0_h3 k0_h4)
          pure ⟨⟩
        pure ⟨⟩
      else do
        scFull M true (k0_off54 k0_t1) (k0_off54_inb k0_t1) (k0_chk24 k0_t1 v268 v271 v279) (k0_chk23 k0_t1 v268 v271 v279) (k0_chk24.dec k0_t1 v268 v271 v279) (k0_chk23.dec k0_t1 v268 v271 v279) (fun w h => Fin.forall_fin_two.2 ⟨h.2.1 k0_h1 k0_h2 k0_h3, h.2.2.2 k0_h1 k0_h2 k0_h3⟩) (fun w h => Fin.forall_fin_two.2 ⟨h.2.1 k0_h1 k0_h2 k0_h3, h.2.2.2 k0_h1 k0_h2 k0_h3⟩)
        coHalf M false v2 (k0_off59 k0_t1) (k0_off59_inb k0_t1) (k0_chk25 k0_t1 v268 v271 v279) (k0_chk25.dec k0_t1 v268 v271 v279) (fun w h => h.2 k0_h1 k0_h2 k0_h3)
        pure ⟨⟩
      pure ⟨⟩
    else do
      scFull M true (k0_off61 k0_t1) (k0_off61_inb k0_t1) (k0_chk27 k0_t1 v268 v271 v279) (k0_chk26 k0_t1 v268 v271 v279) (k0_chk27.dec k0_t1 v268 v271 v279) (k0_chk26.dec k0_t1 v268 v271 v279) (fun w h => Fin.forall_fin_two.2 ⟨h.2.1 k0_h1 k0_h2, h.2.2.2 k0_h1 k0_h2⟩) (fun w h => Fin.forall_fin_two.2 ⟨h.2.1 k0_h1 k0_h2, h.2.2.2 k0_h1 k0_h2⟩)
      finish M (k0_off66 k0_t1) (k0_off66_inb k0_t1) (k0_chk28 k0_t1 v268 v271 v279) (k0_chk28.dec k0_t1 v268 v271 v279) (fun w => Scalar.subi w 1#32) (fun w h => h.2.1 k0_h1 k0_h2) (fun w h => h.2.2 k0_h1 k0_h2 (h.2.1 k0_h1 k0_h2))
      coFull M false v2 (k0_off68 k0_t1) (k0_off68_inb k0_t1) (k0_chk29 k0_t1 v268 v271 v279) (k0_chk29.dec k0_t1 v268 v271 v279) (fun w h => h.2 k0_h1 k0_h2)
      pure ⟨⟩
    pure ⟨⟩
  else do
    scFull M true (k0_off70 k0_t1) (k0_off70_inb k0_t1) (k0_chk31 k0_t1 v268 v271 v279) (k0_chk30 k0_t1 v268 v271 v279) (k0_chk31.dec k0_t1 v268 v271 v279) (k0_chk30.dec k0_t1 v268 v271 v279) (fun w h => Fin.forall_fin_two.2 ⟨h.2.1 k0_h1, h.2.2.2 k0_h1⟩) (fun w h => Fin.forall_fin_two.2 ⟨h.2.1 k0_h1, h.2.2.2 k0_h1⟩)
    coFull M false v2 (k0_off75 k0_t1) (k0_off75_inb k0_t1) (k0_chk32 k0_t1 v268 v271 v279) (k0_chk32.dec k0_t1 v268 v271 v279) (fun w h => h.2 k0_h1)
    pure ⟨⟩
  let c2_i32_119 : BitVec 32 := 2#32
  let v285 : BitVec 32 := Scalar.muli c2_i32_119 arg22
  let c1_i32_120 : BitVec 32 := 1#32
  let v286 : BitVec 32 := Scalar.addi v285 c1_i32_120
  let v287 : Index := Scalar.indexCast v286
  let v288 : Elt F .i32 ← smemLoad M.a4 (Rect.unit (s := S73) (k0_off77 k0_t1) S1.size (k0_off77_inb k0_t1)) numel1_S1 rfl
  let c2_i32_121 : BitVec 32 := 2#32
  let v289 : BitVec 1 := Scalar.cmpi .eq v288 c2_i32_121
  let v290 : Index := Scalar.indexCast v286
  let v291 : Elt F .i32 ← smemLoad M.a3 (Rect.unit (s := S73) (k0_off77 k0_t1) S1.size (k0_off77_inb k0_t1)) numel1_S1 rfl
  let c0_i32_122 : BitVec 32 := 0#32
  let v292 : BitVec 1 := Scalar.cmpi .eq v291 c0_i32_122
  let c0_i32_123 : BitVec 32 := 0#32
  let v293 : BitVec 1 := Scalar.cmpi .sgt v286 c0_i32_123
  let v294 : BitVec 1 := Scalar.andi v292 v293
  let c1_i32_124 : BitVec 32 := 1#32
  let c0_i32_125 : BitVec 32 := 0#32
  let v295 : BitVec 32 := Scalar.select v294 c1_i32_124 c0_i32_125
  let c2_i32_126 : BitVec 32 := 2#32
  let v296 : BitVec 32 := Scalar.select v289 c2_i32_126 v295
  let c1_i32_127 : BitVec 32 := 1#32
  let v297 : BitVec 32 := Scalar.addi v286 c1_i32_127
  let v298 : Index := Scalar.indexCast v297
  let v299 : Elt F .i32 ← smemLoad M.a4 (Rect.unit (s := S73) (k0_off78 k0_t1) S1.size (k0_off78_inb k0_t1)) numel1_S1 rfl
  let c3_i32_128 : BitVec 32 := 3#32
  let v300 : BitVec 32 := Scalar.muli v299 c3_i32_128
  let v301 : BitVec 32 := Scalar.addi v300 v296
  pure ⟨v286, v288, v291, v299, v301⟩

/-- A round. -/
def round (M : Bufs) (v2 : F .f32) (c0_i32_79 c1_i32_80 : BitVec 32) (k0_t1 : Fin k0_t1_loop.trips) : PR F Unit := do
  let ⟨v286, v288, v291, v299, v301⟩ : Σ' (v286 : BitVec 32) (v288 : Elt F .i32) (v291 : Elt F .i32) (v299 : Elt F .i32), BitVec 32 ← step1 M v2 c0_i32_79 c1_i32_80 k0_t1
  let c0_i32_129 : BitVec 32 := 0#32
  let c8_i32_130 : BitVec 32 := 8#32
  let v302 : BitVec 32 := Scalar.maxsi v301 c0_i32_129
  let v303 : BitVec 32 := Scalar.minsi v302 c8_i32_130
  let c0_i32_131 : BitVec 32 := 0#32
  let v304 : BitVec 1 := Scalar.cmpi .ne v303 c0_i32_131
  if k0_h9 : k0_cond9 k0_t1 v288 v291 v299 = 1#1 then do
    let c1_i32_132 : BitVec 32 := 1#32
    let v305 : BitVec 32 := Scalar.subi v303 c1_i32_132
    let c0_i32_133 : BitVec 32 := 0#32
    let v306 : BitVec 1 := Scalar.cmpi .ne v305 c0_i32_133
    if k0_h10 : k0_cond10 k0_t1 v288 v291 v299 = 1#1 then do
      let c1_i32_134 : BitVec 32 := 1#32
      let v307 : BitVec 32 := Scalar.subi v305 c1_i32_134
      let c0_i32_135 : BitVec 32 := 0#32
      let v308 : BitVec 1 := Scalar.cmpi .ne v307 c0_i32_135
      if k0_h11 : k0_cond11 k0_t1 v288 v291 v299 = 1#1 then do
        let c1_i32_136 : BitVec 32 := 1#32
        let v309 : BitVec 32 := Scalar.subi v307 c1_i32_136
        let c0_i32_137 : BitVec 32 := 0#32
        let v310 : BitVec 1 := Scalar.cmpi .ne v309 c0_i32_137
        if k0_h12 : k0_cond12 k0_t1 v288 v291 v299 = 1#1 then do
          let c1_i32_138 : BitVec 32 := 1#32
          let v311 : BitVec 32 := Scalar.subi v309 c1_i32_138
          let c0_i32_139 : BitVec 32 := 0#32
          let v312 : BitVec 1 := Scalar.cmpi .ne v311 c0_i32_139
          if k0_h13 : k0_cond13 k0_t1 v288 v291 v299 = 1#1 then do
            let c1_i32_140 : BitVec 32 := 1#32
            let v313 : BitVec 32 := Scalar.subi v311 c1_i32_140
            let c0_i32_141 : BitVec 32 := 0#32
            let v314 : BitVec 1 := Scalar.cmpi .ne v313 c0_i32_141
            if k0_h14 : k0_cond14 k0_t1 v288 v291 v299 = 1#1 then do
              let c1_i32_142 : BitVec 32 := 1#32
              let v315 : BitVec 32 := Scalar.subi v313 c1_i32_142
              let c0_i32_143 : BitVec 32 := 0#32
              let v316 : BitVec 1 := Scalar.cmpi .ne v315 c0_i32_143
              if k0_h15 : k0_cond15 k0_t1 v288 v291 v299 = 1#1 then do
                let c1_i32_144 : BitVec 32 := 1#32
                let v317 : BitVec 32 := Scalar.subi v315 c1_i32_144
                let c0_i32_145 : BitVec 32 := 0#32
                let v318 : BitVec 1 := Scalar.cmpi .ne v317 c0_i32_145
                if k0_h16 : k0_cond16 k0_t1 v288 v291 v299 = 1#1 then do
                  scHalf M false (k0_off79 k0_t1) (k0_off79_inb k0_t1) (k0_chk34 k0_t1 v288 v291 v299) (k0_chk33 k0_t1 v288 v291 v299) (k0_chk34.dec k0_t1 v288 v291 v299) (k0_chk33.dec k0_t1 v288 v291 v299) (fun w h => Fin.forall_fin_two.2 ⟨h.2.1 k0_h9 k0_h10 k0_h11 k0_h12 k0_h13 k0_h14 k0_h15 k0_h16, h.2.2.2 k0_h9 k0_h10 k0_h11 k0_h12 k0_h13 k0_h14 k0_h15 k0_h16⟩) (fun w h => Fin.forall_fin_two.2 ⟨h.2.1 k0_h9 k0_h10 k0_h11 k0_h12 k0_h13 k0_h14 k0_h15 k0_h16, h.2.2.2 k0_h9 k0_h10 k0_h11 k0_h12 k0_h13 k0_h14 k0_h15 k0_h16⟩)
                  coHalf M true v2 (k0_off84 k0_t1) (k0_off84_inb k0_t1) (k0_chk35 k0_t1 v288 v291 v299) (k0_chk35.dec k0_t1 v288 v291 v299) (fun w h => h.2 k0_h9 k0_h10 k0_h11 k0_h12 k0_h13 k0_h14 k0_h15 k0_h16)
                  pure ⟨⟩
                else do
                  scHalf M false (k0_off86 k0_t1) (k0_off86_inb k0_t1) (k0_chk37 k0_t1 v288 v291 v299) (k0_chk36 k0_t1 v288 v291 v299) (k0_chk37.dec k0_t1 v288 v291 v299) (k0_chk36.dec k0_t1 v288 v291 v299) (fun w h => Fin.forall_fin_two.2 ⟨h.2.1 k0_h9 k0_h10 k0_h11 k0_h12 k0_h13 k0_h14 k0_h15 k0_h16, h.2.2.2 k0_h9 k0_h10 k0_h11 k0_h12 k0_h13 k0_h14 k0_h15 k0_h16⟩) (fun w h => Fin.forall_fin_two.2 ⟨h.2.1 k0_h9 k0_h10 k0_h11 k0_h12 k0_h13 k0_h14 k0_h15 k0_h16, h.2.2.2 k0_h9 k0_h10 k0_h11 k0_h12 k0_h13 k0_h14 k0_h15 k0_h16⟩)
                  finish M (k0_off91 k0_t1) (k0_off91_inb k0_t1) (k0_chk38 k0_t1 v288 v291 v299) (k0_chk38.dec k0_t1 v288 v291 v299) (fun w => Scalar.subi w 1#32) (fun w h => h.2.1 k0_h9 k0_h10 k0_h11 k0_h12 k0_h13 k0_h14 k0_h15 k0_h16) (fun w h => h.2.2 k0_h9 k0_h10 k0_h11 k0_h12 k0_h13 k0_h14 k0_h15 k0_h16 (h.2.1 k0_h9 k0_h10 k0_h11 k0_h12 k0_h13 k0_h14 k0_h15 k0_h16))
                  coFull M true v2 (k0_off93 k0_t1) (k0_off93_inb k0_t1) (k0_chk39 k0_t1 v288 v291 v299) (k0_chk39.dec k0_t1 v288 v291 v299) (fun w h => h.2 k0_h9 k0_h10 k0_h11 k0_h12 k0_h13 k0_h14 k0_h15 k0_h16)
                  pure ⟨⟩
                pure ⟨⟩
              else do
                scHalf M false (k0_off95 k0_t1) (k0_off95_inb k0_t1) (k0_chk41 k0_t1 v288 v291 v299) (k0_chk40 k0_t1 v288 v291 v299) (k0_chk41.dec k0_t1 v288 v291 v299) (k0_chk40.dec k0_t1 v288 v291 v299) (fun w h => Fin.forall_fin_two.2 ⟨h.2.1 k0_h9 k0_h10 k0_h11 k0_h12 k0_h13 k0_h14 k0_h15, h.2.2.2 k0_h9 k0_h10 k0_h11 k0_h12 k0_h13 k0_h14 k0_h15⟩) (fun w h => Fin.forall_fin_two.2 ⟨h.2.1 k0_h9 k0_h10 k0_h11 k0_h12 k0_h13 k0_h14 k0_h15, h.2.2.2 k0_h9 k0_h10 k0_h11 k0_h12 k0_h13 k0_h14 k0_h15⟩)
                coFull M true v2 (k0_off100 k0_t1) (k0_off100_inb k0_t1) (k0_chk42 k0_t1 v288 v291 v299) (k0_chk42.dec k0_t1 v288 v291 v299) (fun w h => h.2 k0_h9 k0_h10 k0_h11 k0_h12 k0_h13 k0_h14 k0_h15)
                pure ⟨⟩
              pure ⟨⟩
            else do
              scLast M false (k0_off102 k0_t1) (k0_off102_inb k0_t1) (k0_chk44 k0_t1 v288 v291 v299) (k0_chk43 k0_t1 v288 v291 v299) (k0_chk44.dec k0_t1 v288 v291 v299) (k0_chk43.dec k0_t1 v288 v291 v299) (fun w h => Fin.forall_fin_two.2 ⟨h.2.1 k0_h9 k0_h10 k0_h11 k0_h12 k0_h13 k0_h14, h.2.2.2 k0_h9 k0_h10 k0_h11 k0_h12 k0_h13 k0_h14⟩) (fun w h => Fin.forall_fin_two.2 ⟨h.2.1 k0_h9 k0_h10 k0_h11 k0_h12 k0_h13 k0_h14, h.2.2.2 k0_h9 k0_h10 k0_h11 k0_h12 k0_h13 k0_h14⟩)
              coHalf M true v2 (k0_off107 k0_t1) (k0_off107_inb k0_t1) (k0_chk45 k0_t1 v288 v291 v299) (k0_chk45.dec k0_t1 v288 v291 v299) (fun w h => h.2 k0_h9 k0_h10 k0_h11 k0_h12 k0_h13 k0_h14)
              pure ⟨⟩
            pure ⟨⟩
          else do
            scLast M false (k0_off109 k0_t1) (k0_off109_inb k0_t1) (k0_chk47 k0_t1 v288 v291 v299) (k0_chk46 k0_t1 v288 v291 v299) (k0_chk47.dec k0_t1 v288 v291 v299) (k0_chk46.dec k0_t1 v288 v291 v299) (fun w h => Fin.forall_fin_two.2 ⟨h.2.1 k0_h9 k0_h10 k0_h11 k0_h12 k0_h13, h.2.2.2 k0_h9 k0_h10 k0_h11 k0_h12 k0_h13⟩) (fun w h => Fin.forall_fin_two.2 ⟨h.2.1 k0_h9 k0_h10 k0_h11 k0_h12 k0_h13, h.2.2.2 k0_h9 k0_h10 k0_h11 k0_h12 k0_h13⟩)
            finish M (k0_off114 k0_t1) (k0_off114_inb k0_t1) (k0_chk48 k0_t1 v288 v291 v299) (k0_chk48.dec k0_t1 v288 v291 v299) (fun w => Scalar.subi w 1#32) (fun w h => h.2.1 k0_h9 k0_h10 k0_h11 k0_h12 k0_h13) (fun w h => h.2.2 k0_h9 k0_h10 k0_h11 k0_h12 k0_h13 (h.2.1 k0_h9 k0_h10 k0_h11 k0_h12 k0_h13))
            coFull M true v2 (k0_off116 k0_t1) (k0_off116_inb k0_t1) (k0_chk49 k0_t1 v288 v291 v299) (k0_chk49.dec k0_t1 v288 v291 v299) (fun w h => h.2 k0_h9 k0_h10 k0_h11 k0_h12 k0_h13)
            pure ⟨⟩
          pure ⟨⟩
        else do
          scLast M false (k0_off118 k0_t1) (k0_off118_inb k0_t1) (k0_chk51 k0_t1 v288 v291 v299) (k0_chk50 k0_t1 v288 v291 v299) (k0_chk51.dec k0_t1 v288 v291 v299) (k0_chk50.dec k0_t1 v288 v291 v299) (fun w h => Fin.forall_fin_two.2 ⟨h.2.1 k0_h9 k0_h10 k0_h11 k0_h12, h.2.2.2 k0_h9 k0_h10 k0_h11 k0_h12⟩) (fun w h => Fin.forall_fin_two.2 ⟨h.2.1 k0_h9 k0_h10 k0_h11 k0_h12, h.2.2.2 k0_h9 k0_h10 k0_h11 k0_h12⟩)
          coFull M true v2 (k0_off123 k0_t1) (k0_off123_inb k0_t1) (k0_chk52 k0_t1 v288 v291 v299) (k0_chk52.dec k0_t1 v288 v291 v299) (fun w h => h.2 k0_h9 k0_h10 k0_h11 k0_h12)
          pure ⟨⟩
        pure ⟨⟩
      else do
        scFull M false (k0_off125 k0_t1) (k0_off125_inb k0_t1) (k0_chk54 k0_t1 v288 v291 v299) (k0_chk53 k0_t1 v288 v291 v299) (k0_chk54.dec k0_t1 v288 v291 v299) (k0_chk53.dec k0_t1 v288 v291 v299) (fun w h => Fin.forall_fin_two.2 ⟨h.2.1 k0_h9 k0_h10 k0_h11, h.2.2.2 k0_h9 k0_h10 k0_h11⟩) (fun w h => Fin.forall_fin_two.2 ⟨h.2.1 k0_h9 k0_h10 k0_h11, h.2.2.2 k0_h9 k0_h10 k0_h11⟩)
        coHalf M true v2 (k0_off130 k0_t1) (k0_off130_inb k0_t1) (k0_chk55 k0_t1 v288 v291 v299) (k0_chk55.dec k0_t1 v288 v291 v299) (fun w h => h.2 k0_h9 k0_h10 k0_h11)
        pure ⟨⟩
      pure ⟨⟩
    else do
      scFull M false (k0_off132 k0_t1) (k0_off132_inb k0_t1) (k0_chk57 k0_t1 v288 v291 v299) (k0_chk56 k0_t1 v288 v291 v299) (k0_chk57.dec k0_t1 v288 v291 v299) (k0_chk56.dec k0_t1 v288 v291 v299) (fun w h => Fin.forall_fin_two.2 ⟨h.2.1 k0_h9 k0_h10, h.2.2.2 k0_h9 k0_h10⟩) (fun w h => Fin.forall_fin_two.2 ⟨h.2.1 k0_h9 k0_h10, h.2.2.2 k0_h9 k0_h10⟩)
      finish M (k0_off137 k0_t1) (k0_off137_inb k0_t1) (k0_chk58 k0_t1 v288 v291 v299) (k0_chk58.dec k0_t1 v288 v291 v299) (fun w => Scalar.subi w 1#32) (fun w h => h.2.1 k0_h9 k0_h10) (fun w h => h.2.2 k0_h9 k0_h10 (h.2.1 k0_h9 k0_h10))
      coFull M true v2 (k0_off139 k0_t1) (k0_off139_inb k0_t1) (k0_chk59 k0_t1 v288 v291 v299) (k0_chk59.dec k0_t1 v288 v291 v299) (fun w h => h.2 k0_h9 k0_h10)
      pure ⟨⟩
    pure ⟨⟩
  else do
    scFull M false (k0_off141 k0_t1) (k0_off141_inb k0_t1) (k0_chk61 k0_t1 v288 v291 v299) (k0_chk60 k0_t1 v288 v291 v299) (k0_chk61.dec k0_t1 v288 v291 v299) (k0_chk60.dec k0_t1 v288 v291 v299) (fun w h => Fin.forall_fin_two.2 ⟨h.2.1 k0_h9, h.2.2.2 k0_h9⟩) (fun w h => Fin.forall_fin_two.2 ⟨h.2.1 k0_h9, h.2.2.2 k0_h9⟩)
    coFull M true v2 (k0_off146 k0_t1) (k0_off146_inb k0_t1) (k0_chk62 k0_t1 v288 v291 v299) (k0_chk62.dec k0_t1 v288 v291 v299) (fun w h => h.2 k0_h9)
    pure ⟨⟩
  pure ⟨⟩

/-- The last block of queries: what is loaded first, -/
def lastA (M : Bufs) : PR F (Σ' (v205 : Elt F .i32) (k0_hw63 : k0_chk63 v205) (v222 : FVec F S1x1 .f32) (v230 : FVec F S256x512 .f32), FVec F S256x512 .f32) := do
  let v205 : Elt F .i32 ← smemLoad M.a2 (Rect.unit (s := S73) ![71] S1.size inb_S73_S1_71) numel1_S1 rfl
  have k0_hw63 : k0_chk63 v205 := (← Prog.lift (TpuEff.assume (k0_chk63 v205) (k0_chk63.dec v205))).down
  let c0_82 : Index := 0#32
  let c0_83 : Index := 0#32
  let v206 : Vec F S4x128 .f32 ← Prog.lift (.load M.a9 (Rect.unit (s := S4x128) ![0, 0] S4x128.size inb_S4x128_S4x128_0_0).toLoadRect (View.loadsAt_vmem h_S4x128))
  have v207 : FVec F S4x128 .f32 := shapeCast S4x128 v206 shapeCasts_S4x128_S4x128
  have v208 : FVec F S1x128 .f32 := extractStridedSlice S1x128 ![0, 0] v207 slices_S4x128_o0_0_S1x128
  have v209 : FVec F S1x128 .f32 := extractStridedSlice S1x128 ![1, 0] v207 slices_S4x128_o1_0_S1x128
  have v210 : FVec F S1x128 .f32 := mulf v208 v209
  have cst_84 : FVec F S1 .f32 := constant S1 .f32 0x00000000#32
  have v211 : FVec F S1 .f32 := multiReduction .add [1] S1 v210 0x00000000#32 reduces_S1x128_S1 (.inl rfl) rfl
  have v212 : FVec F S1x1 .f32 := shapeCast S1x1 v211 shapeCasts_S1_S1x1
  have v213 : FVec F S1x128 .f32 := extractStridedSlice S1x128 ![2, 0] v207 slices_S4x128_o2_0_S1x128
  have v214 : FVec F S1x128 .f32 := extractStridedSlice S1x128 ![3, 0] v207 slices_S4x128_o3_0_S1x128
  have v215 : FVec F S1x128 .f32 := mulf v213 v214
  have cst_85 : FVec F S1 .f32 := constant S1 .f32 0x00000000#32
  have v216 : FVec F S1 .f32 := multiReduction .add [1] S1 v215 0x00000000#32 reduces_S1x128_S1 (.inl rfl) rfl
  have v217 : FVec F S1x1 .f32 := shapeCast S1x1 v216 shapeCasts_S1_S1x1
  have v218 : FVec F S1x1 .f32 := exp v212
  have v219 : FVec F S1x1 .f32 := exp v217
  have v220 : FVec F S1x1 .f32 := subf v218 v219
  have cst_86 : F .f32 := Scalar.ofBits .f32 0x3E4CCCCD#32
  have v221 : FVec F S1x1 .f32 := broadcast S1x1 cst_86
  have v222 : FVec F S1x1 .f32 := addf v220 v221
  let c0_87 : Index := 0#32
  let c0_88 : Index := 0#32
  let c0_89 : Index := 0#32
  let v223 : Vec F S1x256x512 .f32 ← Prog.lift (.load M.a21 (Rect.unit (s := S2x272x512) ![0, 0, 0] S1x256x512.size inb_S2x272x512_S1x256x512_0_0_0).toLoadRect (View.loadsAt_vmem h_S1x256x512))
  have v224 : FVec F S256x512 .f32 := shapeCast S256x512 v223 shapeCasts_S1x256x512_S256x512
  let c0_90 : Index := 0#32
  let c256 : Index := 256#32
  let c0_91 : Index := 0#32
  let v225 : Vec F S1x1x512 .f32 ← Prog.lift (.load M.a21 (Rect.unit (s := S2x272x512) ![0, 256, 0] S1x1x512.size inb_S2x272x512_S1x1x512_0_256_0).toLoadRect (View.loadsAt_vmem h_S1x1x512))
  have v226 : FVec F S1x512 .f32 := shapeCast S1x512 v225 shapeCasts_S1x1x512_S1x512
  have cst_92 : F .f32 := Scalar.ofBits .f32 0x3F800000#32
  have v227 : FVec F S1x512 .f32 := broadcast S1x512 cst_92
  have v228 : FVec F S1x512 .f32 := divf v227 v226
  have v229 : FVec F S256x512 .f32 := broadcastTo S256x512 v228 broadcasts_S1x512_S256x512
  have v230 : FVec F S256x512 .f32 := mulf v224 v229
  let c1_93 : Index := 1#32
  let c0_94 : Index := 0#32
  let c0_95 : Index := 0#32
  let v231 : Vec F S1x256x512 .f32 ← Prog.lift (.load M.a21 (Rect.unit (s := S2x272x512) ![1, 0, 0] S1x256x512.size inb_S2x272x512_S1x256x512_1_0_0).toLoadRect (View.loadsAt_vmem h_S1x256x512))
  have v232 : FVec F S256x512 .f32 := shapeCast S256x512 v231 shapeCasts_S1x256x512_S256x512
  pure ⟨v205, k0_hw63, v222, v230, v232⟩

/-- and its rows. -/
def lastB (M : Bufs) (v205 : Elt F .i32) (k0_hw63 : k0_chk63 v205) (v222 : FVec F S1x1 .f32) (v230 v232 : FVec F S256x512 .f32) : PR F Unit := do
  let v233 : Vec F S1x1x512 .f32 ← Prog.lift (.load M.a21 (Rect.unit (s := S2x272x512) ![1, 256, 0] S1x1x512.size inb_S2x272x512_S1x1x512_1_256_0).toLoadRect (View.loadsAt_vmem h_S1x1x512))
  have v234 : FVec F S1x512 .f32 := shapeCast S1x512 v233 shapeCasts_S1x1x512_S1x512
  have cst_99 : F .f32 := Scalar.ofBits .f32 0x3F800000#32
  have v235 : FVec F S1x512 .f32 := broadcast S1x512 cst_99
  have v236 : FVec F S1x512 .f32 := divf v235 v234
  have v237 : FVec F S256x512 .f32 := broadcastTo S256x512 v236 broadcasts_S1x512_S256x512
  have v238 : FVec F S256x512 .f32 := mulf v232 v237
  have v239 : FVec F S256x512 .f32 := broadcastTo S256x512 v222 broadcasts_S1x1_S256x512
  have v240 : FVec F S256x512 .f32 := mulf v239 v238
  have v241 : FVec F S256x512 .f32 := subf v230 v240
  have v242 : FVec F S256x512 .f32 := mulf v241 v241
  have cst_100 : FVec F S512 .f32 := constant S512 .f32 0x00000000#32
  have v243 : FVec F S512 .f32 := multiReduction .add [0] S512 v242 0x00000000#32 reduces_S256x512_S512 (.inl rfl) rfl
  have v244 : FVec F S1x512 .f32 := shapeCast S1x512 v243 shapeCasts_S512_S1x512
  have cst_101 : F .f32 := Scalar.ofBits .f32 0x43800000#32
  have v245 : FVec F S1x512 .f32 := broadcast S1x512 cst_101
  have v246 : FVec F S1x512 .f32 := divf v244 v245
  have cst_102 : F .f32 := Scalar.ofBits .f32 0x3727C5AC#32
  have v247 : FVec F S1x512 .f32 := broadcast S1x512 cst_102
  have v248 : FVec F S1x512 .f32 := addf v246 v247
  have v249 : FVec F S1x512 .f32 := rsqrt v248
  have v250 : FVec F S256x512 .f32 := broadcastTo S256x512 v249 broadcasts_S1x512_S256x512
  have v251 : FVec F S256x512 .f32 := mulf v241 v250
  have v252 : FVec F S512x256 .f32 := transpose S512x256 [1, 0] v251 transposes_S256x512_p1_0_S512x256
  let c0_103 : Index := 0#32
  let c0_104 : Index := 0#32
  let v253 : Vec F S1x256 .f32 ← Prog.lift (.load M.a10 (Rect.unit (s := S1x256) ![0, 0] S1x256.size inb_S1x256_S1x256_0_0).toLoadRect (View.loadsAt_vmem h_S1x256))
  have v254 : FVec F S1x256 .f32 := shapeCast S1x256 v253 shapeCasts_S1x256_S1x256
  have v255 : FVec F S512x256 .f32 := broadcastTo S512x256 v254 broadcasts_S1x256_S512x256
  have v256 : FVec F S512x256 .f32 := mulf v252 v255
  have cst_105 : F .f32 := Scalar.ofBits .f32 0x3F4CCCCD#32
  have v257 : FVec F S512x256 .f32 := broadcast S512x256 cst_105
  have v258 : FVec F S512x256 .f32 := mulf v256 v257
  have v259 : FVec F S512x256 .bf16 := truncf .bf16 v258 bitsLt_bf16_f32
  let c512_i32_106 : BitVec 32 := 512#32
  let v260 : BitVec 32 := Scalar.muli v205 c512_i32_106
  let v261 : BitVec 32 := v260
  let c0_107 : Index := 0#32
  let v262 : Index := Scalar.indexCast v261
  let c0_108 : Index := 0#32
  let v263 : Vec F S1x512x256 .bf16 ← Prog.lift (.load M.a11 (Rect.unit (s := S1x8192x256) (k0_off148 v205) S1x512x256.size (k0_off148_inb v205 k0_hw63)).toLoadRect (View.loadsAt_vmem h_S1x512x256))
  have v264 : FVec F S512x256 .bf16 := shapeCast S512x256 v263 shapeCasts_S1x512x256_S512x256
  have v265 : FVec F S1x512x256 .bf16 := shapeCast S1x512x256 v259 shapeCasts_S512x256_S1x512x256
  Prog.lift (.store M.a11 (Rect.unit (s := S1x8192x256) (k0_off148 v205) S1x512x256.size (k0_off148_inb v205 k0_hw63)) v265 Finset.univ (View.stores_vmem h_S1x512x256 (M.w11.storeExact_slice rfl _ (k0_off148_packedbf16 v205 k0_hw63)) (fun _ => rfl)) (.inl rfl))
  pure ⟨⟩

/-- The walk, and what is loaded after it. -/
def walkP (M : Bufs) (v2 : F .f32) : PR F (Σ' (v205 : Elt F .i32) (k0_hw63 : k0_chk63 v205) (v222 : FVec F S1x1 .f32) (v230 : FVec F S256x512 .f32), FVec F S256x512 .f32) := do
  Scf.Loop.for k0_t1_loop k0_t1_ok ⟨⟩ fun t _ => round M v2 0#32 1#32 t
  lastA M

/-- The body. -/
def bodyP (M : Bufs) (i : grid0.Coords) : PR F Unit := do
  let x ← smemLoad M.a5 (Rect.unit (s := S8) (k0_off1 i) S1.size (k0_off1_inb i)) numel1_S1 rfl
  initP M (v2Of x)
  scHalf M false ![0] inb_S73_S1_0 k0_chk2 k0_chk1 k0_chk2.dec k0_chk1.dec (fun w h => Fin.forall_fin_two.2 ⟨h.2.1, h.2.2.2⟩) (fun w h => Fin.forall_fin_two.2 ⟨h.2.1, h.2.2.2⟩)
  let ⟨v205, k0_hw63, v222, v230, v232⟩ : Σ' (v205 : Elt F .i32) (k0_hw63 : k0_chk63 v205) (v222 : FVec F S1x1 .f32) (v230 : FVec F S256x512 .f32), FVec F S256x512 .f32 ← walkP M (v2Of x)
  lastB M v205 k0_hw63 v222 v230 v232

set_option maxHeartbeats 4000000 in
theorem step1_eq (M : Bufs) (i : grid0.Coords) (v2 : F .f32) (a b : BitVec 32) (t : Fin k0_t1_loop.trips) :
    k0_part81 i M.a2 M.w2 M.a3 M.w3 M.a4 M.w4 M.a5 M.w5 M.a6 M.w6 M.a7 M.w7 M.a8 M.w8 M.a9 M.w9 M.a10 M.w10 M.a11 M.w11 M.a12 M.w12 M.a13 M.w13 M.a14 M.w14 M.a15 M.w15 M.a16 M.w16 M.a17 M.w17 M.a18 M.w18 M.a19 M.w19 M.a20 M.w20 M.a21 M.w21 v2 a b t = step1 M v2 a b t := by
  sl_kernel_rfl

set_option maxHeartbeats 4000000 in
theorem body_eq (M : Bufs) (i : grid0.Coords) :
    cc0_attn_prompt (F := F) i M.a2 M.w2 M.a3 M.w3 M.a4 M.w4 M.a5 M.w5 M.a6 M.w6 M.a7 M.w7 M.a8 M.w8 M.a9 M.w9 M.a10 M.w10 M.a11 M.w11 M.a12 M.w12 M.a13 M.w13 M.a14 M.w14 M.a15 M.w15 M.a16 M.w16 M.a17 M.w17 M.a18 M.w18 M.a19 M.w19 M.a20 M.w20 M.a21 M.w21 = bodyP M i := by
  sl_kernel_rfl

end Cert.Attn

end
-- ==== Proof.Run.Rounds.lean ====
/- The walk's tables and the triples of the walk: each round takes the state two steps on, and the whole walk is the
   steps taken one after another. -/
module

public import proofs.«01_k».proof.Proof.Run.Walk
public import Idealize.ShloMosaic.Lib.Scf

@[expose] public section

set_option maxRecDepth 65536

noncomputable section

namespace Cert.Attn

open Cert.KernelIdeal Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)

variable {F : FTy → Type} [FloatOps F] [Named F]

local notation "𝕄" => MT nD τ sig Unit (Elt F) ℕ (UU nD τ) ℕ

/-! ## The tables -/

/-- A step's block of queries, -/
def qN (n : ℕ) : BitVec 32 := if h : n < 73 then lit0 ⟨n, h⟩ else 0#32
/-- its block of keys, -/
def jN (n : ℕ) : BitVec 32 := if h : n < 73 then lit1 ⟨n, h⟩ else 0#32
/-- and its kind. -/
def kN (n : ℕ) : BitVec 32 := if h : n < 73 then lit2 ⟨n, h⟩ else 0#32

theorem qN_lt (n : ℕ) : (qN n).toNat < 16 := by
  by_cases h : n < 73
  · have : ∀ n : Fin 73, (qN n.val).toNat < 16 := by decide +kernel
    exact this ⟨n, h⟩
  · simp [qN, h]
theorem jN_lt (n : ℕ) : (jN n).toNat < 8 := by
  by_cases h : n < 73
  · have : ∀ n : Fin 73, (jN n.val).toNat < 8 := by decide +kernel
    exact this ⟨n, h⟩
  · simp [jN, h]
theorem qPred_lt (n : ℕ) (hj : jN n = 0#32) (h0 : 0 < n) (hn : n < 73) : (Scalar.subi (qN n) 1#32).toNat < 16 := by
  have : ∀ n : Fin 73, jN n.val = 0#32 → 0 < n.val → (Scalar.subi (qN n.val) 1#32).toNat < 16 := by decide +kernel
  exact this ⟨n, hn⟩ hj h0

section Bounds

variable {w : BitVec 32}

theorem ofLt {k : ℕ} {P : BitVec 32 → Prop} (h : ∀ i : Fin k, P (BitVec.ofNat 32 i.val)) (hw : w.toNat < k) : P w := by
  have := h ⟨w.toNat, hw⟩
  rwa [BitVec.ofNat_toNat, BitVec.setWidth_eq] at this

theorem qInb (h : w.toNat < 16) : QInb w := ofLt (k := 16) (P := QInb) (by decide +kernel) h
theorem kInb5 (h : w.toNat < 8) : KInb S1x512x128.size w := ofLt (k := 8) (P := KInb S1x512x128.size) (by decide +kernel) h
theorem kInb10 (h : w.toNat < 8) : KInb S1x1024x128.size w := ofLt (k := 8) (P := KInb S1x1024x128.size) (by decide +kernel) h
theorem vInb5 (h : w.toNat < 8) : ∀ a, offV w a + S1x1x272x512.size a ≤ S1x1x272x8192.size a :=
  ofLt (k := 8) (P := fun w => ∀ a, offV w a + S1x1x272x512.size a ≤ S1x1x272x8192.size a) (by decide +kernel) h
theorem vInb10 (h : w.toNat < 8) : ∀ a, offV w a + S1x1x272x1024.size a ≤ S1x1x272x8192.size a :=
  ofLt (k := 8) (P := fun w => ∀ a, offV w a + S1x1x272x1024.size a ≤ S1x1x272x8192.size a) (by decide +kernel) h
theorem oInb (h : w.toNat < 16) : ∀ a, offO w a + S1x512x256.size a ≤ S1x8192x256.size a :=
  ofLt (k := 16) (P := fun w => ∀ a, offO w a + S1x512x256.size a ≤ S1x8192x256.size a) (by decide +kernel) h
theorem mulQ (h : w.toNat < 16) : 512 ∣ (Scalar.muli w 512#32).toNat :=
  ofLt (k := 16) (P := fun w => 512 ∣ (Scalar.muli w 512#32).toNat) (by decide +kernel) h
theorem mulK (h : w.toNat < 8) : 1024 ∣ (Scalar.muli w 1024#32).toNat :=
  ofLt (k := 8) (P := fun w => 1024 ∣ (Scalar.muli w 1024#32).toNat) (by decide +kernel) h
theorem packO (h : w.toNat < 16) (hinb : ∀ a, offO w a + S1x512x256.size a ≤ S1x8192x256.size a) :
    (Rect.unit (s := S1x8192x256) (offO w) S1x512x256.size hinb).PackedRows (EltTy.packing .bf16) :=
  ofLt (k := 16) (P := fun w => S1x8192x256.PackedRowsAt (EltTy.packing .bf16) (offO w) S1x512x256.size (fun _ => 1)) (by decide +kernel) h

end Bounds

/-- The tables' words. -/
theorem wq {x : S73.Idx → Elt F .i32} (hx : x = fun i => lit0 (S73.rowMajor i)) {off : Fin 1 → ℕ} {inb : ∀ a, off a + S1.size a ≤ S73.size a} {n : ℕ}
    (ho : off 0 = n) : wAt x off inb = qN n := by
  have hn : n < 73 := by have : off 0 + 1 ≤ 73 := inb 0; omega
  subst hx
  simp only [qN, dif_pos hn]
  refine congrArg lit0 (Fin.ext ?_)
  refine (Shape.rowMajor_val_one _).trans ?_
  show off 0 + 0 * 1 = n
  omega
theorem wj {x : S73.Idx → Elt F .i32} (hx : x = fun i => lit1 (S73.rowMajor i)) {off : Fin 1 → ℕ} {inb : ∀ a, off a + S1.size a ≤ S73.size a} {n : ℕ}
    (ho : off 0 = n) : wAt x off inb = jN n := by
  have hn : n < 73 := by have : off 0 + 1 ≤ 73 := inb 0; omega
  subst hx
  simp only [jN, dif_pos hn]
  refine congrArg lit1 (Fin.ext ?_)
  refine (Shape.rowMajor_val_one _).trans ?_
  show off 0 + 0 * 1 = n
  omega
theorem wk {x : S73.Idx → Elt F .i32} (hx : x = fun i => lit2 (S73.rowMajor i)) {off : Fin 1 → ℕ} {inb : ∀ a, off a + S1.size a ≤ S73.size a} {n : ℕ}
    (ho : off 0 = n) : wAt x off inb = kN n := by
  have hn : n < 73 := by have : off 0 + 1 ≤ 73 := inb 0; omega
  subst hx
  simp only [kN, dif_pos hn]
  refine congrArg lit2 (Fin.ext ?_)
  refine (Shape.rowMajor_val_one _).trans ?_
  show off 0 + 0 * 1 = n
  omega

theorem o6 : ∀ t : Fin k0_t1_loop.trips, k0_off6 t 0 = 2 * t.val := by decide +kernel
theorem o7 : ∀ t : Fin k0_t1_loop.trips, k0_off7 t 0 = 2 * t.val + 1 := by decide +kernel
theorem o77 : ∀ t : Fin k0_t1_loop.trips, k0_off77 t 0 = 2 * t.val + 1 := by decide +kernel
theorem o78 : ∀ t : Fin k0_t1_loop.trips, k0_off78 t 0 = 2 * t.val + 2 := by decide +kernel

/-! ## The steps -/

/-- Step `n`'s scores into a pair of buffers. -/
def scF (b : Bool) (n : ℕ) (st : St F) : St F :=
  if kN n = 2#32 then scHalfMpF b (jN n) (qN n) (kInb5 (jN_lt n)) (qInb (qN_lt n)) 1 (scHalfMpF b (jN n) (qN n) (kInb5 (jN_lt n)) (qInb (qN_lt n)) 0 st)
  else if kN n = 1#32 then scLastMpF b (jN n) (qN n) (kInb10 (jN_lt n)) (qInb (qN_lt n)) 1 (scLastMpF b (jN n) (qN n) (kInb10 (jN_lt n)) (qInb (qN_lt n)) 0 st)
  else scFullMpF b (jN n) (qN n) (kInb10 (jN_lt n)) (qInb (qN_lt n)) 1 (scFullMpF b (jN n) (qN n) (kInb10 (jN_lt n)) (qInb (qN_lt n)) 0 st)
/-- The rows of the block of queries before step `n`'s, where `n` begins one. -/
def finI (n : ℕ) (st : St F) : St F := if jN n = 0#32 ∧ 0 < n then finF (Scalar.subi (qN n) 1#32) st else st
/-- Step `n`'s softmax and product with the values. -/
def coF (b : Bool) (v2 : F .f32) (n : ℕ) (st : St F) : St F :=
  if kN n = 2#32 then coHalfF b v2 (qN n) (jN n) (vInb5 (jN_lt n)) st else coFullF b v2 (qN n) (jN n) (vInb10 (jN_lt n)) st
/-- A step of the walk. -/
def stepF (b : Bool) (v2 : F .f32) (n : ℕ) (st : St F) : St F := coF b v2 n (finI n (scF (!b) (n + 1) st))

/-- The buffers no step of the walk writes. -/
structure Same (a st : St F) : Prop where
  h2 : st.x2 = a.x2
  h3 : st.x3 = a.x3
  h4 : st.x4 = a.x4
  h5 : st.x5 = a.x5
  h6 : st.x6 = a.x6
  h7 : st.x7 = a.x7
  h8 : st.x8 = a.x8
  h9 : st.x9 = a.x9
  h10 : st.x10 = a.x10
  h12 : st.x12 = a.x12
  h13 : st.x13 = a.x13
  h14 : st.x14 = a.x14

namespace Same

variable {a st : St F}

theorem refl (st : St F) : Same st st := ⟨rfl, rfl, rfl, rfl, rfl, rfl, rfl, rfl, rfl, rfl, rfl, rfl⟩
theorem setS (h : Same a st) (b : Bool) (y) : Same a (st.setS b y) := by
  cases b <;> exact ⟨h.h2, h.h3, h.h4, h.h5, h.h6, h.h7, h.h8, h.h9, h.h10, h.h12, h.h13, h.h14⟩
theorem setMx (h : Same a st) (b : Bool) (y) : Same a (st.setMx b y) := by
  cases b <;> exact ⟨h.h2, h.h3, h.h4, h.h5, h.h6, h.h7, h.h8, h.h9, h.h10, h.h12, h.h13, h.h14⟩
theorem set11 (h : Same a st) (y) : Same a { st with x11 := y } := ⟨h.h2, h.h3, h.h4, h.h5, h.h6, h.h7, h.h8, h.h9, h.h10, h.h12, h.h13, h.h14⟩
theorem set19 (h : Same a st) (y) : Same a { st with x19 := y } := ⟨h.h2, h.h3, h.h4, h.h5, h.h6, h.h7, h.h8, h.h9, h.h10, h.h12, h.h13, h.h14⟩
theorem set20 (h : Same a st) (y) : Same a { st with x20 := y } := ⟨h.h2, h.h3, h.h4, h.h5, h.h6, h.h7, h.h8, h.h9, h.h10, h.h12, h.h13, h.h14⟩
theorem set21 (h : Same a st) (y) : Same a { st with x21 := y } := ⟨h.h2, h.h3, h.h4, h.h5, h.h6, h.h7, h.h8, h.h9, h.h10, h.h12, h.h13, h.h14⟩

theorem scF (h : Same a st) (b : Bool) (n : ℕ) : Same a (scF b n st) := by
  unfold Attn.scF
  split
  · unfold scHalfMpF; exact (((h.setS _ _).setMx _ _).setS _ _).setMx _ _
  split
  · unfold scLastMpF; exact (((((h.setS _ _).setS _ _).setMx _ _).setS _ _).setS _ _).setMx _ _
  · unfold scFullMpF; exact (((h.setS _ _).setMx _ _).setS _ _).setMx _ _
theorem finI (h : Same a st) (n : ℕ) : Same a (finI n st) := by
  unfold Attn.finI
  split
  · exact h.set11 _
  · exact h
theorem coF (h : Same a st) (b : Bool) (v2 : F .f32) (n : ℕ) : Same a (coF b v2 n st) := by
  unfold Attn.coF
  split
  · unfold coHalfF coHalfMpF; exact (((((h.set20 _).set19 _).set21 _).set20 _).set19 _).set21 _
  · unfold coFullF coFullMpF; exact (((((h.set20 _).set19 _).set21 _).set20 _).set19 _).set21 _
theorem stepF (h : Same a st) (b : Bool) (v2 : F .f32) (n : ℕ) : Same a (stepF b v2 n st) := ((h.scF _ _).finI _).coF _ _ _

end Same

/-- The state holds the tables. -/
structure Tab (st : St F) : Prop where
  h2 : st.x2 = fun i => lit0 (S73.rowMajor i)
  h3 : st.x3 = fun i => lit1 (S73.rowMajor i)
  h4 : st.x4 = fun i => lit2 (S73.rowMajor i)

theorem Tab.of {a st : St F} (h : Tab a) (s : Same a st) : Tab st := ⟨s.h2.trans h.h2, s.h3.trans h.h3, s.h4.trans h.h4⟩
theorem Tab.scF {st : St F} (h : Tab st) (b : Bool) (n : ℕ) : Tab (scF b n st) := h.of ((Same.refl st).scF b n)
theorem Tab.finI {st : St F} (h : Tab st) (n : ℕ) : Tab (finI n st) := h.of ((Same.refl st).finI n)
theorem Tab.stepF {st : St F} (h : Tab st) (b : Bool) (v2 : F .f32) (n : ℕ) : Tab (stepF b v2 n st) := h.of ((Same.refl st).stepF b v2 n)

/-! ## A round's choices -/

theorem br1_8 : ∀ t : Fin k0_t1_loop.trips, k0_cond1 t (kN (2 * t.val)) (jN (2 * t.val)) (kN (2 * t.val + 1)) = 1#1 → k0_cond2 t (kN (2 * t.val)) (jN (2 * t.val)) (kN (2 * t.val + 1)) = 1#1 → k0_cond3 t (kN (2 * t.val)) (jN (2 * t.val)) (kN (2 * t.val + 1)) = 1#1 → k0_cond4 t (kN (2 * t.val)) (jN (2 * t.val)) (kN (2 * t.val + 1)) = 1#1 → k0_cond5 t (kN (2 * t.val)) (jN (2 * t.val)) (kN (2 * t.val + 1)) = 1#1 → k0_cond6 t (kN (2 * t.val)) (jN (2 * t.val)) (kN (2 * t.val + 1)) = 1#1 → k0_cond7 t (kN (2 * t.val)) (jN (2 * t.val)) (kN (2 * t.val + 1)) = 1#1 → k0_cond8 t (kN (2 * t.val)) (jN (2 * t.val)) (kN (2 * t.val + 1)) = 1#1 → (kN (2 * t.val + 1) = 2#32) ∧ ¬(jN (2 * t.val) = 0#32 ∧ 0 < 2 * t.val) ∧ kN (2 * t.val) = 2#32 := by decide +kernel
theorem br1_7 : ∀ t : Fin k0_t1_loop.trips, k0_cond1 t (kN (2 * t.val)) (jN (2 * t.val)) (kN (2 * t.val + 1)) = 1#1 → k0_cond2 t (kN (2 * t.val)) (jN (2 * t.val)) (kN (2 * t.val + 1)) = 1#1 → k0_cond3 t (kN (2 * t.val)) (jN (2 * t.val)) (kN (2 * t.val + 1)) = 1#1 → k0_cond4 t (kN (2 * t.val)) (jN (2 * t.val)) (kN (2 * t.val + 1)) = 1#1 → k0_cond5 t (kN (2 * t.val)) (jN (2 * t.val)) (kN (2 * t.val + 1)) = 1#1 → k0_cond6 t (kN (2 * t.val)) (jN (2 * t.val)) (kN (2 * t.val + 1)) = 1#1 → k0_cond7 t (kN (2 * t.val)) (jN (2 * t.val)) (kN (2 * t.val + 1)) = 1#1 → ¬(k0_cond8 t (kN (2 * t.val)) (jN (2 * t.val)) (kN (2 * t.val + 1)) = 1#1) → (kN (2 * t.val + 1) = 2#32) ∧ (jN (2 * t.val) = 0#32 ∧ 0 < 2 * t.val) ∧ kN (2 * t.val) ≠ 2#32 := by decide +kernel
theorem br1_6 : ∀ t : Fin k0_t1_loop.trips, k0_cond1 t (kN (2 * t.val)) (jN (2 * t.val)) (kN (2 * t.val + 1)) = 1#1 → k0_cond2 t (kN (2 * t.val)) (jN (2 * t.val)) (kN (2 * t.val + 1)) = 1#1 → k0_cond3 t (kN (2 * t.val)) (jN (2 * t.val)) (kN (2 * t.val + 1)) = 1#1 → k0_cond4 t (kN (2 * t.val)) (jN (2 * t.val)) (kN (2 * t.val + 1)) = 1#1 → k0_cond5 t (kN (2 * t.val)) (jN (2 * t.val)) (kN (2 * t.val + 1)) = 1#1 → k0_cond6 t (kN (2 * t.val)) (jN (2 * t.val)) (kN (2 * t.val + 1)) = 1#1 → ¬(k0_cond7 t (kN (2 * t.val)) (jN (2 * t.val)) (kN (2 * t.val + 1)) = 1#1) → (kN (2 * t.val + 1) = 2#32) ∧ ¬(jN (2 * t.val) = 0#32 ∧ 0 < 2 * t.val) ∧ kN (2 * t.val) ≠ 2#32 := by decide +kernel
theorem br1_5 : ∀ t : Fin k0_t1_loop.trips, k0_cond1 t (kN (2 * t.val)) (jN (2 * t.val)) (kN (2 * t.val + 1)) = 1#1 → k0_cond2 t (kN (2 * t.val)) (jN (2 * t.val)) (kN (2 * t.val + 1)) = 1#1 → k0_cond3 t (kN (2 * t.val)) (jN (2 * t.val)) (kN (2 * t.val + 1)) = 1#1 → k0_cond4 t (kN (2 * t.val)) (jN (2 * t.val)) (kN (2 * t.val + 1)) = 1#1 → k0_cond5 t (kN (2 * t.val)) (jN (2 * t.val)) (kN (2 * t.val + 1)) = 1#1 → ¬(k0_cond6 t (kN (2 * t.val)) (jN (2 * t.val)) (kN (2 * t.val + 1)) = 1#1) → (kN (2 * t.val + 1) ≠ 2#32 ∧ kN (2 * t.val + 1) = 1#32) ∧ ¬(jN (2 * t.val) = 0#32 ∧ 0 < 2 * t.val) ∧ kN (2 * t.val) = 2#32 := by decide +kernel
theorem br1_4 : ∀ t : Fin k0_t1_loop.trips, k0_cond1 t (kN (2 * t.val)) (jN (2 * t.val)) (kN (2 * t.val + 1)) = 1#1 → k0_cond2 t (kN (2 * t.val)) (jN (2 * t.val)) (kN (2 * t.val + 1)) = 1#1 → k0_cond3 t (kN (2 * t.val)) (jN (2 * t.val)) (kN (2 * t.val + 1)) = 1#1 → k0_cond4 t (kN (2 * t.val)) (jN (2 * t.val)) (kN (2 * t.val + 1)) = 1#1 → ¬(k0_cond5 t (kN (2 * t.val)) (jN (2 * t.val)) (kN (2 * t.val + 1)) = 1#1) → (kN (2 * t.val + 1) ≠ 2#32 ∧ kN (2 * t.val + 1) = 1#32) ∧ (jN (2 * t.val) = 0#32 ∧ 0 < 2 * t.val) ∧ kN (2 * t.val) ≠ 2#32 := by decide +kernel
theorem br1_3 : ∀ t : Fin k0_t1_loop.trips, k0_cond1 t (kN (2 * t.val)) (jN (2 * t.val)) (kN (2 * t.val + 1)) = 1#1 → k0_cond2 t (kN (2 * t.val)) (jN (2 * t.val)) (kN (2 * t.val + 1)) = 1#1 → k0_cond3 t (kN (2 * t.val)) (jN (2 * t.val)) (kN (2 * t.val + 1)) = 1#1 → ¬(k0_cond4 t (kN (2 * t.val)) (jN (2 * t.val)) (kN (2 * t.val + 1)) = 1#1) → (kN (2 * t.val + 1) ≠ 2#32 ∧ kN (2 * t.val + 1) = 1#32) ∧ ¬(jN (2 * t.val) = 0#32 ∧ 0 < 2 * t.val) ∧ kN (2 * t.val) ≠ 2#32 := by decide +kernel
theorem br1_2 : ∀ t : Fin k0_t1_loop.trips, k0_cond1 t (kN (2 * t.val)) (jN (2 * t.val)) (kN (2 * t.val + 1)) = 1#1 → k0_cond2 t (kN (2 * t.val)) (jN (2 * t.val)) (kN (2 * t.val + 1)) = 1#1 → ¬(k0_cond3 t (kN (2 * t.val)) (jN (2 * t.val)) (kN (2 * t.val + 1)) = 1#1) → (kN (2 * t.val + 1) ≠ 2#32 ∧ kN (2 * t.val + 1) ≠ 1#32) ∧ ¬(jN (2 * t.val) = 0#32 ∧ 0 < 2 * t.val) ∧ kN (2 * t.val) = 2#32 := by decide +kernel
theorem br1_1 : ∀ t : Fin k0_t1_loop.trips, k0_cond1 t (kN (2 * t.val)) (jN (2 * t.val)) (kN (2 * t.val + 1)) = 1#1 → ¬(k0_cond2 t (kN (2 * t.val)) (jN (2 * t.val)) (kN (2 * t.val + 1)) = 1#1) → (kN (2 * t.val + 1) ≠ 2#32 ∧ kN (2 * t.val + 1) ≠ 1#32) ∧ (jN (2 * t.val) = 0#32 ∧ 0 < 2 * t.val) ∧ kN (2 * t.val) ≠ 2#32 := by decide +kernel
theorem br1_0 : ∀ t : Fin k0_t1_loop.trips, ¬(k0_cond1 t (kN (2 * t.val)) (jN (2 * t.val)) (kN (2 * t.val + 1)) = 1#1) → (kN (2 * t.val + 1) ≠ 2#32 ∧ kN (2 * t.val + 1) ≠ 1#32) ∧ ¬(jN (2 * t.val) = 0#32 ∧ 0 < 2 * t.val) ∧ kN (2 * t.val) ≠ 2#32 := by decide +kernel
theorem br2_8 : ∀ t : Fin k0_t1_loop.trips, k0_cond9 t (kN (2 * t.val + 1)) (jN (2 * t.val + 1)) (kN (2 * t.val + 2)) = 1#1 → k0_cond10 t (kN (2 * t.val + 1)) (jN (2 * t.val + 1)) (kN (2 * t.val + 2)) = 1#1 → k0_cond11 t (kN (2 * t.val + 1)) (jN (2 * t.val + 1)) (kN (2 * t.val + 2)) = 1#1 → k0_cond12 t (kN (2 * t.val + 1)) (jN (2 * t.val + 1)) (kN (2 * t.val + 2)) = 1#1 → k0_cond13 t (kN (2 * t.val + 1)) (jN (2 * t.val + 1)) (kN (2 * t.val + 2)) = 1#1 → k0_cond14 t (kN (2 * t.val + 1)) (jN (2 * t.val + 1)) (kN (2 * t.val + 2)) = 1#1 → k0_cond15 t (kN (2 * t.val + 1)) (jN (2 * t.val + 1)) (kN (2 * t.val + 2)) = 1#1 → k0_cond16 t (kN (2 * t.val + 1)) (jN (2 * t.val + 1)) (kN (2 * t.val + 2)) = 1#1 → (kN (2 * t.val + 2) = 2#32) ∧ ¬(jN (2 * t.val + 1) = 0#32 ∧ 0 < 2 * t.val + 1) ∧ kN (2 * t.val + 1) = 2#32 := by decide +kernel
theorem br2_7 : ∀ t : Fin k0_t1_loop.trips, k0_cond9 t (kN (2 * t.val + 1)) (jN (2 * t.val + 1)) (kN (2 * t.val + 2)) = 1#1 → k0_cond10 t (kN (2 * t.val + 1)) (jN (2 * t.val + 1)) (kN (2 * t.val + 2)) = 1#1 → k0_cond11 t (kN (2 * t.val + 1)) (jN (2 * t.val + 1)) (kN (2 * t.val + 2)) = 1#1 → k0_cond12 t (kN (2 * t.val + 1)) (jN (2 * t.val + 1)) (kN (2 * t.val + 2)) = 1#1 → k0_cond13 t (kN (2 * t.val + 1)) (jN (2 * t.val + 1)) (kN (2 * t.val + 2)) = 1#1 → k0_cond14 t (kN (2 * t.val + 1)) (jN (2 * t.val + 1)) (kN (2 * t.val + 2)) = 1#1 → k0_cond15 t (kN (2 * t.val + 1)) (jN (2 * t.val + 1)) (kN (2 * t.val + 2)) = 1#1 → ¬(k0_cond16 t (kN (2 * t.val + 1)) (jN (2 * t.val + 1)) (kN (2 * t.val + 2)) = 1#1) → (kN (2 * t.val + 2) = 2#32) ∧ (jN (2 * t.val + 1) = 0#32 ∧ 0 < 2 * t.val + 1) ∧ kN (2 * t.val + 1) ≠ 2#32 := by decide +kernel
theorem br2_6 : ∀ t : Fin k0_t1_loop.trips, k0_cond9 t (kN (2 * t.val + 1)) (jN (2 * t.val + 1)) (kN (2 * t.val + 2)) = 1#1 → k0_cond10 t (kN (2 * t.val + 1)) (jN (2 * t.val + 1)) (kN (2 * t.val + 2)) = 1#1 → k0_cond11 t (kN (2 * t.val + 1)) (jN (2 * t.val + 1)) (kN (2 * t.val + 2)) = 1#1 → k0_cond12 t (kN (2 * t.val + 1)) (jN (2 * t.val + 1)) (kN (2 * t.val + 2)) = 1#1 → k0_cond13 t (kN (2 * t.val + 1)) (jN (2 * t.val + 1)) (kN (2 * t.val + 2)) = 1#1 → k0_cond14 t (kN (2 * t.val + 1)) (jN (2 * t.val + 1)) (kN (2 * t.val + 2)) = 1#1 → ¬(k0_cond15 t (kN (2 * t.val + 1)) (jN (2 * t.val + 1)) (kN (2 * t.val + 2)) = 1#1) → (kN (2 * t.val + 2) = 2#32) ∧ ¬(jN (2 * t.val + 1) = 0#32 ∧ 0 < 2 * t.val + 1) ∧ kN (2 * t.val + 1) ≠ 2#32 := by decide +kernel
theorem br2_5 : ∀ t : Fin k0_t1_loop.trips, k0_cond9 t (kN (2 * t.val + 1)) (jN (2 * t.val + 1)) (kN (2 * t.val + 2)) = 1#1 → k0_cond10 t (kN (2 * t.val + 1)) (jN (2 * t.val + 1)) (kN (2 * t.val + 2)) = 1#1 → k0_cond11 t (kN (2 * t.val + 1)) (jN (2 * t.val + 1)) (kN (2 * t.val + 2)) = 1#1 → k0_cond12 t (kN (2 * t.val + 1)) (jN (2 * t.val + 1)) (kN (2 * t.val + 2)) = 1#1 → k0_cond13 t (kN (2 * t.val + 1)) (jN (2 * t.val + 1)) (kN (2 * t.val + 2)) = 1#1 → ¬(k0_cond14 t (kN (2 * t.val + 1)) (jN (2 * t.val + 1)) (kN (2 * t.val + 2)) = 1#1) → (kN (2 * t.val + 2) ≠ 2#32 ∧ kN (2 * t.val + 2) = 1#32) ∧ ¬(jN (2 * t.val + 1) = 0#32 ∧ 0 < 2 * t.val + 1) ∧ kN (2 * t.val + 1) = 2#32 := by decide +kernel
theorem br2_4 : ∀ t : Fin k0_t1_loop.trips, k0_cond9 t (kN (2 * t.val + 1)) (jN (2 * t.val + 1)) (kN (2 * t.val + 2)) = 1#1 → k0_cond10 t (kN (2 * t.val + 1)) (jN (2 * t.val + 1)) (kN (2 * t.val + 2)) = 1#1 → k0_cond11 t (kN (2 * t.val + 1)) (jN (2 * t.val + 1)) (kN (2 * t.val + 2)) = 1#1 → k0_cond12 t (kN (2 * t.val + 1)) (jN (2 * t.val + 1)) (kN (2 * t.val + 2)) = 1#1 → ¬(k0_cond13 t (kN (2 * t.val + 1)) (jN (2 * t.val + 1)) (kN (2 * t.val + 2)) = 1#1) → (kN (2 * t.val + 2) ≠ 2#32 ∧ kN (2 * t.val + 2) = 1#32) ∧ (jN (2 * t.val + 1) = 0#32 ∧ 0 < 2 * t.val + 1) ∧ kN (2 * t.val + 1) ≠ 2#32 := by decide +kernel
theorem br2_3 : ∀ t : Fin k0_t1_loop.trips, k0_cond9 t (kN (2 * t.val + 1)) (jN (2 * t.val + 1)) (kN (2 * t.val + 2)) = 1#1 → k0_cond10 t (kN (2 * t.val + 1)) (jN (2 * t.val + 1)) (kN (2 * t.val + 2)) = 1#1 → k0_cond11 t (kN (2 * t.val + 1)) (jN (2 * t.val + 1)) (kN (2 * t.val + 2)) = 1#1 → ¬(k0_cond12 t (kN (2 * t.val + 1)) (jN (2 * t.val + 1)) (kN (2 * t.val + 2)) = 1#1) → (kN (2 * t.val + 2) ≠ 2#32 ∧ kN (2 * t.val + 2) = 1#32) ∧ ¬(jN (2 * t.val + 1) = 0#32 ∧ 0 < 2 * t.val + 1) ∧ kN (2 * t.val + 1) ≠ 2#32 := by decide +kernel
theorem br2_2 : ∀ t : Fin k0_t1_loop.trips, k0_cond9 t (kN (2 * t.val + 1)) (jN (2 * t.val + 1)) (kN (2 * t.val + 2)) = 1#1 → k0_cond10 t (kN (2 * t.val + 1)) (jN (2 * t.val + 1)) (kN (2 * t.val + 2)) = 1#1 → ¬(k0_cond11 t (kN (2 * t.val + 1)) (jN (2 * t.val + 1)) (kN (2 * t.val + 2)) = 1#1) → (kN (2 * t.val + 2) ≠ 2#32 ∧ kN (2 * t.val + 2) ≠ 1#32) ∧ ¬(jN (2 * t.val + 1) = 0#32 ∧ 0 < 2 * t.val + 1) ∧ kN (2 * t.val + 1) = 2#32 := by decide +kernel
theorem br2_1 : ∀ t : Fin k0_t1_loop.trips, k0_cond9 t (kN (2 * t.val + 1)) (jN (2 * t.val + 1)) (kN (2 * t.val + 2)) = 1#1 → ¬(k0_cond10 t (kN (2 * t.val + 1)) (jN (2 * t.val + 1)) (kN (2 * t.val + 2)) = 1#1) → (kN (2 * t.val + 2) ≠ 2#32 ∧ kN (2 * t.val + 2) ≠ 1#32) ∧ (jN (2 * t.val + 1) = 0#32 ∧ 0 < 2 * t.val + 1) ∧ kN (2 * t.val + 1) ≠ 2#32 := by decide +kernel
theorem br2_0 : ∀ t : Fin k0_t1_loop.trips, ¬(k0_cond9 t (kN (2 * t.val + 1)) (jN (2 * t.val + 1)) (kN (2 * t.val + 2)) = 1#1) → (kN (2 * t.val + 2) ≠ 2#32 ∧ kN (2 * t.val + 2) ≠ 1#32) ∧ ¬(jN (2 * t.val + 1) = 0#32 ∧ 0 < 2 * t.val + 1) ∧ kN (2 * t.val + 1) ≠ 2#32 := by decide +kernel
theorem k0_chk4_ok (t : Fin k0_t1_loop.trips) (a b c w : BitVec 32) (h : w.toNat < 16) : k0_chk4 t a b c w := by
  refine ⟨?_, ?_, ?_, ?_⟩ <;> intros
  · exact mulQ h
  · exact qInb h 0 _
  · exact mulQ h
  · exact qInb h 1 _
theorem k0_chk3_ok (t : Fin k0_t1_loop.trips) (a b c w : BitVec 32) (h : w.toNat < 8) : k0_chk3 t a b c w := by
  refine ⟨?_, ?_, ?_, ?_⟩ <;> intros
  · exact mulK h
  · exact kInb5 h 0 _
  · exact mulK h
  · exact kInb5 h 1 _
theorem k0_chk5_ok (t : Fin k0_t1_loop.trips) (a b c w : BitVec 32) (h : w.toNat < 8) : k0_chk5 t a b c w := by
  refine ⟨?_, ?_⟩ <;> intros
  · exact mulK h
  · exact vInb5 h _
theorem k0_chk7_ok (t : Fin k0_t1_loop.trips) (a b c w : BitVec 32) (h : w.toNat < 16) : k0_chk7 t a b c w := by
  refine ⟨?_, ?_, ?_, ?_⟩ <;> intros
  · exact mulQ h
  · exact qInb h 0 _
  · exact mulQ h
  · exact qInb h 1 _
theorem k0_chk6_ok (t : Fin k0_t1_loop.trips) (a b c w : BitVec 32) (h : w.toNat < 8) : k0_chk6 t a b c w := by
  refine ⟨?_, ?_, ?_, ?_⟩ <;> intros
  · exact mulK h
  · exact kInb5 h 0 _
  · exact mulK h
  · exact kInb5 h 1 _
theorem k0_chk8_ok (t : Fin k0_t1_loop.trips) (a b c w : BitVec 32) (h : (Scalar.subi w 1#32).toNat < 16) : k0_chk8 t a b c w := by
  refine ⟨?_, ?_, ?_⟩ <;> intros
  · exact mulQ h
  · exact oInb h _
  · exact packO h _
theorem k0_chk9_ok (t : Fin k0_t1_loop.trips) (a b c w : BitVec 32) (h : w.toNat < 8) : k0_chk9 t a b c w := by
  refine ⟨?_, ?_⟩ <;> intros
  · exact mulK h
  · exact vInb10 h _
theorem k0_chk11_ok (t : Fin k0_t1_loop.trips) (a b c w : BitVec 32) (h : w.toNat < 16) : k0_chk11 t a b c w := by
  refine ⟨?_, ?_, ?_, ?_⟩ <;> intros
  · exact mulQ h
  · exact qInb h 0 _
  · exact mulQ h
  · exact qInb h 1 _
theorem k0_chk10_ok (t : Fin k0_t1_loop.trips) (a b c w : BitVec 32) (h : w.toNat < 8) : k0_chk10 t a b c w := by
  refine ⟨?_, ?_, ?_, ?_⟩ <;> intros
  · exact mulK h
  · exact kInb5 h 0 _
  · exact mulK h
  · exact kInb5 h 1 _
theorem k0_chk12_ok (t : Fin k0_t1_loop.trips) (a b c w : BitVec 32) (h : w.toNat < 8) : k0_chk12 t a b c w := by
  refine ⟨?_, ?_⟩ <;> intros
  · exact mulK h
  · exact vInb10 h _
theorem k0_chk14_ok (t : Fin k0_t1_loop.trips) (a b c w : BitVec 32) (h : w.toNat < 16) : k0_chk14 t a b c w := by
  refine ⟨?_, ?_, ?_, ?_⟩ <;> intros
  · exact mulQ h
  · exact qInb h 0 _
  · exact mulQ h
  · exact qInb h 1 _
theorem k0_chk13_ok (t : Fin k0_t1_loop.trips) (a b c w : BitVec 32) (h : w.toNat < 8) : k0_chk13 t a b c w := by
  refine ⟨?_, ?_, ?_, ?_⟩ <;> intros
  · exact mulK h
  · exact kInb10 h 0 _
  · exact mulK h
  · exact kInb10 h 1 _
theorem k0_chk15_ok (t : Fin k0_t1_loop.trips) (a b c w : BitVec 32) (h : w.toNat < 8) : k0_chk15 t a b c w := by
  refine ⟨?_, ?_⟩ <;> intros
  · exact mulK h
  · exact vInb5 h _
theorem k0_chk17_ok (t : Fin k0_t1_loop.trips) (a b c w : BitVec 32) (h : w.toNat < 16) : k0_chk17 t a b c w := by
  refine ⟨?_, ?_, ?_, ?_⟩ <;> intros
  · exact mulQ h
  · exact qInb h 0 _
  · exact mulQ h
  · exact qInb h 1 _
theorem k0_chk16_ok (t : Fin k0_t1_loop.trips) (a b c w : BitVec 32) (h : w.toNat < 8) : k0_chk16 t a b c w := by
  refine ⟨?_, ?_, ?_, ?_⟩ <;> intros
  · exact mulK h
  · exact kInb10 h 0 _
  · exact mulK h
  · exact kInb10 h 1 _
theorem k0_chk18_ok (t : Fin k0_t1_loop.trips) (a b c w : BitVec 32) (h : (Scalar.subi w 1#32).toNat < 16) : k0_chk18 t a b c w := by
  refine ⟨?_, ?_, ?_⟩ <;> intros
  · exact mulQ h
  · exact oInb h _
  · exact packO h _
theorem k0_chk19_ok (t : Fin k0_t1_loop.trips) (a b c w : BitVec 32) (h : w.toNat < 8) : k0_chk19 t a b c w := by
  refine ⟨?_, ?_⟩ <;> intros
  · exact mulK h
  · exact vInb10 h _
theorem k0_chk21_ok (t : Fin k0_t1_loop.trips) (a b c w : BitVec 32) (h : w.toNat < 16) : k0_chk21 t a b c w := by
  refine ⟨?_, ?_, ?_, ?_⟩ <;> intros
  · exact mulQ h
  · exact qInb h 0 _
  · exact mulQ h
  · exact qInb h 1 _
theorem k0_chk20_ok (t : Fin k0_t1_loop.trips) (a b c w : BitVec 32) (h : w.toNat < 8) : k0_chk20 t a b c w := by
  refine ⟨?_, ?_, ?_, ?_⟩ <;> intros
  · exact mulK h
  · exact kInb10 h 0 _
  · exact mulK h
  · exact kInb10 h 1 _
theorem k0_chk22_ok (t : Fin k0_t1_loop.trips) (a b c w : BitVec 32) (h : w.toNat < 8) : k0_chk22 t a b c w := by
  refine ⟨?_, ?_⟩ <;> intros
  · exact mulK h
  · exact vInb10 h _
theorem k0_chk24_ok (t : Fin k0_t1_loop.trips) (a b c w : BitVec 32) (h : w.toNat < 16) : k0_chk24 t a b c w := by
  refine ⟨?_, ?_, ?_, ?_⟩ <;> intros
  · exact mulQ h
  · exact qInb h 0 _
  · exact mulQ h
  · exact qInb h 1 _
theorem k0_chk23_ok (t : Fin k0_t1_loop.trips) (a b c w : BitVec 32) (h : w.toNat < 8) : k0_chk23 t a b c w := by
  refine ⟨?_, ?_, ?_, ?_⟩ <;> intros
  · exact mulK h
  · exact kInb10 h 0 _
  · exact mulK h
  · exact kInb10 h 1 _
theorem k0_chk25_ok (t : Fin k0_t1_loop.trips) (a b c w : BitVec 32) (h : w.toNat < 8) : k0_chk25 t a b c w := by
  refine ⟨?_, ?_⟩ <;> intros
  · exact mulK h
  · exact vInb5 h _
theorem k0_chk27_ok (t : Fin k0_t1_loop.trips) (a b c w : BitVec 32) (h : w.toNat < 16) : k0_chk27 t a b c w := by
  refine ⟨?_, ?_, ?_, ?_⟩ <;> intros
  · exact mulQ h
  · exact qInb h 0 _
  · exact mulQ h
  · exact qInb h 1 _
theorem k0_chk26_ok (t : Fin k0_t1_loop.trips) (a b c w : BitVec 32) (h : w.toNat < 8) : k0_chk26 t a b c w := by
  refine ⟨?_, ?_, ?_, ?_⟩ <;> intros
  · exact mulK h
  · exact kInb10 h 0 _
  · exact mulK h
  · exact kInb10 h 1 _
theorem k0_chk28_ok (t : Fin k0_t1_loop.trips) (a b c w : BitVec 32) (h : (Scalar.subi w 1#32).toNat < 16) : k0_chk28 t a b c w := by
  refine ⟨?_, ?_, ?_⟩ <;> intros
  · exact mulQ h
  · exact oInb h _
  · exact packO h _
theorem k0_chk29_ok (t : Fin k0_t1_loop.trips) (a b c w : BitVec 32) (h : w.toNat < 8) : k0_chk29 t a b c w := by
  refine ⟨?_, ?_⟩ <;> intros
  · exact mulK h
  · exact vInb10 h _
theorem k0_chk31_ok (t : Fin k0_t1_loop.trips) (a b c w : BitVec 32) (h : w.toNat < 16) : k0_chk31 t a b c w := by
  refine ⟨?_, ?_, ?_, ?_⟩ <;> intros
  · exact mulQ h
  · exact qInb h 0 _
  · exact mulQ h
  · exact qInb h 1 _
theorem k0_chk30_ok (t : Fin k0_t1_loop.trips) (a b c w : BitVec 32) (h : w.toNat < 8) : k0_chk30 t a b c w := by
  refine ⟨?_, ?_, ?_, ?_⟩ <;> intros
  · exact mulK h
  · exact kInb10 h 0 _
  · exact mulK h
  · exact kInb10 h 1 _
theorem k0_chk32_ok (t : Fin k0_t1_loop.trips) (a b c w : BitVec 32) (h : w.toNat < 8) : k0_chk32 t a b c w := by
  refine ⟨?_, ?_⟩ <;> intros
  · exact mulK h
  · exact vInb10 h _
theorem k0_chk34_ok (t : Fin k0_t1_loop.trips) (a b c w : BitVec 32) (h : w.toNat < 16) : k0_chk34 t a b c w := by
  refine ⟨?_, ?_, ?_, ?_⟩ <;> intros
  · exact mulQ h
  · exact qInb h 0 _
  · exact mulQ h
  · exact qInb h 1 _
theorem k0_chk33_ok (t : Fin k0_t1_loop.trips) (a b c w : BitVec 32) (h : w.toNat < 8) : k0_chk33 t a b c w := by
  refine ⟨?_, ?_, ?_, ?_⟩ <;> intros
  · exact mulK h
  · exact kInb5 h 0 _
  · exact mulK h
  · exact kInb5 h 1 _
theorem k0_chk35_ok (t : Fin k0_t1_loop.trips) (a b c w : BitVec 32) (h : w.toNat < 8) : k0_chk35 t a b c w := by
  refine ⟨?_, ?_⟩ <;> intros
  · exact mulK h
  · exact vInb5 h _
theorem k0_chk37_ok (t : Fin k0_t1_loop.trips) (a b c w : BitVec 32) (h : w.toNat < 16) : k0_chk37 t a b c w := by
  refine ⟨?_, ?_, ?_, ?_⟩ <;> intros
  · exact mulQ h
  · exact qInb h 0 _
  · exact mulQ h
  · exact qInb h 1 _
theorem k0_chk36_ok (t : Fin k0_t1_loop.trips) (a b c w : BitVec 32) (h : w.toNat < 8) : k0_chk36 t a b c w := by
  refine ⟨?_, ?_, ?_, ?_⟩ <;> intros
  · exact mulK h
  · exact kInb5 h 0 _
  · exact mulK h
  · exact kInb5 h 1 _
theorem k0_chk38_ok (t : Fin k0_t1_loop.trips) (a b c w : BitVec 32) (h : (Scalar.subi w 1#32).toNat < 16) : k0_chk38 t a b c w := by
  refine ⟨?_, ?_, ?_⟩ <;> intros
  · exact mulQ h
  · exact oInb h _
  · exact packO h _
theorem k0_chk39_ok (t : Fin k0_t1_loop.trips) (a b c w : BitVec 32) (h : w.toNat < 8) : k0_chk39 t a b c w := by
  refine ⟨?_, ?_⟩ <;> intros
  · exact mulK h
  · exact vInb10 h _
theorem k0_chk41_ok (t : Fin k0_t1_loop.trips) (a b c w : BitVec 32) (h : w.toNat < 16) : k0_chk41 t a b c w := by
  refine ⟨?_, ?_, ?_, ?_⟩ <;> intros
  · exact mulQ h
  · exact qInb h 0 _
  · exact mulQ h
  · exact qInb h 1 _
theorem k0_chk40_ok (t : Fin k0_t1_loop.trips) (a b c w : BitVec 32) (h : w.toNat < 8) : k0_chk40 t a b c w := by
  refine ⟨?_, ?_, ?_, ?_⟩ <;> intros
  · exact mulK h
  · exact kInb5 h 0 _
  · exact mulK h
  · exact kInb5 h 1 _
theorem k0_chk42_ok (t : Fin k0_t1_loop.trips) (a b c w : BitVec 32) (h : w.toNat < 8) : k0_chk42 t a b c w := by
  refine ⟨?_, ?_⟩ <;> intros
  · exact mulK h
  · exact vInb10 h _
theorem k0_chk44_ok (t : Fin k0_t1_loop.trips) (a b c w : BitVec 32) (h : w.toNat < 16) : k0_chk44 t a b c w := by
  refine ⟨?_, ?_, ?_, ?_⟩ <;> intros
  · exact mulQ h
  · exact qInb h 0 _
  · exact mulQ h
  · exact qInb h 1 _
theorem k0_chk43_ok (t : Fin k0_t1_loop.trips) (a b c w : BitVec 32) (h : w.toNat < 8) : k0_chk43 t a b c w := by
  refine ⟨?_, ?_, ?_, ?_⟩ <;> intros
  · exact mulK h
  · exact kInb10 h 0 _
  · exact mulK h
  · exact kInb10 h 1 _
theorem k0_chk45_ok (t : Fin k0_t1_loop.trips) (a b c w : BitVec 32) (h : w.toNat < 8) : k0_chk45 t a b c w := by
  refine ⟨?_, ?_⟩ <;> intros
  · exact mulK h
  · exact vInb5 h _
theorem k0_chk47_ok (t : Fin k0_t1_loop.trips) (a b c w : BitVec 32) (h : w.toNat < 16) : k0_chk47 t a b c w := by
  refine ⟨?_, ?_, ?_, ?_⟩ <;> intros
  · exact mulQ h
  · exact qInb h 0 _
  · exact mulQ h
  · exact qInb h 1 _
theorem k0_chk46_ok (t : Fin k0_t1_loop.trips) (a b c w : BitVec 32) (h : w.toNat < 8) : k0_chk46 t a b c w := by
  refine ⟨?_, ?_, ?_, ?_⟩ <;> intros
  · exact mulK h
  · exact kInb10 h 0 _
  · exact mulK h
  · exact kInb10 h 1 _
theorem k0_chk48_ok (t : Fin k0_t1_loop.trips) (a b c w : BitVec 32) (h : (Scalar.subi w 1#32).toNat < 16) : k0_chk48 t a b c w := by
  refine ⟨?_, ?_, ?_⟩ <;> intros
  · exact mulQ h
  · exact oInb h _
  · exact packO h _
theorem k0_chk49_ok (t : Fin k0_t1_loop.trips) (a b c w : BitVec 32) (h : w.toNat < 8) : k0_chk49 t a b c w := by
  refine ⟨?_, ?_⟩ <;> intros
  · exact mulK h
  · exact vInb10 h _
theorem k0_chk51_ok (t : Fin k0_t1_loop.trips) (a b c w : BitVec 32) (h : w.toNat < 16) : k0_chk51 t a b c w := by
  refine ⟨?_, ?_, ?_, ?_⟩ <;> intros
  · exact mulQ h
  · exact qInb h 0 _
  · exact mulQ h
  · exact qInb h 1 _
theorem k0_chk50_ok (t : Fin k0_t1_loop.trips) (a b c w : BitVec 32) (h : w.toNat < 8) : k0_chk50 t a b c w := by
  refine ⟨?_, ?_, ?_, ?_⟩ <;> intros
  · exact mulK h
  · exact kInb10 h 0 _
  · exact mulK h
  · exact kInb10 h 1 _
theorem k0_chk52_ok (t : Fin k0_t1_loop.trips) (a b c w : BitVec 32) (h : w.toNat < 8) : k0_chk52 t a b c w := by
  refine ⟨?_, ?_⟩ <;> intros
  · exact mulK h
  · exact vInb10 h _
theorem k0_chk54_ok (t : Fin k0_t1_loop.trips) (a b c w : BitVec 32) (h : w.toNat < 16) : k0_chk54 t a b c w := by
  refine ⟨?_, ?_, ?_, ?_⟩ <;> intros
  · exact mulQ h
  · exact qInb h 0 _
  · exact mulQ h
  · exact qInb h 1 _
theorem k0_chk53_ok (t : Fin k0_t1_loop.trips) (a b c w : BitVec 32) (h : w.toNat < 8) : k0_chk53 t a b c w := by
  refine ⟨?_, ?_, ?_, ?_⟩ <;> intros
  · exact mulK h
  · exact kInb10 h 0 _
  · exact mulK h
  · exact kInb10 h 1 _
theorem k0_chk55_ok (t : Fin k0_t1_loop.trips) (a b c w : BitVec 32) (h : w.toNat < 8) : k0_chk55 t a b c w := by
  refine ⟨?_, ?_⟩ <;> intros
  · exact mulK h
  · exact vInb5 h _
theorem k0_chk57_ok (t : Fin k0_t1_loop.trips) (a b c w : BitVec 32) (h : w.toNat < 16) : k0_chk57 t a b c w := by
  refine ⟨?_, ?_, ?_, ?_⟩ <;> intros
  · exact mulQ h
  · exact qInb h 0 _
  · exact mulQ h
  · exact qInb h 1 _
theorem k0_chk56_ok (t : Fin k0_t1_loop.trips) (a b c w : BitVec 32) (h : w.toNat < 8) : k0_chk56 t a b c w := by
  refine ⟨?_, ?_, ?_, ?_⟩ <;> intros
  · exact mulK h
  · exact kInb10 h 0 _
  · exact mulK h
  · exact kInb10 h 1 _
theorem k0_chk58_ok (t : Fin k0_t1_loop.trips) (a b c w : BitVec 32) (h : (Scalar.subi w 1#32).toNat < 16) : k0_chk58 t a b c w := by
  refine ⟨?_, ?_, ?_⟩ <;> intros
  · exact mulQ h
  · exact oInb h _
  · exact packO h _
theorem k0_chk59_ok (t : Fin k0_t1_loop.trips) (a b c w : BitVec 32) (h : w.toNat < 8) : k0_chk59 t a b c w := by
  refine ⟨?_, ?_⟩ <;> intros
  · exact mulK h
  · exact vInb10 h _
theorem k0_chk61_ok (t : Fin k0_t1_loop.trips) (a b c w : BitVec 32) (h : w.toNat < 16) : k0_chk61 t a b c w := by
  refine ⟨?_, ?_, ?_, ?_⟩ <;> intros
  · exact mulQ h
  · exact qInb h 0 _
  · exact mulQ h
  · exact qInb h 1 _
theorem k0_chk60_ok (t : Fin k0_t1_loop.trips) (a b c w : BitVec 32) (h : w.toNat < 8) : k0_chk60 t a b c w := by
  refine ⟨?_, ?_, ?_, ?_⟩ <;> intros
  · exact mulK h
  · exact kInb10 h 0 _
  · exact mulK h
  · exact kInb10 h 1 _
theorem k0_chk62_ok (t : Fin k0_t1_loop.trips) (a b c w : BitVec 32) (h : w.toNat < 8) : k0_chk62 t a b c w := by
  refine ⟨?_, ?_⟩ <;> intros
  · exact mulK h
  · exact vInb10 h _

variable {c : Dev nD} {M : Bufs} {q : Shares} {st : St F}

section At

variable {off : Fin 1 → ℕ} {inb : ∀ a, off a + S1.size a ≤ S73.size a} {n : ℕ}
  {PQ PK : BitVec 32 → Prop} {dQ : ∀ w, Decidable (PQ w)} {dK : ∀ w, Decidable (PK w)}

theorem scHalf_at (b : Bool) {hQ : ∀ w, PQ w → QInb w} {hK : ∀ w, PK w → KInb S1x512x128.size w} (ht : Tab st) (ho : off 0 = n) (e : kN n = 2#32)
    (pq : PQ (qN n)) (pk : PK (jN n)) :
    Runs c (Own c M q st) (scHalf M b off inb PQ PK dQ dK hQ hK) ⟨⟩ (Own c M q (scF b n st)) := by
  unfold scF; rw [if_pos e]
  exact scHalf_runs b (wq ht.h2 ho) (wj ht.h3 ho) pq pk _ _
theorem scLast_at (b : Bool) {hQ : ∀ w, PQ w → QInb w} {hK : ∀ w, PK w → KInb S1x1024x128.size w} (ht : Tab st) (ho : off 0 = n) (e : kN n ≠ 2#32) (e' : kN n = 1#32)
    (pq : PQ (qN n)) (pk : PK (jN n)) :
    Runs c (Own c M q st) (scLast M b off inb PQ PK dQ dK hQ hK) ⟨⟩ (Own c M q (scF b n st)) := by
  unfold scF; rw [if_neg e, if_pos e']
  exact scLast_runs b (wq ht.h2 ho) (wj ht.h3 ho) pq pk _ _
theorem scFull_at (b : Bool) {hQ : ∀ w, PQ w → QInb w} {hK : ∀ w, PK w → KInb S1x1024x128.size w} (ht : Tab st) (ho : off 0 = n) (e : kN n ≠ 2#32) (e' : kN n ≠ 1#32)
    (pq : PQ (qN n)) (pk : PK (jN n)) :
    Runs c (Own c M q st) (scFull M b off inb PQ PK dQ dK hQ hK) ⟨⟩ (Own c M q (scF b n st)) := by
  unfold scF; rw [if_neg e, if_neg e']
  exact scFull_runs b (wq ht.h2 ho) (wj ht.h3 ho) pq pk _ _
theorem finish_at {hK : ∀ w, PK w → ∀ a, offO (Scalar.subi w 1#32) a + S1x512x256.size a ≤ S1x8192x256.size a}
    {hp : ∀ w (h : PK w), (Rect.unit (s := S1x8192x256) (offO (Scalar.subi w 1#32)) S1x512x256.size (hK w h)).PackedRows (EltTy.packing .bf16)}
    (ht : Tab st) (ho : off 0 = n) (e : jN n = 0#32 ∧ 0 < n) (pk : PK (qN n)) :
    Runs c (Own c M q st) (finish M off inb PK dK (fun w => Scalar.subi w 1#32) hK hp) ⟨⟩ (Own c M q (finI n st)) := by
  unfold finI; rw [if_pos e]
  exact finish_runs (g := fun w => Scalar.subi w 1#32) (wq ht.h2 ho) pk
theorem finI_of_not (e : ¬(jN n = 0#32 ∧ 0 < n)) (st : St F) : finI n st = st := by unfold finI; rw [if_neg e]
theorem coHalf_at (b : Bool) (v2 : F .f32) {hK : ∀ w, PK w → ∀ a, offV w a + S1x1x272x512.size a ≤ S1x1x272x8192.size a} (ht : Tab st) (ho : off 0 = n) (e : kN n = 2#32)
    (pk : PK (jN n)) : Runs c (Own c M q st) (coHalf M b v2 off inb PK dK hK) ⟨⟩ (Own c M q (coF b v2 n st)) := by
  unfold coF; rw [if_pos e]
  exact coHalf_runs b (wq ht.h2 ho) (wj ht.h3 ho) pk _
theorem coFull_at (b : Bool) (v2 : F .f32) {hK : ∀ w, PK w → ∀ a, offV w a + S1x1x272x1024.size a ≤ S1x1x272x8192.size a} (ht : Tab st) (ho : off 0 = n) (e : kN n ≠ 2#32)
    (pk : PK (jN n)) : Runs c (Own c M q st) (coFull M b v2 off inb PK dK hK) ⟨⟩ (Own c M q (coF b v2 n st)) := by
  unfold coF; rw [if_neg e]
  exact coFull_runs b (wq ht.h2 ho) (wj ht.h3 ho) pk _

end At

attribute [local irreducible] qN jN kN k0_cond1 k0_cond2 k0_cond3 k0_cond4 k0_cond5 k0_cond6 k0_cond7 k0_cond8 k0_cond9 k0_cond10 k0_cond11 k0_cond12 k0_cond13 k0_cond14 k0_cond15 k0_cond16

/-- What the first step of a round answers: words the second one's choice is made from. -/
def ans1 (t : Fin k0_t1_loop.trips) : (Σ' (v286 : BitVec 32) (v288 : Elt F .i32) (v291 : Elt F .i32) (v299 : Elt F .i32), BitVec 32) :=
  let c2_i32_119 : BitVec 32 := 2#32
  let v285 : BitVec 32 := Scalar.muli 2#32 (Scf.iv 0#32 1#32 t)
  let v286 : BitVec 32 := Scalar.addi v285 1#32
  let v289 : BitVec 1 := Scalar.cmpi .eq (kN (2 * t.val + 1)) 2#32
  let v292 : BitVec 1 := Scalar.cmpi .eq (jN (2 * t.val + 1)) 0#32
  let v293 : BitVec 1 := Scalar.cmpi .sgt v286 0#32
  let v294 : BitVec 1 := Scalar.andi v292 v293
  let v295 : BitVec 32 := Scalar.select v294 1#32 0#32
  let v296 : BitVec 32 := Scalar.select v289 2#32 v295
  ⟨v286, kN (2 * t.val + 1), jN (2 * t.val + 1), kN (2 * t.val + 2), Scalar.addi (Scalar.muli (kN (2 * t.val + 2)) 3#32) v296⟩

set_option pp.maxSteps 150 in
set_option maxHeartbeats 2000000 in
theorem step1_runs (v2 : F .f32) (t : Fin k0_t1_loop.trips) (ht : Tab st) :
    Runs c (Own c M q st) (step1 M v2 0#32 1#32 t) (ans1 t) (Own c M q (stepF false v2 (2 * t.val) st)) := by
  have tail : ∀ st' : St F, Tab st' → Runs c (Own c M q st') (do
      let v288 ← word M.a4 (k0_off77 t) (k0_off77_inb t)
      let v291 ← word M.a3 (k0_off77 t) (k0_off77_inb t)
      let v299 ← word M.a4 (k0_off78 t) (k0_off78_inb t)
      pure (⟨Scalar.addi (Scalar.muli 2#32 (Scf.iv 0#32 1#32 t)) 1#32, v288, v291, v299, Scalar.addi (Scalar.muli v299 3#32)
        (Scalar.select (Scalar.cmpi .eq v288 2#32) 2#32 (Scalar.select (Scalar.andi (Scalar.cmpi .eq v291 0#32)
          (Scalar.cmpi .sgt (Scalar.addi (Scalar.muli 2#32 (Scf.iv 0#32 1#32 t)) 1#32) 0#32)) 1#32 0#32))⟩ :
        Σ' (v286 : BitVec 32) (v288 : Elt F .i32) (v291 : Elt F .i32) (v299 : Elt F .i32), BitVec 32)) (ans1 t) (Own c M q st') := by
    intro st' h
    refine Runs.bind (word4_runs (F := F)) ?_
    refine Runs.bind (word3_runs (F := F)) ?_
    refine Runs.bind (word4_runs (F := F)) ?_
    rw [wk h.h4 (o77 t), wj h.h3 (o77 t), wk h.h4 (o78 t)]
    exact Runs.pure _ _
  unfold step1
  dsimp only
  refine Runs.bind (word4_runs (F := F)) ?_
  refine Runs.bind (word3_runs (F := F)) ?_
  refine Runs.bind (word4_runs (F := F)) ?_
  rw [wk ht.h4 (o6 t), wj ht.h3 (o6 t), wk ht.h4 (o7 t)]
  by_cases k0_h1 : k0_cond1 t (kN (2 * t.val)) (jN (2 * t.val)) (kN (2 * t.val + 1)) = 1#1
  swap
  · obtain ⟨e1, e2, e3⟩ := br1_0 t k0_h1
    rw [dif_neg k0_h1]
    refine Runs.bind (scFull_at true ht (o7 t) e1.1 e1.2 (k0_chk31_ok _ _ _ _ _ (qN_lt _)) (k0_chk30_ok _ _ _ _ _ (jN_lt _))) ?_
    have h1 := ht.scF true (2 * t.val + 1)
    rw [← finI_of_not e2 (scF true (2 * t.val + 1) st)]
    have h2 := h1.finI (2 * t.val)
    refine Runs.bind (coFull_at false v2 h2 (o6 t) e3 (k0_chk32_ok _ _ _ _ _ (jN_lt _))) ?_
    exact tail _ (ht.stepF _ _ _)
  by_cases k0_h2 : k0_cond2 t (kN (2 * t.val)) (jN (2 * t.val)) (kN (2 * t.val + 1)) = 1#1
  swap
  · obtain ⟨e1, e2, e3⟩ := br1_1 t k0_h1 k0_h2
    rw [dif_pos k0_h1, dif_neg k0_h2]
    refine Runs.bind (scFull_at true ht (o7 t) e1.1 e1.2 (k0_chk27_ok _ _ _ _ _ (qN_lt _)) (k0_chk26_ok _ _ _ _ _ (jN_lt _))) ?_
    have h1 := ht.scF true (2 * t.val + 1)
    refine Runs.bind (finish_at h1 (o6 t) e2 (k0_chk28_ok _ _ _ _ _ (qPred_lt _ e2.1 e2.2 (by have : t.val < 36 := t.isLt; omega)))) ?_
    have h2 := h1.finI (2 * t.val)
    refine Runs.bind (coFull_at false v2 h2 (o6 t) e3 (k0_chk29_ok _ _ _ _ _ (jN_lt _))) ?_
    exact tail _ (ht.stepF _ _ _)
  by_cases k0_h3 : k0_cond3 t (kN (2 * t.val)) (jN (2 * t.val)) (kN (2 * t.val + 1)) = 1#1
  swap
  · obtain ⟨e1, e2, e3⟩ := br1_2 t k0_h1 k0_h2 k0_h3
    rw [dif_pos k0_h1, dif_pos k0_h2, dif_neg k0_h3]
    refine Runs.bind (scFull_at true ht (o7 t) e1.1 e1.2 (k0_chk24_ok _ _ _ _ _ (qN_lt _)) (k0_chk23_ok _ _ _ _ _ (jN_lt _))) ?_
    have h1 := ht.scF true (2 * t.val + 1)
    rw [← finI_of_not e2 (scF true (2 * t.val + 1) st)]
    have h2 := h1.finI (2 * t.val)
    refine Runs.bind (coHalf_at false v2 h2 (o6 t) e3 (k0_chk25_ok _ _ _ _ _ (jN_lt _))) ?_
    exact tail _ (ht.stepF _ _ _)
  by_cases k0_h4 : k0_cond4 t (kN (2 * t.val)) (jN (2 * t.val)) (kN (2 * t.val + 1)) = 1#1
  swap
  · obtain ⟨e1, e2, e3⟩ := br1_3 t k0_h1 k0_h2 k0_h3 k0_h4
    rw [dif_pos k0_h1, dif_pos k0_h2, dif_pos k0_h3, dif_neg k0_h4]
    refine Runs.bind (scLast_at true ht (o7 t) e1.1 e1.2 (k0_chk21_ok _ _ _ _ _ (qN_lt _)) (k0_chk20_ok _ _ _ _ _ (jN_lt _))) ?_
    have h1 := ht.scF true (2 * t.val + 1)
    rw [← finI_of_not e2 (scF true (2 * t.val + 1) st)]
    have h2 := h1.finI (2 * t.val)
    refine Runs.bind (coFull_at false v2 h2 (o6 t) e3 (k0_chk22_ok _ _ _ _ _ (jN_lt _))) ?_
    exact tail _ (ht.stepF _ _ _)
  by_cases k0_h5 : k0_cond5 t (kN (2 * t.val)) (jN (2 * t.val)) (kN (2 * t.val + 1)) = 1#1
  swap
  · obtain ⟨e1, e2, e3⟩ := br1_4 t k0_h1 k0_h2 k0_h3 k0_h4 k0_h5
    rw [dif_pos k0_h1, dif_pos k0_h2, dif_pos k0_h3, dif_pos k0_h4, dif_neg k0_h5]
    refine Runs.bind (scLast_at true ht (o7 t) e1.1 e1.2 (k0_chk17_ok _ _ _ _ _ (qN_lt _)) (k0_chk16_ok _ _ _ _ _ (jN_lt _))) ?_
    have h1 := ht.scF true (2 * t.val + 1)
    refine Runs.bind (finish_at h1 (o6 t) e2 (k0_chk18_ok _ _ _ _ _ (qPred_lt _ e2.1 e2.2 (by have : t.val < 36 := t.isLt; omega)))) ?_
    have h2 := h1.finI (2 * t.val)
    refine Runs.bind (coFull_at false v2 h2 (o6 t) e3 (k0_chk19_ok _ _ _ _ _ (jN_lt _))) ?_
    exact tail _ (ht.stepF _ _ _)
  by_cases k0_h6 : k0_cond6 t (kN (2 * t.val)) (jN (2 * t.val)) (kN (2 * t.val + 1)) = 1#1
  swap
  · obtain ⟨e1, e2, e3⟩ := br1_5 t k0_h1 k0_h2 k0_h3 k0_h4 k0_h5 k0_h6
    rw [dif_pos k0_h1, dif_pos k0_h2, dif_pos k0_h3, dif_pos k0_h4, dif_pos k0_h5, dif_neg k0_h6]
    refine Runs.bind (scLast_at true ht (o7 t) e1.1 e1.2 (k0_chk14_ok _ _ _ _ _ (qN_lt _)) (k0_chk13_ok _ _ _ _ _ (jN_lt _))) ?_
    have h1 := ht.scF true (2 * t.val + 1)
    rw [← finI_of_not e2 (scF true (2 * t.val + 1) st)]
    have h2 := h1.finI (2 * t.val)
    refine Runs.bind (coHalf_at false v2 h2 (o6 t) e3 (k0_chk15_ok _ _ _ _ _ (jN_lt _))) ?_
    exact tail _ (ht.stepF _ _ _)
  by_cases k0_h7 : k0_cond7 t (kN (2 * t.val)) (jN (2 * t.val)) (kN (2 * t.val + 1)) = 1#1
  swap
  · obtain ⟨e1, e2, e3⟩ := br1_6 t k0_h1 k0_h2 k0_h3 k0_h4 k0_h5 k0_h6 k0_h7
    rw [dif_pos k0_h1, dif_pos k0_h2, dif_pos k0_h3, dif_pos k0_h4, dif_pos k0_h5, dif_pos k0_h6, dif_neg k0_h7]
    refine Runs.bind (scHalf_at true ht (o7 t) e1 (k0_chk11_ok _ _ _ _ _ (qN_lt _)) (k0_chk10_ok _ _ _ _ _ (jN_lt _))) ?_
    have h1 := ht.scF true (2 * t.val + 1)
    rw [← finI_of_not e2 (scF true (2 * t.val + 1) st)]
    have h2 := h1.finI (2 * t.val)
    refine Runs.bind (coFull_at false v2 h2 (o6 t) e3 (k0_chk12_ok _ _ _ _ _ (jN_lt _))) ?_
    exact tail _ (ht.stepF _ _ _)
  by_cases k0_h8 : k0_cond8 t (kN (2 * t.val)) (jN (2 * t.val)) (kN (2 * t.val + 1)) = 1#1
  swap
  · obtain ⟨e1, e2, e3⟩ := br1_7 t k0_h1 k0_h2 k0_h3 k0_h4 k0_h5 k0_h6 k0_h7 k0_h8
    rw [dif_pos k0_h1, dif_pos k0_h2, dif_pos k0_h3, dif_pos k0_h4, dif_pos k0_h5, dif_pos k0_h6, dif_pos k0_h7, dif_neg k0_h8]
    refine Runs.bind (scHalf_at true ht (o7 t) e1 (k0_chk7_ok _ _ _ _ _ (qN_lt _)) (k0_chk6_ok _ _ _ _ _ (jN_lt _))) ?_
    have h1 := ht.scF true (2 * t.val + 1)
    refine Runs.bind (finish_at h1 (o6 t) e2 (k0_chk8_ok _ _ _ _ _ (qPred_lt _ e2.1 e2.2 (by have : t.val < 36 := t.isLt; omega)))) ?_
    have h2 := h1.finI (2 * t.val)
    refine Runs.bind (coFull_at false v2 h2 (o6 t) e3 (k0_chk9_ok _ _ _ _ _ (jN_lt _))) ?_
    exact tail _ (ht.stepF _ _ _)
  · obtain ⟨e1, e2, e3⟩ := br1_8 t k0_h1 k0_h2 k0_h3 k0_h4 k0_h5 k0_h6 k0_h7 k0_h8
    rw [dif_pos k0_h1, dif_pos k0_h2, dif_pos k0_h3, dif_pos k0_h4, dif_pos k0_h5, dif_pos k0_h6, dif_pos k0_h7, dif_pos k0_h8]
    refine Runs.bind (scHalf_at true ht (o7 t) e1 (k0_chk4_ok _ _ _ _ _ (qN_lt _)) (k0_chk3_ok _ _ _ _ _ (jN_lt _))) ?_
    have h1 := ht.scF true (2 * t.val + 1)
    rw [← finI_of_not e2 (scF true (2 * t.val + 1) st)]
    have h2 := h1.finI (2 * t.val)
    refine Runs.bind (coHalf_at false v2 h2 (o6 t) e3 (k0_chk5_ok _ _ _ _ _ (jN_lt _))) ?_
    exact tail _ (ht.stepF _ _ _)

set_option pp.maxSteps 150 in
set_option maxHeartbeats 2000000 in
theorem round_runs (v2 : F .f32) (t : Fin k0_t1_loop.trips) (ht₀ : Tab st) :
    Runs c (Own c M q st) (round M v2 0#32 1#32 t) ⟨⟩ (Own c M q (stepF true v2 (2 * t.val + 1) (stepF false v2 (2 * t.val) st))) := by
  unfold round
  refine Runs.bind (step1_runs v2 t ht₀) ?_
  have ht := ht₀.stepF false v2 (2 * t.val)
  generalize stepF false v2 (2 * t.val) st = st at ht ⊢
  generalize hx : ans1 t = x
  obtain ⟨a0, a1, a2, a3, a4⟩ := x
  have h1 : a1 = kN (2 * t.val + 1) := (congrArg (fun z => z.2.1) hx).symm
  have h2 : a2 = jN (2 * t.val + 1) := (congrArg (fun z => z.2.2.1) hx).symm
  have h3 : a3 = kN (2 * t.val + 2) := (congrArg (fun z => z.2.2.2.1) hx).symm
  clear hx
  subst h1 h2 h3
  dsimp only
  by_cases k0_h9 : k0_cond9 t (kN (2 * t.val + 1)) (jN (2 * t.val + 1)) (kN (2 * t.val + 2)) = 1#1
  swap
  · obtain ⟨e1, e2, e3⟩ := br2_0 t k0_h9
    rw [dif_neg k0_h9]
    refine Runs.bind (scFull_at false ht (o78 t) e1.1 e1.2 (k0_chk61_ok _ _ _ _ _ (qN_lt _)) (k0_chk60_ok _ _ _ _ _ (jN_lt _))) ?_
    have h1 := ht.scF false (2 * t.val + 2)
    rw [← finI_of_not e2 (scF false (2 * t.val + 2) st)]
    have h2 := h1.finI (2 * t.val + 1)
    refine Runs.bind (coFull_at true v2 h2 (o77 t) e3 (k0_chk62_ok _ _ _ _ _ (jN_lt _))) ?_
    exact Runs.pure _ _
  by_cases k0_h10 : k0_cond10 t (kN (2 * t.val + 1)) (jN (2 * t.val + 1)) (kN (2 * t.val + 2)) = 1#1
  swap
  · obtain ⟨e1, e2, e3⟩ := br2_1 t k0_h9 k0_h10
    rw [dif_pos k0_h9, dif_neg k0_h10]
    refine Runs.bind (scFull_at false ht (o78 t) e1.1 e1.2 (k0_chk57_ok _ _ _ _ _ (qN_lt _)) (k0_chk56_ok _ _ _ _ _ (jN_lt _))) ?_
    have h1 := ht.scF false (2 * t.val + 2)
    refine Runs.bind (finish_at h1 (o77 t) e2 (k0_chk58_ok _ _ _ _ _ (qPred_lt _ e2.1 e2.2 (by have : t.val < 36 := t.isLt; omega)))) ?_
    have h2 := h1.finI (2 * t.val + 1)
    refine Runs.bind (coFull_at true v2 h2 (o77 t) e3 (k0_chk59_ok _ _ _ _ _ (jN_lt _))) ?_
    exact Runs.pure _ _
  by_cases k0_h11 : k0_cond11 t (kN (2 * t.val + 1)) (jN (2 * t.val + 1)) (kN (2 * t.val + 2)) = 1#1
  swap
  · obtain ⟨e1, e2, e3⟩ := br2_2 t k0_h9 k0_h10 k0_h11
    rw [dif_pos k0_h9, dif_pos k0_h10, dif_neg k0_h11]
    refine Runs.bind (scFull_at false ht (o78 t) e1.1 e1.2 (k0_chk54_ok _ _ _ _ _ (qN_lt _)) (k0_chk53_ok _ _ _ _ _ (jN_lt _))) ?_
    have h1 := ht.scF false (2 * t.val + 2)
    rw [← finI_of_not e2 (scF false (2 * t.val + 2) st)]
    have h2 := h1.finI (2 * t.val + 1)
    refine Runs.bind (coHalf_at true v2 h2 (o77 t) e3 (k0_chk55_ok _ _ _ _ _ (jN_lt _))) ?_
    exact Runs.pure _ _
  by_cases k0_h12 : k0_cond12 t (kN (2 * t.val + 1)) (jN (2 * t.val + 1)) (kN (2 * t.val + 2)) = 1#1
  swap
  · obtain ⟨e1, e2, e3⟩ := br2_3 t k0_h9 k0_h10 k0_h11 k0_h12
    rw [dif_pos k0_h9, dif_pos k0_h10, dif_pos k0_h11, dif_neg k0_h12]
    refine Runs.bind (scLast_at false ht (o78 t) e1.1 e1.2 (k0_chk51_ok _ _ _ _ _ (qN_lt _)) (k0_chk50_ok _ _ _ _ _ (jN_lt _))) ?_
    have h1 := ht.scF false (2 * t.val + 2)
    rw [← finI_of_not e2 (scF false (2 * t.val + 2) st)]
    have h2 := h1.finI (2 * t.val + 1)
    refine Runs.bind (coFull_at true v2 h2 (o77 t) e3 (k0_chk52_ok _ _ _ _ _ (jN_lt _))) ?_
    exact Runs.pure _ _
  by_cases k0_h13 : k0_cond13 t (kN (2 * t.val + 1)) (jN (2 * t.val + 1)) (kN (2 * t.val + 2)) = 1#1
  swap
  · obtain ⟨e1, e2, e3⟩ := br2_4 t k0_h9 k0_h10 k0_h11 k0_h12 k0_h13
    rw [dif_pos k0_h9, dif_pos k0_h10, dif_pos k0_h11, dif_pos k0_h12, dif_neg k0_h13]
    refine Runs.bind (scLast_at false ht (o78 t) e1.1 e1.2 (k0_chk47_ok _ _ _ _ _ (qN_lt _)) (k0_chk46_ok _ _ _ _ _ (jN_lt _))) ?_
    have h1 := ht.scF false (2 * t.val + 2)
    refine Runs.bind (finish_at h1 (o77 t) e2 (k0_chk48_ok _ _ _ _ _ (qPred_lt _ e2.1 e2.2 (by have : t.val < 36 := t.isLt; omega)))) ?_
    have h2 := h1.finI (2 * t.val + 1)
    refine Runs.bind (coFull_at true v2 h2 (o77 t) e3 (k0_chk49_ok _ _ _ _ _ (jN_lt _))) ?_
    exact Runs.pure _ _
  by_cases k0_h14 : k0_cond14 t (kN (2 * t.val + 1)) (jN (2 * t.val + 1)) (kN (2 * t.val + 2)) = 1#1
  swap
  · obtain ⟨e1, e2, e3⟩ := br2_5 t k0_h9 k0_h10 k0_h11 k0_h12 k0_h13 k0_h14
    rw [dif_pos k0_h9, dif_pos k0_h10, dif_pos k0_h11, dif_pos k0_h12, dif_pos k0_h13, dif_neg k0_h14]
    refine Runs.bind (scLast_at false ht (o78 t) e1.1 e1.2 (k0_chk44_ok _ _ _ _ _ (qN_lt _)) (k0_chk43_ok _ _ _ _ _ (jN_lt _))) ?_
    have h1 := ht.scF false (2 * t.val + 2)
    rw [← finI_of_not e2 (scF false (2 * t.val + 2) st)]
    have h2 := h1.finI (2 * t.val + 1)
    refine Runs.bind (coHalf_at true v2 h2 (o77 t) e3 (k0_chk45_ok _ _ _ _ _ (jN_lt _))) ?_
    exact Runs.pure _ _
  by_cases k0_h15 : k0_cond15 t (kN (2 * t.val + 1)) (jN (2 * t.val + 1)) (kN (2 * t.val + 2)) = 1#1
  swap
  · obtain ⟨e1, e2, e3⟩ := br2_6 t k0_h9 k0_h10 k0_h11 k0_h12 k0_h13 k0_h14 k0_h15
    rw [dif_pos k0_h9, dif_pos k0_h10, dif_pos k0_h11, dif_pos k0_h12, dif_pos k0_h13, dif_pos k0_h14, dif_neg k0_h15]
    refine Runs.bind (scHalf_at false ht (o78 t) e1 (k0_chk41_ok _ _ _ _ _ (qN_lt _)) (k0_chk40_ok _ _ _ _ _ (jN_lt _))) ?_
    have h1 := ht.scF false (2 * t.val + 2)
    rw [← finI_of_not e2 (scF false (2 * t.val + 2) st)]
    have h2 := h1.finI (2 * t.val + 1)
    refine Runs.bind (coFull_at true v2 h2 (o77 t) e3 (k0_chk42_ok _ _ _ _ _ (jN_lt _))) ?_
    exact Runs.pure _ _
  by_cases k0_h16 : k0_cond16 t (kN (2 * t.val + 1)) (jN (2 * t.val + 1)) (kN (2 * t.val + 2)) = 1#1
  swap
  · obtain ⟨e1, e2, e3⟩ := br2_7 t k0_h9 k0_h10 k0_h11 k0_h12 k0_h13 k0_h14 k0_h15 k0_h16
    rw [dif_pos k0_h9, dif_pos k0_h10, dif_pos k0_h11, dif_pos k0_h12, dif_pos k0_h13, dif_pos k0_h14, dif_pos k0_h15, dif_neg k0_h16]
    refine Runs.bind (scHalf_at false ht (o78 t) e1 (k0_chk37_ok _ _ _ _ _ (qN_lt _)) (k0_chk36_ok _ _ _ _ _ (jN_lt _))) ?_
    have h1 := ht.scF false (2 * t.val + 2)
    refine Runs.bind (finish_at h1 (o77 t) e2 (k0_chk38_ok _ _ _ _ _ (qPred_lt _ e2.1 e2.2 (by have : t.val < 36 := t.isLt; omega)))) ?_
    have h2 := h1.finI (2 * t.val + 1)
    refine Runs.bind (coFull_at true v2 h2 (o77 t) e3 (k0_chk39_ok _ _ _ _ _ (jN_lt _))) ?_
    exact Runs.pure _ _
  · obtain ⟨e1, e2, e3⟩ := br2_8 t k0_h9 k0_h10 k0_h11 k0_h12 k0_h13 k0_h14 k0_h15 k0_h16
    rw [dif_pos k0_h9, dif_pos k0_h10, dif_pos k0_h11, dif_pos k0_h12, dif_pos k0_h13, dif_pos k0_h14, dif_pos k0_h15, dif_pos k0_h16]
    refine Runs.bind (scHalf_at false ht (o78 t) e1 (k0_chk34_ok _ _ _ _ _ (qN_lt _)) (k0_chk33_ok _ _ _ _ _ (jN_lt _))) ?_
    have h1 := ht.scF false (2 * t.val + 2)
    rw [← finI_of_not e2 (scF false (2 * t.val + 2) st)]
    have h2 := h1.finI (2 * t.val + 1)
    refine Runs.bind (coHalf_at true v2 h2 (o77 t) e3 (k0_chk35_ok _ _ _ _ _ (jN_lt _))) ?_
    exact Runs.pure _ _

end Cert.Attn

end
-- ==== Proof.Run.Body.lean ====
module

public import proofs.«01_k».proof.Proof.Run.Rounds

@[expose] public section

/-!
# The run of the whole body

The loop's seventy-two steps are an iteration of the step function, and what follows it writes the rows of the
last query block; the body leaves its buffers in the state `bodyF` gives.
-/

set_option maxRecDepth 16384

noncomputable section

namespace Cert.Attn

open Idealize.ShloMosaic Idealize.ShloMosaic.TpuEff Cert.KernelIdeal Cert.KernelIdeal.Facts₀ Cert.KernelIdeal.Facts
open Idealize.SL Idealize.SL.RA Idealize.SL.BI
open scoped Idealize.SL.BI
open Idealize.SL.BI.BIBase Idealize.SL.BI.Laws Idealize.SL.ProofMode Idealize.SL.Sem
open Idealize.ShloMosaic.TcCoe
open VecWindow (window put)

variable {F : FTy → Type} [FloatOps F] [Named F]

local notation "𝕄" => MT nD τ sig Unit (Elt F) ℕ (UU nD τ) ℕ

/-- A counted loop whose trips each run from one assertion to the next. -/
theorem Runs.loop {c : Dev nD} (l : Scf.Loop 32) (ok : l.OK) (body : Fin l.trips → Unit → PR F Unit) (I : ℕ → sProp 𝕄)
    (h : ∀ t : Fin l.trips, Runs c (I t.val) (body t ⟨⟩) ⟨⟩ (I (t.val + 1))) :
    Runs c (I 0) (Scf.Loop.for l ok ⟨⟩ body) ⟨⟩ (I l.trips) := fun _ k Q hk => by
  have := Scf.wp_for_bind frame (wpE (defs₀ (F := F)) 𝒱₀ (c : Thread nD τ) none) Set.univ l.lb l.ub l.st ok () body
    (fun n _ => I n) (fun t a => (h t).wp _ .rfl) (kk := k) (Q := Q)
  iintro HI
  iapply this $$ HI
  iintro %_ HI
  iapply hk
  iexact HI

variable {c : Dev nD} {M : Bufs} {q : Shares} {st : St F}

/-- The first `n` steps. -/
def walkF (v2 : F .f32) : ℕ → St F → St F
  | 0, st => st
  | n + 1, st => stepF (n % 2 == 1) v2 n (walkF v2 n st)

theorem Tab.walkF (v2 : F .f32) (ht : Tab st) : ∀ n, Tab (walkF v2 n st)
  | 0 => ht
  | n + 1 => (Tab.walkF v2 ht n).stepF _ _ _

theorem walk_runs (v2 : F .f32) (ht : Tab st) :
    Runs c (Own c M q st) (Scf.Loop.for k0_t1_loop k0_t1_ok ⟨⟩ fun t _ => round M v2 0#32 1#32 t) ⟨⟩ (Own c M q (walkF v2 72 st)) := by
  have h := Runs.loop (c := c) k0_t1_loop k0_t1_ok (fun t _ => round M v2 0#32 1#32 t) (fun n => Own c M q (walkF v2 (2 * n) st)) (fun t => by
    have e0 : (2 * t.val) % 2 = 0 := by omega
    have e1 : (2 * t.val + 1) % 2 = 1 := by omega
    have h := round_runs (c := c) (M := M) (q := q) v2 t (ht.walkF v2 (2 * t.val))
    have hw : walkF v2 (2 * (t.val + 1)) st = stepF true v2 (2 * t.val + 1) (stepF false v2 (2 * t.val) (walkF v2 (2 * t.val) st)) := by
      rw [show 2 * (t.val + 1) = 2 * t.val + 1 + 1 from by omega, walkF, walkF, e0, e1]; rfl
    rw [hw]
    exact h)
  exact h

/-- The words and vectors handed to the last part. -/
def lastF (st : St F) (h : k0_chk63 (qN 71)) : (Σ' (v205 : Elt F .i32) (k0_hw63 : k0_chk63 v205) (v222 : FVec F S1x1 .f32) (v230 : FVec F S256x512 .f32), FVec F S256x512 .f32) :=
  ⟨qN 71, h, lamOf (window st.x9 ![0, 0] S4x128.size inb_S4x128_S4x128_0_0),
    ratioOf (window st.x21 ![0, 0, 0] S1x256x512.size inb_S2x272x512_S1x256x512_0_0_0) (window st.x21 ![0, 256, 0] S1x1x512.size inb_S2x272x512_S1x1x512_0_256_0),
    shapeCast S256x512 (window st.x21 ![1, 0, 0] S1x256x512.size inb_S2x272x512_S1x256x512_1_0_0) shapeCasts_S1x256x512_S256x512⟩

theorem chk63 : k0_chk63 (qN 71) := by
  refine ⟨?_, ?_, ?_⟩
  · exact mulQ (qN_lt _)
  · exact oInb (qN_lt _)
  · exact packO (qN_lt _)

theorem lastA_runs (ht : Tab st) : Runs c (Own c M q st) (lastA M) (lastF st chk63) (Own c M q st) := by
  have e : wAt st.x2 ![71] inb_S73_S1_71 = qN 71 := wq ht.h2 rfl
  unfold lastA
  refine Runs.bind (word2_runs (F := F)) ?_
  rw [e]
  refine Runs.bind (Runs.assume chk63) (Runs.bind (Runs.load has9) ?_)
  refine Runs.bind (Runs.load (has21 _)) (Runs.bind (Runs.load (has21 _)) (Runs.bind (Runs.load (has21 _)) ?_))
  exact Runs.pure _ _

theorem lastB_runs : Runs c (Own c M q st) (lastB M (lastF st chk63).1 (lastF st chk63).2.1 (lastF st chk63).2.2.1 (lastF st chk63).2.2.2.1 (lastF st chk63).2.2.2.2) ⟨⟩
    (Own c M q (finF (qN 71) st)) := by
  refine Runs.bind (Runs.load (has21 _)) (Runs.bind (Runs.load has10) (Runs.bind (Runs.load (has11 _)) ?_))
  exact Runs.bind (Runs.store (has11 _)) (Runs.pure _ _)

/-- The state the body leaves, from the scaled slope. -/
def bodyF (v2 : F .f32) (st : St F) : St F := finF (qN 71) (walkF v2 72 (scF false 0 (initF v2 st)))

theorem Tab.initF (v2 : F .f32) (ht : Tab st) : Tab (initF v2 st) := ⟨ht.h2, ht.h3, ht.h4⟩

/-- The head's slope, as the body reads it. -/
def slopeAt (i : grid0.Coords) (st : St F) : F .f32 := window st.x5 (k0_off1 i) S1.size (k0_off1_inb i) (Shape.Idx.first (numel1_S1.symm ▸ Nat.one_pos))

theorem body_runs (i : grid0.Coords) (ht : Tab st) :
    Runs c (Own c M q st) (bodyP M i) ⟨⟩ (Own c M q (bodyF (v2Of (slopeAt i st)) st)) := by
  unfold bodyP
  refine Runs.bind (Runs.smem has5) ?_
  refine Runs.bind (initP_runs _) ?_
  have h0 := ht.initF (v2Of (slopeAt i st))
  have hk : k0_chk1 (jN 0) := ⟨mulK (jN_lt _), kInb5 (jN_lt _) 0, mulK (jN_lt _), kInb5 (jN_lt _) 1⟩
  have hq : k0_chk2 (qN 0) := ⟨mulQ (qN_lt _), qInb (qN_lt _) 0, mulQ (qN_lt _), qInb (qN_lt _) 1⟩
  refine Runs.bind (scHalf_at false h0 rfl (by decide +kernel) hq hk) ?_
  have h1 := h0.scF false 0
  have hw : Runs c (Own c M q (scF false 0 (Cert.Attn.initF (v2Of (slopeAt i st)) st))) (walkP M (v2Of (slopeAt i st)))
      (lastF (walkF (v2Of (slopeAt i st)) 72 (scF false 0 (Cert.Attn.initF (v2Of (slopeAt i st)) st))) chk63)
      (Own c M q (walkF (v2Of (slopeAt i st)) 72 (scF false 0 (Cert.Attn.initF (v2Of (slopeAt i st)) st)))) :=
    Runs.bind (walk_runs _ h1) (lastA_runs (h1.walkF _ _))
  refine Runs.bind hw ?_
  exact lastB_runs

end Cert.Attn

end
-- ==== Proof.Run.Launch.lean ====
module

public import proofs.«01_k».proof.Proof.Run.Body
public import proofs.«01_k».proof.Proof.Gen.KernelIdeal.Launch
public import Idealize.ShloMosaic.Lib.Pipeline.Frame
public import Idealize.ShloMosaic.Lib.Pipeline.FrameBody

@[expose] public section

/-!
# The launch

The host operations, then the grid of the one call. The three step tables are constants of the program; every grid
point is handed its blocks and leaves what the body's run leaves in the block of results.
-/

set_option maxRecDepth 16384

noncomputable section

namespace Cert.Attn

open Idealize.ShloMosaic Idealize.ShloMosaic.TpuEff Cert.KernelIdeal Cert.KernelIdeal.Facts₀ Cert.KernelIdeal.Facts
open Cert.KernelIdeal.Gen (hostOps0 hostOps0_sub launch0 main_chain bigSep_W0 scopedRest0_eq)
open Idealize.SL Idealize.SL.RA Idealize.SL.BI
open scoped Idealize.SL.BI
open Idealize.SL.BI.BIBase Idealize.SL.BI.Laws Idealize.SL.ProofMode Idealize.SL.Sem
open Idealize.ShloMosaic.TcCoe
open Idealize.ShloMosaic.Pipeline (Dat Cfg Window BodyObligationLoose)

variable {F : FTy → Type} [FloatOps F] [Named F]

local notation "𝕄" => MT nD τ sig Unit (Elt F) ℕ (UU nD τ) ℕ

variable (m : (ℓ : Loc nD τ sig) → Buf (Elt F) ℓ)

/-- The buffers when the call is entered: the host operations have run. -/
abbrev V (c : Dev nD) (b : Ref sig .tc) : Buf (Elt F) ((c : Thread nD τ).loc b) := StableHlo.after hostOps0 (fun b => m (c, b)) b

/-- The step tables. -/
def tables : pre0.Contents (Elt F) := fun k => match k with
  | 0 => fun i => lit0 (S73.rowMajor i)
  | 1 => fun i => lit1 (S73.rowMajor i)
  | 2 => fun i => lit2 (S73.rowMajor i)

abbrev adm : (p : Fin 1) → (pcfgs (F := F) p).Adm := fun _ => ⟨tables, trivial⟩

abbrev cfgA : Cfg sig Λ₀ := Pipeline.pin (pcfgs (F := F)) adm 0

/-- The block of a window's array at a grid point. -/
abbrev blk (c : Dev nD) (w : Fin 7) (t : Fin (cfgA (F := F)).N) : (((cfgA (F := F)).win w).xblock ((cfgA (F := F)).grid.coords t)).Idx → Elt F ((cfgA (F := F)).win w).elt :=
  (((cfgA (F := F)).win w).blk t).view.read (Elt F) (V m c (Pipeline.arrRef spec0 w))

/-! The same, one by one: slopes, queries, keys, values, the four lambda vectors, the norm's weights. -/

def blk0 (c : Dev nD) (t : Fin (cfgA (F := F)).N) : S8.Idx → Elt F .f32 := blk m c 0 t
def blk1 (c : Dev nD) (t : Fin (cfgA (F := F)).N) : S1x8192x256.Idx → Elt F .bf16 := blk m c 1 t
def blk2 (c : Dev nD) (t : Fin (cfgA (F := F)).N) : S1x8192x256.Idx → Elt F .bf16 := blk m c 2 t
def blk3 (c : Dev nD) (t : Fin (cfgA (F := F)).N) : S1x1x272x8192.Idx → Elt F .bf16 := blk m c 3 t
def blk4 (c : Dev nD) (t : Fin (cfgA (F := F)).N) : S4x128.Idx → Elt F .f32 := blk m c 4 t
def blk5 (c : Dev nD) (t : Fin (cfgA (F := F)).N) : S1x256.Idx → Elt F .f32 := blk m c 5 t

/-- What the call's windows hold: the inputs their blocks, the results `out`. -/
def dats (out : (c : Dev nD) → Fin (cfgA (F := F)).N → S1x8192x256.Idx → Elt F .bf16) (_ : Fin 1) (c : Dev nD) : Dat τ (Elt F) Unit ℕ (UU nD τ) ℕ (cfgA (F := F)) c where
  A w := V m c (Pipeline.arrRef spec0 w)
  after w t := match w with
    | ⟨0, _⟩ => blk0 m c t
    | ⟨1, _⟩ => blk1 m c t
    | ⟨2, _⟩ => blk2 m c t
    | ⟨3, _⟩ => blk3 m c t
    | ⟨4, _⟩ => blk4 m c t
    | ⟨5, _⟩ => blk5 m c t
    | ⟨6, _⟩ => out c t
  Φ _ := iprop(Pipeline.ΦA spec0 c ∗ Pipeline.ΦT pre0 tables c)
  q _ := fullShare
  owed _ := 0

/-- The buffers the body is handed at a grid point. -/
def bufsAt (s : (w : Fin 7) → Fin (spec0 w).nbuf) : Bufs :=
  ⟨Memref.whole main_c, Memref.isWhole_whole _, Memref.whole main_c_0, Memref.isWhole_whole _, Memref.whole main_c_1, Memref.isWhole_whole _,
    spec0_0.stage (s 0), hstage0_0 ((s 0).cast nbuf0_0), spec0_1.stage (s 1), hstage0_1 ((s 1).cast nbuf0_1), spec0_2.stage (s 2), hstage0_2 ((s 2).cast nbuf0_2),
    spec0_3.stage (s 3), hstage0_3 ((s 3).cast nbuf0_3), spec0_4.stage (s 4), hstage0_4 ((s 4).cast nbuf0_4), spec0_5.stage (s 5), hstage0_5 ((s 5).cast nbuf0_5),
    spec0_6.stage (s 6), hstage0_6 ((s 6).cast nbuf0_6),
    Memref.whole cc0_scratch0, Memref.isWhole_whole _, Memref.whole cc0_scratch1, Memref.isWhole_whole _, Memref.whole cc0_scratch2, Memref.isWhole_whole _,
    Memref.whole cc0_scratch3, Memref.isWhole_whole _, Memref.whole cc0_scratch4, Memref.isWhole_whole _, Memref.whole cc0_scratch5, Memref.isWhole_whole _,
    Memref.whole cc0_scratch6, Memref.isWhole_whole _, Memref.whole cc0_scratch7, Memref.isWhole_whole _, Memref.whole cc0_scratch8, Memref.isWhole_whole _,
    Memref.whole cc0_scratch9, Memref.isWhole_whole _⟩

theorem defs_eq (t : Fin (cfgA (F := F)).N) (s : (w : Fin 7) → Fin (spec0 w).nbuf) :
    defs₀ (F := F) .tc (cfgA (F := F)).body ((cfgA (F := F)).bodyArgs t s) = bodyP (bufsAt s) (grid0.coords t) :=
  Eq.trans rfl (body_eq (bufsAt s) (grid0.coords t))

/-- The shares the body holds its inputs at: half of each table, all of each block. -/
def shares : Shares := ![fullShare.right, fullShare.right, fullShare.right, fullShare, fullShare, fullShare, fullShare, fullShare, fullShare]

/-- A state that holds the tables and the blocks of a grid point. -/
structure At (c : Dev nD) (t : Fin (cfgA (F := F)).N) (st : St F) : Prop extends Tab st where
  h5 : st.x5 = blk0 m c t
  h6 : st.x6 = blk1 m c t
  h7 : st.x7 = blk2 m c t
  h8 : st.x8 = blk3 m c t
  h9 : st.x9 = blk4 m c t
  h10 : st.x10 = blk5 m c t

/-- The buffers of a grid point at some state. -/
def OwnAt (c : Dev nD) (s : (w : Fin 7) → Fin (spec0 w).nbuf) (P : St F → Prop) : sProp 𝕄 :=
  iprop(∃ st : St F, ⌜P st⌝ ∗ Own c (bufsAt s) shares st)

/-- Two states whose inputs agree. -/
structure Ins (a st : St F) : Prop where
  h2 : st.x2 = a.x2
  h3 : st.x3 = a.x3
  h4 : st.x4 = a.x4
  h5 : st.x5 = a.x5
  h6 : st.x6 = a.x6
  h7 : st.x7 = a.x7
  h8 : st.x8 = a.x8
  h9 : st.x9 = a.x9
  h10 : st.x10 = a.x10

theorem Ins.trans {a b d : St F} (h : Ins a b) (h' : Ins b d) : Ins a d :=
  ⟨h'.h2.trans h.h2, h'.h3.trans h.h3, h'.h4.trans h.h4, h'.h5.trans h.h5, h'.h6.trans h.h6, h'.h7.trans h.h7, h'.h8.trans h.h8, h'.h9.trans h.h9, h'.h10.trans h.h10⟩

theorem initF_ins (v2 : F .f32) (st : St F) : Ins st (initF v2 st) := by
  unfold initF
  constructor <;> dsimp only

theorem finF_ins (w : BitVec 32) (st : St F) : Ins st (finF w st) := by
  unfold finF
  constructor <;> dsimp only

theorem walkF_same (v2 : F .f32) (a b : St F) (h : Same a b) : ∀ n, Same a (walkF v2 n b)
  | 0 => h
  | n + 1 => (walkF_same v2 a b h n).stepF _ _ _

theorem Ins.of_same {a b : St F} (h : Same a b) : Ins a b := ⟨h.h2, h.h3, h.h4, h.h5, h.h6, h.h7, h.h8, h.h9, h.h10⟩

theorem bodyF_ins (v2 : F .f32) (st : St F) : Ins st (bodyF v2 st) :=
  (initF_ins v2 st).trans ((Ins.of_same (walkF_same v2 _ _ ((Same.refl (initF v2 st)).scF false 0) 72)).trans (finF_ins _ _))

theorem At.of_ins {c : Dev nD} {t : Fin (cfgA (F := F)).N} {st st' : St F} (h : At m c t st) (e : Ins st st') : At m c t st' :=
  ⟨⟨e.h2.trans h.h2, e.h3.trans h.h3, e.h4.trans h.h4⟩, e.h5.trans h.h5, e.h6.trans h.h6, e.h7.trans h.h7, e.h8.trans h.h8, e.h9.trans h.h9, e.h10.trans h.h10⟩

attribute [local irreducible] bodyF

/-- The body at a grid point. -/
theorem body_at (c : Dev nD) (t : Fin (cfgA (F := F)).N) (s : (w : Fin 7) → Fin (spec0 w).nbuf) :
    OwnAt c s (At m c t) ⊢ W c (defs₀ (F := F) .tc (cfgA (F := F)).body ((cfgA (F := F)).bodyArgs t s)) fun _ =>
      OwnAt c s fun st' => At m c t st' ∧ ∃ st, At m c t st ∧ st' = Cert.Attn.bodyF (v2Of (slopeAt (grid0.coords t) st)) st := by
  rw [defs_eq]
  unfold OwnAt
  iintro ⟨%st, %h, H⟩
  iapply ((body_runs (c := c) (M := bufsAt s) (q := shares) (grid0.coords t) h.toTab).wp
    (fun _ => iprop(∃ st', ⌜At m c t st' ∧ ∃ st, At m c t st ∧ st' = Cert.Attn.bodyF (v2Of (slopeAt (grid0.coords t) st)) st⌝ ∗ Own c (bufsAt s) shares st')) (by
      iintro H
      iexists _
      isplitr; swap
      · iexact H
      · ipureintro; exact ⟨h.of_ins m (bodyF_ins _ _), st, h, rfl⟩)) $$ H

/-- The tables, one by one. -/
theorem held_eq (c : Dev nD) : (Pipeline.ΦT pre0 (tables (F := F)) c : sProp 𝕄)
    = iprop((((c : Thread nD τ).loc main_c) ↦{fullShare.right} tables (F := F) 0) ∗ (((c : Thread nD τ).loc main_c_0) ↦{fullShare.right} tables (F := F) 1)
      ∗ (((c : Thread nD τ).loc main_c_1) ↦{fullShare.right} tables (F := F) 2)) :=
  bigSep_univ_eq_bigSepL [(0 : Fin 3), (1 : Fin 3), (2 : Fin 3)] (by decide) (by decide) _

theorem owns_of_loc (c : Dev nD) (b : Ref sig .tc) (q : PosShare TreeShare) (f : Buf (Elt F) ((c : Thread nD τ).loc b)) :
    (((c : Thread nD τ).loc b) ↦{q} f : sProp 𝕄) ⊢ owns (c : Thread nD τ) (Memref.whole b) q f := by
  rw [owns_whole_eq]
  iintro H
  iexists f
  isplitr
  · ipureintro; rfl
  · iexact H

theorem loc_of_owns (c : Dev nD) (b : Ref sig .tc) (q : PosShare TreeShare) (f : Buf (Elt F) ((c : Thread nD τ).loc b)) :
    (owns (c : Thread nD τ) (Memref.whole b) q f : sProp 𝕄) ⊢ (((c : Thread nD τ).loc b) ↦{q} f) := by
  rw [owns_whole_eq]
  iintro ⟨%g, %h, H⟩
  subst h
  iexact H

/-- The body's buffers at a grid point, named. -/
theorem own_bufs (c : Dev nD) (s : (w : Fin 7) → Fin (spec0 w).nbuf) (st : St F) : (Own c (bufsAt s) shares st : sProp 𝕄) = iprop(owns (c : Thread nD τ) (Memref.whole main_c) fullShare.right st.x2
    ∗ owns (c : Thread nD τ) (Memref.whole main_c_0) fullShare.right st.x3
    ∗ owns (c : Thread nD τ) (Memref.whole main_c_1) fullShare.right st.x4
    ∗ owns (c : Thread nD τ) (spec0_0.stage (s 0)) fullShare st.x5
    ∗ owns (c : Thread nD τ) (spec0_1.stage (s 1)) fullShare st.x6
    ∗ owns (c : Thread nD τ) (spec0_2.stage (s 2)) fullShare st.x7
    ∗ owns (c : Thread nD τ) (spec0_3.stage (s 3)) fullShare st.x8
    ∗ owns (c : Thread nD τ) (spec0_4.stage (s 4)) fullShare st.x9
    ∗ owns (c : Thread nD τ) (spec0_5.stage (s 5)) fullShare st.x10
    ∗ owns (c : Thread nD τ) (spec0_6.stage (s 6)) fullShare st.x11
    ∗ owns (c : Thread nD τ) (Memref.whole cc0_scratch0) fullShare st.x12
    ∗ owns (c : Thread nD τ) (Memref.whole cc0_scratch1) fullShare st.x13
    ∗ owns (c : Thread nD τ) (Memref.whole cc0_scratch2) fullShare st.x14
    ∗ owns (c : Thread nD τ) (Memref.whole cc0_scratch3) fullShare st.x15
    ∗ owns (c : Thread nD τ) (Memref.whole cc0_scratch4) fullShare st.x16
    ∗ owns (c : Thread nD τ) (Memref.whole cc0_scratch5) fullShare st.x17
    ∗ owns (c : Thread nD τ) (Memref.whole cc0_scratch6) fullShare st.x18
    ∗ owns (c : Thread nD τ) (Memref.whole cc0_scratch7) fullShare st.x19
    ∗ owns (c : Thread nD τ) (Memref.whole cc0_scratch8) fullShare st.x20
    ∗ owns (c : Thread nD τ) (Memref.whole cc0_scratch9) fullShare st.x21) := rfl

/-- What the body is handed: scratch, tables and blocks. -/
def given (c : Dev nD) (t : Fin (cfgA (F := F)).N) (s : (w : Fin 7) → Fin (spec0 w).nbuf) (X : sProp 𝕄) : sProp 𝕄 :=
  iprop(Pipeline.scopedRest spec0 c ∗ Pipeline.ΦT pre0 (tables (F := F)) c
    ∗ owns (c : Thread nD τ) (spec0_0.stage (s 0)) fullShare (blk0 m c t) ∗ owns (c : Thread nD τ) (spec0_1.stage (s 1)) fullShare (blk1 m c t)
    ∗ owns (c : Thread nD τ) (spec0_2.stage (s 2)) fullShare (blk2 m c t) ∗ owns (c : Thread nD τ) (spec0_3.stage (s 3)) fullShare (blk3 m c t)
    ∗ owns (c : Thread nD τ) (spec0_4.stage (s 4)) fullShare (blk4 m c t) ∗ owns (c : Thread nD τ) (spec0_5.stage (s 5)) fullShare (blk5 m c t) ∗ X)

/-- The state made of the tables, the blocks and whatever the other buffers hold. -/
def stOf (c : Dev nD) (t : Fin (cfgA (F := F)).N) (x : S1x8192x256.Idx → Elt F .bf16) (f0 : S512x512.Idx → Elt F .f32) (f1 : S1024x128.Idx → Elt F .bf16) (f2 : S512x128.Idx → Elt F .bf16)
    (f3 f4 : S2x1024x512.Idx → Elt F .f32) (f5 f6 : S2x1x512.Idx → Elt F .f32) (f7 : S2x1024x512.Idx → Elt F .bf16) (f8 : S2x1x512.Idx → Elt F .f32) (f9 : S2x272x512.Idx → Elt F .f32) : St F :=
  ⟨tables (F := F) 0, tables (F := F) 1, tables (F := F) 2, blk0 m c t, blk1 m c t, blk2 m c t, blk3 m c t, blk4 m c t, blk5 m c t, x, f0, f1, f2, f3, f4, f5, f6, f7, f8, f9⟩

theorem stOf_at (c : Dev nD) (t : Fin (cfgA (F := F)).N) (x f0 f1 f2 f3 f4 f5 f6 f7 f8 f9) : At m c t (stOf m c t x f0 f1 f2 f3 f4 f5 f6 f7 f8 f9) := by
  unfold stOf
  exact ⟨⟨rfl, rfl, rfl⟩, rfl, rfl, rfl, rfl, rfl, rfl⟩

theorem own_in (c : Dev nD) (t : Fin (cfgA (F := F)).N) (s : (w : Fin 7) → Fin (spec0 w).nbuf) :
    given m c t s iprop(∃ X, owns (c : Thread nD τ) (spec0_6.stage (s 6)) fullShare X) ⊢ OwnAt c s (At m c t) := by
  unfold given OwnAt
  simp only [own_bufs]
  rw [scopedRest0_eq, held_eq]
  iintro ⟨⟨⟨%f0, S0⟩, ⟨%f1, S1⟩, ⟨%f2, S2⟩, ⟨%f3, S3⟩, ⟨%f4, S4⟩, ⟨%f5, S5⟩, ⟨%f6, S6⟩, ⟨%f7, S7⟩, ⟨%f8, S8⟩, %f9, S9⟩, ⟨T0, T1, T2⟩, H0, H1, H2, H3, H4, H5, %x, H6⟩
  iexists stOf m c t x f0 f1 f2 f3 f4 f5 f6 f7 f8 f9
  isplitr
  · ipureintro; exact stOf_at m c t x f0 f1 f2 f3 f4 f5 f6 f7 f8 f9
  isplitl [T0]; · iapply (owns_of_loc c main_c fullShare.right (tables (F := F) 0)) $$ T0
  isplitl [T1]; · iapply (owns_of_loc c main_c_0 fullShare.right (tables (F := F) 1)) $$ T1
  isplitl [T2]; · iapply (owns_of_loc c main_c_1 fullShare.right (tables (F := F) 2)) $$ T2
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iapply (owns_of_loc c cc0_scratch0 _ _) $$ S0
  isplitl [S1]; · iapply (owns_of_loc c cc0_scratch1 _ _) $$ S1
  isplitl [S2]; · iapply (owns_of_loc c cc0_scratch2 _ _) $$ S2
  isplitl [S3]; · iapply (owns_of_loc c cc0_scratch3 _ _) $$ S3
  isplitl [S4]; · iapply (owns_of_loc c cc0_scratch4 _ _) $$ S4
  isplitl [S5]; · iapply (owns_of_loc c cc0_scratch5 _ _) $$ S5
  isplitl [S6]; · iapply (owns_of_loc c cc0_scratch6 _ _) $$ S6
  isplitl [S7]; · iapply (owns_of_loc c cc0_scratch7 _ _) $$ S7
  isplitl [S8]; · iapply (owns_of_loc c cc0_scratch8 _ _) $$ S8
  iapply (owns_of_loc c cc0_scratch9 _ _) $$ S9

theorem own_out (c : Dev nD) (t : Fin (cfgA (F := F)).N) (s : (w : Fin 7) → Fin (spec0 w).nbuf) (P : St F → Prop) :
    OwnAt c s (fun st => At m c t st ∧ P st) ⊢ given m c t s iprop(∃ st, ⌜P st⌝ ∗ owns (c : Thread nD τ) (spec0_6.stage (s 6)) fullShare st.x11) := by
  unfold given OwnAt
  simp only [own_bufs]
  rw [scopedRest0_eq, held_eq]
  iintro ⟨%st, %h, T0, T1, T2, H0, H1, H2, H3, H4, H5, H6, S0, S1, S2, S3, S4, S5, S6, S7, S8, S9⟩
  rw [show st.x2 = tables (F := F) 0 from h.1.h2, show st.x3 = tables (F := F) 1 from h.1.h3, show st.x4 = tables (F := F) 2 from h.1.h4, h.1.h5, h.1.h6, h.1.h7, h.1.h8, h.1.h9, h.1.h10]
  isplitl [S0 S1 S2 S3 S4 S5 S6 S7 S8 S9]
  · isplitl [S0]; · iexists _; iapply (loc_of_owns c cc0_scratch0 _ _) $$ S0
    isplitl [S1]; · iexists _; iapply (loc_of_owns c cc0_scratch1 _ _) $$ S1
    isplitl [S2]; · iexists _; iapply (loc_of_owns c cc0_scratch2 _ _) $$ S2
    isplitl [S3]; · iexists _; iapply (loc_of_owns c cc0_scratch3 _ _) $$ S3
    isplitl [S4]; · iexists _; iapply (loc_of_owns c cc0_scratch4 _ _) $$ S4
    isplitl [S5]; · iexists _; iapply (loc_of_owns c cc0_scratch5 _ _) $$ S5
    isplitl [S6]; · iexists _; iapply (loc_of_owns c cc0_scratch6 _ _) $$ S6
    isplitl [S7]; · iexists _; iapply (loc_of_owns c cc0_scratch7 _ _) $$ S7
    isplitl [S8]; · iexists _; iapply (loc_of_owns c cc0_scratch8 _ _) $$ S8
    iexists _; iapply (loc_of_owns c cc0_scratch9 _ _) $$ S9
  isplitl [T0 T1 T2]
  · isplitl [T0]; · iapply (loc_of_owns c main_c fullShare.right (tables (F := F) 0)) $$ T0
    isplitl [T1]; · iapply (loc_of_owns c main_c_0 fullShare.right (tables (F := F) 1)) $$ T1
    iapply (loc_of_owns c main_c_1 fullShare.right (tables (F := F) 2)) $$ T2
  isplitl [H0]; · iexact H0
  isplitl [H1]; · iexact H1
  isplitl [H2]; · iexact H2
  isplitl [H3]; · iexact H3
  isplitl [H4]; · iexact H4
  isplitl [H5]; · iexact H5
  iexists st
  isplitr
  · ipureintro; exact h.2
  iexact H6

variable (out : (c : Dev nD) → Fin (cfgA (F := F)).N → S1x8192x256.Idx → Elt F .bf16)

theorem before0 (c : Dev nD) (t : Fin (cfgA (F := F)).N) (d) : (dats m out 0 c).before 0 t d = blk0 m c t :=
  (dats m out 0 c).before_in_eq_fetched 0 rfl (fun _ => rfl) (fun _ _ _ => rfl) (fun _ => rfl) t d
theorem before1 (c : Dev nD) (t : Fin (cfgA (F := F)).N) (d) : (dats m out 0 c).before 1 t d = blk1 m c t :=
  (dats m out 0 c).before_in_eq_fetched 1 rfl (fun _ => rfl) (fun _ _ _ => rfl) (fun _ => rfl) t d
theorem before2 (c : Dev nD) (t : Fin (cfgA (F := F)).N) (d) : (dats m out 0 c).before 2 t d = blk2 m c t :=
  (dats m out 0 c).before_in_eq_fetched 2 rfl (fun _ => rfl) (fun _ _ _ => rfl) (fun _ => rfl) t d
theorem before3 (c : Dev nD) (t : Fin (cfgA (F := F)).N) (d) : (dats m out 0 c).before 3 t d = blk3 m c t :=
  (dats m out 0 c).before_in_eq_fetched 3 rfl (fun _ => rfl) (fun _ _ _ => rfl) (fun _ => rfl) t d
theorem before4 (c : Dev nD) (t : Fin (cfgA (F := F)).N) (d) : (dats m out 0 c).before 4 t d = blk4 m c t :=
  (dats m out 0 c).before_in_eq_fetched 4 rfl (fun _ => rfl) (fun _ _ _ => rfl) (fun _ => rfl) t d
theorem before5 (c : Dev nD) (t : Fin (cfgA (F := F)).N) (d) : (dats m out 0 c).before 5 t d = blk5 m c t :=
  (dats m out 0 c).before_in_eq_fetched 5 rfl (fun _ => rfl) (fun _ _ _ => rfl) (fun _ => rfl) t d

theorem in0 (c : Dev nD) (t : Fin (cfgA (F := F)).N) :
    (iprop(∃ d, owns (c : Thread nD τ) (((cfgA (F := F)).win 0).stage ((cfgA (F := F)).slots t 0)) fullShare ((dats m out 0 c).before 0 t d)) : sProp 𝕄)
      ⊢ owns (c : Thread nD τ) (spec0_0.stage ((cfgA (F := F)).slots t 0)) fullShare (blk0 m c t) := by
  iintro ⟨%d, H⟩
  rw [before0 m out c t d]
  iexact H
theorem in1 (c : Dev nD) (t : Fin (cfgA (F := F)).N) :
    (iprop(∃ d, owns (c : Thread nD τ) (((cfgA (F := F)).win 1).stage ((cfgA (F := F)).slots t 1)) fullShare ((dats m out 0 c).before 1 t d)) : sProp 𝕄)
      ⊢ owns (c : Thread nD τ) (spec0_1.stage ((cfgA (F := F)).slots t 1)) fullShare (blk1 m c t) := by
  iintro ⟨%d, H⟩
  rw [before1 m out c t d]
  iexact H
theorem in2 (c : Dev nD) (t : Fin (cfgA (F := F)).N) :
    (iprop(∃ d, owns (c : Thread nD τ) (((cfgA (F := F)).win 2).stage ((cfgA (F := F)).slots t 2)) fullShare ((dats m out 0 c).before 2 t d)) : sProp 𝕄)
      ⊢ owns (c : Thread nD τ) (spec0_2.stage ((cfgA (F := F)).slots t 2)) fullShare (blk2 m c t) := by
  iintro ⟨%d, H⟩
  rw [before2 m out c t d]
  iexact H
theorem in3 (c : Dev nD) (t : Fin (cfgA (F := F)).N) :
    (iprop(∃ d, owns (c : Thread nD τ) (((cfgA (F := F)).win 3).stage ((cfgA (F := F)).slots t 3)) fullShare ((dats m out 0 c).before 3 t d)) : sProp 𝕄)
      ⊢ owns (c : Thread nD τ) (spec0_3.stage ((cfgA (F := F)).slots t 3)) fullShare (blk3 m c t) := by
  iintro ⟨%d, H⟩
  rw [before3 m out c t d]
  iexact H
theorem in4 (c : Dev nD) (t : Fin (cfgA (F := F)).N) :
    (iprop(∃ d, owns (c : Thread nD τ) (((cfgA (F := F)).win 4).stage ((cfgA (F := F)).slots t 4)) fullShare ((dats m out 0 c).before 4 t d)) : sProp 𝕄)
      ⊢ owns (c : Thread nD τ) (spec0_4.stage ((cfgA (F := F)).slots t 4)) fullShare (blk4 m c t) := by
  iintro ⟨%d, H⟩
  rw [before4 m out c t d]
  iexact H
theorem in5 (c : Dev nD) (t : Fin (cfgA (F := F)).N) :
    (iprop(∃ d, owns (c : Thread nD τ) (((cfgA (F := F)).win 5).stage ((cfgA (F := F)).slots t 5)) fullShare ((dats m out 0 c).before 5 t d)) : sProp 𝕄)
      ⊢ owns (c : Thread nD τ) (spec0_5.stage ((cfgA (F := F)).slots t 5)) fullShare (blk5 m c t) := by
  iintro ⟨%d, H⟩
  rw [before5 m out c t d]
  iexact H

/-- One grid point: what comes in, with the results' block at anything, and what goes out, that block as the body leaves it. -/
theorem point (c : Dev nD) (t : Fin (cfgA (F := F)).N) (s : (w : Fin 7) → Fin (spec0 w).nbuf) :
    given m c t s iprop(∃ X, owns (c : Thread nD τ) (spec0_6.stage (s 6)) fullShare X)
      ⊢ W c (defs₀ (F := F) .tc (cfgA (F := F)).body ((cfgA (F := F)).bodyArgs t s)) fun _ =>
        given m c t s iprop(∃ st', ⌜∃ st, At m c t st ∧ st' = Cert.Attn.bodyF (v2Of (slopeAt (grid0.coords t) st)) st⌝ ∗ owns (c : Thread nD τ) (spec0_6.stage (s 6)) fullShare st'.x11) :=
  (own_in m c t s).trans ((body_at m c t s).trans (wp_mono _ _ _ fun _ => own_out m c t s _))

/-- The windows whose contents are not followed: the results' one, or none. -/
def fgt (b : Bool) : Fin 7 → Bool | 6 => b | _ => false

/-- The body's obligation: the results' block either followed or not. -/
theorem obligation (b : Bool) (c : Dev nD)
    (hout : b = false → ∀ t st, At m c t st → (Cert.Attn.bodyF (v2Of (slopeAt (grid0.coords t) st)) st).x11 = out c t) :
    BodyObligationLoose (dats m out 0 c) (defs₀ (F := F)) 𝒱₀ () Set.univ (fgt b) := fun t => by
  rw [bigSep_W0, bigSep_W0]
  simp only [show fgt b 0 = false from rfl, show fgt b 1 = false from rfl, show fgt b 2 = false from rfl, show fgt b 3 = false from rfl,
    show fgt b 4 = false from rfl, show fgt b 5 = false from rfl, show fgt b 6 = b from rfl]
  have hp := point m c t ((cfgA (F := F)).slots t)
  have hq := (sep_mono_left hp).trans (wp_frame_r (R := iprop((∃ r, prngReg c r) ∗ (dats m out 0 c).owesAt () t.castSucc)) _ _ _)
  refine BIBase.Entails.trans ?_ (hq.trans (wp_mono _ _ _ fun _ => ?_))
  · refine BIBase.Entails.trans (BIClass.sep_mono .rfl (BIClass.sep_mono .rfl (BIClass.sep_mono (in0 m out c t) (BIClass.sep_mono (in1 m out c t) (BIClass.sep_mono (in2 m out c t)
      (BIClass.sep_mono (in3 m out c t) (BIClass.sep_mono (in4 m out c t) (BIClass.sep_mono (in5 m out c t) .rfl)))))))) ?_
    show iprop((Pipeline.ΦA spec0 c ∗ Pipeline.ΦT pre0 tables c) ∗ _) ⊢ _
    unfold Pipeline.ΦA given
    iintro ⟨⟨⟨HS, HR⟩, HT⟩, HO, H0, H1, H2, H3, H4, H5, H6⟩
    isplitr [HR HO]
    · isplitl [HS]; · iexact HS
      isplitl [HT]; · iexact HT
      isplitl [H0]; · iexact H0
      isplitl [H1]; · iexact H1
      isplitl [H2]; · iexact H2
      isplitl [H3]; · iexact H3
      isplitl [H4]; · iexact H4
      isplitl [H5]; · iexact H5
      cases b with
      | true => iexact H6
      | false => icases H6 with ⟨%d6, H6⟩; iexists _; iexact H6
    · isplitl [HR]; · iexact HR
      iexact HO
  · show _ ⊢ iprop((Pipeline.ΦA spec0 c ∗ Pipeline.ΦT pre0 tables c) ∗ _)
    unfold Pipeline.ΦA given
    iintro ⟨⟨HS, HT, H0, H1, H2, H3, H4, H5, %st', %hst, H6⟩, HR, HO⟩
    isplitl [HS HR HT]
    · isplitl [HS HR]
      · isplitl [HS]; · iexact HS
        iexact HR
      · iexact HT
    isplitl [HO]; · iexact HO
    isplitl [H0]; · iexact H0
    isplitl [H1]; · iexact H1
    isplitl [H2]; · iexact H2
    isplitl [H3]; · iexact H3
    isplitl [H4]; · iexact H4
    isplitl [H5]; · iexact H5
    cases b with
    | true => iexists _; iexact H6
    | false =>
      obtain ⟨st, ha, rfl⟩ := hst
      rw [hout rfl t st ha]
      iexact H6

end Cert.Attn

end
-- ==== Proof.Run.Frame.lean ====
module

public import proofs.«01_k».proof.Proof.Run.Launch
public import Idealize.ShloMosaic.Lib.StableHlo.RunRead

@[expose] public section

/-!
# The run of the program

From any memory the program ends with its arguments as they were.
-/

set_option maxRecDepth 16384

noncomputable section

namespace Cert.Attn

open Idealize.ShloMosaic Idealize.ShloMosaic.TpuEff Cert.KernelIdeal Cert.KernelIdeal.Facts₀ Cert.KernelIdeal.Facts
open Cert.KernelIdeal.Gen (hostOps0 hostOps0_sub launch0 main_chain bigSep_W0 scopedRest0_eq)
open Idealize.SL Idealize.SL.RA Idealize.SL.BI
open scoped Idealize.SL.BI
open Idealize.SL.BI.BIBase Idealize.SL.BI.Laws Idealize.SL.ProofMode Idealize.SL.Sem
open Idealize.ShloMosaic.TcCoe
open Idealize.ShloMosaic.Pipeline (Dat Cfg Window BodyObligationLoose)

variable {F : FTy → Type} [FloatOps F] [Named F]

local notation "𝕄" => MT nD τ sig Unit (Elt F) ℕ (UU nD τ) ℕ

variable (m : (ℓ : Loc nD τ sig) → Buf (Elt F) ℓ) (g : Dev nD → PrngReg)

theorem V_tab0 (c : Dev nD) : V m c main_c = tables (F := F) 0 := by
  unfold V hostOps0
  after_reads_simp
  rfl

theorem V_tab1 (c : Dev nD) : V m c main_c_0 = tables (F := F) 1 := by
  unfold V hostOps0
  after_reads_simp
  rfl

theorem V_tab2 (c : Dev nD) : V m c main_c_1 = tables (F := F) 2 := by
  unfold V hostOps0
  after_reads_simp
  rfl

theorem V_pre (c : Dev nD) (k : Fin pre0.K) : V m c (pre0.ref k) = tables (F := F) k := by
  match k with
  | ⟨0, _⟩ => exact V_tab0 m c
  | ⟨1, _⟩ => exact V_tab1 m c
  | ⟨2, _⟩ => exact V_tab2 m c

theorem hmain : Pipeline.HMainP (Ix := Unit) (Name := ℕ) (U := UR sig nD τ) (Lvl := ℕ) (pcfgs (F := F)) 0 (defs₀ (F := F)) 𝒱₀ m (main (F := F)) (fun c b => V m c b) :=
  Pipeline.hmainP_prefix (pcfgs (F := F)) 0 defs₀ 𝒱₀ m main hostOps0 hostOps0_sub
    (by repeat' first | exact rfl | refine ⟨rfl, ?_⟩) main_chain

variable (out : (c : Dev nD) → Fin (cfgA (F := F)).N → S1x8192x256.Idx → Elt F .bf16)

/-- The run with the results not followed. -/
theorem run_forget : θ_run (defs (F := F)) (onTc (main (F := F))) ⟨m, fun _ => 0, g⟩ (fun r =>
    Pipeline.RDat.FramePost (cfgA (F := F)) (fun c => (dats m out 0 c).toRForget (fgt true)) (fun c b => V m c b) r ∧ r.2.sem = fun _ => 0) :=
  Pipeline.θ_run_frameP_forget (pcfgs (F := F)) adm (dats m out) 0 launch0 defs₀ 𝒱₀ (fgt true) m g main
    (fun c => obligation m out true c (fun h => absurd h (by decide)))
    (fun c => (dats m out 0 c).share_full fun _ => rfl) (fun _ _ => rfl) (fun c b => V m c b) (hmain m) (fun c w => by dsimp only [dats]) (V_pre m) (fun _ _ => rfl) _ (fun _ h => h)

/-- The run with the results followed. -/
theorem run_exact (hout : ∀ c t st, At m c t st → (Cert.Attn.bodyF (v2Of (slopeAt (grid0.coords t) st)) st).x11 = out c t) :
    θ_run (defs (F := F)) (onTc (main (F := F))) ⟨m, fun _ => 0, g⟩ (fun r =>
    Pipeline.FramePost (Pipeline.pin (pcfgs (F := F)) adm) (dats m out) 0 (fun c b => V m c b) r ∧ r.2.sem = fun _ => 0) :=
  Pipeline.θ_run_frameP (pcfgs (F := F)) adm (dats m out) 0 launch0 defs₀ 𝒱₀ m g main
    (fun c => obligation m out false c (fun _ => hout c))
    (fun c => (dats m out 0 c).share_full fun _ => rfl) (fun _ _ => rfl) (fun c b => V m c b) (hmain m) (fun c w => by dsimp only [dats]) (V_pre m) (fun _ _ => rfl) _ (fun _ h => h)

/-- An argument is no array of the call and no host operation writes it. -/
theorem arg_rest (b : Ref sig .tc) (hb : b = main_arg0 ∨ b = main_arg1 ∨ b = main_arg2 ∨ b = main_arg3 ∨ b = main_arg4 ∨ b = main_arg5 ∨ b = main_arg6 ∨ b = main_arg7) :
    b ∈ Pipeline.restRefs sig spec0 := by
  rcases hb with rfl | rfl | rfl | rfl | rfl | rfl | rfl | rfl <;> exact Pipeline.mem_restRefs_of _ rfl (by decide)

theorem V_arg (b : Ref sig .tc) (hb : b = main_arg0 ∨ b = main_arg1 ∨ b = main_arg2 ∨ b = main_arg3 ∨ b = main_arg4 ∨ b = main_arg5 ∨ b = main_arg6 ∨ b = main_arg7) (c : Dev nD) :
    V m c b = m ((c : Thread nD τ).loc b) := by
  unfold V hostOps0
  rcases hb with rfl | rfl | rfl | rfl | rfl | rfl | rfl | rfl <;> (after_reads_simp)

/-- The arguments at the end. -/
def Kept (r : PUnit × MemSt nD τ sig (Elt F)) : Prop := ∀ c : Dev nD,
  r.2.mem ((c : Thread nD τ).loc main_arg0) = m ((c : Thread nD τ).loc main_arg0) ∧ r.2.mem ((c : Thread nD τ).loc main_arg1) = m ((c : Thread nD τ).loc main_arg1)
  ∧ r.2.mem ((c : Thread nD τ).loc main_arg2) = m ((c : Thread nD τ).loc main_arg2) ∧ r.2.mem ((c : Thread nD τ).loc main_arg3) = m ((c : Thread nD τ).loc main_arg3)
  ∧ r.2.mem ((c : Thread nD τ).loc main_arg4) = m ((c : Thread nD τ).loc main_arg4) ∧ r.2.mem ((c : Thread nD τ).loc main_arg5) = m ((c : Thread nD τ).loc main_arg5)
  ∧ r.2.mem ((c : Thread nD τ).loc main_arg6) = m ((c : Thread nD τ).loc main_arg6) ∧ r.2.mem ((c : Thread nD τ).loc main_arg7) = m ((c : Thread nD τ).loc main_arg7)

theorem kept_of_rest (r : PUnit × MemSt nD τ sig (Elt F)) (h : ∀ c : Dev nD, ∀ b ∈ Pipeline.restRefs sig spec0, r.2.mem ((c : Thread nD τ).loc b) = V m c b) : Kept m r := fun c => by
  have k : ∀ b, (b = main_arg0 ∨ b = main_arg1 ∨ b = main_arg2 ∨ b = main_arg3 ∨ b = main_arg4 ∨ b = main_arg5 ∨ b = main_arg6 ∨ b = main_arg7) →
      r.2.mem ((c : Thread nD τ).loc b) = m ((c : Thread nD τ).loc b) := fun b hb => (h c b (arg_rest b hb)).trans (V_arg m b hb c)
  exact ⟨k _ (by simp), k _ (by simp), k _ (by simp), k _ (by simp), k _ (by simp), k _ (by simp), k _ (by simp), k _ (by simp)⟩

/-- From any memory the program ends, its arguments as they were and its counters at zero. -/
theorem frame_any : θ_run (defs (F := F)) (onTc (main (F := F))) ⟨m, fun _ => 0, g⟩ (fun r => Kept m r ∧ r.2.sem = fun _ => 0) :=
  (θ_run _ _ _).mono (fun r h => ⟨kept_of_rest m r fun c b hb => (h.1 c).2 b hb, h.2⟩) (run_forget m g fun _ _ _ => (Scalar.ofBits .bf16 0x0000#16 : F .bf16))

end Cert.Attn

end
-- ==== Proof.Run.KernelFrame.lean ====
module

public import proofs.«01_k».proof.Defs
public import proofs.«01_k».proof.Proof.Run.Frame
public import proofs.«01_k».proof.Proof.Gen.Kernel

@[expose] public section

/-!
# The original program

Its text is the other program's with each named constant read as its bits.
-/

set_option maxRecDepth 16384

noncomputable section

namespace Cert.Attn

open Idealize.ShloMosaic Idealize.ShloMosaic.TcCoe Idealize.SL.Sem

/-- Every named constant read as its bits. -/
abbrev plain : Named Bits where
  named _ _ φ b := FloatOps.ofBits φ b

theorem kernel_main : Cert.Kernel.main (F := Bits) = (letI := plain; Cert.KernelIdeal.main (F := Bits)) := by
  sl_kernel_rfl

theorem kernel_defs : Cert.Kernel.defs (F := Bits) = (letI := plain; Cert.KernelIdeal.defs (F := Bits)) := by
  sl_kernel_rfl

theorem frame_kernel : Cert.quiescent_Kernel := fun m g _ => by
  rw [kernel_main, kernel_defs]
  exact letI := plain; frame_any m g

end Cert.Attn

end
-- ==== Proof.Value.Reference.lean ====
module

public import proofs.«01_k».proof.Defs
public import proofs.«01_k».proof.Proof.Gen.ReferenceIdeal
public import Idealize.ShloMosaic.Lib.StableHlo.RunHlo
public import Idealize.ShloMosaic.Lib.Claim
public import Idealize.ShloMosaic.Lib.Pointwise
public import Idealize.ShloMosaic.Adequacy
public import Idealize.ShloMosaic.Init

@[expose] public section

/-!
# The reference's result, element by element
-/

set_option maxRecDepth 16384

noncomputable section

namespace Cert.Attn

open Idealize.ShloMosaic Idealize.ShloMosaic.TcCoe Cert.ReferenceIdeal Cert.ReferenceIdeal.Facts₀ Cert.ReferenceIdeal.Facts

/-- The row of key chunks. -/
def rChunkS (x : IVec S1x8192 32) : IVec S1x8192 32 :=
  let b := broadcastInDim S1x8192 ![] bcast_S_S1x8192 (constantI S_ 32 64#32)
  let z := broadcastInDim S1x8192 ![] bcast_S_S1x8192 (constantI S_ 32 0#32)
  let o := broadcastInDim S1x8192 ![] bcast_S_S1x8192 (constantI S_ 32 1#32)
  let g := broadcastInDim S1x8192 ![] bcast_S_S1x8192 (signi (constantI S_ 32 64#32))
  select (andi (cmpi .ne (signi x) g) (cmpi .ne (Host.remsi x b) z)) (subi (Host.divsi x b) o) (Host.divsi x b)

/-- The column of query chunks. -/
def rChunkT (x : IVec S8192x1 32) : IVec S8192x1 32 :=
  let b := broadcastInDim S8192x1 ![] bcast_S_S8192x1 (constantI S_ 32 64#32)
  let z := broadcastInDim S8192x1 ![] bcast_S_S8192x1 (constantI S_ 32 0#32)
  let o := broadcastInDim S8192x1 ![] bcast_S_S8192x1 (constantI S_ 32 1#32)
  let g := broadcastInDim S8192x1 ![] bcast_S_S8192x1 (signi (constantI S_ 32 64#32))
  select (andi (cmpi .ne (signi x) g) (cmpi .ne (Host.remsi x b) z)) (subi (Host.divsi x b) o) (Host.divsi x b)

/-- Which keys each query may look at. -/
def rMask : IVec S8192x8192 1 :=
  let v36 := rChunkS (broadcastInDim S1x8192 ![1] bcast_S8192_S1x8192_1 (iotaInDim S8192 32 0))
  let v38 := rChunkT (broadcastInDim S8192x1 ![0] bcast_S8192_S8192x1_0 (iotaInDim S8192 32 0))
  let v39 := broadcastInDim S8192x8192 ![0, 1] bcast_S1x8192_S8192x8192_0_1 v36
  let v40 := broadcastInDim S8192x8192 ![0, 1] bcast_S8192x1_S8192x8192_0_1 v38
  cmpi .sle v39 v40

/-- The distances between positions. -/
def rDist : FVec Ideal S8192x8192 .f32 :=
  let v10 := (iotaInDim S8192 32 0)
  let v11 := (iotaInDim S8192 32 0)
  let v13 := broadcastInDim S8192x1 ![0] bcast_S8192_S8192x1_0 v11
  let v14 := broadcastInDim S1x8192 ![1] bcast_S8192_S1x8192_1 v10
  let v15 := broadcastInDim S8192x8192 ![0, 1] bcast_S8192x1_S8192x8192_0_1 v13
  let v16 := broadcastInDim S8192x8192 ![0, 1] bcast_S1x8192_S8192x8192_0_1 v14
  let v17 := subi v15 v16
  let v18 := absi v17
  sitofp .f32 v18

/-- The heads' slopes. -/
def rSlope : FVec Ideal S8 .f32 :=
  let v20 := (sitofp .f32 (iotaInDim S8 32 0))
  let cst_3 := (constant S_ .f32 0x3F800000#32)
  let v21 := broadcastInDim S8 ![] bcast_S_S8 cst_3
  let v22 := addf v21 v20
  let cst_4 := (constant S_ .f32 0xC1000000#32)
  let v23 := broadcastInDim S8 ![] bcast_S_S8 cst_4
  let v24 := mulf v23 v22
  let cst_5 := (constant S_ .f32 0x41000000#32)
  let v25 := broadcastInDim S8 ![] bcast_S_S8 cst_5
  let v26 := Host.divf v24 v25
  let cst_6 := (constant S_ .f32 0x40000000#32)
  let v27 := broadcastInDim S8 ![] bcast_S_S8 cst_6
  Host.powf v27 v26

/-- The logits, those of forbidden keys at the bottom. -/
def rLogit (arg0 arg1 : FVec Ideal S4x8192x8x2x128 .f32) : FVec Ideal S4x8x2x8192x8192 .f32 :=
  let cst := (constant S_ .f32 0x3DB504F3#32)
  let v0 := broadcastInDim S4x8192x8x2x128 ![] bcast_S_S4x8192x8x2x128 cst
  let v1 := mulf arg0 v0
  let v12 := Host.dotGeneral dot_S4x8192x8x2x128_S4x8192x8x2x128_S4x8x2x8192x8192_4_4_1_1_023_023 none v1 arg1
  let v19 := rDist
  let v28 := rSlope
  let v29 := broadcastInDim S8x1x1 ![0] bcast_S8_S8x1x1_0 v28
  let v30 := Host.negf v29
  let v31 := broadcastInDim S1x8192x8192 ![1, 2] bcast_S8192x8192_S1x8192x8192_1_2 v19
  let v32 := broadcastInDim S8x8192x8192 ![0, 1, 2] bcast_S8x1x1_S8x8192x8192_0_1_2 v30
  let v33 := broadcastInDim S8x8192x8192 ![0, 1, 2] bcast_S1x8192x8192_S8x8192x8192_0_1_2 v31
  let v34 := mulf v32 v33
  let v42 := broadcastInDim S1x8x1x8192x8192 ![1, 3, 4] bcast_S8x8192x8192_S1x8x1x8192x8192_1_3_4 v34
  let v43 := broadcastInDim S4x8x2x8192x8192 ![0, 1, 2, 3, 4] bcast_S1x8x1x8192x8192_S4x8x2x8192x8192_0_1_2_3_4 v42
  select (broadcastInDim S4x8x2x8192x8192 ![3, 4] bcast_S8192x8192_S4x8x2x8192x8192_3_4 rMask) (addf v12 v43)
    (broadcastInDim S4x8x2x8192x8192 ![] bcast_S_S4x8x2x8192x8192 (constant S_ .f32 0xFF800000#32))

/-- The softmax over the keys. -/
def rProb (v45 : FVec Ideal S4x8x2x8192x8192 .f32) : FVec Ideal S4x8x2x8192x8192 .f32 :=
  let cst_9 := (constant S_ .f32 0xFF800000#32)
  let v46 := Host.reduce FloatOps.maximumf v45 cst_9 reducesTo_S4x8x2x8192x8192_S4x8x2x8192_d4 h_S_
  let cst_10 := (constant S_ .f32 0xFF800000#32)
  let v47 := broadcastInDim S4x8x2x8192 ![] bcast_S_S4x8x2x8192 cst_10
  let v48 := maximumf v47 v46
  let v49 := broadcastInDim S4x8x2x8192x1 ![0, 1, 2, 3] bcast_S4x8x2x8192_S4x8x2x8192x1_0_1_2_3 v48
  let v50 := broadcastInDim S4x8x2x8192x8192 ![0, 1, 2, 3, 4] bcast_S4x8x2x8192x1_S4x8x2x8192x8192_0_1_2_3_4 v49
  let v51 := subf v45 v50
  let v52 := Host.exp v51
  let cst_11 := (constant S_ .f32 0x00000000#32)
  let v53 := Host.reduceAdd v52 cst_11 reducesTo_S4x8x2x8192x8192_S4x8x2x8192_d4 h_S_
  let v54 := broadcastInDim S4x8x2x8192x1 ![0, 1, 2, 3] bcast_S4x8x2x8192_S4x8x2x8192x1_0_1_2_3 v53
  let v55 := broadcastInDim S4x8x2x8192x8192 ![0, 1, 2, 3, 4] bcast_S4x8x2x8192x1_S4x8x2x8192x8192_0_1_2_3_4 v54
  Host.divf v52 v55

/-- The weight of the second map. -/
def rLam (arg3 arg4 arg5 arg6 : FVec Ideal S128 .f32) : FVec Ideal S_ .f32 :=
  let v2 := mulf arg3 arg4
  let cst_0 := (constant S_ .f32 0x00000000#32)
  let v3 := Host.reduceAdd v2 cst_0 reducesTo_S128_S_d0 h_S_
  let v4 := Host.exp v3
  let v5 := mulf arg5 arg6
  let cst_1 := (constant S_ .f32 0x00000000#32)
  let v6 := Host.reduceAdd v5 cst_1 reducesTo_S128_S_d0 h_S_
  let v7 := Host.exp v6
  let v8 := subf v4 v7
  let cst_2 := (constant S_ .f32 0x3E4CCCCD#32)
  addf v8 cst_2

/-- The two maps' difference. -/
def rMix (v56 : FVec Ideal S4x8x2x8192x8192 .f32) (v9 : FVec Ideal S_ .f32) : FVec Ideal S4x8x8192x8192 .f32 :=
  let v57 := extractStridedSlice S4x8x1x8192x8192 ![0, 0, 0, 0, 0] v56 slices_S4x8x2x8192x8192_S4x8x1x8192x8192_0_0_0_0_0
  let v58 := shapeCast S4x8x8192x8192 v57 shapeCasts_S4x8x1x8192x8192_S4x8x8192x8192
  let v59 := extractStridedSlice S4x8x1x8192x8192 ![0, 0, 1, 0, 0] v56 slices_S4x8x2x8192x8192_S4x8x1x8192x8192_0_0_1_0_0
  let v60 := shapeCast S4x8x8192x8192 v59 shapeCasts_S4x8x1x8192x8192_S4x8x8192x8192
  let v61 := broadcastInDim S4x8x8192x8192 ![] bcast_S_S4x8x8192x8192 v9
  let v62 := mulf v61 v60
  subf v58 v62

/-- The mixed values. -/
def rVal (arg2 : FVec Ideal S4x8192x8x256 .f32) (v63 : FVec Ideal S4x8x8192x8192 .f32) : FVec Ideal S4x8192x8x256 .f32 :=
  let v64 := Host.dotGeneral dot_S4x8192x8x256_S4x8x8192x8192_S4x8x256x8192_1_3_3_2_02_01 none arg2 v63
  transpose S4x8192x8x256 [0, 3, 1, 2] v64 transposes_S4x8x256x8192_S4x8192x8x256_0_3_1_2

/-- The normalized values, scaled. -/
def rNorm (v65 : FVec Ideal S4x8192x8x256 .f32) (arg7 : FVec Ideal S256 .f32) : FVec Ideal S4x8192x2048 .bf16 :=
  let v66 := mulf v65 v65
  let cst_12 := (constant S_ .f32 0x00000000#32)
  let v67 := Host.reduceAdd v66 cst_12 reducesTo_S4x8192x8x256_S4x8192x8_d3 h_S_
  let v68 := broadcastInDim S4x8192x8x1 ![0, 1, 2] bcast_S4x8192x8_S4x8192x8x1_0_1_2 v67
  let cst_13 := (constant S_ .f32 0x43800000#32)
  let v69 := broadcastInDim S4x8192x8x1 ![] bcast_S_S4x8192x8x1 cst_13
  let v70 := Host.divf v68 v69
  let cst_14 := (constant S_ .f32 0x3727C5AC#32)
  let v71 := broadcastInDim S4x8192x8x1 ![] bcast_S_S4x8192x8x1 cst_14
  let v72 := addf v70 v71
  let v73 := Host.rsqrt v72
  let v74 := broadcastInDim S4x8192x8x256 ![0, 1, 2, 3] bcast_S4x8192x8x1_S4x8192x8x256_0_1_2_3 v73
  let v75 := mulf v65 v74
  let v76 := broadcastInDim S1x1x1x256 ![3] bcast_S256_S1x1x1x256_3 arg7
  let v77 := broadcastInDim S4x8192x8x256 ![0, 1, 2, 3] bcast_S1x1x1x256_S4x8192x8x256_0_1_2_3 v76
  let v78 := mulf v75 v77
  let cst_15 := (constant S_ .f32 0x3F4CCCCD#32)
  let v79 := broadcastInDim S4x8192x8x256 ![] bcast_S_S4x8192x8x256 cst_15
  let v80 := mulf v78 v79
  let v81 := shapeCast S4x8192x2048 v80 shapeCasts_S4x8192x8x256_S4x8192x2048
  truncf .bf16 v81 bitsLt_bf16_f32

/-- The reference's result, from its arguments. -/
def rOut (q k : FVec Ideal S4x8192x8x2x128 .f32) (v : FVec Ideal S4x8192x8x256 .f32) (a3 a4 a5 a6 : FVec Ideal S128 .f32) (a7 : FVec Ideal S256 .f32) : FVec Ideal S4x8192x2048 .bf16 :=
  rNorm (rVal v (rMix (rProb (rLogit q k)) (rLam a3 a4 a5 a6))) a7

theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v82) = rOut (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) := by
  hlo_run
  simp -implicitDefEqProofs only [StableHlo.TRef.toBuf, StableHlo.TRef.ofBuf, cast_cast, cast_eq, id]
  unfold rOut rNorm rVal rMix rLam rProb rLogit rMask rChunkS rChunkT rDist rSlope
  dsimp only
  rfl

end Cert.Attn

end
-- ==== Proof.Value.Forms.lean ====
/- What the pure functions of the body compute at an index, over the extended reals. -/
module

public import proofs.«01_k».proof.Proof.Run.Steps
public import Idealize.ShloMosaic.Lib.Pointwise
public import Idealize.ShloMosaic.PureOps.IdealRules

@[expose] public section

set_option maxRecDepth 16384

noncomputable section

namespace Cert.Attn

open Cert.KernelIdeal Cert.KernelIdeal.Facts₀ Cert.KernelIdeal.Facts
open Idealize.ShloMosaic

theorem named_mask : (Named.named (F := Ideal) κ "mask" 0xF149F2CA#32 : Ideal .f32) = (⊥ : EReal) := IdealRules.named_const.ideal_named_scalar _ _ _ _ rfl
theorem named_log2e : (Named.named (F := Ideal) κ "log2e" 0x3FB8AA3B#32 : Ideal .f32) = (((Real.log 2)⁻¹ : ℝ) : EReal) := IdealRules.named_const.ideal_named_scalar _ _ _ _ rfl

variable (v2 : Ideal .f32)

theorem dotHalf_at (kv : Vec Ideal S1x512x128 .bf16) (xk : Vec Ideal S512x128 .bf16) (qv : Vec Ideal S1x512x128 .bf16) (xq : Vec Ideal S512x128 .bf16) (i r : Fin 512) :
    dotHalf kv xk qv xq (ix2 i r) = (∑ d : Fin 128, kv (ix3 0 i d) * qv (ix3 0 r d)) + ∑ d : Fin 128, xk (ix2 i d) * xq (ix2 r d) := by
  pointwise [dotHalf, qCat]

theorem dotFull_at (kv : Vec Ideal S1x1024x128 .bf16) (xk : Vec Ideal S1024x128 .bf16) (qv : Vec Ideal S1x512x128 .bf16) (xq : Vec Ideal S512x128 .bf16) (i : Fin 1024) (r : Fin 512) :
    dotFull kv xk qv xq (ix2 i r) = (∑ d : Fin 128, kv (ix3 0 i d) * qv (ix3 0 r d)) + ∑ d : Fin 128, xk (ix2 i d) * xq (ix2 r d) := by
  pointwise [dotFull, qCat]

theorem ofBits_bot : Ideal.ofBits FTy.f32 0xFF800000#32 = (⊥ : EReal) := by simp [Ideal.ofBits, Ideal.ieee]

theorem colMax_at (x : FVec Ideal S512x512 .f32) (r : Fin 512) : colMax x (ix2 0 r) = Finset.univ.fold max (⊥ : EReal) fun i : Fin 512 => x (ix2 i r) := by
  pointwise [colMax]
  rw [ofBits_bot]

theorem colMaxFull_at (x : FVec Ideal S1024x512 .f32) (r : Fin 512) : colMaxFull x (ix2 0 r) = Finset.univ.fold max (⊥ : EReal) fun i : Fin 1024 => x (ix2 i r) := by
  pointwise [colMaxFull]
  rw [ofBits_bot]

theorem lowHalf_at (x : FVec Ideal S1024x512 .f32) (i r : Fin 512) : lowHalf x (ix2 i r) = x (ix2 ⟨i.val, by omega⟩ r) := by
  pointwise [lowHalf]

theorem highHalf_at (x : FVec Ideal S1024x512 .f32) (co : Vec Ideal S512x512 .f32) (i r : Fin 512) : highHalf x co (ix2 i r) = x (ix2 ⟨512 + i.val, by omega⟩ r) + co (ix2 i r) := by
  pointwise [highHalf]

theorem shr6 : ∀ c : Fin 512, IntOp.shrsi ArithUnit.vector (BitVec.ofNat 32 c.val) 6#32 = BitVec.ofNat 32 (c.val / 64) := by decide +kernel

theorem sle_small (a b : ℕ) (ha : a < 1024) (hb : b < 1024) : IntOp.cmpi CmpIPredicate.sle (BitVec.ofNat 32 a) (BitVec.ofNat 32 b) = BitVec.ofBool (decide (a ≤ b)) := by
  unfold IntOp.cmpi
  congr 1
  simp only [BitVec.sle, BitVec.toInt_ofNat', decide_eq_decide]
  rw [Int.bmod_eq_of_le (by omega) (by omega), Int.bmod_eq_of_le (by omega) (by omega)]
  omega

theorem ahead (c r : Fin 512) : (IntOp.maxsi (IntOp.subi (BitVec.ofNat 32 c.val) (BitVec.ofNat 32 r.val)) 0#32).toInt = ((c.val - r.val : ℕ) : ℤ) := by
  unfold IntOp.maxsi IntOp.subi
  have small : ∀ n : Fin 512, (BitVec.ofNat 32 n.val).toInt = (n.val : ℤ) := by decide +kernel
  have e : (BitVec.ofNat 32 c.val - BitVec.ofNat 32 r.val).toInt = (c.val : ℤ) - r.val := by
    rw [BitVec.toInt_sub, small, small]
    exact Int.bmod_eq_of_le (by omega) (by omega)
  simp only [BitVec.slt, e, decide_eq_true_eq]
  have z : (0#32).toInt = 0 := rfl
  rw [z]
  split_ifs with h
  · rw [e]; omega
  · rw [z]; omega

theorem sitofp_ideal (w : BitVec 32) : (FloatOps.sitofp FTy.f32 w : Ideal .f32) = (((w.toInt : ℝ)) : EReal) := rfl

theorem ofBits_neg_two : Ideal.ofBits FTy.f32 0xC0000000#32 = ((-2 : ℝ) : EReal) := by
  simp [Ideal.ofBits, Ideal.ieee]
  rw [← EReal.coe_mul]
  norm_num

theorem ofBits_neg_one : Ideal.ofBits FTy.f32 3212836864#32 = ((-1 : ℝ) : EReal) := by
  simp [Ideal.ofBits, Ideal.ieee]
  rw [← EReal.coe_mul]
  norm_num

/-- A sum of reals, taken among the extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem corrOf_at (σ : ℝ) (c r : Fin 512) : corrOf (F := Ideal) ((σ : ℝ) : EReal) (ix2 c r) = if c.val / 64 ≤ r.val / 64 then (((-2 * σ * (c.val - r.val : ℕ) : ℝ)) : EReal) else ⊥ := by
  pointwise [corrOf]
  rw [shr6, shr6, sle_small _ _ (by omega) (by omega), named_mask, sitofp_ideal, ahead, ofBits_neg_two]
  unfold Scalar.select
  by_cases h : c.val / 64 ≤ r.val / 64
  · simp only [h, decide_true, BitVec.ofBool_true, if_true]
    rw [← EReal.coe_mul, ← EReal.coe_mul]
    congr 1
    push_cast
    ring
  · simp [h]

def hi (c : ℕ) : ℝ := ((c / 256 * 256 : ℕ) : ℝ)
def lo (c : ℕ) : ℝ := ((c % 256 : ℕ) : ℝ)

theorem hi_add_lo (c : ℕ) : hi c + lo c = c := by
  unfold hi lo
  rw [← Nat.cast_add, Nat.div_add_mod']

theorem loW : ∀ c : Fin 1024, (IntOp.andi (BitVec.ofNat 32 c.val) 255#32).toInt = ((c.val % 256 : ℕ) : ℤ) := by decide +kernel
theorem hiW : ∀ c : Fin 1024, (IntOp.subi (BitVec.ofNat 32 c.val) (IntOp.andi (BitVec.ofNat 32 c.val) 255#32)).toInt = ((c.val / 256 * 256 : ℕ) : ℤ) := by decide +kernel

theorem sel6 : ∀ d : Fin 128, IntOp.cmpi CmpIPredicate.slt (BitVec.ofNat 32 d.val) 6#32 = BitVec.ofBool (decide (d.val < 6)) := by decide +kernel
theorem selHi : ∀ d : Fin 128, IntOp.ori (IntOp.cmpi CmpIPredicate.slt (BitVec.ofNat 32 d.val) 3#32)
    (IntOp.andi (IntOp.cmpi CmpIPredicate.sge (BitVec.ofNat 32 d.val) 6#32) (IntOp.cmpi CmpIPredicate.slt (BitVec.ofNat 32 d.val) 9#32)) = BitVec.ofBool (decide (d.val < 3 ∨ 6 ≤ d.val ∧ d.val < 9)) := by decide +kernel
theorem sel12 : ∀ d : Fin 128, IntOp.andi (IntOp.cmpi CmpIPredicate.sge (BitVec.ofNat 32 d.val) 6#32) (IntOp.cmpi CmpIPredicate.slt (BitVec.ofNat 32 d.val) 12#32) = BitVec.ofBool (decide (6 ≤ d.val ∧ d.val < 12)) := by decide +kernel
theorem selK : ∀ d : Fin 128, d.val < 12 → IntOp.cmpi CmpIPredicate.eq (IntOp.subi (BitVec.ofNat 32 d.val)
      (IntOp.muli (3#32) (IntOp.addi (IntOp.addi (BitVec.setWidth 32 (IntOp.cmpi CmpIPredicate.sge (BitVec.ofNat 32 d.val) 3#32))
        (BitVec.setWidth 32 (IntOp.cmpi CmpIPredicate.sge (BitVec.ofNat 32 d.val) 6#32))) (BitVec.setWidth 32 (IntOp.cmpi CmpIPredicate.sge (BitVec.ofNat 32 d.val) 9#32))))) 0#32
    = BitVec.ofBool (decide (d.val % 3 = 0)) := by decide +kernel

theorem sel_ofBool {α : Type} (p : Prop) [Decidable p] (a b : α) : Scalar.select (BitVec.ofBool (decide p)) a b = if p then a else b := by
  unfold Scalar.select
  by_cases h : p <;> simp [h]

theorem sel_same {α : Type} (c : BitVec 1) (a : α) : Scalar.select c a a = a := by
  unfold Scalar.select
  exact ite_self a

theorem auxkOf_at (σ : ℝ) (c : Fin 1024) (d : Fin 128) : auxkOf (F := Ideal) ((σ : ℝ) : EReal) (ix2 c d) =
    (((if d.val < 6 then (if d.val < 3 then hi c.val else lo c.val) else if d.val < 12 ∧ d.val % 3 = 0 then σ else 0 : ℝ)) : EReal) := by
  pointwise [auxkOf]
  have z : ((σ : ℝ) : EReal) - ((σ : ℝ) : EReal) = 0 := by rw [← EReal.coe_sub, sub_self]; rfl
  rw [z, sub_zero, sel_same, sel6, selHi, sel12, sel_ofBool, sel_ofBool, sel_ofBool, sitofp_ideal]
  by_cases h6 : d.val < 6
  · rw [if_pos h6, if_pos h6]
    by_cases h3 : d.val < 3
    · rw [if_pos (Or.inl h3), if_pos h3, hiW]
      rfl
    · rw [if_neg (by omega), if_neg h3, loW]
      rfl
  · rw [if_neg h6, if_neg h6]
    by_cases h12 : d.val < 12
    · rw [if_pos ⟨by omega, h12⟩, selK d h12, sel_ofBool]
      by_cases hd : d.val % 3 = 0
      · rw [if_pos hd, if_pos ⟨h12, hd⟩]
      · rw [if_neg hd, if_neg (fun h => hd h.2)]; rfl
    · rw [if_neg (by omega), if_neg (fun h => h12 h.1)]; rfl

theorem auxqOf_at (σ : ℝ) (c : Fin 512) (d : Fin 128) : auxqOf (F := Ideal) ((σ : ℝ) : EReal) (ix2 c d) =
    (((if d.val < 6 then (if d.val % 3 = 0 then σ else 0) else if d.val < 12 then (if d.val < 9 then -hi c.val else -lo c.val) else 0 : ℝ)) : EReal) := by
  pointwise [auxqOf]
  have z : ((σ : ℝ) : EReal) - ((σ : ℝ) : EReal) = 0 := by rw [← EReal.coe_sub, sub_self]; rfl
  rw [z, sub_zero, sel_same, sel6, selHi, sel12, sel_ofBool, sel_ofBool, sel_ofBool, sitofp_ideal, ofBits_neg_one]
  by_cases h6 : d.val < 6
  · rw [if_neg (by omega), if_pos h6, if_pos h6, selK d (by omega), sel_ofBool]
    by_cases hd : d.val % 3 = 0
    · rw [if_pos hd, if_pos hd]
    · rw [if_neg hd, if_neg hd]; rfl
  · rw [if_neg h6, if_neg h6]
    by_cases h12 : d.val < 12
    · rw [if_pos ⟨by omega, h12⟩, if_pos h12]
      by_cases h9 : d.val < 9
      · rw [if_pos (Or.inr ⟨by omega, h9⟩), if_pos h9, show (IntOp.subi _ _).toInt = _ from hiW ⟨c.val, by omega⟩, ← EReal.coe_mul]
        congr 1
        show ((((c.val / 256 * 256 : ℕ) : ℤ) : ℝ)) * (-1) = -hi c.val
        unfold hi
        rw [Int.cast_natCast, mul_neg_one]
      · rw [if_neg (by omega), if_neg h9, show (IntOp.andi _ _).toInt = _ from loW ⟨c.val, by omega⟩, ← EReal.coe_mul]
        congr 1
        show ((((c.val % 256 : ℕ) : ℤ) : ℝ)) * (-1) = -lo c.val
        unfold lo
        rw [Int.cast_natCast, mul_neg_one]
    · rw [if_neg (by omega), if_neg h12]; rfl

/-- The positional columns' products sum to the slope times the difference of the positions. -/
theorem aux_sum (σ : ℝ) (i : Fin 1024) (r : Fin 512) :
    (∑ d : Fin 128, auxkOf (F := Ideal) ((σ : ℝ) : EReal) (ix2 i d) * auxqOf (F := Ideal) ((σ : ℝ) : EReal) (ix2 r d) : EReal) = ((σ * ((i.val : ℝ) - r.val) : ℝ) : EReal) := by
  simp only [auxkOf_at, auxqOf_at, ← EReal.coe_mul]
  rw [← coe_sum]
  congr 1
  have h := Fin.sum_univ_add (a := 12) (b := 116) (fun d : Fin 128 =>
    (if d.val < 6 then (if d.val < 3 then hi i.val else lo i.val) else if d.val < 12 ∧ d.val % 3 = 0 then σ else 0) *
    (if d.val < 6 then (if d.val % 3 = 0 then σ else 0) else if d.val < 12 then (if d.val < 9 then -hi r.val else -lo r.val) else 0 : ℝ))
  rw [h, Finset.sum_eq_zero (s := (Finset.univ : Finset (Fin 116)))]
  · simp [Fin.sum_univ_succ]
    rw [← hi_add_lo i.val, ← hi_add_lo r.val]
    ring
  · intro d _
    have h12 : ¬(Fin.natAdd 12 d : Fin 128).val < 6 := by rw [Fin.val_natAdd]; omega
    have h12' : ¬(Fin.natAdd 12 d : Fin 128).val < 12 := by rw [Fin.val_natAdd]; omega
    rw [if_neg h12, if_neg h12, if_neg (fun h => h12' h.1), zero_mul]

theorem mOldOf_at (kw : BitVec 32) (m : Vec Ideal S1x1x512 .f32) (r : Fin 512) : mOldOf kw m (ix2 0 r) = if kw = 0#32 then ⊥ else m (ix3 0 0 r) := by
  pointwise [mOldOf]
  rw [named_mask]
  unfold Scalar.select Scalar.cmpi
  by_cases h : kw = 0#32
  · subst h; rfl
  · rw [if_neg h, if_neg]
    unfold IntOp.cmpi
    simp only [beq_eq_false_iff_ne.mpr h]
    decide

theorem mNewOf_at (mo : FVec Ideal S1x512 .f32) (mx : Vec Ideal S1x1x512 .f32) (cj : Ideal .f32) (r : Fin 512) : mNewOf mo mx cj (ix2 0 r) = max (mo (ix2 0 r)) (mx (ix3 0 0 r) - cj) := by
  pointwise [mNewOf]

theorem pHalf_at (s : Vec Ideal S1x512x512 .f32) (mn : FVec Ideal S1x512 .f32) (cj : Ideal .f32) (i r : Fin 512) : pHalf s mn cj (ix2 i r) = Ideal.exp2 (s (ix3 0 i r) - (mn (ix2 0 r) + cj)) := by
  pointwise [pHalf]
  rfl

theorem pFull_at (s : Vec Ideal S1x1024x512 .f32) (mn : FVec Ideal S1x512 .f32) (cj : Ideal .f32) (i : Fin 1024) (r : Fin 512) : pFull s mn cj (ix2 i r) = Ideal.exp2 (s (ix3 0 i r) - (mn (ix2 0 r) + cj)) := by
  pointwise [pFull]
  rfl

theorem accHalf_at (mo mn : FVec Ideal S1x512 .f32) (acc : Vec Ideal S1x272x512 .f32) (v : Vec Ideal S1x1x272x512 .bf16) (p : Vec Ideal S1x512x512 .bf16) (e : Fin 272) (r : Fin 512) :
    accHalf mo mn acc v p (ix2 e r) = Ideal.exp2 (mo (ix2 0 r) - mn (ix2 0 r)) * acc (ix3 0 e r) + ∑ i : Fin 512, v (ix4 0 0 e i) * p (ix3 0 i r) := by
  pointwise [accHalf, accScaled]
  rfl

theorem accFull_at (mo mn : FVec Ideal S1x512 .f32) (acc : Vec Ideal S1x272x512 .f32) (v : Vec Ideal S1x1x272x1024 .bf16) (p : Vec Ideal S1x1024x512 .bf16) (e : Fin 272) (r : Fin 512) :
    accFull mo mn acc v p (ix2 e r) = Ideal.exp2 (mo (ix2 0 r) - mn (ix2 0 r)) * acc (ix3 0 e r) + ∑ i : Fin 1024, v (ix4 0 0 e i) * p (ix3 0 i r) := by
  pointwise [accFull, accScaled]
  rfl

theorem lamOf_at (l : Vec Ideal S4x128 .f32) : lamOf l (ix2 0 0) = Ideal.exp (∑ x : Fin 128, l (ix2 0 x) * l (ix2 1 x)) - Ideal.exp (∑ x : Fin 128, l (ix2 2 x) * l (ix2 3 x)) + Ideal.ofBits FTy.f32 0x3E4CCCCD#32 := by
  pointwise [lamOf]

theorem ratioOf_at (a : Vec Ideal S1x256x512 .f32) (l : Vec Ideal S1x1x512 .f32) (e : Fin 256) (r : Fin 512) : ratioOf a l (ix2 e r) = a (ix3 0 e r) * Ideal.div 1 (l (ix3 0 0 r)) := by
  pointwise [ratioOf]

theorem diffOf_at (lam : FVec Ideal S1x1 .f32) (x y : FVec Ideal S256x512 .f32) (e : Fin 256) (r : Fin 512) : diffOf lam x y (ix2 e r) = x (ix2 e r) - lam (ix2 0 0) * y (ix2 e r) := by
  pointwise [diffOf]

theorem outOf_at (o : FVec Ideal S256x512 .f32) (sub : Vec Ideal S1x256 .f32) (e : Fin 256) (r : Fin 512) : outOf o sub (ix2 r e) = o (ix2 e r) * Ideal.rsqrt (Ideal.div (∑ x : Fin 256, o (ix2 x r) * o (ix2 x r)) (Ideal.ofBits FTy.f32 0x43800000#32) + Ideal.ofBits FTy.f32 0x3727C5AC#32)
      * sub (ix2 0 e) * Ideal.ofBits FTy.f32 0x3F4CCCCD#32 := by
  pointwise [outOf]

end Cert.Attn

end
-- ==== Proof.Value.RefForms.lean ====
module

public import proofs.«01_k».proof.Proof.Value.Reference
public import proofs.«01_k».proof.Proof.Value.Forms

@[expose] public section

/-!
# The reference's pieces, at an index
-/

set_option maxRecDepth 16384

noncomputable section

namespace Cert.Attn

open Idealize.ShloMosaic Cert.ReferenceIdeal Cert.ReferenceIdeal.Facts₀ Cert.ReferenceIdeal.Facts

/-- A position's chunk, as the reference computes it. -/
theorem chunk_word : ∀ n : Fin 8192, Scalar.select (IntOp.andi (IntOp.cmpi .ne (if BitVec.ofNat 32 n.val = 0#32 then 0#32 else if (BitVec.ofNat 32 n.val).msb then (-1 : BitVec 32) else 1#32)
      (if 64#32 = 0#32 then 0#32 else if (64#32).msb then (-1 : BitVec 32) else 1#32)) (IntOp.cmpi .ne (IntOp.remsi ArithUnit.host (BitVec.ofNat 32 n.val) 64#32) 0#32))
      (IntOp.subi (IntOp.divsi ArithUnit.host (BitVec.ofNat 32 n.val) 64#32) 1#32) (IntOp.divsi ArithUnit.host (BitVec.ofNat 32 n.val) 64#32) = BitVec.ofNat 32 (n.val / 64) := by
  decide +kernel

theorem rMask_at (t s : Fin 8192) : rMask (ix2 t s) = BitVec.ofBool (decide (s.val / 64 ≤ t.val / 64)) := by
  pointwise [rMask, rChunkS, rChunkT]
  refine (congrArg₂ (IntOp.cmpi .sle) (chunk_word s) (chunk_word t)).trans (sle_small _ _ (by omega) (by omega))

theorem dist_word (t s : ℕ) (ht : t < 8192) (hs : s < 8192) : FloatOps.sitofp (F := Ideal) .f32 (IntOp.absi (IntOp.subi (BitVec.ofNat 32 t) (BitVec.ofNat 32 s))) = ((|(t : ℝ) - s| : ℝ) : EReal) := by
  have h : (IntOp.absi (IntOp.subi (BitVec.ofNat 32 t) (BitVec.ofNat 32 s))).toInt = |(t : ℤ) - s| := by
    have hsub : (IntOp.subi (BitVec.ofNat 32 t) (BitVec.ofNat 32 s)).toInt = (t : ℤ) - s := by
      unfold IntOp.subi
      have h1 : (t : ℤ).bmod (2 ^ 32) = t := Int.bmod_eq_of_le (by omega) (by omega)
      have h2 : (s : ℤ).bmod (2 ^ 32) = s := Int.bmod_eq_of_le (by omega) (by omega)
      rw [BitVec.toInt_sub, BitVec.toInt_ofNat', BitVec.toInt_ofNat', h1, h2]
      exact Int.bmod_eq_of_le (by omega) (by omega)
    generalize IntOp.subi (BitVec.ofNat 32 t) (BitVec.ofNat 32 s) = w at hsub
    unfold IntOp.absi
    rw [BitVec.msb_eq_toInt, hsub]
    by_cases hn : (t : ℤ) - s < 0
    · rw [if_pos (decide_eq_true hn), BitVec.toInt_neg, hsub, abs_of_neg hn]
      exact Int.bmod_eq_of_le (by omega) (by omega)
    · rw [if_neg (by simpa using hn), hsub, abs_of_nonneg (by omega)]
  rw [sitofp_ideal, h]
  push_cast
  rfl

theorem rDist_at (t s : Fin 8192) : rDist (ix2 t s) = ((|(t.val : ℝ) - s.val| : ℝ) : EReal) := by
  pointwise [rDist]
  exact dist_word t.val s.val t.isLt s.isLt

theorem rSlope_at (h : Fin 8) : rSlope (ix1 h) = Ideal.pow (Ideal.ofBits FTy.f32 1073741824#32) (Ideal.div (Ideal.ofBits FTy.f32 3238002688#32 * (Ideal.ofBits FTy.f32 1065353216#32 + FloatOps.sitofp (F := Ideal) .f32 (BitVec.ofNat 32 h.val))) (Ideal.ofBits FTy.f32 1090519040#32)) := by
  pointwise [rSlope]

theorem rLogit_at (q k : FVec Ideal S4x8192x8x2x128 .f32) (b : Fin 4) (h : Fin 8) (mp : Fin 2) (t s : Fin 8192) :
    rLogit q k (ix5 b h mp t s) = Scalar.select (rMask (ix2 t s)) (∑ x : Fin 128, q (ix5 b t h mp x) * Ideal.ofBits FTy.f32 1035273459#32 * k (ix5 b s h mp x) + -rSlope (ix1 h) * rDist (ix2 t s) : EReal) (Ideal.ofBits FTy.f32 4286578688#32) := by
  pointwise [rLogit]

/-- The softmax's maxima. -/
def rMax (v45 : FVec Ideal S4x8x2x8192x8192 .f32) : FVec Ideal S4x8x2x8192 .f32 :=
  let cst_9 := (constant S_ .f32 0xFF800000#32)
  let v46 := Host.reduce FloatOps.maximumf v45 cst_9 reducesTo_S4x8x2x8192x8192_S4x8x2x8192_d4 h_S_
  let cst_10 := (constant S_ .f32 0xFF800000#32)
  let v47 := broadcastInDim S4x8x2x8192 ![] bcast_S_S4x8x2x8192 cst_10
  maximumf v47 v46

/-- The softmax, its maxima given. -/
def rSoft (v45 : FVec Ideal S4x8x2x8192x8192 .f32) (v48 : FVec Ideal S4x8x2x8192 .f32) : FVec Ideal S4x8x2x8192x8192 .f32 :=
  let v49 := broadcastInDim S4x8x2x8192x1 ![0, 1, 2, 3] bcast_S4x8x2x8192_S4x8x2x8192x1_0_1_2_3 v48
  let v50 := broadcastInDim S4x8x2x8192x8192 ![0, 1, 2, 3, 4] bcast_S4x8x2x8192x1_S4x8x2x8192x8192_0_1_2_3_4 v49
  let v51 := subf v45 v50
  let v52 := Host.exp v51
  let cst_11 := (constant S_ .f32 0x00000000#32)
  let v53 := Host.reduceAdd v52 cst_11 reducesTo_S4x8x2x8192x8192_S4x8x2x8192_d4 h_S_
  let v54 := broadcastInDim S4x8x2x8192x1 ![0, 1, 2, 3] bcast_S4x8x2x8192_S4x8x2x8192x1_0_1_2_3 v53
  let v55 := broadcastInDim S4x8x2x8192x8192 ![0, 1, 2, 3, 4] bcast_S4x8x2x8192x1_S4x8x2x8192x8192_0_1_2_3_4 v54
  Host.divf v52 v55

theorem rProb_eq (L : FVec Ideal S4x8x2x8192x8192 .f32) : rProb L = rSoft L (rMax L) := rfl

theorem rSoft_at (L : FVec Ideal S4x8x2x8192x8192 .f32) (M : FVec Ideal S4x8x2x8192 .f32) (b : Fin 4) (h : Fin 8) (mp : Fin 2) (t s : Fin 8192) :
    rSoft L M (ix5 b h mp t s) = Ideal.div (Ideal.exp (L (ix5 b h mp t s) - M (ix4 b h mp t))) (∑ x : Fin 8192, Ideal.exp (L (ix5 b h mp t x) - M (ix4 b h mp t))) := by
  pointwise [rSoft]

theorem rLam_at (a3 a4 a5 a6 : FVec Ideal S128 .f32) : rLam a3 a4 a5 a6 ix0 = Ideal.exp (∑ x : Fin 128, a3 (ix1 x) * a4 (ix1 x)) - Ideal.exp (∑ x : Fin 128, a5 (ix1 x) * a6 (ix1 x)) + Ideal.ofBits FTy.f32 0x3E4CCCCD#32 := by
  pointwise [rLam]

theorem rMix_at (p : FVec Ideal S4x8x2x8192x8192 .f32) (lam : FVec Ideal S_ .f32) (b : Fin 4) (h : Fin 8) (t s : Fin 8192) :
    rMix p lam (ix4 b h t s) = (p (ix5 b h 0 t s) - lam ix0 * p (ix5 b h 1 t s) : EReal) := by
  pointwise [rMix]

theorem rVal_at (v : FVec Ideal S4x8192x8x256 .f32) (a : FVec Ideal S4x8x8192x8192 .f32) (b : Fin 4) (h : Fin 8) (t : Fin 8192) (e : Fin 256) :
    rVal v a (ix4 b t h e) = (∑ x : Fin 8192, v (ix4 b x h e) * a (ix4 b h t x) : EReal) := by
  pointwise [rVal]

theorem rNorm_at (x : FVec Ideal S4x8192x8x256 .f32) (w : FVec Ideal S256 .f32) (b : Fin 4) (h : Fin 8) (t : Fin 8192) (e : Fin 256) :
    rNorm x w (ix3 b t ⟨256 * h.val + e.val, by omega⟩) =
      (x (ix4 b t h e) * Ideal.rsqrt (Ideal.div (∑ y : Fin 256, x (ix4 b t h y) * x (ix4 b t h y)) (Ideal.ofBits FTy.f32 0x43800000#32) + Ideal.ofBits FTy.f32 0x3727C5AC#32) * w (ix1 e) * Ideal.ofBits FTy.f32 0x3F4CCCCD#32 : EReal) := by
  pointwise [rNorm]

theorem maximumf_apply {s : Shape} (x y : FVec Ideal s .f32) (j : s.Idx) : maximumf x y j = (max (x j) (y j) : EReal) := rfl

/-- The maxima are real where a logit is and none is at the top. -/
theorem rMax_real (L : FVec Ideal S4x8x2x8192x8192 .f32) (b : Fin 4) (h : Fin 8) (mp : Fin 2) (t s : Fin 8192) (htop : ∀ i, L i ≠ (⊤ : EReal)) (hbot : L (ix5 b h mp t s) ≠ (⊥ : EReal)) :
    ∃ x : ℝ, rMax L (ix4 b h mp t) = ((x : ℝ) : EReal) := by
  have hr : S4x8x2x8192x8192.Reduces [4] S4x8x2x8192 := by decide
  unfold rMax
  dsimp only
  rw [maximumf_apply, show broadcastInDim S4x8x2x8192 ![] bcast_S_S4x8x2x8192 (constant (F := Ideal) S_ .f32 0xFF800000#32) (ix4 b h mp t) = (⊥ : EReal) from ofBits_bot, max_eq_right bot_le, Host.reduce_eq_fold]
  refine ⟨_, (EReal.coe_toReal ?_ ?_).symm⟩
  · refine LT.lt.ne ?_
    refine (Finset.fold_max_lt (c := (⊤ : EReal))).mpr ⟨?_, fun i _ => lt_top_iff_ne_top.mpr (htop i)⟩
    exact (ofBits_bot ▸ bot_lt_top : Ideal.ofBits FTy.f32 0xFF800000#32 < ⊤)
  · refine LT.lt.ne' ?_
    refine (Finset.lt_fold_max (c := (⊥ : EReal))).mpr (.inr ⟨ix5 b h mp t s, ?_, bot_lt_iff_ne_bot.mpr hbot⟩)
    rw [Finset.mem_filter]
    refine ⟨Finset.mem_univ _, ?_⟩
    rw [Shape.ReducesTo.drop_eq_drop _ hr]
    funext a
    refine Fin.ext ?_
    match a with
    | 0 => exact hr.drop_apply_val_of_eq _ 0 0
    | 1 => exact hr.drop_apply_val_of_eq _ 1 1
    | 2 => exact hr.drop_apply_val_of_eq _ 2 2
    | 3 => exact hr.drop_apply_val_of_eq _ 3 3

end Cert.Attn

end
-- ==== Proof.Value.HostK.lean ====
module

public import proofs.«01_k».proof.Proof.Run.Launch
public import proofs.«01_k».proof.Proof.Value.Forms
public import Idealize.ShloMosaic.Lib.StableHlo.RunRead

@[expose] public section

/-!
# The call's operands, element by element
-/

set_option maxRecDepth 16384

noncomputable section

namespace Cert.Attn

open Idealize.ShloMosaic Idealize.ShloMosaic.TcCoe Cert.KernelIdeal Cert.KernelIdeal.Facts₀ Cert.KernelIdeal.Facts
open Cert.KernelIdeal.Gen (hostOps0)

/-- The heads' slopes. -/
def kSlope : FVec Ideal S8 .f32 :=
  Host.powf (broadcastInDim S8 ![] bcast_S_S8 (constant S_ .f32 0x40000000#32))
    (Host.divf (mulf (broadcastInDim S8 ![] bcast_S_S8 (constant S_ .f32 0xC1000000#32)) (addf (broadcastInDim S8 ![] bcast_S_S8 (constant S_ .f32 0x3F800000#32)) (sitofp .f32 (iotaInDim S8 32 0))))
      (broadcastInDim S8 ![] bcast_S_S8 (constant S_ .f32 0x41000000#32)))

/-- The four vectors of the second map's weight. -/
def kLam (a3 a4 a5 a6 : FVec Ideal S128 .f32) : FVec Ideal S4x128 .f32 :=
  concatenate S4x128 0 [⟨S1x128, (broadcastInDim S1x128 ![1] bcast_S128_S1x128_1 a3)⟩, ⟨S1x128, broadcastInDim S1x128 ![1] bcast_S128_S1x128_1 a4⟩, ⟨S1x128, broadcastInDim S1x128 ![1] bcast_S128_S1x128_1 a5⟩, ⟨S1x128, broadcastInDim S1x128 ![1] bcast_S128_S1x128_1 a6⟩] concatenates_S1x128_S1x128_S1x128_S1x128_S4x128_d0

/-- The scaled queries. -/
def kQ (q : FVec Ideal S4x8192x8x2x128 .f32) : FVec Ideal S4x8192x2048 .bf16 :=
  shapeCast S4x8192x2048 (truncf .bf16 (Host.divf (mulf q (broadcastInDim S4x8192x8x2x128 ![] bcast_S_S4x8192x8x2x128 (constant S_ .f32 0x3DB504F3#32)))
    (broadcastInDim S4x8192x8x2x128 ![] bcast_S_S4x8192x8x2x128 (Host.log (constant S_ .f32 0x40000000#32)))) bitsLt_bf16_f32) shapeCasts_S4x8192x8x2x128_S4x8192x2048

/-- The keys. -/
def kK (k : FVec Ideal S4x8192x8x2x128 .f32) : FVec Ideal S4x8192x2048 .bf16 :=
  shapeCast S4x8192x2048 (truncf .bf16 k bitsLt_bf16_f32) shapeCasts_S4x8192x8x2x128_S4x8192x2048

/-- The values, transposed, over rows of ones. -/
def kV (v : FVec Ideal S4x8192x8x256 .f32) : FVec Ideal S4x8x272x8192 .bf16 :=
  concatenate S4x8x272x8192 2 [⟨S4x8x256x8192, truncf .bf16 (transpose S4x8x256x8192 [0, 2, 3, 1] v transposes_S4x8192x8x256_S4x8x256x8192_0_2_3_1) bitsLt_bf16_f32⟩,
    ⟨S4x8x16x8192, broadcastInDim S4x8x16x8192 ![] bcast_S_S4x8x16x8192 (constant S_ .bf16 0x3F80#16)⟩] concatenates_S4x8x256x8192_S4x8x16x8192_S4x8x272x8192_d2

/-- The norm's weights. -/
def kSub (a7 : FVec Ideal S256 .f32) : FVec Ideal S1x256 .f32 := shapeCast S1x256 a7 shapeCasts_S256_S1x256

section Reads

variable (m : (ℓ : Loc nD τ sig) → Buf (Elt Ideal) ℓ) (c : Dev nD)

theorem V_slope : V m c main_v8 = kSlope := by
  unfold V hostOps0
  after_reads_simp
  rfl
theorem V_lam : V m c main_v13 = kLam (m (c, main_arg3)) (m (c, main_arg4)) (m (c, main_arg5)) (m (c, main_arg6)) := by
  unfold V hostOps0
  after_reads_simp
  rfl
theorem V_q : V m c main_v20 = kQ (m (c, main_arg0)) := by
  unfold V hostOps0
  after_reads_simp
  rfl
theorem V_k : V m c main_v22 = kK (m (c, main_arg1)) := by
  unfold V hostOps0
  after_reads_simp
  rfl
theorem V_v : V m c main_v26 = kV (m (c, main_arg2)) := by
  unfold V hostOps0
  after_reads_simp
  rfl
theorem V_sub : V m c main_v27 = kSub (m (c, main_arg7)) := by
  unfold V hostOps0
  after_reads_simp
  rfl

end Reads

theorem kSlope_at (h : Fin 8) : kSlope (ix1 h) = Ideal.pow (Ideal.ofBits FTy.f32 1073741824#32) (Ideal.div (Ideal.ofBits FTy.f32 3238002688#32 * (1 + FloatOps.sitofp (F := Ideal) .f32 (BitVec.ofNat 32 h.val))) (Ideal.ofBits FTy.f32 1090519040#32)) := by
  pointwise [kSlope]

theorem kLam_at0 (a3 a4 a5 a6 : FVec Ideal S128 .f32) (x : Fin 128) : kLam a3 a4 a5 a6 (ix2 0 x) = a3 (ix1 x) := by
  pointwise [kLam]
theorem kLam_at1 (a3 a4 a5 a6 : FVec Ideal S128 .f32) (x : Fin 128) : kLam a3 a4 a5 a6 (ix2 1 x) = a4 (ix1 x) := by
  pointwise [kLam]
theorem kLam_at2 (a3 a4 a5 a6 : FVec Ideal S128 .f32) (x : Fin 128) : kLam a3 a4 a5 a6 (ix2 2 x) = a5 (ix1 x) := by
  pointwise [kLam]
theorem kLam_at3 (a3 a4 a5 a6 : FVec Ideal S128 .f32) (x : Fin 128) : kLam a3 a4 a5 a6 (ix2 3 x) = a6 (ix1 x) := by
  pointwise [kLam]

theorem kQ_at (q : FVec Ideal S4x8192x8x2x128 .f32) (b : Fin 4) (t : Fin 8192) (h : Fin 8) (mp : Fin 2) (d : Fin 128) :
    kQ q (ix3 b t ⟨256 * h.val + (128 * mp.val + d.val), by omega⟩) = Ideal.div (q (ix5 b t h mp d) * Ideal.ofBits FTy.f32 1035273459#32) (Ideal.log (Ideal.ofBits FTy.f32 1073741824#32)) := by
  pointwise [kQ]

theorem kK_at (k : FVec Ideal S4x8192x8x2x128 .f32) (b : Fin 4) (t : Fin 8192) (h : Fin 8) (mp : Fin 2) (d : Fin 128) :
    kK k (ix3 b t ⟨256 * h.val + (128 * mp.val + d.val), by omega⟩) = k (ix5 b t h mp d) := by
  pointwise [kK]

theorem kV_at (v : FVec Ideal S4x8192x8x256 .f32) (b : Fin 4) (h : Fin 8) (e : Fin 272) (s : Fin 8192) :
    kV v (ix4 b h e s) = if h_1 : e.val < 256 then v (ix4 b s h ⟨e.val, h_1⟩) else (1 : EReal) := by
  pointwise [kV]

theorem kSub_at (a7 : FVec Ideal S256 .f32) (e : Fin 256) : kSub a7 (ix2 0 e) = a7 (ix1 e) := by
  pointwise [kSub]

end Cert.Attn

end
-- ==== Proof.Value.Windows.lean ====
module

public import proofs.«01_k».proof.Proof.Run.Rounds
public import Idealize.ShloMosaic.Lib.Pointwise

@[expose] public section

/-!
# Windows at an index

What a window of a buffer holds at an index, and what a buffer holds at an index once a window of it has been written.
-/

set_option maxRecDepth 16384

noncomputable section

namespace Cert.Attn

open Idealize.ShloMosaic Cert.KernelIdeal
open VecWindow (window put)

variable {α : Type}

section Three

variable {A B C a b c : ℕ} (x : (⟨3, ![A, B, C]⟩ : Shape).Idx → α) (off : Fin 3 → ℕ)

theorem window3 (inb : ∀ k, off k + (⟨3, ![a, b, c]⟩ : Shape).size k ≤ (⟨3, ![A, B, C]⟩ : Shape).size k) (i : Fin a) (j : Fin b) (k : Fin c) (I : Fin A) (J : Fin B) (K : Fin C)
    (hi : I.val = off 0 + i.val) (hj : J.val = off 1 + j.val) (hk : K.val = off 2 + k.val) :
    window x off (⟨3, ![a, b, c]⟩ : Shape).size inb (ix3 i j k) = x (ix3 I J K) := by
  unfold window
  refine congrArg x (funext fun q => Fin.ext ?_)
  match q with
  | 0 => exact (show off 0 + 1 * i.val = I.val by omega)
  | 1 => exact (show off 1 + 1 * j.val = J.val by omega)
  | 2 => exact (show off 2 + 1 * k.val = K.val by omega)

theorem put3_in (w : (⟨3, ![a, b, c]⟩ : Shape).Idx → α) (i : Fin a) (j : Fin b) (k : Fin c) (I : Fin A) (J : Fin B) (K : Fin C)
    (hi : I.val = off 0 + i.val) (hj : J.val = off 1 + j.val) (hk : K.val = off 2 + k.val) :
    put x off (⟨3, ![a, b, c]⟩ : Shape).size w (ix3 I J K) = w (ix3 i j k) := by
  unfold put
  have h : ∀ q : Fin 3, off q ≤ ((ix3 I J K) q).val ∧ ((ix3 I J K) q).val < off q + (⟨3, ![a, b, c]⟩ : Shape).size q := fun q => by
    match q with
    | 0 => exact (show off 0 ≤ I.val ∧ I.val < off 0 + a by omega)
    | 1 => exact (show off 1 ≤ J.val ∧ J.val < off 1 + b by omega)
    | 2 => exact (show off 2 ≤ K.val ∧ K.val < off 2 + c by omega)
  rw [dif_pos h]
  refine congrArg w (funext fun q => Fin.ext ?_)
  match q with
  | 0 => exact (show I.val - off 0 = i.val by omega)
  | 1 => exact (show J.val - off 1 = j.val by omega)
  | 2 => exact (show K.val - off 2 = k.val by omega)

theorem put3_out (w : (⟨3, ![a, b, c]⟩ : Shape).Idx → α) (I : Fin A) (J : Fin B) (K : Fin C)
    (h : ¬(off 0 ≤ I.val ∧ I.val < off 0 + a) ∨ ¬(off 1 ≤ J.val ∧ J.val < off 1 + b)) :
    put x off (⟨3, ![a, b, c]⟩ : Shape).size w (ix3 I J K) = x (ix3 I J K) := by
  unfold put
  rw [dif_neg]
  intro h'
  have h0 : off 0 ≤ I.val ∧ I.val < off 0 + a := h' 0
  have h1 : off 1 ≤ J.val ∧ J.val < off 1 + b := h' 1
  omega

end Three

section Two

variable {A B a b : ℕ} (x : (⟨2, ![A, B]⟩ : Shape).Idx → α)

theorem window2 (inb : ∀ k, (![0, 0] : Fin 2 → ℕ) k + (⟨2, ![a, b]⟩ : Shape).size k ≤ (⟨2, ![A, B]⟩ : Shape).size k) (i : Fin a) (j : Fin b) (I : Fin A) (J : Fin B)
    (hi : I.val = i.val) (hj : J.val = j.val) : window x ![0, 0] (⟨2, ![a, b]⟩ : Shape).size inb (ix2 i j) = x (ix2 I J) := by
  unfold window
  refine congrArg x (funext fun q => Fin.ext ?_)
  match q with
  | 0 => exact (show 0 + 1 * i.val = I.val by omega)
  | 1 => exact (show 0 + 1 * j.val = J.val by omega)

theorem put2 (w : (⟨2, ![A, B]⟩ : Shape).Idx → α) : put x ![0, 0] (⟨2, ![A, B]⟩ : Shape).size w = w := by
  funext y
  unfold put
  have h : ∀ q : Fin 2, (![0, 0] : Fin 2 → ℕ) q ≤ (y q).val ∧ (y q).val < (![0, 0] : Fin 2 → ℕ) q + (⟨2, ![A, B]⟩ : Shape).size q := fun q => by
    match q with
    | 0 => exact (show 0 ≤ (y 0).val ∧ (y 0).val < 0 + A from ⟨Nat.zero_le _, by have := (y 0).isLt; exact (Nat.zero_add A).symm ▸ this⟩)
    | 1 => exact (show 0 ≤ (y 1).val ∧ (y 1).val < 0 + B from ⟨Nat.zero_le _, by have := (y 1).isLt; exact (Nat.zero_add B).symm ▸ this⟩)
  rw [dif_pos h]
  refine congrArg w (funext fun q => Fin.ext ?_)
  match q with
  | 0 => rfl
  | 1 => rfl

end Two

theorem window4 {A B C D a b c d : ℕ} (x : (⟨4, ![A, B, C, D]⟩ : Shape).Idx → α) (off : Fin 4 → ℕ)
    (inb : ∀ k, off k + (⟨4, ![a, b, c, d]⟩ : Shape).size k ≤ (⟨4, ![A, B, C, D]⟩ : Shape).size k) (i : Fin a) (j : Fin b) (k : Fin c) (l : Fin d) (I : Fin A) (J : Fin B) (K : Fin C) (L : Fin D)
    (hi : I.val = off 0 + i.val) (hj : J.val = off 1 + j.val) (hk : K.val = off 2 + k.val) (hl : L.val = off 3 + l.val) :
    window x off (⟨4, ![a, b, c, d]⟩ : Shape).size inb (ix4 i j k l) = x (ix4 I J K L) := by
  unfold window
  refine congrArg x (funext fun q => Fin.ext ?_)
  match q with
  | 0 => exact (show off 0 + 1 * i.val = I.val by omega)
  | 1 => exact (show off 1 + 1 * j.val = J.val by omega)
  | 2 => exact (show off 2 + 1 * k.val = K.val by omega)
  | 3 => exact (show off 3 + 1 * l.val = L.val by omega)

/-! ## The loop's tables, as numbers -/

def qv (n : ℕ) : ℕ := (qN n).toNat
def jv (n : ℕ) : ℕ := (jN n).toNat
/-- How many keys a step looks at. -/
def lenv (n : ℕ) : ℕ := if kN n = 2#32 then 512 else 1024
/-- The keys looked at once a step is done. -/
def endv (n : ℕ) : ℕ := 1024 * jv n + lenv n

theorem offK_one : ∀ n : Fin 73, (Scalar.indexCast (Scalar.muli (jN n) 1024#32)).toNat = 1024 * jv n := by decide +kernel
theorem offQ_one : ∀ n : Fin 73, (Scalar.indexCast (Scalar.muli (qN n) 512#32)).toNat = 512 * qv n := by decide +kernel
theorem qv_lt (n : ℕ) : qv n < 16 := qN_lt n
theorem jv_lt (n : ℕ) : jv n < 8 := jN_lt n
theorem jN_zero : ∀ n : Fin 73, jN n = 0#32 ↔ jv n = 0 := by decide +kernel
theorem tab_half : ∀ n : Fin 73, kN n = 2#32 → 1024 * jv n = 512 * qv n := by decide +kernel
theorem tab_last : ∀ n : Fin 73, kN n = 1#32 → 1024 * jv n + 512 = 512 * qv n := by decide +kernel
theorem tab_full : ∀ n : Fin 73, kN n ≠ 2#32 → kN n ≠ 1#32 → 1024 * jv n + 1024 ≤ 512 * qv n := by decide +kernel
/-- Within a row of blocks the keys go on where the step before ended. -/
theorem tab_next : ∀ n : Fin 71, jv (n + 1) ≠ 0 → endv n = 1024 * jv (n + 1) ∧ qv n = qv (n + 1) := by decide +kernel
/-- A row of blocks begins once the row before has seen all its keys. -/
theorem tab_first : ∀ n : Fin 71, jv (n + 1) = 0 → endv n = 512 * (qv n + 1) ∧ qv n + 1 = qv (n + 1) := by decide +kernel
theorem tab_sub : ∀ n : Fin 72, 0 < n.val → jv n = 0 → (Scalar.indexCast (Scalar.muli (Scalar.subi (qN n) 1#32) 512#32)).toNat = 512 * (qv n - 1) := by decide +kernel
theorem tab_zero : qv 0 = 0 ∧ jv 0 = 0 := by decide +kernel
theorem tab_end : endv 71 = 8192 ∧ qv 71 = 15 := by decide +kernel

theorem sub_word : ∀ n : Fin 73, (Scalar.subi (Scalar.muli (qN n) 512#32) (Scalar.muli (jN n) 1024#32)).toInt = 512 * (qv n : ℤ) - 1024 * (jv n : ℤ) := by decide +kernel

end Cert.Attn

end
-- ==== Proof.Value.Scores.lean ====
module

public import proofs.«01_k».proof.Proof.Value.Forms
public import proofs.«01_k».proof.Proof.Value.Windows

@[expose] public section

/-!
# The scores a step writes

One head's numbers, the base-two logits they give, and what the score buffers hold once a step's scores are in.
-/

set_option maxRecDepth 16384

noncomputable section

namespace Cert.Attn

open Idealize.ShloMosaic Cert.KernelIdeal Cert.KernelIdeal.Facts₀ Cert.KernelIdeal.Facts
open VecWindow (window put)

/-- The numbers of one head: its slope in base two, its keys, its queries, and its values with their row of ones. -/
structure Head where
  σ : ℝ
  kk : ℕ → ℕ → ℝ
  qq : ℕ → ℕ → ℝ
  V : ℕ → ℕ → ℝ

namespace Head

variable (H : Head)

/-- The product of a key and a query, in map `mp`. -/
def raw (mp s t : ℕ) : ℝ := ∑ d ∈ Finset.range 128, H.kk s (128 * mp + d) * H.qq t (128 * mp + d)
/-- The base-two logit. -/
def lg (mp s t : ℕ) : ℝ := H.raw mp s t - H.σ * |(t : ℝ) - s|
/-- The weight of key `s` for query `t`. -/
def wt (mp t s : ℕ) : ℝ := if s / 64 ≤ t / 64 then (2 : ℝ) ^ (H.lg mp s t) else 0
/-- What a score buffer holds of key `K + i` and query `Q + r`. -/
def scv (mp K Q i r : ℕ) : EReal := if (K + i) / 64 ≤ (Q + r) / 64 then ((H.lg mp (K + i) (Q + r) + H.σ * ((Q : ℝ) - K) : ℝ) : EReal) else ⊥

end Head

/-- The blocks and the tables of the head, as the walk finds them. -/
structure Inp (H : Head) (st : St Ideal) : Prop where
  h6 : ∀ (t : Fin 8192) (d : Fin 256), st.x6 (ix3 0 t d) = ((H.qq t.val d.val : ℝ) : EReal)
  h7 : ∀ (s : Fin 8192) (d : Fin 256), st.x7 (ix3 0 s d) = ((H.kk s.val d.val : ℝ) : EReal)
  h8 : ∀ (e : Fin 272) (s : Fin 8192), st.x8 (ix4 0 0 e s) = ((H.V e.val s.val : ℝ) : EReal)
  h12 : st.x12 = corrOf (F := Ideal) ((H.σ : ℝ) : EReal)
  h13 : st.x13 = auxkOf (F := Ideal) ((H.σ : ℝ) : EReal)
  h14 : st.x14 = auxqOf (F := Ideal) ((H.σ : ℝ) : EReal)

theorem Inp.same {H : Head} {a st : St Ideal} (h : Inp H a) (hs : Same a st) : Inp H st where
  h6 := hs.h6 ▸ h.h6
  h7 := hs.h7 ▸ h.h7
  h8 := hs.h8 ▸ h.h8
  h12 := hs.h12 ▸ h.h12
  h13 := hs.h13 ▸ h.h13
  h14 := hs.h14 ▸ h.h14

variable {H : Head} {st : St Ideal}

theorem sum_fin_coe (n : ℕ) (f : ℕ → ℝ) : (∑ d : Fin n, ((f d.val : ℝ) : EReal)) = ((∑ d ∈ Finset.range n, f d : ℝ) : EReal) := by
  rw [← coe_sum, Fin.sum_univ_eq_sum_range]

theorem dFull_at (hI : Inp H st) (n : Fin 73) (hk : KInb S1x1024x128.size (jN n)) (hq : QInb (qN n)) (mp : Fin 2) (i : Fin 1024) (r : Fin 512) :
    dFull (jN n) (qN n) st hk hq mp (ix2 i r) =
      ((H.raw mp.val (1024 * jv n + i.val) (512 * qv n + r.val) + H.σ * ((i.val : ℝ) - r.val) : ℝ) : EReal) := by
  have hj := jv_lt n
  have hQ := qv_lt n
  unfold dFull
  rw [dotFull_at, EReal.coe_add, Head.raw, ← sum_fin_coe, ← aux_sum]
  congr 1
  · refine Finset.sum_congr rfl fun d _ => ?_
    rw [window3 _ _ _ 0 i d 0 ⟨1024 * jv n + i.val, by omega⟩ ⟨128 * mp.val + d.val, by omega⟩ rfl (congrArg (· + i.val) (offK_one n).symm) rfl,
      window3 _ _ _ 0 r d 0 ⟨512 * qv n + r.val, by omega⟩ ⟨128 * mp.val + d.val, by omega⟩ rfl (congrArg (· + r.val) (offQ_one n).symm) rfl, hI.h7, hI.h6, EReal.coe_mul]
  · refine Finset.sum_congr rfl fun d _ => ?_
    rw [window2 _ _ i d i d rfl rfl, window2 _ _ r d r d rfl rfl, hI.h13, hI.h14]

theorem addf_at {s : Shape} (x y : FVec Ideal s .f32) (j : s.Idx) : addf x y j = (x j + y j : EReal) := rfl

theorem dHalf_at (hI : Inp H st) (n : Fin 73) (hk : KInb S1x512x128.size (jN n)) (hq : QInb (qN n)) (mp : Fin 2) (i : Fin 512) (r : Fin 512) :
    dHalf (jN n) (qN n) st hk hq mp (ix2 i r) =
      ((H.raw mp.val (1024 * jv n + i.val) (512 * qv n + r.val) + H.σ * ((i.val : ℝ) - r.val) : ℝ) : EReal) + corrOf (F := Ideal) ((H.σ : ℝ) : EReal) (ix2 i r) := by
  have hj := jv_lt n
  have hQ := qv_lt n
  unfold dHalf
  rw [addf_at, window2 _ _ i r i r rfl rfl, hI.h12]
  congr 1
  rw [dotHalf_at, EReal.coe_add, Head.raw, ← sum_fin_coe, ← aux_sum H.σ ⟨i.val, by omega⟩ r]
  congr 1
  · refine Finset.sum_congr rfl fun d _ => ?_
    rw [window3 _ _ _ 0 i d 0 ⟨1024 * jv n + i.val, by omega⟩ ⟨128 * mp.val + d.val, by omega⟩ rfl (congrArg (· + i.val) (offK_one n).symm) rfl,
      window3 _ _ _ 0 r d 0 ⟨512 * qv n + r.val, by omega⟩ ⟨128 * mp.val + d.val, by omega⟩ rfl (congrArg (· + r.val) (offQ_one n).symm) rfl, hI.h7, hI.h6, EReal.coe_mul]
  · refine Finset.sum_congr rfl fun d _ => ?_
    rw [window2 st.x13 _ i d (⟨i.val, by omega⟩ : Fin 1024) d rfl rfl, window2 _ _ r d r d rfl rfl, hI.h13, hI.h14]

/-- Where every key of the block comes before every query the product already is the score. -/
theorem scv_below (mp K Q i r : ℕ) (h : K + i ≤ Q) : ((H.raw mp (K + i) (Q + r) + H.σ * ((i : ℝ) - r) : ℝ) : EReal) = H.scv mp K Q i r := by
  unfold Head.scv Head.lg
  rw [if_pos (Nat.div_le_div_right (by omega)), abs_of_nonneg]
  · congr 1
    push_cast
    ring
  · have : ((K + i : ℕ) : ℝ) ≤ ((Q + r : ℕ) : ℝ) := by exact_mod_cast (by omega : K + i ≤ Q + r)
    linarith

/-- On the diagonal the correction makes it one. -/
theorem scv_diag (mp K Q o r : ℕ) (c r' : Fin 512) (hr : r = r'.val) (hK : K + o = Q) (hQ : Q % 64 = 0) :
    ((H.raw mp (K + (o + c.val)) (Q + r) + H.σ * (((o + c.val : ℕ) : ℝ) - r) : ℝ) : EReal) + corrOf (F := Ideal) ((H.σ : ℝ) : EReal) (ix2 c r') = H.scv mp K Q (o + c.val) r := by
  subst hr
  rw [corrOf_at]
  unfold Head.scv Head.lg
  have e : c.val / 64 ≤ r'.val / 64 ↔ (K + (o + c.val)) / 64 ≤ (Q + r'.val) / 64 := by omega
  by_cases h : c.val / 64 ≤ r'.val / 64
  · rw [if_pos h, if_pos (e.mp h), ← EReal.coe_add]
    congr 1
    have hq : (Q : ℝ) = K + o := by exact_mod_cast hK.symm
    push_cast
    rw [hq]
    by_cases hc : r'.val ≤ c.val
    · rw [Nat.cast_sub hc, abs_of_nonpos]
      · ring
      · have : (r'.val : ℝ) ≤ c.val := by exact_mod_cast hc
        linarith
    · rw [Nat.sub_eq_zero_of_le (by omega), abs_of_nonneg]
      · push_cast; ring
      · have : (c.val : ℝ) ≤ r'.val := by exact_mod_cast (by omega : c.val ≤ r'.val)
        linarith
  · rw [if_neg h, if_neg (fun h' => h (e.mpr h')), EReal.add_bot]

end Cert.Attn

end
-- ==== Proof.Value.Store.lean ====
module

public import proofs.«01_k».proof.Proof.Value.Scores

@[expose] public section

/-!
# The buffers after a step's stores

What the score and maximum buffers hold once a step's scores are written, by the kind of the step.
-/

set_option maxRecDepth 16384

noncomputable section

namespace Cert.Attn

open Idealize.ShloMosaic Cert.KernelIdeal Cert.KernelIdeal.Facts₀ Cert.KernelIdeal.Facts
open VecWindow (window put)

section Casts

variable {φ : FTy}

theorem cast512 (x : FVec Ideal S512x512 φ) (i r : Fin 512) : shapeCast S1x512x512 x shapeCasts_S512x512_S1x512x512 (ix3 0 i r) = x (ix2 i r) := by pointwise
theorem cast1024 (x : FVec Ideal S1024x512 φ) (i : Fin 1024) (r : Fin 512) : shapeCast S1x1024x512 x shapeCasts_S1024x512_S1x1024x512 (ix3 0 i r) = x (ix2 i r) := by pointwise
theorem castM (x : FVec Ideal S1x512 φ) (r : Fin 512) : shapeCast S1x1x512 x shapeCasts_S1x512_S1x1x512 (ix3 0 0 r) = x (ix2 0 r) := by pointwise
theorem castA (x : FVec Ideal S272x512 φ) (e : Fin 272) (r : Fin 512) : shapeCast S1x272x512 x shapeCasts_S272x512_S1x272x512 (ix3 0 e r) = x (ix2 e r) := by pointwise
theorem castO (x : FVec Ideal S512x256 φ) (r : Fin 512) (e : Fin 256) : shapeCast S1x512x256 x shapeCasts_S512x256_S1x512x256 (ix3 0 r e) = x (ix2 r e) := by pointwise

end Casts

namespace St

variable (st : St Ideal) (b : Bool)

theorem s_setS (y) : (st.setS b y).s b = y := by cases b <;> rfl
theorem s_setMx (b' : Bool) (y) : (st.setMx b y).s b' = st.s b' := by cases b <;> cases b' <;> rfl
theorem mx_setS (b' : Bool) (y) : (st.setS b y).mx b' = st.mx b' := by cases b <;> cases b' <;> rfl
theorem mx_setMx (y) : (st.setMx b y).mx b = y := by cases b <;> rfl
theorem s_setS' (y) : (st.setS (!b) y).s b = st.s b := by cases b <;> rfl
theorem mx_setMx' (y) : (st.setMx (!b) y).mx b = st.mx b := by cases b <;> rfl

end St

variable (b : Bool) (kw qw : BitVec 32) (mp : Fin 2) (st : St Ideal)

theorem half_s (hk hq) (i r : Fin 512) (I : Fin 1024) (hI : I.val = i.val) : (scHalfMpF b kw qw hk hq mp st).s b (ix3 mp I r) = dHalf kw qw st hk hq mp (ix2 i r) := by
  unfold scHalfMpF
  rw [St.s_setMx, St.s_setS, put3_in _ _ _ 0 i r mp I r rfl (by rw [hI]; exact (Nat.zero_add _).symm) (Nat.zero_add _).symm, cast512]
theorem half_s' (hk hq) (mp' : Fin 2) (h : mp' ≠ mp) (i : Fin 1024) (r : Fin 512) : (scHalfMpF b kw qw hk hq mp st).s b (ix3 mp' i r) = st.s b (ix3 mp' i r) := by
  unfold scHalfMpF
  rw [St.s_setMx, St.s_setS, put3_out]
  exact .inl fun h' => h (Fin.ext (by have h1 : mp.val ≤ mp'.val := h'.1; have h2 : mp'.val < mp.val + 1 := h'.2; omega))
theorem half_mx (hk hq) (r : Fin 512) : (scHalfMpF b kw qw hk hq mp st).mx b (ix3 mp 0 r) = colMax (dHalf kw qw st hk hq mp) (ix2 0 r) := by
  unfold scHalfMpF
  rw [St.mx_setMx, put3_in _ _ _ 0 0 r mp 0 r rfl rfl (Nat.zero_add _).symm, castM]
theorem half_mx' (hk hq) (mp' : Fin 2) (h : mp' ≠ mp) (r : Fin 512) : (scHalfMpF b kw qw hk hq mp st).mx b (ix3 mp' 0 r) = st.mx b (ix3 mp' 0 r) := by
  unfold scHalfMpF
  rw [St.mx_setMx, put3_out, St.mx_setS]
  exact .inl fun h' => h (Fin.ext (by have h1 : mp.val ≤ mp'.val := h'.1; have h2 : mp'.val < mp.val + 1 := h'.2; omega))

theorem full_s (hk hq) (i : Fin 1024) (r : Fin 512) : (scFullMpF b kw qw hk hq mp st).s b (ix3 mp i r) = dFull kw qw st hk hq mp (ix2 i r) := by
  unfold scFullMpF
  rw [St.s_setMx, St.s_setS, put3_in _ _ _ 0 i r mp i r rfl (Nat.zero_add _).symm (Nat.zero_add _).symm, cast1024]
theorem full_s' (hk hq) (mp' : Fin 2) (h : mp' ≠ mp) (i : Fin 1024) (r : Fin 512) : (scFullMpF b kw qw hk hq mp st).s b (ix3 mp' i r) = st.s b (ix3 mp' i r) := by
  unfold scFullMpF
  rw [St.s_setMx, St.s_setS, put3_out]
  exact .inl fun h' => h (Fin.ext (by have h1 : mp.val ≤ mp'.val := h'.1; have h2 : mp'.val < mp.val + 1 := h'.2; omega))
theorem full_mx (hk hq) (r : Fin 512) : (scFullMpF b kw qw hk hq mp st).mx b (ix3 mp 0 r) = colMaxFull (dFull kw qw st hk hq mp) (ix2 0 r) := by
  unfold scFullMpF
  rw [St.mx_setMx, put3_in _ _ _ 0 0 r mp 0 r rfl rfl (Nat.zero_add _).symm, castM]
theorem full_mx' (hk hq) (mp' : Fin 2) (h : mp' ≠ mp) (r : Fin 512) : (scFullMpF b kw qw hk hq mp st).mx b (ix3 mp' 0 r) = st.mx b (ix3 mp' 0 r) := by
  unfold scFullMpF
  rw [St.mx_setMx, put3_out, St.mx_setS]
  exact .inl fun h' => h (Fin.ext (by have h1 : mp.val ≤ mp'.val := h'.1; have h2 : mp'.val < mp.val + 1 := h'.2; omega))

theorem last_low (hk hq) (i r : Fin 512) (I : Fin 1024) (hI : I.val = i.val) : (scLastMpF b kw qw hk hq mp st).s b (ix3 mp I r) = dFull kw qw st hk hq mp (ix2 I r) := by
  unfold scLastMpF
  rw [St.s_setMx, St.s_setS, put3_in _ _ _ 0 i r mp I r rfl (by rw [hI]; exact (Nat.zero_add _).symm) (Nat.zero_add _).symm, cast512, lowHalf_at]
  exact congrArg _ (congrArg (ix2 · r) (Fin.ext hI.symm))
theorem last_high (hk hq) (i r : Fin 512) (I : Fin 1024) (hI : I.val = 512 + i.val) : (scLastMpF b kw qw hk hq mp st).s b (ix3 mp I r) =
    (dFull kw qw st hk hq mp (ix2 I r) + window st.x12 ![0, 0] S512x512.size inb_S512x512_S512x512_0_0 (ix2 i r) : EReal) := by
  unfold scLastMpF
  rw [St.s_setMx, St.s_setS, put3_out, St.s_setS, put3_in _ _ _ 0 i r mp I r rfl hI (Nat.zero_add _).symm, cast512, highHalf_at]
  · exact congrArg (· + _) (congrArg _ (congrArg (ix2 · r) (Fin.ext hI.symm)))
  · exact .inr fun h' => by have h2 : I.val < 0 + 512 := h'.2; omega
theorem last_s' (hk hq) (mp' : Fin 2) (h : mp' ≠ mp) (i : Fin 1024) (r : Fin 512) : (scLastMpF b kw qw hk hq mp st).s b (ix3 mp' i r) = st.s b (ix3 mp' i r) := by
  have hx : ¬(mp.val ≤ mp'.val ∧ mp'.val < mp.val + 1) := fun h' => h (Fin.ext (by omega))
  unfold scLastMpF
  rw [St.s_setMx, St.s_setS, put3_out _ _ _ _ _ _ (.inl hx), St.s_setS, put3_out _ _ _ _ _ _ (.inl hx)]
theorem last_mx (hk hq) (r : Fin 512) : (scLastMpF b kw qw hk hq mp st).mx b (ix3 mp 0 r) =
    max (colMax (highHalf (dFull kw qw st hk hq mp) (window st.x12 ![0, 0] S512x512.size inb_S512x512_S512x512_0_0)) (ix2 0 r)) (colMax (lowHalf (dFull kw qw st hk hq mp)) (ix2 0 r)) := by
  unfold scLastMpF
  rw [St.mx_setMx, put3_in _ _ _ 0 0 r mp 0 r rfl rfl (Nat.zero_add _).symm, castM]
  rfl
theorem last_mx' (hk hq) (mp' : Fin 2) (h : mp' ≠ mp) (r : Fin 512) : (scLastMpF b kw qw hk hq mp st).mx b (ix3 mp' 0 r) = st.mx b (ix3 mp' 0 r) := by
  unfold scLastMpF
  rw [St.mx_setMx, put3_out, St.mx_setS, St.mx_setS]
  exact .inl fun h' => h (Fin.ext (by have h1 : mp.val ≤ mp'.val := h'.1; have h2 : mp'.val < mp.val + 1 := h'.2; omega))

end Cert.Attn

end
-- ==== Proof.Value.Scored.lean ====
module

public import proofs.«01_k».proof.Proof.Value.Store

@[expose] public section

/-!
# A step's scores, as the head's logits
-/

set_option maxRecDepth 16384

noncomputable section

namespace Cert.Attn

open Idealize.ShloMosaic Cert.KernelIdeal Cert.KernelIdeal.Facts₀ Cert.KernelIdeal.Facts
open VecWindow (window put)

/-- A pair of buffers holds step `n`'s scores and a bound above them. -/
structure Sco (H : Head) (b : Bool) (n : ℕ) (st : St Ideal) : Prop where
  s : ∀ (mp : Fin 2) (i : Fin 1024) (r : Fin 512), i.val < lenv n → st.s b (ix3 mp i r) = H.scv mp.val (1024 * jv n) (512 * qv n) i.val r.val
  top : ∀ (mp : Fin 2) (r : Fin 512), st.mx b (ix3 mp 0 r) ≠ (⊤ : EReal)
  bot : jv n = 0 → ∀ (mp : Fin 2) (r : Fin 512), st.mx b (ix3 mp 0 r) ≠ (⊥ : EReal)

variable {H : Head} {st : St Ideal} (b : Bool)

theorem scv_ne_top (mp K Q i r : ℕ) : H.scv mp K Q i r ≠ ⊤ := by
  unfold Head.scv
  split
  · exact EReal.coe_ne_top _
  · exact bot_ne_top
theorem scv_ne_bot (mp Q r : ℕ) : H.scv mp 0 Q 0 r ≠ ⊥ := by
  unfold Head.scv
  rw [if_pos (by omega)]
  exact EReal.coe_ne_bot _

theorem fold_ne_top {n : ℕ} {f : Fin n → EReal} (h : ∀ i, f i ≠ ⊤) : Finset.univ.fold max (⊥ : EReal) f ≠ ⊤ :=
  ((Finset.fold_max_lt (c := (⊤ : EReal))).mpr ⟨bot_lt_top, fun i _ => lt_top_iff_ne_top.mpr (h i)⟩).ne
theorem fold_ne_bot {n : ℕ} {f : Fin n → EReal} (i : Fin n) (h : f i ≠ ⊥) : Finset.univ.fold max (⊥ : EReal) f ≠ ⊥ :=
  ((Finset.lt_fold_max (c := (⊥ : EReal))).mpr (.inr ⟨i, Finset.mem_univ i, bot_lt_iff_ne_bot.mpr h⟩)).ne'

/-- The two maps' stores, one after the other, from what each leaves. -/
theorem sco_of {n : ℕ} (g : Fin 2 → St Ideal → St Ideal)
    (hI : ∀ mp st, Inp H st → Inp H (g mp st))
    (hs : ∀ mp st, Inp H st → ∀ (i : Fin 1024) (r : Fin 512), i.val < lenv n → (g mp st).s b (ix3 mp i r) = H.scv mp.val (1024 * jv n) (512 * qv n) i.val r.val)
    (hs' : ∀ mp mp' st, mp' ≠ mp → ∀ (i : Fin 1024) (r : Fin 512), (g mp st).s b (ix3 mp' i r) = st.s b (ix3 mp' i r))
    (ht : ∀ mp st, Inp H st → ∀ r : Fin 512, (g mp st).mx b (ix3 mp 0 r) ≠ (⊤ : EReal))
    (hb : jv n = 0 → ∀ mp st, Inp H st → ∀ r : Fin 512, (g mp st).mx b (ix3 mp 0 r) ≠ (⊥ : EReal))
    (hm' : ∀ mp mp' st, mp' ≠ mp → ∀ r : Fin 512, (g mp st).mx b (ix3 mp' 0 r) = st.mx b (ix3 mp' 0 r))
    (hst : Inp H st) : Sco H b n (g 1 (g 0 st)) where
  s mp i r hi := by
    by_cases h : mp = 1
    · subst h; exact hs 1 _ (hI 0 _ hst) i r hi
    · have h0 : mp = 0 := by omega
      subst h0
      rw [hs' 1 0 _ (by decide)]
      exact hs 0 _ hst i r hi
  top mp r := by
    by_cases h : mp = 1
    · subst h; exact ht 1 _ (hI 0 _ hst) r
    · have h0 : mp = 0 := by omega
      subst h0
      rw [hm' 1 0 _ (by decide)]
      exact ht 0 _ hst r
  bot hj mp r := by
    by_cases h : mp = 1
    · subst h; exact hb hj 1 _ (hI 0 _ hst) r
    · have h0 : mp = 0 := by omega
      subst h0
      rw [hm' 1 0 _ (by decide)]
      exact hb hj 0 _ hst r

section Kinds

variable (n : Fin 73)

theorem dHalf_scv (hI : Inp H st) (hn : kN n = 2#32) (hk) (hq) (mp : Fin 2) (i r : Fin 512) :
    dHalf (jN n) (qN n) st hk hq mp (ix2 i r) = H.scv mp.val (1024 * jv n) (512 * qv n) i.val r.val := by
  have h := scv_diag (H := H) mp.val (1024 * jv n) (512 * qv n) 0 r.val i r rfl (tab_half n hn) (by omega)
  rw [Nat.zero_add] at h
  rw [dHalf_at hI, h]

theorem dFull_scv (hI : Inp H st) (hn : kN n ≠ 2#32) (hn' : kN n ≠ 1#32) (hk) (hq) (mp : Fin 2) (i : Fin 1024) (r : Fin 512) :
    dFull (jN n) (qN n) st hk hq mp (ix2 i r) = H.scv mp.val (1024 * jv n) (512 * qv n) i.val r.val := by
  have := tab_full n hn hn'
  rw [dFull_at hI, scv_below _ _ _ _ _ (by omega)]

theorem low_scv (hI : Inp H st) (hn : kN n = 1#32) (hk) (hq) (mp : Fin 2) (i : Fin 1024) (hi : i.val < 512) (r : Fin 512) :
    dFull (jN n) (qN n) st hk hq mp (ix2 i r) = H.scv mp.val (1024 * jv n) (512 * qv n) i.val r.val := by
  have := tab_last n hn
  rw [dFull_at hI, scv_below _ _ _ _ _ (by omega)]

theorem high_scv (hI : Inp H st) (hn : kN n = 1#32) (hk) (hq) (mp : Fin 2) (i : Fin 1024) (i' : Fin 512) (hi : i.val = 512 + i'.val) (r : Fin 512) :
    (dFull (jN n) (qN n) st hk hq mp (ix2 i r) + window st.x12 ![0, 0] S512x512.size inb_S512x512_S512x512_0_0 (ix2 i' r) : EReal) =
      H.scv mp.val (1024 * jv n) (512 * qv n) i.val r.val := by
  have h := scv_diag (H := H) mp.val (1024 * jv n) (512 * qv n) 512 r.val i' r rfl (tab_last n hn) (by omega)
  rw [dFull_at hI, window2 _ _ i' r i' r rfl rfl, hI.h12, hi, h]

theorem scF_sco (hI : Inp H st) : Sco H b n (scF b n st) := by
  have hj := jv_lt n
  unfold scF
  by_cases hn : kN n = 2#32
  · rw [if_pos hn]
    have hl : lenv n = 512 := if_pos hn
    refine sco_of b (fun mp st => scHalfMpF b (jN n) (qN n) (kInb5 (jN_lt n)) (qInb (qN_lt n)) mp st) ?_ ?_ ?_ ?_ ?_ ?_ hI
    · exact fun mp st h => h.same (((Same.refl st).setS _ _).setMx _ _)
    · exact fun mp st h i r hi => (half_s b _ _ mp st _ _ ⟨i.val, hl ▸ hi⟩ r i rfl).trans (dHalf_scv n h hn _ _ mp _ r)
    · exact fun mp mp' st h i r => half_s' b _ _ mp st _ _ mp' h i r
    · intro mp st h r
      rw [half_mx, colMax_at]
      exact fold_ne_top fun i => by rw [dHalf_scv n h hn]; exact scv_ne_top _ _ _ _ _
    · intro hz mp st h r
      rw [half_mx, colMax_at]
      exact fold_ne_bot 0 (by rw [dHalf_scv n h hn, hz]; exact scv_ne_bot _ _ _)
    · exact fun mp mp' st h r => half_mx' b _ _ mp st _ _ mp' h r
  rw [if_neg hn]
  by_cases hn' : kN n = 1#32
  · rw [if_pos hn']
    refine sco_of b (fun mp st => scLastMpF b (jN n) (qN n) (kInb10 (jN_lt n)) (qInb (qN_lt n)) mp st) ?_ ?_ ?_ ?_ ?_ ?_ hI
    · exact fun mp st h => h.same ((((Same.refl st).setS _ _).setS _ _).setMx _ _)
    · intro mp st h i r hi
      by_cases h5 : i.val < 512
      · exact (last_low b _ _ mp st _ _ ⟨i.val, h5⟩ r i rfl).trans (low_scv n h hn' _ _ mp _ h5 r)
      · have e : i.val = 512 + (⟨i.val - 512, by omega⟩ : Fin 512).val := by show i.val = 512 + (i.val - 512); omega
        exact (last_high b _ _ mp st _ _ ⟨i.val - 512, by omega⟩ r i e).trans (high_scv n h hn' _ _ mp _ _ e r)
    · exact fun mp mp' st h i r => last_s' b _ _ mp st _ _ mp' h i r
    · intro mp st h r
      rw [last_mx, colMax_at, colMax_at]
      refine (max_lt (lt_top_iff_ne_top.mpr (fold_ne_top fun i => ?_)) (lt_top_iff_ne_top.mpr (fold_ne_top fun i => ?_))).ne
      · rw [highHalf_at, high_scv n h hn' _ _ mp _ i rfl r]; exact scv_ne_top _ _ _ _ _
      · rw [lowHalf_at, low_scv n h hn' _ _ mp _ (by exact i.isLt) r]; exact scv_ne_top _ _ _ _ _
    · intro hz mp st h r
      rw [last_mx, colMax_at, colMax_at]
      refine ((bot_lt_iff_ne_bot.mpr (fold_ne_bot 0 ?_)).trans_le (le_max_right _ _)).ne'
      rw [lowHalf_at, low_scv n h hn' _ _ mp _ (by exact Nat.zero_lt_succ _) r, hz]; exact scv_ne_bot _ _ _
    · exact fun mp mp' st h r => last_mx' b _ _ mp st _ _ mp' h r
  · rw [if_neg hn']
    refine sco_of b (fun mp st => scFullMpF b (jN n) (qN n) (kInb10 (jN_lt n)) (qInb (qN_lt n)) mp st) ?_ ?_ ?_ ?_ ?_ ?_ hI
    · exact fun mp st h => h.same (((Same.refl st).setS _ _).setMx _ _)
    · exact fun mp st h i r hi => (full_s b _ _ mp st _ _ i r).trans (dFull_scv n h hn hn' _ _ mp _ r)
    · exact fun mp mp' st h i r => full_s' b _ _ mp st _ _ mp' h i r
    · intro mp st h r
      rw [full_mx, colMaxFull_at]
      exact fold_ne_top fun i => by rw [dFull_scv n h hn hn']; exact scv_ne_top _ _ _ _ _
    · intro hz mp st h r
      rw [full_mx, colMaxFull_at]
      exact fold_ne_bot 0 (by rw [dFull_scv n h hn hn', hz]; exact scv_ne_bot _ _ _)
    · exact fun mp mp' st h r => full_mx' b _ _ mp st _ _ mp' h r

end Kinds

namespace St

variable (st : St Ideal) (b : Bool)

theorem x11_setS (y) : (st.setS b y).x11 = st.x11 := by cases b <;> rfl
theorem x11_setMx (y) : (st.setMx b y).x11 = st.x11 := by cases b <;> rfl
theorem x20_setS (y) : (st.setS b y).x20 = st.x20 := by cases b <;> rfl
theorem x20_setMx (y) : (st.setMx b y).x20 = st.x20 := by cases b <;> rfl
theorem x21_setS (y) : (st.setS b y).x21 = st.x21 := by cases b <;> rfl
theorem x21_setMx (y) : (st.setMx b y).x21 = st.x21 := by cases b <;> rfl

end St

theorem scF_x11 (n : ℕ) : (scF b n st).x11 = st.x11 := by
  unfold scF scHalfMpF scLastMpF scFullMpF
  split
  · simp only [St.x11_setS, St.x11_setMx]
  split <;> simp only [St.x11_setS, St.x11_setMx]
theorem scF_x20 (n : ℕ) : (scF b n st).x20 = st.x20 := by
  unfold scF scHalfMpF scLastMpF scFullMpF
  split
  · simp only [St.x20_setS, St.x20_setMx]
  split <;> simp only [St.x20_setS, St.x20_setMx]
theorem scF_x21 (n : ℕ) : (scF b n st).x21 = st.x21 := by
  unfold scF scHalfMpF scLastMpF scFullMpF
  split
  · simp only [St.x21_setS, St.x21_setMx]
  split <;> simp only [St.x21_setS, St.x21_setMx]
theorem scF_s (n : ℕ) : (scF (!b) n st).s b = st.s b := by
  unfold scF scHalfMpF scLastMpF scFullMpF
  split
  · simp only [St.s_setS', St.s_setMx]
  split <;> simp only [St.s_setS', St.s_setMx]
theorem scF_mx (n : ℕ) : (scF (!b) n st).mx b = st.mx b := by
  unfold scF scHalfMpF scLastMpF scFullMpF
  split
  · simp only [St.mx_setMx', St.mx_setS]
  split <;> simp only [St.mx_setMx', St.mx_setS]

end Cert.Attn

end
-- ==== Proof.Value.Consume.lean ====
module

public import proofs.«01_k».proof.Proof.Value.Scored

@[expose] public section

/-!
# The running softmax

One step's update of the running maximum and of the weighted sums: whatever maximum is kept, the sums are the weights'
sums over the keys seen so far, all scaled by the same power of two.
-/

set_option maxRecDepth 16384

noncomputable section

namespace Cert.Attn

open Idealize.ShloMosaic Cert.KernelIdeal Cert.KernelIdeal.Facts₀ Cert.KernelIdeal.Facts
open VecWindow (window put)

theorem exp2_coe (x : ℝ) : Ideal.exp2 ((x : ℝ) : EReal) = (((2 : ℝ) ^ x : ℝ) : EReal) := rfl
theorem exp2_bot : Ideal.exp2 ⊥ = 0 := rfl

variable {H : Head} {st : St Ideal}

/-- The weight of a key, scaled by the kept maximum. -/
theorem weight_eq (mp K Q i r : ℕ) (mn : ℝ) :
    Ideal.exp2 (H.scv mp K Q i r - (((mn : ℝ) : EReal) + ((H.σ * ((Q : ℝ) - K) : ℝ) : EReal))) = ((H.wt mp (Q + r) (K + i) * (2 : ℝ) ^ (-mn) : ℝ) : EReal) := by
  unfold Head.scv Head.wt
  rw [← EReal.coe_add]
  split
  · rw [← EReal.coe_sub, exp2_coe, ← Real.rpow_add two_pos]
    congr 2
    ring
  · rw [EReal.bot_sub, exp2_bot, zero_mul]
    rfl

/-- The sums over the keys below `K`, of one map, for the block of queries from `Q` on. -/
def AccAt (H : Head) (K Q : ℕ) (st : St Ideal) (mp : Fin 2) : Prop :=
  ∀ r : Fin 512, ∃ μ : ℝ, st.x20 (ix3 mp 0 r) = ((μ : ℝ) : EReal) ∧
    ∀ e : Fin 272, st.x21 (ix3 mp e r) = (((2 : ℝ) ^ (-μ) * ∑ s ∈ Finset.range K, H.wt mp.val (Q + r.val) s * H.V e.val s : ℝ) : EReal)

/-- The update of a maximum and a sum. -/
theorem step_eq (K Q L mp r e : ℕ) (mo mx old : EReal) (htop : mx ≠ ⊤) (p : Fin L → EReal) (v : Fin L → EReal) (mn : EReal)
    (hmn : mn = max mo (mx - ((H.σ * ((Q : ℝ) - K) : ℝ) : EReal)))
    (hp : ∀ i, p i = Ideal.exp2 (H.scv mp K Q i.val r - (mn + ((H.σ * ((Q : ℝ) - K) : ℝ) : EReal))))
    (hv : ∀ i, v i = ((H.V e (K + i.val) : ℝ) : EReal))
    (h : (K = 0 ∧ mo = ⊥ ∧ mx ≠ ⊥) ∨ ∃ μ : ℝ, mo = ((μ : ℝ) : EReal) ∧ old = (((2 : ℝ) ^ (-μ) * ∑ s ∈ Finset.range K, H.wt mp (Q + r) s * H.V e s : ℝ) : EReal)) :
    Ideal.exp2 (mo - mn) * old + ∑ i, v i * p i = (((2 : ℝ) ^ (-mn.toReal) * ∑ s ∈ Finset.range (K + L), H.wt mp (Q + r) s * H.V e s : ℝ) : EReal) ∧ mn = ((mn.toReal : ℝ) : EReal) := by
  have hm : mn = ((mn.toReal : ℝ) : EReal) := by
    refine (EReal.coe_toReal ?_ ?_).symm
    · rw [hmn]
      refine (max_lt ?_ ?_).ne
      · rcases h with ⟨_, h, _⟩ | ⟨μ, h, _⟩
        · rw [h]; exact bot_lt_top
        · rw [h]; exact EReal.coe_lt_top μ
      · induction mx with
        | bot => rw [EReal.bot_sub]; exact bot_lt_top
        | coe x => rw [← EReal.coe_sub]; exact EReal.coe_lt_top _
        | top => exact absurd rfl htop
    · rw [hmn]
      refine (lt_max_iff.mpr ?_ : ⊥ < _).ne'
      rcases h with ⟨_, _, hb⟩ | ⟨μ, h, _⟩
      · right
        induction mx with
        | bot => exact absurd rfl hb
        | coe x => rw [← EReal.coe_sub]; exact EReal.bot_lt_coe _
        | top => exact absurd rfl htop
      · left; rw [h]; exact EReal.bot_lt_coe μ
  refine ⟨?_, hm⟩
  generalize mn.toReal = x at hm
  have hs : (∑ i, v i * p i) = (((2 : ℝ) ^ (-x) * ∑ i ∈ Finset.range L, H.wt mp (Q + r) (K + i) * H.V e (K + i) : ℝ) : EReal) := by
    rw [Finset.mul_sum, ← Fin.sum_univ_eq_sum_range (fun i => (2 : ℝ) ^ (-x) * (H.wt mp (Q + r) (K + i) * H.V e (K + i))), coe_sum]
    refine Finset.sum_congr rfl fun i _ => ?_
    rw [hp, hv, hm, weight_eq, ← EReal.coe_mul]
    congr 1
    ring
  rw [hs, Finset.sum_range_add, mul_add, EReal.coe_add]
  congr 1
  rcases h with ⟨hK, hmo, _⟩ | ⟨μ, hmo, hold⟩
  · rw [hmo, EReal.bot_sub, exp2_bot, zero_mul, hK, Finset.sum_range_zero, mul_zero]
    rfl
  · rw [hmo, hold, hm, ← EReal.coe_sub, exp2_coe, ← EReal.coe_mul, ← mul_assoc, ← Real.rpow_add two_pos]
    congr 3
    ring

theorem cj_eq (n : Fin 73) : cjOf (F := Ideal) ((H.σ : ℝ) : EReal) (qN n) (jN n) = ((H.σ * (((512 * qv n : ℕ) : ℝ) - (1024 * jv n : ℕ)) : ℝ) : EReal) := by
  unfold cjOf
  rw [EReal.coe_mul]
  refine congrArg (((H.σ : ℝ) : EReal) * ·) ?_
  refine (congrArg (fun z : ℤ => (((z : ℝ)) : EReal)) (sub_word n)).trans ?_
  push_cast
  rfl

section Stores

variable (b : Bool) (kw : BitVec 32) (cj : Ideal .f32) (mp : Fin 2) (st : St Ideal)

theorem mOld_at (r : Fin 512) : mOldS kw mp st (ix2 0 r) = if kw = 0#32 then (⊥ : EReal) else st.x20 (ix3 mp 0 r) := by
  unfold mOldS
  rw [mOldOf_at, window3 _ _ _ 0 0 r mp 0 r rfl rfl (Nat.zero_add _).symm]
theorem mNew_at (r : Fin 512) : mNewS b kw cj mp st (ix2 0 r) = (max (mOldS kw mp st (ix2 0 r)) (st.mx b (ix3 mp 0 r) - cj) : EReal) := by
  unfold mNewS
  rw [mNewOf_at, window3 _ _ _ 0 0 r mp 0 r rfl rfl (Nat.zero_add _).symm]

theorem notMp {mp mp' : Fin 2} (h : mp' ≠ mp) : ¬(mp.val ≤ mp'.val ∧ mp'.val < mp.val + 1) := fun h' => h (Fin.ext (by omega))

theorem coHalf_x20 (vv) (r : Fin 512) : (coHalfMpF b kw cj mp vv st).x20 (ix3 mp 0 r) = mNewS b kw cj mp st (ix2 0 r) := by
  unfold coHalfMpF
  dsimp only
  rw [put3_in _ _ _ 0 0 r mp 0 r rfl rfl (Nat.zero_add _).symm, castM]
theorem coHalf_x20' (vv) (mp' : Fin 2) (h : mp' ≠ mp) (r : Fin 512) : (coHalfMpF b kw cj mp vv st).x20 (ix3 mp' 0 r) = st.x20 (ix3 mp' 0 r) := by
  unfold coHalfMpF
  dsimp only
  rw [put3_out _ _ _ _ _ _ (.inl (notMp h))]
theorem coHalf_x21' (vv) (mp' : Fin 2) (h : mp' ≠ mp) (e : Fin 272) (r : Fin 512) : (coHalfMpF b kw cj mp vv st).x21 (ix3 mp' e r) = st.x21 (ix3 mp' e r) := by
  unfold coHalfMpF
  dsimp only
  rw [put3_out _ _ _ _ _ _ (.inl (notMp h))]
theorem coHalf_x21 (vv) (e : Fin 272) (r : Fin 512) : (coHalfMpF b kw cj mp vv st).x21 (ix3 mp e r) =
    (Ideal.exp2 (mOldS kw mp st (ix2 0 r) - mNewS b kw cj mp st (ix2 0 r)) * st.x21 (ix3 mp e r) +
      ∑ i : Fin 512, vv (ix4 0 0 e i) * Ideal.exp2 (st.s b (ix3 mp ⟨i.val, by omega⟩ r) - (mNewS b kw cj mp st (ix2 0 r) + cj)) : EReal) := by
  unfold coHalfMpF
  dsimp only
  rw [put3_in _ _ _ 0 e r mp e r rfl (Nat.zero_add _).symm (Nat.zero_add _).symm, castA, accHalf_at, window3 _ _ _ 0 e r mp e r rfl (Nat.zero_add _).symm (Nat.zero_add _).symm]
  congr 1
  refine Finset.sum_congr rfl fun i _ => ?_
  congr 1
  rw [window3 _ _ _ 0 i r mp (⟨i.val, by omega⟩ : Fin 1024) r rfl (Nat.zero_add _).symm (Nat.zero_add _).symm,
    put3_in _ _ _ 0 i r mp (⟨i.val, by omega⟩ : Fin 1024) r rfl (Nat.zero_add _).symm (Nat.zero_add _).symm, cast512, pHalf_at,
    window3 _ _ _ 0 i r mp (⟨i.val, by omega⟩ : Fin 1024) r rfl (Nat.zero_add _).symm (Nat.zero_add _).symm]
  cases b <;> rfl

theorem coFull_x20 (vv) (r : Fin 512) : (coFullMpF b kw cj mp vv st).x20 (ix3 mp 0 r) = mNewS b kw cj mp st (ix2 0 r) := by
  unfold coFullMpF
  dsimp only
  rw [put3_in _ _ _ 0 0 r mp 0 r rfl rfl (Nat.zero_add _).symm, castM]
theorem coFull_x20' (vv) (mp' : Fin 2) (h : mp' ≠ mp) (r : Fin 512) : (coFullMpF b kw cj mp vv st).x20 (ix3 mp' 0 r) = st.x20 (ix3 mp' 0 r) := by
  unfold coFullMpF
  dsimp only
  rw [put3_out _ _ _ _ _ _ (.inl (notMp h))]
theorem coFull_x21' (vv) (mp' : Fin 2) (h : mp' ≠ mp) (e : Fin 272) (r : Fin 512) : (coFullMpF b kw cj mp vv st).x21 (ix3 mp' e r) = st.x21 (ix3 mp' e r) := by
  unfold coFullMpF
  dsimp only
  rw [put3_out _ _ _ _ _ _ (.inl (notMp h))]
theorem coFull_x21 (vv) (e : Fin 272) (r : Fin 512) : (coFullMpF b kw cj mp vv st).x21 (ix3 mp e r) =
    (Ideal.exp2 (mOldS kw mp st (ix2 0 r) - mNewS b kw cj mp st (ix2 0 r)) * st.x21 (ix3 mp e r) +
      ∑ i : Fin 1024, vv (ix4 0 0 e i) * Ideal.exp2 (st.s b (ix3 mp i r) - (mNewS b kw cj mp st (ix2 0 r) + cj)) : EReal) := by
  unfold coFullMpF
  dsimp only
  rw [put3_in _ _ _ 0 e r mp e r rfl (Nat.zero_add _).symm (Nat.zero_add _).symm, castA, accFull_at, window3 _ _ _ 0 e r mp e r rfl (Nat.zero_add _).symm (Nat.zero_add _).symm]
  congr 1
  refine Finset.sum_congr rfl fun i _ => ?_
  congr 1
  rw [window3 _ _ _ 0 i r mp i r rfl (Nat.zero_add _).symm (Nat.zero_add _).symm,
    put3_in _ _ _ 0 i r mp i r rfl (Nat.zero_add _).symm (Nat.zero_add _).symm, cast1024, pFull_at,
    window3 _ _ _ 0 i r mp i r rfl (Nat.zero_add _).symm (Nat.zero_add _).symm]
  cases b <;> rfl

theorem coHalf_s (b' : Bool) (vv) : (coHalfMpF b kw cj mp vv st).s b' = st.s b' := by cases b' <;> rfl
theorem coHalf_mx (b' : Bool) (vv) : (coHalfMpF b kw cj mp vv st).mx b' = st.mx b' := by cases b' <;> rfl
theorem coHalf_x11 (vv) : (coHalfMpF b kw cj mp vv st).x11 = st.x11 := rfl
theorem coFull_s (b' : Bool) (vv) : (coFullMpF b kw cj mp vv st).s b' = st.s b' := by cases b' <;> rfl
theorem coFull_mx (b' : Bool) (vv) : (coFullMpF b kw cj mp vv st).mx b' = st.mx b' := by cases b' <;> rfl
theorem coFull_x11 (vv) : (coFullMpF b kw cj mp vv st).x11 = st.x11 := rfl

end Stores

section Maps

variable (b : Bool) (kw : BitVec 32) (K Q : ℕ) (mp : Fin 2)

theorem AccAt.congr {K Q : ℕ} {st st' : St Ideal} {mp : Fin 2} (h : AccAt H K Q st mp) (h0 : ∀ r, st'.x20 (ix3 mp 0 r) = st.x20 (ix3 mp 0 r))
    (h1 : ∀ e r, st'.x21 (ix3 mp e r) = st.x21 (ix3 mp e r)) : AccAt H K Q st' mp := fun r => by
  obtain ⟨μ, hμ, he⟩ := h r
  exact ⟨μ, (h0 r).trans hμ, fun e => (h1 e r).trans (he e)⟩

/-- What a map's update needs of the sums so far. -/
theorem prior {kw : BitVec 32} {K Q : ℕ} {mp : Fin 2} {st : St Ideal} {mx : EReal} (e : Fin 272) (r : Fin 512) (hkw : kw = 0#32 ↔ K = 0)
    (hbot : K = 0 → mx ≠ ⊥) (h : K ≠ 0 → AccAt H K Q st mp) :
    (K = 0 ∧ mOldS kw mp st (ix2 0 r) = (⊥ : EReal) ∧ mx ≠ ⊥) ∨ ∃ μ : ℝ, mOldS kw mp st (ix2 0 r) = ((μ : ℝ) : EReal) ∧
      st.x21 (ix3 mp e r) = (((2 : ℝ) ^ (-μ) * ∑ s ∈ Finset.range K, H.wt mp.val (Q + r.val) s * H.V e.val s : ℝ) : EReal) := by
  by_cases hK : K = 0
  · exact .inl ⟨hK, (mOld_at kw mp st r).trans (if_pos (hkw.mpr hK)), hbot hK⟩
  · obtain ⟨μ, hμ, he⟩ := h hK r
    exact .inr ⟨μ, (mOld_at kw mp st r).trans ((if_neg fun hz => hK (hkw.mp hz)).trans hμ), he e⟩

theorem half_acc (st : St Ideal) (vv : Vec Ideal S1x1x272x512 .bf16) (cj : Ideal .f32) (hcj : cj = ((H.σ * ((Q : ℝ) - K) : ℝ) : EReal)) (hkw : kw = 0#32 ↔ K = 0)
    (hs : ∀ (i : Fin 512) (r : Fin 512), st.s b (ix3 mp ⟨i.val, by omega⟩ r) = H.scv mp.val K Q i.val r.val)
    (htop : ∀ r, (st.mx b (ix3 mp 0 r) : EReal) ≠ ⊤) (hbot : K = 0 → ∀ r, (st.mx b (ix3 mp 0 r) : EReal) ≠ ⊥)
    (hv : ∀ (e : Fin 272) (i : Fin 512), vv (ix4 0 0 e i) = ((H.V e.val (K + i.val) : ℝ) : EReal))
    (h : K ≠ 0 → AccAt H K Q st mp) : AccAt H (K + 512) Q (coHalfMpF b kw cj mp vv st) mp := fun r => by
  have hm := mNew_at b kw cj mp st r
  rw [hcj] at hm
  have key := fun e : Fin 272 => step_eq (H := H) K Q 512 mp.val r.val e.val (mOldS kw mp st (ix2 0 r)) (st.mx b (ix3 mp 0 r)) (st.x21 (ix3 mp e r)) (htop r)
    (fun i => Ideal.exp2 (st.s b (ix3 mp ⟨i.val, by omega⟩ r) - (mNewS b kw ((H.σ * ((Q : ℝ) - K) : ℝ) : EReal) mp st (ix2 0 r) + ((H.σ * ((Q : ℝ) - K) : ℝ) : EReal)))) (fun i => vv (ix4 0 0 e i)) _ hm
    (fun i => by rw [hs]) (hv e) (prior e r hkw (fun hK => hbot hK r) h)
  refine ⟨EReal.toReal (mNewS b kw ((H.σ * ((Q : ℝ) - K) : ℝ) : EReal) mp st (ix2 0 r)), (coHalf_x20 b kw cj mp st vv r).trans ?_, fun e => (coHalf_x21 b kw cj mp st vv e r).trans ?_⟩
  · rw [hcj]; exact (key 0).2
  · rw [hcj]; exact (key e).1

theorem full_acc (st : St Ideal) (vv : Vec Ideal S1x1x272x1024 .bf16) (cj : Ideal .f32) (hcj : cj = ((H.σ * ((Q : ℝ) - K) : ℝ) : EReal)) (hkw : kw = 0#32 ↔ K = 0)
    (hs : ∀ (i : Fin 1024) (r : Fin 512), st.s b (ix3 mp i r) = H.scv mp.val K Q i.val r.val)
    (htop : ∀ r, (st.mx b (ix3 mp 0 r) : EReal) ≠ ⊤) (hbot : K = 0 → ∀ r, (st.mx b (ix3 mp 0 r) : EReal) ≠ ⊥)
    (hv : ∀ (e : Fin 272) (i : Fin 1024), vv (ix4 0 0 e i) = ((H.V e.val (K + i.val) : ℝ) : EReal))
    (h : K ≠ 0 → AccAt H K Q st mp) : AccAt H (K + 1024) Q (coFullMpF b kw cj mp vv st) mp := fun r => by
  have hm := mNew_at b kw cj mp st r
  rw [hcj] at hm
  have key := fun e : Fin 272 => step_eq (H := H) K Q 1024 mp.val r.val e.val (mOldS kw mp st (ix2 0 r)) (st.mx b (ix3 mp 0 r)) (st.x21 (ix3 mp e r)) (htop r)
    (fun i => Ideal.exp2 (st.s b (ix3 mp i r) - (mNewS b kw ((H.σ * ((Q : ℝ) - K) : ℝ) : EReal) mp st (ix2 0 r) + ((H.σ * ((Q : ℝ) - K) : ℝ) : EReal)))) (fun i => vv (ix4 0 0 e i)) _ hm
    (fun i => by rw [hs]) (hv e) (prior e r hkw (fun hK => hbot hK r) h)
  refine ⟨EReal.toReal (mNewS b kw ((H.σ * ((Q : ℝ) - K) : ℝ) : EReal) mp st (ix2 0 r)), (coFull_x20 b kw cj mp st vv r).trans ?_, fun e => (coFull_x21 b kw cj mp st vv e r).trans ?_⟩
  · rw [hcj]; exact (key 0).2
  · rw [hcj]; exact (key e).1

end Maps

/-- The sums of both maps. -/
def Acc (H : Head) (K Q : ℕ) (st : St Ideal) : Prop := ∀ mp, AccAt H K Q st mp

theorem one_ne (mp : Fin 2) (h : mp ≠ 1) : mp = 0 := by omega

theorem jzero (n : Fin 73) : jN n = 0#32 ↔ 1024 * jv n = 0 := (jN_zero n).trans (by omega)

/-- A step's update of the sums. -/
theorem coF_acc (b : Bool) (n : Fin 73) (hI : Inp H st) (hS : Sco H b n st) (h : jv n ≠ 0 → Acc H (1024 * jv n) (512 * qv n) st) :
    Acc H (endv n) (512 * qv n) (coF b ((H.σ : ℝ) : EReal) n st) := by
  have h' : ∀ mp, 1024 * jv n ≠ 0 → AccAt H (1024 * jv n) (512 * qv n) st mp := fun mp hn => h (by omega) mp
  have hb : ∀ mp, 1024 * jv n = 0 → ∀ r, (st.mx b (ix3 mp 0 r) : EReal) ≠ ⊥ := fun mp hz r => hS.bot (by omega) mp r
  unfold coF endv
  by_cases hk : kN n = 2#32
  · have hl : lenv n = 512 := if_pos hk
    rw [if_pos hk, hl]
    unfold coHalfF
    dsimp only
    have hv : ∀ (e : Fin 272) (i : Fin 512), window st.x8 (offV (jN n)) S1x1x272x512.size (vInb5 (jN_lt n)) (ix4 0 0 e i) = ((H.V e.val (1024 * jv n + i.val) : ℝ) : EReal) := fun e i => by
      have hj := jv_lt n
      exact (window4 st.x8 (offV (jN n)) _ 0 0 e i 0 0 e (⟨1024 * jv n + i.val, by omega⟩ : Fin 8192) rfl rfl (Nat.zero_add _).symm (congrArg (· + i.val) (offK_one n).symm)).trans (hI.h8 e _)
    have h0 := half_acc b (jN n) (1024 * jv n) (512 * qv n) 0 st _ _ (cj_eq n) (jzero n) (fun i r => hS.s 0 ⟨i.val, by omega⟩ r (by rw [hl]; exact i.isLt))
      (fun r => hS.top 0 r) (hb 0) hv (h' 0)
    intro mp
    by_cases h1 : mp = 1
    · subst h1
      refine half_acc b (jN n) (1024 * jv n) (512 * qv n) 1 _ _ _ (cj_eq n) (jzero n) (fun i r => ?_) (fun r => ?_) (fun hz r => ?_) hv (fun hz => ?_)
      · rw [coHalf_s]; exact hS.s 1 ⟨i.val, by omega⟩ r (by rw [hl]; exact i.isLt)
      · rw [coHalf_mx]; exact hS.top 1 r
      · rw [coHalf_mx]; exact hb 1 hz r
      · exact (h' 1 hz).congr (fun r => coHalf_x20' _ _ _ _ _ _ _ (by decide) r) (fun e r => coHalf_x21' _ _ _ _ _ _ _ (by decide) e r)
    · rw [one_ne mp h1]
      exact h0.congr (fun r => coHalf_x20' _ _ _ _ _ _ _ (by decide) r) (fun e r => coHalf_x21' _ _ _ _ _ _ _ (by decide) e r)
  · have hl : lenv n = 1024 := if_neg hk
    rw [if_neg hk, hl]
    unfold coFullF
    dsimp only
    have hv : ∀ (e : Fin 272) (i : Fin 1024), window st.x8 (offV (jN n)) S1x1x272x1024.size (vInb10 (jN_lt n)) (ix4 0 0 e i) = ((H.V e.val (1024 * jv n + i.val) : ℝ) : EReal) := fun e i => by
      have hj := jv_lt n
      exact (window4 st.x8 (offV (jN n)) _ 0 0 e i 0 0 e (⟨1024 * jv n + i.val, by omega⟩ : Fin 8192) rfl rfl (Nat.zero_add _).symm (congrArg (· + i.val) (offK_one n).symm)).trans (hI.h8 e _)
    have h0 := full_acc b (jN n) (1024 * jv n) (512 * qv n) 0 st _ _ (cj_eq n) (jzero n) (fun i r => hS.s 0 i r (by rw [hl]; exact i.isLt))
      (fun r => hS.top 0 r) (hb 0) hv (h' 0)
    intro mp
    by_cases h1 : mp = 1
    · subst h1
      refine full_acc b (jN n) (1024 * jv n) (512 * qv n) 1 _ _ _ (cj_eq n) (jzero n) (fun i r => ?_) (fun r => ?_) (fun hz r => ?_) hv (fun hz => ?_)
      · rw [coFull_s]; exact hS.s 1 i r (by rw [hl]; exact i.isLt)
      · rw [coFull_mx]; exact hS.top 1 r
      · rw [coFull_mx]; exact hb 1 hz r
      · exact (h' 1 hz).congr (fun r => coFull_x20' _ _ _ _ _ _ _ (by decide) r) (fun e r => coFull_x21' _ _ _ _ _ _ _ (by decide) e r)
    · rw [one_ne mp h1]
      exact h0.congr (fun r => coFull_x20' _ _ _ _ _ _ _ (by decide) r) (fun e r => coFull_x21' _ _ _ _ _ _ _ (by decide) e r)

theorem coF_x11 (b : Bool) (v2 : Ideal .f32) (n : Fin 73) (st : St Ideal) : (coF b v2 n st).x11 = st.x11 := by
  unfold coF; split <;> rfl
theorem coF_s (b b' : Bool) (v2 : Ideal .f32) (n : Fin 73) (st : St Ideal) : (coF b v2 n st).s b' = st.s b' := by
  unfold coF; split <;> cases b' <;> rfl
theorem coF_mx (b b' : Bool) (v2 : Ideal .f32) (n : Fin 73) (st : St Ideal) : (coF b v2 n st).mx b' = st.mx b' := by
  unfold coF; split <;> cases b' <;> rfl

end Cert.Attn

end
-- ==== Proof.Value.Walk.lean ====
module

public import proofs.«01_k».proof.Proof.Value.Consume
public import proofs.«01_k».proof.Proof.Run.Body

@[expose] public section

/-!
# The rows the body writes

The walk's invariant: after each step the sums are those of the keys seen, and the blocks of rows whose keys are all
seen are written. At the end every row is the normalised difference of the two maps' weighted means.
-/

set_option maxRecDepth 16384

noncomputable section

namespace Cert.Attn

open Idealize.ShloMosaic Cert.KernelIdeal Cert.KernelIdeal.Facts₀ Cert.KernelIdeal.Facts
open VecWindow (window put)

/-- The window of a whole rank-two buffer is the buffer. -/
theorem window2_whole {α : Type} {A B : ℕ} (x : (⟨2, ![A, B]⟩ : Shape).Idx → α) (inb : ∀ k, (![0, 0] : Fin 2 → ℕ) k + (⟨2, ![A, B]⟩ : Shape).size k ≤ (⟨2, ![A, B]⟩ : Shape).size k) :
    window x ![0, 0] (⟨2, ![A, B]⟩ : Shape).size inb = x := by
  funext y
  unfold window
  refine congrArg x (funext fun q => Fin.ext ?_)
  match q with
  | 0 => exact (show 0 + 1 * (y 0).val = (y 0).val by omega)
  | 1 => exact (show 0 + 1 * (y 1).val = (y 1).val by omega)

/-- A row over its root mean square, times a scale. -/
def normV (o : Fin 256 → EReal) (w : EReal) (e : Fin 256) : EReal :=
  o e * Ideal.rsqrt (Ideal.div (∑ x : Fin 256, o x * o x) (Ideal.ofBits FTy.f32 0x43800000#32) + Ideal.ofBits FTy.f32 0x3727C5AC#32) * w * Ideal.ofBits FTy.f32 0x3F4CCCCD#32

variable {H : Head} {st : St Ideal}

/-- The sum of the weights. -/
def Head.den (H : Head) (mp t : ℕ) : ℝ := ∑ s ∈ Finset.range 8192, H.wt mp t s
/-- The weighted mean of a component of the values. -/
def Head.avg (H : Head) (mp t e : ℕ) : ℝ := (∑ s ∈ Finset.range 8192, H.wt mp t s * H.V e s) / H.den mp t

theorem wt_nonneg (mp t s : ℕ) : 0 ≤ H.wt mp t s := by
  unfold Head.wt
  split
  · exact (Real.rpow_pos_of_pos two_pos _).le
  · exact le_rfl

theorem den_pos (mp t : ℕ) : 0 < H.den mp t := by
  refine Finset.sum_pos' (fun s _ => wt_nonneg mp t s) ⟨0, by simp, ?_⟩
  unfold Head.wt
  rw [if_pos (by omega)]
  exact Real.rpow_pos_of_pos two_pos _

/-- Beyond a query's chunk the weights are zero. -/
theorem sum_seen {N t : ℕ} (hN : N < 16) (ht : t < 512 * (N + 1)) (mp : ℕ) (f : ℕ → ℝ) :
    ∑ s ∈ Finset.range (512 * (N + 1)), H.wt mp t s * f s = ∑ s ∈ Finset.range 8192, H.wt mp t s * f s := by
  refine Finset.sum_subset (fun s hs => ?_) fun s _ hs => ?_
  · rw [Finset.mem_range] at *; omega
  · rw [Finset.mem_range] at hs
    unfold Head.wt
    rw [if_neg (by omega), zero_mul]

theorem div_one (x : ℝ) (hx : 0 < x) : Ideal.div 1 ((x : ℝ) : EReal) = ((x⁻¹ : ℝ) : EReal) := by
  unfold Ideal.div
  rw [if_neg (by exact_mod_cast hx.ne'), one_mul, EReal.coe_inv]

/-- A mean from the scaled sums. -/
theorem ratio_eq {N r : ℕ} (hN : N < 16) (hr : r < 512) (mp : ℕ) (hV : ∀ s, H.V 256 s = 1) (μ : ℝ) (e : ℕ) :
    ((((2 : ℝ) ^ (-μ) * ∑ s ∈ Finset.range (512 * (N + 1)), H.wt mp (512 * N + r) s * H.V e s : ℝ) : EReal) *
      Ideal.div 1 (((2 : ℝ) ^ (-μ) * ∑ s ∈ Finset.range (512 * (N + 1)), H.wt mp (512 * N + r) s * H.V 256 s : ℝ) : EReal)) = ((H.avg mp (512 * N + r) e : ℝ) : EReal) := by
  rw [sum_seen hN (by omega), sum_seen hN (by omega)]
  have hd : ∑ s ∈ Finset.range 8192, H.wt mp (512 * N + r) s * H.V 256 s = H.den mp (512 * N + r) :=
    Finset.sum_congr rfl fun s _ => by rw [hV, mul_one]
  have hp := den_pos (H := H) mp (512 * N + r)
  have h2 := Real.rpow_pos_of_pos two_pos (-μ)
  rw [hd, div_one _ (mul_pos h2 hp), ← EReal.coe_mul]
  congr 1
  unfold Head.avg
  field_simp

/-- The row of a query. -/
def OutAt (H : Head) (a : St Ideal) (t : ℕ) (e : Fin 256) : EReal :=
  normV (fun x => ((H.avg 0 t x.val : ℝ) : EReal) - lamOf a.x9 (ix2 0 0) * ((H.avg 1 t x.val : ℝ) : EReal)) (a.x10 (ix2 0 e)) e

theorem ratio_at {N : ℕ} (hN : N < 16) (mp : Fin 2) (hV : ∀ s, H.V 256 s = 1) (h : Acc H (512 * (N + 1)) (512 * N) st) (i0 i1) (e : Fin 256) (r : Fin 512) :
    ratioOf (window st.x21 ![mp.val, 0, 0] S1x256x512.size i0) (window st.x21 ![mp.val, 256, 0] S1x1x512.size i1) (ix2 e r) = ((H.avg mp.val (512 * N + r.val) e.val : ℝ) : EReal) := by
  obtain ⟨μ, _, he⟩ := h mp r
  rw [ratioOf_at, window3 st.x21 _ _ 0 e r mp (⟨e.val, by omega⟩ : Fin 272) r rfl (Nat.zero_add _).symm (Nat.zero_add _).symm,
    window3 st.x21 _ _ 0 0 r mp (256 : Fin 272) r rfl rfl (Nat.zero_add _).symm, he, he]
  exact ratio_eq hN r.isLt mp.val hV μ e.val

theorem outS_at {N : ℕ} (hN : N < 16) (hV : ∀ s, H.V 256 s = 1) (h : Acc H (512 * (N + 1)) (512 * N) st) (e : Fin 256) (r : Fin 512) :
    outS st (ix2 r e) = OutAt H st (512 * N + r.val) e := by
  have h0 := ratio_at hN 0 hV h inb_S2x272x512_S1x256x512_0_0_0 inb_S2x272x512_S1x1x512_0_256_0
  have h1 := ratio_at hN 1 hV h inb_S2x272x512_S1x256x512_1_0_0 inb_S2x272x512_S1x1x512_1_256_0
  have hl : window st.x9 ![0, 0] S4x128.size inb_S4x128_S4x128_0_0 = st.x9 := window2_whole _ _
  have hs : window st.x10 ![0, 0] S1x256.size inb_S1x256_S1x256_0_0 = st.x10 := window2_whole _ _
  unfold outS OutAt normV
  rw [outOf_at, hl, hs]
  have hd : ∀ x : Fin 256, diffOf (lamOf st.x9)
    (ratioOf (window st.x21 ![0, 0, 0] S1x256x512.size inb_S2x272x512_S1x256x512_0_0_0) (window st.x21 ![0, 256, 0] S1x1x512.size inb_S2x272x512_S1x1x512_0_256_0))
    (ratioOf (window st.x21 ![1, 0, 0] S1x256x512.size inb_S2x272x512_S1x256x512_1_0_0) (window st.x21 ![1, 256, 0] S1x1x512.size inb_S2x272x512_S1x1x512_1_256_0)) (ix2 x r)
      = (((H.avg 0 (512 * N + r.val) x.val : ℝ) : EReal) - lamOf st.x9 (ix2 0 0) * ((H.avg 1 (512 * N + r.val) x.val : ℝ) : EReal) : EReal) := fun x => by
    rw [diffOf_at]
    exact congrArg₂ (fun y z : EReal => y - lamOf st.x9 (ix2 0 0) * z) (h0 x r) (h1 x r)
  simp only [hd]

/-- The first `N` blocks of rows are written. -/
def Out (H : Head) (a : St Ideal) (N : ℕ) (st : St Ideal) : Prop :=
  ∀ (t : Fin 8192) (e : Fin 256), t.val < 512 * N → st.x11 (ix3 0 t e) = OutAt H a t.val e

theorem fin_out {a : St Ideal} {N : ℕ} (w : BitVec 32) (hw : (Scalar.indexCast (Scalar.muli w 512#32)).toNat = 512 * N) (hN : N < 16) (hV : ∀ s, H.V 256 s = 1)
    (hs : Same a st) (h : Acc H (512 * (N + 1)) (512 * N) st) (ho : Out H a N st) : Out H a (N + 1) (finF w st) := fun t e ht => by
  unfold finF
  dsimp only
  by_cases hl : t.val < 512 * N
  · rw [put3_out _ _ _ _ _ _ (.inr fun hh => ?_)]
    · exact ho t e hl
    · have : 512 * N ≤ t.val := hw ▸ hh.1
      omega
  · have hj : t.val = 512 * N + (t.val - 512 * N) := by omega
    rw [put3_in _ _ _ 0 (⟨t.val - 512 * N, by omega⟩ : Fin 512) e 0 t e rfl (hj.trans (congrArg (· + (t.val - 512 * N)) hw.symm)) (Nat.zero_add _).symm, castO, outS_at hN hV h]
    unfold OutAt
    rw [hs.h9, hs.h10]
    dsimp only
    rw [← hj]

theorem Acc.congr {K Q : ℕ} {st st' : St Ideal} (h : Acc H K Q st) (h0 : st'.x20 = st.x20) (h1 : st'.x21 = st.x21) : Acc H K Q st' :=
  fun mp => (h mp).congr (fun _ => by rw [h0]) (fun _ _ => by rw [h1])

/-- The state before a step. -/
structure Inv (H : Head) (a : St Ideal) (n : ℕ) (st : St Ideal) : Prop where
  same : Same a st
  sco : Sco H (n % 2 == 1) n st
  prev : ∀ p : Fin 72, n = p.val + 1 → Acc H (endv p) (512 * qv p) st ∧ Out H a (qv p) st

theorem finI_out {a : St Ideal} (hV : ∀ s, H.V 256 s = 1) (n : Fin 72) (hs : Same a st)
    (h : ∀ p : Fin 72, n.val = p.val + 1 → Acc H (endv p) (512 * qv p) st ∧ Out H a (qv p) st) : Out H a (qv n) (finI n st) := by
  rcases Nat.eq_zero_or_pos n.val with hz | hp
  · have : qv n = 0 := by rw [hz]; exact tab_zero.1
    rw [this]
    exact fun t e ht => absurd ht (by omega)
  · obtain ⟨hA, hO⟩ := h ⟨n.val - 1, by omega⟩ (by dsimp only; omega)
    have hj := jN_zero ⟨n.val, by omega⟩
    have hn : n.val - 1 + 1 = n.val := by omega
    unfold finI
    by_cases h0 : jv n = 0
    · obtain ⟨h1, h2⟩ := tab_first ⟨n.val - 1, by omega⟩ (by rw [hn]; exact h0)
      dsimp only at h1 h2 hA hO
      rw [hn] at h2
      rw [if_pos ⟨hj.mpr h0, hp⟩, ← h2]
      have hw := tab_sub n hp h0
      rw [h1] at hA
      exact fin_out _ (hw.trans (by omega)) (qv_lt _) hV hs hA hO
    · obtain ⟨h1, h2⟩ := tab_next ⟨n.val - 1, by omega⟩ (by rw [hn]; exact h0)
      dsimp only at h2 hO
      rw [hn] at h2
      rw [if_neg fun hh => h0 (hj.mp hh.1), ← h2]
      exact hO

theorem finI_x20 (n : ℕ) : (finI n st).x20 = st.x20 := by unfold finI; split <;> rfl
theorem finI_x21 (n : ℕ) : (finI n st).x21 = st.x21 := by unfold finI; split <;> rfl
theorem finI_s (n : ℕ) (b : Bool) : (finI n st).s b = st.s b := by unfold finI; split <;> cases b <;> rfl
theorem finI_mx (n : ℕ) (b : Bool) : (finI n st).mx b = st.mx b := by unfold finI; split <;> cases b <;> rfl

theorem Sco.congr {b : Bool} {n : ℕ} {st st' : St Ideal} (h : Sco H b n st) (h0 : st'.s b = st.s b) (h1 : st'.mx b = st.mx b) : Sco H b n st' where
  s mp i r hi := by rw [h0]; exact h.s mp i r hi
  top mp r := by rw [h1]; exact h.top mp r
  bot hj mp r := by rw [h1]; exact h.bot hj mp r

theorem odd_succ (n : ℕ) : ((n + 1) % 2 == 1) = !(n % 2 == 1) := by
  rcases Nat.mod_two_eq_zero_or_one n with h | h
  · rw [h, show (n + 1) % 2 = 1 by omega]; rfl
  · rw [h, show (n + 1) % 2 = 0 by omega]; rfl

theorem Inv.step {a : St Ideal} (hV : ∀ s, H.V 256 s = 1) (hI : Inp H a) (n : Fin 72) (h : Inv H a n st) :
    Inv H a (n + 1) (stepF (n.val % 2 == 1) ((H.σ : ℝ) : EReal) n st) := by
  unfold stepF
  have hsc : Sco H (!(n.val % 2 == 1)) (n.val + 1) (scF (!(n.val % 2 == 1)) (n.val + 1) st) := scF_sco _ (⟨n.val + 1, by omega⟩ : Fin 73) (hI.same h.same)
  have hs0 : Sco H (n.val % 2 == 1) n (scF (!(n.val % 2 == 1)) (n.val + 1) st) := h.sco.congr (scF_s _ _) (scF_mx _ _)
  have hm : Same a (scF (!(n.val % 2 == 1)) (n.val + 1) st) := h.same.scF _ _
  have hp : ∀ p : Fin 72, n.val = p.val + 1 → Acc H (endv p) (512 * qv p) (scF (!(n.val % 2 == 1)) (n.val + 1) st) ∧ Out H a (qv p) (scF (!(n.val % 2 == 1)) (n.val + 1) st) := fun p hp =>
    ⟨(h.prev p hp).1.congr (scF_x20 _ _) (scF_x21 _ _), fun t e ht => by rw [scF_x11]; exact (h.prev p hp).2 t e ht⟩
  generalize scF (!(n.val % 2 == 1)) (n.val + 1) st = st1 at hsc hs0 hm hp
  have hO := finI_out hV n hm hp
  have hsc' : Sco H (!(n.val % 2 == 1)) (n.val + 1) (finI n st1) := hsc.congr (finI_s _ _) (finI_mx _ _)
  have hs0' : Sco H (n.val % 2 == 1) n (finI n st1) := hs0.congr (finI_s _ _) (finI_mx _ _)
  have hm' : Same a (finI n st1) := hm.finI _
  have hA : jv n ≠ 0 → Acc H (1024 * jv n) (512 * qv n) (finI n st1) := fun hj => by
    have hn : 0 < n.val := by
      rcases Nat.eq_zero_or_pos n.val with hz | hp
      · exact absurd (by rw [hz]; exact tab_zero.2) hj
      · exact hp
    have hn' : n.val - 1 + 1 = n.val := by omega
    obtain ⟨h1, h2⟩ := tab_next ⟨n.val - 1, by omega⟩ (by rw [hn']; exact hj)
    have h3 := (hp ⟨n.val - 1, by omega⟩ (by dsimp only; omega)).1
    dsimp only at h1 h2 h3
    rw [hn'] at h1 h2
    rw [h1, h2] at h3
    exact h3.congr (finI_x20 _) (finI_x21 _)
  have hc := coF_acc (n.val % 2 == 1) (⟨n.val, by omega⟩ : Fin 73) (hI.same hm') hs0' hA
  refine ⟨hm'.coF _ _ _, ?_, fun p hp' => ?_⟩
  · rw [odd_succ]
    exact hsc'.congr (coF_s _ _ _ ⟨n.val, by omega⟩ _) (coF_mx _ _ _ ⟨n.val, by omega⟩ _)
  · have e : p = n := Fin.ext (by omega)
    subst e
    refine ⟨hc, fun t e ht => ?_⟩
    rw [coF_x11 _ _ ⟨p.val, by omega⟩]
    exact hO t e ht

theorem Inv.walk {a : St Ideal} (hV : ∀ s, H.V 256 s = 1) (hI : Inp H a) (h : Inv H a 0 st) : ∀ n ≤ 72, Inv H a n (walkF ((H.σ : ℝ) : EReal) n st)
  | 0, _ => h
  | n + 1, hn => (Inv.walk hV hI h n (by omega)).step hV hI ⟨n, by omega⟩

theorem initF_inp (h6 : ∀ (t : Fin 8192) (d : Fin 256), st.x6 (ix3 0 t d) = ((H.qq t.val d.val : ℝ) : EReal))
    (h7 : ∀ (s : Fin 8192) (d : Fin 256), st.x7 (ix3 0 s d) = ((H.kk s.val d.val : ℝ) : EReal))
    (h8 : ∀ (e : Fin 272) (s : Fin 8192), st.x8 (ix4 0 0 e s) = ((H.V e.val s.val : ℝ) : EReal)) : Inp H (initF ((H.σ : ℝ) : EReal) st) where
  h6 := h6
  h7 := h7
  h8 := h8
  h12 := (put2 _ _).trans (shapeCast_self _ _)
  h13 := (put2 _ _).trans (shapeCast_self _ _)
  h14 := (put2 _ _).trans (shapeCast_self _ _)

/-- Every row of the body's output. -/
theorem body_value (hV : ∀ s, H.V 256 s = 1) (h6 : ∀ (t : Fin 8192) (d : Fin 256), st.x6 (ix3 0 t d) = ((H.qq t.val d.val : ℝ) : EReal))
    (h7 : ∀ (s : Fin 8192) (d : Fin 256), st.x7 (ix3 0 s d) = ((H.kk s.val d.val : ℝ) : EReal))
    (h8 : ∀ (e : Fin 272) (s : Fin 8192), st.x8 (ix4 0 0 e s) = ((H.V e.val s.val : ℝ) : EReal)) (t : Fin 8192) (e : Fin 256) :
    (bodyF ((H.σ : ℝ) : EReal) st).x11 (ix3 0 t e) = OutAt H st t.val e := by
  have hI := initF_inp (H := H) (st := st) h6 h7 h8
  have h0 : Inv H (initF ((H.σ : ℝ) : EReal) st) 0 (scF false 0 (initF ((H.σ : ℝ) : EReal) st)) :=
    ⟨(Same.refl _).scF _ _, scF_sco false (0 : Fin 73) hI, fun p hp => absurd hp (by omega)⟩
  have h := Inv.walk hV hI h0 72 le_rfl
  obtain ⟨hA, hO⟩ := h.prev (71 : Fin 72) rfl
  have hq : qv ((71 : Fin 72) : ℕ) = 15 := tab_end.2
  have he : endv ((71 : Fin 72) : ℕ) = 8192 := tab_end.1
  rw [hq, he] at hA
  rw [hq] at hO
  have hw := offQ_one (71 : Fin 73)
  have hw' : (Scalar.indexCast (Scalar.muli (qN 71) 512#32)).toNat = 512 * 15 := hw.trans (by rw [show qv ((71 : Fin 73) : ℕ) = 15 from tab_end.2])
  exact fin_out (qN 71) hw' (by decide) hV h.same hA hO t e (by omega)

end Cert.Attn

end
-- ==== Proof.Value.Heads.lean ====
module

public import proofs.«01_k».proof.Proof.Value.RefForms
public import proofs.«01_k».proof.Proof.Value.HostK
public import proofs.«01_k».proof.Proof.Value.Walk

@[expose] public section

/-!
# The reference's value, head by head

For finite arguments a head is a matter of real numbers: the reference's softmax gives the walk's weights over their
sum, and its rows are the walk's rows.
-/

set_option maxRecDepth 16384

noncomputable section

namespace Cert.Attn

open Idealize.ShloMosaic Cert.ReferenceIdeal Cert.ReferenceIdeal.Facts₀ Cert.ReferenceIdeal.Facts

/-! ## Constants -/

theorem ofBits_two : Ideal.ofBits FTy.f32 1073741824#32 = ((2 : ℝ) : EReal) := by
  simp [Ideal.ofBits, Ideal.ieee]
  rw [← EReal.coe_mul]
  norm_num
theorem ofBits_neg_eight : Ideal.ofBits FTy.f32 3238002688#32 = ((-8 : ℝ) : EReal) := by
  simp [Ideal.ofBits, Ideal.ieee]
  rw [← EReal.coe_mul]
  norm_num
theorem ofBits_eight : Ideal.ofBits FTy.f32 1090519040#32 = ((8 : ℝ) : EReal) := by
  simp [Ideal.ofBits, Ideal.ieee]
  rw [← EReal.coe_mul]
  norm_num

theorem ofBits_scale : ∃ x : ℝ, Ideal.ofBits FTy.f32 1035273459#32 = ((x : ℝ) : EReal) := by
  simp [Ideal.ofBits, Ideal.ieee]
  exact ⟨_, (EReal.coe_mul _ _).symm⟩
theorem ofBits_init : ∃ x : ℝ, Ideal.ofBits FTy.f32 0x3E4CCCCD#32 = ((x : ℝ) : EReal) := by
  simp [Ideal.ofBits, Ideal.ieee]
  exact ⟨_, (EReal.coe_mul _ _).symm⟩

/-- The queries' scale. -/
def scale : ℝ := ofBits_scale.choose
theorem scale_eq : Ideal.ofBits FTy.f32 1035273459#32 = ((scale : ℝ) : EReal) := ofBits_scale.choose_spec

theorem div_coe (x y : ℝ) (hy : y ≠ 0) : Ideal.div ((x : ℝ) : EReal) ((y : ℝ) : EReal) = ((x / y : ℝ) : EReal) := by
  unfold Ideal.div
  rw [if_neg (by exact_mod_cast hy), div_eq_mul_inv, EReal.coe_mul, EReal.coe_inv]

theorem exp_coe (x : ℝ) : Ideal.exp ((x : ℝ) : EReal) = ((Real.exp x : ℝ) : EReal) := rfl
theorem log_two : Ideal.log (Ideal.ofBits FTy.f32 1073741824#32) = ((Real.log 2 : ℝ) : EReal) := by
  rw [ofBits_two]
  show (if (2 : ℝ) ≤ 0 then ⊥ else ((Real.log 2 : ℝ) : EReal)) = _
  rw [if_neg (by norm_num)]
theorem log_two_ne : Real.log 2 ≠ 0 := (Real.log_pos one_lt_two).ne'

theorem kSlope_real (h : Fin 8) : ∃ x : ℝ, kSlope (ix1 h) = ((x : ℝ) : EReal) := by
  refine ⟨Real.rpow 2 (-8 * (1 + ((BitVec.ofNat 32 h.val).toInt : ℝ)) / 8), ?_⟩
  rw [kSlope_at, ofBits_two, ofBits_neg_eight, ofBits_eight, sitofp_ideal, ← EReal.coe_one, ← EReal.coe_add, ← EReal.coe_mul, div_coe _ _ (by norm_num)]
  rfl
theorem rSlope_eq : rSlope = kSlope := rfl

/-- A head's slope. -/
def slope (h : Fin 8) : ℝ := (kSlope_real h).choose
theorem slope_eq (h : Fin 8) : kSlope (ix1 h) = ((slope h : ℝ) : EReal) := (kSlope_real h).choose_spec

/-! ## A head of finite arguments -/

/-- Every element of an array is real. -/
def Real' {s : Shape} {φ : FTy} (x : FVec Ideal s φ) : Prop := ∀ i, ∃ r : ℝ, x i = ((r : ℝ) : EReal)

theorem Real'.coe {s : Shape} {φ : FTy} {x : FVec Ideal s φ} (h : Real' x) (i : s.Idx) : x i = ((EReal.toReal (x i) : ℝ) : EReal) := by
  obtain ⟨r, hr⟩ := h i
  rw [hr]
  rfl

/-- The head `h` of batch entry `b`. -/
def headOf (q k : FVec Ideal S4x8192x8x2x128 .f32) (v : FVec Ideal S4x8192x8x256 .f32) (b : Fin 4) (h : Fin 8) : Head where
  σ := slope h * (Real.log 2)⁻¹
  kk s n := if hs : s < 8192 ∧ n < 256 then EReal.toReal (k (ix5 b ⟨s, hs.1⟩ h ⟨n / 128, by omega⟩ ⟨n % 128, by omega⟩)) else 0
  qq t n := if ht : t < 8192 ∧ n < 256 then EReal.toReal (q (ix5 b ⟨t, ht.1⟩ h ⟨n / 128, by omega⟩ ⟨n % 128, by omega⟩)) * scale / Real.log 2 else 0
  V e s := if he : e < 256 then (if hs : s < 8192 then EReal.toReal (v (ix4 b ⟨s, hs⟩ h ⟨e, he⟩)) else 0) else 1

section Head

variable (q k : FVec Ideal S4x8192x8x2x128 .f32) (v : FVec Ideal S4x8192x8x256 .f32) (b : Fin 4) (h : Fin 8)

theorem headOf_kk (s : Fin 8192) (mp : Fin 2) (d : Fin 128) : (headOf q k v b h).kk s.val (128 * mp.val + d.val) = EReal.toReal (k (ix5 b s h mp d)) := by
  unfold headOf
  dsimp only
  rw [dif_pos ⟨s.isLt, by omega⟩]
  congr 3
  · exact Fin.ext (by dsimp only; omega)
  · exact Fin.ext (by dsimp only; omega)

theorem headOf_qq (t : Fin 8192) (mp : Fin 2) (d : Fin 128) : (headOf q k v b h).qq t.val (128 * mp.val + d.val) = EReal.toReal (q (ix5 b t h mp d)) * scale / Real.log 2 := by
  unfold headOf
  dsimp only
  rw [dif_pos ⟨t.isLt, by omega⟩]
  congr 5
  · exact Fin.ext (by dsimp only; omega)
  · exact Fin.ext (by dsimp only; omega)

theorem headOf_V (e : Fin 256) (s : Fin 8192) : (headOf q k v b h).V e.val s.val = EReal.toReal (v (ix4 b s h e)) := by
  unfold headOf
  dsimp only
  rw [dif_pos e.isLt, dif_pos s.isLt]

theorem headOf_one (e s : ℕ) (he : ¬e < 256) : (headOf q k v b h).V e s = 1 := by
  unfold headOf
  dsimp only
  rw [dif_neg he]

variable {q k v} (hq : Real' q) (hk : Real' k) (hv : Real' v)

include hq hk in
/-- The reference's logits. -/
theorem rLogit_eq (mp : Fin 2) (t s : Fin 8192) : rLogit q k (ix5 b h mp t s) = if s.val / 64 ≤ t.val / 64 then (((headOf q k v b h).lg mp.val s.val t.val * Real.log 2 : ℝ) : EReal) else ⊥ := by
  rw [rLogit_at, rMask_at]
  unfold Scalar.select
  by_cases hm : s.val / 64 ≤ t.val / 64
  · rw [if_pos hm, if_pos (by simp [hm])]
    have hs : (∑ x : Fin 128, (q (ix5 b t h mp x) : EReal) * Ideal.ofBits FTy.f32 1035273459#32 * k (ix5 b s h mp x) : EReal)
        = ((∑ d ∈ Finset.range 128, (headOf q k v b h).kk s.val (128 * mp.val + d) * (headOf q k v b h).qq t.val (128 * mp.val + d) * Real.log 2 : ℝ) : EReal) := by
      rw [← Fin.sum_univ_eq_sum_range (fun d => (headOf q k v b h).kk s.val (128 * mp.val + d) * (headOf q k v b h).qq t.val (128 * mp.val + d) * Real.log 2), coe_sum]
      refine Finset.sum_congr rfl fun x _ => ?_
      rw [headOf_kk, headOf_qq, scale_eq, hq.coe, hk.coe, ← EReal.coe_mul, ← EReal.coe_mul]
      congr 1
      simp only [EReal.toReal_coe]
      have := log_two_ne
      field_simp
    rw [hs, rDist_at, rSlope_eq, slope_eq, ← EReal.coe_neg, ← EReal.coe_mul, ← EReal.coe_add]
    congr 1
    unfold Head.lg Head.raw
    rw [← Finset.sum_mul]
    have hσ : (headOf q k v b h).σ = slope h * (Real.log 2)⁻¹ := rfl
    rw [hσ]
    have := log_two_ne
    field_simp
    ring
  · rw [if_neg hm, if_neg (by simp [hm])]
    exact ofBits_bot

theorem den_eq (H : Head) (mp t : ℕ) : H.den mp t = ∑ s ∈ Finset.range 8192, H.wt mp t s := rfl

theorem exp_wt (H : Head) (mp t s : ℕ) (M : ℝ) : Ideal.exp ((if s / 64 ≤ t / 64 then ((H.lg mp s t * Real.log 2 : ℝ) : EReal) else ⊥) - ((M : ℝ) : EReal)) = ((H.wt mp t s * Real.exp (-M) : ℝ) : EReal) := by
  unfold Head.wt
  split
  · rw [← EReal.coe_sub, exp_coe, Real.rpow_def_of_pos two_pos, ← Real.exp_add]
    congr 2
    ring
  · rw [EReal.bot_sub, zero_mul]
    rfl

include hq hk in
/-- The reference's weights. -/
theorem rProb_eq_wt (mp : Fin 2) (t s : Fin 8192) : rProb (rLogit q k) (ix5 b h mp t s) = (((headOf q k v b h).wt mp.val t.val s.val / (headOf q k v b h).den mp.val t.val : ℝ) : EReal) := by
  have hL := fun s => rLogit_eq (v := v) b h hq hk mp t s
  have hne : ∀ (b : Fin 4) (h : Fin 8) (mp : Fin 2) (t s : Fin 8192), rLogit q k (ix5 b h mp t s) ≠ (⊤ : EReal) := fun b h mp t s => by
    rw [rLogit_eq (v := v) b h hq hk]
    split
    · exact EReal.coe_ne_top _
    · exact bot_ne_top
  have htop : ∀ i, rLogit q k i ≠ (⊤ : EReal) := fun i e =>
    hne (i 0) (i 1) (i 2) (i 3) (i 4) ((congrArg (rLogit q k) (ix5_eta i)).trans e)
  obtain ⟨M, hM⟩ := rMax_real (rLogit q k) b h mp t 0 htop (by
    rw [hL, if_pos (by simp)]
    exact EReal.coe_ne_bot _)
  rw [rProb_eq, rSoft_at, hM]
  simp only [hL]
  rw [Finset.sum_congr rfl fun x _ => exp_wt (headOf q k v b h) mp.val t.val x.val M, ← coe_sum, Fin.sum_univ_eq_sum_range (fun x => (headOf q k v b h).wt mp.val t.val x * Real.exp (-M)) 8192, ← Finset.sum_mul, ← den_eq, exp_wt, div_coe]
  · rw [mul_div_mul_right _ _ (Real.exp_pos _).ne']
  · exact (mul_pos (den_pos (H := headOf q k v b h) mp.val t.val) (Real.exp_pos _)).ne'

include hq hk hv in
/-- The reference's mixed values. -/
theorem rVal_eq (lam : FVec Ideal S_ .f32) (l : ℝ) (hl : lam ix0 = ((l : ℝ) : EReal)) (t : Fin 8192) (e : Fin 256) :
    rVal v (rMix (rProb (rLogit q k)) lam) (ix4 b t h e) = ((((headOf q k v b h).avg 0 t.val e.val : ℝ) : EReal) - ((l : ℝ) : EReal) * (((headOf q k v b h).avg 1 t.val e.val : ℝ) : EReal) : EReal) := by
  rw [rVal_at]
  have hx : ∀ x : Fin 8192, (v (ix4 b x h e) * rMix (rProb (rLogit q k)) lam (ix4 b h t x) : EReal) = (((headOf q k v b h).wt 0 t.val x.val * (headOf q k v b h).V e.val x.val / (headOf q k v b h).den 0 t.val - l * ((headOf q k v b h).wt 1 t.val x.val * (headOf q k v b h).V e.val x.val / (headOf q k v b h).den 1 t.val) : ℝ) : EReal) := fun x => by
    rw [rMix_at, hl, rProb_eq_wt (v := v) b h hq hk, rProb_eq_wt (v := v) b h hq hk, headOf_V, hv.coe, ← EReal.coe_mul, ← EReal.coe_sub, ← EReal.coe_mul]
    congr 1
    simp only [EReal.toReal_coe, Fin.isValue, Fin.coe_ofNat_eq_mod, Nat.zero_mod, Nat.one_mod]
    ring
  rw [Finset.sum_congr rfl fun x _ => hx x, ← coe_sum, ← EReal.coe_mul, ← EReal.coe_sub]
  congr 1
  rw [Finset.sum_sub_distrib, ← Finset.mul_sum, ← Finset.sum_div, ← Finset.sum_div]
  unfold Head.avg
  rw [Fin.sum_univ_eq_sum_range (fun x => (headOf q k v b h).wt 0 t.val x * (headOf q k v b h).V e.val x) 8192, Fin.sum_univ_eq_sum_range (fun x => (headOf q k v b h).wt 1 t.val x * (headOf q k v b h).V e.val x) 8192]

end Head

theorem sum_real (x y : FVec Ideal S128 .f32) (hx : Real' x) (hy : Real' y) : ∃ r : ℝ, (∑ i : Fin 128, x (ix1 i) * y (ix1 i) : EReal) = ((r : ℝ) : EReal) := by
  refine ⟨∑ i : Fin 128, EReal.toReal (x (ix1 i)) * EReal.toReal (y (ix1 i)), ?_⟩
  rw [coe_sum]
  exact Finset.sum_congr rfl fun i _ => by rw [hx.coe, hy.coe, ← EReal.coe_mul]; rfl

theorem rLam_real {a3 a4 a5 a6 : FVec Ideal S128 .f32} (h3 : Real' a3) (h4 : Real' a4) (h5 : Real' a5) (h6 : Real' a6) : ∃ l : ℝ, rLam a3 a4 a5 a6 ix0 = ((l : ℝ) : EReal) := by
  obtain ⟨x, hx⟩ := sum_real a3 a4 h3 h4
  obtain ⟨y, hy⟩ := sum_real a5 a6 h5 h6
  obtain ⟨z, hz⟩ := ofBits_init
  rw [rLam_at, hx, hy, hz, exp_coe, exp_coe, ← EReal.coe_sub, ← EReal.coe_add]
  exact ⟨_, rfl⟩

theorem lam_eq (a3 a4 a5 a6 : FVec Ideal S128 .f32) : lamOf (kLam a3 a4 a5 a6) (ix2 0 0) = rLam a3 a4 a5 a6 ix0 := by
  rw [lamOf_at, rLam_at]
  simp only [kLam_at0, kLam_at1, kLam_at2, kLam_at3]

/-- A row of the reference's result. -/
theorem rOut_at {q k : FVec Ideal S4x8192x8x2x128 .f32} {v : FVec Ideal S4x8192x8x256 .f32} {a3 a4 a5 a6 : FVec Ideal S128 .f32} (a7 : FVec Ideal S256 .f32)
    (hq : Real' q) (hk : Real' k) (hv : Real' v) (h3 : Real' a3) (h4 : Real' a4) (h5 : Real' a5) (h6 : Real' a6) (b : Fin 4) (h : Fin 8) (t : Fin 8192) (e : Fin 256) :
    rOut q k v a3 a4 a5 a6 a7 (ix3 b t ⟨256 * h.val + e.val, by omega⟩) =
      normV (fun x => (((headOf q k v b h).avg 0 t.val x.val : ℝ) : EReal) - rLam a3 a4 a5 a6 ix0 * (((headOf q k v b h).avg 1 t.val x.val : ℝ) : EReal)) (a7 (ix1 e)) e := by
  obtain ⟨l, hl⟩ := rLam_real h3 h4 h5 h6
  unfold rOut normV
  rw [rNorm_at]
  simp only [rVal_eq b h hq hk hv _ l hl, hl]

end Cert.Attn

end
-- ==== Proof.Value.Blocks.lean ====
module

public import proofs.«01_k».proof.Proof.Value.HostK
public import Idealize.ShloMosaic.Lib.Pipeline.ValueKit.Geometry

@[expose] public section

/-!
# The call's blocks, element by element
-/

set_option maxRecDepth 16384

noncomputable section

namespace Cert.Attn

open Idealize.ShloMosaic Idealize.ShloMosaic.TcCoe Cert.KernelIdeal Cert.KernelIdeal.Facts₀ Cert.KernelIdeal.Facts

variable (m : (ℓ : Loc nD τ sig) → Buf (Elt Ideal) ℓ) (c : Dev nD) (t : Fin (cfgA (F := Ideal)).N)

/-- The batch entry and the head of a grid point. -/
def gB (t : Fin (cfgA (F := Ideal)).N) : Fin 4 := (cfgA (F := Ideal)).grid.coords t 0
def gH (t : Fin (cfgA (F := Ideal)).N) : Fin 8 := (cfgA (F := Ideal)).grid.coords t 1

theorem index0 : ∀ t : Fin (cfgA (F := Ideal)).N, ((cfgA (F := Ideal)).win 0).index t = ![0] := by decide +kernel
theorem index1 : ∀ t : Fin (cfgA (F := Ideal)).N, ((cfgA (F := Ideal)).win 1).index t = ![(gB t).val, 0, (gH t).val] := by decide +kernel
theorem index2 : ∀ t : Fin (cfgA (F := Ideal)).N, ((cfgA (F := Ideal)).win 2).index t = ![(gB t).val, 0, (gH t).val] := by decide +kernel
theorem index3 : ∀ t : Fin (cfgA (F := Ideal)).N, ((cfgA (F := Ideal)).win 3).index t = ![(gB t).val, (gH t).val, 0, 0] := by decide +kernel
theorem index4 : ∀ t : Fin (cfgA (F := Ideal)).N, ((cfgA (F := Ideal)).win 4).index t = ![0, 0] := by decide +kernel
theorem index5 : ∀ t : Fin (cfgA (F := Ideal)).N, ((cfgA (F := Ideal)).win 5).index t = ![0, 0] := by decide +kernel
theorem index6 : ∀ t : Fin (cfgA (F := Ideal)).N, ((cfgA (F := Ideal)).win 6).index t = ![(gB t).val, 0, (gH t).val] := by decide +kernel

theorem blk0_at (h : Fin 8) : blk0 m c t (ix1 h) = V m c main_v8 (ix1 h) := by
  unfold blk0 blk
  refine congrArg (V m c main_v8) (funext fun a => Fin.ext ?_)
  refine (Pipeline.Window.rect_emb_val ((cfgA (F := Ideal)).win 0) t _ a).trans ?_
  rw [index0]
  match a with
  | 0 => exact (show 0 * 8 + h.val = h.val by omega)

theorem blk1_at (y : Fin 8192) (d : Fin 256) : blk1 m c t (ix3 0 y d) = V m c main_v20 (ix3 (gB t) y ⟨256 * (gH t).val + d.val, by omega⟩) := by
  unfold blk1 blk
  refine congrArg (V m c main_v20) (funext fun a => Fin.ext ?_)
  refine (Pipeline.Window.rect_emb_val ((cfgA (F := Ideal)).win 1) t _ a).trans ?_
  rw [index1]
  match a with
  | 0 => exact (show (gB t).val * 1 + 0 = (gB t).val by omega)
  | 1 => exact (show 0 * 8192 + y.val = y.val by omega)
  | 2 => exact (show (gH t).val * 256 + d.val = 256 * (gH t).val + d.val by omega)

theorem blk2_at (y : Fin 8192) (d : Fin 256) : blk2 m c t (ix3 0 y d) = V m c main_v22 (ix3 (gB t) y ⟨256 * (gH t).val + d.val, by omega⟩) := by
  unfold blk2 blk
  refine congrArg (V m c main_v22) (funext fun a => Fin.ext ?_)
  refine (Pipeline.Window.rect_emb_val ((cfgA (F := Ideal)).win 2) t _ a).trans ?_
  rw [index2]
  match a with
  | 0 => exact (show (gB t).val * 1 + 0 = (gB t).val by omega)
  | 1 => exact (show 0 * 8192 + y.val = y.val by omega)
  | 2 => exact (show (gH t).val * 256 + d.val = 256 * (gH t).val + d.val by omega)

theorem blk3_at (e : Fin 272) (y : Fin 8192) : blk3 m c t (ix4 0 0 e y) = V m c main_v26 (ix4 (gB t) (gH t) e y) := by
  unfold blk3 blk
  refine congrArg (V m c main_v26) (funext fun a => Fin.ext ?_)
  refine (Pipeline.Window.rect_emb_val ((cfgA (F := Ideal)).win 3) t _ a).trans ?_
  rw [index3]
  match a with
  | 0 => exact (show (gB t).val * 1 + 0 = (gB t).val by omega)
  | 1 => exact (show (gH t).val * 1 + 0 = (gH t).val by omega)
  | 2 => exact (show 0 * 272 + e.val = e.val by omega)
  | 3 => exact (show 0 * 8192 + y.val = y.val by omega)

theorem blk4_at (r : Fin 4) (d : Fin 128) : blk4 m c t (ix2 r d) = V m c main_v13 (ix2 r d) := by
  unfold blk4 blk
  refine congrArg (V m c main_v13) (funext fun a => Fin.ext ?_)
  refine (Pipeline.Window.rect_emb_val ((cfgA (F := Ideal)).win 4) t _ a).trans ?_
  rw [index4]
  match a with
  | 0 => exact (show 0 * 4 + r.val = r.val by omega)
  | 1 => exact (show 0 * 128 + d.val = d.val by omega)

theorem blk5_at (d : Fin 256) : blk5 m c t (ix2 0 d) = V m c main_v27 (ix2 0 d) := by
  unfold blk5 blk
  refine congrArg (V m c main_v27) (funext fun a => Fin.ext ?_)
  refine (Pipeline.Window.rect_emb_val ((cfgA (F := Ideal)).win 5) t _ a).trans ?_
  rw [index5]
  match a with
  | 0 => rfl
  | 1 => exact (show 0 * 256 + d.val = d.val by omega)

/-- The result's block of a grid point, out of a whole array. -/
def outBlk (G : S4x8192x2048.Idx → EReal) (t : Fin (cfgA (F := Ideal)).N) : S1x8192x256.Idx → EReal := fun y =>
  G (ix3 (gB t) (y 1) ⟨256 * (gH t).val + (y 2).val, by have := (y 2).isLt; have h : S1x8192x256.size 2 = 256 := rfl; omega⟩)

/-- The call's result is the array whose blocks the body leaves. -/
theorem out_cover (G : Dev nD → S4x8192x2048.Idx → EReal) : (dats m (fun c t => outBlk (G c) t) 0 c).arrAt 6 (cfgA (F := Ideal)).N = G c := by
  refine (dats m (fun c t => outBlk (G c) t) 0 c).arrAt_eq_of_covers 6 _ (by decide +kernel) (fun t _ y => ?_) (Memref.isWhole_whole _)
  refine congrArg (G c) (funext fun a => Fin.ext ?_)
  refine Eq.trans ?_ (Pipeline.Window.rect_emb_val ((cfgA (F := Ideal)).win 6) t y a).symm
  rw [index6]
  have h0 : (y 0).val < 1 := (y 0).isLt
  match a with
  | 0 => exact (show (gB t).val = (gB t).val * 1 + (y 0).val by omega)
  | 1 => exact (show (y 1).val = 0 * 8192 + (y 1).val by omega)
  | 2 => exact (show 256 * (gH t).val + (y 2).val = (gH t).val * 256 + (y 2).val by omega)

end Cert.Attn

end
-- ==== Proof.Value.Output.lean ====
module

public import proofs.«01_k».proof.Proof.Value.Heads
public import proofs.«01_k».proof.Proof.Value.Blocks
public import proofs.«01_k».proof.Proof.Run.Frame

@[expose] public section

/-!
# The program's result

At a grid point the body leaves the head's block of the reference's array, so the call's result is that array.
-/

set_option maxRecDepth 16384

noncomputable section

namespace Cert.Attn

open Idealize.ShloMosaic Idealize.ShloMosaic.TcCoe Cert.KernelIdeal Cert.KernelIdeal.Facts₀ Cert.KernelIdeal.Facts
open Idealize.SL.Sem
open VecWindow (window put)

variable (m : (ℓ : Loc nD τ sig) → Buf (Elt Ideal) ℓ) (c : Dev nD)

/-- The reference's array of the program's arguments. -/
def goal : S4x8192x2048.Idx → EReal :=
  rOut (m (c, main_arg0)) (m (c, main_arg1)) (m (c, main_arg2)) (m (c, main_arg3)) (m (c, main_arg4)) (m (c, main_arg5)) (m (c, main_arg6)) (m (c, main_arg7))

/-- The arguments the claim takes to be finite. -/
structure Fin' : Prop where
  h0 : Real' (s := S4x8192x8x2x128) (φ := .f32) (m (c, main_arg0))
  h1 : Real' (s := S4x8192x8x2x128) (φ := .f32) (m (c, main_arg1))
  h2 : Real' (s := S4x8192x8x256) (φ := .f32) (m (c, main_arg2))
  h3 : Real' (s := S128) (φ := .f32) (m (c, main_arg3))
  h4 : Real' (s := S128) (φ := .f32) (m (c, main_arg4))
  h5 : Real' (s := S128) (φ := .f32) (m (c, main_arg5))
  h6 : Real' (s := S128) (φ := .f32) (m (c, main_arg6))

variable {m c} {t : Fin (cfgA (F := Ideal)).N} {st : St Ideal}

/-- The head of a grid point. -/
abbrev headAt (m : (ℓ : Loc nD τ sig) → Buf (Elt Ideal) ℓ) (c : Dev nD) (t : Fin (cfgA (F := Ideal)).N) : Head :=
  headOf (m (c, main_arg0)) (m (c, main_arg1)) (m (c, main_arg2)) (gB t) (gH t)

theorem slope_off : ∀ t : Fin (cfgA (F := Ideal)).N, (((Rect.unit (s := S8) (k0_off1 (grid0.coords t)) S1.size (k0_off1_inb _)).emb (Shape.Idx.first (numel1_S1.symm ▸ Nat.one_pos))) 0).val = (gH t).val := by
  decide +kernel

theorem slope_at (h : At m c t st) : slopeAt (grid0.coords t) st = ((slope (gH t) : ℝ) : EReal) := by
  refine Eq.trans ?_ (slope_eq (gH t))
  unfold slopeAt
  rw [h.h5]
  show blk0 m c t _ = _
  refine Eq.trans (congrArg (blk0 m c t) (a₂ := ix1 (gH t)) (funext fun a => Fin.ext ?_)) ?_
  · have ha : a = 0 := Subsingleton.elim _ _
    subst ha
    exact slope_off t
  · rw [blk0_at, V_slope]

theorem v2_at (h : At m c t st) : v2Of (slopeAt (grid0.coords t) st) = (((headAt m c t).σ : ℝ) : EReal) := by
  rw [slope_at h]
  unfold v2Of
  rw [named_log2e]
  exact (EReal.coe_mul _ _).symm

theorem split128 (d : Fin 256) : d.val = 128 * (⟨d.val / 128, by omega⟩ : Fin 2).val + (⟨d.val % 128, by omega⟩ : Fin 128).val := by
  dsimp only
  omega

theorem x6_at (hf : Fin' m c) (h : At m c t st) (y : Fin 8192) (d : Fin 256) : st.x6 (ix3 0 y d) = (((headAt m c t).qq y.val d.val : ℝ) : EReal) := by
  rw [h.h6, blk1_at, V_q]
  have e : (⟨256 * (gH t).val + d.val, by omega⟩ : Fin 2048) = ⟨256 * (gH t).val + (128 * (⟨d.val / 128, by omega⟩ : Fin 2).val + (⟨d.val % 128, by omega⟩ : Fin 128).val), by dsimp only; omega⟩ :=
    Fin.ext (by dsimp only; omega)
  rw [e, kQ_at]
  refine Eq.trans ?_ ((congrArg (fun r : ℝ => (r : EReal)) (headOf_qq _ _ _ _ _ y _ _)).symm.trans (congrArg (fun n => (((headAt m c t).qq y.val n : ℝ) : EReal)) (split128 d)).symm)
  rw [scale_eq, log_two, hf.h0.coe, ← EReal.coe_mul, div_coe _ _ log_two_ne]
  simp only [EReal.toReal_coe]

theorem x7_at (hf : Fin' m c) (h : At m c t st) (y : Fin 8192) (d : Fin 256) : st.x7 (ix3 0 y d) = (((headAt m c t).kk y.val d.val : ℝ) : EReal) := by
  rw [h.h7, blk2_at, V_k]
  have e : (⟨256 * (gH t).val + d.val, by omega⟩ : Fin 2048) = ⟨256 * (gH t).val + (128 * (⟨d.val / 128, by omega⟩ : Fin 2).val + (⟨d.val % 128, by omega⟩ : Fin 128).val), by dsimp only; omega⟩ :=
    Fin.ext (by dsimp only; omega)
  rw [e, kK_at]
  exact (hf.h1.coe _).trans ((congrArg (fun r : ℝ => (r : EReal)) (headOf_kk _ _ _ _ _ y _ _)).symm.trans (congrArg (fun n => (((headAt m c t).kk y.val n : ℝ) : EReal)) (split128 d)).symm)

theorem x8_at (hf : Fin' m c) (h : At m c t st) (e : Fin 272) (s : Fin 8192) : st.x8 (ix4 0 0 e s) = (((headAt m c t).V e.val s.val : ℝ) : EReal) := by
  rw [h.h8, blk3_at, V_v, kV_at]
  split
  · rename_i he
    exact (hf.h2.coe _).trans (congrArg (fun r : ℝ => (r : EReal)) (headOf_V _ _ _ _ _ (⟨e.val, he⟩ : Fin 256) s)).symm
  · rename_i he
    rw [headOf_one _ _ _ _ _ _ _ he, EReal.coe_one]

theorem x9_at (h : At m c t st) : lamOf st.x9 (ix2 0 0) = rLam (m (c, main_arg3)) (m (c, main_arg4)) (m (c, main_arg5)) (m (c, main_arg6)) ix0 := by
  refine Eq.trans ?_ (lam_eq _ _ _ _)
  rw [lamOf_at, lamOf_at, h.h9]
  simp only [blk4_at]
  rw [V_lam]

theorem x10_at (h : At m c t st) (e : Fin 256) : st.x10 (ix2 0 e) = m (c, main_arg7) (ix1 e) := by
  rw [h.h10, blk5_at, V_sub, kSub_at]

/-- What a grid point leaves. -/
theorem body_block (hf : Fin' m c) (h : At m c t st) : (bodyF (v2Of (slopeAt (grid0.coords t) st)) st).x11 = outBlk (goal m c) t := by
  rw [v2_at h]
  have hb := body_value (H := headAt m c t) (st := st) (fun s => headOf_one _ _ _ _ _ _ _ (by omega)) (x6_at hf h) (x7_at hf h) (x8_at hf h)
  have hrow : ∀ (y : Fin 8192) (e : Fin 256), (bodyF (((headAt m c t).σ : ℝ) : EReal) st).x11 (ix3 0 y e) = outBlk (goal m c) t (ix3 0 y e) := fun y e => by
    rw [hb]
    unfold OutAt
    rw [x9_at h, x10_at h]
    exact (rOut_at (m (c, main_arg7)) hf.h0 hf.h1 hf.h2 hf.h3 hf.h4 hf.h5 hf.h6 (gB t) (gH t) y e).symm
  funext i
  have hi : i = ix3 0 (i 1) (i 2) := by
    have h0 : i 0 = (0 : Fin 1) := Fin.ext (by have := (i 0).isLt; have h1 : S1x8192x256.size 0 = 1 := rfl; show (i 0).val = 0; omega)
    rw [← h0]
    exact (ix3_eta i).symm
  rw [hi]
  exact hrow (i 1) (i 2)

/-- The program leaves the reference's array and its arguments. -/
theorem kernel_run (m : (ℓ : Loc nD τ sig) → Buf (Elt Ideal) ℓ) (g : Dev nD → PrngReg) (hf : ∀ c, Fin' m c) :
    θ_run (defs (F := Ideal)) (onTc (τ := τ) (main (F := Ideal))) ⟨m, fun _ => 0, g⟩ (fun r => ∀ c : Dev nD,
      r.2.mem ((c : Thread nD τ).loc main_v28) = goal m c ∧ r.2.mem ((c : Thread nD τ).loc main_arg0) = m ((c : Thread nD τ).loc main_arg0) ∧ r.2.mem ((c : Thread nD τ).loc main_arg1) = m ((c : Thread nD τ).loc main_arg1)
      ∧ r.2.mem ((c : Thread nD τ).loc main_arg2) = m ((c : Thread nD τ).loc main_arg2) ∧ r.2.mem ((c : Thread nD τ).loc main_arg3) = m ((c : Thread nD τ).loc main_arg3)
      ∧ r.2.mem ((c : Thread nD τ).loc main_arg4) = m ((c : Thread nD τ).loc main_arg4) ∧ r.2.mem ((c : Thread nD τ).loc main_arg5) = m ((c : Thread nD τ).loc main_arg5)
      ∧ r.2.mem ((c : Thread nD τ).loc main_arg6) = m ((c : Thread nD τ).loc main_arg6) ∧ r.2.mem ((c : Thread nD τ).loc main_arg7) = m ((c : Thread nD τ).loc main_arg7)) :=
  (θ_run _ _ _).mono (fun r h c => ⟨((h.1 c).1 6).trans (out_cover m c (goal m)), kept_of_rest m r (fun c b hb => (h.1 c).2 b hb) c⟩)
    (run_exact m g (fun c t => outBlk (goal m c) t) fun c _ _ h => body_block (hf c) h)

end Cert.Attn

end
-- ==== Proof.Value.Finite.lean ====
module

public import proofs.«01_k».proof.Defs
public import proofs.«01_k».proof.Proof.Value.Heads
public import Idealize.ShloMosaic.Lib.ReduceAll
public import Idealize.ShloMosaic.Lib.Affine

@[expose] public section

/-!
# What the precondition says

Every element of the first seven arguments is a real number.
-/

set_option maxRecDepth 16384

noncomputable section

namespace Cert.Attn

open Idealize.ShloMosaic Cert.Pre_finite Cert.Pre_finite.Facts

theorem pre_facts : Cert.Pre_finite.Facts where
  bcast_S_S4x8192x8x2x128 := by decide
  reducesTo_S4x8192x8x2x128_S_d0_1_2_3_4 := by decide
  h_S_ := by decide
  bcast_S_S4x8192x8x256 := by decide
  reducesTo_S4x8192x8x256_S_d0_1_2_3 := by decide
  bcast_S_S128 := by decide
  reducesTo_S128_S_d0 := by decide

theorem ofBits_top : Ideal.ofBits FTy.f32 0x7F800000#32 = ⊤ := by
  simp [Ideal.ofBits, Ideal.ieee]

/-- An extended real below plus infinity in absolute value is real. -/
theorem real_of_abs {x : EReal} (h : max x (-x) < ⊤) : ∃ r : ℝ, x = ((r : ℝ) : EReal) := by
  induction x with
  | bot => simp at h
  | top => simp at h
  | coe r => exact ⟨r, rfl⟩

instance : Subsingleton S_.Idx := ⟨fun _ _ => funext fun a => a.elim0⟩

/-- The test of one argument. -/
theorem real_of_all {s : Shape} {axes : List (Fin s.rank)} (x : FVec Ideal s .f32) (hb : S_.BroadcastsInDim s (![] : Fin 0 → Fin s.rank)) (hr : s.ReducesTo axes S_) (hu : 0 < S_.numel) (j : S_.Idx)
    (h : Host.reduce IntOp.andi (cmpf .olt (Host.absf x) (broadcastInDim s ![] hb (constant S_ .f32 0x7F800000#32))) (constantI S_ 1 1#1) hr hu j = 1#1) : Real' x := fun i => by
  have h1 := Host.reduce_andi_all _ _ _ _ _ h i
  have h2 : BitVec.ofBool (decide (max (x i : EReal) (-(x i : EReal)) < Ideal.ofBits FTy.f32 0x7F800000#32)) = 1#1 := h1
  rw [ofBits_top] at h2
  refine real_of_abs ?_
  by_contra hn
  simp [hn] at h2

variable [Cert.Pre_finite.Facts]

/-- The arguments the precondition makes real. -/
theorem finite_real (q k : FVec Ideal S4x8192x8x2x128 .f32) (v : FVec Ideal S4x8192x8x256 .f32) (a3 a4 a5 a6 : FVec Ideal S128 .f32) (a7 : FVec Ideal S256 .f32)
    (h : Cert.Pre_finite.fn (F := Ideal) q k v a3 a4 a5 a6 a7 = fun _ => 1#1) :
    Real' q ∧ Real' k ∧ Real' v ∧ Real' a3 ∧ Real' a4 ∧ Real' a5 ∧ Real' a6 := by
  have h0 := congrFun h (fun a => a.elim0)
  dsimp only [Cert.Pre_finite.fn, Cert.Pre_finite.fn_part1] at h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨real_of_all q _ _ _ _ h0, real_of_all k _ _ _ _ h1, real_of_all v _ _ _ _ h2, real_of_all a3 _ _ _ _ h3, real_of_all a4 _ _ _ _ h4, real_of_all a5 _ _ _ _ h5, real_of_all a6 _ _ _ _ h6⟩

end Cert.Attn

end
-- ==== Proof.Calls.Hidden.lean ====
module

public import proofs.«01_k».proof.Defs
public import proofs.«01_k».proof.Proof.Gen.Hidden.Frame
public import proofs.«01_k».proof.Proof.Gen.HiddenIdeal.Value
public import proofs.«01_k».proof.Proof.Gen.HiddenReferenceIdeal.Run
public import Idealize.ShloMosaic.Lib.Pointwise
public import Idealize.ShloMosaic.Lib.Claim
public import Idealize.ShloMosaic.Lib.StableHlo.RunHlo
public import Idealize.ShloMosaic.Lib.StableHlo.RunRead
public import Idealize.ShloMosaic.Lib.Pipeline.ValueKit.Geometry
public import Idealize.ShloMosaic.Lib.Pipeline.ValueKit.Basic

@[expose] public section

/-!
# The gated hidden layer, element by element
-/

set_option maxRecDepth 16384

noncomputable section

namespace Cert.HiddenCall

open Idealize.ShloMosaic Idealize.ShloMosaic.TcCoe

/-- The gated hidden layer at an index. -/
def cell (a b : EReal) : EReal := a * Ideal.div 1 (1 + Ideal.exp (-a)) * b

section Reference

open Cert.HiddenReferenceIdeal Cert.HiddenReferenceIdeal.Facts₀ Cert.HiddenReferenceIdeal.Facts

/-- The reference's result. -/
def goal (a0 : FVec Ideal S4x8192x2048 .f32) (a1 a2 : FVec Ideal S2048x5632 .f32) : FVec Ideal S32768x5632 .bf16 :=
  truncf .bf16 (shapeCast _ (mulf (mulf (Host.dotGeneral dot_S4x8192x2048_S2048x5632_S4x8192x5632_2_0_01_1_n_n none a0 a1) (Host.divf (broadcastInDim S4x8192x5632 ![] bcast_S_S4x8192x5632 (constant S_ .f32 0x3F800000#32)) (addf (broadcastInDim S4x8192x5632 ![] bcast_S_S4x8192x5632 (constant S_ .f32 0x3F800000#32)) (Host.exp (Host.negf (Host.dotGeneral dot_S4x8192x2048_S2048x5632_S4x8192x5632_2_0_01_1_n_n none a0 a1)))))) (Host.dotGeneral dot_S4x8192x2048_S2048x5632_S4x8192x5632_2_0_01_1_n_n none a0 a2)) shapeCasts_S4x8192x5632_S32768x5632) bitsLt_bf16_f32

theorem goal_at (a0 : FVec Ideal S4x8192x2048 .f32) (a1 a2 : FVec Ideal S2048x5632 .f32) (b : Fin 4) (s : Fin 8192) (j : Fin 5632) :
    goal a0 a1 a2 (ix2 ⟨8192 * b.val + s.val, by omega⟩ j) = cell (∑ k : Fin 2048, a0 (ix3 b s k) * a1 (ix2 k j)) (∑ k : Fin 2048, a0 (ix3 b s k) * a2 (ix2 k j)) := by
  pointwise [goal, cell]

end Reference

open Cert.HiddenIdeal Cert.HiddenIdeal.Gen

variable (m : (ℓ : Loc nD τ sig) → Buf (Elt Ideal) ℓ) (c : Dev nD) (t : Fin cfg0.N)

/-- The block the body leaves, at an index. -/
theorem body_at (x0 : Vec Ideal S1024x2048 .bf16) (x1 x2 : Vec Ideal S2048x512 .bf16) (i : Fin 1024) (j : Fin 512) :
    k0_pay1 x0 x1 x2 (ix2 i j) = cell (∑ k : Fin 2048, x0 (ix2 i k) * x1 (ix2 k j)) (∑ k : Fin 2048, x0 (ix2 i k) * x2 (ix2 k j)) := by
  pointwise [k0_pay1, cell, Ideal.logistic]

theorem out_eq (x0 : Vec Ideal S1024x2048 .bf16) (x1 x2 : Vec Ideal S2048x512 .bf16) : out0_3 x0 x1 x2 = k0_pay1 x0 x1 x2 := by
  unfold out0_3
  rw [View.canon_cons_unit_lit _ _ _ (by decide), View.ld_unit_lit _ _ (by decide), View.ld_unit_lit _ _ (by decide), View.ld_unit_lit _ _ (by decide)]

/-- The tokens, one row each, in the matrix unit's type. -/
def rows (a : FVec Ideal S4x8192x2048 .f32) : FVec Ideal S32768x2048 .bf16 := shapeCast S32768x2048 (truncf .bf16 a bitsLt_bf16_f32) shapeCasts_S4x8192x2048_S32768x2048

/-- A weight in the matrix unit's type. -/
def low (a : FVec Ideal S2048x5632 .f32) : FVec Ideal S2048x5632 .bf16 := truncf .bf16 a bitsLt_bf16_f32

theorem V_h : V m c main_v1 = rows (m (c, main_arg0)) := by
  unfold V hostOps0
  after_reads_simp
  rfl
theorem V_g : V m c main_v2 = low (m (c, main_arg1)) := by
  unfold V hostOps0
  after_reads_simp
  rfl
theorem V_u : V m c main_v3 = low (m (c, main_arg2)) := by
  unfold V hostOps0
  after_reads_simp
  rfl

theorem rows_at (a : FVec Ideal S4x8192x2048 .f32) (b : Fin 4) (s : Fin 8192) (k : Fin 2048) :
    rows a (ix2 ⟨8192 * b.val + s.val, by omega⟩ k) = a (ix3 b s k) := by
  pointwise [rows]

/-- The column block and the row block of a grid point. -/
def gN (t : Fin cfg0.N) : Fin 11 := cfg0.grid.coords t 0
def gM (t : Fin cfg0.N) : Fin 32 := cfg0.grid.coords t 1

theorem index0 : ∀ t : Fin cfg0.N, (cfg0.win 0).index t = ![(gM t).val, 0] := by decide +kernel
theorem index1 : ∀ t : Fin cfg0.N, (cfg0.win 1).index t = ![0, (gN t).val] := by decide +kernel
theorem index2 : ∀ t : Fin cfg0.N, (cfg0.win 2).index t = ![0, (gN t).val] := by decide +kernel
theorem index3 : ∀ t : Fin cfg0.N, (cfg0.win 3).index t = ![(gM t).val, (gN t).val] := by decide +kernel

theorem blk0_at (i : Fin 1024) (k : Fin 2048) : iblk m c 0 t (ix2 i k) = m (c, main_arg0) (ix3 (⟨(gM t).val / 8, by omega⟩ : Fin 4) (⟨1024 * ((gM t).val % 8) + i.val, by omega⟩ : Fin 8192) k) := by
  refine Eq.trans ?_ (rows_at (m (c, main_arg0)) _ _ k)
  rw [← V_h]
  unfold iblk
  refine congrArg (V m c main_v1) (funext fun a => Fin.ext ?_)
  refine (Pipeline.Window.rect_emb_val (cfg0.win 0) t _ a).trans ?_
  rw [index0]
  match a with
  | 0 => exact (show (gM t).val * 1024 + i.val = 8192 * ((gM t).val / 8) + (1024 * ((gM t).val % 8) + i.val) by omega)
  | 1 => exact (show 0 * 2048 + k.val = k.val by omega)

theorem blk1_at (k : Fin 2048) (j : Fin 512) : iblk m c 1 t (ix2 k j) = m (c, main_arg1) (ix2 k (⟨512 * (gN t).val + j.val, by omega⟩ : Fin 5632)) := by
  refine Eq.trans ?_ (congrFun (V_g m c) _)
  unfold iblk
  refine congrArg (V m c main_v2) (funext fun a => Fin.ext ?_)
  refine (Pipeline.Window.rect_emb_val (cfg0.win 1) t _ a).trans ?_
  rw [index1]
  match a with
  | 0 => exact (show 0 * 2048 + k.val = k.val by omega)
  | 1 => exact (show (gN t).val * 512 + j.val = 512 * (gN t).val + j.val by omega)

theorem blk2_at (k : Fin 2048) (j : Fin 512) : iblk m c 2 t (ix2 k j) = m (c, main_arg2) (ix2 k (⟨512 * (gN t).val + j.val, by omega⟩ : Fin 5632)) := by
  refine Eq.trans ?_ (congrFun (V_u m c) _)
  unfold iblk
  refine congrArg (V m c main_v3) (funext fun a => Fin.ext ?_)
  refine (Pipeline.Window.rect_emb_val (cfg0.win 2) t _ a).trans ?_
  rw [index2]
  match a with
  | 0 => exact (show 0 * 2048 + k.val = k.val by omega)
  | 1 => exact (show (gN t).val * 512 + j.val = 512 * (gN t).val + j.val by omega)

/-- The call's result is the reference's. -/
theorem final : (dats m 0 c).arrAt 3 cfg0.N = goal (m (c, main_arg0)) (m (c, main_arg1)) (m (c, main_arg2)) := by
  refine (dats m 0 c).arrAt_eq_of_covers 3 _ (by decide +kernel) (fun t _ y => ?_) (Memref.isWhole_whole _)
  have hrow : ∀ (i : Fin 1024) (j : Fin 512), k0_pay1 (iblk m c 0 t) (iblk m c 1 t) (iblk m c 2 t) (ix2 i j)
      = goal (m (c, main_arg0)) (m (c, main_arg1)) (m (c, main_arg2)) (ix2 (⟨8192 * ((gM t).val / 8) + (1024 * ((gM t).val % 8) + i.val), by omega⟩ : Fin 32768) (⟨512 * (gN t).val + j.val, by omega⟩ : Fin 5632)) := fun i j => by
    refine Eq.trans ?_ (goal_at _ _ _ ⟨(gM t).val / 8, by omega⟩ ⟨1024 * ((gM t).val % 8) + i.val, by omega⟩ _).symm
    rw [body_at]
    simp only [blk0_at, blk1_at, blk2_at]
  refine (congrFun ((Value.flushed3 m c t).trans (congrArg _ (out_eq _ _ _))) y).trans ?_
  refine Eq.trans ((congrArg (k0_pay1 (iblk m c 0 t) (iblk m c 1 t) (iblk m c 2 t)) (ix2_eta y).symm).trans (hrow (y 0) (y 1))) ?_
  refine congrArg (goal (m (c, main_arg0)) (m (c, main_arg1)) (m (c, main_arg2))) (funext fun a => Fin.ext ?_)
  refine Eq.trans ?_ (Pipeline.Window.rect_emb_val (cfg0.win 3) t y a).symm
  rw [index3]
  match a with
  | 0 => exact (show 8192 * ((gM t).val / 8) + (1024 * ((gM t).val % 8) + (y 0).val) = (gM t).val * 1024 + (y 0).val by omega)
  | 1 => exact (show 512 * (gN t).val + (y 1).val = (gN t).val * 512 + (y 1).val by omega)

theorem frame_kernel : Cert.quiescent_Hidden := fun m ρ _ => Cert.Hidden.Gen.frame (F := Bits) m ρ

theorem frame_ideal : Cert.quiescent_HiddenIdeal := fun m ρ _ => Cert.HiddenIdeal.Gen.frame (F := Ideal) m ρ

theorem frame_reference : Cert.quiescent_HiddenReferenceIdeal := by
  intro m g _
  hlo_run
  · exact fun _ => ⟨trivial, trivial, trivial⟩
  · exact sem_eq_zero_of_no_sems (by decide) _

theorem preserves : Cert.preserves_Hidden_HiddenIdeal := trivial

/-- The program and the reference leave equal arrays. -/
theorem algebraic : Cert.algebraic_HiddenIdeal_HiddenReferenceIdeal := by
  intro m g m' g' _ hagree
  refine ⟨fun c => goal (m (c, main_arg0)) (m (c, main_arg1)) (m (c, main_arg2)), ?_, ?_⟩
  · exact θ_run_mono (Cert.HiddenIdeal.Value.run_blocks (F := Ideal) m g) fun r h c => ⟨(h c).1.trans (final m c), (h c).2⟩
  · refine θ_run_mono (Cert.HiddenReferenceIdeal.Value.run (F := Ideal) m' g') fun r h c => ⟨(h c).1.trans ?_, (h c).2⟩
    obtain ⟨e0, e1, e2⟩ := hagree c
    rw [e0, e1, e2]
    rfl

end Cert.HiddenCall

end
-- ==== Proof.Calls.Norm.lean ====
module

public import Idealize.ShloMosaic.Lib.Pointwise

@[expose] public section

/-!
# A row's norm, element by element
-/

noncomputable section

namespace Cert.Calls

open Idealize.ShloMosaic

/-- A row of 2048 numbers over the root of its mean square. -/
def unitRow (f : Fin 2048 → EReal) (j : Fin 2048) : EReal :=
  f j * Ideal.rsqrt (Ideal.div (∑ k : Fin 2048, f k * f k) (Ideal.ofBits FTy.f32 0x45000000#32) + Ideal.ofBits FTy.f32 0x358637BD#32)

end Cert.Calls

end
-- ==== Proof.Calls.Down.lean ====
module

public import proofs.«01_k».proof.Defs
public import proofs.«01_k».proof.Proof.Calls.Norm
public import proofs.«01_k».proof.Proof.Gen.Down.Frame
public import proofs.«01_k».proof.Proof.Gen.DownIdeal.Value
public import proofs.«01_k».proof.Proof.Gen.DownReferenceIdeal.Run
public import Idealize.ShloMosaic.Lib.Pointwise
public import Idealize.ShloMosaic.Lib.Claim
public import Idealize.ShloMosaic.Lib.StableHlo.RunHlo
public import Idealize.ShloMosaic.Lib.StableHlo.RunRead
public import Idealize.ShloMosaic.Lib.Pipeline.ValueKit.Geometry
public import Idealize.ShloMosaic.Lib.Pipeline.ValueKit.Acc

@[expose] public section

/-!
# The down projection with its norm: eleven steps over the hidden width
-/

set_option maxRecDepth 16384

noncomputable section

namespace Cert.DownCall

open Idealize.ShloMosaic Idealize.ShloMosaic.TcCoe
open Cert.Calls (unitRow)

section Reference

open Cert.DownReferenceIdeal Cert.DownReferenceIdeal.Facts₀ Cert.DownReferenceIdeal.Facts

/-- The reference's norm. -/
def refNorm (y : FVec Ideal S4x8192x2048 .f32) (w : FVec Ideal S2048 .f32) : FVec Ideal S4x8192x2048 .f32 :=
  mulf (mulf y (broadcastInDim S4x8192x2048 ![0, 1, 2] bcast_S4x8192x1_S4x8192x2048_0_1_2 (Host.rsqrt (addf (Host.divf (broadcastInDim S4x8192x1 ![0, 1] bcast_S4x8192_S4x8192x1_0_1 (Host.reduceAdd (mulf y y) (constant S_ .f32 0x00000000#32) reducesTo_S4x8192x2048_S4x8192_d2 h_S_)) (broadcastInDim S4x8192x1 ![] bcast_S_S4x8192x1 (constant S_ .f32 0x45000000#32))) (broadcastInDim S4x8192x1 ![] bcast_S_S4x8192x1 (constant S_ .f32 0x358637BD#32))))))
    (broadcastInDim S4x8192x2048 ![0, 1, 2] bcast_S1x1x2048_S4x8192x2048_0_1_2 (broadcastInDim S1x1x2048 ![2] bcast_S2048_S1x1x2048_2 w))

/-- The reference's result. -/
def goal (a0 : FVec Ideal S4x8192x5632 .f32) (a1 : FVec Ideal S5632x2048 .f32) (a2 : FVec Ideal S4x8192x2048 .f32) (a3 : FVec Ideal S2048 .f32) : FVec Ideal S32768x2048 .f32 :=
  shapeCast _ (addf a2 (refNorm (Host.dotGeneral dot_S4x8192x5632_S5632x2048_S4x8192x2048_2_0_01_1_n_n none a0 a1) a3)) shapeCasts_S4x8192x2048_S32768x2048

theorem refNorm_at (y : FVec Ideal S4x8192x2048 .f32) (w : FVec Ideal S2048 .f32) (b : Fin 4) (s : Fin 8192) (j : Fin 2048) :
    refNorm y w (ix3 b s j) = unitRow (fun k => y (ix3 b s k)) j * w (ix1 j) := by
  pointwise [refNorm, unitRow]

variable (a0 : FVec Ideal S4x8192x5632 .f32) (a1 : FVec Ideal S5632x2048 .f32) (a2 : FVec Ideal S4x8192x2048 .f32) (a3 : FVec Ideal S2048 .f32) (b : Fin 4) (s : Fin 8192) (j : Fin 2048)

theorem dot_at : Host.dotGeneral dot_S4x8192x5632_S5632x2048_S4x8192x2048_2_0_01_1_n_n none a0 a1 (ix3 b s j) = ∑ k : Fin 5632, a0 (ix3 b s k) * a1 (ix2 k j) := by
  pointwise

theorem cast_goal (y : FVec Ideal S4x8192x2048 .f32) : shapeCast S32768x2048 y shapeCasts_S4x8192x2048_S32768x2048 (ix2 ⟨8192 * b.val + s.val, by omega⟩ j) = y (ix3 b s j) := by
  pointwise

theorem goal_at : goal a0 a1 a2 a3 (ix2 ⟨8192 * b.val + s.val, by omega⟩ j) = a2 (ix3 b s j) + unitRow (fun n => ∑ k : Fin 5632, a0 (ix3 b s k) * a1 (ix2 k n)) j * a3 (ix1 j) := by
  refine (cast_goal b s j _).trans ((congrArg (a2 (ix3 b s j) + ·) (refNorm_at _ a3 b s j)).trans ?_)
  simp only [dot_at]

end Reference

open Cert.DownIdeal Cert.DownIdeal.Gen

variable (m : (ℓ : Loc nD τ sig) → Buf (Elt Ideal) ℓ) (c : Dev nD) (t : Fin cfg0.N)

theorem first_at (x0 : Vec Ideal S1024x512 .bf16) (x1 : Vec Ideal S512x2048 .bf16) (i : Fin 1024) (j : Fin 2048) :
    k0_pay1 x0 x1 (ix2 i j) = ∑ k : Fin 512, x0 (ix2 i k) * x1 (ix2 k j) := by
  pointwise [k0_pay1]

theorem step_at (a : Vec Ideal S1024x2048 .f32) (x0 : Vec Ideal S1024x512 .bf16) (x1 : Vec Ideal S512x2048 .bf16) (i : Fin 1024) (j : Fin 2048) :
    k0_pay2 a x0 x1 (ix2 i j) = a (ix2 i j) + ∑ k : Fin 512, x0 (ix2 i k) * x1 (ix2 k j) := by
  pointwise [k0_pay2]

theorem last_at (a : Vec Ideal S1024x2048 .f32) (x0 : Vec Ideal S1024x512 .bf16) (x1 : Vec Ideal S512x2048 .bf16) (x2 : Vec Ideal S1024x2048 .f32) (x3 : Vec Ideal S1x2048 .f32) (i : Fin 1024) (j : Fin 2048) :
    k0_pay3 a x0 x1 x2 x3 (ix2 i j) = x2 (ix2 i j) + unitRow (fun n => a (ix2 i n) + ∑ k : Fin 512, x0 (ix2 i k) * x1 (ix2 k n)) j * x3 (ix2 0 j) := by
  pointwise [k0_pay3, unitRow]

theorem out_A (h0 : t.val % 11 = 0) : outsAt0 m c t.val t.isLt = k0_pay1 (iblk m c 0 t) (iblk m c 1 t) := by
  rw [outsAt0_A m c t h0 (by omega) (by omega)]
  frame_out

theorem out_B (h1 : 1 ≤ t.val % 11 ∧ t.val % 11 ≤ 9) : outsAt0 m c t.val t.isLt = k0_pay2 (outsAt0 m c (t.val - 1) (Nat.lt_of_le_of_lt (Nat.sub_le _ _) t.isLt)) (iblk m c 0 t) (iblk m c 1 t) := by
  rw [outsAt0_B m c t (by omega) h1 (by omega)]
  frame_out

theorem out_C (h2 : t.val % 11 = 10) : outsAt0 m c t.val t.isLt = k0_pay3 (outsAt0 m c (t.val - 1) (Nat.lt_of_le_of_lt (Nat.sub_le _ _) t.isLt)) (iblk m c 0 t) (iblk m c 1 t) (iblk m c 2 t) (iblk m c 3 t) := by
  rw [outsAt0_C m c t (by omega) (by omega) h2]
  frame_out

theorem outs_congr {n n' : ℕ} (e : n = n') (h : n < cfg0.N) (h' : n' < cfg0.N) : outsAt0 m c n h = outsAt0 m c n' h' := by
  subst e
  rfl

/-- The tokens, one row each. -/
def rows (a : FVec Ideal S4x8192x2048 .f32) : FVec Ideal S32768x2048 .f32 := shapeCast S32768x2048 a shapeCasts_S4x8192x2048_S32768x2048

/-- The hidden layer, one row per token, in the matrix unit's type. -/
def lowRows (a : FVec Ideal S4x8192x5632 .f32) : FVec Ideal S32768x5632 .bf16 := shapeCast S32768x5632 (truncf .bf16 a bitsLt_bf16_f32) shapeCasts_S4x8192x5632_S32768x5632

/-- The weight in the matrix unit's type. -/
def low (a : FVec Ideal S5632x2048 .f32) : FVec Ideal S5632x2048 .bf16 := truncf .bf16 a bitsLt_bf16_f32

/-- A norm's weights. -/
def wide (a : FVec Ideal S2048 .f32) : FVec Ideal S1x2048 .f32 := shapeCast S1x2048 a shapeCasts_S2048_S1x2048

theorem V_0 : V m c main_v1 = lowRows (m (c, main_arg0)) := by
  unfold V hostOps0
  after_reads_simp
  rfl
theorem V_1 : V m c main_v2 = low (m (c, main_arg1)) := by
  unfold V hostOps0
  after_reads_simp
  rfl
theorem V_2 : V m c main_v3 = rows (m (c, main_arg2)) := by
  unfold V hostOps0
  after_reads_simp
  rfl
theorem V_3 : V m c main_v4 = wide (m (c, main_arg3)) := by
  unfold V hostOps0
  after_reads_simp
  rfl

theorem rows_at (a : FVec Ideal S4x8192x2048 .f32) (b : Fin 4) (s : Fin 8192) (k : Fin 2048) :
    rows a (ix2 ⟨8192 * b.val + s.val, by omega⟩ k) = a (ix3 b s k) := by
  pointwise [rows]

theorem lowRows_at (a : FVec Ideal S4x8192x5632 .f32) (b : Fin 4) (s : Fin 8192) (k : Fin 5632) :
    lowRows a (ix2 ⟨8192 * b.val + s.val, by omega⟩ k) = a (ix3 b s k) := by
  pointwise [lowRows]

theorem wide_at (a : FVec Ideal S2048 .f32) (j : Fin 2048) : wide a (ix2 0 j) = a (ix1 j) := by
  pointwise [wide]

/-- The row block and the step of a grid point. -/
def gM (t : Fin cfg0.N) : Fin 32 := cfg0.grid.coords t 0
def gK (t : Fin cfg0.N) : Fin 11 := cfg0.grid.coords t 1

theorem gM_val : ∀ t : Fin cfg0.N, (gM t).val = t.val / 11 := by decide +kernel
theorem gK_val : ∀ t : Fin cfg0.N, (gK t).val = t.val % 11 := by decide +kernel

theorem index0 : ∀ t : Fin cfg0.N, (cfg0.win 0).index t = ![(gM t).val, (gK t).val] := by decide +kernel
theorem index1 : ∀ t : Fin cfg0.N, (cfg0.win 1).index t = ![(gK t).val, 0] := by decide +kernel
theorem index2 : ∀ t : Fin cfg0.N, (cfg0.win 2).index t = ![(gM t).val, 0] := by decide +kernel
theorem index3 : ∀ t : Fin cfg0.N, (cfg0.win 3).index t = ![0, 0] := by decide +kernel
theorem index4 : ∀ t : Fin cfg0.N, (cfg0.win 4).index t = ![(gM t).val, 0] := by decide +kernel

theorem blk0_at (i : Fin 1024) (k : Fin 512) : iblk m c 0 t (ix2 i k) = m (c, main_arg0) (ix3 (⟨(gM t).val / 8, by omega⟩ : Fin 4) (⟨1024 * ((gM t).val % 8) + i.val, by omega⟩ : Fin 8192) (⟨(gK t).val * 512 + k.val, by omega⟩ : Fin 5632)) := by
  refine Eq.trans ?_ (lowRows_at (m (c, main_arg0)) _ _ _)
  rw [← V_0]
  unfold iblk
  refine congrArg (V m c main_v1) (funext fun a => Fin.ext ?_)
  refine (Pipeline.Window.rect_emb_val (cfg0.win 0) t _ a).trans ?_
  rw [index0]
  match a with
  | 0 => exact (show (gM t).val * 1024 + i.val = 8192 * ((gM t).val / 8) + (1024 * ((gM t).val % 8) + i.val) by omega)
  | 1 => rfl

theorem blk1_at (k : Fin 512) (j : Fin 2048) : iblk m c 1 t (ix2 k j) = m (c, main_arg1) (ix2 (⟨(gK t).val * 512 + k.val, by omega⟩ : Fin 5632) j) := by
  refine Eq.trans ?_ (congrFun (V_1 m c) _)
  unfold iblk
  refine congrArg (V m c main_v2) (funext fun a => Fin.ext ?_)
  refine (Pipeline.Window.rect_emb_val (cfg0.win 1) t _ a).trans ?_
  rw [index1]
  match a with
  | 0 => rfl
  | 1 => exact (show 0 * 2048 + j.val = j.val by omega)

theorem blk2_at (i : Fin 1024) (k : Fin 2048) : iblk m c 2 t (ix2 i k) = m (c, main_arg2) (ix3 (⟨(gM t).val / 8, by omega⟩ : Fin 4) (⟨1024 * ((gM t).val % 8) + i.val, by omega⟩ : Fin 8192) k) := by
  refine Eq.trans ?_ (rows_at (m (c, main_arg2)) _ _ k)
  rw [← V_2]
  unfold iblk
  refine congrArg (V m c main_v3) (funext fun a => Fin.ext ?_)
  refine (Pipeline.Window.rect_emb_val (cfg0.win 2) t _ a).trans ?_
  rw [index2]
  match a with
  | 0 => exact (show (gM t).val * 1024 + i.val = 8192 * ((gM t).val / 8) + (1024 * ((gM t).val % 8) + i.val) by omega)
  | 1 => exact (show 0 * 2048 + k.val = k.val by omega)

theorem blk3_at (j : Fin 2048) : iblk m c 3 t (ix2 0 j) = m (c, main_arg3) (ix1 j) := by
  refine Eq.trans ?_ (wide_at (m (c, main_arg3)) j)
  rw [← V_3]
  unfold iblk
  refine congrArg (V m c main_v4) (funext fun a => Fin.ext ?_)
  refine (Pipeline.Window.rect_emb_val (cfg0.win 3) t _ a).trans ?_
  rw [index3]
  match a with
  | 0 => rfl
  | 1 => exact (show 0 * 2048 + j.val = j.val by omega)

/-- The product at a place of the hidden width, for a row of row block `q` and a column. -/
def prod (a0 : FVec Ideal S4x8192x5632 .f32) (a1 : FVec Ideal S5632x2048 .f32) (q : Fin 32) (i : Fin 1024) (j : Fin 2048) (l : Fin 5632) : EReal :=
  a0 (ix3 (⟨q.val / 8, by omega⟩ : Fin 4) (⟨1024 * (q.val % 8) + i.val, by omega⟩ : Fin 8192) l) * a1 (ix2 l j)

/-- One step's products. -/
def part (a0 : FVec Ideal S4x8192x5632 .f32) (a1 : FVec Ideal S5632x2048 .f32) (q : Fin 32) (i : Fin 1024) (j : Fin 2048) (s : ℕ) : EReal :=
  if h : s < 11 then ∑ k : Fin 512, prod a0 a1 q i j ⟨s * 512 + k.val, by omega⟩ else 0

theorem part_eq (x0 : Vec Ideal S1024x512 .bf16) (x1 : Vec Ideal S512x2048 .bf16) (h0 : x0 = iblk m c 0 t) (h1 : x1 = iblk m c 1 t) (q : Fin 32) (r : ℕ) (hM : gM t = q) (hK : (gK t).val = r) (i : Fin 1024) (j : Fin 2048) :
    ∑ k : Fin 512, x0 (ix2 i k) * x1 (ix2 k j) = part (m (c, main_arg0)) (m (c, main_arg1)) q i j r := by
  subst h0 h1 hM hK
  unfold part
  rw [dif_pos (gK t).isLt]
  exact Finset.sum_congr rfl fun k _ => congrArg₂ (fun x y : EReal => x * y) (blk0_at m c t i k) (blk1_at m c t k j)

theorem part_sum (a0 : FVec Ideal S4x8192x5632 .f32) (a1 : FVec Ideal S5632x2048 .f32) (q : Fin 32) (i : Fin 1024) (j : Fin 2048) :
    ∑ s ∈ Finset.range 11, part a0 a1 q i j s = ∑ l : Fin 5632, prod a0 a1 q i j l := by
  rw [Finset.sum_range]
  refine Eq.trans (Finset.sum_congr rfl fun s _ => ?_) (Fin.sum_mul_add_fin 11 512 (prod a0 a1 q i j))
  unfold part
  rw [dif_pos s.isLt]

/-- The running sum after a step that is not the last. -/
theorem acc_at (q : Fin 32) (i : Fin 1024) (j : Fin 2048) : ∀ (r : ℕ) (_ : r ≤ 9) (h : 11 * q.val + r < cfg0.N),
    outsAt0 m c (11 * q.val + r) h (ix2 i j) = ∑ s ∈ Finset.range (r + 1), part (m (c, main_arg0)) (m (c, main_arg1)) q i j s := by
  intro r
  induction r with
  | zero =>
    intro _ h
    have hM : gM ⟨11 * q.val + 0, h⟩ = q := Fin.ext ((gM_val _).trans (show (11 * q.val + 0) / 11 = q.val by omega))
    have hK : (gK ⟨11 * q.val + 0, h⟩).val = 0 := (gK_val _).trans (show (11 * q.val + 0) % 11 = 0 by omega)
    refine (congrFun (out_A m c ⟨11 * q.val + 0, h⟩ (show (11 * q.val + 0) % 11 = 0 by omega)) (ix2 i j)).trans ?_
    exact (first_at _ _ i j).trans ((part_eq m c _ _ _ rfl rfl q 0 hM hK i j).trans (Finset.sum_range_one _).symm)
  | succ r ih =>
    intro hr h
    have hM : gM ⟨11 * q.val + (r + 1), h⟩ = q := Fin.ext ((gM_val _).trans (show (11 * q.val + (r + 1)) / 11 = q.val by omega))
    have hK : (gK ⟨11 * q.val + (r + 1), h⟩).val = r + 1 := (gK_val _).trans (show (11 * q.val + (r + 1)) % 11 = r + 1 by omega)
    refine (congrFun (out_B m c ⟨11 * q.val + (r + 1), h⟩ (show 1 ≤ (11 * q.val + (r + 1)) % 11 ∧ (11 * q.val + (r + 1)) % 11 ≤ 9 by omega)) (ix2 i j)).trans ?_
    refine (step_at _ _ _ i j).trans (Eq.trans ?_ (Finset.sum_range_succ _ (r + 1)).symm)
    refine congrArg₂ (fun x y : EReal => x + y) ?_ (part_eq m c _ _ _ rfl rfl q (r + 1) hM hK i j)
    exact (congrFun (outs_congr m c (show 11 * q.val + (r + 1) - 1 = 11 * q.val + r by omega) _ (by omega)) (ix2 i j)).trans (ih (by omega) _)

/-- The last step's running sum is the whole product. -/
theorem whole_at (h : t.val % 11 = 10) (a : Vec Ideal S1024x2048 .f32) (x0 : Vec Ideal S1024x512 .bf16) (x1 : Vec Ideal S512x2048 .bf16)
    (ha : a = outsAt0 m c (t.val - 1) (Nat.lt_of_le_of_lt (Nat.sub_le _ _) t.isLt)) (h0 : x0 = iblk m c 0 t) (h1 : x1 = iblk m c 1 t) (i : Fin 1024) (j : Fin 2048) :
    a (ix2 i j) + ∑ k : Fin 512, x0 (ix2 i k) * x1 (ix2 k j) = ∑ l : Fin 5632, prod (m (c, main_arg0)) (m (c, main_arg1)) (gM t) i j l := by
  subst ha
  have hM := gM_val t
  have hN := t.isLt
  refine Eq.trans ?_ ((Finset.sum_range_succ _ 10).symm.trans (part_sum _ _ _ i j))
  refine congrArg₂ (fun x y : EReal => x + y) ?_ (part_eq m c t _ _ h0 h1 (gM t) 10 rfl ((gK_val t).trans h) i j)
  exact (congrFun (outs_congr m c (show t.val - 1 = 11 * (gM t).val + 9 by omega) _ (by omega)) (ix2 i j)).trans (acc_at m c (gM t) i j 9 (by omega) _)

/-- The block written back. -/
theorem out_at (h : t.val % 11 = 10) (i : Fin 1024) (j : Fin 2048) : outsAt0 m c t.val t.isLt (ix2 i j)
    = goal (m (c, main_arg0)) (m (c, main_arg1)) (m (c, main_arg2)) (m (c, main_arg3)) (ix2 (⟨8192 * ((gM t).val / 8) + (1024 * ((gM t).val % 8) + i.val), by omega⟩ : Fin 32768) j) := by
  refine Eq.trans ?_ (goal_at _ _ _ _ ⟨(gM t).val / 8, by omega⟩ ⟨1024 * ((gM t).val % 8) + i.val, by omega⟩ _).symm
  refine (congrFun (out_C m c t h) (ix2 i j)).trans ((last_at _ _ _ _ _ i j).trans ?_)
  refine congrArg₂ (fun x y : EReal => x + y) (blk2_at m c t i j) (congrArg₂ (fun x y : EReal => x * y) ?_ (blk3_at m c t j))
  exact congrArg (fun f : Fin 2048 → EReal => unitRow f j) (funext fun n => whole_at m c t h _ _ _ rfl rfl rfl i n)

/-- The call's result is the reference's. -/
theorem final : (dats m 0 c).arrAt 4 cfg0.N = goal (m (c, main_arg0)) (m (c, main_arg1)) (m (c, main_arg2)) (m (c, main_arg3)) := by
  refine (dats m 0 c).arrAt_eq_of_covers 4 _ (by decide +kernel) (fun t hf y => ?_) (Memref.isWhole_whole _)
  have h : t.val % 11 = 10 := (flush0_4 t).mp hf
  refine (congrFun (Value.flushed4 m c t) y).trans ?_
  refine Eq.trans ((congrArg (outsAt0 m c t.val t.isLt) (ix2_eta y).symm).trans (out_at m c t h (y 0) (y 1))) ?_
  refine congrArg (goal (m (c, main_arg0)) (m (c, main_arg1)) (m (c, main_arg2)) (m (c, main_arg3))) (funext fun a => Fin.ext ?_)
  refine Eq.trans ?_ (Pipeline.Window.rect_emb_val (cfg0.win 4) t y a).symm
  rw [index4]
  match a with
  | 0 => exact (show 8192 * ((gM t).val / 8) + (1024 * ((gM t).val % 8) + (y 0).val) = (gM t).val * 1024 + (y 0).val by omega)
  | 1 => exact (show (y 1).val = 0 * 2048 + (y 1).val by omega)

theorem frame_kernel : Cert.quiescent_Down := fun m ρ _ => Cert.Down.Gen.frame (F := Bits) m ρ

theorem frame_ideal : Cert.quiescent_DownIdeal := fun m ρ _ => Cert.DownIdeal.Gen.frame (F := Ideal) m ρ

theorem frame_reference : Cert.quiescent_DownReferenceIdeal := by
  intro m g _
  hlo_run
  · exact fun _ => ⟨trivial, trivial, trivial, trivial⟩
  · exact sem_eq_zero_of_no_sems (by decide) _

theorem preserves : Cert.preserves_Down_DownIdeal := trivial

/-- The program and the reference leave equal arrays. -/
theorem algebraic : Cert.algebraic_DownIdeal_DownReferenceIdeal := by
  intro m g m' g' _ hagree
  refine ⟨fun c => goal (m (c, main_arg0)) (m (c, main_arg1)) (m (c, main_arg2)) (m (c, main_arg3)), ?_, ?_⟩
  · exact θ_run_mono (Cert.DownIdeal.Value.run_blocks (F := Ideal) m g) fun r h c => ⟨(h c).1.trans (final m c), (h c).2⟩
  · refine θ_run_mono (Cert.DownReferenceIdeal.Value.run (F := Ideal) m' g') fun r h c => ⟨(h c).1.trans ?_, (h c).2⟩
    obtain ⟨e0, e1, e2, e3⟩ := hagree c
    rw [e0, e1, e2, e3]
    rfl

end Cert.DownCall

end
-- ==== Proof.Calls.Merge.lean ====
module

public import proofs.«01_k».proof.Defs
public import proofs.«01_k».proof.Proof.Gen.Merge.Frame
public import proofs.«01_k».proof.Proof.Gen.MergeIdeal.Value
public import proofs.«01_k».proof.Proof.Gen.MergeReferenceIdeal.Run
public import Idealize.ShloMosaic.Lib.Pointwise
public import Idealize.ShloMosaic.Lib.Claim
public import Idealize.ShloMosaic.Lib.StableHlo.RunHlo
public import Idealize.ShloMosaic.Lib.StableHlo.RunRead
public import Idealize.ShloMosaic.Lib.Pipeline.ValueKit.Geometry
public import Idealize.ShloMosaic.Lib.Pipeline.ValueKit.Basic

@[expose] public section

/-!
# The gated merge of the branches, element by element
-/

set_option maxRecDepth 16384

noncomputable section

namespace Cert.MergeCall

open Idealize.ShloMosaic Idealize.ShloMosaic.TcCoe

/-- The merge at an index, out of the two gates and the two branches. -/
def cell (za zb a b : EReal) : EReal := Ideal.div 1 (1 + Ideal.exp (-za)) * a + Ideal.div 1 (1 + Ideal.exp (-zb)) * b

section Reference

open Cert.MergeReferenceIdeal Cert.MergeReferenceIdeal.Facts₀ Cert.MergeReferenceIdeal.Facts

/-- The reference's result. -/
def goal (a0 a1 a2 : FVec Ideal S4x8192x2048 .f32) (a3 : FVec Ideal S2048x14336 .f32) (a4 a5 : FVec Ideal S2048x2048 .f32) : FVec Ideal S32768x2048 .bf16 :=
  truncf .bf16 (shapeCast _ (addf (mulf (Host.divf (broadcastInDim S4x8192x2048 ![] bcast_S_S4x8192x2048 (constant S_ .f32 0x3F800000#32)) (addf (broadcastInDim S4x8192x2048 ![] bcast_S_S4x8192x2048 (constant S_ .f32 0x3F800000#32)) (Host.exp (Host.negf (extractStridedSlice S4x8192x2048 ![0, 0, 10240] (Host.dotGeneral dot_S4x8192x2048_S2048x14336_S4x8192x14336_2_0_01_1_n_n none a0 a3) slices_S4x8192x14336_S4x8192x2048_0_0_10240))))) (Host.dotGeneral dot_S4x8192x2048_S2048x2048_S4x8192x2048_2_0_01_1_n_n none a1 a4)) (mulf (Host.divf (broadcastInDim S4x8192x2048 ![] bcast_S_S4x8192x2048 (constant S_ .f32 0x3F800000#32)) (addf (broadcastInDim S4x8192x2048 ![] bcast_S_S4x8192x2048 (constant S_ .f32 0x3F800000#32)) (Host.exp (Host.negf (extractStridedSlice S4x8192x2048 ![0, 0, 12288] (Host.dotGeneral dot_S4x8192x2048_S2048x14336_S4x8192x14336_2_0_01_1_n_n none a0 a3) slices_S4x8192x14336_S4x8192x2048_0_0_12288))))) (Host.dotGeneral dot_S4x8192x2048_S2048x2048_S4x8192x2048_2_0_01_1_n_n none a2 a5))) shapeCasts_S4x8192x2048_S32768x2048) bitsLt_bf16_f32

theorem goal_at (a0 a1 a2 : FVec Ideal S4x8192x2048 .f32) (a3 : FVec Ideal S2048x14336 .f32) (a4 a5 : FVec Ideal S2048x2048 .f32) (b : Fin 4) (s : Fin 8192) (j : Fin 2048) :
    goal a0 a1 a2 a3 a4 a5 (ix2 ⟨8192 * b.val + s.val, by omega⟩ j) = cell (∑ k : Fin 2048, a0 (ix3 b s k) * a3 (ix2 k ⟨10240 + j.val, by omega⟩)) (∑ k : Fin 2048, a0 (ix3 b s k) * a3 (ix2 k ⟨12288 + j.val, by omega⟩))
      (∑ k : Fin 2048, a1 (ix3 b s k) * a4 (ix2 k j)) (∑ k : Fin 2048, a2 (ix3 b s k) * a5 (ix2 k j)) := by
  pointwise [goal, cell]

end Reference

open Cert.MergeIdeal Cert.MergeIdeal.Gen

variable (m : (ℓ : Loc nD τ sig) → Buf (Elt Ideal) ℓ) (c : Dev nD) (t : Fin cfg0.N)

/-- The block the body leaves, at an index. -/
theorem body_at (x0 x1 x2 : Vec Ideal S1024x2048 .bf16) (x3 x4 x5 x6 : Vec Ideal S2048x512 .bf16) (i : Fin 1024) (j : Fin 512) :
    k0_pay1 x0 x3 x4 x1 x5 x2 x6 (ix2 i j) = cell (∑ k : Fin 2048, x0 (ix2 i k) * x3 (ix2 k j)) (∑ k : Fin 2048, x0 (ix2 i k) * x4 (ix2 k j)) (∑ k : Fin 2048, x1 (ix2 i k) * x5 (ix2 k j)) (∑ k : Fin 2048, x2 (ix2 i k) * x6 (ix2 k j)) := by
  pointwise [k0_pay1, cell, Ideal.logistic]

theorem out_eq (x0 x1 x2 : Vec Ideal S1024x2048 .bf16) (x3 x4 x5 x6 : Vec Ideal S2048x512 .bf16) : out0_7 x0 x1 x2 x3 x4 x5 x6 = k0_pay1 x0 x3 x4 x1 x5 x2 x6 := by
  unfold out0_7
  rw [View.canon_cons_unit_lit _ _ _ (by decide)]
  rw [View.ld_unit_lit _ x0 (by decide), View.ld_unit_lit _ x1 (by decide), View.ld_unit_lit _ x2 (by decide), View.ld_unit_lit _ x3 (by decide), View.ld_unit_lit _ x4 (by decide), View.ld_unit_lit _ x5 (by decide), View.ld_unit_lit _ x6 (by decide)]

/-- The tokens, one row each, in the matrix unit's type. -/
def rows (a : FVec Ideal S4x8192x2048 .f32) : FVec Ideal S32768x2048 .bf16 := shapeCast S32768x2048 (truncf .bf16 a bitsLt_bf16_f32) shapeCasts_S4x8192x2048_S32768x2048

/-- A weight in the matrix unit's type. -/
def low {s : Shape} (a : FVec Ideal s .f32) : FVec Ideal s .bf16 := truncf .bf16 a bitsLt_bf16_f32

theorem V_0 : V m c main_v1 = rows (m (c, main_arg0)) := by
  unfold V hostOps0
  after_reads_simp
  rfl
theorem V_1 : V m c main_v3 = rows (m (c, main_arg1)) := by
  unfold V hostOps0
  after_reads_simp
  rfl
theorem V_2 : V m c main_v5 = rows (m (c, main_arg2)) := by
  unfold V hostOps0
  after_reads_simp
  rfl
theorem V_3 : V m c main_v6 = low (m (c, main_arg3)) := by
  unfold V hostOps0
  after_reads_simp
  rfl
theorem V_4 : V m c main_v7 = low (m (c, main_arg4)) := by
  unfold V hostOps0
  after_reads_simp
  rfl
theorem V_5 : V m c main_v8 = low (m (c, main_arg5)) := by
  unfold V hostOps0
  after_reads_simp
  rfl

theorem rows_at (a : FVec Ideal S4x8192x2048 .f32) (b : Fin 4) (s : Fin 8192) (k : Fin 2048) :
    rows a (ix2 ⟨8192 * b.val + s.val, by omega⟩ k) = a (ix3 b s k) := by
  pointwise [rows]

/-- The column block and the row block of a grid point. -/
def gN (t : Fin cfg0.N) : Fin 4 := cfg0.grid.coords t 0
def gM (t : Fin cfg0.N) : Fin 32 := cfg0.grid.coords t 1

theorem index0 : ∀ t : Fin cfg0.N, (cfg0.win 0).index t = ![(gM t).val, 0] := by decide +kernel
theorem index1 : ∀ t : Fin cfg0.N, (cfg0.win 1).index t = ![(gM t).val, 0] := by decide +kernel
theorem index2 : ∀ t : Fin cfg0.N, (cfg0.win 2).index t = ![(gM t).val, 0] := by decide +kernel
theorem index3 : ∀ t : Fin cfg0.N, (cfg0.win 3).index t = ![0, 20 + (gN t).val] := by decide +kernel
theorem index4 : ∀ t : Fin cfg0.N, (cfg0.win 4).index t = ![0, 24 + (gN t).val] := by decide +kernel
theorem index5 : ∀ t : Fin cfg0.N, (cfg0.win 5).index t = ![0, (gN t).val] := by decide +kernel
theorem index6 : ∀ t : Fin cfg0.N, (cfg0.win 6).index t = ![0, (gN t).val] := by decide +kernel
theorem index7 : ∀ t : Fin cfg0.N, (cfg0.win 7).index t = ![(gM t).val, (gN t).val] := by decide +kernel

theorem blk0_at (i : Fin 1024) (k : Fin 2048) : iblk m c 0 t (ix2 i k) = m (c, main_arg0) (ix3 (⟨(gM t).val / 8, by omega⟩ : Fin 4) (⟨1024 * ((gM t).val % 8) + i.val, by omega⟩ : Fin 8192) k) := by
  refine Eq.trans ?_ (rows_at (m (c, main_arg0)) _ _ k)
  rw [← V_0]
  unfold iblk
  refine congrArg (V m c main_v1) (funext fun a => Fin.ext ?_)
  refine (Pipeline.Window.rect_emb_val (cfg0.win 0) t _ a).trans ?_
  rw [index0]
  match a with
  | 0 => exact (show (gM t).val * 1024 + i.val = 8192 * ((gM t).val / 8) + (1024 * ((gM t).val % 8) + i.val) by omega)
  | 1 => exact (show 0 * 2048 + k.val = k.val by omega)

theorem blk1_at (i : Fin 1024) (k : Fin 2048) : iblk m c 1 t (ix2 i k) = m (c, main_arg1) (ix3 (⟨(gM t).val / 8, by omega⟩ : Fin 4) (⟨1024 * ((gM t).val % 8) + i.val, by omega⟩ : Fin 8192) k) := by
  refine Eq.trans ?_ (rows_at (m (c, main_arg1)) _ _ k)
  rw [← V_1]
  unfold iblk
  refine congrArg (V m c main_v3) (funext fun a => Fin.ext ?_)
  refine (Pipeline.Window.rect_emb_val (cfg0.win 1) t _ a).trans ?_
  rw [index1]
  match a with
  | 0 => exact (show (gM t).val * 1024 + i.val = 8192 * ((gM t).val / 8) + (1024 * ((gM t).val % 8) + i.val) by omega)
  | 1 => exact (show 0 * 2048 + k.val = k.val by omega)

theorem blk2_at (i : Fin 1024) (k : Fin 2048) : iblk m c 2 t (ix2 i k) = m (c, main_arg2) (ix3 (⟨(gM t).val / 8, by omega⟩ : Fin 4) (⟨1024 * ((gM t).val % 8) + i.val, by omega⟩ : Fin 8192) k) := by
  refine Eq.trans ?_ (rows_at (m (c, main_arg2)) _ _ k)
  rw [← V_2]
  unfold iblk
  refine congrArg (V m c main_v5) (funext fun a => Fin.ext ?_)
  refine (Pipeline.Window.rect_emb_val (cfg0.win 2) t _ a).trans ?_
  rw [index2]
  match a with
  | 0 => exact (show (gM t).val * 1024 + i.val = 8192 * ((gM t).val / 8) + (1024 * ((gM t).val % 8) + i.val) by omega)
  | 1 => exact (show 0 * 2048 + k.val = k.val by omega)

theorem blk3_at (k : Fin 2048) (j : Fin 512) : iblk m c 3 t (ix2 k j) = m (c, main_arg3) (ix2 k (⟨10240 + (512 * (gN t).val + j.val), by omega⟩ : Fin 14336)) := by
  refine Eq.trans ?_ (congrFun (V_3 m c) _)
  unfold iblk
  refine congrArg (V m c main_v6) (funext fun a => Fin.ext ?_)
  refine (Pipeline.Window.rect_emb_val (cfg0.win 3) t _ a).trans ?_
  rw [index3]
  match a with
  | 0 => exact (show 0 * 2048 + k.val = k.val by omega)
  | 1 => exact (show (20 + (gN t).val) * 512 + j.val = 10240 + (512 * (gN t).val + j.val) by omega)

theorem blk4_at (k : Fin 2048) (j : Fin 512) : iblk m c 4 t (ix2 k j) = m (c, main_arg3) (ix2 k (⟨12288 + (512 * (gN t).val + j.val), by omega⟩ : Fin 14336)) := by
  refine Eq.trans ?_ (congrFun (V_3 m c) _)
  unfold iblk
  refine congrArg (V m c main_v6) (funext fun a => Fin.ext ?_)
  refine (Pipeline.Window.rect_emb_val (cfg0.win 4) t _ a).trans ?_
  rw [index4]
  match a with
  | 0 => exact (show 0 * 2048 + k.val = k.val by omega)
  | 1 => exact (show (24 + (gN t).val) * 512 + j.val = 12288 + (512 * (gN t).val + j.val) by omega)

theorem blk5_at (k : Fin 2048) (j : Fin 512) : iblk m c 5 t (ix2 k j) = m (c, main_arg4) (ix2 k (⟨512 * (gN t).val + j.val, by omega⟩ : Fin 2048)) := by
  refine Eq.trans ?_ (congrFun (V_4 m c) _)
  unfold iblk
  refine congrArg (V m c main_v7) (funext fun a => Fin.ext ?_)
  refine (Pipeline.Window.rect_emb_val (cfg0.win 5) t _ a).trans ?_
  rw [index5]
  match a with
  | 0 => exact (show 0 * 2048 + k.val = k.val by omega)
  | 1 => exact (show (gN t).val * 512 + j.val = 512 * (gN t).val + j.val by omega)

theorem blk6_at (k : Fin 2048) (j : Fin 512) : iblk m c 6 t (ix2 k j) = m (c, main_arg5) (ix2 k (⟨512 * (gN t).val + j.val, by omega⟩ : Fin 2048)) := by
  refine Eq.trans ?_ (congrFun (V_5 m c) _)
  unfold iblk
  refine congrArg (V m c main_v8) (funext fun a => Fin.ext ?_)
  refine (Pipeline.Window.rect_emb_val (cfg0.win 6) t _ a).trans ?_
  rw [index6]
  match a with
  | 0 => exact (show 0 * 2048 + k.val = k.val by omega)
  | 1 => exact (show (gN t).val * 512 + j.val = 512 * (gN t).val + j.val by omega)

/-- The call's result is the reference's. -/
theorem final : (dats m 0 c).arrAt 7 cfg0.N = goal (m (c, main_arg0)) (m (c, main_arg1)) (m (c, main_arg2)) (m (c, main_arg3)) (m (c, main_arg4)) (m (c, main_arg5)) := by
  refine (dats m 0 c).arrAt_eq_of_covers 7 _ (by decide +kernel) (fun t _ y => ?_) (Memref.isWhole_whole _)
  have hrow : ∀ (i : Fin 1024) (j : Fin 512), k0_pay1 (iblk m c 0 t) (iblk m c 3 t) (iblk m c 4 t) (iblk m c 1 t) (iblk m c 5 t) (iblk m c 2 t) (iblk m c 6 t) (ix2 i j)
      = goal (m (c, main_arg0)) (m (c, main_arg1)) (m (c, main_arg2)) (m (c, main_arg3)) (m (c, main_arg4)) (m (c, main_arg5)) (ix2 (⟨8192 * ((gM t).val / 8) + (1024 * ((gM t).val % 8) + i.val), by omega⟩ : Fin 32768) (⟨512 * (gN t).val + j.val, by omega⟩ : Fin 2048)) := fun i j => by
    refine Eq.trans ?_ (goal_at _ _ _ _ _ _ ⟨(gM t).val / 8, by omega⟩ ⟨1024 * ((gM t).val % 8) + i.val, by omega⟩ _).symm
    rw [body_at]
    simp only [blk0_at, blk1_at, blk2_at, blk3_at, blk4_at, blk5_at, blk6_at]
  refine (congrFun ((Value.flushed7 m c t).trans (congrArg _ (out_eq _ _ _ _ _ _ _))) y).trans ?_
  refine Eq.trans ((congrArg (k0_pay1 (iblk m c 0 t) (iblk m c 3 t) (iblk m c 4 t) (iblk m c 1 t) (iblk m c 5 t) (iblk m c 2 t) (iblk m c 6 t)) (ix2_eta y).symm).trans (hrow (y 0) (y 1))) ?_
  refine congrArg (goal (m (c, main_arg0)) (m (c, main_arg1)) (m (c, main_arg2)) (m (c, main_arg3)) (m (c, main_arg4)) (m (c, main_arg5))) (funext fun a => Fin.ext ?_)
  refine Eq.trans ?_ (Pipeline.Window.rect_emb_val (cfg0.win 7) t y a).symm
  rw [index7]
  match a with
  | 0 => exact (show 8192 * ((gM t).val / 8) + (1024 * ((gM t).val % 8) + (y 0).val) = (gM t).val * 1024 + (y 0).val by omega)
  | 1 => exact (show 512 * (gN t).val + (y 1).val = (gN t).val * 512 + (y 1).val by omega)

theorem frame_kernel : Cert.quiescent_Merge := fun m ρ _ => Cert.Merge.Gen.frame (F := Bits) m ρ

theorem frame_ideal : Cert.quiescent_MergeIdeal := fun m ρ _ => Cert.MergeIdeal.Gen.frame (F := Ideal) m ρ

theorem frame_reference : Cert.quiescent_MergeReferenceIdeal := by
  intro m g _
  hlo_run
  · exact fun _ => ⟨trivial, trivial, trivial, trivial, trivial, trivial⟩
  · exact sem_eq_zero_of_no_sems (by decide) _

theorem preserves : Cert.preserves_Merge_MergeIdeal := trivial

/-- The program and the reference leave equal arrays. -/
theorem algebraic : Cert.algebraic_MergeIdeal_MergeReferenceIdeal := by
  intro m g m' g' _ hagree
  refine ⟨fun c => goal (m (c, main_arg0)) (m (c, main_arg1)) (m (c, main_arg2)) (m (c, main_arg3)) (m (c, main_arg4)) (m (c, main_arg5)), ?_, ?_⟩
  · exact θ_run_mono (Cert.MergeIdeal.Value.run_blocks (F := Ideal) m g) fun r h c => ⟨(h c).1.trans (final m c), (h c).2⟩
  · refine θ_run_mono (Cert.MergeReferenceIdeal.Value.run (F := Ideal) m' g') fun r h c => ⟨(h c).1.trans ?_, (h c).2⟩
    obtain ⟨e0, e1, e2, e3, e4, e5⟩ := hagree c
    rw [e0, e1, e2, e3, e4, e5]
    rfl

end Cert.MergeCall

end
-- ==== Proof.Calls.OutProj.lean ====
module

public import proofs.«01_k».proof.Defs
public import proofs.«01_k».proof.Proof.Calls.Norm
public import proofs.«01_k».proof.Proof.Gen.OutProj.Frame
public import proofs.«01_k».proof.Proof.Gen.OutProjIdeal.Value
public import proofs.«01_k».proof.Proof.Gen.OutProjReferenceIdeal.Run
public import Idealize.ShloMosaic.Lib.Pointwise
public import Idealize.ShloMosaic.Lib.Claim
public import Idealize.ShloMosaic.Lib.StableHlo.RunHlo
public import Idealize.ShloMosaic.Lib.StableHlo.RunRead
public import Idealize.ShloMosaic.Lib.Pipeline.ValueKit.Geometry
public import Idealize.ShloMosaic.Lib.Pipeline.ValueKit.Basic

@[expose] public section

/-!
# The output projection with its two norms, element by element
-/

set_option maxRecDepth 16384

noncomputable section

namespace Cert.OutProjCall

open Idealize.ShloMosaic Idealize.ShloMosaic.TcCoe
open Cert.Calls (unitRow)

section Reference

open Cert.OutProjReferenceIdeal Cert.OutProjReferenceIdeal.Facts₀ Cert.OutProjReferenceIdeal.Facts

/-- The reference's norm. -/
def refNorm (y : FVec Ideal S4x8192x2048 .f32) (w : FVec Ideal S2048 .f32) : FVec Ideal S4x8192x2048 .f32 :=
  mulf (mulf y (broadcastInDim S4x8192x2048 ![0, 1, 2] bcast_S4x8192x1_S4x8192x2048_0_1_2 (Host.rsqrt (addf (Host.divf (broadcastInDim S4x8192x1 ![0, 1] bcast_S4x8192_S4x8192x1_0_1 (Host.reduceAdd (mulf y y) (constant S_ .f32 0x00000000#32) reducesTo_S4x8192x2048_S4x8192_d2 h_S_)) (broadcastInDim S4x8192x1 ![] bcast_S_S4x8192x1 (constant S_ .f32 0x45000000#32))) (broadcastInDim S4x8192x1 ![] bcast_S_S4x8192x1 (constant S_ .f32 0x358637BD#32))))))
    (broadcastInDim S4x8192x2048 ![0, 1, 2] bcast_S1x1x2048_S4x8192x2048_0_1_2 (broadcastInDim S1x1x2048 ![2] bcast_S2048_S1x1x2048_2 w))

/-- The reference's residual stream after the mixer. -/
def refRes (a0 : FVec Ideal S4x8192x2048 .f32) (a1 : FVec Ideal S2048x2048 .f32) (a2 : FVec Ideal S4x8192x2048 .f32) (a3 : FVec Ideal S2048 .f32) : FVec Ideal S4x8192x2048 .f32 :=
  addf a2 (refNorm (Host.dotGeneral dot_S4x8192x2048_S2048x2048_S4x8192x2048_2_0_01_1_n_n none a0 a1) a3)

/-- The reference's first result. -/
def goal0 (a0 : FVec Ideal S4x8192x2048 .f32) (a1 : FVec Ideal S2048x2048 .f32) (a2 : FVec Ideal S4x8192x2048 .f32) (a3 : FVec Ideal S2048 .f32) : FVec Ideal S32768x2048 .f32 :=
  shapeCast _ (refRes a0 a1 a2 a3) shapeCasts_S4x8192x2048_S32768x2048

/-- The reference's second result. -/
def goal1 (a0 : FVec Ideal S4x8192x2048 .f32) (a1 : FVec Ideal S2048x2048 .f32) (a2 : FVec Ideal S4x8192x2048 .f32) (a3 a4 : FVec Ideal S2048 .f32) : FVec Ideal S32768x2048 .bf16 :=
  truncf .bf16 (shapeCast _ (refNorm (refRes a0 a1 a2 a3) a4) shapeCasts_S4x8192x2048_S32768x2048) bitsLt_bf16_f32

theorem refNorm_at (y : FVec Ideal S4x8192x2048 .f32) (w : FVec Ideal S2048 .f32) (b : Fin 4) (s : Fin 8192) (j : Fin 2048) :
    refNorm y w (ix3 b s j) = unitRow (fun k => y (ix3 b s k)) j * w (ix1 j) := by
  pointwise [refNorm, unitRow]

variable (a0 : FVec Ideal S4x8192x2048 .f32) (a1 : FVec Ideal S2048x2048 .f32) (a2 : FVec Ideal S4x8192x2048 .f32) (a3 a4 : FVec Ideal S2048 .f32) (b : Fin 4) (s : Fin 8192) (j : Fin 2048)

theorem dot_at : Host.dotGeneral dot_S4x8192x2048_S2048x2048_S4x8192x2048_2_0_01_1_n_n none a0 a1 (ix3 b s j) = ∑ k : Fin 2048, a0 (ix3 b s k) * a1 (ix2 k j) := by
  pointwise

theorem refRes_at : refRes a0 a1 a2 a3 (ix3 b s j) = a2 (ix3 b s j) + unitRow (fun n => ∑ k : Fin 2048, a0 (ix3 b s k) * a1 (ix2 k n)) j * a3 (ix1 j) := by
  refine (congrArg (a2 (ix3 b s j) + ·) (refNorm_at _ a3 b s j)).trans ?_
  simp only [dot_at]

theorem goal0_at : goal0 a0 a1 a2 a3 (ix2 ⟨8192 * b.val + s.val, by omega⟩ j) = refRes a0 a1 a2 a3 (ix3 b s j) := by
  pointwise [goal0]

theorem goal1_at : goal1 a0 a1 a2 a3 a4 (ix2 ⟨8192 * b.val + s.val, by omega⟩ j) = unitRow (fun n => refRes a0 a1 a2 a3 (ix3 b s n)) j * a4 (ix1 j) := by
  refine Eq.trans ?_ (refNorm_at _ a4 b s j)
  pointwise [goal1]

end Reference

open Cert.OutProjIdeal Cert.OutProjIdeal.Gen

variable (m : (ℓ : Loc nD τ sig) → Buf (Elt Ideal) ℓ) (c : Dev nD) (t : Fin cfg0.N)

theorem body0_at (x0 : Vec Ideal S512x2048 .bf16) (x1 : Vec Ideal S2048x2048 .bf16) (x2 : Vec Ideal S512x2048 .f32) (x3 : Vec Ideal S1x2048 .f32) (i : Fin 512) (j : Fin 2048) :
    k0_pay1 x0 x1 x2 x3 (ix2 i j) = x2 (ix2 i j) + unitRow (fun n => ∑ k : Fin 2048, x0 (ix2 i k) * x1 (ix2 k n)) j * x3 (ix2 0 j) := by
  pointwise [k0_pay1, unitRow]

theorem body1_at (x0 : Vec Ideal S512x2048 .bf16) (x1 : Vec Ideal S2048x2048 .bf16) (x2 : Vec Ideal S512x2048 .f32) (x3 x4 : Vec Ideal S1x2048 .f32) (i : Fin 512) (j : Fin 2048) :
    k0_pay2 x0 x1 x2 x3 x4 (ix2 i j) = unitRow (fun n => k0_pay1 x0 x1 x2 x3 (ix2 i n)) j * x4 (ix2 0 j) := by
  unfold k0_pay2
  generalize k0_pay1 x0 x1 x2 x3 = r
  pointwise [unitRow]

theorem out0_eq (x0 : Vec Ideal S512x2048 .bf16) (x1 : Vec Ideal S2048x2048 .bf16) (x2 : Vec Ideal S512x2048 .f32) (x3 x4 : Vec Ideal S1x2048 .f32) : out0_5 x0 x1 x2 x3 x4 = k0_pay1 x0 x1 x2 x3 := by
  unfold out0_5
  rw [View.canon_cons_unit_lit _ _ _ (by decide), View.ld_unit_lit _ x0 (by decide), View.ld_unit_lit _ x1 (by decide), View.ld_unit_lit _ x2 (by decide), View.ld_unit_lit _ x3 (by decide)]

theorem out1_eq (x0 : Vec Ideal S512x2048 .bf16) (x1 : Vec Ideal S2048x2048 .bf16) (x2 : Vec Ideal S512x2048 .f32) (x3 x4 : Vec Ideal S1x2048 .f32) : out0_6 x0 x1 x2 x3 x4 = k0_pay2 x0 x1 x2 x3 x4 := by
  unfold out0_6
  rw [View.canon_cons_unit_lit _ _ _ (by decide), View.ld_unit_lit _ x0 (by decide), View.ld_unit_lit _ x1 (by decide), View.ld_unit_lit _ x2 (by decide), View.ld_unit_lit _ x3 (by decide), View.ld_unit_lit _ x4 (by decide)]

/-- The tokens, one row each. -/
def rows (a : FVec Ideal S4x8192x2048 .f32) : FVec Ideal S32768x2048 .f32 := shapeCast S32768x2048 a shapeCasts_S4x8192x2048_S32768x2048

/-- The tokens, one row each, in the matrix unit's type. -/
def lowRows (a : FVec Ideal S4x8192x2048 .f32) : FVec Ideal S32768x2048 .bf16 := shapeCast S32768x2048 (truncf .bf16 a bitsLt_bf16_f32) shapeCasts_S4x8192x2048_S32768x2048

/-- The weight in the matrix unit's type. -/
def low (a : FVec Ideal S2048x2048 .f32) : FVec Ideal S2048x2048 .bf16 := truncf .bf16 a bitsLt_bf16_f32

/-- A norm's weights. -/
def wide (a : FVec Ideal S2048 .f32) : FVec Ideal S1x2048 .f32 := shapeCast S1x2048 a shapeCasts_S2048_S1x2048

theorem V_0 : V m c main_v1 = lowRows (m (c, main_arg0)) := by
  unfold V hostOps0
  after_reads_simp
  rfl
theorem V_1 : V m c main_v2 = low (m (c, main_arg1)) := by
  unfold V hostOps0
  after_reads_simp
  rfl
theorem V_2 : V m c main_v3 = rows (m (c, main_arg2)) := by
  unfold V hostOps0
  after_reads_simp
  rfl
theorem V_3 : V m c main_v4 = wide (m (c, main_arg3)) := by
  unfold V hostOps0
  after_reads_simp
  rfl
theorem V_4 : V m c main_v5 = wide (m (c, main_arg4)) := by
  unfold V hostOps0
  after_reads_simp
  rfl

theorem rows_at (a : FVec Ideal S4x8192x2048 .f32) (b : Fin 4) (s : Fin 8192) (k : Fin 2048) :
    rows a (ix2 ⟨8192 * b.val + s.val, by omega⟩ k) = a (ix3 b s k) := by
  pointwise [rows]

theorem lowRows_at (a : FVec Ideal S4x8192x2048 .f32) (b : Fin 4) (s : Fin 8192) (k : Fin 2048) :
    lowRows a (ix2 ⟨8192 * b.val + s.val, by omega⟩ k) = a (ix3 b s k) := by
  pointwise [lowRows]

theorem wide_at (a : FVec Ideal S2048 .f32) (j : Fin 2048) : wide a (ix2 0 j) = a (ix1 j) := by
  pointwise [wide]

/-- The row block of a grid point. -/
def gM (t : Fin cfg0.N) : Fin 64 := cfg0.grid.coords t 0

theorem index0 : ∀ t : Fin cfg0.N, (cfg0.win 0).index t = ![(gM t).val, 0] := by decide +kernel
theorem index1 : ∀ t : Fin cfg0.N, (cfg0.win 1).index t = ![0, 0] := by decide +kernel
theorem index2 : ∀ t : Fin cfg0.N, (cfg0.win 2).index t = ![(gM t).val, 0] := by decide +kernel
theorem index3 : ∀ t : Fin cfg0.N, (cfg0.win 3).index t = ![0, 0] := by decide +kernel
theorem index4 : ∀ t : Fin cfg0.N, (cfg0.win 4).index t = ![0, 0] := by decide +kernel
theorem index5 : ∀ t : Fin cfg0.N, (cfg0.win 5).index t = ![(gM t).val, 0] := by decide +kernel
theorem index6 : ∀ t : Fin cfg0.N, (cfg0.win 6).index t = ![(gM t).val, 0] := by decide +kernel

theorem blk0_at (i : Fin 512) (k : Fin 2048) : iblk m c 0 t (ix2 i k) = m (c, main_arg0) (ix3 (⟨(gM t).val / 16, by omega⟩ : Fin 4) (⟨512 * ((gM t).val % 16) + i.val, by omega⟩ : Fin 8192) k) := by
  refine Eq.trans ?_ (lowRows_at (m (c, main_arg0)) _ _ k)
  rw [← V_0]
  unfold iblk
  refine congrArg (V m c main_v1) (funext fun a => Fin.ext ?_)
  refine (Pipeline.Window.rect_emb_val (cfg0.win 0) t _ a).trans ?_
  rw [index0]
  match a with
  | 0 => exact (show (gM t).val * 512 + i.val = 8192 * ((gM t).val / 16) + (512 * ((gM t).val % 16) + i.val) by omega)
  | 1 => exact (show 0 * 2048 + k.val = k.val by omega)

theorem blk2_at (i : Fin 512) (k : Fin 2048) : iblk m c 2 t (ix2 i k) = m (c, main_arg2) (ix3 (⟨(gM t).val / 16, by omega⟩ : Fin 4) (⟨512 * ((gM t).val % 16) + i.val, by omega⟩ : Fin 8192) k) := by
  refine Eq.trans ?_ (rows_at (m (c, main_arg2)) _ _ k)
  rw [← V_2]
  unfold iblk
  refine congrArg (V m c main_v3) (funext fun a => Fin.ext ?_)
  refine (Pipeline.Window.rect_emb_val (cfg0.win 2) t _ a).trans ?_
  rw [index2]
  match a with
  | 0 => exact (show (gM t).val * 512 + i.val = 8192 * ((gM t).val / 16) + (512 * ((gM t).val % 16) + i.val) by omega)
  | 1 => exact (show 0 * 2048 + k.val = k.val by omega)

theorem blk1_at (k j : Fin 2048) : iblk m c 1 t (ix2 k j) = m (c, main_arg1) (ix2 k j) := by
  refine Eq.trans ?_ (congrFun (V_1 m c) _)
  unfold iblk
  refine congrArg (V m c main_v2) (funext fun a => Fin.ext ?_)
  refine (Pipeline.Window.rect_emb_val (cfg0.win 1) t _ a).trans ?_
  rw [index1]
  match a with
  | 0 => exact (show 0 * 2048 + k.val = k.val by omega)
  | 1 => exact (show 0 * 2048 + j.val = j.val by omega)

theorem blk3_at (j : Fin 2048) : iblk m c 3 t (ix2 0 j) = m (c, main_arg3) (ix1 j) := by
  refine Eq.trans ?_ (wide_at (m (c, main_arg3)) j)
  rw [← V_3]
  unfold iblk
  refine congrArg (V m c main_v4) (funext fun a => Fin.ext ?_)
  refine (Pipeline.Window.rect_emb_val (cfg0.win 3) t _ a).trans ?_
  rw [index3]
  match a with
  | 0 => rfl
  | 1 => exact (show 0 * 2048 + j.val = j.val by omega)

theorem blk4_at (j : Fin 2048) : iblk m c 4 t (ix2 0 j) = m (c, main_arg4) (ix1 j) := by
  refine Eq.trans ?_ (wide_at (m (c, main_arg4)) j)
  rw [← V_4]
  unfold iblk
  refine congrArg (V m c main_v5) (funext fun a => Fin.ext ?_)
  refine (Pipeline.Window.rect_emb_val (cfg0.win 4) t _ a).trans ?_
  rw [index4]
  match a with
  | 0 => rfl
  | 1 => exact (show 0 * 2048 + j.val = j.val by omega)

theorem res_at (i : Fin 512) (j : Fin 2048) : k0_pay1 (iblk m c 0 t) (iblk m c 1 t) (iblk m c 2 t) (iblk m c 3 t) (ix2 i j) = refRes (m (c, main_arg0)) (m (c, main_arg1)) (m (c, main_arg2)) (m (c, main_arg3)) (ix3 (⟨(gM t).val / 16, by omega⟩ : Fin 4) (⟨512 * ((gM t).val % 16) + i.val, by omega⟩ : Fin 8192) j) := by
  rw [body0_at, refRes_at]
  simp only [blk0_at, blk1_at, blk2_at, blk3_at]

theorem final0 : (dats m 0 c).arrAt 5 cfg0.N = goal0 (m (c, main_arg0)) (m (c, main_arg1)) (m (c, main_arg2)) (m (c, main_arg3)) := by
  refine (dats m 0 c).arrAt_eq_of_covers 5 _ (by decide +kernel) (fun t _ y => ?_) (Memref.isWhole_whole _)
  have hrow : ∀ (i : Fin 512) (j : Fin 2048), k0_pay1 (iblk m c 0 t) (iblk m c 1 t) (iblk m c 2 t) (iblk m c 3 t) (ix2 i j)
      = goal0 (m (c, main_arg0)) (m (c, main_arg1)) (m (c, main_arg2)) (m (c, main_arg3)) (ix2 (⟨8192 * ((gM t).val / 16) + (512 * ((gM t).val % 16) + i.val), by omega⟩ : Fin 32768) j) := fun i j => by
    refine Eq.trans ?_ (goal0_at _ _ _ _ ⟨(gM t).val / 16, by omega⟩ ⟨512 * ((gM t).val % 16) + i.val, by omega⟩ _).symm
    exact res_at m c t i j
  refine (congrFun ((Value.flushed5 m c t).trans (congrArg _ (out0_eq _ _ _ _ _))) y).trans ?_
  refine Eq.trans ((congrArg (k0_pay1 (iblk m c 0 t) (iblk m c 1 t) (iblk m c 2 t) (iblk m c 3 t)) (ix2_eta y).symm).trans (hrow (y 0) (y 1))) ?_
  refine congrArg (goal0 (m (c, main_arg0)) (m (c, main_arg1)) (m (c, main_arg2)) (m (c, main_arg3))) (funext fun a => Fin.ext ?_)
  refine Eq.trans ?_ (Pipeline.Window.rect_emb_val (cfg0.win 5) t y a).symm
  rw [index5]
  match a with
  | 0 => exact (show 8192 * ((gM t).val / 16) + (512 * ((gM t).val % 16) + (y 0).val) = (gM t).val * 512 + (y 0).val by omega)
  | 1 => exact (show (y 1).val = 0 * 2048 + (y 1).val by omega)

theorem final1 : (dats m 0 c).arrAt 6 cfg0.N = goal1 (m (c, main_arg0)) (m (c, main_arg1)) (m (c, main_arg2)) (m (c, main_arg3)) (m (c, main_arg4)) := by
  refine (dats m 0 c).arrAt_eq_of_covers 6 _ (by decide +kernel) (fun t _ y => ?_) (Memref.isWhole_whole _)
  have hrow : ∀ (i : Fin 512) (j : Fin 2048), k0_pay2 (iblk m c 0 t) (iblk m c 1 t) (iblk m c 2 t) (iblk m c 3 t) (iblk m c 4 t) (ix2 i j)
      = goal1 (m (c, main_arg0)) (m (c, main_arg1)) (m (c, main_arg2)) (m (c, main_arg3)) (m (c, main_arg4)) (ix2 (⟨8192 * ((gM t).val / 16) + (512 * ((gM t).val % 16) + i.val), by omega⟩ : Fin 32768) j) := fun i j => by
    refine Eq.trans ?_ (goal1_at _ _ _ _ _ ⟨(gM t).val / 16, by omega⟩ ⟨512 * ((gM t).val % 16) + i.val, by omega⟩ _).symm
    rw [body1_at]
    simp only [res_at, blk4_at]
  refine (congrFun ((Value.flushed6 m c t).trans (congrArg _ (out1_eq _ _ _ _ _))) y).trans ?_
  refine Eq.trans ((congrArg (k0_pay2 (iblk m c 0 t) (iblk m c 1 t) (iblk m c 2 t) (iblk m c 3 t) (iblk m c 4 t)) (ix2_eta y).symm).trans (hrow (y 0) (y 1))) ?_
  refine congrArg (goal1 (m (c, main_arg0)) (m (c, main_arg1)) (m (c, main_arg2)) (m (c, main_arg3)) (m (c, main_arg4))) (funext fun a => Fin.ext ?_)
  refine Eq.trans ?_ (Pipeline.Window.rect_emb_val (cfg0.win 6) t y a).symm
  rw [index6]
  match a with
  | 0 => exact (show 8192 * ((gM t).val / 16) + (512 * ((gM t).val % 16) + (y 0).val) = (gM t).val * 512 + (y 0).val by omega)
  | 1 => exact (show (y 1).val = 0 * 2048 + (y 1).val by omega)

theorem frame_kernel : Cert.quiescent_OutProj := fun m ρ _ => Cert.OutProj.Gen.frame (F := Bits) m ρ

theorem frame_ideal : Cert.quiescent_OutProjIdeal := fun m ρ _ => Cert.OutProjIdeal.Gen.frame (F := Ideal) m ρ

theorem frame_reference : Cert.quiescent_OutProjReferenceIdeal := by
  intro m g _
  hlo_run
  · exact fun _ => ⟨trivial, trivial, trivial, trivial, trivial⟩
  · exact sem_eq_zero_of_no_sems (by decide) _

theorem preserves : Cert.preserves_OutProj_OutProjIdeal := trivial

/-- The program and the reference leave equal arrays. -/
theorem algebraic : Cert.algebraic_OutProjIdeal_OutProjReferenceIdeal := by
  intro m g m' g' _ hagree
  refine ⟨fun c => goal0 (m (c, main_arg0)) (m (c, main_arg1)) (m (c, main_arg2)) (m (c, main_arg3)), fun c => goal1 (m (c, main_arg0)) (m (c, main_arg1)) (m (c, main_arg2)) (m (c, main_arg3)) (m (c, main_arg4)), ?_, ?_⟩
  · exact θ_run_mono (Cert.OutProjIdeal.Value.run_blocks (F := Ideal) m g) fun r h c => ⟨(h c).1.trans (final0 m c), (h c).2.1.trans (final1 m c), (h c).2.2⟩
  · refine θ_run_mono (Cert.OutProjReferenceIdeal.Value.run (F := Ideal) m' g') fun r h c => ⟨(h c).1.trans ?_, (h c).2.1.trans ?_, (h c).2.2⟩
    · obtain ⟨e0, e1, e2, e3, e4⟩ := hagree c
      rw [e0, e1, e2, e3]
      rfl
    · obtain ⟨e0, e1, e2, e3, e4⟩ := hagree c
      unfold Cert.OutProjReferenceIdeal.Value.res_main_v30
      rw [e0, e1, e2, e3, e4]
      rfl

end Cert.OutProjCall

end
-- ==== Proof.Calls.Values.lean ====
module

public import proofs.«01_k».proof.Defs
public import proofs.«01_k».proof.Proof.Gen.Values.Frame
public import proofs.«01_k».proof.Proof.Gen.ValuesIdeal.Value
public import proofs.«01_k».proof.Proof.Gen.ValuesReferenceIdeal.Run
public import Idealize.ShloMosaic.Lib.Pointwise
public import Idealize.ShloMosaic.Lib.IdealHost
public import Idealize.ShloMosaic.Lib.Claim
public import Idealize.ShloMosaic.Lib.StableHlo.RunHlo
public import Idealize.ShloMosaic.Lib.StableHlo.RunRead
public import Idealize.ShloMosaic.Lib.Pipeline.ValueKit.Geometry
public import Idealize.ShloMosaic.Lib.Pipeline.ValueKit.Acc

@[expose] public section

/-!
# The value projection, also stored by head and transposed, with rows of ones below
-/

set_option maxRecDepth 16384

noncomputable section

namespace Cert.ValuesCall

open Idealize.ShloMosaic Idealize.ShloMosaic.TcCoe

section Reference

open Cert.ValuesReferenceIdeal Cert.ValuesReferenceIdeal.Facts₀ Cert.ValuesReferenceIdeal.Facts

/-- The reference's values. -/
def refZ (a0 : FVec Ideal S4x8192x2048 .f32) (a1 : FVec Ideal S2048x14336 .f32) : FVec Ideal S4x8192x2048 .f32 :=
  extractStridedSlice S4x8192x2048 ![0, 0, 4096] (Host.dotGeneral dot_S4x8192x2048_S2048x14336_S4x8192x14336_2_0_01_1_n_n none a0 a1) slices_S4x8192x14336_S4x8192x2048_0_0_4096

/-- The reference's first result. -/
def goal0 (a0 : FVec Ideal S4x8192x2048 .f32) (a1 : FVec Ideal S2048x14336 .f32) : FVec Ideal S32768x2048 .f32 :=
  shapeCast _ (refZ a0 a1) shapeCasts_S4x8192x2048_S32768x2048

/-- The values by head, transposed, over rows of ones. -/
def pack (z : FVec Ideal S4x8192x2048 .f32) : FVec Ideal S4x8x272x8192 .bf16 :=
  truncf .bf16 (concatenate S4x8x272x8192 2 [⟨S4x8x256x8192, (transpose S4x8x256x8192 [0, 2, 3, 1] (shapeCast _ z shapeCasts_S4x8192x2048_S4x8192x8x256) transposes_S4x8192x8x256_S4x8x256x8192_0_2_3_1)⟩, ⟨S4x8x16x8192, (broadcastInDim S4x8x16x8192 ![] bcast_S_S4x8x16x8192 (constant S_ .f32 0x3F800000#32))⟩] concatenates_S4x8x256x8192_S4x8x16x8192_S4x8x272x8192_d2) bitsLt_bf16_f32

/-- The reference's second result. -/
def goal1 (a0 : FVec Ideal S4x8192x2048 .f32) (a1 : FVec Ideal S2048x14336 .f32) : FVec Ideal S4x8x272x8192 .bf16 := pack (refZ a0 a1)

variable (a0 : FVec Ideal S4x8192x2048 .f32) (a1 : FVec Ideal S2048x14336 .f32) (b : Fin 4) (s : Fin 8192) (j : Fin 2048)

theorem refZ_at : refZ a0 a1 (ix3 b s j) = ∑ k : Fin 2048, a0 (ix3 b s k) * a1 (ix2 k ⟨4096 + j.val, by omega⟩) := by
  pointwise [refZ]

theorem cast_z (z : FVec Ideal S4x8192x2048 .f32) : shapeCast S32768x2048 z shapeCasts_S4x8192x2048_S32768x2048 (ix2 ⟨8192 * b.val + s.val, by omega⟩ j) = z (ix3 b s j) := by
  pointwise

theorem goal0_at : goal0 a0 a1 (ix2 ⟨8192 * b.val + s.val, by omega⟩ j) = ∑ k : Fin 2048, a0 (ix3 b s k) * a1 (ix2 k ⟨4096 + j.val, by omega⟩) :=
  (cast_z b s j _).trans (refZ_at a0 a1 b s j)

theorem pack_lt (z : FVec Ideal S4x8192x2048 .f32) (h : Fin 8) (r : Fin 272) (hr : r.val < 256) : pack z (ix4 b h r s) = z (ix3 b s ⟨256 * h.val + r.val, by omega⟩) := by
  have e : 256 * h.val + r.val = h.val * 256 + r.val := by omega
  simp only [e]
  pointwise [pack]
  exact dif_pos hr

theorem pack_ge (z : FVec Ideal S4x8192x2048 .f32) (h : Fin 8) (r : Fin 272) (hr : ¬ r.val < 256) : pack z (ix4 b h r s) = 1 := by
  pointwise [pack, Ideal.ofBits_one_f32]
  exact dif_neg hr

end Reference

open Cert.ValuesIdeal Cert.ValuesIdeal.Gen

variable (m : (ℓ : Loc nD τ sig) → Buf (Elt Ideal) ℓ) (c : Dev nD) (t : Fin cfg0.N)

theorem body_at (x0 : Vec Ideal S512x2048 .bf16) (x1 : Vec Ideal S2048x2048 .bf16) (i : Fin 512) (j : Fin 2048) :
    k0_pay2 x0 x1 (ix2 i j) = ∑ k : Fin 2048, x0 (ix2 i k) * x1 (ix2 k j) := by
  pointwise [k0_pay2]

/-- A block of values by head, transposed, over rows of ones. -/
def packBlk (z : FVec Ideal S512x2048 .f32) : FVec Ideal S1x8x272x512 .bf16 := fun y =>
  if h : (y 2).val < 256 then z (ix2 (y 3 : Fin 512) (⟨256 * (y 1).val + (y 2).val, by have : (y 1).val < 8 := (y 1).isLt; omega⟩ : Fin 2048)) else 1

theorem packBlk_lt (z : FVec Ideal S512x2048 .f32) (y : S1x8x272x512.Idx) (h : (y 2).val < 256) (j : Fin 2048) (hj : j.val = 256 * (y 1).val + (y 2).val) : packBlk z y = z (ix2 (y 3 : Fin 512) j) := by
  unfold packBlk
  rw [dif_pos h]
  exact congrArg (fun j : Fin 2048 => z (ix2 (y 3 : Fin 512) j)) (Fin.ext hj.symm)

theorem packBlk_ge (z : FVec Ideal S512x2048 .f32) (y : S1x8x272x512.Idx) (h : ¬ (y 2).val < 256) : packBlk z y = 1 := by
  unfold packBlk
  rw [dif_neg h]

theorem head_piece (z : FVec Ideal S512x2048 .f32) (h : ℕ) (hh : h < 8) (P : FVec Ideal S1x1x256x512 .bf16)
    (hP : ∀ (r : Fin 256) (s : Fin 512), P (ix4 0 0 r s) = z (ix2 s ⟨256 * h + r.val, by omega⟩))
    (inb : ∀ a, (![0, h, 0, 0] : Fin 4 → ℕ) a + S1x1x256x512.size a ≤ S1x8x272x512.size a) (x : S1x1x256x512.Idx) :
    P x = packBlk z ((Rect.unit (s := S1x8x272x512) ![0, h, 0, 0] S1x1x256x512.size inb).emb x) := by
  have e0 : (x 0).val = 0 := Nat.lt_one_iff.mp (x 0).isLt
  have e1 : (x 1).val = 0 := Nat.lt_one_iff.mp (x 1).isLt
  have h2 : (x 2).val < 256 := (x 2).isLt
  have hx : x = ix4 (0 : Fin 1) (0 : Fin 1) (x 2 : Fin 256) (x 3 : Fin 512) := by
    funext a
    match a with
    | 0 => exact Fin.ext e0
    | 1 => exact Fin.ext e1
    | 2 => rfl
    | 3 => rfl
  refine (congrArg P hx).trans ((hP (x 2) (x 3)).trans ?_)
  refine Eq.trans ?_ (packBlk_lt z _ (show 0 + 1 * (x 2).val < 256 by omega) ⟨256 * h + (x 2).val, by omega⟩
    (show 256 * h + (x 2).val = 256 * (h + 1 * (x 1).val) + (0 + 1 * (x 2).val) by rw [e1]; omega)).symm
  refine congrArg (fun i : Fin 512 => z (ix2 i (⟨256 * h + (x 2).val, by omega⟩ : Fin 2048))) (Fin.ext ?_)
  exact (show (x 3).val = 0 + 1 * (x 3).val by omega)

theorem ones_piece (z : FVec Ideal S512x2048 .f32) (h : ℕ) (P : FVec Ideal S1x1x16x512 .bf16)
    (hP : ∀ (r : Fin 16) (s : Fin 512), P (ix4 0 0 r s) = 1)
    (inb : ∀ a, (![0, h, 256, 0] : Fin 4 → ℕ) a + S1x1x16x512.size a ≤ S1x8x272x512.size a) (x : S1x1x16x512.Idx) :
    P x = packBlk z ((Rect.unit (s := S1x8x272x512) ![0, h, 256, 0] S1x1x16x512.size inb).emb x) := by
  have hx : x = ix4 (0 : Fin 1) (0 : Fin 1) (x 2 : Fin 16) (x 3 : Fin 512) := by
    funext a
    match a with
    | 0 => exact Fin.ext (Nat.lt_one_iff.mp (x 0).isLt)
    | 1 => exact Fin.ext (Nat.lt_one_iff.mp (x 1).isLt)
    | 2 => rfl
    | 3 => rfl
  exact (congrArg P hx).trans ((hP (x 2) (x 3)).trans (packBlk_ge z _ (show ¬ 256 + 1 * (x 2).val < 256 by omega)).symm)

theorem head0 (x0 : Vec Ideal S512x2048 .bf16) (x1 : Vec Ideal S2048x2048 .bf16) (r : Fin 256) (s : Fin 512) :
    (k0_pay3 x0 x1 : FVec Ideal S1x1x256x512 .bf16) (ix4 0 0 r s) = k0_pay2 x0 x1 (ix2 s ⟨256 * 0 + r.val, by omega⟩) := by
  unfold k0_pay3
  generalize k0_pay2 x0 x1 = z
  pointwise
theorem head1 (x0 : Vec Ideal S512x2048 .bf16) (x1 : Vec Ideal S2048x2048 .bf16) (r : Fin 256) (s : Fin 512) :
    (k0_pay5 x0 x1 : FVec Ideal S1x1x256x512 .bf16) (ix4 0 0 r s) = k0_pay2 x0 x1 (ix2 s ⟨256 * 1 + r.val, by omega⟩) := by
  unfold k0_pay5
  generalize k0_pay2 x0 x1 = z
  pointwise
theorem head2 (x0 : Vec Ideal S512x2048 .bf16) (x1 : Vec Ideal S2048x2048 .bf16) (r : Fin 256) (s : Fin 512) :
    (k0_pay8 (k0_pay7 x0 x1) : FVec Ideal S1x1x256x512 .bf16) (ix4 0 0 r s) = k0_pay2 x0 x1 (ix2 s ⟨256 * 2 + r.val, by omega⟩) := by
  unfold k0_pay8 k0_pay7
  generalize k0_pay2 x0 x1 = z
  pointwise
theorem head3 (x0 : Vec Ideal S512x2048 .bf16) (x1 : Vec Ideal S2048x2048 .bf16) (r : Fin 256) (s : Fin 512) :
    (k0_pay10 (k0_pay2 x0 x1) : FVec Ideal S1x1x256x512 .bf16) (ix4 0 0 r s) = k0_pay2 x0 x1 (ix2 s ⟨256 * 3 + r.val, by omega⟩) := by
  unfold k0_pay10
  generalize k0_pay2 x0 x1 = z
  pointwise
theorem head4 (x0 : Vec Ideal S512x2048 .bf16) (x1 : Vec Ideal S2048x2048 .bf16) (r : Fin 256) (s : Fin 512) :
    (k0_pay12 (k0_pay2 x0 x1) : FVec Ideal S1x1x256x512 .bf16) (ix4 0 0 r s) = k0_pay2 x0 x1 (ix2 s ⟨256 * 4 + r.val, by omega⟩) := by
  unfold k0_pay12
  generalize k0_pay2 x0 x1 = z
  pointwise
theorem head5 (x0 : Vec Ideal S512x2048 .bf16) (x1 : Vec Ideal S2048x2048 .bf16) (r : Fin 256) (s : Fin 512) :
    (k0_pay14 (k0_pay2 x0 x1) : FVec Ideal S1x1x256x512 .bf16) (ix4 0 0 r s) = k0_pay2 x0 x1 (ix2 s ⟨256 * 5 + r.val, by omega⟩) := by
  unfold k0_pay14
  generalize k0_pay2 x0 x1 = z
  pointwise
theorem head6 (x0 : Vec Ideal S512x2048 .bf16) (x1 : Vec Ideal S2048x2048 .bf16) (r : Fin 256) (s : Fin 512) :
    (k0_pay16 (k0_pay2 x0 x1) : FVec Ideal S1x1x256x512 .bf16) (ix4 0 0 r s) = k0_pay2 x0 x1 (ix2 s ⟨256 * 6 + r.val, by omega⟩) := by
  unfold k0_pay16
  generalize k0_pay2 x0 x1 = z
  pointwise
theorem head7 (x0 : Vec Ideal S512x2048 .bf16) (x1 : Vec Ideal S2048x2048 .bf16) (r : Fin 256) (s : Fin 512) :
    (k0_pay18 (k0_pay2 x0 x1) : FVec Ideal S1x1x256x512 .bf16) (ix4 0 0 r s) = k0_pay2 x0 x1 (ix2 s ⟨256 * 7 + r.val, by omega⟩) := by
  unfold k0_pay18
  generalize k0_pay2 x0 x1 = z
  pointwise
theorem ones0 (r : Fin 16) (s : Fin 512) : (k0_pay4 (F := Ideal) : FVec Ideal S1x1x16x512 .bf16) (ix4 0 0 r s) = 1 := by
  pointwise [k0_pay4, Ideal.ofBits_one_bf16]
theorem ones1 (r : Fin 16) (s : Fin 512) : (k0_pay6 (F := Ideal) : FVec Ideal S1x1x16x512 .bf16) (ix4 0 0 r s) = 1 := by
  pointwise [k0_pay6, Ideal.ofBits_one_bf16]
theorem ones2 (r : Fin 16) (s : Fin 512) : (k0_pay9 (F := Ideal) : FVec Ideal S1x1x16x512 .bf16) (ix4 0 0 r s) = 1 := by
  pointwise [k0_pay9, Ideal.ofBits_one_bf16]
theorem ones3 (r : Fin 16) (s : Fin 512) : (k0_pay11 (F := Ideal) : FVec Ideal S1x1x16x512 .bf16) (ix4 0 0 r s) = 1 := by
  pointwise [k0_pay11, Ideal.ofBits_one_bf16]
theorem ones4 (r : Fin 16) (s : Fin 512) : (k0_pay13 (F := Ideal) : FVec Ideal S1x1x16x512 .bf16) (ix4 0 0 r s) = 1 := by
  pointwise [k0_pay13, Ideal.ofBits_one_bf16]
theorem ones5 (r : Fin 16) (s : Fin 512) : (k0_pay15 (F := Ideal) : FVec Ideal S1x1x16x512 .bf16) (ix4 0 0 r s) = 1 := by
  pointwise [k0_pay15, Ideal.ofBits_one_bf16]
theorem ones6 (r : Fin 16) (s : Fin 512) : (k0_pay17 (F := Ideal) : FVec Ideal S1x1x16x512 .bf16) (ix4 0 0 r s) = 1 := by
  pointwise [k0_pay17, Ideal.ofBits_one_bf16]
theorem ones7 (r : Fin 16) (s : Fin 512) : (k0_pay1 (k0_pay19 (F := Ideal)) : FVec Ideal S1x1x16x512 .bf16) (ix4 0 0 r s) = 1 := by
  pointwise [k0_pay1, k0_pay19, Ideal.ofBits_one_bf16]

theorem out0_eq : (outsAt0 m c t).1 = k0_pay2 (iblk m c 0 t) (iblk m c 1 t) := by
  unfold outsAt0
  dsimp only
  frame_out

/-- What the body stores in the second result's block, the last store first. -/
def pieces (x0 : Vec Ideal S512x2048 .bf16) (x1 : Vec Ideal S2048x2048 .bf16) : List (View.Piece (Elt Ideal) S1x8x272x512 .bf16) :=
  [⟨Rect.unit (s := S1x8x272x512) ![0, 7, 256, 0] S1x1x16x512.size inb_S1x8x272x512_S1x1x16x512_0_7_256_0, k0_pay1 (k0_pay19 (F := Ideal))⟩,
   ⟨Rect.unit (s := S1x8x272x512) ![0, 7, 0, 0] S1x1x256x512.size inb_S1x8x272x512_S1x1x256x512_0_7_0_0, k0_pay18 (k0_pay2 x0 x1)⟩,
   ⟨Rect.unit (s := S1x8x272x512) ![0, 6, 256, 0] S1x1x16x512.size inb_S1x8x272x512_S1x1x16x512_0_6_256_0, k0_pay17 (F := Ideal)⟩,
   ⟨Rect.unit (s := S1x8x272x512) ![0, 6, 0, 0] S1x1x256x512.size inb_S1x8x272x512_S1x1x256x512_0_6_0_0, k0_pay16 (k0_pay2 x0 x1)⟩,
   ⟨Rect.unit (s := S1x8x272x512) ![0, 5, 256, 0] S1x1x16x512.size inb_S1x8x272x512_S1x1x16x512_0_5_256_0, k0_pay15 (F := Ideal)⟩,
   ⟨Rect.unit (s := S1x8x272x512) ![0, 5, 0, 0] S1x1x256x512.size inb_S1x8x272x512_S1x1x256x512_0_5_0_0, k0_pay14 (k0_pay2 x0 x1)⟩,
   ⟨Rect.unit (s := S1x8x272x512) ![0, 4, 256, 0] S1x1x16x512.size inb_S1x8x272x512_S1x1x16x512_0_4_256_0, k0_pay13 (F := Ideal)⟩,
   ⟨Rect.unit (s := S1x8x272x512) ![0, 4, 0, 0] S1x1x256x512.size inb_S1x8x272x512_S1x1x256x512_0_4_0_0, k0_pay12 (k0_pay2 x0 x1)⟩,
   ⟨Rect.unit (s := S1x8x272x512) ![0, 3, 256, 0] S1x1x16x512.size inb_S1x8x272x512_S1x1x16x512_0_3_256_0, k0_pay11 (F := Ideal)⟩,
   ⟨Rect.unit (s := S1x8x272x512) ![0, 3, 0, 0] S1x1x256x512.size inb_S1x8x272x512_S1x1x256x512_0_3_0_0, k0_pay10 (k0_pay2 x0 x1)⟩,
   ⟨Rect.unit (s := S1x8x272x512) ![0, 2, 256, 0] S1x1x16x512.size inb_S1x8x272x512_S1x1x16x512_0_2_256_0, k0_pay9 (F := Ideal)⟩,
   ⟨Rect.unit (s := S1x8x272x512) ![0, 2, 0, 0] S1x1x256x512.size inb_S1x8x272x512_S1x1x256x512_0_2_0_0, k0_pay8 (k0_pay7 x0 x1)⟩,
   ⟨Rect.unit (s := S1x8x272x512) ![0, 1, 256, 0] S1x1x16x512.size inb_S1x8x272x512_S1x1x16x512_0_1_256_0, k0_pay6 (F := Ideal)⟩,
   ⟨Rect.unit (s := S1x8x272x512) ![0, 1, 0, 0] S1x1x256x512.size inb_S1x8x272x512_S1x1x256x512_0_1_0_0, k0_pay5 x0 x1⟩,
   ⟨Rect.unit (s := S1x8x272x512) ![0, 0, 256, 0] S1x1x16x512.size inb_S1x8x272x512_S1x1x16x512_0_0_256_0, k0_pay4 (F := Ideal)⟩,
   ⟨Rect.unit (s := S1x8x272x512) ![0, 0, 0, 0] S1x1x256x512.size inb_S1x8x272x512_S1x1x256x512_0_0_0_0, k0_pay3 x0 x1⟩]

theorem pieces_eq (x0 : Vec Ideal S512x2048 .bf16) (x1 : Vec Ideal S2048x2048 .bf16) : ∀ p ∈ pieces x0 x1, ∀ x : p.1.shape.Idx, p.2 x = packBlk (k0_pay2 x0 x1) (p.1.emb x) := by
  unfold pieces
  refine List.forall_mem_cons.mpr ⟨?_, ?_⟩
  · exact ones_piece (k0_pay2 x0 x1) 7 _ ones7 inb_S1x8x272x512_S1x1x16x512_0_7_256_0
  refine List.forall_mem_cons.mpr ⟨?_, ?_⟩
  · exact head_piece (k0_pay2 x0 x1) 7 (by decide) _ (head7 x0 x1) inb_S1x8x272x512_S1x1x256x512_0_7_0_0
  refine List.forall_mem_cons.mpr ⟨?_, ?_⟩
  · exact ones_piece (k0_pay2 x0 x1) 6 _ ones6 inb_S1x8x272x512_S1x1x16x512_0_6_256_0
  refine List.forall_mem_cons.mpr ⟨?_, ?_⟩
  · exact head_piece (k0_pay2 x0 x1) 6 (by decide) _ (head6 x0 x1) inb_S1x8x272x512_S1x1x256x512_0_6_0_0
  refine List.forall_mem_cons.mpr ⟨?_, ?_⟩
  · exact ones_piece (k0_pay2 x0 x1) 5 _ ones5 inb_S1x8x272x512_S1x1x16x512_0_5_256_0
  refine List.forall_mem_cons.mpr ⟨?_, ?_⟩
  · exact head_piece (k0_pay2 x0 x1) 5 (by decide) _ (head5 x0 x1) inb_S1x8x272x512_S1x1x256x512_0_5_0_0
  refine List.forall_mem_cons.mpr ⟨?_, ?_⟩
  · exact ones_piece (k0_pay2 x0 x1) 4 _ ones4 inb_S1x8x272x512_S1x1x16x512_0_4_256_0
  refine List.forall_mem_cons.mpr ⟨?_, ?_⟩
  · exact head_piece (k0_pay2 x0 x1) 4 (by decide) _ (head4 x0 x1) inb_S1x8x272x512_S1x1x256x512_0_4_0_0
  refine List.forall_mem_cons.mpr ⟨?_, ?_⟩
  · exact ones_piece (k0_pay2 x0 x1) 3 _ ones3 inb_S1x8x272x512_S1x1x16x512_0_3_256_0
  refine List.forall_mem_cons.mpr ⟨?_, ?_⟩
  · exact head_piece (k0_pay2 x0 x1) 3 (by decide) _ (head3 x0 x1) inb_S1x8x272x512_S1x1x256x512_0_3_0_0
  refine List.forall_mem_cons.mpr ⟨?_, ?_⟩
  · exact ones_piece (k0_pay2 x0 x1) 2 _ ones2 inb_S1x8x272x512_S1x1x16x512_0_2_256_0
  refine List.forall_mem_cons.mpr ⟨?_, ?_⟩
  · exact head_piece (k0_pay2 x0 x1) 2 (by decide) _ (head2 x0 x1) inb_S1x8x272x512_S1x1x256x512_0_2_0_0
  refine List.forall_mem_cons.mpr ⟨?_, ?_⟩
  · exact ones_piece (k0_pay2 x0 x1) 1 _ ones1 inb_S1x8x272x512_S1x1x16x512_0_1_256_0
  refine List.forall_mem_cons.mpr ⟨?_, ?_⟩
  · exact head_piece (k0_pay2 x0 x1) 1 (by decide) _ (head1 x0 x1) inb_S1x8x272x512_S1x1x256x512_0_1_0_0
  refine List.forall_mem_cons.mpr ⟨?_, ?_⟩
  · exact ones_piece (k0_pay2 x0 x1) 0 _ ones0 inb_S1x8x272x512_S1x1x16x512_0_0_256_0
  refine List.forall_mem_cons.mpr ⟨?_, ?_⟩
  · exact head_piece (k0_pay2 x0 x1) 0 (by decide) _ (head0 x0 x1) inb_S1x8x272x512_S1x1x256x512_0_0_0_0
  exact fun p hp => absurd hp List.not_mem_nil

theorem pieces_cover (x0 : Vec Ideal S512x2048 .bf16) (x1 : Vec Ideal S2048x2048 .bf16) (y : S1x8x272x512.Idx) : ∃ p ∈ pieces x0 x1, y ∈ p.1.set :=
  View.cover_of_tiledBy (pieces x0 x1) ![1, 1, 16, 512] (by sl_kernel_rfl) y

theorem canon_pieces (x0 : Vec Ideal S512x2048 .bf16) (x1 : Vec Ideal S2048x2048 .bf16) : View.canon (pieces x0 x1) = packBlk (k0_pay2 x0 x1) :=
  funext fun y => View.canon_apply_of_pieces _ _ (pieces_eq x0 x1) y (pieces_cover x0 x1 y)

theorem out1_eq : (outsAt0 m c t).2 = packBlk (k0_pay2 (iblk m c 0 t) (iblk m c 1 t)) := by
  unfold outsAt0
  dsimp only
  frame_out
  exact canon_pieces (iblk m c 0 t) (iblk m c 1 t)

/-- The tokens, one row each, in the matrix unit's type. -/
def lowRows (a : FVec Ideal S4x8192x2048 .f32) : FVec Ideal S32768x2048 .bf16 := shapeCast S32768x2048 (truncf .bf16 a bitsLt_bf16_f32) shapeCasts_S4x8192x2048_S32768x2048

/-- The weight in the matrix unit's type. -/
def low (a : FVec Ideal S2048x14336 .f32) : FVec Ideal S2048x14336 .bf16 := truncf .bf16 a bitsLt_bf16_f32

theorem V_0 : V m c main_v1 = lowRows (m (c, main_arg0)) := by
  unfold V hostOps0
  after_reads_simp
  rfl
theorem V_1 : V m c main_v2 = low (m (c, main_arg1)) := by
  unfold V hostOps0
  after_reads_simp
  rfl

theorem lowRows_at (a : FVec Ideal S4x8192x2048 .f32) (b : Fin 4) (s : Fin 8192) (k : Fin 2048) :
    lowRows a (ix2 ⟨8192 * b.val + s.val, by omega⟩ k) = a (ix3 b s k) := by
  pointwise [lowRows]

/-- The row block of a grid point. -/
def gM (t : Fin cfg0.N) : Fin 64 := cfg0.grid.coords t 0

theorem index0 : ∀ t : Fin cfg0.N, (cfg0.win 0).index t = ![(gM t).val, 0] := by decide +kernel
theorem index1 : ∀ t : Fin cfg0.N, (cfg0.win 1).index t = ![0, 2] := by decide +kernel
theorem index2 : ∀ t : Fin cfg0.N, (cfg0.win 2).index t = ![(gM t).val, 0] := by decide +kernel
theorem index3 : ∀ t : Fin cfg0.N, (cfg0.win 3).index t = ![(gM t).val / 16, 0, 0, (gM t).val % 16] := by decide +kernel

theorem blk0_at (i : Fin 512) (k : Fin 2048) : iblk m c 0 t (ix2 i k) = m (c, main_arg0) (ix3 (⟨(gM t).val / 16, by omega⟩ : Fin 4) (⟨512 * ((gM t).val % 16) + i.val, by omega⟩ : Fin 8192) k) := by
  refine Eq.trans ?_ (lowRows_at (m (c, main_arg0)) _ _ k)
  rw [← V_0]
  unfold iblk
  refine congrArg (V m c main_v1) (funext fun a => Fin.ext ?_)
  refine (Pipeline.Window.rect_emb_val (cfg0.win 0) t _ a).trans ?_
  rw [index0]
  match a with
  | 0 => exact (show (gM t).val * 512 + i.val = 8192 * ((gM t).val / 16) + (512 * ((gM t).val % 16) + i.val) by omega)
  | 1 => exact (show 0 * 2048 + k.val = k.val by omega)

theorem blk1_at (k : Fin 2048) (j : Fin 2048) : iblk m c 1 t (ix2 k j) = m (c, main_arg1) (ix2 k (⟨4096 + j.val, by omega⟩ : Fin 14336)) := by
  refine Eq.trans ?_ (congrFun (V_1 m c) _)
  unfold iblk
  refine congrArg (V m c main_v2) (funext fun a => Fin.ext ?_)
  refine (Pipeline.Window.rect_emb_val (cfg0.win 1) t _ a).trans ?_
  rw [index1]
  match a with
  | 0 => exact (show 0 * 2048 + k.val = k.val by omega)
  | 1 => exact (show 2 * 2048 + j.val = 4096 + j.val by omega)

/-- The values of a block of rows. -/
theorem z_at (i : Fin 512) (j : Fin 2048) : k0_pay2 (iblk m c 0 t) (iblk m c 1 t) (ix2 i j)
    = refZ (m (c, main_arg0)) (m (c, main_arg1)) (ix3 (⟨(gM t).val / 16, by omega⟩ : Fin 4) (⟨512 * ((gM t).val % 16) + i.val, by omega⟩ : Fin 8192) j) :=
  (body_at _ _ i j).trans ((Finset.sum_congr rfl fun k _ => congrArg₂ (fun x y : EReal => x * y) (blk0_at m c t i k) (blk1_at m c t k j)).trans (refZ_at _ _ _ _ j).symm)

/-- The call's first result is the reference's. -/
theorem final0 : (dats m 0 c).arrAt 2 cfg0.N = goal0 (m (c, main_arg0)) (m (c, main_arg1)) := by
  refine (dats m 0 c).arrAt_eq_of_covers 2 _ (by decide +kernel) (fun t _ y => ?_) (Memref.isWhole_whole _)
  have hrow : ∀ (i : Fin 512) (j : Fin 2048), k0_pay2 (iblk m c 0 t) (iblk m c 1 t) (ix2 i j)
      = goal0 (m (c, main_arg0)) (m (c, main_arg1)) (ix2 (⟨8192 * ((gM t).val / 16) + (512 * ((gM t).val % 16) + i.val), by omega⟩ : Fin 32768) j) := fun i j =>
    (z_at m c t i j).trans (cast_z ⟨(gM t).val / 16, by omega⟩ ⟨512 * ((gM t).val % 16) + i.val, by omega⟩ j _).symm
  refine (congrFun ((Value.flushed2 m c t).trans (congrArg _ (out0_eq m c t))) y).trans ?_
  refine Eq.trans ((congrArg (k0_pay2 (iblk m c 0 t) (iblk m c 1 t)) (ix2_eta y).symm).trans (hrow (y 0) (y 1))) ?_
  refine congrArg (goal0 (m (c, main_arg0)) (m (c, main_arg1))) (funext fun a => Fin.ext ?_)
  refine Eq.trans ?_ (Pipeline.Window.rect_emb_val (cfg0.win 2) t y a).symm
  rw [index2]
  match a with
  | 0 => exact (show 8192 * ((gM t).val / 16) + (512 * ((gM t).val % 16) + (y 0).val) = (gM t).val * 512 + (y 0).val by omega)
  | 1 => exact (show (y 1).val = 0 * 2048 + (y 1).val by omega)

/-- The call's second result is the reference's. -/
theorem final1 : (dats m 0 c).arrAt 3 cfg0.N = goal1 (m (c, main_arg0)) (m (c, main_arg1)) := by
  refine (dats m 0 c).arrAt_eq_of_covers 3 _ (by decide +kernel) (fun t _ y => ?_) (Memref.isWhole_whole _)
  have hrow : ∀ (h : Fin 8) (r : Fin 272) (i : Fin 512), packBlk (k0_pay2 (iblk m c 0 t) (iblk m c 1 t)) (ix4 (0 : Fin 1) h r i)
      = goal1 (m (c, main_arg0)) (m (c, main_arg1)) (ix4 (⟨(gM t).val / 16, by omega⟩ : Fin 4) h r (⟨512 * ((gM t).val % 16) + i.val, by omega⟩ : Fin 8192)) := fun h r i => by
    by_cases hr : r.val < 256
    · exact (packBlk_lt _ _ hr (⟨256 * h.val + r.val, by omega⟩ : Fin 2048) rfl).trans ((z_at m c t i _).trans (pack_lt _ _ _ h r hr).symm)
    · exact (packBlk_ge _ _ hr).trans (pack_ge _ _ _ h r hr).symm
  have e0 : (y 0).val = 0 := Nat.lt_one_iff.mp (y 0).isLt
  have hy : y = ix4 (0 : Fin 1) (y 1 : Fin 8) (y 2 : Fin 272) (y 3 : Fin 512) := by
    funext a
    match a with
    | 0 => exact Fin.ext e0
    | 1 => rfl
    | 2 => rfl
    | 3 => rfl
  refine (congrFun ((Value.flushed3 m c t).trans (congrArg _ (out1_eq m c t))) y).trans ?_
  refine Eq.trans ((congrArg (packBlk (k0_pay2 (iblk m c 0 t) (iblk m c 1 t))) hy).trans (hrow (y 1) (y 2) (y 3))) ?_
  refine congrArg (goal1 (m (c, main_arg0)) (m (c, main_arg1))) (funext fun a => Fin.ext ?_)
  refine Eq.trans ?_ (Pipeline.Window.rect_emb_val (cfg0.win 3) t y a).symm
  rw [index3]
  match a with
  | 0 => exact (show (gM t).val / 16 = (gM t).val / 16 * 1 + (y 0).val by omega)
  | 1 => exact (show (y 1).val = 0 * 8 + (y 1).val by omega)
  | 2 => exact (show (y 2).val = 0 * 272 + (y 2).val by omega)
  | 3 => exact (show 512 * ((gM t).val % 16) + (y 3).val = (gM t).val % 16 * 512 + (y 3).val by omega)

theorem frame_kernel : Cert.quiescent_Values := fun m ρ _ => Cert.Values.Gen.frame (F := Bits) m ρ

theorem frame_ideal : Cert.quiescent_ValuesIdeal := fun m ρ _ => Cert.ValuesIdeal.Gen.frame (F := Ideal) m ρ

theorem frame_reference : Cert.quiescent_ValuesReferenceIdeal := by
  intro m g _
  hlo_run
  · exact fun _ => ⟨trivial, trivial⟩
  · exact sem_eq_zero_of_no_sems (by decide) _

theorem preserves : Cert.preserves_Values_ValuesIdeal := trivial

/-- The program and the reference leave equal arrays. -/
theorem algebraic : Cert.algebraic_ValuesIdeal_ValuesReferenceIdeal := by
  intro m g m' g' _ hagree
  refine ⟨fun c => goal0 (m (c, main_arg0)) (m (c, main_arg1)), fun c => goal1 (m (c, main_arg0)) (m (c, main_arg1)), ?_, ?_⟩
  · exact θ_run_mono (Cert.ValuesIdeal.Value.run_blocks (F := Ideal) m g) fun r h c => ⟨(h c).1.trans (final0 m c), (h c).2.1.trans (final1 m c), (h c).2.2⟩
  · refine θ_run_mono (Cert.ValuesReferenceIdeal.Value.run (F := Ideal) m' g') fun r h c => ⟨(h c).1.trans ?_, (h c).2.1.trans ?_, (h c).2.2⟩
    · obtain ⟨e0, e1⟩ := hagree c
      rw [e0, e1]
      rfl
    · obtain ⟨e0, e1⟩ := hagree c
      rw [e0, e1]
      rfl

end Cert.ValuesCall

end
-- ==== Proof.Calls.Queries.lean ====
module

public import proofs.«01_k».proof.Defs
public import proofs.«01_k».proof.Proof.Value.Heads
public import proofs.«01_k».proof.Proof.Gen.Queries.Frame
public import proofs.«01_k».proof.Proof.Gen.QueriesIdeal.Value
public import proofs.«01_k».proof.Proof.Gen.QueriesReferenceIdeal.Run
public import Idealize.ShloMosaic.Lib.Pointwise
public import Idealize.ShloMosaic.Lib.Claim
public import Idealize.ShloMosaic.Lib.StableHlo.RunHlo
public import Idealize.ShloMosaic.Lib.StableHlo.RunRead
public import Idealize.ShloMosaic.Lib.Pipeline.ValueKit.Basic
public import Idealize.ShloMosaic.Lib.Pipeline.ValueKit.Geometry

@[expose] public section

/-!
# The projection of the queries, scaled for a softmax to the base two
-/

set_option maxRecDepth 16384

noncomputable section

namespace Cert.QueriesCall

open Idealize.ShloMosaic Idealize.ShloMosaic.TcCoe

/-- The scale. -/
def scale : EReal := (((11863283 / 134217728) * (Real.log 2)⁻¹ : ℝ) : EReal)

theorem ofBits_scale : Ideal.ofBits FTy.f32 0x3DB504F3#32 = ((11863283 / 134217728 : ℝ) : EReal) := by
  simp [Ideal.ofBits, Ideal.ieee]
  rw [← EReal.coe_mul]
  norm_num

theorem div_scale (x : EReal) : Ideal.div (x * Ideal.ofBits FTy.f32 0x3DB504F3#32) (Ideal.log (Ideal.ofBits FTy.f32 0x40000000#32)) = x * scale := by
  rw [Cert.Attn.log_two, ofBits_scale]
  unfold Ideal.div scale
  rw [if_neg (by exact_mod_cast Cert.Attn.log_two_ne), EReal.coe_mul, EReal.coe_inv, mul_assoc]

section Reference

open Cert.QueriesReferenceIdeal Cert.QueriesReferenceIdeal.Facts₀ Cert.QueriesReferenceIdeal.Facts

/-- The reference's result. -/
def goal (a0 : FVec Ideal S4x8192x2048 .f32) (a1 : FVec Ideal S2048x14336 .f32) : FVec Ideal S32768x2048 .bf16 :=
  truncf .bf16 (shapeCast _ (Host.divf (mulf (extractStridedSlice S4x8192x2048 ![0, 0, 0] (Host.dotGeneral dot_S4x8192x2048_S2048x14336_S4x8192x14336_2_0_01_1_n_n none a0 a1) slices_S4x8192x14336_S4x8192x2048_0_0_0) (broadcastInDim S4x8192x2048 ![] bcast_S_S4x8192x2048 (constant S_ .f32 0x3DB504F3#32))) (broadcastInDim S4x8192x2048 ![] bcast_S_S4x8192x2048 (id (Host.log (constant S_ .f32 0x40000000#32))))) shapeCasts_S4x8192x2048_S32768x2048) bitsLt_bf16_f32

theorem goal_at (a0 : FVec Ideal S4x8192x2048 .f32) (a1 : FVec Ideal S2048x14336 .f32) (b : Fin 4) (s : Fin 8192) (j : Fin 2048) :
    goal a0 a1 (ix2 ⟨8192 * b.val + s.val, by omega⟩ j) = (∑ k : Fin 2048, a0 (ix3 b s k) * a1 (ix2 k ⟨j.val, by omega⟩)) * scale := by
  refine Eq.trans ?_ (div_scale _)
  pointwise [goal, id]

end Reference

open Cert.QueriesIdeal Cert.QueriesIdeal.Gen

variable (m : (ℓ : Loc nD τ sig) → Buf (Elt Ideal) ℓ) (c : Dev nD) (t : Fin cfg0.N)

theorem named_scale : (Named.named (F := Ideal) κ "scale" 0x3E0293EE#32 : Ideal .f32) = scale := IdealRules.named_const.ideal_named_scalar _ _ _ _ rfl

theorem body_at (x0 : Vec Ideal S512x2048 .bf16) (x1 : Vec Ideal S2048x2048 .bf16) (i : Fin 512) (j : Fin 2048) :
    k0_pay1 x0 x1 (ix2 i j) = (∑ k : Fin 2048, x0 (ix2 i k) * x1 (ix2 k j)) * scale := by
  rw [← named_scale]
  pointwise [k0_pay1]

theorem out_eq (x0 : Vec Ideal S512x2048 .bf16) (x1 : Vec Ideal S2048x2048 .bf16) : out0_2 x0 x1 = k0_pay1 x0 x1 := by
  unfold out0_2
  rw [View.canon_cons_unit_lit _ _ _ (by decide)]
  rw [View.ld_unit_lit _ x0 (by decide), View.ld_unit_lit _ x1 (by decide)]

/-- The tokens, one row each, in the matrix unit's type. -/
def lowRows (a : FVec Ideal S4x8192x2048 .f32) : FVec Ideal S32768x2048 .bf16 := shapeCast S32768x2048 (truncf .bf16 a bitsLt_bf16_f32) shapeCasts_S4x8192x2048_S32768x2048

/-- The weight in the matrix unit's type. -/
def low (a : FVec Ideal S2048x14336 .f32) : FVec Ideal S2048x14336 .bf16 := truncf .bf16 a bitsLt_bf16_f32

theorem V_0 : V m c main_v1 = lowRows (m (c, main_arg0)) := by
  unfold V hostOps0
  after_reads_simp
  rfl
theorem V_1 : V m c main_v2 = low (m (c, main_arg1)) := by
  unfold V hostOps0
  after_reads_simp
  rfl

theorem lowRows_at (a : FVec Ideal S4x8192x2048 .f32) (b : Fin 4) (s : Fin 8192) (k : Fin 2048) :
    lowRows a (ix2 ⟨8192 * b.val + s.val, by omega⟩ k) = a (ix3 b s k) := by
  pointwise [lowRows]

/-- The row block of a grid point. -/
def gM (t : Fin cfg0.N) : Fin 64 := cfg0.grid.coords t 1

theorem index0 : ∀ t : Fin cfg0.N, (cfg0.win 0).index t = ![(gM t).val, 0] := by decide +kernel
theorem index1 : ∀ t : Fin cfg0.N, (cfg0.win 1).index t = ![0, 0] := by decide +kernel
theorem index2 : ∀ t : Fin cfg0.N, (cfg0.win 2).index t = ![(gM t).val, 0] := by decide +kernel

theorem blk0_at (i : Fin 512) (k : Fin 2048) : iblk m c 0 t (ix2 i k) = m (c, main_arg0) (ix3 (⟨(gM t).val / 16, by omega⟩ : Fin 4) (⟨512 * ((gM t).val % 16) + i.val, by omega⟩ : Fin 8192) k) := by
  refine Eq.trans ?_ (lowRows_at (m (c, main_arg0)) _ _ k)
  rw [← V_0]
  unfold iblk
  refine congrArg (V m c main_v1) (funext fun a => Fin.ext ?_)
  refine (Pipeline.Window.rect_emb_val (cfg0.win 0) t _ a).trans ?_
  rw [index0]
  match a with
  | 0 => exact (show (gM t).val * 512 + i.val = 8192 * ((gM t).val / 16) + (512 * ((gM t).val % 16) + i.val) by omega)
  | 1 => exact (show 0 * 2048 + k.val = k.val by omega)

theorem blk1_at (k : Fin 2048) (j : Fin 2048) : iblk m c 1 t (ix2 k j) = m (c, main_arg1) (ix2 k (⟨j.val, by omega⟩ : Fin 14336)) := by
  refine Eq.trans ?_ (congrFun (V_1 m c) _)
  unfold iblk
  refine congrArg (V m c main_v2) (funext fun a => Fin.ext ?_)
  refine (Pipeline.Window.rect_emb_val (cfg0.win 1) t _ a).trans ?_
  rw [index1]
  match a with
  | 0 => exact (show 0 * 2048 + k.val = k.val by omega)
  | 1 => exact (show 0 * 2048 + j.val = j.val by omega)

/-- The call's result is the reference's. -/
theorem final : (dats m 0 c).arrAt 2 cfg0.N = goal (m (c, main_arg0)) (m (c, main_arg1)) := by
  refine (dats m 0 c).arrAt_eq_of_covers 2 _ (by decide +kernel) (fun t _ y => ?_) (Memref.isWhole_whole _)
  have hrow : ∀ (i : Fin 512) (j : Fin 2048), k0_pay1 (iblk m c 0 t) (iblk m c 1 t) (ix2 i j)
      = goal (m (c, main_arg0)) (m (c, main_arg1)) (ix2 (⟨8192 * ((gM t).val / 16) + (512 * ((gM t).val % 16) + i.val), by omega⟩ : Fin 32768) j) := fun i j =>
    (body_at _ _ i j).trans ((congrArg (· * scale) (Finset.sum_congr rfl fun k _ => congrArg₂ (fun x y : EReal => x * y) (blk0_at m c t i k) (blk1_at m c t k j))).trans
      (goal_at _ _ ⟨(gM t).val / 16, by omega⟩ ⟨512 * ((gM t).val % 16) + i.val, by omega⟩ j).symm)
  refine (congrFun ((Value.flushed2 m c t).trans (congrArg _ (out_eq _ _))) y).trans ?_
  refine Eq.trans ((congrArg (k0_pay1 (iblk m c 0 t) (iblk m c 1 t)) (ix2_eta y).symm).trans (hrow (y 0) (y 1))) ?_
  refine congrArg (goal (m (c, main_arg0)) (m (c, main_arg1))) (funext fun a => Fin.ext ?_)
  refine Eq.trans ?_ (Pipeline.Window.rect_emb_val (cfg0.win 2) t y a).symm
  rw [index2]
  match a with
  | 0 => exact (show 8192 * ((gM t).val / 16) + (512 * ((gM t).val % 16) + (y 0).val) = (gM t).val * 512 + (y 0).val by omega)
  | 1 => exact (show (y 1).val = 0 * 2048 + (y 1).val by omega)

theorem frame_kernel : Cert.quiescent_Queries := fun m ρ _ => Cert.Queries.Gen.frame (F := Bits) m ρ

theorem frame_ideal : Cert.quiescent_QueriesIdeal := fun m ρ _ => Cert.QueriesIdeal.Gen.frame (F := Ideal) m ρ

theorem frame_reference : Cert.quiescent_QueriesReferenceIdeal := by
  intro m g _
  hlo_run
  · exact fun _ => ⟨trivial, trivial⟩
  · exact sem_eq_zero_of_no_sems (by decide) _

/-- The scale is the inverse of the root of the width, as its word has it, over the logarithm of two. -/
theorem preserves : Cert.preserves_Queries_QueriesIdeal :=
  IdealRules.named_const.statement Cert.QueriesIdeal.κ "scale" .f32 0x3E0293EE#32 (((11863283 / 134217728) * (Real.log 2)⁻¹ : ℝ) : EReal) rfl

/-- The program and the reference leave equal arrays. -/
theorem algebraic : Cert.algebraic_QueriesIdeal_QueriesReferenceIdeal := by
  intro m g m' g' _ hagree
  refine ⟨fun c => goal (m (c, main_arg0)) (m (c, main_arg1)), ?_, ?_⟩
  · exact θ_run_mono (Cert.QueriesIdeal.Value.run_blocks (F := Ideal) m g) fun r h c => ⟨(h c).1.trans (final m c), (h c).2⟩
  · refine θ_run_mono (Cert.QueriesReferenceIdeal.Value.run (F := Ideal) m' g') fun r h c => ⟨(h c).1.trans ?_, (h c).2⟩
    obtain ⟨e0, e1⟩ := hagree c
    rw [e0, e1]
    rfl

end Cert.QueriesCall

end
-- ==== Proof.Calls.Gmlp.lean ====
module

public import proofs.«01_k».proof.Defs
public import proofs.«01_k».proof.Proof.Gen.Gmlp.Frame
public import proofs.«01_k».proof.Proof.Gen.GmlpIdeal.Value
public import proofs.«01_k».proof.Proof.Gen.GmlpReferenceIdeal.Run
public import Idealize.ShloMosaic.Lib.Pointwise
public import Idealize.ShloMosaic.Lib.IdealHost
public import Idealize.ShloMosaic.Lib.Claim
public import Idealize.ShloMosaic.Lib.StableHlo.RunHlo
public import Idealize.ShloMosaic.Lib.StableHlo.RunRead
public import Idealize.ShloMosaic.Lib.Pipeline.ValueKit.Acc
public import Idealize.ShloMosaic.Lib.Pipeline.ValueKit.Basic
public import Idealize.ShloMosaic.Lib.Pipeline.ValueKit.Geometry
public import Idealize.ShloMosaic.Lib.Pipeline.ValueKit.Tiles
public import Idealize.ShloMosaic.Lib.Pipeline.ReadBack

@[expose] public section

/-!
# The gMLP branch: two projections, gelu, layer norm and the causal spatial gate
-/

set_option maxRecDepth 65536

noncomputable section

namespace Cert.GmlpCall

open Idealize.ShloMosaic Idealize.ShloMosaic.TcCoe

/-- Half the argument times one plus the error function of the argument over the root of two. -/
def gel (z : EReal) : EReal := Ideal.ofBits FTy.f32 0x3F000000#32 * z * (1 + Ideal.erf (z * Ideal.ofBits FTy.f32 0x3F3504F3#32))

theorem gel_erfc (z : EReal) : Ideal.ofBits FTy.f32 0x3F000000#32 * z * Ideal.erfc (-z * Ideal.ofBits FTy.f32 0x3F3504F3#32) = gel z := by
  rw [neg_mul, Ideal.erfc_neg]
  rfl

/-- The sum over the width, over the width. -/
def meanOf (g : Fin 2048 → EReal) : EReal := Ideal.div (∑ j, g j) (Ideal.ofBits FTy.f32 0x45000000#32)

def rstdOf (g : Fin 2048 → EReal) : EReal :=
  Ideal.rsqrt (Ideal.div (∑ j, (g j - meanOf g) * (g j - meanOf g)) (Ideal.ofBits FTy.f32 0x45000000#32) + Ideal.ofBits FTy.f32 0x358637BD#32)

/-- A row after the layer norm. -/
def normed (g l b : Fin 2048 → EReal) (j : Fin 2048) : EReal := (g j - meanOf g) * rstdOf g * l j + b j

/-- The gate's lower triangle. -/
def low (w : EReal) (r c : Fin 128) : EReal := if c ≤ r then w else 0

/-- An element of the result from its chunk of rows, the weights and its group's gate. -/
def cell (x : Fin 128 → Fin 2048 → EReal) (wu wg : Fin 2048 → Fin 2048 → EReal) (l b : Fin 2048 → EReal) (ws : Fin 128 → Fin 128 → EReal) (bs : Fin 128 → EReal) (r : Fin 128) (j : Fin 2048) : EReal :=
  gel (∑ k, x r k * wu k j) * ((∑ q, low (ws r q) r q * normed (fun j => gel (∑ k, x q k * wg k j)) l b j) + bs r)

theorem cell_congr {x x' : Fin 128 → Fin 2048 → EReal} {wu wu' wg wg' : Fin 2048 → Fin 2048 → EReal} {l l' b b' : Fin 2048 → EReal} {ws ws' : Fin 128 → Fin 128 → EReal} {bs bs' : Fin 128 → EReal}
    (h0 : ∀ q k, x q k = x' q k) (h1 : ∀ k j, wu k j = wu' k j) (h2 : ∀ k j, wg k j = wg' k j) (h3 : ∀ j, l j = l' j) (h4 : ∀ j, b j = b' j) (h5 : ∀ r q, ws r q = ws' r q) (h6 : ∀ r, bs r = bs' r)
    (r : Fin 128) (j : Fin 2048) : cell x wu wg l b ws bs r j = cell x' wu' wg' l' b' ws' bs' r j := by
  obtain rfl : x = x' := funext fun q => funext fun k => h0 q k
  obtain rfl : wu = wu' := funext fun q => funext fun k => h1 q k
  obtain rfl : wg = wg' := funext fun q => funext fun k => h2 q k
  obtain rfl : l = l' := funext h3
  obtain rfl : b = b' := funext h4
  obtain rfl : ws = ws' := funext fun q => funext fun k => h5 q k
  obtain rfl : bs = bs' := funext h6
  rfl

theorem mask_ge : ∀ r c : Fin 128, IntOp.cmpi CmpIPredicate.sge (IntOp.addi (BitVec.ofNat 32 r.val) 0#32) (BitVec.ofNat 32 c.val) = if c ≤ r then 1#1 else 0#1 := by decide +kernel

theorem select_low (w : EReal) (r c : Fin 128) : Scalar.select (if c ≤ r then 1#1 else 0#1) w 0 = low w r c := by
  unfold low
  split <;> rfl

theorem sum4 (f : Fin 2048 → EReal) :
    (∑ j : Fin 512, f ⟨0 + j.val, by omega⟩) + (∑ j : Fin 512, f ⟨512 + j.val, by omega⟩) + (∑ j : Fin 512, f ⟨1024 + j.val, by omega⟩) + (∑ j : Fin 512, f ⟨1536 + j.val, by omega⟩) = ∑ j, f j := by
  rw [← Fin.sum_mul_add_fin 4 512 f, Fin.sum_univ_four]
  rfl

section Reference

open Cert.GmlpReferenceIdeal Cert.GmlpReferenceIdeal.Facts₀ Cert.GmlpReferenceIdeal.Facts

def zIn (a0 : FVec Ideal S4x8192x2048 .f32) (a1 : FVec Ideal S2048x14336 .f32) : FVec Ideal S4x8192x14336 .f32 :=
  Host.dotGeneral dot_S4x8192x2048_S2048x14336_S4x8192x14336_2_0_01_1_n_n none a0 a1

def gelR (z : FVec Ideal S4x8192x2048 .f32) : FVec Ideal S4x8192x2048 .f32 :=
  mulf (mulf (broadcastInDim S4x8192x2048 ![] bcast_S_S4x8192x2048 (constant S_ .f32 0x3F000000#32)) z) (Host.erfc (mulf (Host.negf z) (broadcastInDim S4x8192x2048 ![] bcast_S_S4x8192x2048 (constant S_ .f32 0x3F3504F3#32))))

def uR (z : FVec Ideal S4x8192x14336 .f32) : FVec Ideal S4x8192x2048 .f32 := gelR (extractStridedSlice S4x8192x2048 ![0, 0, 6144] z slices_S4x8192x14336_S4x8192x2048_0_0_6144)

def gR (z : FVec Ideal S4x8192x14336 .f32) : FVec Ideal S4x8192x2048 .f32 := gelR (extractStridedSlice S4x8192x2048 ![0, 0, 8192] z slices_S4x8192x14336_S4x8192x2048_0_0_8192)

def meanR (g : FVec Ideal S4x8192x2048 .f32) : FVec Ideal S4x8192x1 .f32 :=
  Host.divf (broadcastInDim S4x8192x1 ![0, 1] bcast_S4x8192_S4x8192x1_0_1 (Host.reduceAdd g (constant S_ .f32 0x00000000#32) reducesTo_S4x8192x2048_S4x8192_d2 h_S_)) (broadcastInDim S4x8192x1 ![] bcast_S_S4x8192x1 (constant S_ .f32 0x45000000#32))

def centR (g : FVec Ideal S4x8192x2048 .f32) : FVec Ideal S4x8192x2048 .f32 :=
  subf g (broadcastInDim S4x8192x2048 ![0, 1, 2] bcast_S4x8192x1_S4x8192x2048_0_1_2 (meanR g))

def rstdR (x : FVec Ideal S4x8192x2048 .f32) : FVec Ideal S4x8192x1 .f32 :=
  Host.rsqrt (addf (meanR (mulf x x)) (broadcastInDim S4x8192x1 ![] bcast_S_S4x8192x1 (constant S_ .f32 0x358637BD#32)))

def vnR (x : FVec Ideal S4x8192x2048 .f32) (a2 a3 : FVec Ideal S2048 .f32) : FVec Ideal S4x8192x2048 .f32 :=
  addf (mulf (mulf x (broadcastInDim S4x8192x2048 ![0, 1, 2] bcast_S4x8192x1_S4x8192x2048_0_1_2 (rstdR x))) (broadcastInDim S4x8192x2048 ![0, 1, 2] bcast_S1x1x2048_S4x8192x2048_0_1_2 (broadcastInDim S1x1x2048 ![2] bcast_S2048_S1x1x2048_2 a2))) (broadcastInDim S4x8192x2048 ![0, 1, 2] bcast_S1x1x2048_S4x8192x2048_0_1_2 (broadcastInDim S1x1x2048 ![2] bcast_S2048_S1x1x2048_2 a3))

def trilR (a4 : FVec Ideal S8x128x128 .f32) : FVec Ideal S8x128x128 .f32 :=
  select (broadcastInDim S8x128x128 ![1, 2] bcast_S128x128_S8x128x128_1_2 (cmpi .sge (addi (iotaInDim S128x128 32 0) (broadcastInDim S128x128 ![] bcast_S_S128x128 (constantI S_ 32 0#32))) (iotaInDim S128x128 32 1))) a4 (broadcastInDim S8x128x128 ![] bcast_S_S8x128x128 (constant S_ .f32 0x00000000#32))

def mixR (v : FVec Ideal S4x8192x2048 .f32) (w : FVec Ideal S8x128x128 .f32) (a5 : FVec Ideal S8x128 .f32) : FVec Ideal S4x8192x2048 .f32 :=
  shapeCast _ (addf (transpose S4x64x128x8x256 [1, 2, 4, 0, 3] (Host.dotGeneral dot_S4x64x128x8x256_S8x128x128_S8x4x64x256x128_2_2_014_1_3_0 none (shapeCast _ v shapeCasts_S4x8192x2048_S4x64x128x8x256) w) transposes_S8x4x64x256x128_S4x64x128x8x256_1_2_4_0_3) (broadcastInDim S4x64x128x8x256 ![0, 1, 2, 3, 4] bcast_S1x1x128x8x1_S4x64x128x8x256_0_1_2_3_4 (broadcastInDim S1x1x128x8x1 ![2, 3, 4] bcast_S128x8x1_S1x1x128x8x1_2_3_4 (broadcastInDim S128x8x1 ![0, 1] bcast_S128x8_S128x8x1_0_1 (transpose S128x8 [1, 0] a5 transposes_S8x128_S128x8_1_0))))) shapeCasts_S4x64x128x8x256_S4x8192x2048

/-- The reference's result. -/
def goal (a0 : FVec Ideal S4x8192x2048 .f32) (a1 : FVec Ideal S2048x14336 .f32) (a2 a3 : FVec Ideal S2048 .f32) (a4 : FVec Ideal S8x128x128 .f32) (a5 : FVec Ideal S8x128 .f32) : FVec Ideal S32768x2048 .bf16 :=
  truncf .bf16 (shapeCast _ (mulf (uR (zIn a0 a1)) (mixR (vnR (centR (gR (zIn a0 a1))) a2 a3) (trilR a4) a5)) shapeCasts_S4x8192x2048_S32768x2048) bitsLt_bf16_f32

theorem uR_at (a0 : FVec Ideal S4x8192x2048 .f32) (a1 : FVec Ideal S2048x14336 .f32) (b : Fin 4) (s : Fin 8192) (j : Fin 2048) :
    uR (zIn a0 a1) (ix3 b s j) = gel (∑ k : Fin 2048, a0 (ix3 b s k) * a1 (ix2 k ⟨6144 + j.val, by omega⟩)) := by
  rw [← gel_erfc]
  pointwise [uR, gelR, zIn]

theorem gR_at (a0 : FVec Ideal S4x8192x2048 .f32) (a1 : FVec Ideal S2048x14336 .f32) (b : Fin 4) (s : Fin 8192) (j : Fin 2048) :
    gR (zIn a0 a1) (ix3 b s j) = gel (∑ k : Fin 2048, a0 (ix3 b s k) * a1 (ix2 k ⟨8192 + j.val, by omega⟩)) := by
  rw [← gel_erfc]
  pointwise [gR, gelR, zIn]

theorem meanR_at (g : FVec Ideal S4x8192x2048 .f32) (b : Fin 4) (s : Fin 8192) :
    meanR g (ix3 b s 0) = Ideal.div (∑ j : Fin 2048, g (ix3 b s j)) (Ideal.ofBits FTy.f32 0x45000000#32) := by
  pointwise [meanR]

theorem centR_at (g : FVec Ideal S4x8192x2048 .f32) (b : Fin 4) (s : Fin 8192) (j : Fin 2048) :
    centR g (ix3 b s j) = g (ix3 b s j) - meanOf (fun j => g (ix3 b s j)) := by
  unfold meanOf
  rw [← meanR_at]
  pointwise [centR]

theorem rstdR_at (x : FVec Ideal S4x8192x2048 .f32) (b : Fin 4) (s : Fin 8192) :
    rstdR x (ix3 b s 0) = Ideal.rsqrt (Ideal.div (∑ j : Fin 2048, x (ix3 b s j) * x (ix3 b s j)) (Ideal.ofBits FTy.f32 0x45000000#32) + Ideal.ofBits FTy.f32 0x358637BD#32) := by
  pointwise [rstdR, meanR]

theorem vnR_at (g : FVec Ideal S4x8192x2048 .f32) (a2 a3 : FVec Ideal S2048 .f32) (b : Fin 4) (s : Fin 8192) (j : Fin 2048) :
    vnR (centR g) a2 a3 (ix3 b s j) = normed (fun j => g (ix3 b s j)) (fun j => a2 (ix1 j)) (fun j => a3 (ix1 j)) j := by
  have e : vnR (centR g) a2 a3 (ix3 b s j) = centR g (ix3 b s j) * rstdR (centR g) (ix3 b s 0) * a2 (ix1 j) + a3 (ix1 j) := by
    generalize centR g = x
    pointwise [vnR]
  rw [e, rstdR_at]
  simp only [centR_at]
  rfl

theorem trilR_at (a4 : FVec Ideal S8x128x128 .f32) (h : Fin 8) (r c : Fin 128) : trilR a4 (ix3 h r c) = low (a4 (ix3 h r c)) r c := by
  pointwise [trilR]
  rw [mask_ge]
  exact select_low _ r c

theorem mixR_at (v : FVec Ideal S4x8192x2048 .f32) (w : FVec Ideal S8x128x128 .f32) (a5 : FVec Ideal S8x128 .f32) (b : Fin 4) (n : Fin 64) (r : Fin 128) (h : Fin 8) (d : Fin 256) :
    mixR v w a5 (ix3 b ⟨128 * n.val + r.val, by omega⟩ ⟨256 * h.val + d.val, by omega⟩)
      = (∑ q : Fin 128, w (ix3 h r q) * v (ix3 b ⟨128 * n.val + q.val, by omega⟩ ⟨256 * h.val + d.val, by omega⟩)) + a5 (ix2 h r) := by
  have e : mixR v w a5 (ix3 b ⟨n.val * 128 + r.val, by omega⟩ ⟨h.val * 256 + d.val, by omega⟩)
      = (∑ q : Fin 128, v (ix3 b ⟨n.val * 128 + q.val, by omega⟩ ⟨h.val * 256 + d.val, by omega⟩) * w (ix3 h r q)) + a5 (ix2 h r) := by
    pointwise [mixR]
  simp only [Nat.mul_comm 128, Nat.mul_comm 256]
  refine e.trans (congrArg₂ (fun x y : EReal => x + y) (Finset.sum_congr rfl fun q _ => ?_) rfl)
  exact mul_comm (G := EReal) _ _

theorem goal_rows (a0 : FVec Ideal S4x8192x2048 .f32) (a1 : FVec Ideal S2048x14336 .f32) (a2 a3 : FVec Ideal S2048 .f32) (a4 : FVec Ideal S8x128x128 .f32) (a5 : FVec Ideal S8x128 .f32)
    (b : Fin 4) (s : Fin 8192) (j : Fin 2048) :
    goal a0 a1 a2 a3 a4 a5 (ix2 ⟨8192 * b.val + s.val, by omega⟩ j) = uR (zIn a0 a1) (ix3 b s j) * mixR (vnR (centR (gR (zIn a0 a1))) a2 a3) (trilR a4) a5 (ix3 b s j) := by
  unfold goal
  generalize uR (zIn a0 a1) = u
  generalize mixR (vnR (centR (gR (zIn a0 a1))) a2 a3) (trilR a4) a5 = v
  pointwise

theorem goal_at (a0 : FVec Ideal S4x8192x2048 .f32) (a1 : FVec Ideal S2048x14336 .f32) (a2 a3 : FVec Ideal S2048 .f32) (a4 : FVec Ideal S8x128x128 .f32) (a5 : FVec Ideal S8x128 .f32)
    (b : Fin 4) (n : Fin 64) (r : Fin 128) (h : Fin 8) (d : Fin 256) :
    goal a0 a1 a2 a3 a4 a5 (ix2 ⟨8192 * b.val + (128 * n.val + r.val), by omega⟩ ⟨256 * h.val + d.val, by omega⟩)
      = cell (fun q k => a0 (ix3 b ⟨128 * n.val + q.val, by omega⟩ k)) (fun k j => a1 (ix2 k ⟨6144 + j.val, by omega⟩)) (fun k j => a1 (ix2 k ⟨8192 + j.val, by omega⟩))
          (fun j => a2 (ix1 j)) (fun j => a3 (ix1 j)) (fun r q => a4 (ix3 h r q)) (fun r => a5 (ix2 h r)) r ⟨256 * h.val + d.val, by omega⟩ := by
  refine (goal_rows a0 a1 a2 a3 a4 a5 b ⟨128 * n.val + r.val, by omega⟩ ⟨256 * h.val + d.val, by omega⟩).trans ?_
  unfold cell
  refine congrArg₂ (fun x y : EReal => x * y) (uR_at a0 a1 b _ _) ((mixR_at _ _ _ b n r h d).trans (congrArg₂ (fun x y : EReal => x + y) (Finset.sum_congr rfl fun q _ => ?_) rfl))
  refine congrArg₂ (fun x y : EReal => x * y) (trilR_at a4 h r q) ((vnR_at _ a2 a3 b _ _).trans ?_)
  exact congrArg (fun g => normed g (fun j => a2 (ix1 j)) (fun j => a3 (ix1 j)) ⟨256 * h.val + d.val, by omega⟩) (funext fun j => gR_at a0 a1 b _ j)

theorem goal_eq (m : (ℓ : Loc nD τ sig) → Buf (Elt Ideal) ℓ) (c : Dev nD) :
    Cert.GmlpReferenceIdeal.Value.res_main_v51 m c = goal (m (c, main_arg0)) (m (c, main_arg1)) (m (c, main_arg2)) (m (c, main_arg3)) (m (c, main_arg4)) (m (c, main_arg5)) := rfl

end Reference

open Cert.GmlpIdeal Cert.GmlpIdeal.Gen

variable (m : (ℓ : Loc nD τ sig) → Buf (Elt Ideal) ℓ) (c : Dev nD) (t : Fin cfg0.N)

/-- A block of 512 columns after gelu. -/
theorem gblk (x0 : Vec Ideal S256x2048 .bf16) (w : Vec Ideal S2048x512 .bf16) (i : Fin 256) (j : Fin 512) :
    k0_pay6 x0 w (ix2 i j) = gel (∑ k : Fin 2048, x0 (ix2 i k) * w (ix2 k j)) := by
  pointwise [k0_pay6, k0_pay5, k0_pay4, gel, Ideal.ofBits_one_f32]
  rfl

/-- The constant one half. -/
def half : Ideal .f32 := FloatOps.ofBits FTy.f32 0x3F000000#32

theorem ublk (x0 : Vec Ideal S256x2048 .bf16) (w : Vec Ideal S2048x512 .bf16) (i : Fin 256) (j : Fin 512) :
    k0_pay60 (k0_pay59 (k0_pay4 x0) w) half (ix2 i j) = gel (∑ k : Fin 2048, x0 (ix2 i k) * w (ix2 k j)) := by
  pointwise [k0_pay60, k0_pay59, k0_pay4, gel, half, Ideal.ofBits_one_f32]
  rfl

theorem pay6_eq (x0 : Vec Ideal S256x2048 .bf16) (w : Vec Ideal S2048x512 .bf16) (i : Fin 256) (j : Fin 512) : k0_pay5 x0 w (ix2 i j) = k0_pay6 x0 w (ix2 i j) := by
  unfold k0_pay6
  generalize k0_pay5 x0 w = g
  pointwise

theorem sum7 (x0 : Vec Ideal S256x2048 .bf16) (w : Vec Ideal S2048x512 .bf16) (i : Fin 256) : k0_pay7 x0 w (ix2 i 0) = ∑ j : Fin 512, k0_pay6 x0 w (ix2 i j) := by
  simp only [← pay6_eq]
  unfold k0_pay7
  generalize k0_pay5 x0 w = g
  pointwise

theorem sum10 (x0 : Vec Ideal S256x2048 .bf16) (w : Vec Ideal S2048x512 .bf16) (i : Fin 256) : k0_pay10 x0 w (ix2 i 0) = ∑ j : Fin 512, k0_pay6 x0 w (ix2 i j) := by
  simp only [← pay6_eq]
  rw [show k0_pay5 x0 w = k0_pay8 x0 w from rfl]
  unfold k0_pay10
  generalize k0_pay8 x0 w = g
  pointwise

theorem mean_at (x0 : Vec Ideal S256x2048 .bf16) (w0 w1 w2 w3 : Vec Ideal S2048x512 .bf16) (i : Fin 256) :
    k0_pay15 (k0_pay4 x0) (k0_pay7 x0 w0) (k0_pay10 x0 w1) w2 w3 (ix2 i 0)
      = Ideal.div ((∑ j : Fin 512, k0_pay6 x0 w0 (ix2 i j)) + (∑ j : Fin 512, k0_pay6 x0 w1 (ix2 i j)) + (∑ j : Fin 512, k0_pay6 x0 w2 (ix2 i j)) + (∑ j : Fin 512, k0_pay6 x0 w3 (ix2 i j))) (Ideal.ofBits FTy.f32 0x45000000#32) := by
  rw [← sum7, ← sum10]
  simp only [← pay6_eq]
  rw [show k0_pay5 x0 w2 = k0_pay11 (k0_pay4 x0) w2 from rfl, show k0_pay5 x0 w3 = k0_pay13 (k0_pay4 x0) w3 from rfl]
  unfold k0_pay15
  generalize k0_pay11 (k0_pay4 x0) w2 = g2
  generalize k0_pay13 (k0_pay4 x0) w3 = g3
  generalize k0_pay7 x0 w0 = p
  generalize k0_pay10 x0 w1 = q
  pointwise

theorem rstd_at (u : FVec Ideal S256x1 .f32) (g0 g1 g2 g3 : Vec Ideal S256x512 .f32) (i : Fin 256) :
    k0_pay17 u k0_pay16 g0 g1 g2 g3 (ix2 i 0)
      = Ideal.rsqrt (Ideal.div ((∑ j : Fin 512, (g0 (ix2 i j) - u (ix2 i 0)) * (g0 (ix2 i j) - u (ix2 i 0))) + (∑ j : Fin 512, (g1 (ix2 i j) - u (ix2 i 0)) * (g1 (ix2 i j) - u (ix2 i 0)))
        + (∑ j : Fin 512, (g2 (ix2 i j) - u (ix2 i 0)) * (g2 (ix2 i j) - u (ix2 i 0))) + (∑ j : Fin 512, (g3 (ix2 i j) - u (ix2 i 0)) * (g3 (ix2 i j) - u (ix2 i 0)))) (Ideal.ofBits FTy.f32 0x45000000#32) + Ideal.ofBits FTy.f32 0x358637BD#32) := by
  pointwise [k0_pay17, k0_pay16]

theorem vn_at (u r : FVec Ideal S256x1 .f32) (g : Vec Ideal S256x512 .f32) (l b : Vec Ideal S1x512 .f32) (i : Fin 256) (j : Fin 512) :
    k0_pay58 u r g l b (ix2 i j) = (g (ix2 i j) - u (ix2 i 0)) * r (ix2 i 0) * l (ix2 0 j) + b (ix2 0 j) := by
  pointwise [k0_pay58]

/-- The kernel's causal mask. -/
def mask : IVec S128x128 1 :=
  k0_pay22 (iota .tc S128x128 32 [0] iota_S128x128_d0_w32) (iota .tc S128x128 32 [1] iota_S128x128_d1_w32) k0_pay18 128#32 k0_pay19 k0_pay20 k0_pay21

theorem mask_at (r c : Fin 128) : mask (ix2 r c) = if c ≤ r then 1#1 else 0#1 := by
  pointwise [mask, k0_pay22, k0_pay18, k0_pay19, k0_pay20, k0_pay21]
  revert r c
  decide +kernel

/-- The spatial gate of a chunk: the masked product, the bias and the factor. -/
def gated (n e : ℕ) (hn : n < 2) (he : e ≤ 256) (v u : FVec Ideal S256x512 .f32) (ws : Vec Ideal S1x128x128 .f32) (bs : Vec Ideal S1x128x1 .f32) (r : Fin 128) (d : Fin 256) : EReal :=
  u (ix2 (⟨128 * n + r.val, by omega⟩ : Fin 256) (⟨e + d.val, by omega⟩ : Fin 512))
    * ((∑ q : Fin 128, Scalar.select (mask (ix2 r q)) (ws (ix3 0 r q)) 0 * v (ix2 (⟨128 * n + q.val, by omega⟩ : Fin 256) (⟨e + d.val, by omega⟩ : Fin 512))) + bs (ix3 0 r 0))

theorem gated00 (v : FVec Ideal S256x512 .bf16) (z : FVec Ideal S256x512 .f32) (ws : Vec Ideal S1x128x128 .f32) (bs : Vec Ideal S1x128x1 .f32) (r : Fin 128) (d : Fin 256) :
    k0_pay63 mask v z half ws bs (ix2 r d) = gated 0 0 (by decide) (by decide) v (k0_pay60 z half) ws bs r d := by
  unfold gated
  simp only [Nat.mul_zero, Nat.zero_add, Nat.mul_one]
  unfold k0_pay63
  generalize k0_pay60 z half = u
  generalize mask = M
  pointwise [k0_pay61, k0_pay62]

theorem gated10 (v : FVec Ideal S256x512 .bf16) (z : FVec Ideal S256x512 .f32) (ws : Vec Ideal S1x128x128 .f32) (bs : Vec Ideal S1x128x1 .f32) (r : Fin 128) (d : Fin 256) :
    k0_pay64 mask v z half ws bs (ix2 r d) = gated 1 0 (by decide) (by decide) v (k0_pay60 z half) ws bs r d := by
  unfold gated
  simp only [Nat.mul_zero, Nat.zero_add, Nat.mul_one]
  unfold k0_pay64
  generalize k0_pay60 z half = u
  generalize mask = M
  pointwise [k0_pay61, k0_pay62]

theorem gated01 (v : FVec Ideal S256x512 .bf16) (z : FVec Ideal S256x512 .f32) (ws : Vec Ideal S1x128x128 .f32) (bs : Vec Ideal S1x128x1 .f32) (r : Fin 128) (d : Fin 256) :
    k0_pay34 mask v (k0_pay60 z half) ws bs (ix2 r d) = gated 0 256 (by decide) (by decide) v (k0_pay60 z half) ws bs r d := by
  unfold gated
  simp only [Nat.mul_zero, Nat.zero_add, Nat.mul_one]
  generalize k0_pay60 z half = u
  generalize mask = M
  pointwise [k0_pay34, k0_pay32, k0_pay33]

theorem gated11 (v : FVec Ideal S256x512 .bf16) (z : FVec Ideal S256x512 .f32) (ws : Vec Ideal S1x128x128 .f32) (bs : Vec Ideal S1x128x1 .f32) (r : Fin 128) (d : Fin 256) :
    k0_pay35 mask v (k0_pay60 z half) ws bs (ix2 r d) = gated 1 256 (by decide) (by decide) v (k0_pay60 z half) ws bs r d := by
  unfold gated
  simp only [Nat.mul_zero, Nat.zero_add, Nat.mul_one]
  generalize k0_pay60 z half = u
  generalize mask = M
  pointwise [k0_pay35, k0_pay32, k0_pay33]

theorem ld_cols (X : Vec Ideal S2048x2048 .bf16) (o : ℕ) (ho : o + 512 ≤ 2048) (inb : ∀ a, (![0, o] : Fin 2 → ℕ) a + S2048x512.size a ≤ S2048x2048.size a) (k : Fin 2048) (j : Fin 512) :
    View.ld X (Rect.unit (s := S2048x2048) ![0, o] S2048x512.size inb) (ix2 k j) = X (ix2 k ⟨o + j.val, by omega⟩) :=
  View.ld_unit_apply_of X _ _ inb _ _ fun a => match a with
    | 0 => (show k.val = 0 + k.val by omega)
    | 1 => rfl

theorem ld_row (X : Vec Ideal S1x2048 .f32) (o : ℕ) (ho : o + 512 ≤ 2048) (inb : ∀ a, (![0, o] : Fin 2 → ℕ) a + S1x512.size a ≤ S1x2048.size a) (j : Fin 512) :
    View.ld X (Rect.unit (s := S1x2048) ![0, o] S1x512.size inb) (ix2 0 j) = X (ix2 0 ⟨o + j.val, by omega⟩) :=
  View.ld_unit_apply_of X _ _ inb _ _ fun a => match a with
    | 0 => rfl
    | 1 => rfl

theorem ld_gate (X : Vec Ideal S8x128x128 .f32) (h : Fin 8) (inb : ∀ a, (![h.val, 0, 0] : Fin 3 → ℕ) a + S1x128x128.size a ≤ S8x128x128.size a) (r q : Fin 128) :
    View.ld X (Rect.unit (s := S8x128x128) ![h.val, 0, 0] S1x128x128.size inb) (ix3 0 r q) = X (ix3 h r q) :=
  View.ld_unit_apply_of X _ _ inb _ _ fun a => match a with
    | 0 => rfl
    | 1 => (show r.val = 0 + r.val by omega)
    | 2 => (show q.val = 0 + q.val by omega)

theorem ld_bias (X : Vec Ideal S8x128x1 .f32) (h : Fin 8) (inb : ∀ a, (![h.val, 0, 0] : Fin 3 → ℕ) a + S1x128x1.size a ≤ S8x128x1.size a) (r : Fin 128) :
    View.ld X (Rect.unit (s := S8x128x1) ![h.val, 0, 0] S1x128x1.size inb) (ix3 0 r 0) = X (ix3 h r 0) :=
  View.ld_unit_apply_of X _ _ inb _ _ fun a => match a with
    | 0 => rfl
    | 1 => (show r.val = 0 + r.val by omega)
    | 2 => rfl

/-- What the body stores in its scratch: the gate's columns after gelu, the last store first. -/
def scr (x0 : Vec Ideal S256x2048 .bf16) (x2 : Vec Ideal S2048x2048 .bf16) : List (View.Piece (Elt Ideal) S256x2048 .f32) :=
  [⟨Rect.unit (s := S256x2048) ![0, 1536] S256x512.size inb_S256x2048_S256x512_0_1536, k0_pay14 (k0_pay4 x0) (View.ld x2 (Rect.unit (s := S2048x2048) ![0, 1536] S2048x512.size inb_S2048x2048_S2048x512_0_1536))⟩,
   ⟨Rect.unit (s := S256x2048) ![0, 1024] S256x512.size inb_S256x2048_S256x512_0_1024, k0_pay12 (k0_pay4 x0) (View.ld x2 (Rect.unit (s := S2048x2048) ![0, 1024] S2048x512.size inb_S2048x2048_S2048x512_0_1024))⟩,
   ⟨Rect.unit (s := S256x2048) ![0, 512] S256x512.size inb_S256x2048_S256x512_0_512, k0_pay9 x0 (View.ld x2 (Rect.unit (s := S2048x2048) ![0, 512] S2048x512.size inb_S2048x2048_S2048x512_0_512))⟩,
   ⟨Rect.unit (s := S256x2048) ![0, 0] S256x512.size inb_S256x2048_S256x512_0_0, k0_pay6 x0 (View.ld x2 (Rect.unit (s := S2048x2048) ![0, 0] S2048x512.size inb_S2048x2048_S2048x512_0_0))⟩]

def rd0 (x0 : Vec Ideal S256x2048 .bf16) (x2 : Vec Ideal S2048x2048 .bf16) : Vec Ideal S256x512 .f32 := (View.whole cc0_scratch0).readCov (scr x0 x2) (Rect.unit (s := S256x2048) ![0, 0] S256x512.size inb_S256x2048_S256x512_0_0).toLoadRect

theorem rd0_eq (x0 : Vec Ideal S256x2048 .bf16) (x2 : Vec Ideal S2048x2048 .bf16) : rd0 x0 x2 = k0_pay6 x0 (View.ld x2 (Rect.unit (s := S2048x2048) ![0, 0] S2048x512.size inb_S2048x2048_S2048x512_0_0)) := by
  unfold rd0 scr
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

def rd1 (x0 : Vec Ideal S256x2048 .bf16) (x2 : Vec Ideal S2048x2048 .bf16) : Vec Ideal S256x512 .f32 := (View.whole cc0_scratch0).readCov (scr x0 x2) (Rect.unit (s := S256x2048) ![0, 512] S256x512.size inb_S256x2048_S256x512_0_512).toLoadRect

theorem rd1_eq (x0 : Vec Ideal S256x2048 .bf16) (x2 : Vec Ideal S2048x2048 .bf16) : rd1 x0 x2 = k0_pay6 x0 (View.ld x2 (Rect.unit (s := S2048x2048) ![0, 512] S2048x512.size inb_S2048x2048_S2048x512_0_512)) := by
  unfold rd1 scr
  refine (View.readCov_skip _ _ _ _ _ (by decide)).trans ?_
  refine (View.readCov_skip _ _ _ _ _ (by decide)).trans ?_
  exact View.readCov_cons_toLoadRect _ _ _ _

def rd2 (x0 : Vec Ideal S256x2048 .bf16) (x2 : Vec Ideal S2048x2048 .bf16) : Vec Ideal S256x512 .f32 := (View.whole cc0_scratch0).readCov (scr x0 x2) (Rect.unit (s := S256x2048) ![0, 1024] S256x512.size inb_S256x2048_S256x512_0_1024).toLoadRect

theorem rd2_eq (x0 : Vec Ideal S256x2048 .bf16) (x2 : Vec Ideal S2048x2048 .bf16) : rd2 x0 x2 = k0_pay6 x0 (View.ld x2 (Rect.unit (s := S2048x2048) ![0, 1024] S2048x512.size inb_S2048x2048_S2048x512_0_1024)) := by
  unfold rd2 scr
  refine (View.readCov_skip _ _ _ _ _ (by decide)).trans ?_
  exact View.readCov_cons_toLoadRect _ _ _ _

def rd3 (x0 : Vec Ideal S256x2048 .bf16) (x2 : Vec Ideal S2048x2048 .bf16) : Vec Ideal S256x512 .f32 := (View.whole cc0_scratch0).readCov (scr x0 x2) (Rect.unit (s := S256x2048) ![0, 1536] S256x512.size inb_S256x2048_S256x512_0_1536).toLoadRect

theorem rd3_eq (x0 : Vec Ideal S256x2048 .bf16) (x2 : Vec Ideal S2048x2048 .bf16) : rd3 x0 x2 = k0_pay6 x0 (View.ld x2 (Rect.unit (s := S2048x2048) ![0, 1536] S2048x512.size inb_S2048x2048_S2048x512_0_1536)) := by
  unfold rd3 scr
  exact View.readCov_cons_toLoadRect _ _ _ _

/-- A row of the gate after gelu. -/
def gv (x0 : Vec Ideal S256x2048 .bf16) (x2 : Vec Ideal S2048x2048 .bf16) (i : Fin 256) (j : Fin 2048) : EReal := gel (∑ k : Fin 2048, x0 (ix2 i k) * x2 (ix2 k j))

theorem rd0_at (x0 : Vec Ideal S256x2048 .bf16) (x2 : Vec Ideal S2048x2048 .bf16) (i : Fin 256) (j : Fin 512) : rd0 x0 x2 (ix2 i j) = gv x0 x2 i ⟨0 + j.val, by omega⟩ := by
  rw [rd0_eq, gblk]
  exact congrArg gel (Finset.sum_congr rfl fun k _ => congrArg (fun w : EReal => x0 (ix2 i k) * w) (ld_cols x2 0 (by decide) _ k j))

theorem rd1_at (x0 : Vec Ideal S256x2048 .bf16) (x2 : Vec Ideal S2048x2048 .bf16) (i : Fin 256) (j : Fin 512) : rd1 x0 x2 (ix2 i j) = gv x0 x2 i ⟨512 + j.val, by omega⟩ := by
  rw [rd1_eq, gblk]
  exact congrArg gel (Finset.sum_congr rfl fun k _ => congrArg (fun w : EReal => x0 (ix2 i k) * w) (ld_cols x2 512 (by decide) _ k j))

theorem rd2_at (x0 : Vec Ideal S256x2048 .bf16) (x2 : Vec Ideal S2048x2048 .bf16) (i : Fin 256) (j : Fin 512) : rd2 x0 x2 (ix2 i j) = gv x0 x2 i ⟨1024 + j.val, by omega⟩ := by
  rw [rd2_eq, gblk]
  exact congrArg gel (Finset.sum_congr rfl fun k _ => congrArg (fun w : EReal => x0 (ix2 i k) * w) (ld_cols x2 1024 (by decide) _ k j))

theorem rd3_at (x0 : Vec Ideal S256x2048 .bf16) (x2 : Vec Ideal S2048x2048 .bf16) (i : Fin 256) (j : Fin 512) : rd3 x0 x2 (ix2 i j) = gv x0 x2 i ⟨1536 + j.val, by omega⟩ := by
  rw [rd3_eq, gblk]
  exact congrArg gel (Finset.sum_congr rfl fun k _ => congrArg (fun w : EReal => x0 (ix2 i k) * w) (ld_cols x2 1536 (by decide) _ k j))

def mu (x0 : Vec Ideal S256x2048 .bf16) (x2 : Vec Ideal S2048x2048 .bf16) : FVec Ideal S256x1 .f32 := k0_pay15 (k0_pay4 x0) (k0_pay7 x0 (View.ld x2 (Rect.unit (s := S2048x2048) ![0, 0] S2048x512.size inb_S2048x2048_S2048x512_0_0))) (k0_pay10 x0 (View.ld x2 (Rect.unit (s := S2048x2048) ![0, 512] S2048x512.size inb_S2048x2048_S2048x512_0_512))) (View.ld x2 (Rect.unit (s := S2048x2048) ![0, 1024] S2048x512.size inb_S2048x2048_S2048x512_0_1024)) (View.ld x2 (Rect.unit (s := S2048x2048) ![0, 1536] S2048x512.size inb_S2048x2048_S2048x512_0_1536))

theorem mu_at (x0 : Vec Ideal S256x2048 .bf16) (x2 : Vec Ideal S2048x2048 .bf16) (i : Fin 256) : mu x0 x2 (ix2 i 0) = meanOf (gv x0 x2 i) := by
  unfold mu meanOf
  rw [mean_at, ← rd0_eq, ← rd1_eq, ← rd2_eq, ← rd3_eq]
  simp only [rd0_at, rd1_at, rd2_at, rd3_at]
  rw [sum4]

def rs (x0 : Vec Ideal S256x2048 .bf16) (x2 : Vec Ideal S2048x2048 .bf16) : FVec Ideal S256x1 .f32 := k0_pay17 (mu x0 x2) k0_pay16 (rd0 x0 x2) (rd1 x0 x2) (rd2 x0 x2) (rd3 x0 x2)

theorem rs_at (x0 : Vec Ideal S256x2048 .bf16) (x2 : Vec Ideal S2048x2048 .bf16) (i : Fin 256) : rs x0 x2 (ix2 i 0) = rstdOf (gv x0 x2 i) := by
  unfold rs rstdOf
  rw [rstd_at, mu_at]
  simp only [rd0_at, rd1_at, rd2_at, rd3_at]
  rw [sum4 (fun j => (gv x0 x2 i j - meanOf (gv x0 x2 i)) * (gv x0 x2 i j - meanOf (gv x0 x2 i)))]

def vn0 (x0 : Vec Ideal S256x2048 .bf16) (x2 : Vec Ideal S2048x2048 .bf16) (x3 x4 : Vec Ideal S1x2048 .f32) : FVec Ideal S256x512 .bf16 := k0_pay58 (mu x0 x2) (rs x0 x2) (rd0 x0 x2) (View.ld x3 (Rect.unit (s := S1x2048) ![0, 0] S1x512.size inb_S1x2048_S1x512_0_0)) (View.ld x4 (Rect.unit (s := S1x2048) ![0, 0] S1x512.size inb_S1x2048_S1x512_0_0))

theorem vn0_at (x0 : Vec Ideal S256x2048 .bf16) (x2 : Vec Ideal S2048x2048 .bf16) (x3 x4 : Vec Ideal S1x2048 .f32) (i : Fin 256) (j : Fin 512) :
    vn0 x0 x2 x3 x4 (ix2 i j) = normed (gv x0 x2 i) (fun j => x3 (ix2 0 j)) (fun j => x4 (ix2 0 j)) ⟨0 + j.val, by omega⟩ := by
  unfold vn0 normed
  rw [vn_at, mu_at, rs_at, rd0_at, ld_row x3 0 (by decide), ld_row x4 0 (by decide)]

def zz0 (x0 : Vec Ideal S256x2048 .bf16) (x1 : Vec Ideal S2048x2048 .bf16) : FVec Ideal S256x512 .f32 := k0_pay59 (k0_pay4 x0) (View.ld x1 (Rect.unit (s := S2048x2048) ![0, 0] S2048x512.size inb_S2048x2048_S2048x512_0_0))

theorem zz0_at (x0 : Vec Ideal S256x2048 .bf16) (x1 : Vec Ideal S2048x2048 .bf16) (i : Fin 256) (j : Fin 512) :
    k0_pay60 (zz0 x0 x1) half (ix2 i j) = gel (∑ k : Fin 2048, x0 (ix2 i k) * x1 (ix2 k ⟨0 + j.val, by omega⟩)) := by
  unfold zz0
  rw [ublk]
  exact congrArg gel (Finset.sum_congr rfl fun k _ => congrArg (fun w : EReal => x0 (ix2 i k) * w) (ld_cols x1 0 (by decide) _ k j))

def vn1 (x0 : Vec Ideal S256x2048 .bf16) (x2 : Vec Ideal S2048x2048 .bf16) (x3 x4 : Vec Ideal S1x2048 .f32) : FVec Ideal S256x512 .bf16 := k0_pay58 (mu x0 x2) (rs x0 x2) (rd1 x0 x2) (View.ld x3 (Rect.unit (s := S1x2048) ![0, 512] S1x512.size inb_S1x2048_S1x512_0_512)) (View.ld x4 (Rect.unit (s := S1x2048) ![0, 512] S1x512.size inb_S1x2048_S1x512_0_512))

theorem vn1_at (x0 : Vec Ideal S256x2048 .bf16) (x2 : Vec Ideal S2048x2048 .bf16) (x3 x4 : Vec Ideal S1x2048 .f32) (i : Fin 256) (j : Fin 512) :
    vn1 x0 x2 x3 x4 (ix2 i j) = normed (gv x0 x2 i) (fun j => x3 (ix2 0 j)) (fun j => x4 (ix2 0 j)) ⟨512 + j.val, by omega⟩ := by
  unfold vn1 normed
  rw [vn_at, mu_at, rs_at, rd1_at, ld_row x3 512 (by decide), ld_row x4 512 (by decide)]

def zz1 (x0 : Vec Ideal S256x2048 .bf16) (x1 : Vec Ideal S2048x2048 .bf16) : FVec Ideal S256x512 .f32 := k0_pay59 (k0_pay4 x0) (View.ld x1 (Rect.unit (s := S2048x2048) ![0, 512] S2048x512.size inb_S2048x2048_S2048x512_0_512))

theorem zz1_at (x0 : Vec Ideal S256x2048 .bf16) (x1 : Vec Ideal S2048x2048 .bf16) (i : Fin 256) (j : Fin 512) :
    k0_pay60 (zz1 x0 x1) half (ix2 i j) = gel (∑ k : Fin 2048, x0 (ix2 i k) * x1 (ix2 k ⟨512 + j.val, by omega⟩)) := by
  unfold zz1
  rw [ublk]
  exact congrArg gel (Finset.sum_congr rfl fun k _ => congrArg (fun w : EReal => x0 (ix2 i k) * w) (ld_cols x1 512 (by decide) _ k j))

def vn2 (x0 : Vec Ideal S256x2048 .bf16) (x2 : Vec Ideal S2048x2048 .bf16) (x3 x4 : Vec Ideal S1x2048 .f32) : FVec Ideal S256x512 .bf16 := k0_pay58 (mu x0 x2) (rs x0 x2) (rd2 x0 x2) (View.ld x3 (Rect.unit (s := S1x2048) ![0, 1024] S1x512.size inb_S1x2048_S1x512_0_1024)) (View.ld x4 (Rect.unit (s := S1x2048) ![0, 1024] S1x512.size inb_S1x2048_S1x512_0_1024))

theorem vn2_at (x0 : Vec Ideal S256x2048 .bf16) (x2 : Vec Ideal S2048x2048 .bf16) (x3 x4 : Vec Ideal S1x2048 .f32) (i : Fin 256) (j : Fin 512) :
    vn2 x0 x2 x3 x4 (ix2 i j) = normed (gv x0 x2 i) (fun j => x3 (ix2 0 j)) (fun j => x4 (ix2 0 j)) ⟨1024 + j.val, by omega⟩ := by
  unfold vn2 normed
  rw [vn_at, mu_at, rs_at, rd2_at, ld_row x3 1024 (by decide), ld_row x4 1024 (by decide)]

def zz2 (x0 : Vec Ideal S256x2048 .bf16) (x1 : Vec Ideal S2048x2048 .bf16) : FVec Ideal S256x512 .f32 := k0_pay59 (k0_pay4 x0) (View.ld x1 (Rect.unit (s := S2048x2048) ![0, 1024] S2048x512.size inb_S2048x2048_S2048x512_0_1024))

theorem zz2_at (x0 : Vec Ideal S256x2048 .bf16) (x1 : Vec Ideal S2048x2048 .bf16) (i : Fin 256) (j : Fin 512) :
    k0_pay60 (zz2 x0 x1) half (ix2 i j) = gel (∑ k : Fin 2048, x0 (ix2 i k) * x1 (ix2 k ⟨1024 + j.val, by omega⟩)) := by
  unfold zz2
  rw [ublk]
  exact congrArg gel (Finset.sum_congr rfl fun k _ => congrArg (fun w : EReal => x0 (ix2 i k) * w) (ld_cols x1 1024 (by decide) _ k j))

def vn3 (x0 : Vec Ideal S256x2048 .bf16) (x2 : Vec Ideal S2048x2048 .bf16) (x3 x4 : Vec Ideal S1x2048 .f32) : FVec Ideal S256x512 .bf16 := k0_pay58 (mu x0 x2) (rs x0 x2) (rd3 x0 x2) (View.ld x3 (Rect.unit (s := S1x2048) ![0, 1536] S1x512.size inb_S1x2048_S1x512_0_1536)) (View.ld x4 (Rect.unit (s := S1x2048) ![0, 1536] S1x512.size inb_S1x2048_S1x512_0_1536))

theorem vn3_at (x0 : Vec Ideal S256x2048 .bf16) (x2 : Vec Ideal S2048x2048 .bf16) (x3 x4 : Vec Ideal S1x2048 .f32) (i : Fin 256) (j : Fin 512) :
    vn3 x0 x2 x3 x4 (ix2 i j) = normed (gv x0 x2 i) (fun j => x3 (ix2 0 j)) (fun j => x4 (ix2 0 j)) ⟨1536 + j.val, by omega⟩ := by
  unfold vn3 normed
  rw [vn_at, mu_at, rs_at, rd3_at, ld_row x3 1536 (by decide), ld_row x4 1536 (by decide)]

def zz3 (x0 : Vec Ideal S256x2048 .bf16) (x1 : Vec Ideal S2048x2048 .bf16) : FVec Ideal S256x512 .f32 := k0_pay59 (k0_pay4 x0) (View.ld x1 (Rect.unit (s := S2048x2048) ![0, 1536] S2048x512.size inb_S2048x2048_S2048x512_0_1536))

theorem zz3_at (x0 : Vec Ideal S256x2048 .bf16) (x1 : Vec Ideal S2048x2048 .bf16) (i : Fin 256) (j : Fin 512) :
    k0_pay60 (zz3 x0 x1) half (ix2 i j) = gel (∑ k : Fin 2048, x0 (ix2 i k) * x1 (ix2 k ⟨1536 + j.val, by omega⟩)) := by
  unfold zz3
  rw [ublk]
  exact congrArg gel (Finset.sum_congr rfl fun k _ => congrArg (fun w : EReal => x0 (ix2 i k) * w) (ld_cols x1 1536 (by decide) _ k j))

/-- An element of a block of the result. -/
def elt (x0 : Vec Ideal S256x2048 .bf16) (x1 x2 : Vec Ideal S2048x2048 .bf16) (x3 x4 : Vec Ideal S1x2048 .f32) (x5 : Vec Ideal S8x128x128 .f32) (x6 : Vec Ideal S8x128x1 .f32) (n : Fin 2) (r : Fin 128) (h : Fin 8) (d : Fin 256) : EReal :=
  cell (fun q k => x0 (ix2 (⟨128 * n.val + q.val, by omega⟩ : Fin 256) k)) (fun k j => x1 (ix2 k j)) (fun k j => x2 (ix2 k j)) (fun j => x3 (ix2 0 j)) (fun j => x4 (ix2 0 j))
    (fun r q => x5 (ix3 h r q)) (fun r => x6 (ix3 h r 0)) r (⟨256 * h.val + d.val, by omega⟩ : Fin 2048)

/-- A block of the result. -/
def blk (x0 : Vec Ideal S256x2048 .bf16) (x1 x2 : Vec Ideal S2048x2048 .bf16) (x3 x4 : Vec Ideal S1x2048 .f32) (x5 : Vec Ideal S8x128x128 .f32) (x6 : Vec Ideal S8x128x1 .f32) : FVec Ideal S256x2048 .bf16 := fun y =>
  elt x0 x1 x2 x3 x4 x5 x6 ⟨(y 0).val / 128, by have : (y 0).val < 256 := (y 0).isLt; omega⟩ ⟨(y 0).val % 128, by omega⟩ ⟨(y 1).val / 256, by have : (y 1).val < 2048 := (y 1).isLt; omega⟩ ⟨(y 1).val % 256, by omega⟩

theorem blk_at (x0 : Vec Ideal S256x2048 .bf16) (x1 x2 : Vec Ideal S2048x2048 .bf16) (x3 x4 : Vec Ideal S1x2048 .f32) (x5 : Vec Ideal S8x128x128 .f32) (x6 : Vec Ideal S8x128x1 .f32) (y : S256x2048.Idx) (n : Fin 2) (r : Fin 128) (h : Fin 8) (d : Fin 256) (h0 : (y 0).val = 128 * n.val + r.val) (h1 : (y 1).val = 256 * h.val + d.val) :
    blk x0 x1 x2 x3 x4 x5 x6 y = elt x0 x1 x2 x3 x4 x5 x6 n r h d := by
  unfold blk
  have e0 : (⟨(y 0).val / 128, by have : (y 0).val < 256 := (y 0).isLt; omega⟩ : Fin 2) = n := Fin.ext (show (y 0).val / 128 = n.val by omega)
  have e1 : (⟨(y 0).val % 128, by omega⟩ : Fin 128) = r := Fin.ext (show (y 0).val % 128 = r.val by omega)
  have e2 : (⟨(y 1).val / 256, by have : (y 1).val < 2048 := (y 1).isLt; omega⟩ : Fin 8) = h := Fin.ext (show (y 1).val / 256 = h.val by omega)
  have e3 : (⟨(y 1).val % 256, by omega⟩ : Fin 256) = d := Fin.ext (show (y 1).val % 256 = d.val by omega)
  rw [e0, e1, e2, e3]

theorem gated_elt (x0 : Vec Ideal S256x2048 .bf16) (x1 x2 : Vec Ideal S2048x2048 .bf16) (x3 x4 : Vec Ideal S1x2048 .f32) (x5 : Vec Ideal S8x128x128 .f32) (x6 : Vec Ideal S8x128x1 .f32) (n : Fin 2) (h : Fin 8) (o e : ℕ) (he : e ≤ 256) (ho : o + 512 ≤ 2048) (hoe : o + e = 256 * h.val)
    (v u : FVec Ideal S256x512 .f32) (ws : Vec Ideal S1x128x128 .f32) (bs : Vec Ideal S1x128x1 .f32)
    (hv : ∀ (i : Fin 256) (j : Fin 512), v (ix2 i j) = normed (gv x0 x2 i) (fun j => x3 (ix2 0 j)) (fun j => x4 (ix2 0 j)) ⟨o + j.val, by omega⟩)
    (hu : ∀ (i : Fin 256) (j : Fin 512), u (ix2 i j) = gel (∑ k : Fin 2048, x0 (ix2 i k) * x1 (ix2 k ⟨o + j.val, by omega⟩)))
    (hw : ∀ r q : Fin 128, ws (ix3 0 r q) = x5 (ix3 h r q)) (hb : ∀ r : Fin 128, bs (ix3 0 r 0) = x6 (ix3 h r 0)) (r : Fin 128) (d : Fin 256) :
    gated n.val e n.isLt he v u ws bs r d = elt x0 x1 x2 x3 x4 x5 x6 n r h d := by
  have ej : (⟨o + (e + d.val), by omega⟩ : Fin 2048) = ⟨256 * h.val + d.val, by omega⟩ := Fin.ext (show o + (e + d.val) = 256 * h.val + d.val by omega)
  unfold gated elt cell
  refine congrArg₂ (fun x y : EReal => x * y) ((hu _ _).trans ?_) (congrArg₂ (fun x y : EReal => x + y) (Finset.sum_congr rfl fun q _ => congrArg₂ (fun x y : EReal => x * y) ?_ ((hv _ _).trans ?_)) (hb r))
  · exact congrArg (fun j : Fin 2048 => gel (∑ k : Fin 2048, x0 (ix2 _ k) * x1 (ix2 k j))) ej
  · rw [mask_at, hw]
    exact select_low _ r q
  · exact congrArg (normed (gv x0 x2 _) (fun j => x3 (ix2 0 j)) (fun j => x4 (ix2 0 j))) ej

theorem piece (x0 : Vec Ideal S256x2048 .bf16) (x1 x2 : Vec Ideal S2048x2048 .bf16) (x3 x4 : Vec Ideal S1x2048 .f32) (x5 : Vec Ideal S8x128x128 .f32) (x6 : Vec Ideal S8x128x1 .f32) (n : Fin 2) (h : Fin 8) (P : FVec Ideal S128x256 .bf16)
    (hP : ∀ (r : Fin 128) (d : Fin 256), P (ix2 r d) = elt x0 x1 x2 x3 x4 x5 x6 n r h d) (o0 o1 : ℕ) (h0 : o0 = 128 * n.val) (h1 : o1 = 256 * h.val)
    (inb : ∀ a, (![o0, o1] : Fin 2 → ℕ) a + S128x256.size a ≤ S256x2048.size a) (x : S128x256.Idx) :
    P x = blk x0 x1 x2 x3 x4 x5 x6 ((Rect.unit (s := S256x2048) ![o0, o1] S128x256.size inb).emb x) := by
  refine (congrArg P (ix2_eta x).symm).trans ((hP (x 0) (x 1)).trans (blk_at x0 x1 x2 x3 x4 x5 x6 _ n (x 0) h (x 1) ?_ ?_).symm)
  · exact (show o0 + 1 * (x 0).val = 128 * n.val + (x 0).val by omega)
  · exact (show o1 + 1 * (x 1).val = 256 * h.val + (x 1).val by omega)

theorem part00 (x0 : Vec Ideal S256x2048 .bf16) (x1 x2 : Vec Ideal S2048x2048 .bf16) (x3 x4 : Vec Ideal S1x2048 .f32) (x5 : Vec Ideal S8x128x128 .f32) (x6 : Vec Ideal S8x128x1 .f32) (r : Fin 128) (d : Fin 256) :
    (k0_pay29 (k0_pay4 x0) mask (k0_pay23 (mu x0 x2) (rd0 x0 x2)) (k0_pay24 (rs x0 x2)) (View.ld x3 (Rect.unit (s := S1x2048) ![0, 0] S1x512.size inb_S1x2048_S1x512_0_0)) (View.ld x4 (Rect.unit (s := S1x2048) ![0, 0] S1x512.size inb_S1x2048_S1x512_0_0)) (View.ld x1 (Rect.unit (s := S2048x2048) ![0, 0] S2048x512.size inb_S2048x2048_S2048x512_0_0)) (View.ld x5 (Rect.unit (s := S8x128x128) ![0, 0, 0] S1x128x128.size inb_S8x128x128_S1x128x128_0_0_0)) (View.ld x6 (Rect.unit (s := S8x128x1) ![0, 0, 0] S1x128x1.size inb_S8x128x1_S1x128x1_0_0_0)) : FVec Ideal S128x256 .bf16) (ix2 r d) = elt x0 x1 x2 x3 x4 x5 x6 0 r 0 d :=
  (congrFun (show k0_pay29 (k0_pay4 x0) mask (k0_pay23 (mu x0 x2) (rd0 x0 x2)) (k0_pay24 (rs x0 x2)) (View.ld x3 (Rect.unit (s := S1x2048) ![0, 0] S1x512.size inb_S1x2048_S1x512_0_0)) (View.ld x4 (Rect.unit (s := S1x2048) ![0, 0] S1x512.size inb_S1x2048_S1x512_0_0)) (View.ld x1 (Rect.unit (s := S2048x2048) ![0, 0] S2048x512.size inb_S2048x2048_S2048x512_0_0)) (View.ld x5 (Rect.unit (s := S8x128x128) ![0, 0, 0] S1x128x128.size inb_S8x128x128_S1x128x128_0_0_0)) (View.ld x6 (Rect.unit (s := S8x128x1) ![0, 0, 0] S1x128x1.size inb_S8x128x1_S1x128x1_0_0_0)) = k0_pay63 mask (vn0 x0 x2 x3 x4) (zz0 x0 x1) half (View.ld x5 (Rect.unit (s := S8x128x128) ![0, 0, 0] S1x128x128.size inb_S8x128x128_S1x128x128_0_0_0)) (View.ld x6 (Rect.unit (s := S8x128x1) ![0, 0, 0] S1x128x1.size inb_S8x128x1_S1x128x1_0_0_0)) from rfl) _).trans
    ((gated00 _ _ _ _ r d).trans (gated_elt x0 x1 x2 x3 x4 x5 x6 0 0 0 0 (by decide) (by decide) (by decide) _ _ _ _ (vn0_at x0 x2 x3 x4) (zz0_at x0 x1) (ld_gate x5 0 _) (ld_bias x6 0 _) r d))

theorem part10 (x0 : Vec Ideal S256x2048 .bf16) (x1 x2 : Vec Ideal S2048x2048 .bf16) (x3 x4 : Vec Ideal S1x2048 .f32) (x5 : Vec Ideal S8x128x128 .f32) (x6 : Vec Ideal S8x128x1 .f32) (r : Fin 128) (d : Fin 256) :
    (k0_pay31 (k0_pay26 (k0_pay4 x0) (View.ld x1 (Rect.unit (s := S2048x2048) ![0, 0] S2048x512.size inb_S2048x2048_S2048x512_0_0))) (k0_pay28 (View.ld x6 (Rect.unit (s := S8x128x1) ![0, 0, 0] S1x128x1.size inb_S8x128x1_S1x128x1_0_0_0))) (k0_pay30 mask (k0_pay23 (mu x0 x2) (rd0 x0 x2)) (k0_pay24 (rs x0 x2)) (View.ld x3 (Rect.unit (s := S1x2048) ![0, 0] S1x512.size inb_S1x2048_S1x512_0_0)) (View.ld x4 (Rect.unit (s := S1x2048) ![0, 0] S1x512.size inb_S1x2048_S1x512_0_0)) (View.ld x5 (Rect.unit (s := S8x128x128) ![0, 0, 0] S1x128x128.size inb_S8x128x128_S1x128x128_0_0_0))) : FVec Ideal S128x256 .bf16) (ix2 r d) = elt x0 x1 x2 x3 x4 x5 x6 1 r 0 d :=
  (congrFun (show k0_pay31 (k0_pay26 (k0_pay4 x0) (View.ld x1 (Rect.unit (s := S2048x2048) ![0, 0] S2048x512.size inb_S2048x2048_S2048x512_0_0))) (k0_pay28 (View.ld x6 (Rect.unit (s := S8x128x1) ![0, 0, 0] S1x128x1.size inb_S8x128x1_S1x128x1_0_0_0))) (k0_pay30 mask (k0_pay23 (mu x0 x2) (rd0 x0 x2)) (k0_pay24 (rs x0 x2)) (View.ld x3 (Rect.unit (s := S1x2048) ![0, 0] S1x512.size inb_S1x2048_S1x512_0_0)) (View.ld x4 (Rect.unit (s := S1x2048) ![0, 0] S1x512.size inb_S1x2048_S1x512_0_0)) (View.ld x5 (Rect.unit (s := S8x128x128) ![0, 0, 0] S1x128x128.size inb_S8x128x128_S1x128x128_0_0_0))) = k0_pay64 mask (vn0 x0 x2 x3 x4) (zz0 x0 x1) half (View.ld x5 (Rect.unit (s := S8x128x128) ![0, 0, 0] S1x128x128.size inb_S8x128x128_S1x128x128_0_0_0)) (View.ld x6 (Rect.unit (s := S8x128x1) ![0, 0, 0] S1x128x1.size inb_S8x128x1_S1x128x1_0_0_0)) from rfl) _).trans
    ((gated10 _ _ _ _ r d).trans (gated_elt x0 x1 x2 x3 x4 x5 x6 1 0 0 0 (by decide) (by decide) (by decide) _ _ _ _ (vn0_at x0 x2 x3 x4) (zz0_at x0 x1) (ld_gate x5 0 _) (ld_bias x6 0 _) r d))

theorem part01 (x0 : Vec Ideal S256x2048 .bf16) (x1 x2 : Vec Ideal S2048x2048 .bf16) (x3 x4 : Vec Ideal S1x2048 .f32) (x5 : Vec Ideal S8x128x128 .f32) (x6 : Vec Ideal S8x128x1 .f32) (r : Fin 128) (d : Fin 256) :
    (k0_pay34 mask (k0_pay25 (k0_pay23 (mu x0 x2) (rd0 x0 x2)) (k0_pay24 (rs x0 x2)) (View.ld x3 (Rect.unit (s := S1x2048) ![0, 0] S1x512.size inb_S1x2048_S1x512_0_0)) (View.ld x4 (Rect.unit (s := S1x2048) ![0, 0] S1x512.size inb_S1x2048_S1x512_0_0))) (k0_pay26 (k0_pay4 x0) (View.ld x1 (Rect.unit (s := S2048x2048) ![0, 0] S2048x512.size inb_S2048x2048_S2048x512_0_0))) (View.ld x5 (Rect.unit (s := S8x128x128) ![1, 0, 0] S1x128x128.size inb_S8x128x128_S1x128x128_1_0_0)) (View.ld x6 (Rect.unit (s := S8x128x1) ![1, 0, 0] S1x128x1.size inb_S8x128x1_S1x128x1_1_0_0)) : FVec Ideal S128x256 .bf16) (ix2 r d) = elt x0 x1 x2 x3 x4 x5 x6 0 r 1 d :=
  (congrFun (show k0_pay34 mask (k0_pay25 (k0_pay23 (mu x0 x2) (rd0 x0 x2)) (k0_pay24 (rs x0 x2)) (View.ld x3 (Rect.unit (s := S1x2048) ![0, 0] S1x512.size inb_S1x2048_S1x512_0_0)) (View.ld x4 (Rect.unit (s := S1x2048) ![0, 0] S1x512.size inb_S1x2048_S1x512_0_0))) (k0_pay26 (k0_pay4 x0) (View.ld x1 (Rect.unit (s := S2048x2048) ![0, 0] S2048x512.size inb_S2048x2048_S2048x512_0_0))) (View.ld x5 (Rect.unit (s := S8x128x128) ![1, 0, 0] S1x128x128.size inb_S8x128x128_S1x128x128_1_0_0)) (View.ld x6 (Rect.unit (s := S8x128x1) ![1, 0, 0] S1x128x1.size inb_S8x128x1_S1x128x1_1_0_0)) = k0_pay34 mask (vn0 x0 x2 x3 x4) (k0_pay60 (zz0 x0 x1) half) (View.ld x5 (Rect.unit (s := S8x128x128) ![1, 0, 0] S1x128x128.size inb_S8x128x128_S1x128x128_1_0_0)) (View.ld x6 (Rect.unit (s := S8x128x1) ![1, 0, 0] S1x128x1.size inb_S8x128x1_S1x128x1_1_0_0)) from rfl) _).trans
    ((gated01 _ _ _ _ r d).trans (gated_elt x0 x1 x2 x3 x4 x5 x6 0 1 0 256 (by decide) (by decide) (by decide) _ _ _ _ (vn0_at x0 x2 x3 x4) (zz0_at x0 x1) (ld_gate x5 1 _) (ld_bias x6 1 _) r d))

theorem part11 (x0 : Vec Ideal S256x2048 .bf16) (x1 x2 : Vec Ideal S2048x2048 .bf16) (x3 x4 : Vec Ideal S1x2048 .f32) (x5 : Vec Ideal S8x128x128 .f32) (x6 : Vec Ideal S8x128x1 .f32) (r : Fin 128) (d : Fin 256) :
    (k0_pay35 mask (k0_pay25 (k0_pay23 (mu x0 x2) (rd0 x0 x2)) (k0_pay24 (rs x0 x2)) (View.ld x3 (Rect.unit (s := S1x2048) ![0, 0] S1x512.size inb_S1x2048_S1x512_0_0)) (View.ld x4 (Rect.unit (s := S1x2048) ![0, 0] S1x512.size inb_S1x2048_S1x512_0_0))) (k0_pay26 (k0_pay4 x0) (View.ld x1 (Rect.unit (s := S2048x2048) ![0, 0] S2048x512.size inb_S2048x2048_S2048x512_0_0))) (View.ld x5 (Rect.unit (s := S8x128x128) ![1, 0, 0] S1x128x128.size inb_S8x128x128_S1x128x128_1_0_0)) (View.ld x6 (Rect.unit (s := S8x128x1) ![1, 0, 0] S1x128x1.size inb_S8x128x1_S1x128x1_1_0_0)) : FVec Ideal S128x256 .bf16) (ix2 r d) = elt x0 x1 x2 x3 x4 x5 x6 1 r 1 d :=
  (congrFun (show k0_pay35 mask (k0_pay25 (k0_pay23 (mu x0 x2) (rd0 x0 x2)) (k0_pay24 (rs x0 x2)) (View.ld x3 (Rect.unit (s := S1x2048) ![0, 0] S1x512.size inb_S1x2048_S1x512_0_0)) (View.ld x4 (Rect.unit (s := S1x2048) ![0, 0] S1x512.size inb_S1x2048_S1x512_0_0))) (k0_pay26 (k0_pay4 x0) (View.ld x1 (Rect.unit (s := S2048x2048) ![0, 0] S2048x512.size inb_S2048x2048_S2048x512_0_0))) (View.ld x5 (Rect.unit (s := S8x128x128) ![1, 0, 0] S1x128x128.size inb_S8x128x128_S1x128x128_1_0_0)) (View.ld x6 (Rect.unit (s := S8x128x1) ![1, 0, 0] S1x128x1.size inb_S8x128x1_S1x128x1_1_0_0)) = k0_pay35 mask (vn0 x0 x2 x3 x4) (k0_pay60 (zz0 x0 x1) half) (View.ld x5 (Rect.unit (s := S8x128x128) ![1, 0, 0] S1x128x128.size inb_S8x128x128_S1x128x128_1_0_0)) (View.ld x6 (Rect.unit (s := S8x128x1) ![1, 0, 0] S1x128x1.size inb_S8x128x1_S1x128x1_1_0_0)) from rfl) _).trans
    ((gated11 _ _ _ _ r d).trans (gated_elt x0 x1 x2 x3 x4 x5 x6 1 1 0 256 (by decide) (by decide) (by decide) _ _ _ _ (vn0_at x0 x2 x3 x4) (zz0_at x0 x1) (ld_gate x5 1 _) (ld_bias x6 1 _) r d))

theorem part02 (x0 : Vec Ideal S256x2048 .bf16) (x1 x2 : Vec Ideal S2048x2048 .bf16) (x3 x4 : Vec Ideal S1x2048 .f32) (x5 : Vec Ideal S8x128x128 .f32) (x6 : Vec Ideal S8x128x1 .f32) (r : Fin 128) (d : Fin 256) :
    (k0_pay41 (k0_pay4 x0) mask (k0_pay36 (mu x0 x2) (rs x0 x2) (rd1 x0 x2) (View.ld x3 (Rect.unit (s := S1x2048) ![0, 512] S1x512.size inb_S1x2048_S1x512_0_512))) (View.ld x4 (Rect.unit (s := S1x2048) ![0, 512] S1x512.size inb_S1x2048_S1x512_0_512)) (View.ld x1 (Rect.unit (s := S2048x2048) ![0, 512] S2048x512.size inb_S2048x2048_S2048x512_0_512)) (View.ld x5 (Rect.unit (s := S8x128x128) ![2, 0, 0] S1x128x128.size inb_S8x128x128_S1x128x128_2_0_0)) (View.ld x6 (Rect.unit (s := S8x128x1) ![2, 0, 0] S1x128x1.size inb_S8x128x1_S1x128x1_2_0_0)) : FVec Ideal S128x256 .bf16) (ix2 r d) = elt x0 x1 x2 x3 x4 x5 x6 0 r 2 d :=
  (congrFun (show k0_pay41 (k0_pay4 x0) mask (k0_pay36 (mu x0 x2) (rs x0 x2) (rd1 x0 x2) (View.ld x3 (Rect.unit (s := S1x2048) ![0, 512] S1x512.size inb_S1x2048_S1x512_0_512))) (View.ld x4 (Rect.unit (s := S1x2048) ![0, 512] S1x512.size inb_S1x2048_S1x512_0_512)) (View.ld x1 (Rect.unit (s := S2048x2048) ![0, 512] S2048x512.size inb_S2048x2048_S2048x512_0_512)) (View.ld x5 (Rect.unit (s := S8x128x128) ![2, 0, 0] S1x128x128.size inb_S8x128x128_S1x128x128_2_0_0)) (View.ld x6 (Rect.unit (s := S8x128x1) ![2, 0, 0] S1x128x1.size inb_S8x128x1_S1x128x1_2_0_0)) = k0_pay63 mask (vn1 x0 x2 x3 x4) (zz1 x0 x1) half (View.ld x5 (Rect.unit (s := S8x128x128) ![2, 0, 0] S1x128x128.size inb_S8x128x128_S1x128x128_2_0_0)) (View.ld x6 (Rect.unit (s := S8x128x1) ![2, 0, 0] S1x128x1.size inb_S8x128x1_S1x128x1_2_0_0)) from rfl) _).trans
    ((gated00 _ _ _ _ r d).trans (gated_elt x0 x1 x2 x3 x4 x5 x6 0 2 512 0 (by decide) (by decide) (by decide) _ _ _ _ (vn1_at x0 x2 x3 x4) (zz1_at x0 x1) (ld_gate x5 2 _) (ld_bias x6 2 _) r d))

theorem part12 (x0 : Vec Ideal S256x2048 .bf16) (x1 x2 : Vec Ideal S2048x2048 .bf16) (x3 x4 : Vec Ideal S1x2048 .f32) (x5 : Vec Ideal S8x128x128 .f32) (x6 : Vec Ideal S8x128x1 .f32) (r : Fin 128) (d : Fin 256) :
    (k0_pay42 (k0_pay4 x0) mask (k0_pay36 (mu x0 x2) (rs x0 x2) (rd1 x0 x2) (View.ld x3 (Rect.unit (s := S1x2048) ![0, 512] S1x512.size inb_S1x2048_S1x512_0_512))) (View.ld x4 (Rect.unit (s := S1x2048) ![0, 512] S1x512.size inb_S1x2048_S1x512_0_512)) (View.ld x1 (Rect.unit (s := S2048x2048) ![0, 512] S2048x512.size inb_S2048x2048_S2048x512_0_512)) (View.ld x5 (Rect.unit (s := S8x128x128) ![2, 0, 0] S1x128x128.size inb_S8x128x128_S1x128x128_2_0_0)) (View.ld x6 (Rect.unit (s := S8x128x1) ![2, 0, 0] S1x128x1.size inb_S8x128x1_S1x128x1_2_0_0)) : FVec Ideal S128x256 .bf16) (ix2 r d) = elt x0 x1 x2 x3 x4 x5 x6 1 r 2 d :=
  (congrFun (show k0_pay42 (k0_pay4 x0) mask (k0_pay36 (mu x0 x2) (rs x0 x2) (rd1 x0 x2) (View.ld x3 (Rect.unit (s := S1x2048) ![0, 512] S1x512.size inb_S1x2048_S1x512_0_512))) (View.ld x4 (Rect.unit (s := S1x2048) ![0, 512] S1x512.size inb_S1x2048_S1x512_0_512)) (View.ld x1 (Rect.unit (s := S2048x2048) ![0, 512] S2048x512.size inb_S2048x2048_S2048x512_0_512)) (View.ld x5 (Rect.unit (s := S8x128x128) ![2, 0, 0] S1x128x128.size inb_S8x128x128_S1x128x128_2_0_0)) (View.ld x6 (Rect.unit (s := S8x128x1) ![2, 0, 0] S1x128x1.size inb_S8x128x1_S1x128x1_2_0_0)) = k0_pay64 mask (vn1 x0 x2 x3 x4) (zz1 x0 x1) half (View.ld x5 (Rect.unit (s := S8x128x128) ![2, 0, 0] S1x128x128.size inb_S8x128x128_S1x128x128_2_0_0)) (View.ld x6 (Rect.unit (s := S8x128x1) ![2, 0, 0] S1x128x1.size inb_S8x128x1_S1x128x1_2_0_0)) from rfl) _).trans
    ((gated10 _ _ _ _ r d).trans (gated_elt x0 x1 x2 x3 x4 x5 x6 1 2 512 0 (by decide) (by decide) (by decide) _ _ _ _ (vn1_at x0 x2 x3 x4) (zz1_at x0 x1) (ld_gate x5 2 _) (ld_bias x6 2 _) r d))

theorem part03 (x0 : Vec Ideal S256x2048 .bf16) (x1 x2 : Vec Ideal S2048x2048 .bf16) (x3 x4 : Vec Ideal S1x2048 .f32) (x5 : Vec Ideal S8x128x128 .f32) (x6 : Vec Ideal S8x128x1 .f32) (r : Fin 128) (d : Fin 256) :
    (k0_pay45 mask (k0_pay37 (k0_pay36 (mu x0 x2) (rs x0 x2) (rd1 x0 x2) (View.ld x3 (Rect.unit (s := S1x2048) ![0, 512] S1x512.size inb_S1x2048_S1x512_0_512))) (View.ld x4 (Rect.unit (s := S1x2048) ![0, 512] S1x512.size inb_S1x2048_S1x512_0_512))) (k0_pay38 (k0_pay4 x0) (View.ld x1 (Rect.unit (s := S2048x2048) ![0, 512] S2048x512.size inb_S2048x2048_S2048x512_0_512))) (View.ld x5 (Rect.unit (s := S8x128x128) ![3, 0, 0] S1x128x128.size inb_S8x128x128_S1x128x128_3_0_0)) (View.ld x6 (Rect.unit (s := S8x128x1) ![3, 0, 0] S1x128x1.size inb_S8x128x1_S1x128x1_3_0_0)) : FVec Ideal S128x256 .bf16) (ix2 r d) = elt x0 x1 x2 x3 x4 x5 x6 0 r 3 d :=
  (congrFun (show k0_pay45 mask (k0_pay37 (k0_pay36 (mu x0 x2) (rs x0 x2) (rd1 x0 x2) (View.ld x3 (Rect.unit (s := S1x2048) ![0, 512] S1x512.size inb_S1x2048_S1x512_0_512))) (View.ld x4 (Rect.unit (s := S1x2048) ![0, 512] S1x512.size inb_S1x2048_S1x512_0_512))) (k0_pay38 (k0_pay4 x0) (View.ld x1 (Rect.unit (s := S2048x2048) ![0, 512] S2048x512.size inb_S2048x2048_S2048x512_0_512))) (View.ld x5 (Rect.unit (s := S8x128x128) ![3, 0, 0] S1x128x128.size inb_S8x128x128_S1x128x128_3_0_0)) (View.ld x6 (Rect.unit (s := S8x128x1) ![3, 0, 0] S1x128x1.size inb_S8x128x1_S1x128x1_3_0_0)) = k0_pay34 mask (vn1 x0 x2 x3 x4) (k0_pay60 (zz1 x0 x1) half) (View.ld x5 (Rect.unit (s := S8x128x128) ![3, 0, 0] S1x128x128.size inb_S8x128x128_S1x128x128_3_0_0)) (View.ld x6 (Rect.unit (s := S8x128x1) ![3, 0, 0] S1x128x1.size inb_S8x128x1_S1x128x1_3_0_0)) from rfl) _).trans
    ((gated01 _ _ _ _ r d).trans (gated_elt x0 x1 x2 x3 x4 x5 x6 0 3 512 256 (by decide) (by decide) (by decide) _ _ _ _ (vn1_at x0 x2 x3 x4) (zz1_at x0 x1) (ld_gate x5 3 _) (ld_bias x6 3 _) r d))

theorem part13 (x0 : Vec Ideal S256x2048 .bf16) (x1 x2 : Vec Ideal S2048x2048 .bf16) (x3 x4 : Vec Ideal S1x2048 .f32) (x5 : Vec Ideal S8x128x128 .f32) (x6 : Vec Ideal S8x128x1 .f32) (r : Fin 128) (d : Fin 256) :
    (k0_pay46 mask (k0_pay37 (k0_pay36 (mu x0 x2) (rs x0 x2) (rd1 x0 x2) (View.ld x3 (Rect.unit (s := S1x2048) ![0, 512] S1x512.size inb_S1x2048_S1x512_0_512))) (View.ld x4 (Rect.unit (s := S1x2048) ![0, 512] S1x512.size inb_S1x2048_S1x512_0_512))) (k0_pay38 (k0_pay4 x0) (View.ld x1 (Rect.unit (s := S2048x2048) ![0, 512] S2048x512.size inb_S2048x2048_S2048x512_0_512))) (View.ld x5 (Rect.unit (s := S8x128x128) ![3, 0, 0] S1x128x128.size inb_S8x128x128_S1x128x128_3_0_0)) (View.ld x6 (Rect.unit (s := S8x128x1) ![3, 0, 0] S1x128x1.size inb_S8x128x1_S1x128x1_3_0_0)) : FVec Ideal S128x256 .bf16) (ix2 r d) = elt x0 x1 x2 x3 x4 x5 x6 1 r 3 d :=
  (congrFun (show k0_pay46 mask (k0_pay37 (k0_pay36 (mu x0 x2) (rs x0 x2) (rd1 x0 x2) (View.ld x3 (Rect.unit (s := S1x2048) ![0, 512] S1x512.size inb_S1x2048_S1x512_0_512))) (View.ld x4 (Rect.unit (s := S1x2048) ![0, 512] S1x512.size inb_S1x2048_S1x512_0_512))) (k0_pay38 (k0_pay4 x0) (View.ld x1 (Rect.unit (s := S2048x2048) ![0, 512] S2048x512.size inb_S2048x2048_S2048x512_0_512))) (View.ld x5 (Rect.unit (s := S8x128x128) ![3, 0, 0] S1x128x128.size inb_S8x128x128_S1x128x128_3_0_0)) (View.ld x6 (Rect.unit (s := S8x128x1) ![3, 0, 0] S1x128x1.size inb_S8x128x1_S1x128x1_3_0_0)) = k0_pay35 mask (vn1 x0 x2 x3 x4) (k0_pay60 (zz1 x0 x1) half) (View.ld x5 (Rect.unit (s := S8x128x128) ![3, 0, 0] S1x128x128.size inb_S8x128x128_S1x128x128_3_0_0)) (View.ld x6 (Rect.unit (s := S8x128x1) ![3, 0, 0] S1x128x1.size inb_S8x128x1_S1x128x1_3_0_0)) from rfl) _).trans
    ((gated11 _ _ _ _ r d).trans (gated_elt x0 x1 x2 x3 x4 x5 x6 1 3 512 256 (by decide) (by decide) (by decide) _ _ _ _ (vn1_at x0 x2 x3 x4) (zz1_at x0 x1) (ld_gate x5 3 _) (ld_bias x6 3 _) r d))

theorem part04 (x0 : Vec Ideal S256x2048 .bf16) (x1 x2 : Vec Ideal S2048x2048 .bf16) (x3 x4 : Vec Ideal S1x2048 .f32) (x5 : Vec Ideal S8x128x128 .f32) (x6 : Vec Ideal S8x128x1 .f32) (r : Fin 128) (d : Fin 256) :
    (k0_pay51 (k0_pay4 x0) mask (k0_pay47 (mu x0 x2) (rs x0 x2) (rd2 x0 x2) (View.ld x3 (Rect.unit (s := S1x2048) ![0, 1024] S1x512.size inb_S1x2048_S1x512_0_1024)) (View.ld x4 (Rect.unit (s := S1x2048) ![0, 1024] S1x512.size inb_S1x2048_S1x512_0_1024))) (View.ld x1 (Rect.unit (s := S2048x2048) ![0, 1024] S2048x512.size inb_S2048x2048_S2048x512_0_1024)) (View.ld x5 (Rect.unit (s := S8x128x128) ![4, 0, 0] S1x128x128.size inb_S8x128x128_S1x128x128_4_0_0)) (View.ld x6 (Rect.unit (s := S8x128x1) ![4, 0, 0] S1x128x1.size inb_S8x128x1_S1x128x1_4_0_0)) : FVec Ideal S128x256 .bf16) (ix2 r d) = elt x0 x1 x2 x3 x4 x5 x6 0 r 4 d :=
  (congrFun (show k0_pay51 (k0_pay4 x0) mask (k0_pay47 (mu x0 x2) (rs x0 x2) (rd2 x0 x2) (View.ld x3 (Rect.unit (s := S1x2048) ![0, 1024] S1x512.size inb_S1x2048_S1x512_0_1024)) (View.ld x4 (Rect.unit (s := S1x2048) ![0, 1024] S1x512.size inb_S1x2048_S1x512_0_1024))) (View.ld x1 (Rect.unit (s := S2048x2048) ![0, 1024] S2048x512.size inb_S2048x2048_S2048x512_0_1024)) (View.ld x5 (Rect.unit (s := S8x128x128) ![4, 0, 0] S1x128x128.size inb_S8x128x128_S1x128x128_4_0_0)) (View.ld x6 (Rect.unit (s := S8x128x1) ![4, 0, 0] S1x128x1.size inb_S8x128x1_S1x128x1_4_0_0)) = k0_pay63 mask (vn2 x0 x2 x3 x4) (zz2 x0 x1) half (View.ld x5 (Rect.unit (s := S8x128x128) ![4, 0, 0] S1x128x128.size inb_S8x128x128_S1x128x128_4_0_0)) (View.ld x6 (Rect.unit (s := S8x128x1) ![4, 0, 0] S1x128x1.size inb_S8x128x1_S1x128x1_4_0_0)) from rfl) _).trans
    ((gated00 _ _ _ _ r d).trans (gated_elt x0 x1 x2 x3 x4 x5 x6 0 4 1024 0 (by decide) (by decide) (by decide) _ _ _ _ (vn2_at x0 x2 x3 x4) (zz2_at x0 x1) (ld_gate x5 4 _) (ld_bias x6 4 _) r d))

theorem part14 (x0 : Vec Ideal S256x2048 .bf16) (x1 x2 : Vec Ideal S2048x2048 .bf16) (x3 x4 : Vec Ideal S1x2048 .f32) (x5 : Vec Ideal S8x128x128 .f32) (x6 : Vec Ideal S8x128x1 .f32) (r : Fin 128) (d : Fin 256) :
    (k0_pay52 (k0_pay4 x0) mask (k0_pay47 (mu x0 x2) (rs x0 x2) (rd2 x0 x2) (View.ld x3 (Rect.unit (s := S1x2048) ![0, 1024] S1x512.size inb_S1x2048_S1x512_0_1024)) (View.ld x4 (Rect.unit (s := S1x2048) ![0, 1024] S1x512.size inb_S1x2048_S1x512_0_1024))) (View.ld x1 (Rect.unit (s := S2048x2048) ![0, 1024] S2048x512.size inb_S2048x2048_S2048x512_0_1024)) (View.ld x5 (Rect.unit (s := S8x128x128) ![4, 0, 0] S1x128x128.size inb_S8x128x128_S1x128x128_4_0_0)) (View.ld x6 (Rect.unit (s := S8x128x1) ![4, 0, 0] S1x128x1.size inb_S8x128x1_S1x128x1_4_0_0)) : FVec Ideal S128x256 .bf16) (ix2 r d) = elt x0 x1 x2 x3 x4 x5 x6 1 r 4 d :=
  (congrFun (show k0_pay52 (k0_pay4 x0) mask (k0_pay47 (mu x0 x2) (rs x0 x2) (rd2 x0 x2) (View.ld x3 (Rect.unit (s := S1x2048) ![0, 1024] S1x512.size inb_S1x2048_S1x512_0_1024)) (View.ld x4 (Rect.unit (s := S1x2048) ![0, 1024] S1x512.size inb_S1x2048_S1x512_0_1024))) (View.ld x1 (Rect.unit (s := S2048x2048) ![0, 1024] S2048x512.size inb_S2048x2048_S2048x512_0_1024)) (View.ld x5 (Rect.unit (s := S8x128x128) ![4, 0, 0] S1x128x128.size inb_S8x128x128_S1x128x128_4_0_0)) (View.ld x6 (Rect.unit (s := S8x128x1) ![4, 0, 0] S1x128x1.size inb_S8x128x1_S1x128x1_4_0_0)) = k0_pay64 mask (vn2 x0 x2 x3 x4) (zz2 x0 x1) half (View.ld x5 (Rect.unit (s := S8x128x128) ![4, 0, 0] S1x128x128.size inb_S8x128x128_S1x128x128_4_0_0)) (View.ld x6 (Rect.unit (s := S8x128x1) ![4, 0, 0] S1x128x1.size inb_S8x128x1_S1x128x1_4_0_0)) from rfl) _).trans
    ((gated10 _ _ _ _ r d).trans (gated_elt x0 x1 x2 x3 x4 x5 x6 1 4 1024 0 (by decide) (by decide) (by decide) _ _ _ _ (vn2_at x0 x2 x3 x4) (zz2_at x0 x1) (ld_gate x5 4 _) (ld_bias x6 4 _) r d))

theorem part05 (x0 : Vec Ideal S256x2048 .bf16) (x1 x2 : Vec Ideal S2048x2048 .bf16) (x3 x4 : Vec Ideal S1x2048 .f32) (x5 : Vec Ideal S8x128x128 .f32) (x6 : Vec Ideal S8x128x1 .f32) (r : Fin 128) (d : Fin 256) :
    (k0_pay56 mask (k0_pay47 (mu x0 x2) (rs x0 x2) (rd2 x0 x2) (View.ld x3 (Rect.unit (s := S1x2048) ![0, 1024] S1x512.size inb_S1x2048_S1x512_0_1024)) (View.ld x4 (Rect.unit (s := S1x2048) ![0, 1024] S1x512.size inb_S1x2048_S1x512_0_1024))) (k0_pay48 (k0_pay4 x0) (View.ld x1 (Rect.unit (s := S2048x2048) ![0, 1024] S2048x512.size inb_S2048x2048_S2048x512_0_1024))) (k0_pay53 (View.ld x5 (Rect.unit (s := S8x128x128) ![5, 0, 0] S1x128x128.size inb_S8x128x128_S1x128x128_5_0_0))) (View.ld x6 (Rect.unit (s := S8x128x1) ![5, 0, 0] S1x128x1.size inb_S8x128x1_S1x128x1_5_0_0)) : FVec Ideal S128x256 .bf16) (ix2 r d) = elt x0 x1 x2 x3 x4 x5 x6 0 r 5 d :=
  (congrFun (show k0_pay56 mask (k0_pay47 (mu x0 x2) (rs x0 x2) (rd2 x0 x2) (View.ld x3 (Rect.unit (s := S1x2048) ![0, 1024] S1x512.size inb_S1x2048_S1x512_0_1024)) (View.ld x4 (Rect.unit (s := S1x2048) ![0, 1024] S1x512.size inb_S1x2048_S1x512_0_1024))) (k0_pay48 (k0_pay4 x0) (View.ld x1 (Rect.unit (s := S2048x2048) ![0, 1024] S2048x512.size inb_S2048x2048_S2048x512_0_1024))) (k0_pay53 (View.ld x5 (Rect.unit (s := S8x128x128) ![5, 0, 0] S1x128x128.size inb_S8x128x128_S1x128x128_5_0_0))) (View.ld x6 (Rect.unit (s := S8x128x1) ![5, 0, 0] S1x128x1.size inb_S8x128x1_S1x128x1_5_0_0)) = k0_pay34 mask (vn2 x0 x2 x3 x4) (k0_pay60 (zz2 x0 x1) half) (View.ld x5 (Rect.unit (s := S8x128x128) ![5, 0, 0] S1x128x128.size inb_S8x128x128_S1x128x128_5_0_0)) (View.ld x6 (Rect.unit (s := S8x128x1) ![5, 0, 0] S1x128x1.size inb_S8x128x1_S1x128x1_5_0_0)) from rfl) _).trans
    ((gated01 _ _ _ _ r d).trans (gated_elt x0 x1 x2 x3 x4 x5 x6 0 5 1024 256 (by decide) (by decide) (by decide) _ _ _ _ (vn2_at x0 x2 x3 x4) (zz2_at x0 x1) (ld_gate x5 5 _) (ld_bias x6 5 _) r d))

theorem part15 (x0 : Vec Ideal S256x2048 .bf16) (x1 x2 : Vec Ideal S2048x2048 .bf16) (x3 x4 : Vec Ideal S1x2048 .f32) (x5 : Vec Ideal S8x128x128 .f32) (x6 : Vec Ideal S8x128x1 .f32) (r : Fin 128) (d : Fin 256) :
    (k0_pay57 mask (k0_pay47 (mu x0 x2) (rs x0 x2) (rd2 x0 x2) (View.ld x3 (Rect.unit (s := S1x2048) ![0, 1024] S1x512.size inb_S1x2048_S1x512_0_1024)) (View.ld x4 (Rect.unit (s := S1x2048) ![0, 1024] S1x512.size inb_S1x2048_S1x512_0_1024))) (k0_pay48 (k0_pay4 x0) (View.ld x1 (Rect.unit (s := S2048x2048) ![0, 1024] S2048x512.size inb_S2048x2048_S2048x512_0_1024))) (k0_pay53 (View.ld x5 (Rect.unit (s := S8x128x128) ![5, 0, 0] S1x128x128.size inb_S8x128x128_S1x128x128_5_0_0))) (View.ld x6 (Rect.unit (s := S8x128x1) ![5, 0, 0] S1x128x1.size inb_S8x128x1_S1x128x1_5_0_0)) : FVec Ideal S128x256 .bf16) (ix2 r d) = elt x0 x1 x2 x3 x4 x5 x6 1 r 5 d :=
  (congrFun (show k0_pay57 mask (k0_pay47 (mu x0 x2) (rs x0 x2) (rd2 x0 x2) (View.ld x3 (Rect.unit (s := S1x2048) ![0, 1024] S1x512.size inb_S1x2048_S1x512_0_1024)) (View.ld x4 (Rect.unit (s := S1x2048) ![0, 1024] S1x512.size inb_S1x2048_S1x512_0_1024))) (k0_pay48 (k0_pay4 x0) (View.ld x1 (Rect.unit (s := S2048x2048) ![0, 1024] S2048x512.size inb_S2048x2048_S2048x512_0_1024))) (k0_pay53 (View.ld x5 (Rect.unit (s := S8x128x128) ![5, 0, 0] S1x128x128.size inb_S8x128x128_S1x128x128_5_0_0))) (View.ld x6 (Rect.unit (s := S8x128x1) ![5, 0, 0] S1x128x1.size inb_S8x128x1_S1x128x1_5_0_0)) = k0_pay35 mask (vn2 x0 x2 x3 x4) (k0_pay60 (zz2 x0 x1) half) (View.ld x5 (Rect.unit (s := S8x128x128) ![5, 0, 0] S1x128x128.size inb_S8x128x128_S1x128x128_5_0_0)) (View.ld x6 (Rect.unit (s := S8x128x1) ![5, 0, 0] S1x128x1.size inb_S8x128x1_S1x128x1_5_0_0)) from rfl) _).trans
    ((gated11 _ _ _ _ r d).trans (gated_elt x0 x1 x2 x3 x4 x5 x6 1 5 1024 256 (by decide) (by decide) (by decide) _ _ _ _ (vn2_at x0 x2 x3 x4) (zz2_at x0 x1) (ld_gate x5 5 _) (ld_bias x6 5 _) r d))

theorem part06 (x0 : Vec Ideal S256x2048 .bf16) (x1 x2 : Vec Ideal S2048x2048 .bf16) (x3 x4 : Vec Ideal S1x2048 .f32) (x5 : Vec Ideal S8x128x128 .f32) (x6 : Vec Ideal S8x128x1 .f32) (r : Fin 128) (d : Fin 256) :
    (k0_pay63 mask (k0_pay58 (mu x0 x2) (rs x0 x2) (rd3 x0 x2) (View.ld x3 (Rect.unit (s := S1x2048) ![0, 1536] S1x512.size inb_S1x2048_S1x512_0_1536)) (View.ld x4 (Rect.unit (s := S1x2048) ![0, 1536] S1x512.size inb_S1x2048_S1x512_0_1536))) (k0_pay59 (k0_pay4 x0) (View.ld x1 (Rect.unit (s := S2048x2048) ![0, 1536] S2048x512.size inb_S2048x2048_S2048x512_0_1536))) half (View.ld x5 (Rect.unit (s := S8x128x128) ![6, 0, 0] S1x128x128.size inb_S8x128x128_S1x128x128_6_0_0)) (View.ld x6 (Rect.unit (s := S8x128x1) ![6, 0, 0] S1x128x1.size inb_S8x128x1_S1x128x1_6_0_0)) : FVec Ideal S128x256 .bf16) (ix2 r d) = elt x0 x1 x2 x3 x4 x5 x6 0 r 6 d :=
  (congrFun (show k0_pay63 mask (k0_pay58 (mu x0 x2) (rs x0 x2) (rd3 x0 x2) (View.ld x3 (Rect.unit (s := S1x2048) ![0, 1536] S1x512.size inb_S1x2048_S1x512_0_1536)) (View.ld x4 (Rect.unit (s := S1x2048) ![0, 1536] S1x512.size inb_S1x2048_S1x512_0_1536))) (k0_pay59 (k0_pay4 x0) (View.ld x1 (Rect.unit (s := S2048x2048) ![0, 1536] S2048x512.size inb_S2048x2048_S2048x512_0_1536))) half (View.ld x5 (Rect.unit (s := S8x128x128) ![6, 0, 0] S1x128x128.size inb_S8x128x128_S1x128x128_6_0_0)) (View.ld x6 (Rect.unit (s := S8x128x1) ![6, 0, 0] S1x128x1.size inb_S8x128x1_S1x128x1_6_0_0)) = k0_pay63 mask (vn3 x0 x2 x3 x4) (zz3 x0 x1) half (View.ld x5 (Rect.unit (s := S8x128x128) ![6, 0, 0] S1x128x128.size inb_S8x128x128_S1x128x128_6_0_0)) (View.ld x6 (Rect.unit (s := S8x128x1) ![6, 0, 0] S1x128x1.size inb_S8x128x1_S1x128x1_6_0_0)) from rfl) _).trans
    ((gated00 _ _ _ _ r d).trans (gated_elt x0 x1 x2 x3 x4 x5 x6 0 6 1536 0 (by decide) (by decide) (by decide) _ _ _ _ (vn3_at x0 x2 x3 x4) (zz3_at x0 x1) (ld_gate x5 6 _) (ld_bias x6 6 _) r d))

theorem part16 (x0 : Vec Ideal S256x2048 .bf16) (x1 x2 : Vec Ideal S2048x2048 .bf16) (x3 x4 : Vec Ideal S1x2048 .f32) (x5 : Vec Ideal S8x128x128 .f32) (x6 : Vec Ideal S8x128x1 .f32) (r : Fin 128) (d : Fin 256) :
    (k0_pay64 mask (k0_pay58 (mu x0 x2) (rs x0 x2) (rd3 x0 x2) (View.ld x3 (Rect.unit (s := S1x2048) ![0, 1536] S1x512.size inb_S1x2048_S1x512_0_1536)) (View.ld x4 (Rect.unit (s := S1x2048) ![0, 1536] S1x512.size inb_S1x2048_S1x512_0_1536))) (k0_pay59 (k0_pay4 x0) (View.ld x1 (Rect.unit (s := S2048x2048) ![0, 1536] S2048x512.size inb_S2048x2048_S2048x512_0_1536))) half (View.ld x5 (Rect.unit (s := S8x128x128) ![6, 0, 0] S1x128x128.size inb_S8x128x128_S1x128x128_6_0_0)) (View.ld x6 (Rect.unit (s := S8x128x1) ![6, 0, 0] S1x128x1.size inb_S8x128x1_S1x128x1_6_0_0)) : FVec Ideal S128x256 .bf16) (ix2 r d) = elt x0 x1 x2 x3 x4 x5 x6 1 r 6 d :=
  (congrFun (show k0_pay64 mask (k0_pay58 (mu x0 x2) (rs x0 x2) (rd3 x0 x2) (View.ld x3 (Rect.unit (s := S1x2048) ![0, 1536] S1x512.size inb_S1x2048_S1x512_0_1536)) (View.ld x4 (Rect.unit (s := S1x2048) ![0, 1536] S1x512.size inb_S1x2048_S1x512_0_1536))) (k0_pay59 (k0_pay4 x0) (View.ld x1 (Rect.unit (s := S2048x2048) ![0, 1536] S2048x512.size inb_S2048x2048_S2048x512_0_1536))) half (View.ld x5 (Rect.unit (s := S8x128x128) ![6, 0, 0] S1x128x128.size inb_S8x128x128_S1x128x128_6_0_0)) (View.ld x6 (Rect.unit (s := S8x128x1) ![6, 0, 0] S1x128x1.size inb_S8x128x1_S1x128x1_6_0_0)) = k0_pay64 mask (vn3 x0 x2 x3 x4) (zz3 x0 x1) half (View.ld x5 (Rect.unit (s := S8x128x128) ![6, 0, 0] S1x128x128.size inb_S8x128x128_S1x128x128_6_0_0)) (View.ld x6 (Rect.unit (s := S8x128x1) ![6, 0, 0] S1x128x1.size inb_S8x128x1_S1x128x1_6_0_0)) from rfl) _).trans
    ((gated10 _ _ _ _ r d).trans (gated_elt x0 x1 x2 x3 x4 x5 x6 1 6 1536 0 (by decide) (by decide) (by decide) _ _ _ _ (vn3_at x0 x2 x3 x4) (zz3_at x0 x1) (ld_gate x5 6 _) (ld_bias x6 6 _) r d))

theorem part07 (x0 : Vec Ideal S256x2048 .bf16) (x1 x2 : Vec Ideal S2048x2048 .bf16) (x3 x4 : Vec Ideal S1x2048 .f32) (x5 : Vec Ideal S8x128x128 .f32) (x6 : Vec Ideal S8x128x1 .f32) (r : Fin 128) (d : Fin 256) :
    (k0_pay2 (k0_pay58 (mu x0 x2) (rs x0 x2) (rd3 x0 x2) (View.ld x3 (Rect.unit (s := S1x2048) ![0, 1536] S1x512.size inb_S1x2048_S1x512_0_1536)) (View.ld x4 (Rect.unit (s := S1x2048) ![0, 1536] S1x512.size inb_S1x2048_S1x512_0_1536))) (k0_pay60 (k0_pay59 (k0_pay4 x0) (View.ld x1 (Rect.unit (s := S2048x2048) ![0, 1536] S2048x512.size inb_S2048x2048_S2048x512_0_1536))) half) (k0_pay65 mask (View.ld x5 (Rect.unit (s := S8x128x128) ![7, 0, 0] S1x128x128.size inb_S8x128x128_S1x128x128_7_0_0))) (View.ld x6 (Rect.unit (s := S8x128x1) ![7, 0, 0] S1x128x1.size inb_S8x128x1_S1x128x1_7_0_0)) : FVec Ideal S128x256 .bf16) (ix2 r d) = elt x0 x1 x2 x3 x4 x5 x6 0 r 7 d :=
  (congrFun (show k0_pay2 (k0_pay58 (mu x0 x2) (rs x0 x2) (rd3 x0 x2) (View.ld x3 (Rect.unit (s := S1x2048) ![0, 1536] S1x512.size inb_S1x2048_S1x512_0_1536)) (View.ld x4 (Rect.unit (s := S1x2048) ![0, 1536] S1x512.size inb_S1x2048_S1x512_0_1536))) (k0_pay60 (k0_pay59 (k0_pay4 x0) (View.ld x1 (Rect.unit (s := S2048x2048) ![0, 1536] S2048x512.size inb_S2048x2048_S2048x512_0_1536))) half) (k0_pay65 mask (View.ld x5 (Rect.unit (s := S8x128x128) ![7, 0, 0] S1x128x128.size inb_S8x128x128_S1x128x128_7_0_0))) (View.ld x6 (Rect.unit (s := S8x128x1) ![7, 0, 0] S1x128x1.size inb_S8x128x1_S1x128x1_7_0_0)) = k0_pay34 mask (vn3 x0 x2 x3 x4) (k0_pay60 (zz3 x0 x1) half) (View.ld x5 (Rect.unit (s := S8x128x128) ![7, 0, 0] S1x128x128.size inb_S8x128x128_S1x128x128_7_0_0)) (View.ld x6 (Rect.unit (s := S8x128x1) ![7, 0, 0] S1x128x1.size inb_S8x128x1_S1x128x1_7_0_0)) from rfl) _).trans
    ((gated01 _ _ _ _ r d).trans (gated_elt x0 x1 x2 x3 x4 x5 x6 0 7 1536 256 (by decide) (by decide) (by decide) _ _ _ _ (vn3_at x0 x2 x3 x4) (zz3_at x0 x1) (ld_gate x5 7 _) (ld_bias x6 7 _) r d))

theorem part17 (x0 : Vec Ideal S256x2048 .bf16) (x1 x2 : Vec Ideal S2048x2048 .bf16) (x3 x4 : Vec Ideal S1x2048 .f32) (x5 : Vec Ideal S8x128x128 .f32) (x6 : Vec Ideal S8x128x1 .f32) (r : Fin 128) (d : Fin 256) :
    (k0_pay3 (k0_pay58 (mu x0 x2) (rs x0 x2) (rd3 x0 x2) (View.ld x3 (Rect.unit (s := S1x2048) ![0, 1536] S1x512.size inb_S1x2048_S1x512_0_1536)) (View.ld x4 (Rect.unit (s := S1x2048) ![0, 1536] S1x512.size inb_S1x2048_S1x512_0_1536))) (k0_pay60 (k0_pay59 (k0_pay4 x0) (View.ld x1 (Rect.unit (s := S2048x2048) ![0, 1536] S2048x512.size inb_S2048x2048_S2048x512_0_1536))) half) (k0_pay65 mask (View.ld x5 (Rect.unit (s := S8x128x128) ![7, 0, 0] S1x128x128.size inb_S8x128x128_S1x128x128_7_0_0))) (View.ld x6 (Rect.unit (s := S8x128x1) ![7, 0, 0] S1x128x1.size inb_S8x128x1_S1x128x1_7_0_0)) : FVec Ideal S128x256 .bf16) (ix2 r d) = elt x0 x1 x2 x3 x4 x5 x6 1 r 7 d :=
  (congrFun (show k0_pay3 (k0_pay58 (mu x0 x2) (rs x0 x2) (rd3 x0 x2) (View.ld x3 (Rect.unit (s := S1x2048) ![0, 1536] S1x512.size inb_S1x2048_S1x512_0_1536)) (View.ld x4 (Rect.unit (s := S1x2048) ![0, 1536] S1x512.size inb_S1x2048_S1x512_0_1536))) (k0_pay60 (k0_pay59 (k0_pay4 x0) (View.ld x1 (Rect.unit (s := S2048x2048) ![0, 1536] S2048x512.size inb_S2048x2048_S2048x512_0_1536))) half) (k0_pay65 mask (View.ld x5 (Rect.unit (s := S8x128x128) ![7, 0, 0] S1x128x128.size inb_S8x128x128_S1x128x128_7_0_0))) (View.ld x6 (Rect.unit (s := S8x128x1) ![7, 0, 0] S1x128x1.size inb_S8x128x1_S1x128x1_7_0_0)) = k0_pay35 mask (vn3 x0 x2 x3 x4) (k0_pay60 (zz3 x0 x1) half) (View.ld x5 (Rect.unit (s := S8x128x128) ![7, 0, 0] S1x128x128.size inb_S8x128x128_S1x128x128_7_0_0)) (View.ld x6 (Rect.unit (s := S8x128x1) ![7, 0, 0] S1x128x1.size inb_S8x128x1_S1x128x1_7_0_0)) from rfl) _).trans
    ((gated11 _ _ _ _ r d).trans (gated_elt x0 x1 x2 x3 x4 x5 x6 1 7 1536 256 (by decide) (by decide) (by decide) _ _ _ _ (vn3_at x0 x2 x3 x4) (zz3_at x0 x1) (ld_gate x5 7 _) (ld_bias x6 7 _) r d))

/-- What the body stores in the result's block, the last store first. -/
def pieces (x0 : Vec Ideal S256x2048 .bf16) (x1 x2 : Vec Ideal S2048x2048 .bf16) (x3 x4 : Vec Ideal S1x2048 .f32) (x5 : Vec Ideal S8x128x128 .f32) (x6 : Vec Ideal S8x128x1 .f32) : List (View.Piece (Elt Ideal) S256x2048 .bf16) :=
  [⟨Rect.unit (s := S256x2048) ![128, 1792] S128x256.size inb_S256x2048_S128x256_128_1792, k0_pay3 (k0_pay58 (mu x0 x2) (rs x0 x2) (rd3 x0 x2) (View.ld x3 (Rect.unit (s := S1x2048) ![0, 1536] S1x512.size inb_S1x2048_S1x512_0_1536)) (View.ld x4 (Rect.unit (s := S1x2048) ![0, 1536] S1x512.size inb_S1x2048_S1x512_0_1536))) (k0_pay60 (k0_pay59 (k0_pay4 x0) (View.ld x1 (Rect.unit (s := S2048x2048) ![0, 1536] S2048x512.size inb_S2048x2048_S2048x512_0_1536))) half) (k0_pay65 mask (View.ld x5 (Rect.unit (s := S8x128x128) ![7, 0, 0] S1x128x128.size inb_S8x128x128_S1x128x128_7_0_0))) (View.ld x6 (Rect.unit (s := S8x128x1) ![7, 0, 0] S1x128x1.size inb_S8x128x1_S1x128x1_7_0_0))⟩,
   ⟨Rect.unit (s := S256x2048) ![0, 1792] S128x256.size inb_S256x2048_S128x256_0_1792, k0_pay2 (k0_pay58 (mu x0 x2) (rs x0 x2) (rd3 x0 x2) (View.ld x3 (Rect.unit (s := S1x2048) ![0, 1536] S1x512.size inb_S1x2048_S1x512_0_1536)) (View.ld x4 (Rect.unit (s := S1x2048) ![0, 1536] S1x512.size inb_S1x2048_S1x512_0_1536))) (k0_pay60 (k0_pay59 (k0_pay4 x0) (View.ld x1 (Rect.unit (s := S2048x2048) ![0, 1536] S2048x512.size inb_S2048x2048_S2048x512_0_1536))) half) (k0_pay65 mask (View.ld x5 (Rect.unit (s := S8x128x128) ![7, 0, 0] S1x128x128.size inb_S8x128x128_S1x128x128_7_0_0))) (View.ld x6 (Rect.unit (s := S8x128x1) ![7, 0, 0] S1x128x1.size inb_S8x128x1_S1x128x1_7_0_0))⟩,
   ⟨Rect.unit (s := S256x2048) ![128, 1536] S128x256.size inb_S256x2048_S128x256_128_1536, k0_pay64 mask (k0_pay58 (mu x0 x2) (rs x0 x2) (rd3 x0 x2) (View.ld x3 (Rect.unit (s := S1x2048) ![0, 1536] S1x512.size inb_S1x2048_S1x512_0_1536)) (View.ld x4 (Rect.unit (s := S1x2048) ![0, 1536] S1x512.size inb_S1x2048_S1x512_0_1536))) (k0_pay59 (k0_pay4 x0) (View.ld x1 (Rect.unit (s := S2048x2048) ![0, 1536] S2048x512.size inb_S2048x2048_S2048x512_0_1536))) half (View.ld x5 (Rect.unit (s := S8x128x128) ![6, 0, 0] S1x128x128.size inb_S8x128x128_S1x128x128_6_0_0)) (View.ld x6 (Rect.unit (s := S8x128x1) ![6, 0, 0] S1x128x1.size inb_S8x128x1_S1x128x1_6_0_0))⟩,
   ⟨Rect.unit (s := S256x2048) ![0, 1536] S128x256.size inb_S256x2048_S128x256_0_1536, k0_pay63 mask (k0_pay58 (mu x0 x2) (rs x0 x2) (rd3 x0 x2) (View.ld x3 (Rect.unit (s := S1x2048) ![0, 1536] S1x512.size inb_S1x2048_S1x512_0_1536)) (View.ld x4 (Rect.unit (s := S1x2048) ![0, 1536] S1x512.size inb_S1x2048_S1x512_0_1536))) (k0_pay59 (k0_pay4 x0) (View.ld x1 (Rect.unit (s := S2048x2048) ![0, 1536] S2048x512.size inb_S2048x2048_S2048x512_0_1536))) half (View.ld x5 (Rect.unit (s := S8x128x128) ![6, 0, 0] S1x128x128.size inb_S8x128x128_S1x128x128_6_0_0)) (View.ld x6 (Rect.unit (s := S8x128x1) ![6, 0, 0] S1x128x1.size inb_S8x128x1_S1x128x1_6_0_0))⟩,
   ⟨Rect.unit (s := S256x2048) ![128, 1280] S128x256.size inb_S256x2048_S128x256_128_1280, k0_pay57 mask (k0_pay47 (mu x0 x2) (rs x0 x2) (rd2 x0 x2) (View.ld x3 (Rect.unit (s := S1x2048) ![0, 1024] S1x512.size inb_S1x2048_S1x512_0_1024)) (View.ld x4 (Rect.unit (s := S1x2048) ![0, 1024] S1x512.size inb_S1x2048_S1x512_0_1024))) (k0_pay48 (k0_pay4 x0) (View.ld x1 (Rect.unit (s := S2048x2048) ![0, 1024] S2048x512.size inb_S2048x2048_S2048x512_0_1024))) (k0_pay53 (View.ld x5 (Rect.unit (s := S8x128x128) ![5, 0, 0] S1x128x128.size inb_S8x128x128_S1x128x128_5_0_0))) (View.ld x6 (Rect.unit (s := S8x128x1) ![5, 0, 0] S1x128x1.size inb_S8x128x1_S1x128x1_5_0_0))⟩,
   ⟨Rect.unit (s := S256x2048) ![0, 1280] S128x256.size inb_S256x2048_S128x256_0_1280, k0_pay56 mask (k0_pay47 (mu x0 x2) (rs x0 x2) (rd2 x0 x2) (View.ld x3 (Rect.unit (s := S1x2048) ![0, 1024] S1x512.size inb_S1x2048_S1x512_0_1024)) (View.ld x4 (Rect.unit (s := S1x2048) ![0, 1024] S1x512.size inb_S1x2048_S1x512_0_1024))) (k0_pay48 (k0_pay4 x0) (View.ld x1 (Rect.unit (s := S2048x2048) ![0, 1024] S2048x512.size inb_S2048x2048_S2048x512_0_1024))) (k0_pay53 (View.ld x5 (Rect.unit (s := S8x128x128) ![5, 0, 0] S1x128x128.size inb_S8x128x128_S1x128x128_5_0_0))) (View.ld x6 (Rect.unit (s := S8x128x1) ![5, 0, 0] S1x128x1.size inb_S8x128x1_S1x128x1_5_0_0))⟩,
   ⟨Rect.unit (s := S256x2048) ![128, 1024] S128x256.size inb_S256x2048_S128x256_128_1024, k0_pay52 (k0_pay4 x0) mask (k0_pay47 (mu x0 x2) (rs x0 x2) (rd2 x0 x2) (View.ld x3 (Rect.unit (s := S1x2048) ![0, 1024] S1x512.size inb_S1x2048_S1x512_0_1024)) (View.ld x4 (Rect.unit (s := S1x2048) ![0, 1024] S1x512.size inb_S1x2048_S1x512_0_1024))) (View.ld x1 (Rect.unit (s := S2048x2048) ![0, 1024] S2048x512.size inb_S2048x2048_S2048x512_0_1024)) (View.ld x5 (Rect.unit (s := S8x128x128) ![4, 0, 0] S1x128x128.size inb_S8x128x128_S1x128x128_4_0_0)) (View.ld x6 (Rect.unit (s := S8x128x1) ![4, 0, 0] S1x128x1.size inb_S8x128x1_S1x128x1_4_0_0))⟩,
   ⟨Rect.unit (s := S256x2048) ![0, 1024] S128x256.size inb_S256x2048_S128x256_0_1024, k0_pay51 (k0_pay4 x0) mask (k0_pay47 (mu x0 x2) (rs x0 x2) (rd2 x0 x2) (View.ld x3 (Rect.unit (s := S1x2048) ![0, 1024] S1x512.size inb_S1x2048_S1x512_0_1024)) (View.ld x4 (Rect.unit (s := S1x2048) ![0, 1024] S1x512.size inb_S1x2048_S1x512_0_1024))) (View.ld x1 (Rect.unit (s := S2048x2048) ![0, 1024] S2048x512.size inb_S2048x2048_S2048x512_0_1024)) (View.ld x5 (Rect.unit (s := S8x128x128) ![4, 0, 0] S1x128x128.size inb_S8x128x128_S1x128x128_4_0_0)) (View.ld x6 (Rect.unit (s := S8x128x1) ![4, 0, 0] S1x128x1.size inb_S8x128x1_S1x128x1_4_0_0))⟩,
   ⟨Rect.unit (s := S256x2048) ![128, 768] S128x256.size inb_S256x2048_S128x256_128_768, k0_pay46 mask (k0_pay37 (k0_pay36 (mu x0 x2) (rs x0 x2) (rd1 x0 x2) (View.ld x3 (Rect.unit (s := S1x2048) ![0, 512] S1x512.size inb_S1x2048_S1x512_0_512))) (View.ld x4 (Rect.unit (s := S1x2048) ![0, 512] S1x512.size inb_S1x2048_S1x512_0_512))) (k0_pay38 (k0_pay4 x0) (View.ld x1 (Rect.unit (s := S2048x2048) ![0, 512] S2048x512.size inb_S2048x2048_S2048x512_0_512))) (View.ld x5 (Rect.unit (s := S8x128x128) ![3, 0, 0] S1x128x128.size inb_S8x128x128_S1x128x128_3_0_0)) (View.ld x6 (Rect.unit (s := S8x128x1) ![3, 0, 0] S1x128x1.size inb_S8x128x1_S1x128x1_3_0_0))⟩,
   ⟨Rect.unit (s := S256x2048) ![0, 768] S128x256.size inb_S256x2048_S128x256_0_768, k0_pay45 mask (k0_pay37 (k0_pay36 (mu x0 x2) (rs x0 x2) (rd1 x0 x2) (View.ld x3 (Rect.unit (s := S1x2048) ![0, 512] S1x512.size inb_S1x2048_S1x512_0_512))) (View.ld x4 (Rect.unit (s := S1x2048) ![0, 512] S1x512.size inb_S1x2048_S1x512_0_512))) (k0_pay38 (k0_pay4 x0) (View.ld x1 (Rect.unit (s := S2048x2048) ![0, 512] S2048x512.size inb_S2048x2048_S2048x512_0_512))) (View.ld x5 (Rect.unit (s := S8x128x128) ![3, 0, 0] S1x128x128.size inb_S8x128x128_S1x128x128_3_0_0)) (View.ld x6 (Rect.unit (s := S8x128x1) ![3, 0, 0] S1x128x1.size inb_S8x128x1_S1x128x1_3_0_0))⟩,
   ⟨Rect.unit (s := S256x2048) ![128, 512] S128x256.size inb_S256x2048_S128x256_128_512, k0_pay42 (k0_pay4 x0) mask (k0_pay36 (mu x0 x2) (rs x0 x2) (rd1 x0 x2) (View.ld x3 (Rect.unit (s := S1x2048) ![0, 512] S1x512.size inb_S1x2048_S1x512_0_512))) (View.ld x4 (Rect.unit (s := S1x2048) ![0, 512] S1x512.size inb_S1x2048_S1x512_0_512)) (View.ld x1 (Rect.unit (s := S2048x2048) ![0, 512] S2048x512.size inb_S2048x2048_S2048x512_0_512)) (View.ld x5 (Rect.unit (s := S8x128x128) ![2, 0, 0] S1x128x128.size inb_S8x128x128_S1x128x128_2_0_0)) (View.ld x6 (Rect.unit (s := S8x128x1) ![2, 0, 0] S1x128x1.size inb_S8x128x1_S1x128x1_2_0_0))⟩,
   ⟨Rect.unit (s := S256x2048) ![0, 512] S128x256.size inb_S256x2048_S128x256_0_512, k0_pay41 (k0_pay4 x0) mask (k0_pay36 (mu x0 x2) (rs x0 x2) (rd1 x0 x2) (View.ld x3 (Rect.unit (s := S1x2048) ![0, 512] S1x512.size inb_S1x2048_S1x512_0_512))) (View.ld x4 (Rect.unit (s := S1x2048) ![0, 512] S1x512.size inb_S1x2048_S1x512_0_512)) (View.ld x1 (Rect.unit (s := S2048x2048) ![0, 512] S2048x512.size inb_S2048x2048_S2048x512_0_512)) (View.ld x5 (Rect.unit (s := S8x128x128) ![2, 0, 0] S1x128x128.size inb_S8x128x128_S1x128x128_2_0_0)) (View.ld x6 (Rect.unit (s := S8x128x1) ![2, 0, 0] S1x128x1.size inb_S8x128x1_S1x128x1_2_0_0))⟩,
   ⟨Rect.unit (s := S256x2048) ![128, 256] S128x256.size inb_S256x2048_S128x256_128_256, k0_pay35 mask (k0_pay25 (k0_pay23 (mu x0 x2) (rd0 x0 x2)) (k0_pay24 (rs x0 x2)) (View.ld x3 (Rect.unit (s := S1x2048) ![0, 0] S1x512.size inb_S1x2048_S1x512_0_0)) (View.ld x4 (Rect.unit (s := S1x2048) ![0, 0] S1x512.size inb_S1x2048_S1x512_0_0))) (k0_pay26 (k0_pay4 x0) (View.ld x1 (Rect.unit (s := S2048x2048) ![0, 0] S2048x512.size inb_S2048x2048_S2048x512_0_0))) (View.ld x5 (Rect.unit (s := S8x128x128) ![1, 0, 0] S1x128x128.size inb_S8x128x128_S1x128x128_1_0_0)) (View.ld x6 (Rect.unit (s := S8x128x1) ![1, 0, 0] S1x128x1.size inb_S8x128x1_S1x128x1_1_0_0))⟩,
   ⟨Rect.unit (s := S256x2048) ![0, 256] S128x256.size inb_S256x2048_S128x256_0_256, k0_pay34 mask (k0_pay25 (k0_pay23 (mu x0 x2) (rd0 x0 x2)) (k0_pay24 (rs x0 x2)) (View.ld x3 (Rect.unit (s := S1x2048) ![0, 0] S1x512.size inb_S1x2048_S1x512_0_0)) (View.ld x4 (Rect.unit (s := S1x2048) ![0, 0] S1x512.size inb_S1x2048_S1x512_0_0))) (k0_pay26 (k0_pay4 x0) (View.ld x1 (Rect.unit (s := S2048x2048) ![0, 0] S2048x512.size inb_S2048x2048_S2048x512_0_0))) (View.ld x5 (Rect.unit (s := S8x128x128) ![1, 0, 0] S1x128x128.size inb_S8x128x128_S1x128x128_1_0_0)) (View.ld x6 (Rect.unit (s := S8x128x1) ![1, 0, 0] S1x128x1.size inb_S8x128x1_S1x128x1_1_0_0))⟩,
   ⟨Rect.unit (s := S256x2048) ![128, 0] S128x256.size inb_S256x2048_S128x256_128_0, k0_pay31 (k0_pay26 (k0_pay4 x0) (View.ld x1 (Rect.unit (s := S2048x2048) ![0, 0] S2048x512.size inb_S2048x2048_S2048x512_0_0))) (k0_pay28 (View.ld x6 (Rect.unit (s := S8x128x1) ![0, 0, 0] S1x128x1.size inb_S8x128x1_S1x128x1_0_0_0))) (k0_pay30 mask (k0_pay23 (mu x0 x2) (rd0 x0 x2)) (k0_pay24 (rs x0 x2)) (View.ld x3 (Rect.unit (s := S1x2048) ![0, 0] S1x512.size inb_S1x2048_S1x512_0_0)) (View.ld x4 (Rect.unit (s := S1x2048) ![0, 0] S1x512.size inb_S1x2048_S1x512_0_0)) (View.ld x5 (Rect.unit (s := S8x128x128) ![0, 0, 0] S1x128x128.size inb_S8x128x128_S1x128x128_0_0_0)))⟩,
   ⟨Rect.unit (s := S256x2048) ![0, 0] S128x256.size inb_S256x2048_S128x256_0_0, k0_pay29 (k0_pay4 x0) mask (k0_pay23 (mu x0 x2) (rd0 x0 x2)) (k0_pay24 (rs x0 x2)) (View.ld x3 (Rect.unit (s := S1x2048) ![0, 0] S1x512.size inb_S1x2048_S1x512_0_0)) (View.ld x4 (Rect.unit (s := S1x2048) ![0, 0] S1x512.size inb_S1x2048_S1x512_0_0)) (View.ld x1 (Rect.unit (s := S2048x2048) ![0, 0] S2048x512.size inb_S2048x2048_S2048x512_0_0)) (View.ld x5 (Rect.unit (s := S8x128x128) ![0, 0, 0] S1x128x128.size inb_S8x128x128_S1x128x128_0_0_0)) (View.ld x6 (Rect.unit (s := S8x128x1) ![0, 0, 0] S1x128x1.size inb_S8x128x1_S1x128x1_0_0_0))⟩]

theorem pieces_eq (x0 : Vec Ideal S256x2048 .bf16) (x1 x2 : Vec Ideal S2048x2048 .bf16) (x3 x4 : Vec Ideal S1x2048 .f32) (x5 : Vec Ideal S8x128x128 .f32) (x6 : Vec Ideal S8x128x1 .f32) : ∀ p ∈ pieces x0 x1 x2 x3 x4 x5 x6, ∀ x : p.1.shape.Idx, p.2 x = blk x0 x1 x2 x3 x4 x5 x6 (p.1.emb x) := by
  unfold pieces
  refine List.forall_mem_cons.mpr ⟨?_, ?_⟩
  · exact piece x0 x1 x2 x3 x4 x5 x6 1 7 _ (part17 x0 x1 x2 x3 x4 x5 x6) 128 1792 rfl rfl inb_S256x2048_S128x256_128_1792
  refine List.forall_mem_cons.mpr ⟨?_, ?_⟩
  · exact piece x0 x1 x2 x3 x4 x5 x6 0 7 _ (part07 x0 x1 x2 x3 x4 x5 x6) 0 1792 rfl rfl inb_S256x2048_S128x256_0_1792
  refine List.forall_mem_cons.mpr ⟨?_, ?_⟩
  · exact piece x0 x1 x2 x3 x4 x5 x6 1 6 _ (part16 x0 x1 x2 x3 x4 x5 x6) 128 1536 rfl rfl inb_S256x2048_S128x256_128_1536
  refine List.forall_mem_cons.mpr ⟨?_, ?_⟩
  · exact piece x0 x1 x2 x3 x4 x5 x6 0 6 _ (part06 x0 x1 x2 x3 x4 x5 x6) 0 1536 rfl rfl inb_S256x2048_S128x256_0_1536
  refine List.forall_mem_cons.mpr ⟨?_, ?_⟩
  · exact piece x0 x1 x2 x3 x4 x5 x6 1 5 _ (part15 x0 x1 x2 x3 x4 x5 x6) 128 1280 rfl rfl inb_S256x2048_S128x256_128_1280
  refine List.forall_mem_cons.mpr ⟨?_, ?_⟩
  · exact piece x0 x1 x2 x3 x4 x5 x6 0 5 _ (part05 x0 x1 x2 x3 x4 x5 x6) 0 1280 rfl rfl inb_S256x2048_S128x256_0_1280
  refine List.forall_mem_cons.mpr ⟨?_, ?_⟩
  · exact piece x0 x1 x2 x3 x4 x5 x6 1 4 _ (part14 x0 x1 x2 x3 x4 x5 x6) 128 1024 rfl rfl inb_S256x2048_S128x256_128_1024
  refine List.forall_mem_cons.mpr ⟨?_, ?_⟩
  · exact piece x0 x1 x2 x3 x4 x5 x6 0 4 _ (part04 x0 x1 x2 x3 x4 x5 x6) 0 1024 rfl rfl inb_S256x2048_S128x256_0_1024
  refine List.forall_mem_cons.mpr ⟨?_, ?_⟩
  · exact piece x0 x1 x2 x3 x4 x5 x6 1 3 _ (part13 x0 x1 x2 x3 x4 x5 x6) 128 768 rfl rfl inb_S256x2048_S128x256_128_768
  refine List.forall_mem_cons.mpr ⟨?_, ?_⟩
  · exact piece x0 x1 x2 x3 x4 x5 x6 0 3 _ (part03 x0 x1 x2 x3 x4 x5 x6) 0 768 rfl rfl inb_S256x2048_S128x256_0_768
  refine List.forall_mem_cons.mpr ⟨?_, ?_⟩
  · exact piece x0 x1 x2 x3 x4 x5 x6 1 2 _ (part12 x0 x1 x2 x3 x4 x5 x6) 128 512 rfl rfl inb_S256x2048_S128x256_128_512
  refine List.forall_mem_cons.mpr ⟨?_, ?_⟩
  · exact piece x0 x1 x2 x3 x4 x5 x6 0 2 _ (part02 x0 x1 x2 x3 x4 x5 x6) 0 512 rfl rfl inb_S256x2048_S128x256_0_512
  refine List.forall_mem_cons.mpr ⟨?_, ?_⟩
  · exact piece x0 x1 x2 x3 x4 x5 x6 1 1 _ (part11 x0 x1 x2 x3 x4 x5 x6) 128 256 rfl rfl inb_S256x2048_S128x256_128_256
  refine List.forall_mem_cons.mpr ⟨?_, ?_⟩
  · exact piece x0 x1 x2 x3 x4 x5 x6 0 1 _ (part01 x0 x1 x2 x3 x4 x5 x6) 0 256 rfl rfl inb_S256x2048_S128x256_0_256
  refine List.forall_mem_cons.mpr ⟨?_, ?_⟩
  · exact piece x0 x1 x2 x3 x4 x5 x6 1 0 _ (part10 x0 x1 x2 x3 x4 x5 x6) 128 0 rfl rfl inb_S256x2048_S128x256_128_0
  refine List.forall_mem_cons.mpr ⟨?_, ?_⟩
  · exact piece x0 x1 x2 x3 x4 x5 x6 0 0 _ (part00 x0 x1 x2 x3 x4 x5 x6) 0 0 rfl rfl inb_S256x2048_S128x256_0_0
  exact fun p hp => absurd hp List.not_mem_nil

theorem pieces_cover (x0 : Vec Ideal S256x2048 .bf16) (x1 x2 : Vec Ideal S2048x2048 .bf16) (x3 x4 : Vec Ideal S1x2048 .f32) (x5 : Vec Ideal S8x128x128 .f32) (x6 : Vec Ideal S8x128x1 .f32) (y : S256x2048.Idx) : ∃ p ∈ pieces x0 x1 x2 x3 x4 x5 x6, y ∈ p.1.set :=
  View.cover_of_tiledBy (pieces x0 x1 x2 x3 x4 x5 x6) ![128, 256] (by sl_kernel_rfl) y

theorem canon_pieces (x0 : Vec Ideal S256x2048 .bf16) (x1 x2 : Vec Ideal S2048x2048 .bf16) (x3 x4 : Vec Ideal S1x2048 .f32) (x5 : Vec Ideal S8x128x128 .f32) (x6 : Vec Ideal S8x128x1 .f32) : View.canon (pieces x0 x1 x2 x3 x4 x5 x6) = blk x0 x1 x2 x3 x4 x5 x6 :=
  funext fun y => View.canon_apply_of_pieces _ _ (pieces_eq x0 x1 x2 x3 x4 x5 x6) y (pieces_cover x0 x1 x2 x3 x4 x5 x6 y)

theorem out_eq : outsAt0 m c t = blk (iblk m c 0 t) (iblk m c 1 t) (iblk m c 2 t) (iblk m c 3 t) (iblk m c 4 t) (iblk m c 5 t) (iblk m c 6 t) := by
  unfold outsAt0
  frame_out
  exact canon_pieces (iblk m c 0 t) (iblk m c 1 t) (iblk m c 2 t) (iblk m c 3 t) (iblk m c 4 t) (iblk m c 5 t) (iblk m c 6 t)

/-- The tokens, one row each, in the matrix unit's type. -/
def lowRows (a : FVec Ideal S4x8192x2048 .f32) : FVec Ideal S32768x2048 .bf16 := shapeCast S32768x2048 (truncf .bf16 a bitsLt_bf16_f32) shapeCasts_S4x8192x2048_S32768x2048

/-- The weight in the matrix unit's type. -/
def lowW (a : FVec Ideal S2048x14336 .f32) : FVec Ideal S2048x14336 .bf16 := truncf .bf16 a bitsLt_bf16_f32

/-- A vector as a row. -/
def wide (a : FVec Ideal S2048 .f32) : FVec Ideal S1x2048 .f32 := shapeCast S1x2048 a shapeCasts_S2048_S1x2048

/-- The biases as columns. -/
def tall (a : FVec Ideal S8x128 .f32) : FVec Ideal S8x128x1 .f32 := shapeCast S8x128x1 a shapeCasts_S8x128_S8x128x1

theorem V_0 : V m c main_v1 = lowRows (m (c, main_arg0)) := by
  unfold V hostOps0
  after_reads_simp
  rfl
theorem V_1 : V m c main_v2 = lowW (m (c, main_arg1)) := by
  unfold V hostOps0
  after_reads_simp
  rfl
theorem V_3 : V m c main_v4 = wide (m (c, main_arg2)) := by
  unfold V hostOps0
  after_reads_simp
  rfl
theorem V_4 : V m c main_v5 = wide (m (c, main_arg3)) := by
  unfold V hostOps0
  after_reads_simp
  rfl
theorem V_5 : V m c main_arg4 = m (c, main_arg4) := by
  unfold V hostOps0
  after_reads_simp
theorem V_6 : V m c main_v3 = tall (m (c, main_arg5)) := by
  unfold V hostOps0
  after_reads_simp
  rfl

theorem lowRows_at (a : FVec Ideal S4x8192x2048 .f32) (b : Fin 4) (s : Fin 8192) (k : Fin 2048) :
    lowRows a (ix2 ⟨8192 * b.val + s.val, by omega⟩ k) = a (ix3 b s k) := by
  pointwise [lowRows]

theorem wide_at (a : FVec Ideal S2048 .f32) (j : Fin 2048) : wide a (ix2 0 j) = a (ix1 j) := by
  pointwise [wide]

theorem tall_at (a : FVec Ideal S8x128 .f32) (h : Fin 8) (r : Fin 128) : tall a (ix3 h r 0) = a (ix2 h r) := by
  pointwise [tall]

/-- The row block of a grid point. -/
def gT (t : Fin cfg0.N) : Fin 128 := cfg0.grid.coords t 0

theorem index0 : ∀ t : Fin cfg0.N, (cfg0.win 0).index t = ![(gT t).val, 0] := by decide +kernel
theorem index1 : ∀ t : Fin cfg0.N, (cfg0.win 1).index t = ![0, 3] := by decide +kernel
theorem index2 : ∀ t : Fin cfg0.N, (cfg0.win 2).index t = ![0, 4] := by decide +kernel
theorem index3 : ∀ t : Fin cfg0.N, (cfg0.win 3).index t = ![0, 0] := by decide +kernel
theorem index4 : ∀ t : Fin cfg0.N, (cfg0.win 4).index t = ![0, 0] := by decide +kernel
theorem index5 : ∀ t : Fin cfg0.N, (cfg0.win 5).index t = ![0, 0, 0] := by decide +kernel
theorem index6 : ∀ t : Fin cfg0.N, (cfg0.win 6).index t = ![0, 0, 0] := by decide +kernel
theorem index7 : ∀ t : Fin cfg0.N, (cfg0.win 7).index t = ![(gT t).val, 0] := by decide +kernel

theorem blk0_at (n : Fin 2) (q : Fin 128) (k : Fin 2048) : iblk m c 0 t (ix2 (⟨128 * n.val + q.val, by omega⟩ : Fin 256) k)
    = m (c, main_arg0) (ix3 (⟨(gT t).val / 32, by omega⟩ : Fin 4) (⟨128 * (2 * ((gT t).val % 32) + n.val) + q.val, by omega⟩ : Fin 8192) k) := by
  refine Eq.trans ?_ (lowRows_at (m (c, main_arg0)) _ _ k)
  rw [← V_0]
  unfold iblk
  refine congrArg (V m c main_v1) (funext fun a => Fin.ext ?_)
  refine (Pipeline.Window.rect_emb_val (cfg0.win 0) t _ a).trans ?_
  rw [index0]
  match a with
  | 0 => exact (show (gT t).val * 256 + (128 * n.val + q.val) = 8192 * ((gT t).val / 32) + (128 * (2 * ((gT t).val % 32) + n.val) + q.val) by omega)
  | 1 => exact (show 0 * 2048 + k.val = k.val by omega)

theorem blk1_at (k j : Fin 2048) : iblk m c 1 t (ix2 k j) = m (c, main_arg1) (ix2 k (⟨6144 + j.val, by omega⟩ : Fin 14336)) := by
  refine Eq.trans ?_ (congrFun (V_1 m c) _)
  unfold iblk
  refine congrArg (V m c main_v2) (funext fun a => Fin.ext ?_)
  refine (Pipeline.Window.rect_emb_val (cfg0.win 1) t _ a).trans ?_
  rw [index1]
  match a with
  | 0 => exact (show 0 * 2048 + k.val = k.val by omega)
  | 1 => exact (show 3 * 2048 + j.val = 6144 + j.val by omega)

theorem blk2_at (k j : Fin 2048) : iblk m c 2 t (ix2 k j) = m (c, main_arg1) (ix2 k (⟨8192 + j.val, by omega⟩ : Fin 14336)) := by
  refine Eq.trans ?_ (congrFun (V_1 m c) _)
  unfold iblk
  refine congrArg (V m c main_v2) (funext fun a => Fin.ext ?_)
  refine (Pipeline.Window.rect_emb_val (cfg0.win 2) t _ a).trans ?_
  rw [index2]
  match a with
  | 0 => exact (show 0 * 2048 + k.val = k.val by omega)
  | 1 => exact (show 4 * 2048 + j.val = 8192 + j.val by omega)

theorem blk3_at (j : Fin 2048) : iblk m c 3 t (ix2 0 j) = m (c, main_arg2) (ix1 j) := by
  refine Eq.trans ?_ (wide_at (m (c, main_arg2)) j)
  rw [← V_3]
  unfold iblk
  refine congrArg (V m c main_v4) (funext fun a => Fin.ext ?_)
  refine (Pipeline.Window.rect_emb_val (cfg0.win 3) t _ a).trans ?_
  rw [index3]
  match a with
  | 0 => rfl
  | 1 => exact (show 0 * 2048 + j.val = j.val by omega)

theorem blk4_at (j : Fin 2048) : iblk m c 4 t (ix2 0 j) = m (c, main_arg3) (ix1 j) := by
  refine Eq.trans ?_ (wide_at (m (c, main_arg3)) j)
  rw [← V_4]
  unfold iblk
  refine congrArg (V m c main_v5) (funext fun a => Fin.ext ?_)
  refine (Pipeline.Window.rect_emb_val (cfg0.win 4) t _ a).trans ?_
  rw [index4]
  match a with
  | 0 => rfl
  | 1 => exact (show 0 * 2048 + j.val = j.val by omega)

theorem blk5_at (h : Fin 8) (r q : Fin 128) : iblk m c 5 t (ix3 h r q) = m (c, main_arg4) (ix3 h r q) := by
  refine Eq.trans ?_ (congrFun (V_5 m c) _)
  unfold iblk
  refine congrArg (V m c main_arg4) (funext fun a => Fin.ext ?_)
  refine (Pipeline.Window.rect_emb_val (cfg0.win 5) t _ a).trans ?_
  rw [index5]
  match a with
  | 0 => exact (show 0 * 8 + h.val = h.val by omega)
  | 1 => exact (show 0 * 128 + r.val = r.val by omega)
  | 2 => exact (show 0 * 128 + q.val = q.val by omega)

theorem blk6_at (h : Fin 8) (r : Fin 128) : iblk m c 6 t (ix3 h r 0) = m (c, main_arg5) (ix2 h r) := by
  refine Eq.trans ?_ (tall_at (m (c, main_arg5)) h r)
  rw [← V_6]
  unfold iblk
  refine congrArg (V m c main_v3) (funext fun a => Fin.ext ?_)
  refine (Pipeline.Window.rect_emb_val (cfg0.win 6) t _ a).trans ?_
  rw [index6]
  match a with
  | 0 => exact (show 0 * 8 + h.val = h.val by omega)
  | 1 => exact (show 0 * 128 + r.val = r.val by omega)
  | 2 => rfl

theorem elt_goal (n : Fin 2) (r : Fin 128) (h : Fin 8) (d : Fin 256) :
    elt (iblk m c 0 t) (iblk m c 1 t) (iblk m c 2 t) (iblk m c 3 t) (iblk m c 4 t) (iblk m c 5 t) (iblk m c 6 t) n r h d = goal (m (c, main_arg0)) (m (c, main_arg1)) (m (c, main_arg2)) (m (c, main_arg3)) (m (c, main_arg4)) (m (c, main_arg5))
      (ix2 (⟨8192 * ((gT t).val / 32) + (128 * (2 * ((gT t).val % 32) + n.val) + r.val), by omega⟩ : Fin 32768) (⟨256 * h.val + d.val, by omega⟩ : Fin 2048)) := by
  refine Eq.trans ?_ (goal_at (m (c, main_arg0)) (m (c, main_arg1)) (m (c, main_arg2)) (m (c, main_arg3)) (m (c, main_arg4)) (m (c, main_arg5)) ⟨(gT t).val / 32, by omega⟩ ⟨2 * ((gT t).val % 32) + n.val, by omega⟩ r h d).symm
  unfold elt
  have e0 := fun q k => blk0_at m c t n q k
  have e1 := fun k j => blk1_at m c t k j
  have e2 := fun k j => blk2_at m c t k j
  have e3 := fun j => blk3_at m c t j
  have e4 := fun j => blk4_at m c t j
  have e5 := fun r q => blk5_at m c t h r q
  have e6 := fun r => blk6_at m c t h r
  exact cell_congr e0 e1 e2 e3 e4 e5 e6 r _

/-- The call's result is the reference's. -/
theorem final : (dats m 0 c).arrAt 7 cfg0.N = goal (m (c, main_arg0)) (m (c, main_arg1)) (m (c, main_arg2)) (m (c, main_arg3)) (m (c, main_arg4)) (m (c, main_arg5)) := by
  refine (dats m 0 c).arrAt_eq_of_covers 7 _ (by decide +kernel) (fun t _ y => ?_) (Memref.isWhole_whole _)
  have hy0 : (y 0).val < 256 := (y 0).isLt
  have hy1 : (y 1).val < 2048 := (y 1).isLt
  refine (congrFun ((Value.flushed7 m c t).trans (congrArg _ (out_eq m c t))) y).trans ?_
  refine Eq.trans ((blk_at (iblk m c 0 t) (iblk m c 1 t) (iblk m c 2 t) (iblk m c 3 t) (iblk m c 4 t) (iblk m c 5 t) (iblk m c 6 t) y ⟨(y 0).val / 128, by omega⟩ ⟨(y 0).val % 128, by omega⟩ ⟨(y 1).val / 256, by omega⟩ ⟨(y 1).val % 256, by omega⟩
    (show (y 0).val = 128 * ((y 0).val / 128) + (y 0).val % 128 by omega) (show (y 1).val = 256 * ((y 1).val / 256) + (y 1).val % 256 by omega)).trans (elt_goal m c t _ _ _ _)) ?_
  refine congrArg (goal (m (c, main_arg0)) (m (c, main_arg1)) (m (c, main_arg2)) (m (c, main_arg3)) (m (c, main_arg4)) (m (c, main_arg5))) (funext fun a => Fin.ext ?_)
  refine Eq.trans ?_ (Pipeline.Window.rect_emb_val (cfg0.win 7) t y a).symm
  rw [index7]
  match a with
  | 0 => exact (show 8192 * ((gT t).val / 32) + (128 * (2 * ((gT t).val % 32) + (y 0).val / 128) + (y 0).val % 128) = (gT t).val * 256 + (y 0).val by omega)
  | 1 => exact (show 256 * ((y 1).val / 256) + (y 1).val % 256 = 0 * 2048 + (y 1).val by omega)

theorem frame_kernel : Cert.quiescent_Gmlp := fun m ρ _ => Cert.Gmlp.Gen.frame (F := Bits) m ρ

theorem frame_ideal : Cert.quiescent_GmlpIdeal := fun m ρ _ => Cert.GmlpIdeal.Gen.frame (F := Ideal) m ρ

theorem frame_reference : Cert.quiescent_GmlpReferenceIdeal := by
  intro m g _
  hlo_run
  · exact fun _ => ⟨trivial, trivial, trivial, trivial, trivial, trivial⟩
  · exact sem_eq_zero_of_no_sems (by decide) _

theorem preserves : Cert.preserves_Gmlp_GmlpIdeal := trivial

/-- The program and the reference leave equal arrays. -/
theorem algebraic : Cert.algebraic_GmlpIdeal_GmlpReferenceIdeal := by
  intro m g m' g' _ hagree
  refine ⟨fun c => goal (m (c, main_arg0)) (m (c, main_arg1)) (m (c, main_arg2)) (m (c, main_arg3)) (m (c, main_arg4)) (m (c, main_arg5)), ?_, ?_⟩
  · exact θ_run_mono (Cert.GmlpIdeal.Value.run_blocks (F := Ideal) m g) fun r h c => ⟨(h c).1.trans (final m c), (h c).2⟩
  · refine θ_run_mono (Cert.GmlpReferenceIdeal.Value.run (F := Ideal) m' g') fun r h c => ⟨((h c).1.trans (goal_eq m' c)).trans ?_, (h c).2⟩
    obtain ⟨e0, e1, e2, e3, e4, e5⟩ := hagree c
    rw [e0, e1, e2, e3, e4, e5]

end Cert.GmlpCall

end
-- ==== Proof.lean ====
module

public import proofs.«01_k».proof.Defs
public import proofs.«01_k».proof.Proof.Run.KernelFrame
public import proofs.«01_k».proof.Proof.Value.Output
public import proofs.«01_k».proof.Proof.Value.Finite
public import proofs.«01_k».proof.Proof.Gen.ReferenceIdeal
public import proofs.«01_k».proof.Proof.Calls.Hidden
public import proofs.«01_k».proof.Proof.Calls.Down
public import proofs.«01_k».proof.Proof.Calls.Merge
public import proofs.«01_k».proof.Proof.Calls.OutProj
public import proofs.«01_k».proof.Proof.Calls.Values
public import proofs.«01_k».proof.Proof.Calls.Queries
public import proofs.«01_k».proof.Proof.Calls.Gmlp
public import Idealize.ShloMosaic.Lib.StableHlo.RunHlo
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

theorem frame_ideal : Cert.quiescent_KernelIdeal := fun m g _ => Cert.Attn.frame_any m g

theorem frame_reference : Cert.quiescent_ReferenceIdeal := by
  intro m g _
  hlo_run
  · exact fun _ => ⟨trivial, trivial, trivial, trivial, trivial, trivial, trivial, trivial⟩
  · exact sem_eq_zero_of_no_sems (by decide) _

/-- The mask is read as minus infinity and the change of base as the inverse of the logarithm of two. -/
theorem preserves : Cert.preserves_Kernel_KernelIdeal := by
  refine ⟨?_, ?_⟩
  · exact IdealRules.named_const.statement Cert.KernelIdeal.κ "log2e" .f32 0x3FB8AA3B#32 (((Real.log 2)⁻¹ : ℝ) : EReal) rfl
  · exact IdealRules.named_const.statement Cert.KernelIdeal.κ "mask" .f32 0xF149F2CA#32 ⊥ rfl

/-- The precondition's facts, as the program's run takes them. -/
theorem finite_args [Cert.Pre_finite.Facts] {m : (ℓ : Loc Cert.KernelIdeal.nD Cert.KernelIdeal.τ Cert.KernelIdeal.sig) → Buf (Elt Ideal) ℓ}
    (h : Cert.Pre_KernelIdeal_finite m) (c : Dev Cert.KernelIdeal.nD) : Cert.Attn.Fin' m c :=
  have ⟨h0, h1, h2, h3, h4, h5, h6⟩ := Cert.Attn.finite_real _ _ _ _ _ _ _ _ (h c)
  ⟨h0, h1, h2, h3, h4, h5, h6⟩

/-- For finite arguments the program and the reference leave equal arrays. -/
theorem algebraic [Cert.Pre_finite.Facts] : Cert.algebraic_KernelIdeal_ReferenceIdeal_pre_finite := by
  intro m g m' g' hpre hagree
  refine ⟨fun c => Cert.Attn.goal m c, ?_, ?_⟩
  · exact Cert.Attn.kernel_run m g (finite_args hpre)
  · refine θ_run_mono (θ_run_and (Cert.Attn.reference_run m' g') (frame_reference m' g' trivial)) fun r h c => ⟨(h.1 c).trans ?_, h.2.1 c⟩
    obtain ⟨e0, e1, e2, e3, e4, e5, e6, e7⟩ := hagree c
    rw [e0, e1, e2, e3, e4, e5, e6, e7]
    rfl

theorem claim : Cert.Claim :=
  ⟨Cert.Kernel.Gen.facts, Cert.KernelIdeal.Gen.facts, Cert.ReferenceIdeal.Gen.facts,
    Cert.Hidden.Gen.facts, Cert.HiddenIdeal.Gen.facts, Cert.HiddenReferenceIdeal.Gen.facts, Cert.Down.Gen.facts, Cert.DownIdeal.Gen.facts, Cert.DownReferenceIdeal.Gen.facts, Cert.Merge.Gen.facts, Cert.MergeIdeal.Gen.facts, Cert.MergeReferenceIdeal.Gen.facts, Cert.OutProj.Gen.facts, Cert.OutProjIdeal.Gen.facts, Cert.OutProjReferenceIdeal.Gen.facts, Cert.Values.Gen.facts, Cert.ValuesIdeal.Gen.facts, Cert.ValuesReferenceIdeal.Gen.facts, Cert.Queries.Gen.facts, Cert.QueriesIdeal.Gen.facts, Cert.QueriesReferenceIdeal.Gen.facts, Cert.Gmlp.Gen.facts, Cert.GmlpIdeal.Gen.facts, Cert.GmlpReferenceIdeal.Gen.facts, Cert.Attn.pre_facts,
    Cert.Attn.frame_kernel, frame_ideal, fun m g _ => frame_ideal m g trivial, frame_reference, fun m g _ => frame_reference m g trivial,
    Cert.HiddenCall.frame_kernel, Cert.HiddenCall.frame_ideal, Cert.HiddenCall.frame_reference,
    Cert.DownCall.frame_kernel, Cert.DownCall.frame_ideal, Cert.DownCall.frame_reference,
    Cert.MergeCall.frame_kernel, Cert.MergeCall.frame_ideal, Cert.MergeCall.frame_reference,
    Cert.OutProjCall.frame_kernel, Cert.OutProjCall.frame_ideal, Cert.OutProjCall.frame_reference,
    Cert.ValuesCall.frame_kernel, Cert.ValuesCall.frame_ideal, Cert.ValuesCall.frame_reference,
    Cert.QueriesCall.frame_kernel, Cert.QueriesCall.frame_ideal, Cert.QueriesCall.frame_reference,
    Cert.GmlpCall.frame_kernel, Cert.GmlpCall.frame_ideal, Cert.GmlpCall.frame_reference,
    preserves, letI := Cert.Attn.pre_facts; algebraic,
    Cert.HiddenCall.preserves, Cert.HiddenCall.algebraic,
    Cert.DownCall.preserves, Cert.DownCall.algebraic,
    Cert.MergeCall.preserves, Cert.MergeCall.algebraic,
    Cert.OutProjCall.preserves, Cert.OutProjCall.algebraic,
    Cert.ValuesCall.preserves, Cert.ValuesCall.algebraic,
    Cert.QueriesCall.preserves, Cert.QueriesCall.algebraic,
    Cert.GmlpCall.preserves, Cert.GmlpCall.algebraic⟩

end Cert.Proof

end
